-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradXbc (m : (ℓ : Loc Cert.GradXbc.nD Cert.GradXbc.τ Cert.GradXbc.sig) → Buf (Elt Bits) ℓ) : Prop :=
  True

def Pre_GradXbcIdeal (m : (ℓ : Loc Cert.GradXbcIdeal.nD Cert.GradXbcIdeal.τ Cert.GradXbcIdeal.sig) → Buf (Elt Ideal) ℓ) : Prop :=
  True

def Pre_GradXbcRefIdeal (m : (ℓ : Loc Cert.GradXbcRefIdeal.nD Cert.GradXbcRefIdeal.τ Cert.GradXbcRefIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZRefIdeal (m : (ℓ : Loc Cert.InZRefIdeal.nD Cert.InZRefIdeal.τ Cert.InZRefIdeal.sig) → Buf (Elt Ideal) ℓ) : Prop :=
  True

def Pre_InXbc (m : (ℓ : Loc Cert.InXbc.nD Cert.InXbc.τ Cert.InXbc.sig) → Buf (Elt Bits) ℓ) : Prop :=
  True

def Pre_InXbcIdeal (m : (ℓ : Loc Cert.InXbcIdeal.nD Cert.InXbcIdeal.τ Cert.InXbcIdeal.sig) → Buf (Elt Ideal) ℓ) : Prop :=
  True

def Pre_InXbcRefIdeal (m : (ℓ : Loc Cert.InXbcRefIdeal.nD Cert.InXbcRefIdeal.τ Cert.InXbcRefIdeal.sig) → Buf (Elt Ideal) ℓ) : Prop :=
  True

def Pre_InQkv (m : (ℓ : Loc Cert.InQkv.nD Cert.InQkv.τ Cert.InQkv.sig) → Buf (Elt Bits) ℓ) : Prop :=
  True

def Pre_InQkvIdeal (m : (ℓ : Loc Cert.InQkvIdeal.nD Cert.InQkvIdeal.τ Cert.InQkvIdeal.sig) → Buf (Elt Ideal) ℓ) : Prop :=
  True

def Pre_InQkvRefIdeal (m : (ℓ : Loc Cert.InQkvRefIdeal.nD Cert.InQkvRefIdeal.τ Cert.InQkvRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_InDtf (m : (ℓ : Loc Cert.InDtf.nD Cert.InDtf.τ Cert.InDtf.sig) → Buf (Elt Bits) ℓ) : Prop :=
  True

def Pre_InDtfIdeal (m : (ℓ : Loc Cert.InDtfIdeal.nD Cert.InDtfIdeal.τ Cert.InDtfIdeal.sig) → Buf (Elt Ideal) ℓ) : Prop :=
  True

def Pre_InDtfRefIdeal (m : (ℓ : Loc Cert.InDtfRefIdeal.nD Cert.InDtfRefIdeal.τ Cert.InDtfRefIdeal.sig) → Buf (Elt Ideal) ℓ) : Prop :=
  True

def Pre_GradDtf (m : (ℓ : Loc Cert.GradDtf.nD Cert.GradDtf.τ Cert.GradDtf.sig) → Buf (Elt Bits) ℓ) : Prop :=
  True

def Pre_GradDtfIdeal (m : (ℓ : Loc Cert.GradDtfIdeal.nD Cert.GradDtfIdeal.τ Cert.GradDtfIdeal.sig) → Buf (Elt Ideal) ℓ) : Prop :=
  True

def Pre_GradDtfRefIdeal (m : (ℓ : Loc Cert.GradDtfRefIdeal.nD Cert.GradDtfRefIdeal.τ Cert.GradDtfRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_finite_gate [hPre_finite_gate : Cert.Pre_finite_gate.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).1 = (fun _ => 1#1)
    ∧ (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.1 = (fun _ => 1#1)
    ∧ (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.2.1 = (fun _ => 1#1)
    ∧ (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.2.2 = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_finite_gate [hPre_finite_gate : Cert.Pre_finite_gate.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))).1 = (fun _ => 1#1)
    ∧ (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))).2.1 = (fun _ => 1#1)
    ∧ (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))).2.2.1 = (fun _ => 1#1)
    ∧ (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))).2.2.2 = (fun _ => 1#1)

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdIdeal_finite_fwd [hPre_finite_fwd : Cert.Pre_finite_fwd.Facts] (m : (ℓ : Loc Cert.AttFwdIdeal.nD Cert.AttFwdIdeal.τ Cert.AttFwdIdeal.sig) → Buf (Elt Ideal) ℓ) : Prop :=
  ∀ c : Dev Cert.AttFwdIdeal.nD,
    (Cert.Pre_finite_fwd.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2)) (m ((c.tc : Thread Cert.AttFwdIdeal.nD Cert.AttFwdIdeal.τ).loc Cert.AttFwdIdeal.main_arg3))).1 = (fun _ => 1#1)
    ∧ (Cert.Pre_finite_fwd.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2)) (m ((c.tc : Thread Cert.AttFwdIdeal.nD Cert.AttFwdIdeal.τ).loc Cert.AttFwdIdeal.main_arg3))).2.1 = (fun _ => 1#1)
    ∧ (Cert.Pre_finite_fwd.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2)) (m ((c.tc : Thread Cert.AttFwdIdeal.nD Cert.AttFwdIdeal.τ).loc Cert.AttFwdIdeal.main_arg3))).2.2.1 = (fun _ => 1#1)
    ∧ (Cert.Pre_finite_fwd.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2)) (m ((c.tc : Thread Cert.AttFwdIdeal.nD Cert.AttFwdIdeal.τ).loc Cert.AttFwdIdeal.main_arg3))).2.2.2 = (fun _ => 1#1)

def Pre_AttFwdRefIdeal (m : (ℓ : Loc Cert.AttFwdRefIdeal.nD Cert.AttFwdRefIdeal.τ Cert.AttFwdRefIdeal.sig) → Buf (Elt Ideal) ℓ) : Prop :=
  True

def Pre_AttFwdRefIdeal_finite_fwd [hPre_finite_fwd : Cert.Pre_finite_fwd.Facts] (m : (ℓ : Loc Cert.AttFwdRefIdeal.nD Cert.AttFwdRefIdeal.τ Cert.AttFwdRefIdeal.sig) → Buf (Elt Ideal) ℓ) : Prop :=
  ∀ c : Dev Cert.AttFwdRefIdeal.nD,
    (Cert.Pre_finite_fwd.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2)) (m ((c.tc : Thread Cert.AttFwdRefIdeal.nD Cert.AttFwdRefIdeal.τ).loc Cert.AttFwdRefIdeal.main_arg3))).1 = (fun _ => 1#1)
    ∧ (Cert.Pre_finite_fwd.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2)) (m ((c.tc : Thread Cert.AttFwdRefIdeal.nD Cert.AttFwdRefIdeal.τ).loc Cert.AttFwdRefIdeal.main_arg3))).2.1 = (fun _ => 1#1)
    ∧ (Cert.Pre_finite_fwd.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2)) (m ((c.tc : Thread Cert.AttFwdRefIdeal.nD Cert.AttFwdRefIdeal.τ).loc Cert.AttFwdRefIdeal.main_arg3))).2.2.1 = (fun _ => 1#1)
    ∧ (Cert.Pre_finite_fwd.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2)) (m ((c.tc : Thread Cert.AttFwdRefIdeal.nD Cert.AttFwdRefIdeal.τ).loc Cert.AttFwdRefIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradXbc [hGradXbc : Cert.GradXbc.Facts] : Prop :=
  ∀ (m : (ℓ : Loc Cert.GradXbc.nD Cert.GradXbc.τ Cert.GradXbc.sig) → Buf (Elt Bits) ℓ) (g : Dev Cert.GradXbc.nD → PrngReg), Pre_GradXbc m →
    θ_run (Cert.GradXbc.defs (F := Bits)) (onTc (τ := Cert.GradXbc.τ) (Cert.GradXbc.main (F := Bits))) ⟨m, fun _ => 0, g⟩ (fun r => (∀ c : Dev Cert.GradXbc.nD,
      r.2.mem ((c.tc : Thread Cert.GradXbc.nD Cert.GradXbc.τ).loc Cert.GradXbc.main_arg0) = m ((c.tc : Thread Cert.GradXbc.nD Cert.GradXbc.τ).loc Cert.GradXbc.main_arg0)
      ∧ r.2.mem ((c.tc : Thread Cert.GradXbc.nD Cert.GradXbc.τ).loc Cert.GradXbc.main_arg1) = m ((c.tc : Thread Cert.GradXbc.nD Cert.GradXbc.τ).loc Cert.GradXbc.main_arg1))
      ∧ r.2.sem = fun _ => 0)

def quiescent_GradXbcIdeal [hGradXbcIdeal : Cert.GradXbcIdeal.Facts] : Prop :=
  ∀ (m : (ℓ : Loc Cert.GradXbcIdeal.nD Cert.GradXbcIdeal.τ Cert.GradXbcIdeal.sig) → Buf (Elt Ideal) ℓ) (g : Dev Cert.GradXbcIdeal.nD → PrngReg), Pre_GradXbcIdeal m →
    θ_run (Cert.GradXbcIdeal.defs (F := Ideal)) (onTc (τ := Cert.GradXbcIdeal.τ) (Cert.GradXbcIdeal.main (F := Ideal))) ⟨m, fun _ => 0, g⟩ (fun r => (∀ c : Dev Cert.GradXbcIdeal.nD,
      r.2.mem ((c.tc : Thread Cert.GradXbcIdeal.nD Cert.GradXbcIdeal.τ).loc Cert.GradXbcIdeal.main_arg0) = m ((c.tc : Thread Cert.GradXbcIdeal.nD Cert.GradXbcIdeal.τ).loc Cert.GradXbcIdeal.main_arg0)
      ∧ r.2.mem ((c.tc : Thread Cert.GradXbcIdeal.nD Cert.GradXbcIdeal.τ).loc Cert.GradXbcIdeal.main_arg1) = m ((c.tc : Thread Cert.GradXbcIdeal.nD Cert.GradXbcIdeal.τ).loc Cert.GradXbcIdeal.main_arg1))
      ∧ r.2.sem = fun _ => 0)

def quiescent_GradXbcRefIdeal [hGradXbcRefIdeal : Cert.GradXbcRefIdeal.Facts] : Prop :=
  ∀ (m : (ℓ : Loc Cert.GradXbcRefIdeal.nD Cert.GradXbcRefIdeal.τ Cert.GradXbcRefIdeal.sig) → Buf (Elt Ideal) ℓ) (g : Dev Cert.GradXbcRefIdeal.nD → PrngReg), Pre_GradXbcRefIdeal m →
    θ_run (Cert.GradXbcRefIdeal.defs (F := Ideal)) (onTc (τ := Cert.GradXbcRefIdeal.τ) (Cert.GradXbcRefIdeal.main (F := Ideal))) ⟨m, fun _ => 0, g⟩ (fun r => (∀ c : Dev Cert.GradXbcRefIdeal.nD,
      r.2.mem ((c.tc : Thread Cert.GradXbcRefIdeal.nD Cert.GradXbcRefIdeal.τ).loc Cert.GradXbcRefIdeal.main_arg0) = m ((c.tc : Thread Cert.GradXbcRefIdeal.nD Cert.GradXbcRefIdeal.τ).loc Cert.GradXbcRefIdeal.main_arg0)
      ∧ r.2.mem ((c.tc : Thread Cert.GradXbcRefIdeal.nD Cert.GradXbcRefIdeal.τ).loc Cert.GradXbcRefIdeal.main_arg1) = m ((c.tc : Thread Cert.GradXbcRefIdeal.nD Cert.GradXbcRefIdeal.τ).loc Cert.GradXbcRefIdeal.main_arg1))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZRefIdeal [hInZRefIdeal : Cert.InZRefIdeal.Facts] : Prop :=
  ∀ (m : (ℓ : Loc Cert.InZRefIdeal.nD Cert.InZRefIdeal.τ Cert.InZRefIdeal.sig) → Buf (Elt Ideal) ℓ) (g : Dev Cert.InZRefIdeal.nD → PrngReg), Pre_InZRefIdeal m →
    θ_run (Cert.InZRefIdeal.defs (F := Ideal)) (onTc (τ := Cert.InZRefIdeal.τ) (Cert.InZRefIdeal.main (F := Ideal))) ⟨m, fun _ => 0, g⟩ (fun r => (∀ c : Dev Cert.InZRefIdeal.nD,
      r.2.mem ((c.tc : Thread Cert.InZRefIdeal.nD Cert.InZRefIdeal.τ).loc Cert.InZRefIdeal.main_arg0) = m ((c.tc : Thread Cert.InZRefIdeal.nD Cert.InZRefIdeal.τ).loc Cert.InZRefIdeal.main_arg0)
      ∧ r.2.mem ((c.tc : Thread Cert.InZRefIdeal.nD Cert.InZRefIdeal.τ).loc Cert.InZRefIdeal.main_arg1) = m ((c.tc : Thread Cert.InZRefIdeal.nD Cert.InZRefIdeal.τ).loc Cert.InZRefIdeal.main_arg1))
      ∧ r.2.sem = fun _ => 0)

def quiescent_InXbc [hInXbc : Cert.InXbc.Facts] : Prop :=
  ∀ (m : (ℓ : Loc Cert.InXbc.nD Cert.InXbc.τ Cert.InXbc.sig) → Buf (Elt Bits) ℓ) (g : Dev Cert.InXbc.nD → PrngReg), Pre_InXbc m →
    θ_run (Cert.InXbc.defs (F := Bits)) (onTc (τ := Cert.InXbc.τ) (Cert.InXbc.main (F := Bits))) ⟨m, fun _ => 0, g⟩ (fun r => (∀ c : Dev Cert.InXbc.nD,
      r.2.mem ((c.tc : Thread Cert.InXbc.nD Cert.InXbc.τ).loc Cert.InXbc.main_arg0) = m ((c.tc : Thread Cert.InXbc.nD Cert.InXbc.τ).loc Cert.InXbc.main_arg0)
      ∧ r.2.mem ((c.tc : Thread Cert.InXbc.nD Cert.InXbc.τ).loc Cert.InXbc.main_arg1) = m ((c.tc : Thread Cert.InXbc.nD Cert.InXbc.τ).loc Cert.InXbc.main_arg1))
      ∧ r.2.sem = fun _ => 0)

def quiescent_InXbcIdeal [hInXbcIdeal : Cert.InXbcIdeal.Facts] : Prop :=
  ∀ (m : (ℓ : Loc Cert.InXbcIdeal.nD Cert.InXbcIdeal.τ Cert.InXbcIdeal.sig) → Buf (Elt Ideal) ℓ) (g : Dev Cert.InXbcIdeal.nD → PrngReg), Pre_InXbcIdeal m →
    θ_run (Cert.InXbcIdeal.defs (F := Ideal)) (onTc (τ := Cert.InXbcIdeal.τ) (Cert.InXbcIdeal.main (F := Ideal))) ⟨m, fun _ => 0, g⟩ (fun r => (∀ c : Dev Cert.InXbcIdeal.nD,
      r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
      ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ r.2.sem = fun _ => 0)

def quiescent_InXbcRefIdeal [hInXbcRefIdeal : Cert.InXbcRefIdeal.Facts] : Prop :=
  ∀ (m : (ℓ : Loc Cert.InXbcRefIdeal.nD Cert.InXbcRefIdeal.τ Cert.InXbcRefIdeal.sig) → Buf (Elt Ideal) ℓ) (g : Dev Cert.InXbcRefIdeal.nD → PrngReg), Pre_InXbcRefIdeal m →
    θ_run (Cert.InXbcRefIdeal.defs (F := Ideal)) (onTc (τ := Cert.InXbcRefIdeal.τ) (Cert.InXbcRefIdeal.main (F := Ideal))) ⟨m, fun _ => 0, g⟩ (fun r => (∀ c : Dev Cert.InXbcRefIdeal.nD,
      r.2.mem ((c.tc : Thread Cert.InXbcRefIdeal.nD Cert.InXbcRefIdeal.τ).loc Cert.InXbcRefIdeal.main_arg0) = m ((c.tc : Thread Cert.InXbcRefIdeal.nD Cert.InXbcRefIdeal.τ).loc Cert.InXbcRefIdeal.main_arg0)
      ∧ r.2.mem ((c.tc : Thread Cert.InXbcRefIdeal.nD Cert.InXbcRefIdeal.τ).loc Cert.InXbcRefIdeal.main_arg1) = m ((c.tc : Thread Cert.InXbcRefIdeal.nD Cert.InXbcRefIdeal.τ).loc Cert.InXbcRefIdeal.main_arg1))
      ∧ r.2.sem = fun _ => 0)

def quiescent_InQkv [hInQkv : Cert.InQkv.Facts] : Prop :=
  ∀ (m : (ℓ : Loc Cert.InQkv.nD Cert.InQkv.τ Cert.InQkv.sig) → Buf (Elt Bits) ℓ) (g : Dev Cert.InQkv.nD → PrngReg), Pre_InQkv m →
    θ_run (Cert.InQkv.defs (F := Bits)) (onTc (τ := Cert.InQkv.τ) (Cert.InQkv.main (F := Bits))) ⟨m, fun _ => 0, g⟩ (fun r => (∀ c : Dev Cert.InQkv.nD,
      r.2.mem ((c.tc : Thread Cert.InQkv.nD Cert.InQkv.τ).loc Cert.InQkv.main_arg0) = m ((c.tc : Thread Cert.InQkv.nD Cert.InQkv.τ).loc Cert.InQkv.main_arg0)
      ∧ r.2.mem ((c.tc : Thread Cert.InQkv.nD Cert.InQkv.τ).loc Cert.InQkv.main_arg1) = m ((c.tc : Thread Cert.InQkv.nD Cert.InQkv.τ).loc Cert.InQkv.main_arg1))
      ∧ r.2.sem = fun _ => 0)

def quiescent_InQkvIdeal [hInQkvIdeal : Cert.InQkvIdeal.Facts] : Prop :=
  ∀ (m : (ℓ : Loc Cert.InQkvIdeal.nD Cert.InQkvIdeal.τ Cert.InQkvIdeal.sig) → Buf (Elt Ideal) ℓ) (g : Dev Cert.InQkvIdeal.nD → PrngReg), Pre_InQkvIdeal m →
    θ_run (Cert.InQkvIdeal.defs (F := Ideal)) (onTc (τ := Cert.InQkvIdeal.τ) (Cert.InQkvIdeal.main (F := Ideal))) ⟨m, fun _ => 0, g⟩ (fun r => (∀ c : Dev Cert.InQkvIdeal.nD,
      r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
      ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ r.2.sem = fun _ => 0)

def quiescent_InQkvRefIdeal [hInQkvRefIdeal : Cert.InQkvRefIdeal.Facts] : Prop :=
  ∀ (m : (ℓ : Loc Cert.InQkvRefIdeal.nD Cert.InQkvRefIdeal.τ Cert.InQkvRefIdeal.sig) → Buf (Elt Ideal) ℓ) (g : Dev Cert.InQkvRefIdeal.nD → PrngReg), Pre_InQkvRefIdeal m →
    θ_run (Cert.InQkvRefIdeal.defs (F := Ideal)) (onTc (τ := Cert.InQkvRefIdeal.τ) (Cert.InQkvRefIdeal.main (F := Ideal))) ⟨m, fun _ => 0, g⟩ (fun r => (∀ c : Dev Cert.InQkvRefIdeal.nD,
      r.2.mem ((c.tc : Thread Cert.InQkvRefIdeal.nD Cert.InQkvRefIdeal.τ).loc Cert.InQkvRefIdeal.main_arg0) = m ((c.tc : Thread Cert.InQkvRefIdeal.nD Cert.InQkvRefIdeal.τ).loc Cert.InQkvRefIdeal.main_arg0)
      ∧ r.2.mem ((c.tc : Thread Cert.InQkvRefIdeal.nD Cert.InQkvRefIdeal.τ).loc Cert.InQkvRefIdeal.main_arg1) = m ((c.tc : Thread Cert.InQkvRefIdeal.nD Cert.InQkvRefIdeal.τ).loc Cert.InQkvRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_InDtf [hInDtf : Cert.InDtf.Facts] : Prop :=
  ∀ (m : (ℓ : Loc Cert.InDtf.nD Cert.InDtf.τ Cert.InDtf.sig) → Buf (Elt Bits) ℓ) (g : Dev Cert.InDtf.nD → PrngReg), Pre_InDtf m →
    θ_run (Cert.InDtf.defs (F := Bits)) (onTc (τ := Cert.InDtf.τ) (Cert.InDtf.main (F := Bits))) ⟨m, fun _ => 0, g⟩ (fun r => (∀ c : Dev Cert.InDtf.nD,
      r.2.mem ((c.tc : Thread Cert.InDtf.nD Cert.InDtf.τ).loc Cert.InDtf.main_arg0) = m ((c.tc : Thread Cert.InDtf.nD Cert.InDtf.τ).loc Cert.InDtf.main_arg0)
      ∧ r.2.mem ((c.tc : Thread Cert.InDtf.nD Cert.InDtf.τ).loc Cert.InDtf.main_arg1) = m ((c.tc : Thread Cert.InDtf.nD Cert.InDtf.τ).loc Cert.InDtf.main_arg1))
      ∧ r.2.sem = fun _ => 0)

def quiescent_InDtfIdeal [hInDtfIdeal : Cert.InDtfIdeal.Facts] : Prop :=
  ∀ (m : (ℓ : Loc Cert.InDtfIdeal.nD Cert.InDtfIdeal.τ Cert.InDtfIdeal.sig) → Buf (Elt Ideal) ℓ) (g : Dev Cert.InDtfIdeal.nD → PrngReg), Pre_InDtfIdeal m →
    θ_run (Cert.InDtfIdeal.defs (F := Ideal)) (onTc (τ := Cert.InDtfIdeal.τ) (Cert.InDtfIdeal.main (F := Ideal))) ⟨m, fun _ => 0, g⟩ (fun r => (∀ c : Dev Cert.InDtfIdeal.nD,
      r.2.mem ((c.tc : Thread Cert.InDtfIdeal.nD Cert.InDtfIdeal.τ).loc Cert.InDtfIdeal.main_arg0) = m ((c.tc : Thread Cert.InDtfIdeal.nD Cert.InDtfIdeal.τ).loc Cert.InDtfIdeal.main_arg0)
      ∧ r.2.mem ((c.tc : Thread Cert.InDtfIdeal.nD Cert.InDtfIdeal.τ).loc Cert.InDtfIdeal.main_arg1) = m ((c.tc : Thread Cert.InDtfIdeal.nD Cert.InDtfIdeal.τ).loc Cert.InDtfIdeal.main_arg1))
      ∧ r.2.sem = fun _ => 0)

def quiescent_InDtfRefIdeal [hInDtfRefIdeal : Cert.InDtfRefIdeal.Facts] : Prop :=
  ∀ (m : (ℓ : Loc Cert.InDtfRefIdeal.nD Cert.InDtfRefIdeal.τ Cert.InDtfRefIdeal.sig) → Buf (Elt Ideal) ℓ) (g : Dev Cert.InDtfRefIdeal.nD → PrngReg), Pre_InDtfRefIdeal m →
    θ_run (Cert.InDtfRefIdeal.defs (F := Ideal)) (onTc (τ := Cert.InDtfRefIdeal.τ) (Cert.InDtfRefIdeal.main (F := Ideal))) ⟨m, fun _ => 0, g⟩ (fun r => (∀ c : Dev Cert.InDtfRefIdeal.nD,
      r.2.mem ((c.tc : Thread Cert.InDtfRefIdeal.nD Cert.InDtfRefIdeal.τ).loc Cert.InDtfRefIdeal.main_arg0) = m ((c.tc : Thread Cert.InDtfRefIdeal.nD Cert.InDtfRefIdeal.τ).loc Cert.InDtfRefIdeal.main_arg0)
      ∧ r.2.mem ((c.tc : Thread Cert.InDtfRefIdeal.nD Cert.InDtfRefIdeal.τ).loc Cert.InDtfRefIdeal.main_arg1) = m ((c.tc : Thread Cert.InDtfRefIdeal.nD Cert.InDtfRefIdeal.τ).loc Cert.InDtfRefIdeal.main_arg1))
      ∧ r.2.sem = fun _ => 0)

def quiescent_GradDtf [hGradDtf : Cert.GradDtf.Facts] : Prop :=
  ∀ (m : (ℓ : Loc Cert.GradDtf.nD Cert.GradDtf.τ Cert.GradDtf.sig) → Buf (Elt Bits) ℓ) (g : Dev Cert.GradDtf.nD → PrngReg), Pre_GradDtf m →
    θ_run (Cert.GradDtf.defs (F := Bits)) (onTc (τ := Cert.GradDtf.τ) (Cert.GradDtf.main (F := Bits))) ⟨m, fun _ => 0, g⟩ (fun r => (∀ c : Dev Cert.GradDtf.nD,
      r.2.mem ((c.tc : Thread Cert.GradDtf.nD Cert.GradDtf.τ).loc Cert.GradDtf.main_arg0) = m ((c.tc : Thread Cert.GradDtf.nD Cert.GradDtf.τ).loc Cert.GradDtf.main_arg0)
      ∧ r.2.mem ((c.tc : Thread Cert.GradDtf.nD Cert.GradDtf.τ).loc Cert.GradDtf.main_arg1) = m ((c.tc : Thread Cert.GradDtf.nD Cert.GradDtf.τ).loc Cert.GradDtf.main_arg1))
      ∧ r.2.sem = fun _ => 0)

def quiescent_GradDtfIdeal [hGradDtfIdeal : Cert.GradDtfIdeal.Facts] : Prop :=
  ∀ (m : (ℓ : Loc Cert.GradDtfIdeal.nD Cert.GradDtfIdeal.τ Cert.GradDtfIdeal.sig) → Buf (Elt Ideal) ℓ) (g : Dev Cert.GradDtfIdeal.nD → PrngReg), Pre_GradDtfIdeal m →
    θ_run (Cert.GradDtfIdeal.defs (F := Ideal)) (onTc (τ := Cert.GradDtfIdeal.τ) (Cert.GradDtfIdeal.main (F := Ideal))) ⟨m, fun _ => 0, g⟩ (fun r => (∀ c : Dev Cert.GradDtfIdeal.nD,
      r.2.mem ((c.tc : Thread Cert.GradDtfIdeal.nD Cert.GradDtfIdeal.τ).loc Cert.GradDtfIdeal.main_arg0) = m ((c.tc : Thread Cert.GradDtfIdeal.nD Cert.GradDtfIdeal.τ).loc Cert.GradDtfIdeal.main_arg0)
      ∧ r.2.mem ((c.tc : Thread Cert.GradDtfIdeal.nD Cert.GradDtfIdeal.τ).loc Cert.GradDtfIdeal.main_arg1) = m ((c.tc : Thread Cert.GradDtfIdeal.nD Cert.GradDtfIdeal.τ).loc Cert.GradDtfIdeal.main_arg1))
      ∧ r.2.sem = fun _ => 0)

def quiescent_GradDtfRefIdeal [hGradDtfRefIdeal : Cert.GradDtfRefIdeal.Facts] : Prop :=
  ∀ (m : (ℓ : Loc Cert.GradDtfRefIdeal.nD Cert.GradDtfRefIdeal.τ Cert.GradDtfRefIdeal.sig) → Buf (Elt Ideal) ℓ) (g : Dev Cert.GradDtfRefIdeal.nD → PrngReg), Pre_GradDtfRefIdeal m →
    θ_run (Cert.GradDtfRefIdeal.defs (F := Ideal)) (onTc (τ := Cert.GradDtfRefIdeal.τ) (Cert.GradDtfRefIdeal.main (F := Ideal))) ⟨m, fun _ => 0, g⟩ (fun r => (∀ c : Dev Cert.GradDtfRefIdeal.nD,
      r.2.mem ((c.tc : Thread Cert.GradDtfRefIdeal.nD Cert.GradDtfRefIdeal.τ).loc Cert.GradDtfRefIdeal.main_arg0) = m ((c.tc : Thread Cert.GradDtfRefIdeal.nD Cert.GradDtfRefIdeal.τ).loc Cert.GradDtfRefIdeal.main_arg0)
      ∧ r.2.mem ((c.tc : Thread Cert.GradDtfRefIdeal.nD Cert.GradDtfRefIdeal.τ).loc Cert.GradDtfRefIdeal.main_arg1) = m ((c.tc : Thread Cert.GradDtfRefIdeal.nD Cert.GradDtfRefIdeal.τ).loc Cert.GradDtfRefIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdIdeal_pre_finite_gate [hGateBwdIdeal : Cert.GateBwdIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_finite_gate m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_GateBwdRefIdeal_pre_finite_gate [hGateBwdRefIdeal : Cert.GateBwdRefIdeal.Facts] [hPre_finite_gate : Cert.Pre_finite_gate.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_finite_gate m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1)
      ∧ r.2.mem ((c.tc : Thread Cert.AttFwd.nD Cert.AttFwd.τ).loc Cert.AttFwd.main_arg2) = m ((c.tc : Thread Cert.AttFwd.nD Cert.AttFwd.τ).loc Cert.AttFwd.main_arg2)
      ∧ r.2.mem ((c.tc : Thread Cert.AttFwd.nD Cert.AttFwd.τ).loc Cert.AttFwd.main_arg3) = m ((c.tc : Thread Cert.AttFwd.nD Cert.AttFwd.τ).loc Cert.AttFwd.main_arg3))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
      ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3))
      ∧ r.2.sem = fun _ => 0)

def quiescent_AttFwdIdeal_pre_finite_fwd [hAttFwdIdeal : Cert.AttFwdIdeal.Facts] [hPre_finite_fwd : Cert.Pre_finite_fwd.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal_finite_fwd m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
      ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3))
      ∧ r.2.sem = fun _ => 0)

def quiescent_AttFwdRefIdeal [hAttFwdRefIdeal : Cert.AttFwdRefIdeal.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2)
      ∧ r.2.mem ((c.tc : Thread Cert.AttFwdRefIdeal.nD Cert.AttFwdRefIdeal.τ).loc Cert.AttFwdRefIdeal.main_arg3) = m ((c.tc : Thread Cert.AttFwdRefIdeal.nD Cert.AttFwdRefIdeal.τ).loc Cert.AttFwdRefIdeal.main_arg3))
      ∧ r.2.sem = fun _ => 0)

def quiescent_AttFwdRefIdeal_pre_finite_fwd [hAttFwdRefIdeal : Cert.AttFwdRefIdeal.Facts] [hPre_finite_fwd : Cert.Pre_finite_fwd.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal_finite_fwd m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2)
      ∧ r.2.mem ((c.tc : Thread Cert.AttFwdRefIdeal.nD Cert.AttFwdRefIdeal.τ).loc Cert.AttFwdRefIdeal.main_arg3) = m ((c.tc : Thread Cert.AttFwdRefIdeal.nD Cert.AttFwdRefIdeal.τ).loc Cert.AttFwdRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v84_0)) (v1 : (c : Dev Cert.KernelIdeal.nD) → Buf (Elt Ideal) ((c.tc : Thread Cert.KernelIdeal.nD Cert.KernelIdeal.τ).loc Cert.KernelIdeal.main_v84_1)) (v2 : (c : Dev Cert.KernelIdeal.nD) → Buf (Elt Ideal) ((c.tc : Thread Cert.KernelIdeal.nD Cert.KernelIdeal.τ).loc Cert.KernelIdeal.main_v84_2)) (v3 : (c : Dev Cert.KernelIdeal.nD) → Buf (Elt Ideal) ((c.tc : Thread Cert.KernelIdeal.nD Cert.KernelIdeal.τ).loc Cert.KernelIdeal.main_v84_3)) (v4 : (c : Dev Cert.KernelIdeal.nD) → Buf (Elt Ideal) ((c.tc : Thread Cert.KernelIdeal.nD Cert.KernelIdeal.τ).loc Cert.KernelIdeal.main_v84_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84_0) = v0 c
          ∧ r.2.mem ((c.tc : Thread Cert.KernelIdeal.nD Cert.KernelIdeal.τ).loc Cert.KernelIdeal.main_v84_1) = v1 c
          ∧ r.2.mem ((c.tc : Thread Cert.KernelIdeal.nD Cert.KernelIdeal.τ).loc Cert.KernelIdeal.main_v84_2) = v2 c
          ∧ r.2.mem ((c.tc : Thread Cert.KernelIdeal.nD Cert.KernelIdeal.τ).loc Cert.KernelIdeal.main_v84_3) = v3 c
          ∧ r.2.mem ((c.tc : Thread Cert.KernelIdeal.nD Cert.KernelIdeal.τ).loc Cert.KernelIdeal.main_v84_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v96) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v2_0)) (v1 : (c : Dev Cert.MlpDownIdeal.nD) → Buf (Elt Ideal) ((c.tc : Thread Cert.MlpDownIdeal.nD Cert.MlpDownIdeal.τ).loc Cert.MlpDownIdeal.main_v2_1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v2_0) = v0 c
          ∧ r.2.mem ((c.tc : Thread Cert.MlpDownIdeal.nD Cert.MlpDownIdeal.τ).loc Cert.MlpDownIdeal.main_v2_1) = v1 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v12) = v0 c
          ∧ r.2.mem ((c.tc : Thread Cert.MlpDownRefIdeal.nD Cert.MlpDownRefIdeal.τ).loc Cert.MlpDownRefIdeal.main_v15) = v1 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v1)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v1) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v4) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v2)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v2) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v5) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v1)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v1) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v2) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v1)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v1) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v4) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)) →
    ∃ (v0 : (c : Dev Cert.UpBwdIdeal.nD) → Buf (Elt Ideal) ((c.tc : Thread Cert.UpBwdIdeal.nD Cert.UpBwdIdeal.τ).loc Cert.UpBwdIdeal.main_v3_0)) (v1 : (c : Dev Cert.UpBwdIdeal.nD) → Buf (Elt Ideal) ((c.tc : Thread Cert.UpBwdIdeal.nD Cert.UpBwdIdeal.τ).loc Cert.UpBwdIdeal.main_v3_1)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v3_0) = v0 c
          ∧ r.2.mem ((c.tc : Thread Cert.UpBwdIdeal.nD Cert.UpBwdIdeal.τ).loc Cert.UpBwdIdeal.main_v3_1) = v1 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v39) = v0 c
          ∧ r.2.mem ((c.tc : Thread Cert.UpBwdRefIdeal.nD Cert.UpBwdRefIdeal.τ).loc Cert.UpBwdRefIdeal.main_v40) = v1 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)
      ∧ m' ((c.tc : Thread Cert.InBwdRefIdeal.nD Cert.InBwdRefIdeal.τ).loc Cert.InBwdRefIdeal.main_arg9) = m ((c.tc : Thread Cert.InBwdIdeal.nD Cert.InBwdIdeal.τ).loc Cert.InBwdIdeal.main_arg9)) →
    ∃ (v0 : (c : Dev Cert.InBwdIdeal.nD) → Buf (Elt Ideal) ((c.tc : Thread Cert.InBwdIdeal.nD Cert.InBwdIdeal.τ).loc Cert.InBwdIdeal.main_v18_0)) (v1 : (c : Dev Cert.InBwdIdeal.nD) → Buf (Elt Ideal) ((c.tc : Thread Cert.InBwdIdeal.nD Cert.InBwdIdeal.τ).loc Cert.InBwdIdeal.main_v18_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v18_0) = v0 c
          ∧ r.2.mem ((c.tc : Thread Cert.InBwdIdeal.nD Cert.InBwdIdeal.τ).loc Cert.InBwdIdeal.main_v18_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v42) = v0 c
          ∧ r.2.mem ((c.tc : Thread Cert.InBwdRefIdeal.nD Cert.InBwdRefIdeal.τ).loc Cert.InBwdRefIdeal.main_v43) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8)
          ∧ r.2.mem ((c.tc : Thread Cert.InBwdRefIdeal.nD Cert.InBwdRefIdeal.τ).loc Cert.InBwdRefIdeal.main_arg9) = m' ((c.tc : Thread Cert.InBwdRefIdeal.nD Cert.InBwdRefIdeal.τ).loc Cert.InBwdRefIdeal.main_arg9))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v2)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v2) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v5) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradXbc_GradXbcIdeal : Prop :=
  True

def algebraic_GradXbcIdeal_GradXbcRefIdeal [hGradXbcIdeal : Cert.GradXbcIdeal.Facts] [hGradXbcRefIdeal : Cert.GradXbcRefIdeal.Facts] : Prop :=
  ∀ (m : (ℓ : Loc Cert.GradXbcIdeal.nD Cert.GradXbcIdeal.τ Cert.GradXbcIdeal.sig) → Buf (Elt Ideal) ℓ) (g : Dev Cert.GradXbcIdeal.nD → PrngReg)
    (m' : (ℓ : Loc Cert.GradXbcRefIdeal.nD Cert.GradXbcRefIdeal.τ Cert.GradXbcRefIdeal.sig) → Buf (Elt Ideal) ℓ) (g' : Dev Cert.GradXbcRefIdeal.nD → PrngReg), Pre_GradXbcIdeal m →
    (∀ c : Dev Cert.GradXbcIdeal.nD,
      m' ((c.tc : Thread Cert.GradXbcRefIdeal.nD Cert.GradXbcRefIdeal.τ).loc Cert.GradXbcRefIdeal.main_arg0) = m ((c.tc : Thread Cert.GradXbcIdeal.nD Cert.GradXbcIdeal.τ).loc Cert.GradXbcIdeal.main_arg0)
      ∧ m' ((c.tc : Thread Cert.GradXbcRefIdeal.nD Cert.GradXbcRefIdeal.τ).loc Cert.GradXbcRefIdeal.main_arg1) = m ((c.tc : Thread Cert.GradXbcIdeal.nD Cert.GradXbcIdeal.τ).loc Cert.GradXbcIdeal.main_arg1)) →
    ∃ (v0 : (c : Dev Cert.GradXbcIdeal.nD) → Buf (Elt Ideal) ((c.tc : Thread Cert.GradXbcIdeal.nD Cert.GradXbcIdeal.τ).loc Cert.GradXbcIdeal.main_v2)),
      θ_run (Cert.GradXbcIdeal.defs (F := Ideal)) (onTc (τ := Cert.GradXbcIdeal.τ) (Cert.GradXbcIdeal.main (F := Ideal))) ⟨m, fun _ => 0, g⟩ (fun r => ∀ c : Dev Cert.GradXbcIdeal.nD,
          r.2.mem ((c.tc : Thread Cert.GradXbcIdeal.nD Cert.GradXbcIdeal.τ).loc Cert.GradXbcIdeal.main_v2) = v0 c
          ∧ r.2.mem ((c.tc : Thread Cert.GradXbcIdeal.nD Cert.GradXbcIdeal.τ).loc Cert.GradXbcIdeal.main_arg0) = m ((c.tc : Thread Cert.GradXbcIdeal.nD Cert.GradXbcIdeal.τ).loc Cert.GradXbcIdeal.main_arg0)
          ∧ r.2.mem ((c.tc : Thread Cert.GradXbcIdeal.nD Cert.GradXbcIdeal.τ).loc Cert.GradXbcIdeal.main_arg1) = m ((c.tc : Thread Cert.GradXbcIdeal.nD Cert.GradXbcIdeal.τ).loc Cert.GradXbcIdeal.main_arg1))
      ∧ θ_run (Cert.GradXbcRefIdeal.defs (F := Ideal)) (onTc (τ := Cert.GradXbcRefIdeal.τ) (Cert.GradXbcRefIdeal.main (F := Ideal))) ⟨m', fun _ => 0, g'⟩ (fun r => ∀ c : Dev Cert.GradXbcRefIdeal.nD,
          r.2.mem ((c.tc : Thread Cert.GradXbcRefIdeal.nD Cert.GradXbcRefIdeal.τ).loc Cert.GradXbcRefIdeal.main_v5) = v0 c
          ∧ r.2.mem ((c.tc : Thread Cert.GradXbcRefIdeal.nD Cert.GradXbcRefIdeal.τ).loc Cert.GradXbcRefIdeal.main_arg0) = m' ((c.tc : Thread Cert.GradXbcRefIdeal.nD Cert.GradXbcRefIdeal.τ).loc Cert.GradXbcRefIdeal.main_arg0)
          ∧ r.2.mem ((c.tc : Thread Cert.GradXbcRefIdeal.nD Cert.GradXbcRefIdeal.τ).loc Cert.GradXbcRefIdeal.main_arg1) = m' ((c.tc : Thread Cert.GradXbcRefIdeal.nD Cert.GradXbcRefIdeal.τ).loc Cert.GradXbcRefIdeal.main_arg1))

def preserves_InZ_InZIdeal : Prop :=
  True

def algebraic_InZIdeal_InZRefIdeal [hInZIdeal : Cert.InZIdeal.Facts] [hInZRefIdeal : Cert.InZRefIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZRefIdeal.nD Cert.InZRefIdeal.τ Cert.InZRefIdeal.sig) → Buf (Elt Ideal) ℓ) (g' : Dev Cert.InZRefIdeal.nD → PrngReg), Pre_InZIdeal m →
    (∀ c : Dev Cert.InZIdeal.nD,
      m' ((c.tc : Thread Cert.InZRefIdeal.nD Cert.InZRefIdeal.τ).loc Cert.InZRefIdeal.main_arg0) = m ((c.tc : Thread Cert.InZIdeal.nD Cert.InZIdeal.τ).loc Cert.InZIdeal.main_arg0)
      ∧ m' ((c.tc : Thread Cert.InZRefIdeal.nD Cert.InZRefIdeal.τ).loc Cert.InZRefIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v3)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v3) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZRefIdeal.defs (F := Ideal)) (onTc (τ := Cert.InZRefIdeal.τ) (Cert.InZRefIdeal.main (F := Ideal))) ⟨m', fun _ => 0, g'⟩ (fun r => ∀ c : Dev Cert.InZRefIdeal.nD,
          r.2.mem ((c.tc : Thread Cert.InZRefIdeal.nD Cert.InZRefIdeal.τ).loc Cert.InZRefIdeal.main_v0) = v0 c
          ∧ r.2.mem ((c.tc : Thread Cert.InZRefIdeal.nD Cert.InZRefIdeal.τ).loc Cert.InZRefIdeal.main_arg0) = m' ((c.tc : Thread Cert.InZRefIdeal.nD Cert.InZRefIdeal.τ).loc Cert.InZRefIdeal.main_arg0)
          ∧ r.2.mem ((c.tc : Thread Cert.InZRefIdeal.nD Cert.InZRefIdeal.τ).loc Cert.InZRefIdeal.main_arg1) = m' ((c.tc : Thread Cert.InZRefIdeal.nD Cert.InZRefIdeal.τ).loc Cert.InZRefIdeal.main_arg1))

def preserves_InXbc_InXbcIdeal : Prop :=
  True

def algebraic_InXbcIdeal_InXbcRefIdeal [hInXbcIdeal : Cert.InXbcIdeal.Facts] [hInXbcRefIdeal : Cert.InXbcRefIdeal.Facts] : Prop :=
  ∀ (m : (ℓ : Loc Cert.InXbcIdeal.nD Cert.InXbcIdeal.τ Cert.InXbcIdeal.sig) → Buf (Elt Ideal) ℓ) (g : Dev Cert.InXbcIdeal.nD → PrngReg)
    (m' : (ℓ : Loc Cert.InXbcRefIdeal.nD Cert.InXbcRefIdeal.τ Cert.InXbcRefIdeal.sig) → Buf (Elt Ideal) ℓ) (g' : Dev Cert.InXbcRefIdeal.nD → PrngReg), Pre_InXbcIdeal m →
    (∀ c : Dev Cert.InXbcIdeal.nD,
      m' ((c.tc : Thread Cert.InXbcRefIdeal.nD Cert.InXbcRefIdeal.τ).loc Cert.InXbcRefIdeal.main_arg0) = m ((c.tc : Thread Cert.InXbcIdeal.nD Cert.InXbcIdeal.τ).loc Cert.InXbcIdeal.main_arg0)
      ∧ m' ((c.tc : Thread Cert.InXbcRefIdeal.nD Cert.InXbcRefIdeal.τ).loc Cert.InXbcRefIdeal.main_arg1) = m ((c.tc : Thread Cert.InXbcIdeal.nD Cert.InXbcIdeal.τ).loc Cert.InXbcIdeal.main_arg1)) →
    ∃ (v0 : (c : Dev Cert.InXbcIdeal.nD) → Buf (Elt Ideal) ((c.tc : Thread Cert.InXbcIdeal.nD Cert.InXbcIdeal.τ).loc Cert.InXbcIdeal.main_v3)),
      θ_run (Cert.InXbcIdeal.defs (F := Ideal)) (onTc (τ := Cert.InXbcIdeal.τ) (Cert.InXbcIdeal.main (F := Ideal))) ⟨m, fun _ => 0, g⟩ (fun r => ∀ c : Dev Cert.InXbcIdeal.nD,
          r.2.mem ((c.tc : Thread Cert.InXbcIdeal.nD Cert.InXbcIdeal.τ).loc Cert.InXbcIdeal.main_v3) = v0 c
          ∧ r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
          ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ θ_run (Cert.InXbcRefIdeal.defs (F := Ideal)) (onTc (τ := Cert.InXbcRefIdeal.τ) (Cert.InXbcRefIdeal.main (F := Ideal))) ⟨m', fun _ => 0, g'⟩ (fun r => ∀ c : Dev Cert.InXbcRefIdeal.nD,
          r.2.mem ((c.tc : Thread Cert.InXbcRefIdeal.nD Cert.InXbcRefIdeal.τ).loc Cert.InXbcRefIdeal.main_v0) = v0 c
          ∧ r.2.mem ((c.tc : Thread Cert.InXbcRefIdeal.nD Cert.InXbcRefIdeal.τ).loc Cert.InXbcRefIdeal.main_arg0) = m' ((c.tc : Thread Cert.InXbcRefIdeal.nD Cert.InXbcRefIdeal.τ).loc Cert.InXbcRefIdeal.main_arg0)
          ∧ r.2.mem ((c.tc : Thread Cert.InXbcRefIdeal.nD Cert.InXbcRefIdeal.τ).loc Cert.InXbcRefIdeal.main_arg1) = m' ((c.tc : Thread Cert.InXbcRefIdeal.nD Cert.InXbcRefIdeal.τ).loc Cert.InXbcRefIdeal.main_arg1))

def preserves_InQkv_InQkvIdeal : Prop :=
  True

def algebraic_InQkvIdeal_InQkvRefIdeal [hInQkvIdeal : Cert.InQkvIdeal.Facts] [hInQkvRefIdeal : Cert.InQkvRefIdeal.Facts] : Prop :=
  ∀ (m : (ℓ : Loc Cert.InQkvIdeal.nD Cert.InQkvIdeal.τ Cert.InQkvIdeal.sig) → Buf (Elt Ideal) ℓ) (g : Dev Cert.InQkvIdeal.nD → PrngReg)
    (m' : (ℓ : Loc Cert.InQkvRefIdeal.nD Cert.InQkvRefIdeal.τ Cert.InQkvRefIdeal.sig) → Buf (Elt Ideal) ℓ) (g' : Dev Cert.InQkvRefIdeal.nD → PrngReg), Pre_InQkvIdeal m →
    (∀ c : Dev Cert.InQkvIdeal.nD,
      m' ((c.tc : Thread Cert.InQkvRefIdeal.nD Cert.InQkvRefIdeal.τ).loc Cert.InQkvRefIdeal.main_arg0) = m ((c.tc : Thread Cert.InQkvIdeal.nD Cert.InQkvIdeal.τ).loc Cert.InQkvIdeal.main_arg0)
      ∧ m' ((c.tc : Thread Cert.InQkvRefIdeal.nD Cert.InQkvRefIdeal.τ).loc Cert.InQkvRefIdeal.main_arg1) = m ((c.tc : Thread Cert.InQkvIdeal.nD Cert.InQkvIdeal.τ).loc Cert.InQkvIdeal.main_arg1)) →
    ∃ (v0 : (c : Dev Cert.InQkvIdeal.nD) → Buf (Elt Ideal) ((c.tc : Thread Cert.InQkvIdeal.nD Cert.InQkvIdeal.τ).loc Cert.InQkvIdeal.main_v3)),
      θ_run (Cert.InQkvIdeal.defs (F := Ideal)) (onTc (τ := Cert.InQkvIdeal.τ) (Cert.InQkvIdeal.main (F := Ideal))) ⟨m, fun _ => 0, g⟩ (fun r => ∀ c : Dev Cert.InQkvIdeal.nD,
          r.2.mem ((c.tc : Thread Cert.InQkvIdeal.nD Cert.InQkvIdeal.τ).loc Cert.InQkvIdeal.main_v3) = v0 c
          ∧ r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
          ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ θ_run (Cert.InQkvRefIdeal.defs (F := Ideal)) (onTc (τ := Cert.InQkvRefIdeal.τ) (Cert.InQkvRefIdeal.main (F := Ideal))) ⟨m', fun _ => 0, g'⟩ (fun r => ∀ c : Dev Cert.InQkvRefIdeal.nD,
          r.2.mem ((c.tc : Thread Cert.InQkvRefIdeal.nD Cert.InQkvRefIdeal.τ).loc Cert.InQkvRefIdeal.main_v1) = v0 c
          ∧ r.2.mem ((c.tc : Thread Cert.InQkvRefIdeal.nD Cert.InQkvRefIdeal.τ).loc Cert.InQkvRefIdeal.main_arg0) = m' ((c.tc : Thread Cert.InQkvRefIdeal.nD Cert.InQkvRefIdeal.τ).loc Cert.InQkvRefIdeal.main_arg0)
          ∧ r.2.mem ((c.tc : Thread Cert.InQkvRefIdeal.nD Cert.InQkvRefIdeal.τ).loc Cert.InQkvRefIdeal.main_arg1) = m' ((c.tc : Thread Cert.InQkvRefIdeal.nD Cert.InQkvRefIdeal.τ).loc Cert.InQkvRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v3)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v3) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v1) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v2_0)) (v1 : (c : Dev Cert.OutFwdIdeal.nD) → Buf (Elt Ideal) ((c.tc : Thread Cert.OutFwdIdeal.nD Cert.OutFwdIdeal.τ).loc Cert.OutFwdIdeal.main_v2_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2_0) = v0 c
          ∧ r.2.mem ((c.tc : Thread Cert.OutFwdIdeal.nD Cert.OutFwdIdeal.τ).loc Cert.OutFwdIdeal.main_v2_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v1) = v0 c
          ∧ r.2.mem ((c.tc : Thread Cert.OutFwdRefIdeal.nD Cert.OutFwdRefIdeal.τ).loc Cert.OutFwdRefIdeal.main_v16) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v2_0)) (v1 : (c : Dev Cert.DownLossIdeal.nD) → Buf (Elt Ideal) ((c.tc : Thread Cert.DownLossIdeal.nD Cert.DownLossIdeal.τ).loc Cert.DownLossIdeal.main_v2_1)) (v2 : (c : Dev Cert.DownLossIdeal.nD) → Buf (Elt Ideal) ((c.tc : Thread Cert.DownLossIdeal.nD Cert.DownLossIdeal.τ).loc Cert.DownLossIdeal.main_v2_2)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v2_0) = v0 c
          ∧ r.2.mem ((c.tc : Thread Cert.DownLossIdeal.nD Cert.DownLossIdeal.τ).loc Cert.DownLossIdeal.main_v2_1) = v1 c
          ∧ r.2.mem ((c.tc : Thread Cert.DownLossIdeal.nD Cert.DownLossIdeal.τ).loc Cert.DownLossIdeal.main_v2_2) = v2 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v55) = v0 c
          ∧ r.2.mem ((c.tc : Thread Cert.DownLossRefIdeal.nD Cert.DownLossRefIdeal.τ).loc Cert.DownLossRefIdeal.main_v57) = v1 c
          ∧ r.2.mem ((c.tc : Thread Cert.DownLossRefIdeal.nD Cert.DownLossRefIdeal.τ).loc Cert.DownLossRefIdeal.main_v56) = v2 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_InDtf_InDtfIdeal : Prop :=
  True

def algebraic_InDtfIdeal_InDtfRefIdeal [hInDtfIdeal : Cert.InDtfIdeal.Facts] [hInDtfRefIdeal : Cert.InDtfRefIdeal.Facts] : Prop :=
  ∀ (m : (ℓ : Loc Cert.InDtfIdeal.nD Cert.InDtfIdeal.τ Cert.InDtfIdeal.sig) → Buf (Elt Ideal) ℓ) (g : Dev Cert.InDtfIdeal.nD → PrngReg)
    (m' : (ℓ : Loc Cert.InDtfRefIdeal.nD Cert.InDtfRefIdeal.τ Cert.InDtfRefIdeal.sig) → Buf (Elt Ideal) ℓ) (g' : Dev Cert.InDtfRefIdeal.nD → PrngReg), Pre_InDtfIdeal m →
    (∀ c : Dev Cert.InDtfIdeal.nD,
      m' ((c.tc : Thread Cert.InDtfRefIdeal.nD Cert.InDtfRefIdeal.τ).loc Cert.InDtfRefIdeal.main_arg0) = m ((c.tc : Thread Cert.InDtfIdeal.nD Cert.InDtfIdeal.τ).loc Cert.InDtfIdeal.main_arg0)
      ∧ m' ((c.tc : Thread Cert.InDtfRefIdeal.nD Cert.InDtfRefIdeal.τ).loc Cert.InDtfRefIdeal.main_arg1) = m ((c.tc : Thread Cert.InDtfIdeal.nD Cert.InDtfIdeal.τ).loc Cert.InDtfIdeal.main_arg1)) →
    ∃ (v0 : (c : Dev Cert.InDtfIdeal.nD) → Buf (Elt Ideal) ((c.tc : Thread Cert.InDtfIdeal.nD Cert.InDtfIdeal.τ).loc Cert.InDtfIdeal.main_v3)),
      θ_run (Cert.InDtfIdeal.defs (F := Ideal)) (onTc (τ := Cert.InDtfIdeal.τ) (Cert.InDtfIdeal.main (F := Ideal))) ⟨m, fun _ => 0, g⟩ (fun r => ∀ c : Dev Cert.InDtfIdeal.nD,
          r.2.mem ((c.tc : Thread Cert.InDtfIdeal.nD Cert.InDtfIdeal.τ).loc Cert.InDtfIdeal.main_v3) = v0 c
          ∧ r.2.mem ((c.tc : Thread Cert.InDtfIdeal.nD Cert.InDtfIdeal.τ).loc Cert.InDtfIdeal.main_arg0) = m ((c.tc : Thread Cert.InDtfIdeal.nD Cert.InDtfIdeal.τ).loc Cert.InDtfIdeal.main_arg0)
          ∧ r.2.mem ((c.tc : Thread Cert.InDtfIdeal.nD Cert.InDtfIdeal.τ).loc Cert.InDtfIdeal.main_arg1) = m ((c.tc : Thread Cert.InDtfIdeal.nD Cert.InDtfIdeal.τ).loc Cert.InDtfIdeal.main_arg1))
      ∧ θ_run (Cert.InDtfRefIdeal.defs (F := Ideal)) (onTc (τ := Cert.InDtfRefIdeal.τ) (Cert.InDtfRefIdeal.main (F := Ideal))) ⟨m', fun _ => 0, g'⟩ (fun r => ∀ c : Dev Cert.InDtfRefIdeal.nD,
          r.2.mem ((c.tc : Thread Cert.InDtfRefIdeal.nD Cert.InDtfRefIdeal.τ).loc Cert.InDtfRefIdeal.main_v0) = v0 c
          ∧ r.2.mem ((c.tc : Thread Cert.InDtfRefIdeal.nD Cert.InDtfRefIdeal.τ).loc Cert.InDtfRefIdeal.main_arg0) = m' ((c.tc : Thread Cert.InDtfRefIdeal.nD Cert.InDtfRefIdeal.τ).loc Cert.InDtfRefIdeal.main_arg0)
          ∧ r.2.mem ((c.tc : Thread Cert.InDtfRefIdeal.nD Cert.InDtfRefIdeal.τ).loc Cert.InDtfRefIdeal.main_arg1) = m' ((c.tc : Thread Cert.InDtfRefIdeal.nD Cert.InDtfRefIdeal.τ).loc Cert.InDtfRefIdeal.main_arg1))

def preserves_GradDtf_GradDtfIdeal : Prop :=
  True

def algebraic_GradDtfIdeal_GradDtfRefIdeal [hGradDtfIdeal : Cert.GradDtfIdeal.Facts] [hGradDtfRefIdeal : Cert.GradDtfRefIdeal.Facts] : Prop :=
  ∀ (m : (ℓ : Loc Cert.GradDtfIdeal.nD Cert.GradDtfIdeal.τ Cert.GradDtfIdeal.sig) → Buf (Elt Ideal) ℓ) (g : Dev Cert.GradDtfIdeal.nD → PrngReg)
    (m' : (ℓ : Loc Cert.GradDtfRefIdeal.nD Cert.GradDtfRefIdeal.τ Cert.GradDtfRefIdeal.sig) → Buf (Elt Ideal) ℓ) (g' : Dev Cert.GradDtfRefIdeal.nD → PrngReg), Pre_GradDtfIdeal m →
    (∀ c : Dev Cert.GradDtfIdeal.nD,
      m' ((c.tc : Thread Cert.GradDtfRefIdeal.nD Cert.GradDtfRefIdeal.τ).loc Cert.GradDtfRefIdeal.main_arg0) = m ((c.tc : Thread Cert.GradDtfIdeal.nD Cert.GradDtfIdeal.τ).loc Cert.GradDtfIdeal.main_arg0)
      ∧ m' ((c.tc : Thread Cert.GradDtfRefIdeal.nD Cert.GradDtfRefIdeal.τ).loc Cert.GradDtfRefIdeal.main_arg1) = m ((c.tc : Thread Cert.GradDtfIdeal.nD Cert.GradDtfIdeal.τ).loc Cert.GradDtfIdeal.main_arg1)) →
    ∃ (v0 : (c : Dev Cert.GradDtfIdeal.nD) → Buf (Elt Ideal) ((c.tc : Thread Cert.GradDtfIdeal.nD Cert.GradDtfIdeal.τ).loc Cert.GradDtfIdeal.main_v2)),
      θ_run (Cert.GradDtfIdeal.defs (F := Ideal)) (onTc (τ := Cert.GradDtfIdeal.τ) (Cert.GradDtfIdeal.main (F := Ideal))) ⟨m, fun _ => 0, g⟩ (fun r => ∀ c : Dev Cert.GradDtfIdeal.nD,
          r.2.mem ((c.tc : Thread Cert.GradDtfIdeal.nD Cert.GradDtfIdeal.τ).loc Cert.GradDtfIdeal.main_v2) = v0 c
          ∧ r.2.mem ((c.tc : Thread Cert.GradDtfIdeal.nD Cert.GradDtfIdeal.τ).loc Cert.GradDtfIdeal.main_arg0) = m ((c.tc : Thread Cert.GradDtfIdeal.nD Cert.GradDtfIdeal.τ).loc Cert.GradDtfIdeal.main_arg0)
          ∧ r.2.mem ((c.tc : Thread Cert.GradDtfIdeal.nD Cert.GradDtfIdeal.τ).loc Cert.GradDtfIdeal.main_arg1) = m ((c.tc : Thread Cert.GradDtfIdeal.nD Cert.GradDtfIdeal.τ).loc Cert.GradDtfIdeal.main_arg1))
      ∧ θ_run (Cert.GradDtfRefIdeal.defs (F := Ideal)) (onTc (τ := Cert.GradDtfRefIdeal.τ) (Cert.GradDtfRefIdeal.main (F := Ideal))) ⟨m', fun _ => 0, g'⟩ (fun r => ∀ c : Dev Cert.GradDtfRefIdeal.nD,
          r.2.mem ((c.tc : Thread Cert.GradDtfRefIdeal.nD Cert.GradDtfRefIdeal.τ).loc Cert.GradDtfRefIdeal.main_v5) = v0 c
          ∧ r.2.mem ((c.tc : Thread Cert.GradDtfRefIdeal.nD Cert.GradDtfRefIdeal.τ).loc Cert.GradDtfRefIdeal.main_arg0) = m' ((c.tc : Thread Cert.GradDtfRefIdeal.nD Cert.GradDtfRefIdeal.τ).loc Cert.GradDtfRefIdeal.main_arg0)
          ∧ r.2.mem ((c.tc : Thread Cert.GradDtfRefIdeal.nD Cert.GradDtfRefIdeal.τ).loc Cert.GradDtfRefIdeal.main_arg1) = m' ((c.tc : Thread Cert.GradDtfRefIdeal.nD Cert.GradDtfRefIdeal.τ).loc Cert.GradDtfRefIdeal.main_arg1))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v14) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v19) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v33) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_GateBwd_GateBwdIdeal : Prop :=
  True

def algebraic_GateBwdIdeal_GateBwdRefIdeal_pre_finite_gate [hGateBwdIdeal : Cert.GateBwdIdeal.Facts] [hGateBwdRefIdeal : Cert.GateBwdRefIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_finite_gate m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v46) = v0 c
          ∧ r.2.mem ((c.tc : Thread Cert.GateBwdRefIdeal.nD Cert.GateBwdRefIdeal.τ).loc Cert.GateBwdRefIdeal.main_v48) = v1 c
          ∧ r.2.mem ((c.tc : Thread Cert.GateBwdRefIdeal.nD Cert.GateBwdRefIdeal.τ).loc Cert.GateBwdRefIdeal.main_v28) = v2 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3))

def preserves_AttFwd_AttFwdIdeal : Prop :=
  IdealRules.named_const.Statement Cert.AttFwdIdeal.κ "mask" .f32 0xF149F2CA#32 ⊥

def algebraic_AttFwdIdeal_AttFwdRefIdeal_pre_finite_fwd [hAttFwdIdeal : Cert.AttFwdIdeal.Facts] [hAttFwdRefIdeal : Cert.AttFwdRefIdeal.Facts] [hPre_finite_fwd : Cert.Pre_finite_fwd.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttFwdRefIdeal.nD Cert.AttFwdRefIdeal.τ Cert.AttFwdRefIdeal.sig) → Buf (Elt Ideal) ℓ) (g' : Dev Cert.AttFwdRefIdeal.nD → PrngReg), Pre_AttFwdIdeal_finite_fwd m →
    (∀ c : Dev Cert.AttFwdIdeal.nD,
      m' ((c.tc : Thread Cert.AttFwdRefIdeal.nD Cert.AttFwdRefIdeal.τ).loc Cert.AttFwdRefIdeal.main_arg0) = m ((c.tc : Thread Cert.AttFwdIdeal.nD Cert.AttFwdIdeal.τ).loc Cert.AttFwdIdeal.main_arg0)
      ∧ m' ((c.tc : Thread Cert.AttFwdRefIdeal.nD Cert.AttFwdRefIdeal.τ).loc Cert.AttFwdRefIdeal.main_arg1) = m ((c.tc : Thread Cert.AttFwdIdeal.nD Cert.AttFwdIdeal.τ).loc Cert.AttFwdIdeal.main_arg1)
      ∧ m' ((c.tc : Thread Cert.AttFwdRefIdeal.nD Cert.AttFwdRefIdeal.τ).loc Cert.AttFwdRefIdeal.main_arg2) = m ((c.tc : Thread Cert.AttFwdIdeal.nD Cert.AttFwdIdeal.τ).loc Cert.AttFwdIdeal.main_arg2)
      ∧ m' ((c.tc : Thread Cert.AttFwdRefIdeal.nD Cert.AttFwdRefIdeal.τ).loc Cert.AttFwdRefIdeal.main_arg3) = m ((c.tc : Thread Cert.AttFwdIdeal.nD Cert.AttFwdIdeal.τ).loc Cert.AttFwdIdeal.main_arg3)) →
    ∃ (v0 : (c : Dev Cert.AttFwdIdeal.nD) → Buf (Elt Ideal) ((c.tc : Thread Cert.AttFwdIdeal.nD Cert.AttFwdIdeal.τ).loc Cert.AttFwdIdeal.main_v36_0)) (v1 : (c : Dev Cert.AttFwdIdeal.nD) → Buf (Elt Ideal) ((c.tc : Thread Cert.AttFwdIdeal.nD Cert.AttFwdIdeal.τ).loc Cert.AttFwdIdeal.main_v36_1)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v36_0) = v0 c
          ∧ r.2.mem ((c.tc : Thread Cert.AttFwdIdeal.nD Cert.AttFwdIdeal.τ).loc Cert.AttFwdIdeal.main_v36_1) = v1 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
          ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
          ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3))
      ∧ θ_run (Cert.AttFwdRefIdeal.defs (F := Ideal)) (onTc (τ := Cert.AttFwdRefIdeal.τ) (Cert.AttFwdRefIdeal.main (F := Ideal))) ⟨m', fun _ => 0, g'⟩ (fun r => ∀ c : Dev Cert.AttFwdRefIdeal.nD,
          r.2.mem ((c.tc : Thread Cert.AttFwdRefIdeal.nD Cert.AttFwdRefIdeal.τ).loc Cert.AttFwdRefIdeal.main_v45) = v0 c
          ∧ r.2.mem ((c.tc : Thread Cert.AttFwdRefIdeal.nD Cert.AttFwdRefIdeal.τ).loc Cert.AttFwdRefIdeal.main_v47) = v1 c
          ∧ r.2.mem ((c.tc : Thread Cert.AttFwdRefIdeal.nD Cert.AttFwdRefIdeal.τ).loc Cert.AttFwdRefIdeal.main_arg0) = m' ((c.tc : Thread Cert.AttFwdRefIdeal.nD Cert.AttFwdRefIdeal.τ).loc Cert.AttFwdRefIdeal.main_arg0)
          ∧ r.2.mem ((c.tc : Thread Cert.AttFwdRefIdeal.nD Cert.AttFwdRefIdeal.τ).loc Cert.AttFwdRefIdeal.main_arg1) = m' ((c.tc : Thread Cert.AttFwdRefIdeal.nD Cert.AttFwdRefIdeal.τ).loc Cert.AttFwdRefIdeal.main_arg1)
          ∧ r.2.mem ((c.tc : Thread Cert.AttFwdRefIdeal.nD Cert.AttFwdRefIdeal.τ).loc Cert.AttFwdRefIdeal.main_arg2) = m' ((c.tc : Thread Cert.AttFwdRefIdeal.nD Cert.AttFwdRefIdeal.τ).loc Cert.AttFwdRefIdeal.main_arg2)
          ∧ r.2.mem ((c.tc : Thread Cert.AttFwdRefIdeal.nD Cert.AttFwdRefIdeal.τ).loc Cert.AttFwdRefIdeal.main_arg3) = m' ((c.tc : Thread Cert.AttFwdRefIdeal.nD Cert.AttFwdRefIdeal.τ).loc Cert.AttFwdRefIdeal.main_arg3))

def Claim : Prop :=
  ∃ (hKernel : Cert.Kernel.Facts) (hKernelIdeal : Cert.KernelIdeal.Facts) (hReferenceIdeal : Cert.ReferenceIdeal.Facts) (hMlpDown : Cert.MlpDown.Facts) (hMlpDownIdeal : Cert.MlpDownIdeal.Facts) (hMlpDownRefIdeal : Cert.MlpDownRefIdeal.Facts) (hGradDown : Cert.GradDown.Facts) (hGradDownIdeal : Cert.GradDownIdeal.Facts) (hGradDownRefIdeal : Cert.GradDownRefIdeal.Facts) (hGradUp : Cert.GradUp.Facts) (hGradUpIdeal : Cert.GradUpIdeal.Facts) (hGradUpRefIdeal : Cert.GradUpRefIdeal.Facts) (hOutBwd : Cert.OutBwd.Facts) (hOutBwdIdeal : Cert.OutBwdIdeal.Facts) (hOutBwdRefIdeal : Cert.OutBwdRefIdeal.Facts) (hGradOut : Cert.GradOut.Facts) (hGradOutIdeal : Cert.GradOutIdeal.Facts) (hGradOutRefIdeal : Cert.GradOutRefIdeal.Facts) (hUpBwd : Cert.UpBwd.Facts) (hUpBwdIdeal : Cert.UpBwdIdeal.Facts) (hUpBwdRefIdeal : Cert.UpBwdRefIdeal.Facts) (hInBwd : Cert.InBwd.Facts) (hInBwdIdeal : Cert.InBwdIdeal.Facts) (hInBwdRefIdeal : Cert.InBwdRefIdeal.Facts) (hGradIn : Cert.GradIn.Facts) (hGradInIdeal : Cert.GradInIdeal.Facts) (hGradInRefIdeal : Cert.GradInRefIdeal.Facts) (hGradXbc : Cert.GradXbc.Facts) (hGradXbcIdeal : Cert.GradXbcIdeal.Facts) (hGradXbcRefIdeal : Cert.GradXbcRefIdeal.Facts) (hInZ : Cert.InZ.Facts) (hInZIdeal : Cert.InZIdeal.Facts) (hInZRefIdeal : Cert.InZRefIdeal.Facts) (hInXbc : Cert.InXbc.Facts) (hInXbcIdeal : Cert.InXbcIdeal.Facts) (hInXbcRefIdeal : Cert.InXbcRefIdeal.Facts) (hInQkv : Cert.InQkv.Facts) (hInQkvIdeal : Cert.InQkvIdeal.Facts) (hInQkvRefIdeal : Cert.InQkvRefIdeal.Facts) (hUpFwd : Cert.UpFwd.Facts) (hUpFwdIdeal : Cert.UpFwdIdeal.Facts) (hUpFwdRefIdeal : Cert.UpFwdRefIdeal.Facts) (hOutFwd : Cert.OutFwd.Facts) (hOutFwdIdeal : Cert.OutFwdIdeal.Facts) (hOutFwdRefIdeal : Cert.OutFwdRefIdeal.Facts) (hDownLoss : Cert.DownLoss.Facts) (hDownLossIdeal : Cert.DownLossIdeal.Facts) (hDownLossRefIdeal : Cert.DownLossRefIdeal.Facts) (hInDtf : Cert.InDtf.Facts) (hInDtfIdeal : Cert.InDtfIdeal.Facts) (hInDtfRefIdeal : Cert.InDtfRefIdeal.Facts) (hGradDtf : Cert.GradDtf.Facts) (hGradDtfIdeal : Cert.GradDtfIdeal.Facts) (hGradDtfRefIdeal : Cert.GradDtfRefIdeal.Facts) (hRmsFwd : Cert.RmsFwd.Facts) (hRmsFwdIdeal : Cert.RmsFwdIdeal.Facts) (hRmsFwdRefIdeal : Cert.RmsFwdRefIdeal.Facts) (hGateFwd : Cert.GateFwd.Facts) (hGateFwdIdeal : Cert.GateFwdIdeal.Facts) (hGateFwdRefIdeal : Cert.GateFwdRefIdeal.Facts) (hConvFwd : Cert.ConvFwd.Facts) (hConvFwdIdeal : Cert.ConvFwdIdeal.Facts) (hConvFwdRefIdeal : Cert.ConvFwdRefIdeal.Facts) (hGateBwd : Cert.GateBwd.Facts) (hGateBwdIdeal : Cert.GateBwdIdeal.Facts) (hGateBwdRefIdeal : Cert.GateBwdRefIdeal.Facts) (hAttFwd : Cert.AttFwd.Facts) (hAttFwdIdeal : Cert.AttFwdIdeal.Facts) (hAttFwdRefIdeal : Cert.AttFwdRefIdeal.Facts) (hPre_finite : Cert.Pre_finite.Facts) (hPre_finite_gate : Cert.Pre_finite_gate.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradXbc (hGradXbc := hGradXbc)
    ∧ quiescent_GradXbcIdeal (hGradXbcIdeal := hGradXbcIdeal)
    ∧ quiescent_GradXbcRefIdeal (hGradXbcRefIdeal := hGradXbcRefIdeal)
    ∧ quiescent_InZ (hInZ := hInZ)
    ∧ quiescent_InZIdeal (hInZIdeal := hInZIdeal)
    ∧ quiescent_InZRefIdeal (hInZRefIdeal := hInZRefIdeal)
    ∧ quiescent_InXbc (hInXbc := hInXbc)
    ∧ quiescent_InXbcIdeal (hInXbcIdeal := hInXbcIdeal)
    ∧ quiescent_InXbcRefIdeal (hInXbcRefIdeal := hInXbcRefIdeal)
    ∧ quiescent_InQkv (hInQkv := hInQkv)
    ∧ quiescent_InQkvIdeal (hInQkvIdeal := hInQkvIdeal)
    ∧ quiescent_InQkvRefIdeal (hInQkvRefIdeal := hInQkvRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_InDtf (hInDtf := hInDtf)
    ∧ quiescent_InDtfIdeal (hInDtfIdeal := hInDtfIdeal)
    ∧ quiescent_InDtfRefIdeal (hInDtfRefIdeal := hInDtfRefIdeal)
    ∧ quiescent_GradDtf (hGradDtf := hGradDtf)
    ∧ quiescent_GradDtfIdeal (hGradDtfIdeal := hGradDtfIdeal)
    ∧ quiescent_GradDtfRefIdeal (hGradDtfRefIdeal := hGradDtfRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_GateBwd (hGateBwd := hGateBwd)
    ∧ quiescent_GateBwdIdeal (hGateBwdIdeal := hGateBwdIdeal)
    ∧ quiescent_GateBwdIdeal_pre_finite_gate (hGateBwdIdeal := hGateBwdIdeal) (hPre_finite_gate := hPre_finite_gate)
    ∧ quiescent_GateBwdRefIdeal (hGateBwdRefIdeal := hGateBwdRefIdeal)
    ∧ quiescent_GateBwdRefIdeal_pre_finite_gate (hGateBwdRefIdeal := hGateBwdRefIdeal) (hPre_finite_gate := hPre_finite_gate)
    ∧ quiescent_AttFwd (hAttFwd := hAttFwd)
    ∧ quiescent_AttFwdIdeal (hAttFwdIdeal := hAttFwdIdeal)
    ∧ quiescent_AttFwdIdeal_pre_finite_fwd (hAttFwdIdeal := hAttFwdIdeal) (hPre_finite_fwd := hPre_finite_fwd)
    ∧ quiescent_AttFwdRefIdeal (hAttFwdRefIdeal := hAttFwdRefIdeal)
    ∧ quiescent_AttFwdRefIdeal_pre_finite_fwd (hAttFwdRefIdeal := hAttFwdRefIdeal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_MlpDown_MlpDownIdeal
    ∧ algebraic_MlpDownIdeal_MlpDownRefIdeal (hMlpDownIdeal := hMlpDownIdeal) (hMlpDownRefIdeal := hMlpDownRefIdeal)
    ∧ preserves_GradDown_GradDownIdeal
    ∧ algebraic_GradDownIdeal_GradDownRefIdeal (hGradDownIdeal := hGradDownIdeal) (hGradDownRefIdeal := hGradDownRefIdeal)
    ∧ preserves_GradUp_GradUpIdeal
    ∧ algebraic_GradUpIdeal_GradUpRefIdeal (hGradUpIdeal := hGradUpIdeal) (hGradUpRefIdeal := hGradUpRefIdeal)
    ∧ preserves_OutBwd_OutBwdIdeal
    ∧ algebraic_OutBwdIdeal_OutBwdRefIdeal (hOutBwdIdeal := hOutBwdIdeal) (hOutBwdRefIdeal := hOutBwdRefIdeal)
    ∧ preserves_GradOut_GradOutIdeal
    ∧ algebraic_GradOutIdeal_GradOutRefIdeal (hGradOutIdeal := hGradOutIdeal) (hGradOutRefIdeal := hGradOutRefIdeal)
    ∧ preserves_UpBwd_UpBwdIdeal
    ∧ algebraic_UpBwdIdeal_UpBwdRefIdeal (hUpBwdIdeal := hUpBwdIdeal) (hUpBwdRefIdeal := hUpBwdRefIdeal)
    ∧ preserves_InBwd_InBwdIdeal
    ∧ algebraic_InBwdIdeal_InBwdRefIdeal (hInBwdIdeal := hInBwdIdeal) (hInBwdRefIdeal := hInBwdRefIdeal)
    ∧ preserves_GradIn_GradInIdeal
    ∧ algebraic_GradInIdeal_GradInRefIdeal (hGradInIdeal := hGradInIdeal) (hGradInRefIdeal := hGradInRefIdeal)
    ∧ preserves_GradXbc_GradXbcIdeal
    ∧ algebraic_GradXbcIdeal_GradXbcRefIdeal (hGradXbcIdeal := hGradXbcIdeal) (hGradXbcRefIdeal := hGradXbcRefIdeal)
    ∧ preserves_InZ_InZIdeal
    ∧ algebraic_InZIdeal_InZRefIdeal (hInZIdeal := hInZIdeal) (hInZRefIdeal := hInZRefIdeal)
    ∧ preserves_InXbc_InXbcIdeal
    ∧ algebraic_InXbcIdeal_InXbcRefIdeal (hInXbcIdeal := hInXbcIdeal) (hInXbcRefIdeal := hInXbcRefIdeal)
    ∧ preserves_InQkv_InQkvIdeal
    ∧ algebraic_InQkvIdeal_InQkvRefIdeal (hInQkvIdeal := hInQkvIdeal) (hInQkvRefIdeal := hInQkvRefIdeal)
    ∧ preserves_UpFwd_UpFwdIdeal
    ∧ algebraic_UpFwdIdeal_UpFwdRefIdeal (hUpFwdIdeal := hUpFwdIdeal) (hUpFwdRefIdeal := hUpFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_DownLoss_DownLossIdeal
    ∧ algebraic_DownLossIdeal_DownLossRefIdeal (hDownLossIdeal := hDownLossIdeal) (hDownLossRefIdeal := hDownLossRefIdeal)
    ∧ preserves_InDtf_InDtfIdeal
    ∧ algebraic_InDtfIdeal_InDtfRefIdeal (hInDtfIdeal := hInDtfIdeal) (hInDtfRefIdeal := hInDtfRefIdeal)
    ∧ preserves_GradDtf_GradDtfIdeal
    ∧ algebraic_GradDtfIdeal_GradDtfRefIdeal (hGradDtfIdeal := hGradDtfIdeal) (hGradDtfRefIdeal := hGradDtfRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_GateFwd_GateFwdIdeal
    ∧ algebraic_GateFwdIdeal_GateFwdRefIdeal (hGateFwdIdeal := hGateFwdIdeal) (hGateFwdRefIdeal := hGateFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_GateBwd_GateBwdIdeal
    ∧ algebraic_GateBwdIdeal_GateBwdRefIdeal_pre_finite_gate (hGateBwdIdeal := hGateBwdIdeal) (hGateBwdRefIdeal := hGateBwdRefIdeal) (hPre_finite_gate := hPre_finite_gate)
    ∧ preserves_AttFwd_AttFwdIdeal
    ∧ algebraic_AttFwdIdeal_AttFwdRefIdeal_pre_finite_fwd (hAttFwdIdeal := hAttFwdIdeal) (hAttFwdRefIdeal := hAttFwdRefIdeal) (hPre_finite_fwd := hPre_finite_fwd)
-- ==== Pre_finite.lean ====
abbrev S8192x1024 : Shape := ⟨2, ![8192, 1024]⟩
abbrev S4x16x2048 : Shape := ⟨3, ![4, 16, 2048]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  bcast_S_S4x16x2048 : S_.BroadcastsInDim S4x16x2048 (![] : Fin 0 → Fin S4x16x2048.rank)
  bcast_S_S8192x2048 : S_.BroadcastsInDim S8192x2048 (![] : Fin 0 → Fin S8192x2048.rank)

variable [Facts]

def fn {F : FTy → Type} [FloatOps F] (main_arg0 : FVec F S8192x1024 .f32) (main_arg1 : FVec F S8192x1024 .f32) (main_arg2 : FVec F S8192x1024 .f32) (main_arg3 : FVec F S4x16x2048 .f32) (main_arg4 : FVec F S8192x2048 .f32) : IVec S8192x1024 1 × IVec S8192x1024 1 × IVec S8192x1024 1 × IVec S4x16x2048 1 × IVec S8192x2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S4x16x2048 .f32 := Host.absf main_arg3
  let main_cst_2 : FVec F S_ .f32 := constant S_ .f32 0x7F800000#32
  let main_v10 : FVec F S4x16x2048 .f32 := broadcastInDim S4x16x2048 ![] bcast_S_S4x16x2048 main_cst_2
  let main_v11 : IVec S4x16x2048 1 := cmpf .olt main_v9 main_v10
  let main_v12 : FVec F S8192x2048 .f32 := Host.absf main_arg4
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  (main_v2, main_v5, main_v8, main_v11, main_v14)
-- ==== Pre_finite_fwd.lean ====
abbrev S8192x1024 : Shape := ⟨2, ![8192, 1024]⟩
abbrev S4x16x2048 : Shape := ⟨3, ![4, 16, 2048]⟩
abbrev S_ : Shape := ⟨0, ![]⟩

class Facts : Prop where
  bcast_S_S8192x1024 : S_.BroadcastsInDim S8192x1024 (![] : Fin 0 → Fin S8192x1024.rank)
  bcast_S_S4x16x2048 : S_.BroadcastsInDim S4x16x2048 (![] : Fin 0 → Fin S4x16x2048.rank)

variable [Facts]

def fn {F : FTy → Type} [FloatOps F] (main_arg0 : FVec F S8192x1024 .f32) (main_arg1 : FVec F S8192x1024 .f32) (main_arg2 : FVec F S8192x1024 .f32) (main_arg3 : FVec F S4x16x2048 .f32) : IVec S8192x1024 1 × IVec S8192x1024 1 × IVec S8192x1024 1 × IVec S4x16x2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S4x16x2048 .f32 := Host.absf main_arg3
  let main_cst_2 : FVec F S_ .f32 := constant S_ .f32 0x7F800000#32
  let main_v10 : FVec F S4x16x2048 .f32 := broadcastInDim S4x16x2048 ![] bcast_S_S4x16x2048 main_cst_2
  let main_v11 : IVec S4x16x2048 1 := cmpf .olt main_v9 main_v10
  (main_v2, main_v5, main_v8, main_v11)
-- ==== Pre_finite_gate.lean ====
abbrev S8192x2048 : Shape := ⟨2, ![8192, 2048]⟩
abbrev S8192x1024 : Shape := ⟨2, ![8192, 1024]⟩
abbrev S1x1024 : Shape := ⟨2, ![1, 1024]⟩
abbrev S_ : Shape := ⟨0, ![]⟩

class Facts : Prop where
  bcast_S_S8192x2048 : S_.BroadcastsInDim S8192x2048 (![] : Fin 0 → Fin S8192x2048.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x2048 .f32) (main_arg1 : FVec F S8192x1024 .f32) (main_arg2 : FVec F S8192x1024 .f32) (main_arg3 : FVec F S1x1024 .f32) : IVec S8192x2048 1 × IVec S8192x1024 1 × IVec S8192x1024 1 × IVec S1x1024 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Kernel.lean ====
abbrev S8192x1024 : Shape := ⟨2, ![8192, 1024]⟩
abbrev S4x16x2048 : Shape := ⟨3, ![4, 16, 2048]⟩
abbrev S8192x2048 : Shape := ⟨2, ![8192, 2048]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048x1 : Shape := ⟨4, ![4, 16, 2048, 1]⟩
abbrev S4x16x1x2048 : Shape := ⟨4, ![4, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x2x2048 : Shape := ⟨4, ![4, 8, 2, 2048]⟩
abbrev S4x8x8x2048 : Shape := ⟨4, ![4, 8, 8, 2048]⟩
abbrev S8192x3072 : Shape := ⟨2, ![8192, 3072]⟩
abbrev S4x2048x16 : Shape := ⟨3, ![4, 2048, 16]⟩
abbrev S8192x8x2 : Shape := ⟨3, ![8192, 8, 2]⟩
abbrev S8192x8x128 : Shape := ⟨3, ![8192, 8, 128]⟩
abbrev S8192x8x1 : Shape := ⟨3, ![8192, 8, 1]⟩
abbrev S2048x128 : Shape := ⟨2, ![2048, 128]⟩
abbrev S1x1x8x2048 : Shape := ⟨4, ![1, 1, 8, 2048]⟩
abbrev S2x2048x128 : Shape := ⟨3, ![2, 2048, 128]⟩
abbrev S2x128x2048 : Shape := ⟨3, ![2, 128, 2048]⟩
abbrev S128x2048 : Shape := ⟨2, ![128, 2048]⟩
abbrev S2x8x2048 : Shape := ⟨3, ![2, 8, 2048]⟩
abbrev S2x128x512 : Shape := ⟨3, ![2, 128, 512]⟩
abbrev S512x512 : Shape := ⟨2, ![512, 512]⟩
abbrev S512x128 : Shape := ⟨2, ![512, 128]⟩
abbrev S8x128 : Shape := ⟨2, ![8, 128]⟩
abbrev S1x128 : Shape := ⟨2, ![1, 128]⟩
abbrev S1x2048x128 : Shape := ⟨3, ![1, 2048, 128]⟩
abbrev S128x512 : Shape := ⟨2, ![128, 512]⟩
abbrev S1x128x512 : Shape := ⟨3, ![1, 128, 512]⟩
abbrev S8x2048 : Shape := ⟨2, ![8, 2048]⟩
abbrev S1x8x2048 : Shape := ⟨3, ![1, 8, 2048]⟩
abbrev S1x512x128 : Shape := ⟨3, ![1, 512, 128]⟩
abbrev S1x1x1x512 : Shape := ⟨4, ![1, 1, 1, 512]⟩
abbrev S1x512 : Shape := ⟨2, ![1, 512]⟩
abbrev S1x1x512 : Shape := ⟨3, ![1, 1, 512]⟩
abbrev S64x512 : Shape := ⟨2, ![64, 512]⟩
abbrev S1x128x2048 : Shape := ⟨3, ![1, 128, 2048]⟩
abbrev S1x1x1x2048 : Shape := ⟨4, ![1, 1, 1, 2048]⟩

abbrev nBuf : Space → Nat
  | .hbm => 116
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x16x2048, .f32⟩
  | .hbm, ⟨4, _⟩ => ⟨S8192x2048, .f32⟩
  | .hbm, ⟨5, _⟩ => ⟨S4x2048x16x64, .f32⟩
  | .hbm, ⟨6, _⟩ => ⟨S4x16x2048x64, .f32⟩
  | .hbm, ⟨7, _⟩ => ⟨S4x2048x16x64, .f32⟩
  | .hbm, ⟨8, _⟩ => ⟨S4x16x2048x64, .f32⟩
  | .hbm, ⟨9, _⟩ => ⟨S4x16x2048x2048, .f32⟩
  | .hbm, ⟨10, _⟩ => ⟨S_, .f32⟩
  | .hbm, ⟨11, _⟩ => ⟨S4x16x2048x2048, .f32⟩
  | .hbm, ⟨12, _⟩ => ⟨S4x16x2048x2048, .f32⟩
  | .hbm, ⟨13, _⟩ => ⟨S4x16x2048x1, .f32⟩
  | .hbm, ⟨14, _⟩ => ⟨S4x16x1x2048, .f32⟩
  | .hbm, ⟨15, _⟩ => ⟨S4x16x2048x2048, .f32⟩
  | .hbm, ⟨16, _⟩ => ⟨S4x16x2048x2048, .f32⟩
  | .hbm, ⟨17, _⟩ => ⟨S4x16x2048x2048, .f32⟩
  | .hbm, ⟨18, _⟩ => ⟨S4x16x2048x2048, .f32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S4x16x2048x2048, .i1⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x2048x16x64, .f32⟩
  | .hbm, ⟨46, _⟩ => ⟨S4x16x2048x64, .f32⟩
  | .hbm, ⟨47, _⟩ => ⟨S4x16x2048x64, .f32⟩
  | .hbm, ⟨48, _⟩ => ⟨S4x2048x16x64, .f32⟩
  | .hbm, ⟨49, _⟩ => ⟨S8192x1024, .f32⟩
  | .hbm, ⟨50, _⟩ => ⟨S_, .f32⟩
  | .hbm, ⟨51, _⟩ => ⟨S4x16x2048, .f32⟩
  | .hbm, ⟨52, _⟩ => ⟨S4x16x2048x1, .f32⟩
  | .hbm, ⟨53, _⟩ => ⟨S4x16x2048x2048, .f32⟩
  | .hbm, ⟨54, _⟩ => ⟨S4x16x2048x2048, .f32⟩
  | .hbm, ⟨55, _⟩ => ⟨S4x16x2048x2048, .f32⟩
  | .hbm, ⟨56, _⟩ => ⟨S_, .f32⟩
  | .hbm, ⟨57, _⟩ => ⟨S4x16x2048, .f32⟩
  | .hbm, ⟨58, _⟩ => ⟨S4x16x2048, .f32⟩
  | .hbm, ⟨59, _⟩ => ⟨S4x16x2048, .f32⟩
  | .hbm, ⟨60, _⟩ => ⟨S4x16x2048, .f32⟩
  | .hbm, ⟨61, _⟩ => ⟨S4x8x2x2048, .f32⟩
  | .hbm, ⟨62, _⟩ => ⟨S_, .i32⟩
  | .hbm, ⟨63, _⟩ => ⟨S_, .f32⟩
  | .hbm, ⟨64, _⟩ => ⟨S4x8x8x2048, .f32⟩
  | .hbm, ⟨65, _⟩ => ⟨S8192x2048, .f32⟩
  | .hbm, ⟨66, _⟩ => ⟨S8192x3072, .f32⟩
  | .hbm, ⟨67, _⟩ => ⟨S8192x3072, .bf16⟩
  | .hbm, ⟨68, _⟩ => ⟨S4x2048x16, .f32⟩
  | .hbm, ⟨69, _⟩ => ⟨S8192x8x2, .f32⟩
  | .hbm, ⟨70, _⟩ => ⟨S8192x8x2, .f32⟩
  | .hbm, ⟨71, _⟩ => ⟨S8192x8x128, .i32⟩
  | .hbm, ⟨72, _⟩ => ⟨S_, .i32⟩
  | .hbm, ⟨73, _⟩ => ⟨S8192x8x128, .i32⟩
  | .hbm, ⟨74, _⟩ => ⟨S8192x8x128, .i1⟩
  | .hbm, ⟨75, _⟩ => ⟨S8192x8x1, .f32⟩
  | .hbm, ⟨76, _⟩ => ⟨S8192x8x1, .f32⟩
  | .hbm, ⟨77, _⟩ => ⟨S8192x8x128, .f32⟩
  | .hbm, ⟨78, _⟩ => ⟨S8192x8x128, .f32⟩
  | .hbm, ⟨79, _⟩ => ⟨S8192x8x128, .f32⟩
  | .hbm, ⟨80, _⟩ => ⟨S8192x8x128, .bf16⟩
  | .hbm, ⟨81, _⟩ => ⟨S8192x8x128, .f32⟩
  | .hbm, ⟨82, _⟩ => ⟨S8192x8x128, .f32⟩
  | .hbm, ⟨83, _⟩ => ⟨S8192x8x128, .bf16⟩
  | .hbm, ⟨84, _⟩ => ⟨S8192x8x128, .f32⟩
  | .hbm, ⟨85, _⟩ => ⟨S8192x8x128, .f32⟩
  | .hbm, ⟨86, _⟩ => ⟨S8192x8x128, .bf16⟩
  | .hbm, ⟨87, _⟩ => ⟨S_, .i32⟩
  | .hbm, ⟨88, _⟩ => ⟨S8192x8x128, .i32⟩
  | .hbm, ⟨89, _⟩ => ⟨S8192x8x128, .i32⟩
  | .hbm, ⟨90, _⟩ => ⟨S_, .bf16⟩
  | .hbm, ⟨91, _⟩ => ⟨S8192x8x128, .bf16⟩
  | .hbm, ⟨92, _⟩ => ⟨S_, .i32⟩
  | .hbm, ⟨93, _⟩ => ⟨S8192x8x128, .i32⟩
  | .hbm, ⟨94, _⟩ => ⟨S8192x8x128, .i1⟩
  | .hbm, ⟨95, _⟩ => ⟨S_, .i32⟩
  | .hbm, ⟨96, _⟩ => ⟨S8192x8x128, .i32⟩
  | .hbm, ⟨97, _⟩ => ⟨S8192x8x128, .i1⟩
  | .hbm, ⟨98, _⟩ => ⟨S_, .i32⟩
  | .hbm, ⟨99, _⟩ => ⟨S8192x8x128, .i32⟩
  | .hbm, ⟨100, _⟩ => ⟨S8192x8x128, .i1⟩
  | .hbm, ⟨101, _⟩ => ⟨S_, .i32⟩
  | .hbm, ⟨102, _⟩ => ⟨S8192x8x128, .i32⟩
  | .hbm, ⟨103, _⟩ => ⟨S8192x8x128, .i1⟩
  | .hbm, ⟨104, _⟩ => ⟨S_, .bf16⟩
  | .hbm, ⟨105, _⟩ => ⟨S8192x8x128, .bf16⟩
  | .hbm, ⟨106, _⟩ => ⟨S8192x8x128, .bf16⟩
  | .hbm, ⟨107, _⟩ => ⟨S8192x8x128, .bf16⟩
  | .hbm, ⟨108, _⟩ => ⟨S8192x8x128, .bf16⟩
  | .hbm, ⟨109, _⟩ => ⟨S8192x8x128, .bf16⟩
  | .hbm, ⟨110, _⟩ => ⟨S8192x1024, .bf16⟩
  | .hbm, ⟨111, _⟩ => ⟨S8192x1024, .bf16⟩
  | .hbm, ⟨112, _⟩ => ⟨S8192x1024, .bf16⟩
  | .hbm, ⟨113, _⟩ => ⟨S8192x1024, .bf16⟩
  | .hbm, ⟨114, _⟩ => ⟨S4x8x8x2048, .f32⟩
  | .hbm, ⟨115, _⟩ => ⟨S4x8x8x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x1x8x2048, .f32⟩
  | .local _ .vmem, ⟨11, _⟩ => ⟨S1x1x8x2048, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x1x8x2048, .f32⟩
  | .local _ .vmem, ⟨21, _⟩ => ⟨S1x1x8x2048, .f32⟩
  | .local _ .vmem, ⟨22, _⟩ => ⟨S1x1x8x2048, .f32⟩
  | .local _ .vmem, ⟨23, _⟩ => ⟨S1x1x8x2048, .f32⟩
  | .local _ .vmem, ⟨24, _⟩ => ⟨S2x2048x128, .bf16⟩
  | .local _ .vmem, ⟨25, _⟩ => ⟨S2x2048x128, .bf16⟩
  | .local _ .vmem, ⟨26, _⟩ => ⟨S2x2048x128, .bf16⟩
  | .local _ .vmem, ⟨27, _⟩ => ⟨S2x2048x128, .bf16⟩
  | .local _ .vmem, ⟨28, _⟩ => ⟨S2x128x2048, .bf16⟩
  | .local _ .vmem, ⟨29, _⟩ => ⟨S2x128x2048, .bf16⟩
  | .local _ .vmem, ⟨30, _⟩ => ⟨S128x2048, .bf16⟩
  | .local _ .vmem, ⟨31, _⟩ => ⟨S2x8x2048, .f32⟩
  | .local _ .vmem, ⟨32, _⟩ => ⟨S2x128x2048, .f32⟩
  | .local _ .vmem, ⟨33, _⟩ => ⟨S2x128x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_call1_v0 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_6 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_call2_v0 : Ref sig .tc := ⟨.hbm, 77, rfl⟩
abbrev main_call2_v1 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_7 : Ref sig .tc := ⟨.hbm, 87, rfl⟩
abbrev main_v67 : Ref sig .tc := ⟨.hbm, 88, rfl⟩
abbrev main_v68 : Ref sig .tc := ⟨.hbm, 89, rfl⟩
abbrev main_cst_8 : Ref sig .tc := ⟨.hbm, 90, rfl⟩
abbrev main_v69 : Ref sig .tc := ⟨.hbm, 91, rfl⟩
abbrev main_c_9 : Ref sig .tc := ⟨.hbm, 92, rfl⟩
abbrev main_v70 : Ref sig .tc := ⟨.hbm, 93, rfl⟩
abbrev main_v71 : Ref sig .tc := ⟨.hbm, 94, rfl⟩
abbrev main_c_10 : Ref sig .tc := ⟨.hbm, 95, rfl⟩
abbrev main_v72 : Ref sig .tc := ⟨.hbm, 96, rfl⟩
abbrev main_v73 : Ref sig .tc := ⟨.hbm, 97, rfl⟩
abbrev main_c_11 : Ref sig .tc := ⟨.hbm, 98, rfl⟩
abbrev main_v74 : Ref sig .tc := ⟨.hbm, 99, rfl⟩
abbrev main_v75 : Ref sig .tc := ⟨.hbm, 100, rfl⟩
abbrev main_c_12 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84_0 : Ref sig .tc := ⟨.hbm, 111, rfl⟩
abbrev main_v84_1 : Ref sig .tc := ⟨.hbm, 112, rfl⟩
abbrev main_v84_2 : Ref sig .tc := ⟨.hbm, 113, rfl⟩
abbrev main_v84_3 : Ref sig .tc := ⟨.hbm, 114, rfl⟩
abbrev main_v84_4 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S4x16x2048 : Shape := ⟨3, ![4, 16, 2048]⟩
abbrev S8192x2048 : Shape := ⟨2, ![8192, 2048]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048x1 : Shape := ⟨4, ![4, 16, 2048, 1]⟩
abbrev S4x16x1x2048 : Shape := ⟨4, ![4, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x16x64x2048 : Shape := ⟨4, ![4, 16, 64, 2048]⟩
abbrev S4x8x2x2048 : Shape := ⟨4, ![4, 8, 2, 2048]⟩
abbrev S4x8x8x2048 : Shape := ⟨4, ![4, 8, 8, 2048]⟩

abbrev nBuf : Space → Nat
  | .hbm => 132
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S4x16x2048, .f32⟩
  | 4 => ⟨S8192x2048, .f32⟩
  | 5 => ⟨S4x2048x16x64, .f32⟩
  | 6 => ⟨S4x16x2048x64, .f32⟩
  | 7 => ⟨S4x2048x16x64, .f32⟩
  | 8 => ⟨S4x16x2048x64, .f32⟩
  | 9 => ⟨S4x16x2048x2048, .f32⟩
  | 10 => ⟨S_, .f32⟩
  | 11 => ⟨S4x16x2048x2048, .f32⟩
  | 12 => ⟨S4x16x2048x2048, .f32⟩
  | 13 => ⟨S4x16x2048x1, .f32⟩
  | 14 => ⟨S4x16x1x2048, .f32⟩
  | 15 => ⟨S4x16x2048x2048, .f32⟩
  | 16 => ⟨S4x16x2048x2048, .f32⟩
  | 17 => ⟨S4x16x2048x2048, .f32⟩
  | 18 => ⟨S4x16x2048x2048, .f32⟩
  | 19 => ⟨S2048, .i32⟩
  | 20 => ⟨S2048x1, .i32⟩
  | 21 => ⟨S2048, .i32⟩
  | 22 => ⟨S1x2048, .i32⟩
  | 23 => ⟨S2048x2048, .i32⟩
  | 24 => ⟨S2048x2048, .i32⟩
  | 25 => ⟨S2048x2048, .i1⟩
  | 26 => ⟨S_, .f32⟩
  | 27 => ⟨S_, .f32⟩
  | 28 => ⟨S4x16x2048x2048, .i1⟩
  | 29 => ⟨S4x16x2048x2048, .f32⟩
  | 30 => ⟨S4x16x2048x2048, .f32⟩
  | 31 => ⟨S_, .f32⟩
  | 32 => ⟨S4x16x2048x2048, .f32⟩
  | 33 => ⟨S_, .f32⟩
  | 34 => ⟨S4x16x2048, .f32⟩
  | 35 => ⟨S4x16x2048x1, .f32⟩
  | 36 => ⟨S4x16x2048x2048, .f32⟩
  | 37 => ⟨S4x16x2048x2048, .i1⟩
  | 38 => ⟨S4x16x2048x2048, .f32⟩
  | 39 => ⟨S_, .f32⟩
  | 40 => ⟨S4x16x2048, .f32⟩
  | 41 => ⟨S_, .f32⟩
  | 42 => ⟨S4x16x2048, .f32⟩
  | 43 => ⟨S4x16x2048, .f32⟩
  | 44 => ⟨S_, .f32⟩
  | 45 => ⟨S4x16x2048, .f32⟩
  | 46 => ⟨S4x16x2048, .i1⟩
  | 47 => ⟨S_, .f32⟩
  | 48 => ⟨S4x16x2048, .f32⟩
  | 49 => ⟨S4x16x2048, .i1⟩
  | 50 => ⟨S_, .f32⟩
  | 51 => ⟨S4x16x2048, .f32⟩
  | 52 => ⟨S_, .f32⟩
  | 53 => ⟨S4x16x2048, .f32⟩
  | 54 => ⟨S_, .f32⟩
  | 55 => ⟨S4x16x2048, .f32⟩
  | 56 => ⟨S4x16x2048, .f32⟩
  | 57 => ⟨S4x16x2048, .f32⟩
  | 58 => ⟨S4x16x2048x1, .f32⟩
  | 59 => ⟨S4x16x2048x2048, .f32⟩
  | 60 => ⟨S4x16x2048x2048, .f32⟩
  | 61 => ⟨S4x16x2048x2048, .f32⟩
  | 62 => ⟨S_, .f32⟩
  | 63 => ⟨S4x16x2048, .f32⟩
  | 64 => ⟨S4x16x2048x1, .f32⟩
  | 65 => ⟨S4x16x2048x2048, .f32⟩
  | 66 => ⟨S4x16x2048x2048, .f32⟩
  | 67 => ⟨S4x16x2048x1, .f32⟩
  | 68 => ⟨S_, .f32⟩
  | 69 => ⟨S4x16x2048x1, .f32⟩
  | 70 => ⟨S4x16x2048x1, .f32⟩
  | 71 => ⟨S4x2048x16x64, .f32⟩
  | 72 => ⟨S4x16x2048x64, .f32⟩
  | 73 => ⟨S4x16x2048x64, .f32⟩
  | 74 => ⟨S4x2048x16x64, .f32⟩
  | 75 => ⟨S8192x1024, .f32⟩
  | 76 => ⟨S8192x1024, .f32⟩
  | 77 => ⟨S4x2048x16x64, .f32⟩
  | 78 => ⟨S4x16x2048x64, .f32⟩
  | 79 => ⟨S4x16x64x2048, .f32⟩
  | 80 => ⟨S4x16x2048x64, .f32⟩
  | 81 => ⟨S4x16x2048x2048, .f32⟩
  | 82 => ⟨S4x2048x16x64, .f32⟩
  | 83 => ⟨S8192x1024, .f32⟩
  | 84 => ⟨S4x16x2048x2048, .f32⟩
  | 85 => ⟨S4x16x2048x2048, .f32⟩
  | 86 => ⟨S4x16x2048x2048, .f32⟩
  | 87 => ⟨S_, .f32⟩
  | 88 => ⟨S4x16x2048, .f32⟩
  | 89 => ⟨S4x16x2048x1, .f32⟩
  | 90 => ⟨S4x16x2048x1, .f32⟩
  | 91 => ⟨S4x16x2048x2048, .f32⟩
  | 92 => ⟨S4x16x2048x2048, .f32⟩
  | 93 => ⟨S_, .f32⟩
  | 94 => ⟨S4x16x2048, .f32⟩
  | 95 => ⟨S4x16x2048x2048, .f32⟩
  | 96 => ⟨S4x16x2048x2048, .f32⟩
  | 97 => ⟨S4x16x2048x2048, .f32⟩
  | 98 => ⟨S_, .f32⟩
  | 99 => ⟨S4x16x2048x2048, .f32⟩
  | 100 => ⟨S4x16x2048x2048, .f32⟩
  | 101 => ⟨S_, .f32⟩
  | 102 => ⟨S4x16x2048, .f32⟩
  | 103 => ⟨S4x16x2048x1, .f32⟩
  | 104 => ⟨S4x16x2048x2048, .f32⟩
  | 105 => ⟨S_, .f32⟩
  | 106 => ⟨S4x16x2048, .f32⟩
  | 107 => ⟨S4x16x1x2048, .f32⟩
  | 108 => ⟨S_, .f32⟩
  | 109 => ⟨S4x16x2048, .f32⟩
  | 110 => ⟨S_, .f32⟩
  | 111 => ⟨S4x16x2048, .f32⟩
  | 112 => ⟨S_, .f32⟩
  | 113 => ⟨S4x16x2048x2048, .f32⟩
  | 114 => ⟨S4x16x2048x2048, .f32⟩
  | 115 => ⟨S4x16x2048x64, .f32⟩
  | 116 => ⟨S4x16x2048x64, .f32⟩
  | 117 => ⟨S4x2048x16x64, .f32⟩
  | 118 => ⟨S8192x1024, .f32⟩
  | 119 => ⟨S4x2048x16x64, .f32⟩
  | 120 => ⟨S8192x1024, .f32⟩
  | 121 => ⟨S8192x1024, .bf16⟩
  | 122 => ⟨S8192x1024, .bf16⟩
  | 123 => ⟨S8192x1024, .bf16⟩
  | 124 => ⟨S4x8x2x2048, .f32⟩
  | 125 => ⟨S_, .i32⟩
  | 126 => ⟨S_, .f32⟩
  | 127 => ⟨S4x8x8x2048, .f32⟩
  | _ => ⟨S8192x1024, .f32⟩

abbrev hbmTy0_1 (i : Nat) : BufTy := match i % 128 with
  | 0 => ⟨S4x8x2x2048, .f32⟩
  | 1 => ⟨S_, .i32⟩
  | 2 => ⟨S_, .f32⟩
  | 3 => ⟨S4x8x8x2048, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c : Ref sig .tc := ⟨.hbm, 125, rfl⟩
abbrev main_call2_v0 : Ref sig .tc := ⟨.hbm, 126, rfl⟩
abbrev main_v94 : Ref sig .tc := ⟨.hbm, 127, rfl⟩
abbrev main_v95 : Ref sig .tc := ⟨.hbm, 128, rfl⟩
abbrev main_c_18 : Ref sig .tc := ⟨.hbm, 129, rfl⟩
abbrev main_call3_v0 : Ref sig .tc := ⟨.hbm, 130, rfl⟩
abbrev main_v96 : Ref sig .tc := ⟨.hbm, 131, rfl⟩

abbrev nD : Nat := 1
abbrev τ : Topo := Topo.v7x

variable {F : FTy → Type} [FloatOps F]
-- ==== MlpDown.lean ====
abbrev S8192x1024 : Shape := ⟨2, ![8192, 1024]⟩
abbrev S4096x1024 : Shape := ⟨2, ![4096, 1024]⟩
abbrev S8192x4096 : Shape := ⟨2, ![8192, 4096]⟩
abbrev S256x1024 : Shape := ⟨2, ![256, 1024]⟩
abbrev S256x4096 : Shape := ⟨2, ![256, 4096]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S4096x1024, .bf16⟩
  | .hbm, ⟨4, _⟩ => ⟨S8192x4096, .bf16⟩
  | .hbm, ⟨5, _⟩ => ⟨S8192x4096, .bf16⟩
  | .hbm, ⟨6, _⟩ => ⟨S8192x4096, .bf16⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlpDownRefIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_cst : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== GradDown.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradUp.lean ====
abbrev S8192x1024 : Shape := ⟨2, ![8192, 1024]⟩
abbrev S8192x4096 : Shape := ⟨2, ![8192, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x4096, .bf16⟩
  | .hbm, ⟨3, _⟩ => ⟨S8192x1024, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutBwd.lean ====
abbrev S8192x1024 : Shape := ⟨2, ![8192, 1024]⟩
abbrev S2048x1024 : Shape := ⟨2, ![2048, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048x1024, .bf16⟩
  | .hbm, ⟨3, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutBwdRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S_, .f32⟩
  | .hbm, ⟨3, _⟩ => ⟨S8192x2048, .f32⟩
  | .hbm, ⟨4, _⟩ => ⟨S8192x1024, .f32⟩
  | .hbm, ⟨5, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GradOut.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpBwd.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S4096x1024 : Shape := ⟨2, ![4096, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .bf16⟩
  | .hbm, ⟨6, _⟩ => ⟨S4096x1024, .f32⟩
  | .hbm, ⟨7, _⟩ => ⟨S4096x1024, .bf16⟩
  | .hbm, ⟨8, _⟩ => ⟨S8192x1024, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== UpBwdRefIdeal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== InBwd.lean ====
abbrev S8192x1024 : Shape := ⟨2, ![8192, 1024]⟩
abbrev S8192x1536 : Shape := ⟨2, ![8192, 1536]⟩
abbrev S8192x128 : Shape := ⟨2, ![8192, 128]⟩
abbrev S1024x5664 : Shape := ⟨2, ![1024, 5664]⟩
abbrev S1x1024 : Shape := ⟨2, ![1, 1024]⟩
abbrev S5664x1024 : Shape := ⟨2, ![5664, 1024]⟩
abbrev S1024x1024 : Shape := ⟨2, ![1024, 1024]⟩
abbrev S1536x1024 : Shape := ⟨2, ![1536, 1024]⟩
abbrev S3072x1024 : Shape := ⟨2, ![3072, 1024]⟩
abbrev S16x1024 : Shape := ⟨2, ![16, 1024]⟩
abbrev S_ : Shape := ⟨0, ![]⟩
abbrev S96x1024 : Shape := ⟨2, ![96, 1024]⟩
abbrev S128x1024 : Shape := ⟨2, ![128, 1024]⟩
abbrev S256x1024 : Shape := ⟨2, ![256, 1024]⟩
abbrev S256x1536 : Shape := ⟨2, ![256, 1536]⟩
abbrev S256x128 : Shape := ⟨2, ![256, 128]⟩
abbrev S256 : Shape := ⟨1, ![256]⟩
abbrev S256x1 : Shape := ⟨2, ![256, 1]⟩
abbrev S1024 : Shape := ⟨1, ![1024]⟩

abbrev nBuf : Space → Nat
  | .hbm => 31
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x128, .f32⟩
  | .hbm, ⟨6, _⟩ => ⟨S1024x5664, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S5664x1024, .f32⟩
  | .hbm, ⟨11, _⟩ => ⟨S5664x1024, .bf16⟩
  | .hbm, ⟨12, _⟩ => ⟨S1024x1024, .bf16⟩
  | .hbm, ⟨13, _⟩ => ⟨S1536x1024, .bf16⟩
  | .hbm, ⟨14, _⟩ => ⟨S3072x1024, .bf16⟩
  | .hbm, ⟨15, _⟩ => ⟨S16x1024, .bf16⟩
  | .hbm, ⟨16, _⟩ => ⟨S16x1024, .bf16⟩
  | .hbm, ⟨17, _⟩ => ⟨S_, .bf16⟩
  | .hbm, ⟨18, _⟩ => ⟨S96x1024, .bf16⟩
  | .hbm, ⟨19, _⟩ => ⟨S128x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S8192x1024, .bf16⟩
  | .hbm, ⟨24, _⟩ => ⟨S8192x1536, .bf16⟩
  | .hbm, ⟨25, _⟩ => ⟨S8192x1024, .bf16⟩
  | .hbm, ⟨26, _⟩ => ⟨S8192x1024, .bf16⟩
  | .hbm, ⟨27, _⟩ => ⟨S8192x1024, .bf16⟩
  | .hbm, ⟨28, _⟩ => ⟨S8192x128, .bf16⟩
  | .hbm, ⟨29, _⟩ => ⟨S8192x1024, .f32⟩
  | .hbm, ⟨30, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1536, .bf16⟩
  | .local _ .vmem, ⟨4, _⟩ => ⟨S256x1536, .bf16⟩
  | .local _ .vmem, ⟨5, _⟩ => ⟨S1536x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | .local _ .vmem, ⟨11, _⟩ => ⟨S1024x1024, .bf16⟩
  | .local _ .vmem, ⟨12, _⟩ => ⟨S256x1024, .bf16⟩
  | .local _ .vmem, ⟨13, _⟩ => ⟨S256x1024, .bf16⟩
  | .local _ .vmem, ⟨14, _⟩ => ⟨S1024x1024, .bf16⟩
  | .local _ .vmem, ⟨15, _⟩ => ⟨S256x128, .bf16⟩
  | .local _ .vmem, ⟨16, _⟩ => ⟨S256x128, .bf16⟩
  | .local _ .vmem, ⟨17, _⟩ => ⟨S128x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, true]
-- ==== InBwdRefIdeal.lean ====
abbrev S8192x1024 : Shape := ⟨2, ![8192, 1024]⟩
abbrev S8192x1536 : Shape := ⟨2, ![8192, 1536]⟩
abbrev S8192x128 : Shape := ⟨2, ![8192, 128]⟩
abbrev S1024x5664 : Shape := ⟨2, ![1024, 5664]⟩
abbrev S1x1024 : Shape := ⟨2, ![1, 1024]⟩
abbrev S8192x16 : Shape := ⟨2, ![8192, 16]⟩
abbrev S8192x5664 : Shape := ⟨2, ![8192, 5664]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x128, .f32⟩
  | .hbm, ⟨6, _⟩ => ⟨S1024x5664, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S8192x16, .f32⟩
  | .hbm, ⟨11, _⟩ => ⟨S8192x16, .f32⟩
  | .hbm, ⟨12, _⟩ => ⟨S8192x5664, .f32⟩
  | .hbm, ⟨13, _⟩ => ⟨S1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x5664, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== GradIn.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradInRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradXbc.lean ====
abbrev S8192x1536 : Shape := ⟨2, ![8192, 1536]⟩
abbrev S8192x1024 : Shape := ⟨2, ![8192, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S8192x1536, .bf16⟩
  | .hbm, ⟨3, _⟩ => ⟨S8192x1024, .bf16⟩
  | .hbm, ⟨4, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradXbcRefIdeal.lean ====
abbrev S8192x1536 : Shape := ⟨2, ![8192, 1536]⟩
abbrev S8192x1024 : Shape := ⟨2, ![8192, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S_, .f32⟩
  | .hbm, ⟨3, _⟩ => ⟨S1024x1536, .f32⟩
  | .hbm, ⟨4, _⟩ => ⟨S8192x1536, .f32⟩
  | .hbm, ⟨5, _⟩ => ⟨S1536x1024, .f32⟩
  | .hbm, ⟨6, _⟩ => ⟨S1024x1536, .f32⟩
  | .hbm, ⟨7, _⟩ => ⟨S1536x1024, .f32⟩
  | .hbm, ⟨8, _⟩ => ⟨S1536x1024, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InZ.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .f32⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InZRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InXbc.lean ====
abbrev S8192x1024 : Shape := ⟨2, ![8192, 1024]⟩
abbrev S1024x1536 : Shape := ⟨2, ![1024, 1536]⟩
abbrev S1536x1024 : Shape := ⟨2, ![1536, 1024]⟩
abbrev S8192x1536 : Shape := ⟨2, ![8192, 1536]⟩
abbrev S512x1024 : Shape := ⟨2, ![512, 1024]⟩
abbrev S512x1536 : Shape := ⟨2, ![512, 1536]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1024, .bf16⟩
  | .hbm, ⟨3, _⟩ => ⟨S1536x1024, .f32⟩
  | .hbm, ⟨4, _⟩ => ⟨S1536x1024, .bf16⟩
  | .hbm, ⟨5, _⟩ => ⟨S8192x1536, .f32⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S512x1536, .f32⟩
  | .local _ .vmem, ⟨4, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InXbcRefIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InQkv.lean ====
abbrev S8192x1024 : Shape := ⟨2, ![8192, 1024]⟩
abbrev S1024x3072 : Shape := ⟨2, ![1024, 3072]⟩
abbrev S3072x1024 : Shape := ⟨2, ![3072, 1024]⟩
abbrev S8192x3072 : Shape := ⟨2, ![8192, 3072]⟩
abbrev S512x1024 : Shape := ⟨2, ![512, 1024]⟩
abbrev S512x3072 : Shape := ⟨2, ![512, 3072]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S3072x1024, .f32⟩
  | .hbm, ⟨4, _⟩ => ⟨S3072x1024, .bf16⟩
  | .hbm, ⟨5, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InQkvRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpFwd.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S4096x1024, .f32⟩
  | .hbm, ⟨4, _⟩ => ⟨S4096x1024, .bf16⟩
  | .hbm, ⟨5, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpFwdRefIdeal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutFwd.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S1x1024, .f32⟩
  | .hbm, ⟨4, _⟩ => ⟨S8192x2048, .bf16⟩
  | .hbm, ⟨5, _⟩ => ⟨S2048x1024, .bf16⟩
  | .hbm, ⟨6, _⟩ => ⟨S8192x1024, .f32⟩
  | .hbm, ⟨7, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutFwdRefIdeal.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DownLoss.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .bf16⟩
  | .hbm, ⟨6, _⟩ => ⟨S4096x1024, .bf16⟩
  | .hbm, ⟨7, _⟩ => ⟨S8192x1024, .f32⟩
  | .hbm, ⟨8, _⟩ => ⟨S1x128, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DownLossRefIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S1x1024, .f32⟩
  | .hbm, ⟨81, _⟩ => ⟨S1x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_cst_15 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== InDtf.lean ====
abbrev S8192x1024 : Shape := ⟨2, ![8192, 1024]⟩
abbrev S1024x128 : Shape := ⟨2, ![1024, 128]⟩
abbrev S128x1024 : Shape := ⟨2, ![128, 1024]⟩
abbrev S8192x128 : Shape := ⟨2, ![8192, 128]⟩
abbrev S2048x1024 : Shape := ⟨2, ![2048, 1024]⟩
abbrev S2048x128 : Shape := ⟨2, ![2048, 128]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x1024, .bf16⟩
  | .hbm, ⟨3, _⟩ => ⟨S128x1024, .f32⟩
  | .hbm, ⟨4, _⟩ => ⟨S128x1024, .bf16⟩
  | .hbm, ⟨5, _⟩ => ⟨S8192x128, .f32⟩
  | .local _ .vmem, ⟨0, _⟩ => ⟨S2048x1024, .bf16⟩
  | .local _ .vmem, ⟨1, _⟩ => ⟨S2048x1024, .bf16⟩
  | .local _ .vmem, ⟨2, _⟩ => ⟨S128x1024, .bf16⟩
  | .local _ .vmem, ⟨3, _⟩ => ⟨S2048x128, .f32⟩
  | .local _ .vmem, ⟨4, _⟩ => ⟨S2048x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDtfRefIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradDtf.lean ====
abbrev S8192x128 : Shape := ⟨2, ![8192, 128]⟩
abbrev S8192x1024 : Shape := ⟨2, ![8192, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S8192x128, .bf16⟩
  | .hbm, ⟨3, _⟩ => ⟨S8192x1024, .bf16⟩
  | .hbm, ⟨4, _⟩ => ⟨S128x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradDtfRefIdeal.lean ====
abbrev S8192x128 : Shape := ⟨2, ![8192, 128]⟩
abbrev S8192x1024 : Shape := ⟨2, ![8192, 1024]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S_, .f32⟩
  | .hbm, ⟨3, _⟩ => ⟨S1024x128, .f32⟩
  | .hbm, ⟨4, _⟩ => ⟨S8192x128, .f32⟩
  | .hbm, ⟨5, _⟩ => ⟨S128x1024, .f32⟩
  | .hbm, ⟨6, _⟩ => ⟨S1024x128, .f32⟩
  | .hbm, ⟨7, _⟩ => ⟨S128x1024, .f32⟩
  | .hbm, ⟨8, _⟩ => ⟨S128x1024, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RmsFwd.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== GateFwd.lean ====
abbrev S8192x1024 : Shape := ⟨2, ![8192, 1024]⟩
abbrev S1x1024 : Shape := ⟨2, ![1, 1024]⟩
abbrev S8192x2048 : Shape := ⟨2, ![8192, 2048]⟩
abbrev S1024x1024 : Shape := ⟨2, ![1024, 1024]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x2048, .bf16⟩
  | .local _ .vmem, ⟨8, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateFwdRefIdeal.lean ====
abbrev S8192x1024 : Shape := ⟨2, ![8192, 1024]⟩
abbrev S1x1024 : Shape := ⟨2, ![1, 1024]⟩
abbrev S_ : Shape := ⟨0, ![]⟩
abbrev S8192x2x512 : Shape := ⟨3, ![8192, 2, 512]⟩
abbrev S8192x2 : Shape := ⟨2, ![8192, 2]⟩
abbrev S8192x2x1 : Shape := ⟨3, ![8192, 2, 1]⟩
abbrev S1024 : Shape := ⟨1, ![1024]⟩
abbrev S8192x2048 : Shape := ⟨2, ![8192, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x2x512, .f32⟩
  | .hbm, ⟨15, _⟩ => ⟨S8192x2x512, .f32⟩
  | .hbm, ⟨16, _⟩ => ⟨S_, .f32⟩
  | .hbm, ⟨17, _⟩ => ⟨S8192x2, .f32⟩
  | .hbm, ⟨18, _⟩ => ⟨S8192x2x1, .f32⟩
  | .hbm, ⟨19, _⟩ => ⟨S_, .f32⟩
  | .hbm, ⟨20, _⟩ => ⟨S8192x2x1, .f32⟩
  | .hbm, ⟨21, _⟩ => ⟨S8192x2x1, .f32⟩
  | .hbm, ⟨22, _⟩ => ⟨S_, .f32⟩
  | .hbm, ⟨23, _⟩ => ⟨S8192x2x1, .f32⟩
  | .hbm, ⟨24, _⟩ => ⟨S8192x2x1, .f32⟩
  | .hbm, ⟨25, _⟩ => ⟨S8192x2x1, .f32⟩
  | .hbm, ⟨26, _⟩ => ⟨S8192x2x512, .f32⟩
  | .hbm, ⟨27, _⟩ => ⟨S8192x2x512, .f32⟩
  | .hbm, ⟨28, _⟩ => ⟨S8192x1024, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x2048, .f32⟩
  | .hbm, ⟨34, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== ConvFwd.lean ====
abbrev S8192x1536 : Shape := ⟨2, ![8192, 1536]⟩
abbrev S4x1536 : Shape := ⟨2, ![4, 1536]⟩
abbrev S1x1536 : Shape := ⟨2, ![1, 1536]⟩
abbrev S4x2048x1536 : Shape := ⟨3, ![4, 2048, 1536]⟩
abbrev S1x512x512 : Shape := ⟨3, ![1, 512, 512]⟩
abbrev S1x8x512 : Shape := ⟨3, ![1, 8, 512]⟩
abbrev S4x512 : Shape := ⟨2, ![4, 512]⟩
abbrev S1x512 : Shape := ⟨2, ![1, 512]⟩
abbrev S512x512 : Shape := ⟨2, ![512, 512]⟩
abbrev S8x512 : Shape := ⟨2, ![8, 512]⟩
abbrev S520x512 : Shape := ⟨2, ![520, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x1536, .f32⟩
  | .hbm, ⟨1, _⟩ => ⟨S4x1536, .f32⟩
  | .hbm, ⟨2, _⟩ => ⟨S1x1536, .f32⟩
  | .hbm, ⟨3, _⟩ => ⟨S4x2048x1536, .f32⟩
  | .hbm, ⟨4, _⟩ => ⟨S4x2048x1536, .f32⟩
  | .local _ .vmem, ⟨0, _⟩ => ⟨S1x512x512, .f32⟩
  | .local _ .vmem, ⟨1, _⟩ => ⟨S1x512x512, .f32⟩
  | .local _ .vmem, ⟨2, _⟩ => ⟨S1x8x512, .f32⟩
  | .local _ .vmem, ⟨3, _⟩ => ⟨S1x8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S1x512x512, .f32⟩
  | .local _ .vmem, ⟨9, _⟩ => ⟨S1x512x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![3, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg2 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg1.toNat, v2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ConvFwdRefIdeal.lean ====
abbrev S8192x1536 : Shape := ⟨2, ![8192, 1536]⟩
abbrev S4x1536 : Shape := ⟨2, ![4, 1536]⟩
abbrev S1x1536 : Shape := ⟨2, ![1, 1536]⟩
abbrev S4x2048x1536 : Shape := ⟨3, ![4, 2048, 1536]⟩
abbrev S1536 : Shape := ⟨1, ![1536]⟩
abbrev S_ : Shape := ⟨0, ![]⟩
abbrev S4x2051x1536 : Shape := ⟨3, ![4, 2051, 1536]⟩
abbrev S1x1x1536 : Shape := ⟨3, ![1, 1, 1536]⟩

abbrev nBuf : Space → Nat
  | .hbm => 47
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S4x1536, .f32⟩
  | .hbm, ⟨2, _⟩ => ⟨S1x1536, .f32⟩
  | .hbm, ⟨3, _⟩ => ⟨S4x2048x1536, .f32⟩
  | .hbm, ⟨4, _⟩ => ⟨S1536, .f32⟩
  | .hbm, ⟨5, _⟩ => ⟨S_, .i32⟩
  | .hbm, ⟨6, _⟩ => ⟨S_, .f32⟩
  | .hbm, ⟨7, _⟩ => ⟨S4x2051x1536, .f32⟩
  | .hbm, ⟨8, _⟩ => ⟨S4x2048x1536, .f32⟩
  | .hbm, ⟨9, _⟩ => ⟨S1x1536, .f32⟩
  | .hbm, ⟨10, _⟩ => ⟨S1536, .f32⟩
  | .hbm, ⟨11, _⟩ => ⟨S1x1x1536, .f32⟩
  | .hbm, ⟨12, _⟩ => ⟨S4x2048x1536, .f32⟩
  | .hbm, ⟨13, _⟩ => ⟨S4x2048x1536, .f32⟩
  | .hbm, ⟨14, _⟩ => ⟨S4x2048x1536, .f32⟩
  | .hbm, ⟨15, _⟩ => ⟨S1x1536, .f32⟩
  | .hbm, ⟨16, _⟩ => ⟨S1536, .f32⟩
  | .hbm, ⟨17, _⟩ => ⟨S1x1x1536, .f32⟩
  | .hbm, ⟨18, _⟩ => ⟨S4x2048x1536, .f32⟩
  | .hbm, ⟨19, _⟩ => ⟨S4x2048x1536, .f32⟩
  | .hbm, ⟨20, _⟩ => ⟨S4x2048x1536, .f32⟩
  | .hbm, ⟨21, _⟩ => ⟨S4x2048x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S4x2048x1536, .f32⟩
  | .hbm, ⟨26, _⟩ => ⟨S4x2048x1536, .f32⟩
  | .hbm, ⟨27, _⟩ => ⟨S4x2048x1536, .f32⟩
  | .hbm, ⟨28, _⟩ => ⟨S4x2048x1536, .f32⟩
  | .hbm, ⟨29, _⟩ => ⟨S1x1536, .f32⟩
  | .hbm, ⟨30, _⟩ => ⟨S1536, .f32⟩
  | .hbm, ⟨31, _⟩ => ⟨S1x1x1536, .f32⟩
  | .hbm, ⟨32, _⟩ => ⟨S4x2048x1536, .f32⟩
  | .hbm, ⟨33, _⟩ => ⟨S4x2048x1536, .f32⟩
  | .hbm, ⟨34, _⟩ => ⟨S4x2048x1536, .f32⟩
  | .hbm, ⟨35, _⟩ => ⟨S1x1x1536, .f32⟩
  | .hbm, ⟨36, _⟩ => ⟨S4x2048x1536, .f32⟩
  | .hbm, ⟨37, _⟩ => ⟨S4x2048x1536, .f32⟩
  | .hbm, ⟨38, _⟩ => ⟨S4x2048x1536, .f32⟩
  | .hbm, ⟨39, _⟩ => ⟨S4x2048x1536, .f32⟩
  | .hbm, ⟨40, _⟩ => ⟨S_, .f32⟩
  | .hbm, ⟨41, _⟩ => ⟨S4x2048x1536, .f32⟩
  | .hbm, ⟨42, _⟩ => ⟨S4x2048x1536, .f32⟩
  | .hbm, ⟨43, _⟩ => ⟨S_, .f32⟩
  | .hbm, ⟨44, _⟩ => ⟨S4x2048x1536, .f32⟩
  | .hbm, ⟨45, _⟩ => ⟨S4x2048x1536, .f32⟩
  | .hbm, ⟨46, _⟩ => ⟨S4x2048x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== GateBwd.lean ====
abbrev S8192x2048 : Shape := ⟨2, ![8192, 2048]⟩
abbrev S8192x1024 : Shape := ⟨2, ![8192, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateBwdRefIdeal.lean ====
abbrev S8192x2048 : Shape := ⟨2, ![8192, 2048]⟩
abbrev S8192x1024 : Shape := ⟨2, ![8192, 1024]⟩
abbrev S1x1024 : Shape := ⟨2, ![1, 1024]⟩
abbrev S_ : Shape := ⟨0, ![]⟩
abbrev S8192x2x512 : Shape := ⟨3, ![8192, 2, 512]⟩
abbrev S8192x2 : Shape := ⟨2, ![8192, 2]⟩
abbrev S8192x2x1 : Shape := ⟨3, ![8192, 2, 1]⟩
abbrev S1024 : Shape := ⟨1, ![1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2x512, .f32⟩
  | .hbm, ⟨19, _⟩ => ⟨S8192x2x512, .f32⟩
  | .hbm, ⟨20, _⟩ => ⟨S_, .f32⟩
  | .hbm, ⟨21, _⟩ => ⟨S8192x2, .f32⟩
  | .hbm, ⟨22, _⟩ => ⟨S8192x2x1, .f32⟩
  | .hbm, ⟨23, _⟩ => ⟨S_, .f32⟩
  | .hbm, ⟨24, _⟩ => ⟨S8192x2x1, .f32⟩
  | .hbm, ⟨25, _⟩ => ⟨S8192x2x1, .f32⟩
  | .hbm, ⟨26, _⟩ => ⟨S_, .f32⟩
  | .hbm, ⟨27, _⟩ => ⟨S8192x2x1, .f32⟩
  | .hbm, ⟨28, _⟩ => ⟨S8192x2x1, .f32⟩
  | .hbm, ⟨29, _⟩ => ⟨S8192x2x1, .f32⟩
  | .hbm, ⟨30, _⟩ => ⟨S8192x2x1, .f32⟩
  | .hbm, ⟨31, _⟩ => ⟨S_, .f32⟩
  | .hbm, ⟨32, _⟩ => ⟨S8192x2x1, .f32⟩
  | .hbm, ⟨33, _⟩ => ⟨S8192x2x1, .f32⟩
  | .hbm, ⟨34, _⟩ => ⟨S8192x2x512, .f32⟩
  | .hbm, ⟨35, _⟩ => ⟨S8192x2x512, .f32⟩
  | .hbm, ⟨36, _⟩ => ⟨S8192x1024, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x2x512, .f32⟩
  | .hbm, ⟨52, _⟩ => ⟨S8192x2x512, .f32⟩
  | .hbm, ⟨53, _⟩ => ⟨S_, .f32⟩
  | .hbm, ⟨54, _⟩ => ⟨S8192x2, .f32⟩
  | .hbm, ⟨55, _⟩ => ⟨S8192x2x1, .f32⟩
  | .hbm, ⟨56, _⟩ => ⟨S8192x2x512, .f32⟩
  | .hbm, ⟨57, _⟩ => ⟨S8192x2x512, .f32⟩
  | .hbm, ⟨58, _⟩ => ⟨S8192x2x1, .f32⟩
  | .hbm, ⟨59, _⟩ => ⟨S_, .f32⟩
  | .hbm, ⟨60, _⟩ => ⟨S8192x2x1, .f32⟩
  | .hbm, ⟨61, _⟩ => ⟨S8192x2x1, .f32⟩
  | .hbm, ⟨62, _⟩ => ⟨S_, .f32⟩
  | .hbm, ⟨63, _⟩ => ⟨S8192x2, .f32⟩
  | .hbm, ⟨64, _⟩ => ⟨S8192x2x512, .f32⟩
  | .hbm, ⟨65, _⟩ => ⟨S8192x2x512, .f32⟩
  | .hbm, ⟨66, _⟩ => ⟨S8192x2x512, .f32⟩
  | .hbm, ⟨67, _⟩ => ⟨S8192x2x512, .f32⟩
  | .hbm, ⟨68, _⟩ => ⟨S8192x2x512, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== AttFwd.lean ====
abbrev S8192x1024 : Shape := ⟨2, ![8192, 1024]⟩
abbrev S4x16x2048 : Shape := ⟨3, ![4, 16, 2048]⟩
abbrev S8192x2048 : Shape := ⟨2, ![8192, 2048]⟩
abbrev S8192x3072 : Shape := ⟨2, ![8192, 3072]⟩
abbrev S4x2048x16 : Shape := ⟨3, ![4, 2048, 16]⟩
abbrev S8192x8x2 : Shape := ⟨3, ![8192, 8, 2]⟩
abbrev S8192x8x128 : Shape := ⟨3, ![8192, 8, 128]⟩
abbrev S_ : Shape := ⟨0, ![]⟩
abbrev S8192x8x1 : Shape := ⟨3, ![8192, 8, 1]⟩
abbrev S4x8x8x2048 : Shape := ⟨4, ![4, 8, 8, 2048]⟩
abbrev S2048x128 : Shape := ⟨2, ![2048, 128]⟩
abbrev S1x1x8x2048 : Shape := ⟨4, ![1, 1, 8, 2048]⟩
abbrev S2x2048x128 : Shape := ⟨3, ![2, 2048, 128]⟩
abbrev S128x2048 : Shape := ⟨2, ![128, 2048]⟩
abbrev S1x128 : Shape := ⟨2, ![1, 128]⟩
abbrev S1x2048x128 : Shape := ⟨3, ![1, 2048, 128]⟩
abbrev S256x2048 : Shape := ⟨2, ![256, 2048]⟩
abbrev S1x2048 : Shape := ⟨2, ![1, 2048]⟩
abbrev S64x2048 : Shape := ⟨2, ![64, 2048]⟩
abbrev S1x256x128 : Shape := ⟨3, ![1, 256, 128]⟩
abbrev S256x128 : Shape := ⟨2, ![256, 128]⟩
abbrev S2048 : Shape := ⟨1, ![2048]⟩
abbrev S64x256 : Shape := ⟨2, ![64, 256]⟩
abbrev S1x1792x128 : Shape := ⟨3, ![1, 1792, 128]⟩
abbrev S1792x128 : Shape := ⟨2, ![1792, 128]⟩
abbrev S256x1792 : Shape := ⟨2, ![256, 1792]⟩
abbrev S1x1536x128 : Shape := ⟨3, ![1, 1536, 128]⟩
abbrev S1536x128 : Shape := ⟨2, ![1536, 128]⟩
abbrev S256x1536 : Shape := ⟨2, ![256, 1536]⟩
abbrev S1x1792 : Shape := ⟨2, ![1, 1792]⟩
abbrev S64x1792 : Shape := ⟨2, ![64, 1792]⟩
abbrev S1792 : Shape := ⟨1, ![1792]⟩
abbrev S1x256 : Shape := ⟨2, ![1, 256]⟩
abbrev S1x1280x128 : Shape := ⟨3, ![1, 1280, 128]⟩
abbrev S1280x128 : Shape := ⟨2, ![1280, 128]⟩
abbrev S256x1280 : Shape := ⟨2, ![256, 1280]⟩
abbrev S1x1536 : Shape := ⟨2, ![1, 1536]⟩
abbrev S64x1536 : Shape := ⟨2, ![64, 1536]⟩
abbrev S1536 : Shape := ⟨1, ![1536]⟩
abbrev S1x512 : Shape := ⟨2, ![1, 512]⟩
abbrev S64x512 : Shape := ⟨2, ![64, 512]⟩
abbrev S1x1024x128 : Shape := ⟨3, ![1, 1024, 128]⟩
abbrev S1024x128 : Shape := ⟨2, ![1024, 128]⟩
abbrev S256x1024 : Shape := ⟨2, ![256, 1024]⟩
abbrev S1x1280 : Shape := ⟨2, ![1, 1280]⟩
abbrev S64x1280 : Shape := ⟨2, ![64, 1280]⟩
abbrev S1280 : Shape := ⟨1, ![1280]⟩
abbrev S1x768 : Shape := ⟨2, ![1, 768]⟩
abbrev S64x768 : Shape := ⟨2, ![64, 768]⟩
abbrev S1x768x128 : Shape := ⟨3, ![1, 768, 128]⟩
abbrev S768x128 : Shape := ⟨2, ![768, 128]⟩
abbrev S256x768 : Shape := ⟨2, ![256, 768]⟩
abbrev S1x1024 : Shape := ⟨2, ![1, 1024]⟩
abbrev S64x1024 : Shape := ⟨2, ![64, 1024]⟩
abbrev S1024 : Shape := ⟨1, ![1024]⟩
abbrev S1x512x128 : Shape := ⟨3, ![1, 512, 128]⟩
abbrev S512x128 : Shape := ⟨2, ![512, 128]⟩
abbrev S256x512 : Shape := ⟨2, ![256, 512]⟩
abbrev S768 : Shape := ⟨1, ![768]⟩
abbrev S256x256 : Shape := ⟨2, ![256, 256]⟩
abbrev S512 : Shape := ⟨1, ![512]⟩
abbrev S256 : Shape := ⟨1, ![256]⟩
abbrev S1x1x1x2048 : Shape := ⟨4, ![1, 1, 1, 2048]⟩

abbrev nBuf : Space → Nat
  | .hbm => 52
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x16x2048, .f32⟩
  | .hbm, ⟨4, _⟩ => ⟨S8192x2048, .f32⟩
  | .hbm, ⟨5, _⟩ => ⟨S8192x3072, .f32⟩
  | .hbm, ⟨6, _⟩ => ⟨S8192x3072, .bf16⟩
  | .hbm, ⟨7, _⟩ => ⟨S4x2048x16, .f32⟩
  | .hbm, ⟨8, _⟩ => ⟨S8192x8x2, .f32⟩
  | .hbm, ⟨9, _⟩ => ⟨S8192x8x2, .f32⟩
  | .hbm, ⟨10, _⟩ => ⟨S8192x8x128, .i32⟩
  | .hbm, ⟨11, _⟩ => ⟨S_, .i32⟩
  | .hbm, ⟨12, _⟩ => ⟨S8192x8x128, .i32⟩
  | .hbm, ⟨13, _⟩ => ⟨S8192x8x128, .i1⟩
  | .hbm, ⟨14, _⟩ => ⟨S8192x8x1, .f32⟩
  | .hbm, ⟨15, _⟩ => ⟨S8192x8x1, .f32⟩
  | .hbm, ⟨16, _⟩ => ⟨S8192x8x128, .f32⟩
  | .hbm, ⟨17, _⟩ => ⟨S8192x8x128, .f32⟩
  | .hbm, ⟨18, _⟩ => ⟨S8192x8x128, .f32⟩
  | .hbm, ⟨19, _⟩ => ⟨S8192x8x128, .bf16⟩
  | .hbm, ⟨20, _⟩ => ⟨S8192x8x128, .f32⟩
  | .hbm, ⟨21, _⟩ => ⟨S8192x8x128, .f32⟩
  | .hbm, ⟨22, _⟩ => ⟨S8192x8x128, .bf16⟩
  | .hbm, ⟨23, _⟩ => ⟨S8192x8x128, .f32⟩
  | .hbm, ⟨24, _⟩ => ⟨S8192x8x128, .f32⟩
  | .hbm, ⟨25, _⟩ => ⟨S8192x8x128, .bf16⟩
  | .hbm, ⟨26, _⟩ => ⟨S_, .i32⟩
  | .hbm, ⟨27, _⟩ => ⟨S8192x8x128, .i32⟩
  | .hbm, ⟨28, _⟩ => ⟨S8192x8x128, .i32⟩
  | .hbm, ⟨29, _⟩ => ⟨S_, .bf16⟩
  | .hbm, ⟨30, _⟩ => ⟨S8192x8x128, .bf16⟩
  | .hbm, ⟨31, _⟩ => ⟨S_, .i32⟩
  | .hbm, ⟨32, _⟩ => ⟨S8192x8x128, .i32⟩
  | .hbm, ⟨33, _⟩ => ⟨S8192x8x128, .i1⟩
  | .hbm, ⟨34, _⟩ => ⟨S_, .i32⟩
  | .hbm, ⟨35, _⟩ => ⟨S8192x8x128, .i32⟩
  | .hbm, ⟨36, _⟩ => ⟨S8192x8x128, .i1⟩
  | .hbm, ⟨37, _⟩ => ⟨S_, .i32⟩
  | .hbm, ⟨38, _⟩ => ⟨S8192x8x128, .i32⟩
  | .hbm, ⟨39, _⟩ => ⟨S8192x8x128, .i1⟩
  | .hbm, ⟨40, _⟩ => ⟨S_, .i32⟩
  | .hbm, ⟨41, _⟩ => ⟨S8192x8x128, .i32⟩
  | .hbm, ⟨42, _⟩ => ⟨S8192x8x128, .i1⟩
  | .hbm, ⟨43, _⟩ => ⟨S_, .bf16⟩
  | .hbm, ⟨44, _⟩ => ⟨S8192x8x128, .bf16⟩
  | .hbm, ⟨45, _⟩ => ⟨S8192x8x128, .bf16⟩
  | .hbm, ⟨46, _⟩ => ⟨S8192x8x128, .bf16⟩
  | .hbm, ⟨47, _⟩ => ⟨S8192x8x128, .bf16⟩
  | .hbm, ⟨48, _⟩ => ⟨S8192x8x128, .bf16⟩
  | .hbm, ⟨49, _⟩ => ⟨S8192x1024, .bf16⟩
  | .hbm, ⟨50, _⟩ => ⟨S8192x1024, .f32⟩
  | .hbm, ⟨51, _⟩ => ⟨S4x8x8x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S1x1x8x2048, .f32⟩
  | .local _ .vmem, ⟨11, _⟩ => ⟨S1x1x8x2048, .f32⟩
  | .local _ .vmem, ⟨12, _⟩ => ⟨S2x2048x128, .bf16⟩
  | .local _ .vmem, ⟨13, _⟩ => ⟨S2x2048x128, .bf16⟩
  | .local _ .vmem, ⟨14, _⟩ => ⟨S128x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_mult1 : BitVec 32 :=
  let c0_i32_42 : BitVec 32 := 0#32
  let c2048_i32 : BitVec 32 := 2048#32
  let v97 : BitVec 32 := Scalar.muli c0_i32_42 c2048_i32
  v97
def k0_mult2 : BitVec 32 :=
  let c0_i32_51 : BitVec 32 := 0#32
  c0_i32_51
def k0_off1 : Fin 3 → Nat :=
  let c0_54 : Index := 0#32
  let c0_i32_42 : BitVec 32 := 0#32
  let c2048_i32 : BitVec 32 := 2048#32
  let v97 : BitVec 32 := Scalar.muli c0_i32_42 c2048_i32
  let v98 : BitVec 32 := v97
  let v124 : Index := Scalar.indexCast v98
  let c0_55 : Index := 0#32
  ![0, v124.toNat, 0]
def k0_off2 : Fin 3 → Nat :=
  let c1_59 : Index := 1#32
  let c0_i32_42 : BitVec 32 := 0#32
  let c2048_i32 : BitVec 32 := 2048#32
  let v97 : BitVec 32 := Scalar.muli c0_i32_42 c2048_i32
  let v98 : BitVec 32 := v97
  let v131 : Index := Scalar.indexCast v98
  let c0_60 : Index := 0#32
  ![1, v131.toNat, 0]
@[reducible] def k0_t1_loop : Scf.Loop 32 :=
  let c0_i32_62 : BitVec 32 := 0#32
  let c0_i32_42 : BitVec 32 := 0#32
  let c8_i32 : BitVec 32 := 8#32
  let v102 : BitVec 32 := Scalar.muli c0_i32_42 c8_i32
  let c0_i32_46 : BitVec 32 := 0#32
  let v104 : BitVec 1 := Scalar.cmpi .sgt v102 c0_i32_46
  let v105 : BitVec 32 := Scalar.extui v104
  let c0_i32_47 : BitVec 32 := 0#32
  let v106 : BitVec 1 := Scalar.cmpi .slt v102 c0_i32_47
  let v107 : BitVec 32 := Scalar.extui v106
  let v108 : BitVec 32 := Scalar.subi v105 v107
  let c2_i32 : BitVec 32 := 2#32
  let c0_i32_48 : BitVec 32 := 0#32
  let v109 : BitVec 1 := Scalar.cmpi .sgt c2_i32 c0_i32_48
  let v110 : BitVec 32 := Scalar.extui v109
  let c0_i32_49 : BitVec 32 := 0#32
  let v111 : BitVec 1 := Scalar.cmpi .slt c2_i32 c0_i32_49
  let v112 : BitVec 32 := Scalar.extui v111
  let v113 : BitVec 32 := Scalar.subi v110 v112
  let v114 : BitVec 1 := Scalar.cmpi .ne v108 v113
  let v115 : BitVec 32 := Scalar.remsi v102 c2_i32
  let c0_i32_50 : BitVec 32 := 0#32
  let v116 : BitVec 1 := Scalar.cmpi .ne v115 c0_i32_50
  let v117 : BitVec 1 := Scalar.andi v114 v116
  let v103 : BitVec 32 := Scalar.divsi v102 c2_i32
  let c1_i32 : BitVec 32 := 1#32
  let v118 : BitVec 32 := Scalar.subi v103 c1_i32
  let v119 : BitVec 32 := Scalar.select v117 v118 v103
  let v135 : BitVec 32 := Scalar.subi v119 c0_i32_62
  let c1_i32_63 : BitVec 32 := 1#32
  let v137 : BitVec 32 := Scalar.divsi v135 c1_i32_63
  let v138 : BitVec 32 := Scalar.muli v137 c1_i32_63
  let v139 : BitVec 32 := Scalar.addi c0_i32_62 v138
  let c1_i32_64 : BitVec 32 := 1#32
  ⟨c0_i32_62, v139, c1_i32_64⟩
def k0_mult3 (k0_t1 : Fin k0_t1_loop.trips) : BitVec 32 :=
  let c2_i32_281 : BitVec 32 := 2#32
  let c0_i32_62 : BitVec 32 := 0#32
  let c1_i32_64 : BitVec 32 := 1#32
  let arg11 : BitVec 32 := Scf.iv c0_i32_62 c1_i32_64 k0_t1
  let v845 : BitVec 32 := Scalar.muli c2_i32_281 arg11
  let c1_i32_282 : BitVec 32 := 1#32
  let v846 : BitVec 32 := Scalar.addi v845 c1_i32_282
  let c256_i32_283 : BitVec 32 := 256#32
  let v847 : BitVec 32 := Scalar.muli v846 c256_i32_283
  v847
def k0_off3 (k0_t1 : Fin k0_t1_loop.trips) (c1_i32_282 : BitVec 32) : Fin 3 → Nat :=
  let c0_284 : Index := 0#32
  let c2_i32_281 : BitVec 32 := 2#32
  let c0_i32_62 : BitVec 32 := 0#32
  let c1_i32_64 : BitVec 32 := 1#32
  let arg11 : BitVec 32 := Scf.iv c0_i32_62 c1_i32_64 k0_t1
  let v845 : BitVec 32 := Scalar.muli c2_i32_281 arg11
  let v846 : BitVec 32 := Scalar.addi v845 c1_i32_282
  let c256_i32_283 : BitVec 32 := 256#32
  let v847 : BitVec 32 := Scalar.muli v846 c256_i32_283
  let v848 : BitVec 32 := v847
  let v849 : Index := Scalar.indexCast v848
  let c0_285 : Index := 0#32
  ![0, v849.toNat, 0]
def k0_off4 : Fin 3 → Nat :=
  let c0_286 : Index := 0#32
  let c0_i32_42 : BitVec 32 := 0#32
  let c2048_i32 : BitVec 32 := 2048#32
  let v97 : BitVec 32 := Scalar.muli c0_i32_42 c2048_i32
  let v98 : BitVec 32 := v97
  let v852 : Index := Scalar.indexCast v98
  let c0_287 : Index := 0#32
  ![0, v852.toNat, 0]
def k0_off5 (k0_t1 : Fin k0_t1_loop.trips) (c1_i32_282 : BitVec 32) : Fin 3 → Nat :=
  let c1_289 : Index := 1#32
  let c2_i32_281 : BitVec 32 := 2#32
  let c0_i32_62 : BitVec 32 := 0#32
  let c1_i32_64 : BitVec 32 := 1#32
  let arg11 : BitVec 32 := Scf.iv c0_i32_62 c1_i32_64 k0_t1
  let v845 : BitVec 32 := Scalar.muli c2_i32_281 arg11
  let v846 : BitVec 32 := Scalar.addi v845 c1_i32_282
  let c256_i32_283 : BitVec 32 := 256#32
  let v847 : BitVec 32 := Scalar.muli v846 c256_i32_283
  let v848 : BitVec 32 := v847
  let v856 : Index := Scalar.indexCast v848
  let c0_290 : Index := 0#32
  ![1, v856.toNat, 0]
def k0_off6 : Fin 3 → Nat :=
  let c1_291 : Index := 1#32
  let c0_i32_42 : BitVec 32 := 0#32
  let c2048_i32 : BitVec 32 := 2048#32
  let v97 : BitVec 32 := Scalar.muli c0_i32_42 c2048_i32
  let v98 : BitVec 32 := v97
  let v859 : Index := Scalar.indexCast v98
  let c0_292 : Index := 0#32
  ![1, v859.toNat, 0]
def k0_mult4 (k0_t1 : Fin k0_t1_loop.trips) : BitVec 32 :=
  let c2_i32_294 : BitVec 32 := 2#32
  let c0_i32_62 : BitVec 32 := 0#32
  let c1_i32_64 : BitVec 32 := 1#32
  let arg11 : BitVec 32 := Scf.iv c0_i32_62 c1_i32_64 k0_t1
  let v863 : BitVec 32 := Scalar.muli c2_i32_294 arg11
  let c2_i32_295 : BitVec 32 := 2#32
  let v864 : BitVec 32 := Scalar.addi v863 c2_i32_295
  let c256_i32_296 : BitVec 32 := 256#32
  let v865 : BitVec 32 := Scalar.muli v864 c256_i32_296
  v865
def k0_mult5 (k0_t1 : Fin k0_t1_loop.trips) : BitVec 32 :=
  let c2_i32_307 : BitVec 32 := 2#32
  let c0_i32_62 : BitVec 32 := 0#32
  let c1_i32_64 : BitVec 32 := 1#32
  let arg11 : BitVec 32 := Scf.iv c0_i32_62 c1_i32_64 k0_t1
  let v881 : BitVec 32 := Scalar.muli c2_i32_307 arg11
  let c256_i32_308 : BitVec 32 := 256#32
  let v882 : BitVec 32 := Scalar.muli v881 c256_i32_308
  v882
def k0_off7 (k0_t1 : Fin k0_t1_loop.trips) : Fin 2 → Nat :=
  let c0_311 : Index := 0#32
  let c2_i32_307 : BitVec 32 := 2#32
  let c0_i32_62 : BitVec 32 := 0#32
  let c1_i32_64 : BitVec 32 := 1#32
  let arg11 : BitVec 32 := Scf.iv c0_i32_62 c1_i32_64 k0_t1
  let v881 : BitVec 32 := Scalar.muli c2_i32_307 arg11
  let c256_i32_308 : BitVec 32 := 256#32
  let v882 : BitVec 32 := Scalar.muli v881 c256_i32_308
  let v883 : BitVec 32 := v882
  let v896 : Index := Scalar.indexCast v883
  ![0, v896.toNat]
def k0_off8 (k0_t1 : Fin k0_t1_loop.trips) : Fin 2 → Nat :=
  let c64_315 : Index := 64#32
  let c2_i32_307 : BitVec 32 := 2#32
  let c0_i32_62 : BitVec 32 := 0#32
  let c1_i32_64 : BitVec 32 := 1#32
  let arg11 : BitVec 32 := Scf.iv c0_i32_62 c1_i32_64 k0_t1
  let v881 : BitVec 32 := Scalar.muli c2_i32_307 arg11
  let c256_i32_308 : BitVec 32 := 256#32
  let v882 : BitVec 32 := Scalar.muli v881 c256_i32_308
  let v883 : BitVec 32 := v882
  let v915 : Index := Scalar.indexCast v883
  ![64, v915.toNat]
def k0_mult6 (k0_t1 : Fin k0_t1_loop.trips) : BitVec 32 :=
  let c2_i32_317 : BitVec 32 := 2#32
  let c0_i32_62 : BitVec 32 := 0#32
  let c1_i32_64 : BitVec 32 := 1#32
  let arg11 : BitVec 32 := Scf.iv c0_i32_62 c1_i32_64 k0_t1
  let v922 : BitVec 32 := Scalar.muli c2_i32_317 arg11
  let c1_i32_318 : BitVec 32 := 1#32
  let v923 : BitVec 32 := Scalar.addi v922 c1_i32_318
  let c256_i32_319 : BitVec 32 := 256#32
  let v924 : BitVec 32 := Scalar.muli v923 c256_i32_319
  v924
def k0_off9 (k0_t1 : Fin k0_t1_loop.trips) : Fin 2 → Nat :=
  let c0_322 : Index := 0#32
  let c2_i32_317 : BitVec 32 := 2#32
  let c0_i32_62 : BitVec 32 := 0#32
  let c1_i32_64 : BitVec 32 := 1#32
  let arg11 : BitVec 32 := Scf.iv c0_i32_62 c1_i32_64 k0_t1
  let v922 : BitVec 32 := Scalar.muli c2_i32_317 arg11
  let c1_i32_318 : BitVec 32 := 1#32
  let v923 : BitVec 32 := Scalar.addi v922 c1_i32_318
  let c256_i32_319 : BitVec 32 := 256#32
  let v924 : BitVec 32 := Scalar.muli v923 c256_i32_319
  let v925 : BitVec 32 := v924
  let v938 : Index := Scalar.indexCast v925
  ![0, v938.toNat]
def k0_off10 (k0_t1 : Fin k0_t1_loop.trips) : Fin 2 → Nat :=
  let c64_326 : Index := 64#32
  let c2_i32_317 : BitVec 32 := 2#32
  let c0_i32_62 : BitVec 32 := 0#32
  let c1_i32_64 : BitVec 32 := 1#32
  let arg11 : BitVec 32 := Scf.iv c0_i32_62 c1_i32_64 k0_t1
  let v922 : BitVec 32 := Scalar.muli c2_i32_317 arg11
  let c1_i32_318 : BitVec 32 := 1#32
  let v923 : BitVec 32 := Scalar.addi v922 c1_i32_318
  let c256_i32_319 : BitVec 32 := 256#32
  let v924 : BitVec 32 := Scalar.muli v923 c256_i32_319
  let v925 : BitVec 32 := v924
  let v957 : Index := Scalar.indexCast v925
  ![64, v957.toNat]
@[reducible] def k0_t2_loop : Scf.Loop 32 :=
  let c0_i32_62 : BitVec 32 := 0#32
  let c0_i32_42 : BitVec 32 := 0#32
  let c8_i32 : BitVec 32 := 8#32
  let v102 : BitVec 32 := Scalar.muli c0_i32_42 c8_i32
  let c0_i32_46 : BitVec 32 := 0#32
  let v104 : BitVec 1 := Scalar.cmpi .sgt v102 c0_i32_46
  let v105 : BitVec 32 := Scalar.extui v104
  let c0_i32_47 : BitVec 32 := 0#32
  let v106 : BitVec 1 := Scalar.cmpi .slt v102 c0_i32_47
  let v107 : BitVec 32 := Scalar.extui v106
  let v108 : BitVec 32 := Scalar.subi v105 v107
  let c2_i32 : BitVec 32 := 2#32
  let c0_i32_48 : BitVec 32 := 0#32
  let v109 : BitVec 1 := Scalar.cmpi .sgt c2_i32 c0_i32_48
  let v110 : BitVec 32 := Scalar.extui v109
  let c0_i32_49 : BitVec 32 := 0#32
  let v111 : BitVec 1 := Scalar.cmpi .slt c2_i32 c0_i32_49
  let v112 : BitVec 32 := Scalar.extui v111
  let v113 : BitVec 32 := Scalar.subi v110 v112
  let v114 : BitVec 1 := Scalar.cmpi .ne v108 v113
  let v115 : BitVec 32 := Scalar.remsi v102 c2_i32
  let c0_i32_50 : BitVec 32 := 0#32
  let v116 : BitVec 1 := Scalar.cmpi .ne v115 c0_i32_50
  let v117 : BitVec 1 := Scalar.andi v114 v116
  let v103 : BitVec 32 := Scalar.divsi v102 c2_i32
  let c1_i32 : BitVec 32 := 1#32
  let v118 : BitVec 32 := Scalar.subi v103 c1_i32
  let v119 : BitVec 32 := Scalar.select v117 v118 v103
  let v135 : BitVec 32 := Scalar.subi v119 c0_i32_62
  let c1_i32_63 : BitVec 32 := 1#32
  let v137 : BitVec 32 := Scalar.divsi v135 c1_i32_63
  let v138 : BitVec 32 := Scalar.muli v137 c1_i32_63
  let v139 : BitVec 32 := Scalar.addi c0_i32_62 v138
  let v136 : BitVec 32 := Scalar.addi c0_i32_62 v135
  let c1_i32_65 : BitVec 32 := 1#32
  ⟨v139, v136, c1_i32_65⟩
def k0_mult7 (k0_t2 : Fin k0_t2_loop.trips) : BitVec 32 :=
  let c2_i32_281 : BitVec 32 := 2#32
  let c0_i32_62 : BitVec 32 := 0#32
  let c0_i32_42 : BitVec 32 := 0#32
  let c8_i32 : BitVec 32 := 8#32
  let v102 : BitVec 32 := Scalar.muli c0_i32_42 c8_i32
  let c0_i32_46 : BitVec 32 := 0#32
  let v104 : BitVec 1 := Scalar.cmpi .sgt v102 c0_i32_46
  let v105 : BitVec 32 := Scalar.extui v104
  let c0_i32_47 : BitVec 32 := 0#32
  let v106 : BitVec 1 := Scalar.cmpi .slt v102 c0_i32_47
  let v107 : BitVec 32 := Scalar.extui v106
  let v108 : BitVec 32 := Scalar.subi v105 v107
  let c2_i32 : BitVec 32 := 2#32
  let c0_i32_48 : BitVec 32 := 0#32
  let v109 : BitVec 1 := Scalar.cmpi .sgt c2_i32 c0_i32_48
  let v110 : BitVec 32 := Scalar.extui v109
  let c0_i32_49 : BitVec 32 := 0#32
  let v111 : BitVec 1 := Scalar.cmpi .slt c2_i32 c0_i32_49
  let v112 : BitVec 32 := Scalar.extui v111
  let v113 : BitVec 32 := Scalar.subi v110 v112
  let v114 : BitVec 1 := Scalar.cmpi .ne v108 v113
  let v115 : BitVec 32 := Scalar.remsi v102 c2_i32
  let c0_i32_50 : BitVec 32 := 0#32
  let v116 : BitVec 1 := Scalar.cmpi .ne v115 c0_i32_50
  let v117 : BitVec 1 := Scalar.andi v114 v116
  let v103 : BitVec 32 := Scalar.divsi v102 c2_i32
  let c1_i32 : BitVec 32 := 1#32
  let v118 : BitVec 32 := Scalar.subi v103 c1_i32
  let v119 : BitVec 32 := Scalar.select v117 v118 v103
  let v135 : BitVec 32 := Scalar.subi v119 c0_i32_62
  let c1_i32_63 : BitVec 32 := 1#32
  let v137 : BitVec 32 := Scalar.divsi v135 c1_i32_63
  let v138 : BitVec 32 := Scalar.muli v137 c1_i32_63
  let v139 : BitVec 32 := Scalar.addi c0_i32_62 v138
  let c1_i32_65 : BitVec 32 := 1#32
  let arg11 : BitVec 32 := Scf.iv v139 c1_i32_65 k0_t2
  let v845 : BitVec 32 := Scalar.muli c2_i32_281 arg11
  let c1_i32_282 : BitVec 32 := 1#32
  let v846 : BitVec 32 := Scalar.addi v845 c1_i32_282
  let c256_i32_283 : BitVec 32 := 256#32
  let v847 : BitVec 32 := Scalar.muli v846 c256_i32_283
  v847
def k0_off11 (k0_t2 : Fin k0_t2_loop.trips) (c1_i32_282 : BitVec 32) : Fin 3 → Nat :=
  let c0_284 : Index := 0#32
  let c2_i32_281 : BitVec 32 := 2#32
  let c0_i32_62 : BitVec 32 := 0#32
  let c0_i32_42 : BitVec 32 := 0#32
  let c8_i32 : BitVec 32 := 8#32
  let v102 : BitVec 32 := Scalar.muli c0_i32_42 c8_i32
  let c0_i32_46 : BitVec 32 := 0#32
  let v104 : BitVec 1 := Scalar.cmpi .sgt v102 c0_i32_46
  let v105 : BitVec 32 := Scalar.extui v104
  let c0_i32_47 : BitVec 32 := 0#32
  let v106 : BitVec 1 := Scalar.cmpi .slt v102 c0_i32_47
  let v107 : BitVec 32 := Scalar.extui v106
  let v108 : BitVec 32 := Scalar.subi v105 v107
  let c2_i32 : BitVec 32 := 2#32
  let c0_i32_48 : BitVec 32 := 0#32
  let v109 : BitVec 1 := Scalar.cmpi .sgt c2_i32 c0_i32_48
  let v110 : BitVec 32 := Scalar.extui v109
  let c0_i32_49 : BitVec 32 := 0#32
  let v111 : BitVec 1 := Scalar.cmpi .slt c2_i32 c0_i32_49
  let v112 : BitVec 32 := Scalar.extui v111
  let v113 : BitVec 32 := Scalar.subi v110 v112
  let v114 : BitVec 1 := Scalar.cmpi .ne v108 v113
  let v115 : BitVec 32 := Scalar.remsi v102 c2_i32
  let c0_i32_50 : BitVec 32 := 0#32
  let v116 : BitVec 1 := Scalar.cmpi .ne v115 c0_i32_50
  let v117 : BitVec 1 := Scalar.andi v114 v116
  let v103 : BitVec 32 := Scalar.divsi v102 c2_i32
  let c1_i32 : BitVec 32 := 1#32
  let v118 : BitVec 32 := Scalar.subi v103 c1_i32
  let v119 : BitVec 32 := Scalar.select v117 v118 v103
  let v135 : BitVec 32 := Scalar.subi v119 c0_i32_62
  let c1_i32_63 : BitVec 32 := 1#32
  let v137 : BitVec 32 := Scalar.divsi v135 c1_i32_63
  let v138 : BitVec 32 := Scalar.muli v137 c1_i32_63
  let v139 : BitVec 32 := Scalar.addi c0_i32_62 v138
  let c1_i32_65 : BitVec 32 := 1#32
  let arg11 : BitVec 32 := Scf.iv v139 c1_i32_65 k0_t2
  let v845 : BitVec 32 := Scalar.muli c2_i32_281 arg11
  let v846 : BitVec 32 := Scalar.addi v845 c1_i32_282
  let c256_i32_283 : BitVec 32 := 256#32
  let v847 : BitVec 32 := Scalar.muli v846 c256_i32_283
  let v848 : BitVec 32 := v847
  let v849 : Index := Scalar.indexCast v848
  let c0_285 : Index := 0#32
  ![0, v849.toNat, 0]
def k0_off12 : Fin 3 → Nat :=
  let c0_286 : Index := 0#32
  let c0_i32_42 : BitVec 32 := 0#32
  let c2048_i32 : BitVec 32 := 2048#32
  let v97 : BitVec 32 := Scalar.muli c0_i32_42 c2048_i32
  let v98 : BitVec 32 := v97
  let v852 : Index := Scalar.indexCast v98
  let c0_287 : Index := 0#32
  ![0, v852.toNat, 0]
def k0_off13 (k0_t2 : Fin k0_t2_loop.trips) (c1_i32_282 : BitVec 32) : Fin 3 → Nat :=
  let c1_289 : Index := 1#32
  let c2_i32_281 : BitVec 32 := 2#32
  let c0_i32_62 : BitVec 32 := 0#32
  let c0_i32_42 : BitVec 32 := 0#32
  let c8_i32 : BitVec 32 := 8#32
  let v102 : BitVec 32 := Scalar.muli c0_i32_42 c8_i32
  let c0_i32_46 : BitVec 32 := 0#32
  let v104 : BitVec 1 := Scalar.cmpi .sgt v102 c0_i32_46
  let v105 : BitVec 32 := Scalar.extui v104
  let c0_i32_47 : BitVec 32 := 0#32
  let v106 : BitVec 1 := Scalar.cmpi .slt v102 c0_i32_47
  let v107 : BitVec 32 := Scalar.extui v106
  let v108 : BitVec 32 := Scalar.subi v105 v107
  let c2_i32 : BitVec 32 := 2#32
  let c0_i32_48 : BitVec 32 := 0#32
  let v109 : BitVec 1 := Scalar.cmpi .sgt c2_i32 c0_i32_48
  let v110 : BitVec 32 := Scalar.extui v109
  let c0_i32_49 : BitVec 32 := 0#32
  let v111 : BitVec 1 := Scalar.cmpi .slt c2_i32 c0_i32_49
  let v112 : BitVec 32 := Scalar.extui v111
  let v113 : BitVec 32 := Scalar.subi v110 v112
  let v114 : BitVec 1 := Scalar.cmpi .ne v108 v113
  let v115 : BitVec 32 := Scalar.remsi v102 c2_i32
  let c0_i32_50 : BitVec 32 := 0#32
  let v116 : BitVec 1 := Scalar.cmpi .ne v115 c0_i32_50
  let v117 : BitVec 1 := Scalar.andi v114 v116
  let v103 : BitVec 32 := Scalar.divsi v102 c2_i32
  let c1_i32 : BitVec 32 := 1#32
  let v118 : BitVec 32 := Scalar.subi v103 c1_i32
  let v119 : BitVec 32 := Scalar.select v117 v118 v103
  let v135 : BitVec 32 := Scalar.subi v119 c0_i32_62
  let c1_i32_63 : BitVec 32 := 1#32
  let v137 : BitVec 32 := Scalar.divsi v135 c1_i32_63
  let v138 : BitVec 32 := Scalar.muli v137 c1_i32_63
  let v139 : BitVec 32 := Scalar.addi c0_i32_62 v138
  let c1_i32_65 : BitVec 32 := 1#32
  let arg11 : BitVec 32 := Scf.iv v139 c1_i32_65 k0_t2
  let v845 : BitVec 32 := Scalar.muli c2_i32_281 arg11
  let v846 : BitVec 32 := Scalar.addi v845 c1_i32_282
  let c256_i32_283 : BitVec 32 := 256#32
  let v847 : BitVec 32 := Scalar.muli v846 c256_i32_283
  let v848 : BitVec 32 := v847
  let v856 : Index := Scalar.indexCast v848
  let c0_290 : Index := 0#32
  ![1, v856.toNat, 0]
def k0_off14 : Fin 3 → Nat :=
  let c1_291 : Index := 1#32
  let c0_i32_42 : BitVec 32 := 0#32
  let c2048_i32 : BitVec 32 := 2048#32
  let v97 : BitVec 32 := Scalar.muli c0_i32_42 c2048_i32
  let v98 : BitVec 32 := v97
  let v859 : Index := Scalar.indexCast v98
  let c0_292 : Index := 0#32
  ![1, v859.toNat, 0]
def k0_mult8 (k0_t2 : Fin k0_t2_loop.trips) : BitVec 32 :=
  let c2_i32_294 : BitVec 32 := 2#32
  let c0_i32_62 : BitVec 32 := 0#32
  let c0_i32_42 : BitVec 32 := 0#32
  let c8_i32 : BitVec 32 := 8#32
  let v102 : BitVec 32 := Scalar.muli c0_i32_42 c8_i32
  let c0_i32_46 : BitVec 32 := 0#32
  let v104 : BitVec 1 := Scalar.cmpi .sgt v102 c0_i32_46
  let v105 : BitVec 32 := Scalar.extui v104
  let c0_i32_47 : BitVec 32 := 0#32
  let v106 : BitVec 1 := Scalar.cmpi .slt v102 c0_i32_47
  let v107 : BitVec 32 := Scalar.extui v106
  let v108 : BitVec 32 := Scalar.subi v105 v107
  let c2_i32 : BitVec 32 := 2#32
  let c0_i32_48 : BitVec 32 := 0#32
  let v109 : BitVec 1 := Scalar.cmpi .sgt c2_i32 c0_i32_48
  let v110 : BitVec 32 := Scalar.extui v109
  let c0_i32_49 : BitVec 32 := 0#32
  let v111 : BitVec 1 := Scalar.cmpi .slt c2_i32 c0_i32_49
  let v112 : BitVec 32 := Scalar.extui v111
  let v113 : BitVec 32 := Scalar.subi v110 v112
  let v114 : BitVec 1 := Scalar.cmpi .ne v108 v113
  let v115 : BitVec 32 := Scalar.remsi v102 c2_i32
  let c0_i32_50 : BitVec 32 := 0#32
  let v116 : BitVec 1 := Scalar.cmpi .ne v115 c0_i32_50
  let v117 : BitVec 1 := Scalar.andi v114 v116
  let v103 : BitVec 32 := Scalar.divsi v102 c2_i32
  let c1_i32 : BitVec 32 := 1#32
  let v118 : BitVec 32 := Scalar.subi v103 c1_i32
  let v119 : BitVec 32 := Scalar.select v117 v118 v103
  let v135 : BitVec 32 := Scalar.subi v119 c0_i32_62
  let c1_i32_63 : BitVec 32 := 1#32
  let v137 : BitVec 32 := Scalar.divsi v135 c1_i32_63
  let v138 : BitVec 32 := Scalar.muli v137 c1_i32_63
  let v139 : BitVec 32 := Scalar.addi c0_i32_62 v138
  let c1_i32_65 : BitVec 32 := 1#32
  let arg11 : BitVec 32 := Scf.iv v139 c1_i32_65 k0_t2
  let v863 : BitVec 32 := Scalar.muli c2_i32_294 arg11
  let c2_i32_295 : BitVec 32 := 2#32
  let v864 : BitVec 32 := Scalar.addi v863 c2_i32_295
  let c256_i32_296 : BitVec 32 := 256#32
  let v865 : BitVec 32 := Scalar.muli v864 c256_i32_296
  v865
def k0_mult9 (k0_t2 : Fin k0_t2_loop.trips) : BitVec 32 :=
  let c2_i32_307 : BitVec 32 := 2#32
  let c0_i32_62 : BitVec 32 := 0#32
  let c0_i32_42 : BitVec 32 := 0#32
  let c8_i32 : BitVec 32 := 8#32
  let v102 : BitVec 32 := Scalar.muli c0_i32_42 c8_i32
  let c0_i32_46 : BitVec 32 := 0#32
  let v104 : BitVec 1 := Scalar.cmpi .sgt v102 c0_i32_46
  let v105 : BitVec 32 := Scalar.extui v104
  let c0_i32_47 : BitVec 32 := 0#32
  let v106 : BitVec 1 := Scalar.cmpi .slt v102 c0_i32_47
  let v107 : BitVec 32 := Scalar.extui v106
  let v108 : BitVec 32 := Scalar.subi v105 v107
  let c2_i32 : BitVec 32 := 2#32
  let c0_i32_48 : BitVec 32 := 0#32
  let v109 : BitVec 1 := Scalar.cmpi .sgt c2_i32 c0_i32_48
  let v110 : BitVec 32 := Scalar.extui v109
  let c0_i32_49 : BitVec 32 := 0#32
  let v111 : BitVec 1 := Scalar.cmpi .slt c2_i32 c0_i32_49
  let v112 : BitVec 32 := Scalar.extui v111
  let v113 : BitVec 32 := Scalar.subi v110 v112
  let v114 : BitVec 1 := Scalar.cmpi .ne v108 v113
  let v115 : BitVec 32 := Scalar.remsi v102 c2_i32
  let c0_i32_50 : BitVec 32 := 0#32
  let v116 : BitVec 1 := Scalar.cmpi .ne v115 c0_i32_50
  let v117 : BitVec 1 := Scalar.andi v114 v116
  let v103 : BitVec 32 := Scalar.divsi v102 c2_i32
  let c1_i32 : BitVec 32 := 1#32
  let v118 : BitVec 32 := Scalar.subi v103 c1_i32
  let v119 : BitVec 32 := Scalar.select v117 v118 v103
  let v135 : BitVec 32 := Scalar.subi v119 c0_i32_62
  let c1_i32_63 : BitVec 32 := 1#32
  let v137 : BitVec 32 := Scalar.divsi v135 c1_i32_63
  let v138 : BitVec 32 := Scalar.muli v137 c1_i32_63
  let v139 : BitVec 32 := Scalar.addi c0_i32_62 v138
  let c1_i32_65 : BitVec 32 := 1#32
  let arg11 : BitVec 32 := Scf.iv v139 c1_i32_65 k0_t2
  let v881 : BitVec 32 := Scalar.muli c2_i32_307 arg11
  let c256_i32_308 : BitVec 32 := 256#32
  let v882 : BitVec 32 := Scalar.muli v881 c256_i32_308
  v882
def k0_off15 (k0_t2 : Fin k0_t2_loop.trips) : Fin 2 → Nat :=
  let c0_311 : Index := 0#32
  let c2_i32_307 : BitVec 32 := 2#32
  let c0_i32_62 : BitVec 32 := 0#32
  let c0_i32_42 : BitVec 32 := 0#32
  let c8_i32 : BitVec 32 := 8#32
  let v102 : BitVec 32 := Scalar.muli c0_i32_42 c8_i32
  let c0_i32_46 : BitVec 32 := 0#32
  let v104 : BitVec 1 := Scalar.cmpi .sgt v102 c0_i32_46
  let v105 : BitVec 32 := Scalar.extui v104
  let c0_i32_47 : BitVec 32 := 0#32
  let v106 : BitVec 1 := Scalar.cmpi .slt v102 c0_i32_47
  let v107 : BitVec 32 := Scalar.extui v106
  let v108 : BitVec 32 := Scalar.subi v105 v107
  let c2_i32 : BitVec 32 := 2#32
  let c0_i32_48 : BitVec 32 := 0#32
  let v109 : BitVec 1 := Scalar.cmpi .sgt c2_i32 c0_i32_48
  let v110 : BitVec 32 := Scalar.extui v109
  let c0_i32_49 : BitVec 32 := 0#32
  let v111 : BitVec 1 := Scalar.cmpi .slt c2_i32 c0_i32_49
  let v112 : BitVec 32 := Scalar.extui v111
  let v113 : BitVec 32 := Scalar.subi v110 v112
  let v114 : BitVec 1 := Scalar.cmpi .ne v108 v113
  let v115 : BitVec 32 := Scalar.remsi v102 c2_i32
  let c0_i32_50 : BitVec 32 := 0#32
  let v116 : BitVec 1 := Scalar.cmpi .ne v115 c0_i32_50
  let v117 : BitVec 1 := Scalar.andi v114 v116
  let v103 : BitVec 32 := Scalar.divsi v102 c2_i32
  let c1_i32 : BitVec 32 := 1#32
  let v118 : BitVec 32 := Scalar.subi v103 c1_i32
  let v119 : BitVec 32 := Scalar.select v117 v118 v103
  let v135 : BitVec 32 := Scalar.subi v119 c0_i32_62
  let c1_i32_63 : BitVec 32 := 1#32
  let v137 : BitVec 32 := Scalar.divsi v135 c1_i32_63
  let v138 : BitVec 32 := Scalar.muli v137 c1_i32_63
  let v139 : BitVec 32 := Scalar.addi c0_i32_62 v138
  let c1_i32_65 : BitVec 32 := 1#32
  let arg11 : BitVec 32 := Scf.iv v139 c1_i32_65 k0_t2
  let v881 : BitVec 32 := Scalar.muli c2_i32_307 arg11
  let c256_i32_308 : BitVec 32 := 256#32
  let v882 : BitVec 32 := Scalar.muli v881 c256_i32_308
  let v883 : BitVec 32 := v882
  let v896 : Index := Scalar.indexCast v883
  ![0, v896.toNat]
def k0_off16 (k0_t2 : Fin k0_t2_loop.trips) : Fin 2 → Nat :=
  let c64_315 : Index := 64#32
  let c2_i32_307 : BitVec 32 := 2#32
  let c0_i32_62 : BitVec 32 := 0#32
  let c0_i32_42 : BitVec 32 := 0#32
  let c8_i32 : BitVec 32 := 8#32
  let v102 : BitVec 32 := Scalar.muli c0_i32_42 c8_i32
  let c0_i32_46 : BitVec 32 := 0#32
  let v104 : BitVec 1 := Scalar.cmpi .sgt v102 c0_i32_46
  let v105 : BitVec 32 := Scalar.extui v104
  let c0_i32_47 : BitVec 32 := 0#32
  let v106 : BitVec 1 := Scalar.cmpi .slt v102 c0_i32_47
  let v107 : BitVec 32 := Scalar.extui v106
  let v108 : BitVec 32 := Scalar.subi v105 v107
  let c2_i32 : BitVec 32 := 2#32
  let c0_i32_48 : BitVec 32 := 0#32
  let v109 : BitVec 1 := Scalar.cmpi .sgt c2_i32 c0_i32_48
  let v110 : BitVec 32 := Scalar.extui v109
  let c0_i32_49 : BitVec 32 := 0#32
  let v111 : BitVec 1 := Scalar.cmpi .slt c2_i32 c0_i32_49
  let v112 : BitVec 32 := Scalar.extui v111
  let v113 : BitVec 32 := Scalar.subi v110 v112
  let v114 : BitVec 1 := Scalar.cmpi .ne v108 v113
  let v115 : BitVec 32 := Scalar.remsi v102 c2_i32
  let c0_i32_50 : BitVec 32 := 0#32
  let v116 : BitVec 1 := Scalar.cmpi .ne v115 c0_i32_50
  let v117 : BitVec 1 := Scalar.andi v114 v116
  let v103 : BitVec 32 := Scalar.divsi v102 c2_i32
  let c1_i32 : BitVec 32 := 1#32
  let v118 : BitVec 32 := Scalar.subi v103 c1_i32
  let v119 : BitVec 32 := Scalar.select v117 v118 v103
  let v135 : BitVec 32 := Scalar.subi v119 c0_i32_62
  let c1_i32_63 : BitVec 32 := 1#32
  let v137 : BitVec 32 := Scalar.divsi v135 c1_i32_63
  let v138 : BitVec 32 := Scalar.muli v137 c1_i32_63
  let v139 : BitVec 32 := Scalar.addi c0_i32_62 v138
  let c1_i32_65 : BitVec 32 := 1#32
  let arg11 : BitVec 32 := Scf.iv v139 c1_i32_65 k0_t2
  let v881 : BitVec 32 := Scalar.muli c2_i32_307 arg11
  let c256_i32_308 : BitVec 32 := 256#32
  let v882 : BitVec 32 := Scalar.muli v881 c256_i32_308
  let v883 : BitVec 32 := v882
  let v915 : Index := Scalar.indexCast v883
  ![64, v915.toNat]
def k0_mult10 (k0_t2 : Fin k0_t2_loop.trips) : BitVec 32 :=
  let c2_i32_317 : BitVec 32 := 2#32
  let c0_i32_62 : BitVec 32 := 0#32
  let c0_i32_42 : BitVec 32 := 0#32
  let c8_i32 : BitVec 32 := 8#32
  let v102 : BitVec 32 := Scalar.muli c0_i32_42 c8_i32
  let c0_i32_46 : BitVec 32 := 0#32
  let v104 : BitVec 1 := Scalar.cmpi .sgt v102 c0_i32_46
  let v105 : BitVec 32 := Scalar.extui v104
  let c0_i32_47 : BitVec 32 := 0#32
  let v106 : BitVec 1 := Scalar.cmpi .slt v102 c0_i32_47
  let v107 : BitVec 32 := Scalar.extui v106
  let v108 : BitVec 32 := Scalar.subi v105 v107
  let c2_i32 : BitVec 32 := 2#32
  let c0_i32_48 : BitVec 32 := 0#32
  let v109 : BitVec 1 := Scalar.cmpi .sgt c2_i32 c0_i32_48
  let v110 : BitVec 32 := Scalar.extui v109
  let c0_i32_49 : BitVec 32 := 0#32
  let v111 : BitVec 1 := Scalar.cmpi .slt c2_i32 c0_i32_49
  let v112 : BitVec 32 := Scalar.extui v111
  let v113 : BitVec 32 := Scalar.subi v110 v112
  let v114 : BitVec 1 := Scalar.cmpi .ne v108 v113
  let v115 : BitVec 32 := Scalar.remsi v102 c2_i32
  let c0_i32_50 : BitVec 32 := 0#32
  let v116 : BitVec 1 := Scalar.cmpi .ne v115 c0_i32_50
  let v117 : BitVec 1 := Scalar.andi v114 v116
  let v103 : BitVec 32 := Scalar.divsi v102 c2_i32
  let c1_i32 : BitVec 32 := 1#32
  let v118 : BitVec 32 := Scalar.subi v103 c1_i32
  let v119 : BitVec 32 := Scalar.select v117 v118 v103
  let v135 : BitVec 32 := Scalar.subi v119 c0_i32_62
  let c1_i32_63 : BitVec 32 := 1#32
  let v137 : BitVec 32 := Scalar.divsi v135 c1_i32_63
  let v138 : BitVec 32 := Scalar.muli v137 c1_i32_63
  let v139 : BitVec 32 := Scalar.addi c0_i32_62 v138
  let c1_i32_65 : BitVec 32 := 1#32
  let arg11 : BitVec 32 := Scf.iv v139 c1_i32_65 k0_t2
  let v922 : BitVec 32 := Scalar.muli c2_i32_317 arg11
  let c1_i32_318 : BitVec 32 := 1#32
  let v923 : BitVec 32 := Scalar.addi v922 c1_i32_318
  let c256_i32_319 : BitVec 32 := 256#32
  let v924 : BitVec 32 := Scalar.muli v923 c256_i32_319
  v924
def k0_off17 (k0_t2 : Fin k0_t2_loop.trips) : Fin 2 → Nat :=
  let c0_322 : Index := 0#32
  let c2_i32_317 : BitVec 32 := 2#32
  let c0_i32_62 : BitVec 32 := 0#32
  let c0_i32_42 : BitVec 32 := 0#32
  let c8_i32 : BitVec 32 := 8#32
  let v102 : BitVec 32 := Scalar.muli c0_i32_42 c8_i32
  let c0_i32_46 : BitVec 32 := 0#32
  let v104 : BitVec 1 := Scalar.cmpi .sgt v102 c0_i32_46
  let v105 : BitVec 32 := Scalar.extui v104
  let c0_i32_47 : BitVec 32 := 0#32
  let v106 : BitVec 1 := Scalar.cmpi .slt v102 c0_i32_47
  let v107 : BitVec 32 := Scalar.extui v106
  let v108 : BitVec 32 := Scalar.subi v105 v107
  let c2_i32 : BitVec 32 := 2#32
  let c0_i32_48 : BitVec 32 := 0#32
  let v109 : BitVec 1 := Scalar.cmpi .sgt c2_i32 c0_i32_48
  let v110 : BitVec 32 := Scalar.extui v109
  let c0_i32_49 : BitVec 32 := 0#32
  let v111 : BitVec 1 := Scalar.cmpi .slt c2_i32 c0_i32_49
  let v112 : BitVec 32 := Scalar.extui v111
  let v113 : BitVec 32 := Scalar.subi v110 v112
  let v114 : BitVec 1 := Scalar.cmpi .ne v108 v113
  let v115 : BitVec 32 := Scalar.remsi v102 c2_i32
  let c0_i32_50 : BitVec 32 := 0#32
  let v116 : BitVec 1 := Scalar.cmpi .ne v115 c0_i32_50
  let v117 : BitVec 1 := Scalar.andi v114 v116
  let v103 : BitVec 32 := Scalar.divsi v102 c2_i32
  let c1_i32 : BitVec 32 := 1#32
  let v118 : BitVec 32 := Scalar.subi v103 c1_i32
  let v119 : BitVec 32 := Scalar.select v117 v118 v103
  let v135 : BitVec 32 := Scalar.subi v119 c0_i32_62
  let c1_i32_63 : BitVec 32 := 1#32
  let v137 : BitVec 32 := Scalar.divsi v135 c1_i32_63
  let v138 : BitVec 32 := Scalar.muli v137 c1_i32_63
  let v139 : BitVec 32 := Scalar.addi c0_i32_62 v138
  let c1_i32_65 : BitVec 32 := 1#32
  let arg11 : BitVec 32 := Scf.iv v139 c1_i32_65 k0_t2
  let v922 : BitVec 32 := Scalar.muli c2_i32_317 arg11
  let c1_i32_318 : BitVec 32 := 1#32
  let v923 : BitVec 32 := Scalar.addi v922 c1_i32_318
  let c256_i32_319 : BitVec 32 := 256#32
  let v924 : BitVec 32 := Scalar.muli v923 c256_i32_319
  let v925 : BitVec 32 := v924
  let v938 : Index := Scalar.indexCast v925
  ![0, v938.toNat]
def k0_off18 (k0_t2 : Fin k0_t2_loop.trips) : Fin 2 → Nat :=
  let c64_326 : Index := 64#32
  let c2_i32_317 : BitVec 32 := 2#32
  let c0_i32_62 : BitVec 32 := 0#32
  let c0_i32_42 : BitVec 32 := 0#32
  let c8_i32 : BitVec 32 := 8#32
  let v102 : BitVec 32 := Scalar.muli c0_i32_42 c8_i32
  let c0_i32_46 : BitVec 32 := 0#32
  let v104 : BitVec 1 := Scalar.cmpi .sgt v102 c0_i32_46
  let v105 : BitVec 32 := Scalar.extui v104
  let c0_i32_47 : BitVec 32 := 0#32
  let v106 : BitVec 1 := Scalar.cmpi .slt v102 c0_i32_47
  let v107 : BitVec 32 := Scalar.extui v106
  let v108 : BitVec 32 := Scalar.subi v105 v107
  let c2_i32 : BitVec 32 := 2#32
  let c0_i32_48 : BitVec 32 := 0#32
  let v109 : BitVec 1 := Scalar.cmpi .sgt c2_i32 c0_i32_48
  let v110 : BitVec 32 := Scalar.extui v109
  let c0_i32_49 : BitVec 32 := 0#32
  let v111 : BitVec 1 := Scalar.cmpi .slt c2_i32 c0_i32_49
  let v112 : BitVec 32 := Scalar.extui v111
  let v113 : BitVec 32 := Scalar.subi v110 v112
  let v114 : BitVec 1 := Scalar.cmpi .ne v108 v113
  let v115 : BitVec 32 := Scalar.remsi v102 c2_i32
  let c0_i32_50 : BitVec 32 := 0#32
  let v116 : BitVec 1 := Scalar.cmpi .ne v115 c0_i32_50
  let v117 : BitVec 1 := Scalar.andi v114 v116
  let v103 : BitVec 32 := Scalar.divsi v102 c2_i32
  let c1_i32 : BitVec 32 := 1#32
  let v118 : BitVec 32 := Scalar.subi v103 c1_i32
  let v119 : BitVec 32 := Scalar.select v117 v118 v103
  let v135 : BitVec 32 := Scalar.subi v119 c0_i32_62
  let c1_i32_63 : BitVec 32 := 1#32
  let v137 : BitVec 32 := Scalar.divsi v135 c1_i32_63
  let v138 : BitVec 32 := Scalar.muli v137 c1_i32_63
  let v139 : BitVec 32 := Scalar.addi c0_i32_62 v138
  let c1_i32_65 : BitVec 32 := 1#32
  let arg11 : BitVec 32 := Scf.iv v139 c1_i32_65 k0_t2
  let v922 : BitVec 32 := Scalar.muli c2_i32_317 arg11
  let c1_i32_318 : BitVec 32 := 1#32
  let v923 : BitVec 32 := Scalar.addi v922 c1_i32_318
  let c256_i32_319 : BitVec 32 := 256#32
  let v924 : BitVec 32 := Scalar.muli v923 c256_i32_319
  let v925 : BitVec 32 := v924
  let v957 : Index := Scalar.indexCast v925
  ![64, v957.toNat]
def k0_mult11 : BitVec 32 :=
  let c0_i32_42 : BitVec 32 := 0#32
  let c8_i32_66 : BitVec 32 := 8#32
  let v142 : BitVec 32 := Scalar.muli c0_i32_42 c8_i32_66
  let c1_i32_67 : BitVec 32 := 1#32
  let v143 : BitVec 32 := Scalar.addi v142 c1_i32_67
  let c256_i32 : BitVec 32 := 256#32
  let v144 : BitVec 32 := Scalar.muli v143 c256_i32
  v144
def k0_mult12 : BitVec 32 :=
  let c0_i32_42 : BitVec 32 := 0#32
  let c2048_i32_68 : BitVec 32 := 2048#32
  let v146 : BitVec 32 := Scalar.muli c0_i32_42 c2048_i32_68
  let c256_i32_69 : BitVec 32 := 256#32
  let v147 : BitVec 32 := Scalar.addi v146 c256_i32_69
  v147
def k0_off19 (c1_i32_67 : BitVec 32) : Fin 3 → Nat :=
  let c0_70 : Index := 0#32
  let c0_i32_42 : BitVec 32 := 0#32
  let c8_i32_66 : BitVec 32 := 8#32
  let v142 : BitVec 32 := Scalar.muli c0_i32_42 c8_i32_66
  let v143 : BitVec 32 := Scalar.addi v142 c1_i32_67
  let c256_i32 : BitVec 32 := 256#32
  let v144 : BitVec 32 := Scalar.muli v143 c256_i32
  let v145 : BitVec 32 := v144
  let v149 : Index := Scalar.indexCast v145
  let c0_71 : Index := 0#32
  ![0, v149.toNat, 0]
def k0_off20 : Fin 3 → Nat :=
  let c0_72 : Index := 0#32
  let c0_i32_42 : BitVec 32 := 0#32
  let c2048_i32_68 : BitVec 32 := 2048#32
  let v146 : BitVec 32 := Scalar.muli c0_i32_42 c2048_i32_68
  let c256_i32_69 : BitVec 32 := 256#32
  let v147 : BitVec 32 := Scalar.addi v146 c256_i32_69
  let v148 : BitVec 32 := v147
  let v152 : Index := Scalar.indexCast v148
  let c0_73 : Index := 0#32
  ![0, v152.toNat, 0]
def k0_off21 (c1_i32_67 : BitVec 32) : Fin 3 → Nat :=
  let c1_75 : Index := 1#32
  let c0_i32_42 : BitVec 32 := 0#32
  let c8_i32_66 : BitVec 32 := 8#32
  let v142 : BitVec 32 := Scalar.muli c0_i32_42 c8_i32_66
  let v143 : BitVec 32 := Scalar.addi v142 c1_i32_67
  let c256_i32 : BitVec 32 := 256#32
  let v144 : BitVec 32 := Scalar.muli v143 c256_i32
  let v145 : BitVec 32 := v144
  let v156 : Index := Scalar.indexCast v145
  let c0_76 : Index := 0#32
  ![1, v156.toNat, 0]
def k0_off22 : Fin 3 → Nat :=
  let c1_77 : Index := 1#32
  let c0_i32_42 : BitVec 32 := 0#32
  let c2048_i32_68 : BitVec 32 := 2048#32
  let v146 : BitVec 32 := Scalar.muli c0_i32_42 c2048_i32_68
  let c256_i32_69 : BitVec 32 := 256#32
  let v147 : BitVec 32 := Scalar.addi v146 c256_i32_69
  let v148 : BitVec 32 := v147
  let v159 : Index := Scalar.indexCast v148
  let c0_78 : Index := 0#32
  ![1, v159.toNat, 0]
def k0_mult13 : BitVec 32 :=
  let c0_i32_42 : BitVec 32 := 0#32
  let c8_i32 : BitVec 32 := 8#32
  let v102 : BitVec 32 := Scalar.muli c0_i32_42 c8_i32
  let c0_i32_80 : BitVec 32 := 0#32
  let v163 : BitVec 32 := Scalar.addi v102 c0_i32_80
  let c256_i32_81 : BitVec 32 := 256#32
  let v164 : BitVec 32 := Scalar.muli v163 c256_i32_81
  v164
def k0_off23 (c0_i32_80 : BitVec 32) : Fin 2 → Nat :=
  let c0_86 : Index := 0#32
  let c0_i32_42 : BitVec 32 := 0#32
  let c8_i32 : BitVec 32 := 8#32
  let v102 : BitVec 32 := Scalar.muli c0_i32_42 c8_i32
  let v163 : BitVec 32 := Scalar.addi v102 c0_i32_80
  let c256_i32_81 : BitVec 32 := 256#32
  let v164 : BitVec 32 := Scalar.muli v163 c256_i32_81
  let v165 : BitVec 32 := v164
  let v182 : Index := Scalar.indexCast v165
  ![0, v182.toNat]
def k0_off24 (c0_i32_80 : BitVec 32) : Fin 2 → Nat :=
  let c64 : Index := 64#32
  let c0_i32_42 : BitVec 32 := 0#32
  let c8_i32 : BitVec 32 := 8#32
  let v102 : BitVec 32 := Scalar.muli c0_i32_42 c8_i32
  let v163 : BitVec 32 := Scalar.addi v102 c0_i32_80
  let c256_i32_81 : BitVec 32 := 256#32
  let v164 : BitVec 32 := Scalar.muli v163 c256_i32_81
  let v165 : BitVec 32 := v164
  let v205 : Index := Scalar.indexCast v165
  ![64, v205.toNat]
def k0_mult14 : BitVec 32 :=
  let c0_i32_42 : BitVec 32 := 0#32
  let c8_i32_93 : BitVec 32 := 8#32
  let v212 : BitVec 32 := Scalar.muli c0_i32_42 c8_i32_93
  let c2_i32_94 : BitVec 32 := 2#32
  let v213 : BitVec 32 := Scalar.addi v212 c2_i32_94
  let c256_i32_95 : BitVec 32 := 256#32
  let v214 : BitVec 32 := Scalar.muli v213 c256_i32_95
  v214
def k0_mult15 : BitVec 32 :=
  let c0_i32_42 : BitVec 32 := 0#32
  let c2048_i32_96 : BitVec 32 := 2048#32
  let v216 : BitVec 32 := Scalar.muli c0_i32_42 c2048_i32_96
  let c512_i32 : BitVec 32 := 512#32
  let v217 : BitVec 32 := Scalar.addi v216 c512_i32
  v217
def k0_off25 : Fin 3 → Nat :=
  let c0_99 : Index := 0#32
  let c0_i32_42 : BitVec 32 := 0#32
  let c2048_i32_96 : BitVec 32 := 2048#32
  let v216 : BitVec 32 := Scalar.muli c0_i32_42 c2048_i32_96
  let c512_i32 : BitVec 32 := 512#32
  let v217 : BitVec 32 := Scalar.addi v216 c512_i32
  let v218 : BitVec 32 := v217
  let v222 : Index := Scalar.indexCast v218
  let c0_100 : Index := 0#32
  ![0, v222.toNat, 0]
def k0_off26 : Fin 3 → Nat :=
  let c1_104 : Index := 1#32
  let c0_i32_42 : BitVec 32 := 0#32
  let c2048_i32_96 : BitVec 32 := 2048#32
  let v216 : BitVec 32 := Scalar.muli c0_i32_42 c2048_i32_96
  let c512_i32 : BitVec 32 := 512#32
  let v217 : BitVec 32 := Scalar.addi v216 c512_i32
  let v218 : BitVec 32 := v217
  let v229 : Index := Scalar.indexCast v218
  let c0_105 : Index := 0#32
  ![1, v229.toNat, 0]
def k0_mult16 : BitVec 32 :=
  let c0_i32_42 : BitVec 32 := 0#32
  let c8_i32 : BitVec 32 := 8#32
  let v102 : BitVec 32 := Scalar.muli c0_i32_42 c8_i32
  let c1_i32_107 : BitVec 32 := 1#32
  let v233 : BitVec 32 := Scalar.addi v102 c1_i32_107
  let c256_i32_108 : BitVec 32 := 256#32
  let v234 : BitVec 32 := Scalar.muli v233 c256_i32_108
  v234
def k0_mult17 : BitVec 32 :=
  let c0_i32_42 : BitVec 32 := 0#32
  let c8_i32_121 : BitVec 32 := 8#32
  let v302 : BitVec 32 := Scalar.muli c0_i32_42 c8_i32_121
  let c3_i32_122 : BitVec 32 := 3#32
  let v303 : BitVec 32 := Scalar.addi v302 c3_i32_122
  let c256_i32_123 : BitVec 32 := 256#32
  let v304 : BitVec 32 := Scalar.muli v303 c256_i32_123
  v304
def k0_mult18 : BitVec 32 :=
  let c0_i32_42 : BitVec 32 := 0#32
  let c2048_i32_124 : BitVec 32 := 2048#32
  let v306 : BitVec 32 := Scalar.muli c0_i32_42 c2048_i32_124
  let c768_i32 : BitVec 32 := 768#32
  let v307 : BitVec 32 := Scalar.addi v306 c768_i32
  v307
def k0_off27 : Fin 3 → Nat :=
  let c0_127 : Index := 0#32
  let c0_i32_42 : BitVec 32 := 0#32
  let c2048_i32_124 : BitVec 32 := 2048#32
  let v306 : BitVec 32 := Scalar.muli c0_i32_42 c2048_i32_124
  let c768_i32 : BitVec 32 := 768#32
  let v307 : BitVec 32 := Scalar.addi v306 c768_i32
  let v308 : BitVec 32 := v307
  let v312 : Index := Scalar.indexCast v308
  let c0_128 : Index := 0#32
  ![0, v312.toNat, 0]
def k0_off28 : Fin 3 → Nat :=
  let c1_132 : Index := 1#32
  let c0_i32_42 : BitVec 32 := 0#32
  let c2048_i32_124 : BitVec 32 := 2048#32
  let v306 : BitVec 32 := Scalar.muli c0_i32_42 c2048_i32_124
  let c768_i32 : BitVec 32 := 768#32
  let v307 : BitVec 32 := Scalar.addi v306 c768_i32
  let v308 : BitVec 32 := v307
  let v319 : Index := Scalar.indexCast v308
  let c0_133 : Index := 0#32
  ![1, v319.toNat, 0]
def k0_mult19 : BitVec 32 :=
  let c0_i32_42 : BitVec 32 := 0#32
  let c8_i32 : BitVec 32 := 8#32
  let v102 : BitVec 32 := Scalar.muli c0_i32_42 c8_i32
  let c2_i32_135 : BitVec 32 := 2#32
  let v323 : BitVec 32 := Scalar.addi v102 c2_i32_135
  let c256_i32_136 : BitVec 32 := 256#32
  let v324 : BitVec 32 := Scalar.muli v323 c256_i32_136
  v324
def k0_mult20 : BitVec 32 :=
  let c0_i32_42 : BitVec 32 := 0#32
  let c8_i32_149 : BitVec 32 := 8#32
  let v392 : BitVec 32 := Scalar.muli c0_i32_42 c8_i32_149
  let c4_i32 : BitVec 32 := 4#32
  let v393 : BitVec 32 := Scalar.addi v392 c4_i32
  let c256_i32_150 : BitVec 32 := 256#32
  let v394 : BitVec 32 := Scalar.muli v393 c256_i32_150
  v394
def k0_mult21 : BitVec 32 :=
  let c0_i32_42 : BitVec 32 := 0#32
  let c2048_i32_151 : BitVec 32 := 2048#32
  let v396 : BitVec 32 := Scalar.muli c0_i32_42 c2048_i32_151
  let c1024_i32 : BitVec 32 := 1024#32
  let v397 : BitVec 32 := Scalar.addi v396 c1024_i32
  v397
def k0_off29 : Fin 3 → Nat :=
  let c0_154 : Index := 0#32
  let c0_i32_42 : BitVec 32 := 0#32
  let c2048_i32_151 : BitVec 32 := 2048#32
  let v396 : BitVec 32 := Scalar.muli c0_i32_42 c2048_i32_151
  let c1024_i32 : BitVec 32 := 1024#32
  let v397 : BitVec 32 := Scalar.addi v396 c1024_i32
  let v398 : BitVec 32 := v397
  let v402 : Index := Scalar.indexCast v398
  let c0_155 : Index := 0#32
  ![0, v402.toNat, 0]
def k0_off30 : Fin 3 → Nat :=
  let c1_159 : Index := 1#32
  let c0_i32_42 : BitVec 32 := 0#32
  let c2048_i32_151 : BitVec 32 := 2048#32
  let v396 : BitVec 32 := Scalar.muli c0_i32_42 c2048_i32_151
  let c1024_i32 : BitVec 32 := 1024#32
  let v397 : BitVec 32 := Scalar.addi v396 c1024_i32
  let v398 : BitVec 32 := v397
  let v409 : Index := Scalar.indexCast v398
  let c0_160 : Index := 0#32
  ![1, v409.toNat, 0]
def k0_mult22 : BitVec 32 :=
  let c0_i32_42 : BitVec 32 := 0#32
  let c8_i32 : BitVec 32 := 8#32
  let v102 : BitVec 32 := Scalar.muli c0_i32_42 c8_i32
  let c3_i32_162 : BitVec 32 := 3#32
  let v413 : BitVec 32 := Scalar.addi v102 c3_i32_162
  let c256_i32_163 : BitVec 32 := 256#32
  let v414 : BitVec 32 := Scalar.muli v413 c256_i32_163
  v414
def k0_mult23 : BitVec 32 :=
  let c0_i32_42 : BitVec 32 := 0#32
  let c8_i32_176 : BitVec 32 := 8#32
  let v482 : BitVec 32 := Scalar.muli c0_i32_42 c8_i32_176
  let c5_i32 : BitVec 32 := 5#32
  let v483 : BitVec 32 := Scalar.addi v482 c5_i32
  let c256_i32_177 : BitVec 32 := 256#32
  let v484 : BitVec 32 := Scalar.muli v483 c256_i32_177
  v484
def k0_mult24 : BitVec 32 :=
  let c0_i32_42 : BitVec 32 := 0#32
  let c2048_i32_178 : BitVec 32 := 2048#32
  let v486 : BitVec 32 := Scalar.muli c0_i32_42 c2048_i32_178
  let c1280_i32 : BitVec 32 := 1280#32
  let v487 : BitVec 32 := Scalar.addi v486 c1280_i32
  v487
def k0_off31 : Fin 3 → Nat :=
  let c0_181 : Index := 0#32
  let c0_i32_42 : BitVec 32 := 0#32
  let c2048_i32_178 : BitVec 32 := 2048#32
  let v486 : BitVec 32 := Scalar.muli c0_i32_42 c2048_i32_178
  let c1280_i32 : BitVec 32 := 1280#32
  let v487 : BitVec 32 := Scalar.addi v486 c1280_i32
  let v488 : BitVec 32 := v487
  let v492 : Index := Scalar.indexCast v488
  let c0_182 : Index := 0#32
  ![0, v492.toNat, 0]
def k0_off32 : Fin 3 → Nat :=
  let c1_186 : Index := 1#32
  let c0_i32_42 : BitVec 32 := 0#32
  let c2048_i32_178 : BitVec 32 := 2048#32
  let v486 : BitVec 32 := Scalar.muli c0_i32_42 c2048_i32_178
  let c1280_i32 : BitVec 32 := 1280#32
  let v487 : BitVec 32 := Scalar.addi v486 c1280_i32
  let v488 : BitVec 32 := v487
  let v499 : Index := Scalar.indexCast v488
  let c0_187 : Index := 0#32
  ![1, v499.toNat, 0]
def k0_mult25 : BitVec 32 :=
  let c0_i32_42 : BitVec 32 := 0#32
  let c8_i32 : BitVec 32 := 8#32
  let v102 : BitVec 32 := Scalar.muli c0_i32_42 c8_i32
  let c4_i32_189 : BitVec 32 := 4#32
  let v503 : BitVec 32 := Scalar.addi v102 c4_i32_189
  let c256_i32_190 : BitVec 32 := 256#32
  let v504 : BitVec 32 := Scalar.muli v503 c256_i32_190
  v504
def k0_mult26 : BitVec 32 :=
  let c0_i32_42 : BitVec 32 := 0#32
  let c8_i32_203 : BitVec 32 := 8#32
  let v572 : BitVec 32 := Scalar.muli c0_i32_42 c8_i32_203
  let c6_i32 : BitVec 32 := 6#32
  let v573 : BitVec 32 := Scalar.addi v572 c6_i32
  let c256_i32_204 : BitVec 32 := 256#32
  let v574 : BitVec 32 := Scalar.muli v573 c256_i32_204
  v574
def k0_mult27 : BitVec 32 :=
  let c0_i32_42 : BitVec 32 := 0#32
  let c2048_i32_205 : BitVec 32 := 2048#32
  let v576 : BitVec 32 := Scalar.muli c0_i32_42 c2048_i32_205
  let c1536_i32 : BitVec 32 := 1536#32
  let v577 : BitVec 32 := Scalar.addi v576 c1536_i32
  v577
def k0_off33 : Fin 3 → Nat :=
  let c0_208 : Index := 0#32
  let c0_i32_42 : BitVec 32 := 0#32
  let c2048_i32_205 : BitVec 32 := 2048#32
  let v576 : BitVec 32 := Scalar.muli c0_i32_42 c2048_i32_205
  let c1536_i32 : BitVec 32 := 1536#32
  let v577 : BitVec 32 := Scalar.addi v576 c1536_i32
  let v578 : BitVec 32 := v577
  let v582 : Index := Scalar.indexCast v578
  let c0_209 : Index := 0#32
  ![0, v582.toNat, 0]
def k0_off34 : Fin 3 → Nat :=
  let c1_213 : Index := 1#32
  let c0_i32_42 : BitVec 32 := 0#32
  let c2048_i32_205 : BitVec 32 := 2048#32
  let v576 : BitVec 32 := Scalar.muli c0_i32_42 c2048_i32_205
  let c1536_i32 : BitVec 32 := 1536#32
  let v577 : BitVec 32 := Scalar.addi v576 c1536_i32
  let v578 : BitVec 32 := v577
  let v589 : Index := Scalar.indexCast v578
  let c0_214 : Index := 0#32
  ![1, v589.toNat, 0]
def k0_mult28 : BitVec 32 :=
  let c0_i32_42 : BitVec 32 := 0#32
  let c8_i32 : BitVec 32 := 8#32
  let v102 : BitVec 32 := Scalar.muli c0_i32_42 c8_i32
  let c5_i32_216 : BitVec 32 := 5#32
  let v593 : BitVec 32 := Scalar.addi v102 c5_i32_216
  let c256_i32_217 : BitVec 32 := 256#32
  let v594 : BitVec 32 := Scalar.muli v593 c256_i32_217
  v594
def k0_mult29 : BitVec 32 :=
  let c0_i32_42 : BitVec 32 := 0#32
  let c8_i32_230 : BitVec 32 := 8#32
  let v662 : BitVec 32 := Scalar.muli c0_i32_42 c8_i32_230
  let c7_i32 : BitVec 32 := 7#32
  let v663 : BitVec 32 := Scalar.addi v662 c7_i32
  let c256_i32_231 : BitVec 32 := 256#32
  let v664 : BitVec 32 := Scalar.muli v663 c256_i32_231
  v664
def k0_mult30 : BitVec 32 :=
  let c0_i32_42 : BitVec 32 := 0#32
  let c2048_i32_232 : BitVec 32 := 2048#32
  let v666 : BitVec 32 := Scalar.muli c0_i32_42 c2048_i32_232
  let c1792_i32 : BitVec 32 := 1792#32
  let v667 : BitVec 32 := Scalar.addi v666 c1792_i32
  v667
def k0_off35 : Fin 3 → Nat :=
  let c0_235 : Index := 0#32
  let c0_i32_42 : BitVec 32 := 0#32
  let c2048_i32_232 : BitVec 32 := 2048#32
  let v666 : BitVec 32 := Scalar.muli c0_i32_42 c2048_i32_232
  let c1792_i32 : BitVec 32 := 1792#32
  let v667 : BitVec 32 := Scalar.addi v666 c1792_i32
  let v668 : BitVec 32 := v667
  let v672 : Index := Scalar.indexCast v668
  let c0_236 : Index := 0#32
  ![0, v672.toNat, 0]
def k0_off36 : Fin 3 → Nat :=
  let c1_240 : Index := 1#32
  let c0_i32_42 : BitVec 32 := 0#32
  let c2048_i32_232 : BitVec 32 := 2048#32
  let v666 : BitVec 32 := Scalar.muli c0_i32_42 c2048_i32_232
  let c1792_i32 : BitVec 32 := 1792#32
  let v667 : BitVec 32 := Scalar.addi v666 c1792_i32
  let v668 : BitVec 32 := v667
  let v679 : Index := Scalar.indexCast v668
  let c0_241 : Index := 0#32
  ![1, v679.toNat, 0]
def k0_mult31 : BitVec 32 :=
  let c0_i32_42 : BitVec 32 := 0#32
  let c8_i32 : BitVec 32 := 8#32
  let v102 : BitVec 32 := Scalar.muli c0_i32_42 c8_i32
  let c6_i32_243 : BitVec 32 := 6#32
  let v683 : BitVec 32 := Scalar.addi v102 c6_i32_243
  let c256_i32_244 : BitVec 32 := 256#32
  let v684 : BitVec 32 := Scalar.muli v683 c256_i32_244
  v684
def k0_mult32 : BitVec 32 :=
  let c0_i32_42 : BitVec 32 := 0#32
  let c8_i32 : BitVec 32 := 8#32
  let v102 : BitVec 32 := Scalar.muli c0_i32_42 c8_i32
  let c7_i32_257 : BitVec 32 := 7#32
  let v752 : BitVec 32 := Scalar.addi v102 c7_i32_257
  let c256_i32_258 : BitVec 32 := 256#32
  let v753 : BitVec 32 := Scalar.muli v752 c256_i32_258
  v753
def k0_off37 : Fin 2 → Nat :=
  let c0_i32_42 : BitVec 32 := 0#32
  let c2048_i32 : BitVec 32 := 2048#32
  let v97 : BitVec 32 := Scalar.muli c0_i32_42 c2048_i32
  let v98 : BitVec 32 := v97
  let v831 : Index := Scalar.indexCast v98
  let c0_273 : Index := 0#32
  ![v831.toNat, 0]
def k0_off38 : Fin 4 → Nat :=
  let c0_274 : Index := 0#32
  let c0_275 : Index := 0#32
  let c0_276 : Index := 0#32
  let c0_i32_42 : BitVec 32 := 0#32
  let c2048_i32 : BitVec 32 := 2048#32
  let v97 : BitVec 32 := Scalar.muli c0_i32_42 c2048_i32
  let v98 : BitVec 32 := v97
  let v835 : Index := Scalar.indexCast v98
  ![0, 0, 0, v835.toNat]
def k0_off39 : Fin 4 → Nat :=
  let c0_277 : Index := 0#32
  let c0_278 : Index := 0#32
  let c1_279 : Index := 1#32
  let c0_i32_42 : BitVec 32 := 0#32
  let c2048_i32 : BitVec 32 := 2048#32
  let v97 : BitVec 32 := Scalar.muli c0_i32_42 c2048_i32
  let v98 : BitVec 32 := v97
  let v841 : Index := Scalar.indexCast v98
  ![0, 0, 1, v841.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttFwdIdeal.lean ====
variable {F : FTy → Type} [FloatOps F] [Named F]
def κ : String → Option EReal := fun
  | "mask" => some ⊥
  | _ => none
-- ==== AttFwdRefIdeal.lean ====
abbrev S8192x1024 : Shape := ⟨2, ![8192, 1024]⟩
abbrev S4x16x2048 : Shape := ⟨3, ![4, 16, 2048]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048x1 : Shape := ⟨4, ![4, 16, 2048, 1]⟩
abbrev S4x16x1x2048 : Shape := ⟨4, ![4, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x2x2048 : Shape := ⟨4, ![4, 8, 2, 2048]⟩
abbrev S4x8x8x2048 : Shape := ⟨4, ![4, 8, 8, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x16x2048, .f32⟩
  | .hbm, ⟨4, _⟩ => ⟨S4x2048x16x64, .f32⟩
  | .hbm, ⟨5, _⟩ => ⟨S4x16x2048x64, .f32⟩
  | .hbm, ⟨6, _⟩ => ⟨S4x2048x16x64, .f32⟩
  | .hbm, ⟨7, _⟩ => ⟨S4x16x2048x64, .f32⟩
  | .hbm, ⟨8, _⟩ => ⟨S4x16x2048x2048, .f32⟩
  | .hbm, ⟨9, _⟩ => ⟨S_, .f32⟩
  | .hbm, ⟨10, _⟩ => ⟨S4x16x2048x2048, .f32⟩
  | .hbm, ⟨11, _⟩ => ⟨S4x16x2048x2048, .f32⟩
  | .hbm, ⟨12, _⟩ => ⟨S4x16x2048x1, .f32⟩
  | .hbm, ⟨13, _⟩ => ⟨S4x16x1x2048, .f32⟩
  | .hbm, ⟨14, _⟩ => ⟨S4x16x2048x2048, .f32⟩
  | .hbm, ⟨15, _⟩ => ⟨S4x16x2048x2048, .f32⟩
  | .hbm, ⟨16, _⟩ => ⟨S4x16x2048x2048, .f32⟩
  | .hbm, ⟨17, _⟩ => ⟨S4x16x2048x2048, .f32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S4x16x2048x2048, .i1⟩
  | .hbm, ⟨28, _⟩ => ⟨S4x16x2048x2048, .f32⟩
  | .hbm, ⟨29, _⟩ => ⟨S4x16x2048x2048, .f32⟩
  | .hbm, ⟨30, _⟩ => ⟨S_, .f32⟩
  | .hbm, ⟨31, _⟩ => ⟨S4x16x2048, .f32⟩
  | .hbm, ⟨32, _⟩ => ⟨S4x16x2048x1, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048, .f32⟩
  | .hbm, ⟨40, _⟩ => ⟨S4x16x2048, .f32⟩
  | .hbm, ⟨41, _⟩ => ⟨S_, .f32⟩
  | .hbm, ⟨42, _⟩ => ⟨S4x16x2048, .f32⟩
  | .hbm, ⟨43, _⟩ => ⟨S_, .f32⟩
  | .hbm, ⟨44, _⟩ => ⟨S4x16x2048, .f32⟩
  | .hbm, ⟨45, _⟩ => ⟨S4x16x2048, .f32⟩
  | .hbm, ⟨46, _⟩ => ⟨S4x16x2048x1, .f32⟩
  | .hbm, ⟨47, _⟩ => ⟨S4x16x2048x2048, .f32⟩
  | .hbm, ⟨48, _⟩ => ⟨S4x16x2048x2048, .f32⟩
  | .hbm, ⟨49, _⟩ => ⟨S4x16x2048x2048, .f32⟩
  | .hbm, ⟨50, _⟩ => ⟨S_, .f32⟩
  | .hbm, ⟨51, _⟩ => ⟨S4x16x2048, .f32⟩
  | .hbm, ⟨52, _⟩ => ⟨S4x16x2048x1, .f32⟩
  | .hbm, ⟨53, _⟩ => ⟨S4x16x2048x2048, .f32⟩
  | .hbm, ⟨54, _⟩ => ⟨S4x16x2048x2048, .f32⟩
  | .hbm, ⟨55, _⟩ => ⟨S4x2048x16x64, .f32⟩
  | .hbm, ⟨56, _⟩ => ⟨S4x16x2048x64, .f32⟩
  | .hbm, ⟨57, _⟩ => ⟨S4x16x2048x64, .f32⟩
  | .hbm, ⟨58, _⟩ => ⟨S4x2048x16x64, .f32⟩
  | .hbm, ⟨59, _⟩ => ⟨S8192x1024, .f32⟩
  | .hbm, ⟨60, _⟩ => ⟨S4x8x2x2048, .f32⟩
  | .hbm, ⟨61, _⟩ => ⟨S_, .i32⟩
  | .hbm, ⟨62, _⟩ => ⟨S_, .f32⟩
  | .hbm, ⟨63, _⟩ => ⟨S4x8x8x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_call1_v0 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Proof.Coe.lean ====
/- Real numbers inside the extended reals: the numbers of both programs are real for finite arguments, and an
   array of reals is carried through an operation by the rules here. The extended reals are no ring, so every
   equation of the proof is one over the reals. -/
module

public import Idealize.ShloMosaic.Lib.ValueIdx
public import Idealize.ShloMosaic.Lib.IdealHost

@[expose] public section

noncomputable section

namespace AttBwd

open Idealize.ShloMosaic

/-- An array of reals, as an array of extended reals. -/
def up {ι : Type} (f : ι → ℝ) : ι → EReal := fun i => ((f i : ℝ) : EReal)

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of reals. -/
theorem sum_mul_coe {ι : Type} (s : Finset ι) (f g : ι → ℝ) :
    ∑ i ∈ s, ((f i : ℝ) : EReal) * ((g i : ℝ) : EReal) = ((∑ i ∈ s, f i * g i : ℝ) : EReal) := by
  rw [← sum_coe]; exact Finset.sum_congr rfl fun i _ => (EReal.coe_mul _ _).symm

theorem div_coe_coe {y : ℝ} (h : y ≠ 0) (x : ℝ) : Ideal.div (x : EReal) (y : EReal) = ((x / y : ℝ) : EReal) := by
  rw [Ideal.div_coe h, ← EReal.coe_mul]; congr 1; ring

/-- An extended real that is neither infinity is a real. -/
theorem coe_toReal_of {x : EReal} (ht : x < ⊤) (hb : ⊥ < x) : ((x.toReal : ℝ) : EReal) = x :=
  EReal.coe_toReal ht.ne hb.ne'

theorem eighth_f32 : Ideal.ofBits .f32 0x3E000000#32 = ((1 / 8 : ℝ) : EReal) := by
  simp [Ideal.ofBits, Ideal.ieee, -EReal.coe_mul]; norm_num

theorem eighth_bf16 : Ideal.ofBits .bf16 0x3E00#16 = ((1 / 8 : ℝ) : EReal) := by
  simp [Ideal.ofBits, Ideal.ieee, -EReal.coe_mul]; norm_num

theorem zero_f32 : Ideal.ofBits .f32 0x00000000#32 = ((0 : ℝ) : EReal) := by simp [Ideal.ofBits, Ideal.ieee]

theorem zero_bf16 : Ideal.ofBits .bf16 0x0000#16 = ((0 : ℝ) : EReal) := by simp [Ideal.ofBits, Ideal.ieee]

theorem one_f32 : Ideal.ofBits .f32 0x3F800000#32 = ((1 : ℝ) : EReal) := by
  simp [Ideal.ofBits, Ideal.ieee, -EReal.coe_mul]; norm_num

theorem one_bf16 : Ideal.ofBits .bf16 0x3F80#16 = ((1 : ℝ) : EReal) := by
  simp [Ideal.ofBits, Ideal.ieee, -EReal.coe_mul]; norm_num

theorem neg_inf_f32 : Ideal.ofBits .f32 0xFF800000#32 = (⊥ : EReal) := by simp [Ideal.ofBits, Ideal.ieee]

theorem pos_inf_f32 : Ideal.ofBits .f32 0x7F800000#32 = (⊤ : EReal) := by simp [Ideal.ofBits, Ideal.ieee]

/-- The numbers whose absolute value is below infinity are the reals. -/
theorem coe_toReal_of_abs {x : EReal} (h : max x (-x) < ⊤) : ((x.toReal : ℝ) : EReal) = x := by
  refine coe_toReal_of (lt_of_le_of_lt (le_max_left _ _) h) ?_
  have := lt_of_le_of_lt (le_max_right _ _) h
  rwa [EReal.neg_lt_comm, EReal.neg_top] at this

/-! ### Indices by their coordinates -/

open ValueIdx

theorem ix2_of {n0 n1 : Nat} {i : (⟨2, ![n0, n1]⟩ : Shape).Idx} {r : Fin n0} {c : Fin n1}
    (h0 : (i 0).val = r.val) (h1 : (i 1).val = c.val) : i = ix2 r c := by
  rw [eq_ix2 i, Fin.ext (a := i 0) (b := r) h0, Fin.ext (a := i 1) (b := c) h1]; rfl

theorem ix3_of {n0 n1 n2 : Nat} {i : (⟨3, ![n0, n1, n2]⟩ : Shape).Idx} {a : Fin n0} {b : Fin n1} {c : Fin n2}
    (h0 : (i 0).val = a.val) (h1 : (i 1).val = b.val) (h2 : (i 2).val = c.val) : i = ix3 a b c := by
  rw [eq_ix3 i, Fin.ext (a := i 0) (b := a) h0, Fin.ext (a := i 1) (b := b) h1, Fin.ext (a := i 2) (b := c) h2]; rfl

theorem ix4_of {n0 n1 n2 n3 : Nat} {i : (⟨4, ![n0, n1, n2, n3]⟩ : Shape).Idx} {a : Fin n0} {b : Fin n1} {c : Fin n2} {d : Fin n3}
    (h0 : (i 0).val = a.val) (h1 : (i 1).val = b.val) (h2 : (i 2).val = c.val) (h3 : (i 3).val = d.val) : i = ix4 a b c d := by
  rw [eq_ix4 i, Fin.ext (a := i 0) (b := a) h0, Fin.ext (a := i 1) (b := b) h1, Fin.ext (a := i 2) (b := c) h2,
    Fin.ext (a := i 3) (b := d) h3]; rfl

end AttBwd

end
-- ==== Proof.Blocks.lean ====
/- Blocks of reals. A block of extended reals whose number at each place is the real that a function of the
   coordinates names is carried through each operation of the kernel's body: the operation's block is again one of
   reals, and the function of its coordinates is written from those of its arguments. Coordinates are natural
   numbers, so that a block cut out of an array is the array's function at shifted coordinates. -/
module

public import proofs.«01_k».proof.Proof.Coe
public import Idealize.ShloMosaic.Lib.MatmulPlain
public import Idealize.ShloMosaic.Lib.Pipeline.Value
public import Idealize.ShloMosaic.Lib.Pipeline.FrameBody

@[expose] public section

noncomputable section

namespace AttBwd

open Idealize.ShloMosaic Idealize.ShloMosaic.ValueIdx

/-- The vector `v` holds the reals `f`. -/
def At1 {n : ℕ} (v : (⟨1, ![n]⟩ : Shape).Idx → EReal) (f : ℕ → ℝ) : Prop :=
  ∀ x, v x = ((f (x 0).val : ℝ) : EReal)

/-- The matrix `v` holds the reals `f`. -/
def At2 {m n : ℕ} (v : (⟨2, ![m, n]⟩ : Shape).Idx → EReal) (f : ℕ → ℕ → ℝ) : Prop :=
  ∀ x, v x = ((f (x 0).val (x 1).val : ℝ) : EReal)

/-- The array `v` of rank three holds the reals `f`. -/
def At3 {l m n : ℕ} (v : (⟨3, ![l, m, n]⟩ : Shape).Idx → EReal) (f : ℕ → ℕ → ℕ → ℝ) : Prop :=
  ∀ x, v x = ((f (x 0).val (x 1).val (x 2).val : ℝ) : EReal)

/-- The array `v` of rank four holds the reals `f`. -/
def At4 {k l m n : ℕ} (v : (⟨4, ![k, l, m, n]⟩ : Shape).Idx → EReal) (f : ℕ → ℕ → ℕ → ℕ → ℝ) : Prop :=
  ∀ x, v x = ((f (x 0).val (x 1).val (x 2).val (x 3).val : ℝ) : EReal)

/-- The matrix `w` of 32-bit words holds the integers `f`. -/
def Int2 {m n : ℕ} (w : IVec ⟨2, ![m, n]⟩ 32) (f : ℕ → ℕ → ℤ) : Prop := ∀ x, (w x).toInt = f (x 0).val (x 1).val

/-- The mask `c` is set where `p` says. -/
def Mask {m n : ℕ} (c : IVec ⟨2, ![m, n]⟩ 1) (p : ℕ → ℕ → Bool) : Prop := ∀ x, c x = BitVec.ofBool (p (x 0).val (x 1).val)

section Masks
variable {m n : ℕ}

theorem toInt_ofNat {k : ℕ} (h : k < 2 ^ 31) : (BitVec.ofNat 32 k).toInt = (k : ℤ) := by
  rw [BitVec.toInt_eq_toNat_of_lt (by rw [BitVec.toNat_ofNat]; omega), BitVec.toNat_ofNat, Nat.mod_eq_of_lt (by omega)]

theorem int2_splat {k : BitVec 32} {z : ℤ} (h : k.toInt = z) : Int2 (broadcast (⟨2, ![m, n]⟩ : Shape) k) fun _ _ => z := fun _ => h

theorem int2_iota0 (hm : m ≤ 2 ^ 31) (h : (⟨2, ![m, n]⟩ : Shape).Iotas Kind.tc 32 [0]) :
    Int2 (iota Kind.tc (⟨2, ![m, n]⟩ : Shape) 32 [0] h) fun r _ => (r : ℤ) := fun x => by
  rw [iota_single_apply]; exact toInt_ofNat (lt_of_lt_of_le (x 0).isLt hm)

theorem int2_iota1 (hn : n ≤ 2 ^ 31) (h : (⟨2, ![m, n]⟩ : Shape).Iotas Kind.tc 32 [1]) :
    Int2 (iota Kind.tc (⟨2, ![m, n]⟩ : Shape) 32 [1] h) fun _ c => (c : ℤ) := fun x => by
  rw [iota_single_apply]; exact toInt_ofNat (lt_of_lt_of_le (x 1).isLt hn)

/-- The column less the row. -/
theorem int2_diag (hm : m ≤ 2 ^ 30) (hn : n ≤ 2 ^ 30) (h0 : (⟨2, ![m, n]⟩ : Shape).Iotas Kind.tc 32 [0])
    (h1 : (⟨2, ![m, n]⟩ : Shape).Iotas Kind.tc 32 [1]) :
    Int2 (subi (iota Kind.tc (⟨2, ![m, n]⟩ : Shape) 32 [1] h1) (iota Kind.tc (⟨2, ![m, n]⟩ : Shape) 32 [0] h0))
      fun r c => (c : ℤ) - (r : ℤ) := fun x => by
  show ((iota Kind.tc (⟨2, ![m, n]⟩ : Shape) 32 [1] h1 x) - (iota Kind.tc (⟨2, ![m, n]⟩ : Shape) 32 [0] h0 x)).toInt = _
  rw [BitVec.toInt_sub, int2_iota0 (by omega) h0 x, int2_iota1 (by omega) h1 x]
  have hr : (x 0).val < 2 ^ 30 := lt_of_lt_of_le (x 0).isLt hm
  have hc : (x 1).val < 2 ^ 30 := lt_of_lt_of_le (x 1).isLt hn
  show Int.bmod (((x 1).val : ℤ) - ((x 0).val : ℤ)) (2 ^ 32) = ((x 1).val : ℤ) - ((x 0).val : ℤ)
  exact Int.bmod_eq_of_le (by omega) (by omega)

theorem Mask.sge {a b : IVec ⟨2, ![m, n]⟩ 32} {f g : ℕ → ℕ → ℤ} (ha : Int2 a f) (hb : Int2 b g) :
    Mask (cmpi .sge a b) fun r c => decide (g r c ≤ f r c) := fun x => by
  show BitVec.ofBool ((b x).sle (a x)) = _
  rw [BitVec.sle_eq_decide, ha x, hb x]

theorem Mask.sle {a b : IVec ⟨2, ![m, n]⟩ 32} {f g : ℕ → ℕ → ℤ} (ha : Int2 a f) (hb : Int2 b g) :
    Mask (cmpi .sle a b) fun r c => decide (f r c ≤ g r c) := fun x => by
  show BitVec.ofBool ((a x).sle (b x)) = _
  rw [BitVec.sle_eq_decide, ha x, hb x]

theorem Mask.slt {a b : IVec ⟨2, ![m, n]⟩ 32} {f g : ℕ → ℕ → ℤ} (ha : Int2 a f) (hb : Int2 b g) :
    Mask (cmpi .slt a b) fun r c => decide (f r c < g r c) := fun x => by
  show BitVec.ofBool ((a x).slt (b x)) = _
  rw [BitVec.slt_eq_decide, ha x, hb x]

theorem Mask.eq {a b : IVec ⟨2, ![m, n]⟩ 32} {f g : ℕ → ℕ → ℤ} (ha : Int2 a f) (hb : Int2 b g) :
    Mask (cmpi .eq a b) fun r c => decide (f r c = g r c) := fun x => by
  show BitVec.ofBool ((a x) == (b x)) = BitVec.ofBool (decide (f (x 0).val (x 1).val = g (x 0).val (x 1).val))
  rw [← ha x, ← hb x]
  by_cases h : a x = b x
  · simp [h]
  · rw [beq_false_of_ne h, decide_eq_false (fun e => h (BitVec.eq_of_toInt_eq e))]

theorem Mask.and {a b : IVec ⟨2, ![m, n]⟩ 1} {p q : ℕ → ℕ → Bool} (ha : Mask a p) (hb : Mask b q) :
    Mask (andi a b) fun r c => p r c && q r c := fun x => by
  show a x &&& b x = BitVec.ofBool (p (x 0).val (x 1).val && q (x 0).val (x 1).val)
  rw [ha x, hb x]
  cases p (x 0).val (x 1).val <;> cases q (x 0).val (x 1).val <;> rfl

theorem Mask.cast {a : IVec ⟨2, ![m, n]⟩ 1} {p : ℕ → ℕ → Bool} (ha : Mask a p)
    (h : (⟨2, ![m, n]⟩ : Shape).ShapeCasts ⟨2, ![m, n]⟩) : Mask (shapeCast ⟨2, ![m, n]⟩ a h) p := fun x => by
  rw [shapeCast_apply a h x x rfl, ha]

theorem Mask.rows {a : IVec ⟨2, ![1, n]⟩ 1} {p : ℕ → ℕ → Bool} (ha : Mask a p) (hn : n ≠ 1)
    (h : (⟨2, ![1, n]⟩ : Shape).Broadcasts ⟨2, ![m, n]⟩) : Mask (broadcastTo ⟨2, ![m, n]⟩ a h) fun _ c => p 0 c := fun x => by
  rw [broadcastTo_apply a h x (ix2 0 (x 1)) (fun b => match b with
    | ⟨0, _⟩ => (if_pos rfl).symm
    | ⟨1, _⟩ => (if_neg hn).symm), ha]
  rfl

end Masks

section Elementwise
variable {m n : ℕ} {φ ψ : FTy} {a b : FVec Ideal ⟨2, ![m, n]⟩ φ} {f g : ℕ → ℕ → ℝ}

/-- Functions that agree on the block name the same reals. -/
theorem At2.congr {v : (⟨2, ![m, n]⟩ : Shape).Idx → EReal} (h : At2 v f) (e : ∀ r c, r < m → c < n → f r c = g r c) : At2 v g :=
  fun x => (h x).trans (by rw [e _ _ (x 0).isLt (x 1).isLt])

theorem At2.add (ha : At2 a f) (hb : At2 b g) : At2 (addf a b) fun r c => f r c + g r c := fun x => by
  show a x + b x = _
  rw [ha x, hb x, ← EReal.coe_add]

theorem At2.sub (ha : At2 a f) (hb : At2 b g) : At2 (subf a b) fun r c => f r c - g r c := fun x => by
  show a x - b x = _
  rw [ha x, hb x, ← EReal.coe_sub]

theorem At2.mul (ha : At2 a f) (hb : At2 b g) : At2 (mulf a b) fun r c => f r c * g r c := fun x => by
  show a x * b x = _
  rw [ha x, hb x, ← EReal.coe_mul]

theorem At2.exp (ha : At2 a f) : At2 (Idealize.ShloMosaic.exp a) fun r c => Real.exp (f r c) := fun x => by
  show Ideal.exp (a x) = _
  rw [ha x, Ideal.exp_coe]

theorem At2.trunc (ha : At2 a f) (h : ψ.bits < φ.bits) : At2 (truncf ψ a h) f := ha

theorem At2.ext (ha : At2 a f) (h : φ.bits < ψ.bits) : At2 (extf ψ a h) f := ha

/-- A splat of one real. -/
theorem at2_splat {x : EReal} {r : ℝ} (h : x = (r : EReal)) : At2 (broadcast (⟨2, ![m, n]⟩ : Shape) x) fun _ _ => r :=
  fun _ => h

/-- A choice by a mask that is set where `p` holds. -/
theorem At2.select {c : IVec ⟨2, ![m, n]⟩ 1} {p : ℕ → ℕ → Bool} (hc : Mask c p) (ha : At2 a f) (hb : At2 b g) :
    At2 (Idealize.ShloMosaic.select c a b) fun r c => if p r c then f r c else g r c := fun x => by
  show Scalar.select (c x) (a x) (b x) = _
  rw [hc x, ha x, hb x]
  show Scalar.select (BitVec.ofBool (p (x 0).val (x 1).val)) _ _ = (((if p (x 0).val (x 1).val then _ else _) : ℝ) : EReal)
  cases p (x 0).val (x 1).val <;> rfl

/-- The weights of a block that the mask leaves alone in part: the exponential of minus infinity is zero. -/
theorem At2.masked_exp {c : IVec ⟨2, ![m, n]⟩ 1} {p : ℕ → ℕ → Bool} {k : EReal} (hc : Mask c p) (hk : k = ⊥) (ha : At2 a f) (hb : At2 b g) :
    At2 (Idealize.ShloMosaic.exp (subf (Idealize.ShloMosaic.select c a (broadcast (⟨2, ![m, n]⟩ : Shape) k)) b))
      fun r c => if p r c then Real.exp (f r c - g r c) else 0 := fun x => by
  show Ideal.exp (Scalar.select (c x) (a x) k - b x) = _
  rw [hc x, ha x, hb x, hk]
  show _ = (((if p (x 0).val (x 1).val then _ else _) : ℝ) : EReal)
  cases p (x 0).val (x 1).val
  · show Ideal.exp (⊥ - ((g (x 0).val (x 1).val : ℝ) : EReal)) = ((0 : ℝ) : EReal)
    rw [EReal.bot_sub, Ideal.exp_bot]; rfl
  · show Ideal.exp (((f (x 0).val (x 1).val : ℝ) : EReal) - ((g (x 0).val (x 1).val : ℝ) : EReal)) = _
    rw [← EReal.coe_sub, Ideal.exp_coe]; rfl

end Elementwise

section Products
variable {M K N : ℕ} {φ₁ φ₂ : FTy}

/-- A product with the second factor transposed: rows against rows. -/
theorem At2.nt {a : FVec Ideal ⟨2, ![M, K]⟩ φ₁} {b : FVec Ideal ⟨2, ![N, K]⟩ φ₂} {f g : ℕ → ℕ → ℝ} (ha : At2 a f) (hb : At2 b g) :
    At2 (FloatOps.matmul (DotDims.transposedRhs M K N) none a b (constant ⟨2, ![M, N]⟩ .f32 0#32))
      fun r c => ∑ k : Fin K, f r k.val * g c k.val := fun x => by
  rw [eq_ix2 x]
  refine (Ideal.matmul_transposedRhs_apply none a b _ (x 0) (x 1)).trans ?_
  rw [show (constant (F := Ideal) ⟨2, ![M, N]⟩ .f32 0#32) (ix2 (x 0) (x 1)) = (0 : EReal) from zero_f32, zero_add]
  simp only [ha (ix2 (x 0) _), hb (ix2 (x 1) _)]
  exact sum_mul_coe _ _ _

/-- A plain product: rows against columns. -/
theorem At2.nn {a : FVec Ideal ⟨2, ![M, K]⟩ φ₁} {b : FVec Ideal ⟨2, ![K, N]⟩ φ₂} {f g : ℕ → ℕ → ℝ} (ha : At2 a f) (hb : At2 b g) :
    At2 (FloatOps.matmul (DotDims.plain M K N) none a b (constant ⟨2, ![M, N]⟩ .f32 0#32))
      fun r c => ∑ k : Fin K, f r k.val * g k.val c := fun x => by
  rw [eq_ix2 x]
  refine (Ideal.matmul_plain_apply none a b _ (x 0) (x 1)).trans ?_
  rw [show (constant (F := Ideal) ⟨2, ![M, N]⟩ .f32 0#32) (ix2 (x 0) (x 1)) = (0 : EReal) from zero_f32, zero_add]
  simp only [ha (ix2 (x 0) _), hb (ix2 _ (x 1))]
  exact sum_mul_coe _ _ _

end Products

section Layout
variable {l m n : ℕ} {φ : FTy}

theorem At2.transpose {a : (⟨2, ![m, n]⟩ : Shape).Idx → EReal} {f : ℕ → ℕ → ℝ} (ha : At2 a f)
    (h : (⟨2, ![m, n]⟩ : Shape).Transposes [1, 0] ⟨2, ![n, m]⟩) :
    At2 (Idealize.ShloMosaic.transpose ⟨2, ![n, m]⟩ [1, 0] a h) fun r c => f c r := fun x => by
  rw [transpose_apply [1, 0] a h x (ix2 (x 1) (x 0)) (fun b => match b with | ⟨0, _⟩ => rfl | ⟨1, _⟩ => rfl), ha]
  rfl

/-- One row given to every row. -/
theorem At2.rows {a : (⟨2, ![1, n]⟩ : Shape).Idx → EReal} {f : ℕ → ℕ → ℝ} (ha : At2 a f) (hn : n ≠ 1)
    (h : (⟨2, ![1, n]⟩ : Shape).Broadcasts ⟨2, ![m, n]⟩) :
    At2 (broadcastTo ⟨2, ![m, n]⟩ a h) fun _ c => f 0 c := fun x => by
  rw [broadcastTo_apply a h x (ix2 0 (x 1)) (fun b => match b with
    | ⟨0, _⟩ => (if_pos rfl).symm
    | ⟨1, _⟩ => (if_neg hn).symm), ha]
  rfl

/-- A leading axis of one is dropped. -/
theorem At3.drop {a : (⟨3, ![1, m, n]⟩ : Shape).Idx → EReal} {f : ℕ → ℕ → ℕ → ℝ} (ha : At3 a f)
    (h : (⟨3, ![1, m, n]⟩ : Shape).ShapeCasts ⟨2, ![m, n]⟩) : At2 (shapeCast ⟨2, ![m, n]⟩ a h) (f 0) := fun x => by
  rw [shapeCast_dropUnit_apply ![m, n] a h x, ha]; rfl

/-- A leading axis of one is added. -/
theorem At2.unit {a : (⟨2, ![m, n]⟩ : Shape).Idx → EReal} {f : ℕ → ℕ → ℝ} (ha : At2 a f)
    (h : (⟨2, ![m, n]⟩ : Shape).ShapeCasts ⟨3, ![1, m, n]⟩) : At3 (shapeCast ⟨3, ![1, m, n]⟩ a h) fun _ r c => f r c := fun x => by
  exact (shapeCast_addUnit_apply ![m, n] a h x).trans (ha _)

theorem At2.cast {a : (⟨2, ![m, n]⟩ : Shape).Idx → EReal} {f : ℕ → ℕ → ℝ} (ha : At2 a f)
    (h : (⟨2, ![m, n]⟩ : Shape).ShapeCasts ⟨2, ![m, n]⟩) : At2 (shapeCast ⟨2, ![m, n]⟩ a h) f := fun x => by
  rw [shapeCast_apply a h x x rfl, ha]

theorem At3.cast {a : (⟨3, ![l, m, n]⟩ : Shape).Idx → EReal} {f : ℕ → ℕ → ℕ → ℝ} (ha : At3 a f)
    (h : (⟨3, ![l, m, n]⟩ : Shape).ShapeCasts ⟨3, ![l, m, n]⟩) : At3 (shapeCast ⟨3, ![l, m, n]⟩ a h) f := fun x => by
  rw [shapeCast_apply a h x x rfl, ha]

/-- Three axes of one, the last of them kept as a row. -/
theorem At4.drop {a : (⟨4, ![1, 1, 1, n]⟩ : Shape).Idx → EReal} {f : ℕ → ℕ → ℕ → ℕ → ℝ} (ha : At4 a f)
    (h : (⟨4, ![1, 1, 1, n]⟩ : Shape).ShapeCasts ⟨2, ![1, n]⟩) : At2 (shapeCast ⟨2, ![1, n]⟩ a h) (f 0 0) := fun x => by
  have h0 : (x 0).val = 0 := Nat.lt_one_iff.mp (x 0).isLt
  rw [shapeCast_apply a h x (ix4 0 0 (x 0) (x 1)) (by
    rw [Shape.rowMajor_val_four, Shape.rowMajor_val_two]
    show ((0 * 1 + 0) * 1 + (x 0).val) * n + (x 1).val = (x 0).val * n + (x 1).val
    rw [h0]), ha]
  rfl

/-- A row given three axes of one. -/
theorem At2.unit4 {a : (⟨2, ![1, n]⟩ : Shape).Idx → EReal} {f : ℕ → ℕ → ℝ} (ha : At2 a f)
    (h : (⟨2, ![1, n]⟩ : Shape).ShapeCasts ⟨4, ![1, 1, 1, n]⟩) :
    At4 (shapeCast ⟨4, ![1, 1, 1, n]⟩ a h) fun _ _ _ c => f 0 c := fun x => by
  have h0 : (x 0).val = 0 := Nat.lt_one_iff.mp (x 0).isLt
  have h1 : (x 1).val = 0 := Nat.lt_one_iff.mp (x 1).isLt
  have h2 : (x 2).val = 0 := Nat.lt_one_iff.mp (x 2).isLt
  rw [shapeCast_apply a h x (ix2 0 (x 3)) (by
    rw [Shape.rowMajor_val_four, Shape.rowMajor_val_two]
    show 0 * n + (x 3).val = (((x 0).val * 1 + (x 1).val) * 1 + (x 2).val) * n + (x 3).val
    rw [h0, h1, h2]), ha]
  rfl

/-- A vector as a row. -/
theorem At1.row {a : (⟨1, ![n]⟩ : Shape).Idx → EReal} {f : ℕ → ℝ} (ha : At1 a f)
    (h : (⟨1, ![n]⟩ : Shape).ShapeCasts ⟨2, ![1, n]⟩) : At2 (shapeCast ⟨2, ![1, n]⟩ a h) fun _ c => f c := fun x => by
  exact (shapeCast_addUnit_apply ![n] a h x).trans (ha _)

/-- The sums of the columns. -/
theorem At2.sumRows {a : FVec Ideal ⟨2, ![m, n]⟩ .f32} {f : ℕ → ℕ → ℝ} (ha : At2 a f)
    (h : (⟨2, ![m, n]⟩ : Shape).Reduces [0] ⟨1, ![n]⟩) (hφ : FKind.Formats .f32) (hacc : (0#32 : BitVec 32) = FKind.add.neutral .f32 hφ) :
    At1 (multiReduction .add [0] ⟨1, ![n]⟩ a 0#32 h hφ hacc) fun c => ∑ r : Fin m, f r.val c := fun x => by
  rw [Ideal.multiReduction_add_single, ← sum_coe]
  exact Finset.sum_congr rfl fun k _ => ha _

/-- Rows from `o` on. -/
theorem At2.slice {M : ℕ} {a : (⟨2, ![M, n]⟩ : Shape).Idx → EReal} {f : ℕ → ℕ → ℝ} (ha : At2 a f) (o : ℕ)
    (h : (⟨2, ![M, n]⟩ : Shape).Slices ![o, 0] ⟨2, ![m, n]⟩) :
    At2 (extractStridedSlice ⟨2, ![m, n]⟩ ![o, 0] a h) fun r c => f (o + r) c := fun x => by
  have hb : o + (x 0).val < M := lt_of_lt_of_le (Nat.add_lt_add_left (x 0).isLt o) (h.2 0)
  rw [extractStridedSlice_apply ![o, 0] a h x (ix2 ⟨o + (x 0).val, hb⟩ (x 1)) (fun b => match b with
    | ⟨0, _⟩ => rfl
    | ⟨1, _⟩ => (Nat.zero_add _).symm), ha]
  rfl

/-- Two blocks of rows, one after the other. -/
theorem At2.concat {m₁ m₂ : ℕ} {a : (⟨2, ![m₁, n]⟩ : Shape).Idx → EReal} {b : (⟨2, ![m₂, n]⟩ : Shape).Idx → EReal} {f g : ℕ → ℕ → ℝ}
    (ha : At2 a f) (hb : At2 b g) (hm : m = m₁ + m₂)
    (h : Shape.Concatenates [(⟨2, ![m₁, n]⟩ : Shape), ⟨2, ![m₂, n]⟩] ⟨2, ![m, n]⟩ 0) :
    At2 (concatenate (⟨2, ![m, n]⟩ : Shape) 0 [⟨⟨2, ![m₁, n]⟩, a⟩, ⟨⟨2, ![m₂, n]⟩, b⟩] h)
      fun r c => if r < m₁ then f r c else g (r - m₁) c := fun x => by
  have hx : (x 0).val < m := (x 0).isLt
  by_cases hr : (x 0).val < m₁
  · rw [concatenate_pair_apply_left 0 a b h x rfl (ix2 ⟨(x 0).val, hr⟩ (x 1)) (fun b => match b with
      | ⟨0, _⟩ => rfl
      | ⟨1, _⟩ => rfl), ha]
    exact congrArg _ (if_pos hr).symm
  · rw [concatenate_pair_apply_right 0 a b h x rfl rfl (ix2 ⟨(x 0).val - m₁, by omega⟩ (x 1)) (fun b => match b with
      | ⟨0, _⟩ => fun hne => absurd rfl hne
      | ⟨1, _⟩ => fun _ => rfl) (by show (x 0).val - m₁ + m₁ = (x 0).val; omega), hb]
    exact congrArg _ (if_neg hr).symm

end Layout

/-! ### What is left in a buffer written piece by piece -/

section Pieces
variable {Val : EltTy → Type} [∀ e, Nonempty (Val e)] {e : EltTy}

/-- The last write of a list holds on its own rectangle, -/
theorem canon_unit {S : Shape} {off size : Fin S.rank → ℕ} (inb : ∀ a, off a + size a ≤ S.size a)
    (w : (Rect.unit off size inb).shape.Idx → Val e) (L : List (View.Piece Val S e)) (x : S.Idx)
    (h : ∀ a, off a ≤ (x a).val ∧ (x a).val < off a + size a) :
    ∃ y : (Rect.unit off size inb).shape.Idx, (∀ a, (x a).val = off a + (y a).val) ∧
      View.canon ((⟨Rect.unit off size inb, w⟩ : View.Piece Val S e) :: L) x = w y := by
  obtain ⟨y, rfl⟩ : ∃ y, (Rect.unit off size inb).emb y = x := (Rect.unit off size inb).exists_idx_of_mem (Rect.mem_set_unit.mpr h)
  refine ⟨y, fun a => ?_, View.canon_cons_emb _ w L y⟩
  rw [Rect.emb_apply]
  show off a + 1 * (y a).val = off a + (y a).val
  rw [one_mul]

/-- the earlier ones off it. -/
theorem canon_unit_of_not {S : Shape} {off size : Fin S.rank → ℕ} (inb : ∀ a, off a + size a ≤ S.size a)
    (w : (Rect.unit off size inb).shape.Idx → Val e) (L : List (View.Piece Val S e)) (x : S.Idx)
    (h : ¬ ∀ a, off a ≤ (x a).val ∧ (x a).val < off a + size a) :
    View.canon ((⟨Rect.unit off size inb, w⟩ : View.Piece Val S e) :: L) x = View.canon L x :=
  View.canon_cons_of_not_mem _ L (fun hm => h ((Rect.mem_set_unit (inb := inb)).mp hm))

end Pieces

/-! What a buffer of rank two, three or four holds after writes is stated by a relation `R` between the coordinates and
the number there; a write adds to what is asked of the earlier ones the hypothesis that the place lies off it. -/

section Pieces
variable {Val : EltTy → Type} [∀ e, Nonempty (Val e)] {e : EltTy}

theorem canon2 {m n o₀ o₁ s₀ s₁ : ℕ} {R : ℕ → ℕ → Val e → Prop} {inb}
    {w : (Rect.unit (s := ⟨2, ![m, n]⟩) ![o₀, o₁] ![s₀, s₁] inb).shape.Idx → Val e} {L : List (View.Piece Val (⟨2, ![m, n]⟩ : Shape) e)}
    (hw : ∀ y, R (o₀ + (y 0).val) (o₁ + (y 1).val) (w y))
    (hL : ∀ x : (⟨2, ![m, n]⟩ : Shape).Idx, ¬ (o₀ ≤ (x 0).val ∧ (x 0).val < o₀ + s₀ ∧ o₁ ≤ (x 1).val ∧ (x 1).val < o₁ + s₁) →
      R (x 0).val (x 1).val (View.canon L x)) (x : (⟨2, ![m, n]⟩ : Shape).Idx) :
    R (x 0).val (x 1).val (View.canon ((⟨Rect.unit ![o₀, o₁] ![s₀, s₁] inb, w⟩ : View.Piece Val _ e) :: L) x) := by
  by_cases h : o₀ ≤ (x 0).val ∧ (x 0).val < o₀ + s₀ ∧ o₁ ≤ (x 1).val ∧ (x 1).val < o₁ + s₁
  · have h' : ∀ a : Fin 2, (![o₀, o₁] : Fin 2 → ℕ) a ≤ (x a).val ∧ (x a).val < (![o₀, o₁] : Fin 2 → ℕ) a + (![s₀, s₁] : Fin 2 → ℕ) a :=
      Fin.forall_fin_two.mpr ⟨⟨h.1, h.2.1⟩, ⟨h.2.2.1, h.2.2.2⟩⟩
    obtain ⟨y, hy, e⟩ := canon_unit inb w L x h'
    have h0 : (x 0).val = o₀ + (y 0).val := hy 0
    have h1 : (x 1).val = o₁ + (y 1).val := hy 1
    rw [e, h0, h1]
    exact hw y
  · rw [canon_unit_of_not inb w L x fun h' => h ⟨(h' 0).1, (h' 0).2, (h' 1).1, (h' 1).2⟩]
    exact hL x h

theorem canon3 {l m n o₀ o₁ o₂ s₀ s₁ s₂ : ℕ} {R : ℕ → ℕ → ℕ → Val e → Prop} {inb}
    {w : (Rect.unit (s := ⟨3, ![l, m, n]⟩) ![o₀, o₁, o₂] ![s₀, s₁, s₂] inb).shape.Idx → Val e}
    {L : List (View.Piece Val (⟨3, ![l, m, n]⟩ : Shape) e)}
    (hw : ∀ y, R (o₀ + (y 0).val) (o₁ + (y 1).val) (o₂ + (y 2).val) (w y))
    (hL : ∀ x : (⟨3, ![l, m, n]⟩ : Shape).Idx, ¬ (o₀ ≤ (x 0).val ∧ (x 0).val < o₀ + s₀ ∧ o₁ ≤ (x 1).val ∧ (x 1).val < o₁ + s₁ ∧
      o₂ ≤ (x 2).val ∧ (x 2).val < o₂ + s₂) → R (x 0).val (x 1).val (x 2).val (View.canon L x)) (x : (⟨3, ![l, m, n]⟩ : Shape).Idx) :
    R (x 0).val (x 1).val (x 2).val (View.canon ((⟨Rect.unit ![o₀, o₁, o₂] ![s₀, s₁, s₂] inb, w⟩ : View.Piece Val _ e) :: L) x) := by
  by_cases h : o₀ ≤ (x 0).val ∧ (x 0).val < o₀ + s₀ ∧ o₁ ≤ (x 1).val ∧ (x 1).val < o₁ + s₁ ∧ o₂ ≤ (x 2).val ∧ (x 2).val < o₂ + s₂
  · have h' : ∀ a : Fin 3, (![o₀, o₁, o₂] : Fin 3 → ℕ) a ≤ (x a).val ∧
        (x a).val < (![o₀, o₁, o₂] : Fin 3 → ℕ) a + (![s₀, s₁, s₂] : Fin 3 → ℕ) a := by
      intro a
      match a with
      | ⟨0, _⟩ => exact ⟨h.1, h.2.1⟩
      | ⟨1, _⟩ => exact ⟨h.2.2.1, h.2.2.2.1⟩
      | ⟨2, _⟩ => exact h.2.2.2.2
    obtain ⟨y, hy, e⟩ := canon_unit inb w L x h'
    have h0 : (x 0).val = o₀ + (y 0).val := hy 0
    have h1 : (x 1).val = o₁ + (y 1).val := hy 1
    have h2 : (x 2).val = o₂ + (y 2).val := hy 2
    rw [e, h0, h1, h2]
    exact hw y
  · rw [canon_unit_of_not inb w L x fun h' => h ⟨(h' 0).1, (h' 0).2, (h' 1).1, (h' 1).2, (h' 2).1, (h' 2).2⟩]
    exact hL x h

theorem canon4 {k l m n o₀ o₁ o₂ o₃ s₀ s₁ s₂ s₃ : ℕ} {R : ℕ → ℕ → ℕ → ℕ → Val e → Prop} {inb}
    {w : (Rect.unit (s := ⟨4, ![k, l, m, n]⟩) ![o₀, o₁, o₂, o₃] ![s₀, s₁, s₂, s₃] inb).shape.Idx → Val e}
    {L : List (View.Piece Val (⟨4, ![k, l, m, n]⟩ : Shape) e)}
    (hw : ∀ y, R (o₀ + (y 0).val) (o₁ + (y 1).val) (o₂ + (y 2).val) (o₃ + (y 3).val) (w y))
    (hL : ∀ x : (⟨4, ![k, l, m, n]⟩ : Shape).Idx, ¬ (o₀ ≤ (x 0).val ∧ (x 0).val < o₀ + s₀ ∧ o₁ ≤ (x 1).val ∧ (x 1).val < o₁ + s₁ ∧
      o₂ ≤ (x 2).val ∧ (x 2).val < o₂ + s₂ ∧ o₃ ≤ (x 3).val ∧ (x 3).val < o₃ + s₃) →
      R (x 0).val (x 1).val (x 2).val (x 3).val (View.canon L x)) (x : (⟨4, ![k, l, m, n]⟩ : Shape).Idx) :
    R (x 0).val (x 1).val (x 2).val (x 3).val
      (View.canon ((⟨Rect.unit ![o₀, o₁, o₂, o₃] ![s₀, s₁, s₂, s₃] inb, w⟩ : View.Piece Val _ e) :: L) x) := by
  by_cases h : o₀ ≤ (x 0).val ∧ (x 0).val < o₀ + s₀ ∧ o₁ ≤ (x 1).val ∧ (x 1).val < o₁ + s₁ ∧ o₂ ≤ (x 2).val ∧ (x 2).val < o₂ + s₂ ∧
      o₃ ≤ (x 3).val ∧ (x 3).val < o₃ + s₃
  · have h' : ∀ a : Fin 4, (![o₀, o₁, o₂, o₃] : Fin 4 → ℕ) a ≤ (x a).val ∧
        (x a).val < (![o₀, o₁, o₂, o₃] : Fin 4 → ℕ) a + (![s₀, s₁, s₂, s₃] : Fin 4 → ℕ) a := by
      intro a
      match a with
      | ⟨0, _⟩ => exact ⟨h.1, h.2.1⟩
      | ⟨1, _⟩ => exact ⟨h.2.2.1, h.2.2.2.1⟩
      | ⟨2, _⟩ => exact ⟨h.2.2.2.2.1, h.2.2.2.2.2.1⟩
      | ⟨3, _⟩ => exact h.2.2.2.2.2.2
    obtain ⟨y, hy, e⟩ := canon_unit inb w L x h'
    have h0 : (x 0).val = o₀ + (y 0).val := hy 0
    have h1 : (x 1).val = o₁ + (y 1).val := hy 1
    have h2 : (x 2).val = o₂ + (y 2).val := hy 2
    have h3 : (x 3).val = o₃ + (y 3).val := hy 3
    rw [e, h0, h1, h2, h3]
    exact hw y
  · rw [canon_unit_of_not inb w L x fun h' => h ⟨(h' 0).1, (h' 0).2, (h' 1).1, (h' 1).2, (h' 2).1, (h' 2).2, (h' 3).1, (h' 3).2⟩]
    exact hL x h

end Pieces

/-! The same of reals: `On` is the statement of a place's domain, of a buffer of words of either float format. -/

/-- Where `D` holds, the matrix `v` holds the reals `F`. -/
def On2 {m n : ℕ} (D : ℕ → ℕ → Prop) (v : (⟨2, ![m, n]⟩ : Shape).Idx → EReal) (F : ℕ → ℕ → ℝ) : Prop :=
  ∀ x, D (x 0).val (x 1).val → v x = ((F (x 0).val (x 1).val : ℝ) : EReal)

def On3 {l m n : ℕ} (D : ℕ → ℕ → ℕ → Prop) (v : (⟨3, ![l, m, n]⟩ : Shape).Idx → EReal) (F : ℕ → ℕ → ℕ → ℝ) : Prop :=
  ∀ x, D (x 0).val (x 1).val (x 2).val → v x = ((F (x 0).val (x 1).val (x 2).val : ℝ) : EReal)

def On4 {k l m n : ℕ} (D : ℕ → ℕ → ℕ → ℕ → Prop) (v : (⟨4, ![k, l, m, n]⟩ : Shape).Idx → EReal) (F : ℕ → ℕ → ℕ → ℕ → ℝ) : Prop :=
  ∀ x, D (x 0).val (x 1).val (x 2).val (x 3).val → v x = ((F (x 0).val (x 1).val (x 2).val (x 3).val : ℝ) : EReal)

theorem On2.nil {m n : ℕ} {D : ℕ → ℕ → Prop} {v : (⟨2, ![m, n]⟩ : Shape).Idx → EReal} {F : ℕ → ℕ → ℝ}
    (h : ∀ a b, a < m → b < n → ¬ D a b) : On2 D v F := fun x hx => absurd hx (h _ _ (x 0).isLt (x 1).isLt)

theorem On3.nil {l m n : ℕ} {D : ℕ → ℕ → ℕ → Prop} {v : (⟨3, ![l, m, n]⟩ : Shape).Idx → EReal} {F : ℕ → ℕ → ℕ → ℝ}
    (h : ∀ a b c, a < l → b < m → c < n → ¬ D a b c) : On3 D v F := fun x hx => absurd hx (h _ _ _ (x 0).isLt (x 1).isLt (x 2).isLt)

theorem On2.full {m n : ℕ} {v : (⟨2, ![m, n]⟩ : Shape).Idx → EReal} {F : ℕ → ℕ → ℝ} (h : On2 (fun _ _ => True) v F) : At2 v F :=
  fun x => h x trivial

theorem On3.full {l m n : ℕ} {v : (⟨3, ![l, m, n]⟩ : Shape).Idx → EReal} {F : ℕ → ℕ → ℕ → ℝ} (h : On3 (fun _ _ _ => True) v F) : At3 v F :=
  fun x => h x trivial

theorem On4.full {k l m n : ℕ} {v : (⟨4, ![k, l, m, n]⟩ : Shape).Idx → EReal} {F : ℕ → ℕ → ℕ → ℕ → ℝ}
    (h : On4 (fun _ _ _ _ => True) v F) : At4 v F := fun x => h x trivial

theorem At3.on {l m n : ℕ} {D : ℕ → ℕ → ℕ → Prop} {v : (⟨3, ![l, m, n]⟩ : Shape).Idx → EReal} {F G : ℕ → ℕ → ℕ → ℝ} (h : At3 v G)
    (e : ∀ a b c, D a b c → G a b c = F a b c) : On3 D v F := fun x hx => (h x).trans (by rw [e _ _ _ hx])

theorem At4.on {k l m n : ℕ} {D : ℕ → ℕ → ℕ → ℕ → Prop} {v : (⟨4, ![k, l, m, n]⟩ : Shape).Idx → EReal} {F G : ℕ → ℕ → ℕ → ℕ → ℝ} (h : At4 v G)
    (e : ∀ a b c d, D a b c d → G a b c d = F a b c d) : On4 D v F := fun x hx => (h x).trans (by rw [e _ _ _ _ hx])

/-- One more write of a matrix of bf16 words. -/
theorem On2.cons {m n o₀ o₁ s₀ s₁ : ℕ} {D : ℕ → ℕ → Prop} {F g : ℕ → ℕ → ℝ} {inb}
    {w : (Rect.unit (s := ⟨2, ![m, n]⟩) ![o₀, o₁] ![s₀, s₁] inb).shape.Idx → Elt Ideal .bf16}
    {L : List (View.Piece (Elt Ideal) (⟨2, ![m, n]⟩ : Shape) .bf16)} (hw : At2 (m := s₀) (n := s₁) w g)
    (e : ∀ a b, a < s₀ → b < s₁ → g a b = F (o₀ + a) (o₁ + b))
    (hL : On2 (fun a b => ¬ (o₀ ≤ a ∧ a < o₀ + s₀ ∧ o₁ ≤ b ∧ b < o₁ + s₁) ∧ D a b) (View.canon L) F) :
    On2 D (View.canon ((⟨Rect.unit ![o₀, o₁] ![s₀, s₁] inb, w⟩ : View.Piece (Elt Ideal) _ .bf16) :: L)) F :=
  canon2 (R := fun a b (y : Elt Ideal .bf16) => D a b → (y : EReal) = ((F a b : ℝ) : EReal))
    (fun y _ => (hw y).trans (by rw [e _ _ (y 0).isLt (y 1).isLt])) (fun x hx hD => hL x ⟨hx, hD⟩)

/-- One more write of an array of bf16 words. -/
theorem On3.consb {l m n o₀ o₁ o₂ s₀ s₁ s₂ : ℕ} {D : ℕ → ℕ → ℕ → Prop} {F g : ℕ → ℕ → ℕ → ℝ} {inb}
    {w : (Rect.unit (s := ⟨3, ![l, m, n]⟩) ![o₀, o₁, o₂] ![s₀, s₁, s₂] inb).shape.Idx → Elt Ideal .bf16}
    {L : List (View.Piece (Elt Ideal) (⟨3, ![l, m, n]⟩ : Shape) .bf16)} (hw : At3 (l := s₀) (m := s₁) (n := s₂) w g)
    (e : ∀ a b c, a < s₀ → b < s₁ → c < s₂ → g a b c = F (o₀ + a) (o₁ + b) (o₂ + c))
    (hL : On3 (fun a b c => ¬ (o₀ ≤ a ∧ a < o₀ + s₀ ∧ o₁ ≤ b ∧ b < o₁ + s₁ ∧ o₂ ≤ c ∧ c < o₂ + s₂) ∧ D a b c) (View.canon L) F) :
    On3 D (View.canon ((⟨Rect.unit ![o₀, o₁, o₂] ![s₀, s₁, s₂] inb, w⟩ : View.Piece (Elt Ideal) _ .bf16) :: L)) F :=
  canon3 (R := fun a b c (y : Elt Ideal .bf16) => D a b c → (y : EReal) = ((F a b c : ℝ) : EReal))
    (fun y _ => (hw y).trans (by rw [e _ _ _ (y 0).isLt (y 1).isLt (y 2).isLt])) (fun x hx hD => hL x ⟨hx, hD⟩)

/-- One more write of an array of f32 words. -/
theorem On3.consf {l m n o₀ o₁ o₂ s₀ s₁ s₂ : ℕ} {D : ℕ → ℕ → ℕ → Prop} {F g : ℕ → ℕ → ℕ → ℝ} {inb}
    {w : (Rect.unit (s := ⟨3, ![l, m, n]⟩) ![o₀, o₁, o₂] ![s₀, s₁, s₂] inb).shape.Idx → Elt Ideal .f32}
    {L : List (View.Piece (Elt Ideal) (⟨3, ![l, m, n]⟩ : Shape) .f32)} (hw : At3 (l := s₀) (m := s₁) (n := s₂) w g)
    (e : ∀ a b c, a < s₀ → b < s₁ → c < s₂ → g a b c = F (o₀ + a) (o₁ + b) (o₂ + c))
    (hL : On3 (fun a b c => ¬ (o₀ ≤ a ∧ a < o₀ + s₀ ∧ o₁ ≤ b ∧ b < o₁ + s₁ ∧ o₂ ≤ c ∧ c < o₂ + s₂) ∧ D a b c) (View.canon L) F) :
    On3 D (View.canon ((⟨Rect.unit ![o₀, o₁, o₂] ![s₀, s₁, s₂] inb, w⟩ : View.Piece (Elt Ideal) _ .f32) :: L)) F :=
  canon3 (R := fun a b c (y : Elt Ideal .f32) => D a b c → (y : EReal) = ((F a b c : ℝ) : EReal))
    (fun y _ => (hw y).trans (by rw [e _ _ _ (y 0).isLt (y 1).isLt (y 2).isLt])) (fun x hx hD => hL x ⟨hx, hD⟩)

/-- One more write of an array of rank four. -/
theorem On4.cons {k l m n o₀ o₁ o₂ o₃ s₀ s₁ s₂ s₃ : ℕ} {D : ℕ → ℕ → ℕ → ℕ → Prop} {F g : ℕ → ℕ → ℕ → ℕ → ℝ} {inb}
    {w : (Rect.unit (s := ⟨4, ![k, l, m, n]⟩) ![o₀, o₁, o₂, o₃] ![s₀, s₁, s₂, s₃] inb).shape.Idx → Elt Ideal .f32}
    {L : List (View.Piece (Elt Ideal) (⟨4, ![k, l, m, n]⟩ : Shape) .f32)} (hw : At4 (k := s₀) (l := s₁) (m := s₂) (n := s₃) w g)
    (e : ∀ a b c d, a < s₀ → b < s₁ → c < s₂ → d < s₃ → g a b c d = F (o₀ + a) (o₁ + b) (o₂ + c) (o₃ + d))
    (hL : On4 (fun a b c d => ¬ (o₀ ≤ a ∧ a < o₀ + s₀ ∧ o₁ ≤ b ∧ b < o₁ + s₁ ∧ o₂ ≤ c ∧ c < o₂ + s₂ ∧ o₃ ≤ d ∧ d < o₃ + s₃) ∧ D a b c d)
      (View.canon L) F) :
    On4 D (View.canon ((⟨Rect.unit ![o₀, o₁, o₂, o₃] ![s₀, s₁, s₂, s₃] inb, w⟩ : View.Piece (Elt Ideal) _ .f32) :: L)) F :=
  canon4 (R := fun a b c d (y : Elt Ideal .f32) => D a b c d → (y : EReal) = ((F a b c d : ℝ) : EReal))
    (fun y _ => (hw y).trans (by rw [e _ _ _ _ (y 0).isLt (y 1).isLt (y 2).isLt (y 3).isLt])) (fun x hx hD => hL x ⟨hx, hD⟩)

/-! ### Reading a block back -/

section Read
variable {sig : RefSig} {κ : Kind} {sp : Space}

theorem At2.back {m n : ℕ} {v : View sig κ sp (⟨2, ![m, n]⟩ : Shape) .bf16} {L : List (View.Piece (Elt Ideal) (⟨2, ![m, n]⟩ : Shape) .bf16)}
    {F : ℕ → ℕ → ℝ} (h : At2 (m := m) (n := n) (View.canon L) F) (o₀ o₁ s₀ s₁ : ℕ) (inb) :
    At2 (m := s₀) (n := s₁) (v.readCov L (Rect.unit (s := ⟨2, ![m, n]⟩) ![o₀, o₁] ![s₀, s₁] inb).toLoadRect) fun a b => F (o₀ + a) (o₁ + b) := fun x => by
  rw [View.readCov_eq_canon']
  refine (h _).trans ?_
  show ((F (o₀ + 1 * (x 0).val) (o₁ + 1 * (x 1).val) : ℝ) : EReal) = _
  rw [one_mul, one_mul]

theorem At3.backb {l m n : ℕ} {v : View sig κ sp (⟨3, ![l, m, n]⟩ : Shape) .bf16} {L : List (View.Piece (Elt Ideal) (⟨3, ![l, m, n]⟩ : Shape) .bf16)}
    {F : ℕ → ℕ → ℕ → ℝ} (h : At3 (l := l) (m := m) (n := n) (View.canon L) F) (o₀ o₁ o₂ s₀ s₁ s₂ : ℕ) (inb) :
    At3 (l := s₀) (m := s₁) (n := s₂) (v.readCov L (Rect.unit (s := ⟨3, ![l, m, n]⟩) ![o₀, o₁, o₂] ![s₀, s₁, s₂] inb).toLoadRect)
      fun a b c => F (o₀ + a) (o₁ + b) (o₂ + c) := fun x => by
  rw [View.readCov_eq_canon']
  refine (h _).trans ?_
  show ((F (o₀ + 1 * (x 0).val) (o₁ + 1 * (x 1).val) (o₂ + 1 * (x 2).val) : ℝ) : EReal) = _
  rw [one_mul, one_mul, one_mul]

theorem At3.backf {l m n : ℕ} {v : View sig κ sp (⟨3, ![l, m, n]⟩ : Shape) .f32} {L : List (View.Piece (Elt Ideal) (⟨3, ![l, m, n]⟩ : Shape) .f32)}
    {F : ℕ → ℕ → ℕ → ℝ} (h : At3 (l := l) (m := m) (n := n) (View.canon L) F) (o₀ o₁ o₂ s₀ s₁ s₂ : ℕ) (inb) :
    At3 (l := s₀) (m := s₁) (n := s₂) (v.readCov L (Rect.unit (s := ⟨3, ![l, m, n]⟩) ![o₀, o₁, o₂] ![s₀, s₁, s₂] inb).toLoadRect)
      fun a b c => F (o₀ + a) (o₁ + b) (o₂ + c) := fun x => by
  rw [View.readCov_eq_canon']
  refine (h _).trans ?_
  show ((F (o₀ + 1 * (x 0).val) (o₁ + 1 * (x 1).val) (o₂ + 1 * (x 2).val) : ℝ) : EReal) = _
  rw [one_mul, one_mul, one_mul]

/-- A block of an input of f32 words. -/
theorem At2.inputf {m n : ℕ} {r : Memref sig κ sp (⟨2, ![m, n]⟩ : Shape) .f32} {hr : r.IsWhole} {X : Vec Ideal (⟨2, ![m, n]⟩ : Shape) .f32}
    {F : ℕ → ℕ → ℝ} (h : At2 (m := m) (n := n) X F) (o₀ o₁ s₀ s₁ : ℕ) (inb) :
    At2 (m := s₀) (n := s₁) (r.view.readAt (Elt Ideal) (Rect.unit (s := ⟨2, ![m, n]⟩) ![o₀, o₁] ![s₀, s₁] inb).toLoadRect (hr.unread X))
      fun a b => F (o₀ + a) (o₁ + b) := fun x => by
  rw [View.readAt_eq_ld, hr.read_unread]
  refine (h _).trans ?_
  show ((F (o₀ + 1 * (x 0).val) (o₁ + 1 * (x 1).val) : ℝ) : EReal) = _
  rw [one_mul, one_mul]

/-- A block of an input of bf16 words. -/
theorem At2.inputb {m n : ℕ} {r : Memref sig κ sp (⟨2, ![m, n]⟩ : Shape) .bf16} {hr : r.IsWhole} {X : Vec Ideal (⟨2, ![m, n]⟩ : Shape) .bf16}
    {F : ℕ → ℕ → ℝ} (h : At2 (m := m) (n := n) X F) (o₀ o₁ s₀ s₁ : ℕ) (inb) :
    At2 (m := s₀) (n := s₁) (r.view.readAt (Elt Ideal) (Rect.unit (s := ⟨2, ![m, n]⟩) ![o₀, o₁] ![s₀, s₁] inb).toLoadRect (hr.unread X))
      fun a b => F (o₀ + a) (o₁ + b) := fun x => by
  rw [View.readAt_eq_ld, hr.read_unread]
  refine (h _).trans ?_
  show ((F (o₀ + 1 * (x 0).val) (o₁ + 1 * (x 1).val) : ℝ) : EReal) = _
  rw [one_mul, one_mul]

/-- A block of an input of rank four. -/
theorem At4.input {k l m n : ℕ} {r : Memref sig κ sp (⟨4, ![k, l, m, n]⟩ : Shape) .f32} {hr : r.IsWhole}
    {X : Vec Ideal (⟨4, ![k, l, m, n]⟩ : Shape) .f32} {F : ℕ → ℕ → ℕ → ℕ → ℝ} (h : At4 (k := k) (l := l) (m := m) (n := n) X F)
    (o₀ o₁ o₂ o₃ s₀ s₁ s₂ s₃ : ℕ) (inb) :
    At4 (k := s₀) (l := s₁) (m := s₂) (n := s₃) (r.view.readAt (Elt Ideal) (Rect.unit (s := ⟨4, ![k, l, m, n]⟩) ![o₀, o₁, o₂, o₃] ![s₀, s₁, s₂, s₃] inb).toLoadRect (hr.unread X))
      fun a b c d => F (o₀ + a) (o₁ + b) (o₂ + c) (o₃ + d) := fun x => by
  rw [View.readAt_eq_ld, hr.read_unread]
  refine (h _).trans ?_
  show ((F (o₀ + 1 * (x 0).val) (o₁ + 1 * (x 1).val) (o₂ + 1 * (x 2).val) (o₃ + 1 * (x 3).val) : ℝ) : EReal) = _
  rw [one_mul, one_mul, one_mul, one_mul]

end Read

end AttBwd

end
-- ==== Proof.Lanes.lean ====
/- The buffers the kernel's body fills before its loops, at one grid point. A pair of heads lies side by side in the
   128 lanes of a block, and the body works on each head with all lanes: the other head's lanes are cleared, and of
   the cleared ones four take the split column of the log decay (keys) and three take a one (queries), so that the one
   product over the lanes adds the decay to the score. -/
module

public import proofs.«01_k».proof.Proof.Blocks
public import proofs.«01_k».proof.Proof.Gen.KernelIdeal.Value

@[expose] public section

set_option maxRecDepth 16384

noncomputable section

namespace AttBwd

open Idealize.ShloMosaic Idealize.ShloMosaic.ValueIdx Cert.KernelIdeal Cert.KernelIdeal.Gen

/-- The lanes of the queries of head `h` of the pair: the scaled query, and ones where the decay is added. -/
def QA (q : ℕ → ℕ → ℝ) (h t l : ℕ) : ℝ :=
  if l / 64 = h then q t l * (1 / 8) else if 64 * (1 - h) ≤ l ∧ l < 64 * (1 - h) + 3 then 1 else 0

/-- The lanes of the keys of head `h` of the pair: the key, and the columns of the decay. -/
def KA (k ax : ℕ → ℕ → ℝ) (h s l : ℕ) : ℝ :=
  if l / 64 = h then k s l else if 64 * (1 - h) ≤ l ∧ l ≤ 64 * (1 - h) + 3 then ax s l else 0

/-- The lanes of head `h` of the pair, the others cleared. -/
def MA (v : ℕ → ℕ → ℝ) (h t l : ℕ) : ℝ := if l / 64 = h then v t l else 0

/-- The row sums of the cotangent against the output, of head `h` of the pair. -/
def DA (a o : ℕ → ℕ → ℝ) (h t : ℕ) : ℝ := ∑ l : Fin 128, MA a h t l.val * o t l.val

variable {q k v a o ax : ℕ → ℕ → ℝ}

theorem At2.zeroShift {m n : ℕ} {w : (⟨2, ![m, n]⟩ : Shape).Idx → EReal} {F : ℕ → ℕ → ℝ} (h : At2 w fun r c => F (0 + r) (0 + c)) : At2 w F :=
  h.congr fun r c _ _ => by rw [Nat.zero_add, Nat.zero_add]

/-- One more write of one slab of an array of bf16 words. -/
theorem On3.slabb {l m n o₀ o₁ o₂ s₁ s₂ : ℕ} {D : ℕ → ℕ → ℕ → Prop} {F : ℕ → ℕ → ℕ → ℝ} {g : ℕ → ℕ → ℝ} {inb} {hc}
    {w : (⟨2, ![s₁, s₂]⟩ : Shape).Idx → Elt Ideal .bf16}
    {L : List (View.Piece (Elt Ideal) (⟨3, ![l, m, n]⟩ : Shape) .bf16)} (hw : At2 (m := s₁) (n := s₂) w g)
    (e : ∀ r c, r < s₁ → c < s₂ → g r c = F o₀ (o₁ + r) (o₂ + c))
    (hL : On3 (fun a b c => ¬ (o₀ ≤ a ∧ a < o₀ + 1 ∧ o₁ ≤ b ∧ b < o₁ + s₁ ∧ o₂ ≤ c ∧ c < o₂ + s₂) ∧ D a b c) (View.canon L) F) :
    On3 D (View.canon ((⟨Rect.unit (s := ⟨3, ![l, m, n]⟩) ![o₀, o₁, o₂] ![1, s₁, s₂] inb, shapeCast ⟨3, ![1, s₁, s₂]⟩ w hc⟩ :
      View.Piece (Elt Ideal) _ .bf16) :: L)) F :=
  On3.consb (hw.unit hc) (fun h r c hh hr hc => by
    obtain rfl : h = 0 := Nat.lt_one_iff.mp hh
    exact e r c hr hc) hL

/-- One more write of one slab of an array of f32 words. -/
theorem On3.slabf {l m n o₀ o₁ o₂ s₁ s₂ : ℕ} {D : ℕ → ℕ → ℕ → Prop} {F : ℕ → ℕ → ℕ → ℝ} {g : ℕ → ℕ → ℝ} {inb} {hc}
    {w : (⟨2, ![s₁, s₂]⟩ : Shape).Idx → Elt Ideal .f32}
    {L : List (View.Piece (Elt Ideal) (⟨3, ![l, m, n]⟩ : Shape) .f32)} (hw : At2 (m := s₁) (n := s₂) w g)
    (e : ∀ r c, r < s₁ → c < s₂ → g r c = F o₀ (o₁ + r) (o₂ + c))
    (hL : On3 (fun a b c => ¬ (o₀ ≤ a ∧ a < o₀ + 1 ∧ o₁ ≤ b ∧ b < o₁ + s₁ ∧ o₂ ≤ c ∧ c < o₂ + s₂) ∧ D a b c) (View.canon L) F) :
    On3 D (View.canon ((⟨Rect.unit (s := ⟨3, ![l, m, n]⟩) ![o₀, o₁, o₂] ![1, s₁, s₂] inb, shapeCast ⟨3, ![1, s₁, s₂]⟩ w hc⟩ :
      View.Piece (Elt Ideal) _ .f32) :: L)) F :=
  On3.consf (hw.unit hc) (fun h r c hh hr hc => by
    obtain rfl : h = 0 := Nat.lt_one_iff.mp hh
    exact e r c hr hc) hL

section
variable (c : Dev nD)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S2048x128 .f32) (harg6 : arg6.IsWhole)
  (arg7 : Memref sig .tc .vmem S1x1x8x2048 .f32) (harg7 : arg7.IsWhole)
  (arg8 : Memref sig .tc .vmem S2048x128 .bf16) (harg8 : arg8.IsWhole)
  (arg14 : Memref sig .tc .vmem S2x2048x128 .bf16)
  (arg15 : Memref sig .tc .vmem S2x2048x128 .bf16)
  (arg16 : Memref sig .tc .vmem S2x2048x128 .bf16)
  (arg17 : Memref sig .tc .vmem S2x2048x128 .bf16)
  (arg18 : Memref sig .tc .vmem S2x128x2048 .bf16)
  (arg19 : Memref sig .tc .vmem S2x128x2048 .bf16)
  (arg20 : Memref sig .tc .vmem S128x2048 .bf16)
  (arg21 : Memref sig .tc .vmem S2x8x2048 .f32)
  (arg22 : Memref sig .tc .vmem S2x128x2048 .f32)
  (arg23 : Memref sig .tc .vmem S2x128x512 .f32)
  (x0 : Vec Ideal S2048x128 .bf16)
  (x1 : Vec Ideal S2048x128 .bf16)
  (x2 : Vec Ideal S2048x128 .bf16)
  (x3 : Vec Ideal S2048x128 .f32)
  (x4 : Vec Ideal S2048x128 .f32)
  (x5 : Vec Ideal S1x1x8x2048 .f32)
  (x6 : Vec Ideal S2048x128 .bf16)

/-- The keys' lanes of head 0. -/
theorem ka_0 (hk : At2 (m := 2048) (n := 128) x1 k) (hx : At2 (m := 2048) (n := 128) x6 ax) :
    At2 (m := 2048) (n := 128) (kernelRun0_A.sl.v26 c arg3 harg3 arg8 harg8 x1 x6) (KA k ax 0) :=
  (At2.select (φ := .bf16) ((Mask.cast (Mask.slt (int2_iota1 (by norm_num) _) (int2_splat (k := 64#32) (z := 64) rfl)) _).rows (by norm_num) _) ((At2.inputb hk 0 0 2048 128 _).zeroShift.cast _) (At2.select (φ := .bf16) ((Mask.cast ((Mask.sge (int2_iota1 (by norm_num) _) (int2_splat (k := 64#32) (z := 64) rfl)).and (Mask.sle (int2_iota1 (by norm_num) _) (int2_splat (k := 67#32) (z := 67) rfl))) _).rows (by norm_num) _) ((At2.inputb hx 0 0 2048 128 _).zeroShift.cast _)
    (((at2_splat zero_bf16).cast _).rows (by norm_num) _))).congr fun r l hr hl => by
    simp only [Bool.and_eq_true, decide_eq_true_eq]
    unfold KA
    split_ifs <;> first | rfl | omega

/-- The keys' lanes of head 1. -/
theorem ka_1 (hk : At2 (m := 2048) (n := 128) x1 k) (hx : At2 (m := 2048) (n := 128) x6 ax) :
    At2 (m := 2048) (n := 128) (kernelRun0_A.sl.v149 c arg3 harg3 arg8 harg8 x1 x6) (KA k ax 1) :=
  (At2.select (φ := .bf16) ((Mask.cast (Mask.sge (int2_iota1 (by norm_num) _) (int2_splat (k := 64#32) (z := 64) rfl)) _).rows (by norm_num) _) ((At2.inputb hk 0 0 2048 128 _).zeroShift.cast _) (At2.select (φ := .bf16) ((Mask.cast ((Mask.sge (int2_iota1 (by norm_num) _) (int2_splat (k := 0#32) (z := 0) rfl)).and (Mask.sle (int2_iota1 (by norm_num) _) (int2_splat (k := 3#32) (z := 3) rfl))) _).rows (by norm_num) _) ((At2.inputb hx 0 0 2048 128 _).zeroShift.cast _)
    (((at2_splat zero_bf16).cast _).rows (by norm_num) _))).congr fun r l hr hl => by
    simp only [Bool.and_eq_true, decide_eq_true_eq]
    unfold KA
    split_ifs <;> first | rfl | omega

/-- The queries' lanes of head 0. -/
theorem qa_0 (hq : At2 (m := 2048) (n := 128) x0 q) :
    At2 (m := 2048) (n := 128) (kernelRun0_A.sl.v42 c arg2 harg2 x0) (QA q 0) :=
  (At2.select (φ := .bf16) ((Mask.cast (Mask.slt (int2_iota1 (by norm_num) _) (int2_splat (k := 64#32) (z := 64) rfl)) _).rows (by norm_num) _) (((At2.inputb hq 0 0 2048 128 _).zeroShift.cast _).mul (at2_splat eighth_bf16))
    (((At2.select (φ := .bf16) ((Mask.sge (int2_iota1 (by norm_num) _) (int2_splat (k := 64#32) (z := 64) rfl)).and (Mask.slt (int2_iota1 (by norm_num) _) (int2_splat (k := 67#32) (z := 67) rfl))) (at2_splat one_bf16) (at2_splat zero_bf16)).cast _).rows (by norm_num) _)).congr fun r l hr hl => by
    simp only [Bool.and_eq_true, decide_eq_true_eq]
    unfold QA
    split_ifs <;> first | rfl | omega

/-- The queries' lanes of head 1. -/
theorem qa_1 (hq : At2 (m := 2048) (n := 128) x0 q) :
    At2 (m := 2048) (n := 128) (kernelRun0_A.sl.v165 c arg2 harg2 x0) (QA q 1) :=
  (At2.select (φ := .bf16) ((Mask.cast (Mask.sge (int2_iota1 (by norm_num) _) (int2_splat (k := 64#32) (z := 64) rfl)) _).rows (by norm_num) _) (((At2.inputb hq 0 0 2048 128 _).zeroShift.cast _).mul (at2_splat eighth_bf16))
    (((At2.select (φ := .bf16) ((Mask.sge (int2_iota1 (by norm_num) _) (int2_splat (k := 0#32) (z := 0) rfl)).and (Mask.slt (int2_iota1 (by norm_num) _) (int2_splat (k := 3#32) (z := 3) rfl))) (at2_splat one_bf16) (at2_splat zero_bf16)).cast _).rows (by norm_num) _)).congr fun r l hr hl => by
    simp only [Bool.and_eq_true, decide_eq_true_eq]
    unfold QA
    split_ifs <;> first | rfl | omega

/-- The values' lanes of head 0. -/
theorem va_0 (hv : At2 (m := 2048) (n := 128) x2 v) :
    At2 (m := 2048) (n := 128) (kernelRun0_A.sl.v54 c arg4 harg4 x2) (MA v 0) :=
  (At2.select (φ := .bf16) ((Mask.cast (Mask.slt (int2_iota1 (by norm_num) _) (int2_splat (k := 64#32) (z := 64) rfl)) _).rows (by norm_num) _) ((At2.inputb hv 0 0 2048 128 _).zeroShift.cast _) (at2_splat zero_bf16)).congr fun r l hr hl => by
    simp only [Bool.and_eq_true, decide_eq_true_eq]
    unfold MA
    split_ifs <;> first | rfl | omega

/-- The values' lanes of head 1. -/
theorem va_1 (hv : At2 (m := 2048) (n := 128) x2 v) :
    At2 (m := 2048) (n := 128) (kernelRun0_A.sl.v177 c arg4 harg4 x2) (MA v 1) :=
  (At2.select (φ := .bf16) ((Mask.cast (Mask.sge (int2_iota1 (by norm_num) _) (int2_splat (k := 64#32) (z := 64) rfl)) _).rows (by norm_num) _) ((At2.inputb hv 0 0 2048 128 _).zeroShift.cast _) (at2_splat zero_bf16)).congr fun r l hr hl => by
    simp only [Bool.and_eq_true, decide_eq_true_eq]
    unfold MA
    split_ifs <;> first | rfl | omega

/-- The cotangent's lanes of head 0. -/
theorem da_0 (ha : At2 (m := 2048) (n := 128) x3 a) :
    At2 (m := 2048) (n := 128) (kernelRun0_A.sl.v63 c arg5 harg5 x3) (MA a 0) :=
  ((At2.select (φ := .f32) ((Mask.cast (Mask.slt (int2_iota1 (by norm_num) _) (int2_splat (k := 64#32) (z := 64) rfl)) _).rows (by norm_num) _) (At2.inputf ha 0 0 2048 128 _).zeroShift (at2_splat zero_f32)).trunc _).congr fun r l hr hl => by
    simp only [Bool.and_eq_true, decide_eq_true_eq]
    unfold MA
    split_ifs <;> first | rfl | omega

/-- The cotangent's lanes of head 1. -/
theorem da_1 (ha : At2 (m := 2048) (n := 128) x3 a) :
    At2 (m := 2048) (n := 128) (kernelRun0_A.sl.v186 c arg5 harg5 x3) (MA a 1) :=
  ((At2.select (φ := .f32) ((Mask.cast (Mask.sge (int2_iota1 (by norm_num) _) (int2_splat (k := 64#32) (z := 64) rfl)) _).rows (by norm_num) _) (At2.inputf ha 0 0 2048 128 _).zeroShift (at2_splat zero_f32)).trunc _).congr fun r l hr hl => by
    simp only [Bool.and_eq_true, decide_eq_true_eq]
    unfold MA
    split_ifs <;> first | rfl | omega

/-- The keys' buffer. -/
theorem ka_buf (hk : At2 (m := 2048) (n := 128) x1 k) (hx : At2 (m := 2048) (n := 128) x6 ax) :
    At3 (l := 2) (m := 2048) (n := 128) (View.canon (kernelRun0_A.sl.HS1_2 c arg3 harg3 arg8 harg8 x1 x6)) (KA k ax) :=
  On3.full (On3.slabb (ka_1 c arg3 harg3 arg8 harg8 x1 x6 hk hx)
    (fun r l _ _ => by simp only [Nat.zero_add]) (On3.slabb (ka_0 c arg3 harg3 arg8 harg8 x1 x6 hk hx)
    (fun r l _ _ => by simp only [Nat.zero_add]) (On3.nil fun h r l _ _ _ => by omega)))

/-- The queries' buffer. -/
theorem qa_buf (hq : At2 (m := 2048) (n := 128) x0 q) :
    At3 (l := 2) (m := 2048) (n := 128) (View.canon (kernelRun0_A.sl.HS0_2 c arg2 harg2 x0)) (QA q) :=
  On3.full (On3.slabb (qa_1 c arg2 harg2 x0 hq)
    (fun r l _ _ => by simp only [Nat.zero_add]) (On3.slabb (qa_0 c arg2 harg2 x0 hq)
    (fun r l _ _ => by simp only [Nat.zero_add]) (On3.nil fun h r l _ _ _ => by omega)))

/-- The values' buffer. -/
theorem va_buf (hv : At2 (m := 2048) (n := 128) x2 v) :
    At3 (l := 2) (m := 2048) (n := 128) (View.canon (kernelRun0_A.sl.HS2_2 c arg4 harg4 x2)) (MA v) :=
  On3.full (On3.slabb (va_1 c arg4 harg4 x2 hv)
    (fun r l _ _ => by simp only [Nat.zero_add]) (On3.slabb (va_0 c arg4 harg4 x2 hv)
    (fun r l _ _ => by simp only [Nat.zero_add]) (On3.nil fun h r l _ _ _ => by omega)))

/-- The cotangent's buffer. -/
theorem da_buf (ha : At2 (m := 2048) (n := 128) x3 a) :
    At3 (l := 2) (m := 2048) (n := 128) (View.canon (kernelRun0_A.sl.HS3_2 c arg5 harg5 x3)) (MA a) :=
  On3.full (On3.slabb (da_1 c arg5 harg5 x3 ha)
    (fun r l _ _ => by simp only [Nat.zero_add]) (On3.slabb (da_0 c arg5 harg5 x3 ha)
    (fun r l _ _ => by simp only [Nat.zero_add]) (On3.nil fun h r l _ _ _ => by omega)))

/-- The keys' buffer, transposed. -/
theorem kat_buf (hk : At2 (m := 2048) (n := 128) x1 k) (hx : At2 (m := 2048) (n := 128) x6 ax) :
    At3 (l := 2) (m := 128) (n := 2048) (View.canon (kernelRun0_A.sl.HS4_8 c arg3 harg3 arg8 harg8 x1 x6)) (fun h l t => KA k ax h t l) :=
  On3.full (On3.slabb (((ka_1 c arg3 harg3 arg8 harg8 x1 x6 hk hx).slice 1536 _).transpose _)
    (fun r l _ _ => by simp only [Nat.zero_add]) (On3.slabb (((ka_1 c arg3 harg3 arg8 harg8 x1 x6 hk hx).slice 1024 _).transpose _)
    (fun r l _ _ => by simp only [Nat.zero_add]) (On3.slabb (((ka_1 c arg3 harg3 arg8 harg8 x1 x6 hk hx).slice 512 _).transpose _)
    (fun r l _ _ => by simp only [Nat.zero_add]) (On3.slabb (((ka_1 c arg3 harg3 arg8 harg8 x1 x6 hk hx).slice 0 _).transpose _)
    (fun r l _ _ => by simp only [Nat.zero_add]) (On3.slabb (((ka_0 c arg3 harg3 arg8 harg8 x1 x6 hk hx).slice 1536 _).transpose _)
    (fun r l _ _ => by simp only [Nat.zero_add]) (On3.slabb (((ka_0 c arg3 harg3 arg8 harg8 x1 x6 hk hx).slice 1024 _).transpose _)
    (fun r l _ _ => by simp only [Nat.zero_add]) (On3.slabb (((ka_0 c arg3 harg3 arg8 harg8 x1 x6 hk hx).slice 512 _).transpose _)
    (fun r l _ _ => by simp only [Nat.zero_add]) (On3.slabb (((ka_0 c arg3 harg3 arg8 harg8 x1 x6 hk hx).slice 0 _).transpose _)
    (fun r l _ _ => by simp only [Nat.zero_add]) (On3.nil fun h r l _ _ _ => by omega)))))))))

/-- The queries' buffer, transposed. -/
theorem qat_buf (hq : At2 (m := 2048) (n := 128) x0 q) :
    At3 (l := 2) (m := 128) (n := 2048) (View.canon (kernelRun0_A.sl.HS5_8 c arg2 harg2 x0)) (fun h l t => QA q h t l) :=
  On3.full (On3.slabb (((qa_1 c arg2 harg2 x0 hq).slice 1536 _).transpose _)
    (fun r l _ _ => by simp only [Nat.zero_add]) (On3.slabb (((qa_1 c arg2 harg2 x0 hq).slice 1024 _).transpose _)
    (fun r l _ _ => by simp only [Nat.zero_add]) (On3.slabb (((qa_1 c arg2 harg2 x0 hq).slice 512 _).transpose _)
    (fun r l _ _ => by simp only [Nat.zero_add]) (On3.slabb (((qa_1 c arg2 harg2 x0 hq).slice 0 _).transpose _)
    (fun r l _ _ => by simp only [Nat.zero_add]) (On3.slabb (((qa_0 c arg2 harg2 x0 hq).slice 1536 _).transpose _)
    (fun r l _ _ => by simp only [Nat.zero_add]) (On3.slabb (((qa_0 c arg2 harg2 x0 hq).slice 1024 _).transpose _)
    (fun r l _ _ => by simp only [Nat.zero_add]) (On3.slabb (((qa_0 c arg2 harg2 x0 hq).slice 512 _).transpose _)
    (fun r l _ _ => by simp only [Nat.zero_add]) (On3.slabb (((qa_0 c arg2 harg2 x0 hq).slice 0 _).transpose _)
    (fun r l _ _ => by simp only [Nat.zero_add]) (On3.nil fun h r l _ _ _ => by omega)))))))))

/-- The cotangent, transposed. -/
theorem dt_buf (ha : At2 (m := 2048) (n := 128) x3 a) :
    At2 (m := 128) (n := 2048) (View.canon (kernelRun0_A.sl.HS6_4 c arg5 harg5 x3)) (fun l t => a t l) :=
  On2.full (On2.cons ((((At2.inputf ha 1536 0 512 128 _).trunc _).transpose _).cast _)
    (fun r l _ _ => by simp only [Nat.zero_add])
    (On2.cons ((((At2.inputf ha 1024 0 512 128 _).trunc _).transpose _).cast _)
    (fun r l _ _ => by simp only [Nat.zero_add])
    (On2.cons ((((At2.inputf ha 512 0 512 128 _).trunc _).transpose _).cast _)
    (fun r l _ _ => by simp only [Nat.zero_add])
    (On2.cons ((((At2.inputf ha 0 0 512 128 _).trunc _).transpose _).cast _)
    (fun r l _ _ => by simp only [Nat.zero_add])
    (On2.nil fun h r _ _ => by omega)))))

/-- The row sums of head 0, the same in each of eight rows. -/
theorem d_0 (ha : At2 (m := 2048) (n := 128) x3 a) (ho : At2 (m := 2048) (n := 128) x4 o) :
    At2 (m := 8) (n := 2048) (kernelRun0_A.sl.v125 c arg5 harg5 arg6 harg6 x3 x4) (fun _ t => DA a o 0 t) :=
  by
  have hx : At2 (m := 2048) (n := 128) (kernelRun0_A.sl.v110 c arg5 harg5 arg6 harg6 x3 x4) fun t l => MA a 0 t l * o t l :=
    (At2.ext (φ := .bf16) (ψ := .f32) (da_0 c arg5 harg5 x3 ha) _).mul ((At2.inputf ho 0 0 2048 128 _).zeroShift.cast _)
  refine ((((At2.nt ((at2_splat one_f32).trunc _) (hx.trunc _)).add (At2.nt ((at2_splat one_f32).trunc _) ((hx.sub ((hx.trunc _).ext _)).trunc _))).add
    (At2.nt ((at2_splat one_f32).trunc _) (((hx.sub ((hx.trunc _).ext _)).sub (((hx.sub ((hx.trunc _).ext _)).trunc _).ext _)).trunc _)))).congr ?_
  intro r t _ _
  simp only [sub_self, mul_zero, Finset.sum_const_zero, add_zero, one_mul]
  rfl

/-- The row sums of head 1, the same in each of eight rows. -/
theorem d_1 (ha : At2 (m := 2048) (n := 128) x3 a) (ho : At2 (m := 2048) (n := 128) x4 o) :
    At2 (m := 8) (n := 2048) (kernelRun0_A.sl.v248 c arg5 harg5 arg6 harg6 x3 x4) (fun _ t => DA a o 1 t) :=
  by
  have hx : At2 (m := 2048) (n := 128) (kernelRun0_A.sl.v233 c arg5 harg5 arg6 harg6 x3 x4) fun t l => MA a 1 t l * o t l :=
    (At2.ext (φ := .bf16) (ψ := .f32) (da_1 c arg5 harg5 x3 ha) _).mul ((At2.inputf ho 0 0 2048 128 _).zeroShift.cast _)
  refine ((((At2.nt ((at2_splat one_f32).trunc _) (hx.trunc _)).add (At2.nt ((at2_splat one_f32).trunc _) ((hx.sub ((hx.trunc _).ext _)).trunc _))).add
    (At2.nt ((at2_splat one_f32).trunc _) (((hx.sub ((hx.trunc _).ext _)).sub (((hx.sub ((hx.trunc _).ext _)).trunc _).ext _)).trunc _)))).congr ?_
  intro r t _ _
  simp only [sub_self, mul_zero, Finset.sum_const_zero, add_zero, one_mul]
  rfl

/-- The row sums' buffer. -/
theorem d_buf (ha : At2 (m := 2048) (n := 128) x3 a) (ho : At2 (m := 2048) (n := 128) x4 o) :
    At3 (l := 2) (m := 8) (n := 2048) (View.canon (kernelRun0_A.sl.HS7_2 c arg5 harg5 arg6 harg6 x3 x4)) (fun h _ t => DA a o h t) :=
  On3.full (On3.slabf (d_1 c arg5 harg5 arg6 harg6 x3 x4 ha ho)
    (fun r l _ _ => by simp only [Nat.zero_add]) (On3.slabf (d_0 c arg5 harg5 arg6 harg6 x3 x4 ha ho)
    (fun r l _ _ => by simp only [Nat.zero_add]) (On3.nil fun h r l _ _ _ => by omega)))

end

end AttBwd

end
-- ==== Proof.Units.lean ====
/- One block of the kernel's loops against another: the weights, the score cotangents, and their products with the
   buffers of the body, as sums over one block of rows of the whole arrays. -/
module

public import proofs.«01_k».proof.Proof.Lanes

@[expose] public section

noncomputable section

namespace AttBwd

open Idealize.ShloMosaic Idealize.ShloMosaic.ValueIdx

/-- The weight of key `s` for query `t`, head `h` of the pair. -/
def PW (ka qa : ℕ → ℕ → ℕ → ℝ) (ls : ℕ → ℕ → ℝ) (h s t : ℕ) : ℝ :=
  if s ≤ t then Real.exp (∑ l : Fin 128, ka h s l.val * qa h t l.val - ls h t) else 0

/-- The cotangent of that score. -/
def DW (ka qa va da : ℕ → ℕ → ℕ → ℝ) (ls d : ℕ → ℕ → ℝ) (h s t : ℕ) : ℝ :=
  PW ka qa ls h s t * (∑ l : Fin 128, va h s l.val * da h t l.val - d h t)

/-- The sum over block `b` of 512 places. -/
def blk (f : ℕ → ℝ) (b : ℕ) : ℝ := ∑ k : Fin 512, f (512 * b + k.val)

theorem sum_blk (f : ℕ → ℝ) : ∑ t : Fin 2048, f t.val = blk f 0 + blk f 1 + blk f 2 + blk f 3 := by
  unfold blk
  rw [Fin.sum_univ_eq_sum_range f 2048, Fin.sum_univ_eq_sum_range (fun k => f (512 * 0 + k)) 512,
    Fin.sum_univ_eq_sum_range (fun k => f (512 * 1 + k)) 512, Fin.sum_univ_eq_sum_range (fun k => f (512 * 2 + k)) 512,
    Fin.sum_univ_eq_sum_range (fun k => f (512 * 3 + k)) 512, show 2048 = 512 + 512 + 512 + 512 from rfl,
    Finset.sum_range_add, Finset.sum_range_add, Finset.sum_range_add]
  simp only [Nat.mul_zero, Nat.zero_add]

theorem blk_zero {f : ℕ → ℝ} {b : ℕ} (h : ∀ k, k < 512 → f (512 * b + k) = 0) : blk f b = 0 :=
  Finset.sum_eq_zero fun k _ => h k.val k.isLt

variable {ka qa va da : ℕ → ℕ → ℕ → ℝ} {ls d : ℕ → ℕ → ℝ}

theorem PW_of_lt {h s t : ℕ} (hl : t < s) : PW ka qa ls h s t = 0 := if_neg (Nat.not_le.mpr hl)

theorem DW_of_lt {h s t : ℕ} (hl : t < s) : DW ka qa va da ls d h s t = 0 := by
  unfold DW
  rw [PW_of_lt hl, zero_mul]

section Words
variable {sig : RefSig} {κ κ' : Kind} {sp sp' : Space}

/-- The products of block `j` of one buffer against block `i` of another. -/
theorem pair_block {f g : ℕ → ℕ → ℕ → ℝ} {v : View sig κ sp (⟨3, ![2, 2048, 128]⟩ : Shape) .bf16}
    {v' : View sig κ' sp' (⟨3, ![2, 2048, 128]⟩ : Shape) .bf16} {L L' : List (View.Piece (Elt Ideal) (⟨3, ![2, 2048, 128]⟩ : Shape) .bf16)}
    (hf : At3 (l := 2) (m := 2048) (n := 128) (View.canon L) f) (hg : At3 (l := 2) (m := 2048) (n := 128) (View.canon L') g)
    (h j i : ℕ) {inb inb' hc hc'} :
    At2 (m := 512) (n := 512) (FloatOps.matmul (F := Ideal) (φ₁ := .bf16) (φ₂ := .bf16) (DotDims.transposedRhs 512 128 512) none
      (shapeCast ⟨2, ![512, 128]⟩ (v.readCov L (Rect.unit (s := ⟨3, ![2, 2048, 128]⟩) ![h, 512 * j, 0] ![1, 512, 128] inb).toLoadRect) hc)
      (shapeCast ⟨2, ![512, 128]⟩ (v'.readCov L' (Rect.unit (s := ⟨3, ![2, 2048, 128]⟩) ![h, 512 * i, 0] ![1, 512, 128] inb').toLoadRect) hc')
      (constant ⟨2, ![512, 512]⟩ .f32 0#32))
      fun r c => ∑ l : Fin 128, f h (512 * j + r) l.val * g h (512 * i + c) l.val :=
  (At2.nt ((hf.backb h (512 * j) 0 1 512 128 inb).drop hc) ((hg.backb h (512 * i) 0 1 512 128 inb').drop hc')).congr
    fun r c _ _ => by simp only [Nat.add_zero, Nat.zero_add]

/-- The row of log denominators of block `i`, given to every row. -/
theorem lse_block {r : Memref sig κ sp (⟨4, ![1, 1, 8, 2048]⟩ : Shape) .f32} {hr : r.IsWhole} {X : Vec Ideal (⟨4, ![1, 1, 8, 2048]⟩ : Shape) .f32}
    (hX : At4 (k := 1) (l := 1) (m := 8) (n := 2048) X fun _ _ h t => ls h t) (h i : ℕ) {inb hc hb} :
    At2 (m := 512) (n := 512) (broadcastTo ⟨2, ![512, 512]⟩ (shapeCast ⟨2, ![1, 512]⟩
      (r.view.readAt (Elt Ideal) (Rect.unit (s := ⟨4, ![1, 1, 8, 2048]⟩) ![0, 0, h, 512 * i] ![1, 1, 1, 512] inb).toLoadRect (hr.unread X)) hc) hb)
      fun _ c => ls h (512 * i + c) :=
  ((hX.input 0 0 h (512 * i) 1 1 1 512 inb).drop hc).rows (by norm_num) hb

/-- The row sums of block `i`, given to every row. -/
theorem d_block {v : View sig κ sp (⟨3, ![2, 8, 2048]⟩ : Shape) .f32} {L : List (View.Piece (Elt Ideal) (⟨3, ![2, 8, 2048]⟩ : Shape) .f32)}
    (hD : At3 (l := 2) (m := 8) (n := 2048) (View.canon L) fun h _ t => d h t) (h i : ℕ) {inb hc hb} :
    At2 (m := 512) (n := 512) (broadcastTo ⟨2, ![512, 512]⟩ (shapeCast ⟨2, ![1, 512]⟩
      (v.readCov L (Rect.unit (s := ⟨3, ![2, 8, 2048]⟩) ![h, 0, 512 * i] ![1, 1, 512] inb).toLoadRect) hc) hb)
      fun _ c => d h (512 * i + c) :=
  ((hD.backf h 0 (512 * i) 1 1 512 inb).drop hc).rows (by norm_num) hb

/-- The weights of a block off the diagonal. -/
theorem p_off {S Lw : FVec Ideal ⟨2, ![512, 512]⟩ .f32} {h j i : ℕ}
    (hS : At2 S fun r c => ∑ l : Fin 128, ka h (512 * j + r) l.val * qa h (512 * i + c) l.val)
    (hL : At2 Lw fun _ c => ls h (512 * i + c)) (hji : j < i) :
    At2 (Idealize.ShloMosaic.exp (subf S Lw)) fun r c => PW ka qa ls h (512 * j + r) (512 * i + c) :=
  (hS.sub hL).exp.congr fun r c _ _ => (if_pos (by omega)).symm

/-- The weights of a block on the diagonal. -/
theorem p_diag {S Lw : FVec Ideal ⟨2, ![512, 512]⟩ .f32} {h i : ℕ} {k : EReal} {h0 h1}
    (hk : k = ⊥) (hS : At2 S fun r c => ∑ l : Fin 128, ka h (512 * i + r) l.val * qa h (512 * i + c) l.val)
    (hL : At2 Lw fun _ c => ls h (512 * i + c)) :
    At2 (Idealize.ShloMosaic.exp (subf (select (cmpi .sge (subi (iota Kind.tc (⟨2, ![512, 512]⟩ : Shape) 32 [1] h1)
      (iota Kind.tc (⟨2, ![512, 512]⟩ : Shape) 32 [0] h0)) (broadcast (⟨2, ![512, 512]⟩ : Shape) 0#32)) S (broadcast (⟨2, ![512, 512]⟩ : Shape) k)) Lw))
      fun r c => PW ka qa ls h (512 * i + r) (512 * i + c) :=
  (At2.masked_exp (Mask.sge (int2_diag (by norm_num) (by norm_num) h0 h1) (int2_splat (z := 0) rfl)) hk hS hL).congr fun r c _ _ => by
    unfold PW
    simp only [decide_eq_true_eq]
    exact if_congr (by omega) rfl rfl

/-- The score cotangents of a block. -/
theorem ds_block {P S Dw : FVec Ideal ⟨2, ![512, 512]⟩ .f32} {h j i : ℕ} {ht}
    (hP : At2 P fun r c => PW ka qa ls h (512 * j + r) (512 * i + c))
    (hS : At2 S fun r c => ∑ l : Fin 128, va h (512 * j + r) l.val * da h (512 * i + c) l.val)
    (hD : At2 Dw fun _ c => d h (512 * i + c)) :
    At2 (truncf .bf16 (mulf P (subf S Dw)) ht) fun r c => DW ka qa va da ls d h (512 * j + r) (512 * i + c) :=
  (hP.mul (hS.sub hD)).trunc ht

/-- What block `i` of queries adds to the value cotangents of block `j` of keys. -/
theorem dv_part {v : View sig κ sp (⟨2, ![128, 2048]⟩ : Shape) .bf16} {L : List (View.Piece (Elt Ideal) (⟨2, ![128, 2048]⟩ : Shape) .bf16)}
    {a : ℕ → ℕ → ℝ} (hT : At2 (m := 128) (n := 2048) (View.canon L) fun l t => a t l) {P : FVec Ideal ⟨2, ![512, 512]⟩ .f32} {h j i : ℕ} {inb ht}
    (hP : At2 P fun r c => PW ka qa ls h (512 * j + r) (512 * i + c)) :
    At2 (m := 64) (n := 512) (FloatOps.matmul (F := Ideal) (φ₁ := .bf16) (φ₂ := .bf16) (DotDims.transposedRhs 64 512 512) none
      (v.readCov L (Rect.unit (s := ⟨2, ![128, 2048]⟩) ![64 * h, 512 * i] ![64, 512] inb).toLoadRect) (truncf .bf16 P ht)
      (constant ⟨2, ![64, 512]⟩ .f32 0#32))
      fun r c => blk (fun t => a t (64 * h + r) * PW ka qa ls h (512 * j + c) t) i :=
  At2.nt (hT.back (64 * h) (512 * i) 64 512 inb) (hP.trunc ht)

/-- What block `i` of queries adds to the key cotangents of block `j` of keys. -/
theorem dk_part {v : View sig κ sp (⟨3, ![2, 128, 2048]⟩ : Shape) .bf16} {L : List (View.Piece (Elt Ideal) (⟨3, ![2, 128, 2048]⟩ : Shape) .bf16)}
    (hT : At3 (l := 2) (m := 128) (n := 2048) (View.canon L) fun h l t => qa h t l) {S : FVec Ideal ⟨2, ![512, 512]⟩ .bf16} {h j i : ℕ} {inb hc}
    (hS : At2 S fun r c => DW ka qa va da ls d h (512 * j + r) (512 * i + c)) :
    At2 (m := 128) (n := 512) (FloatOps.matmul (F := Ideal) (φ₁ := .bf16) (φ₂ := .bf16) (DotDims.transposedRhs 128 512 512) none
      (shapeCast ⟨2, ![128, 512]⟩ (v.readCov L (Rect.unit (s := ⟨3, ![2, 128, 2048]⟩) ![h, 0, 512 * i] ![1, 128, 512] inb).toLoadRect) hc) S
      (constant ⟨2, ![128, 512]⟩ .f32 0#32))
      fun l c => blk (fun t => qa h t l * DW ka qa va da ls d h (512 * j + c) t) i :=
  (At2.nt ((hT.backb h 0 (512 * i) 1 128 512 inb).drop hc) hS).congr fun l c _ _ => by
    simp only [Nat.add_zero, Nat.zero_add]; rfl

/-- What has been added to the query cotangents when the blocks of keys counted by `done` have been: as often as
    `(h, i)` stands in `done`, so many blocks of keys have been added to block `i` of queries of head `h`. -/
def ZQ (ka : ℕ → ℕ → ℕ → ℝ) (S : ℕ → ℕ → ℕ → ℝ) (done : List (ℕ × ℕ)) (h l t : ℕ) : ℝ :=
  ∑ j ∈ Finset.range (done.count (h, t / 512)), blk (fun s => ka h s l * S h s t) j

/-- One block of keys more for one block of queries. -/
theorem zq_step {v : View sig κ sp (⟨3, ![2, 128, 2048]⟩ : Shape) .f32} {L : List (View.Piece (Elt Ideal) (⟨3, ![2, 128, 2048]⟩ : Shape) .f32)}
    {v' : View sig κ' sp' (⟨3, ![2, 128, 2048]⟩ : Shape) .bf16} {L' : List (View.Piece (Elt Ideal) (⟨3, ![2, 128, 2048]⟩ : Shape) .bf16)}
    {S : ℕ → ℕ → ℕ → ℝ} {done : List (ℕ × ℕ)} (hT : At3 (l := 2) (m := 128) (n := 2048) (View.canon L') fun h l s => ka h s l) (h j i : ℕ)
    (hZ : At3 (l := 2) (m := 128) (n := 2048) (View.canon L) (ZQ ka S done)) (hj : done.count (h, i) = j)
    {D : FVec Ideal ⟨2, ![512, 512]⟩ .bf16} (hD : At2 D fun r c => S h (512 * j + r) (512 * i + c)) {inb inb₁ inb₂ hc hc₁ hc₂} :
    At3 (l := 2) (m := 128) (n := 2048) (View.canon ((⟨Rect.unit (s := ⟨3, ![2, 128, 2048]⟩) ![h, 0, 512 * i] ![1, 128, 512] inb,
      shapeCast ⟨3, ![1, 128, 512]⟩ (addf
        (shapeCast ⟨2, ![128, 512]⟩ (v.readCov L (Rect.unit (s := ⟨3, ![2, 128, 2048]⟩) ![h, 0, 512 * i] ![1, 128, 512] inb₁).toLoadRect) hc₁)
        (FloatOps.matmul (F := Ideal) (φ₁ := .bf16) (φ₂ := .bf16) (DotDims.plain 128 512 512) none
          (shapeCast ⟨2, ![128, 512]⟩ (v'.readCov L' (Rect.unit (s := ⟨3, ![2, 128, 2048]⟩) ![h, 0, 512 * j] ![1, 128, 512] inb₂).toLoadRect) hc₂) D
          (constant ⟨2, ![128, 512]⟩ .f32 0#32))) hc⟩ : View.Piece (Elt Ideal) (⟨3, ![2, 128, 2048]⟩ : Shape) .f32) :: L))
      (ZQ ka S ((h, i) :: done)) :=
  On3.full (On3.slabf
    (((hZ.backf h 0 (512 * i) 1 128 512 inb₁).drop hc₁).add (At2.nn ((hT.backb h 0 (512 * j) 1 128 512 inb₂).drop hc₂) hD))
    (fun l c _ hc => by
      have hdiv : (512 * i + c) / 512 = i := by omega
      unfold ZQ
      simp only [Nat.add_zero, Nat.zero_add, hdiv, List.count_cons_self, hj]
      rw [Finset.sum_range_succ]
      rfl)
    (fun x hx => by
      rw [hZ x]
      have h1 : (x 1).val < 128 := (x 1).isLt
      have hne : ¬ ((h, i) == ((x 0).val, (x 2).val / 512)) = true := by
        rw [beq_iff_eq, Prod.mk.injEq]
        rintro ⟨e0, e2⟩
        exact hx.1 ⟨by omega, by omega, by omega, by omega, by omega, by omega⟩
      unfold ZQ
      rw [List.count_cons, if_neg hne, Nat.add_zero]))

end Words

end AttBwd

end
-- ==== Proof.Body.lean ====
/- What the kernel's body leaves in its five output blocks at one grid point, as functions of the reals its input blocks hold. -/
module

public import proofs.«01_k».proof.Proof.Units

@[expose] public section

set_option maxRecDepth 16384

noncomputable section

namespace AttBwd

open Idealize.ShloMosaic Idealize.ShloMosaic.ValueIdx Cert.KernelIdeal Cert.KernelIdeal.Gen

variable {q k v a o ax : ℕ → ℕ → ℝ} {ka qa va da : ℕ → ℕ → ℕ → ℝ} {ls d : ℕ → ℕ → ℝ}

/-- The value cotangent at key `s`, lane `l`. -/
def DVF (a : ℕ → ℕ → ℝ) (ka qa : ℕ → ℕ → ℕ → ℝ) (ls : ℕ → ℕ → ℝ) (s l : ℕ) : ℝ :=
  ∑ t : Fin 2048, a t.val l * PW ka qa ls (l / 64) s t.val

/-- The key cotangent of head `h` at key `s`, lane `l`, the lanes of the decay among them. -/
def DKT (qa : ℕ → ℕ → ℕ → ℝ) (S : ℕ → ℕ → ℕ → ℝ) (h l s : ℕ) : ℝ := ∑ t : Fin 2048, qa h t.val l * S h s t.val

/-- The query cotangent of head `h` at query `t`, lane `l`, the lanes of the decay among them. -/
def DQT (ka : ℕ → ℕ → ℕ → ℝ) (S : ℕ → ℕ → ℕ → ℝ) (h l t : ℕ) : ℝ := ∑ s : Fin 2048, ka h s.val l * S h s.val t

/-- The rows of the key side's decay cotangent: one for each head, the others zero. -/
def DCK (qa : ℕ → ℕ → ℕ → ℝ) (S : ℕ → ℕ → ℕ → ℝ) (r s : ℕ) : ℝ :=
  if r = 0 then -DKT qa S 0 64 s else if r = 1 then -DKT qa S 1 0 s else 0

/-- The rows of the query side's decay cotangent. -/
def DCQ (ka : ℕ → ℕ → ℕ → ℝ) (S : ℕ → ℕ → ℕ → ℝ) (r t : ℕ) : ℝ :=
  if r = 0 then DQT ka S 0 67 t else if r = 1 then DQT ka S 1 3 t else 0

theorem sum_from0 (f : ℕ → ℝ) : ∑ t : Fin 2048, f t.val = blk f 0 + blk f 1 + blk f 2 + blk f 3 := sum_blk f

theorem sum_from1 (f : ℕ → ℝ) (h : ∀ t, t < 512 → f t = 0) : ∑ t : Fin 2048, f t.val = blk f 1 + blk f 2 + blk f 3 := by
  rw [sum_blk, blk_zero (b := 0) fun k hk => h _ (by omega), zero_add]

theorem sum_from2 (f : ℕ → ℝ) (h : ∀ t, t < 1024 → f t = 0) : ∑ t : Fin 2048, f t.val = blk f 2 + blk f 3 := by
  rw [sum_from1 f fun t ht => h t (by omega), blk_zero (b := 1) fun k hk => h _ (by omega), zero_add]

theorem sum_from3 (f : ℕ → ℝ) (h : ∀ t, t < 1536 → f t = 0) : ∑ t : Fin 2048, f t.val = blk f 3 := by
  rw [sum_from2 f fun t ht => h t (by omega), blk_zero (b := 2) fun k hk => h _ (by omega), zero_add]

/-- Two halves of the lanes. -/
theorem half_nat (B : ℕ → ℕ → ℝ) {c : ℕ} (hc : c < 128) : (if c < 64 then B 0 (64 * 0 + c) else B 1 (64 * 1 + (c - 64))) = B (c / 64) c := by
  split_ifs with h
  · rw [show c / 64 = 0 by omega, Nat.mul_zero, Nat.zero_add]
  · rw [show c / 64 = 1 by omega, show 64 * 1 + (c - 64) = c by omega]

theorem half_int (B : ℕ → ℕ → ℝ) {c : ℕ} (hc : c < 128) : (if decide ((c : ℤ) < 64) = true then B 0 c else B 1 c) = B (c / 64) c := by
  simp only [decide_eq_true_eq]
  split_ifs with h
  · rw [show c / 64 = 0 by omega]
  · rw [show c / 64 = 1 by omega]

/-- When every block of keys up to the diagonal has been added, the query cotangent is complete. -/
theorem zq_done {S : ℕ → ℕ → ℕ → ℝ} {done : List (ℕ × ℕ)} (hS : ∀ h s t, t < s → S h s t = 0)
    (hd : ∀ h < 2, ∀ i < 4, done.count (h, i) = i + 1) {h t : ℕ} (hh : h < 2) (ht : t < 2048) (l : ℕ) : ZQ ka S done h l t = DQT ka S h l t := by
  have hz : ∀ j, t / 512 < j → blk (fun s => ka h s l * S h s t) j = 0 := fun j hj =>
    blk_zero fun k _ => by
      show ka h (512 * j + k) l * S h (512 * j + k) t = 0
      rw [hS h _ t (by omega), mul_zero]
  unfold ZQ DQT
  rw [sum_blk (fun s => ka h s l * S h s t), hd h hh _ (by omega)]
  obtain h0 | h1 | h2 | h3 : t / 512 = 0 ∨ t / 512 = 1 ∨ t / 512 = 2 ∨ t / 512 = 3 := by omega
  · rw [h0, hz 1 (by omega), hz 2 (by omega), hz 3 (by omega)]; simp [Finset.sum_range_succ]
  · rw [h1, hz 2 (by omega), hz 3 (by omega)]; simp [Finset.sum_range_succ]
  · rw [h2, hz 3 (by omega)]; simp [Finset.sum_range_succ]
  · rw [h3]; simp [Finset.sum_range_succ]

/-- A row of the slab just written. -/
theorem slab_row {sig : RefSig} {κ : Kind} {sp : Space} {w : View sig κ sp (⟨3, ![2, 128, 512]⟩ : Shape) .f32}
    {L : List (View.Piece (Elt Ideal) (⟨3, ![2, 128, 512]⟩ : Shape) .f32)} {x : FVec Ideal ⟨2, ![128, 512]⟩ .f32} {g : ℕ → ℕ → ℝ}
    (hx : At2 x g) (h r : ℕ) (hr : r < 128) {inb hc inb'} :
    At3 (l := 1) (m := 1) (n := 512) (w.readCov ((⟨Rect.unit (s := ⟨3, ![2, 128, 512]⟩) ![h, 0, 0] ![1, 128, 512] inb, shapeCast ⟨3, ![1, 128, 512]⟩ x hc⟩ :
      View.Piece (Elt Ideal) (⟨3, ![2, 128, 512]⟩ : Shape) .f32) :: L)
      (Rect.unit (s := ⟨3, ![2, 128, 512]⟩) ![h, r, 0] ![1, 1, 512] inb').toLoadRect) fun _ _ c => g r c := by
  have h3 : On3 (fun b _ _ => b = h) (View.canon ((⟨Rect.unit (s := ⟨3, ![2, 128, 512]⟩) ![h, 0, 0] ![1, 128, 512] inb, shapeCast ⟨3, ![1, 128, 512]⟩ x hc⟩ :
      View.Piece (Elt Ideal) (⟨3, ![2, 128, 512]⟩ : Shape) .f32) :: L)) fun _ r c => g r c :=
    On3.slabf hx (fun r c _ _ => by simp only [Nat.zero_add]) (On3.nil fun b r c _ hr' hc' => by omega)
  intro y
  have y0 : (y 0).val = 0 := Nat.lt_one_iff.mp (y 0).isLt
  have y1 : (y 1).val = 0 := Nat.lt_one_iff.mp (y 1).isLt
  rw [View.readCov_eq_canon']
  refine (h3 _ (by show h + 1 * (y 0).val = h; rw [y0]; rfl)).trans ?_
  show ((g (r + 1 * (y 1).val) (0 + 1 * (y 2).val) : ℝ) : EReal) = _
  rw [y1, Nat.mul_zero, Nat.add_zero, Nat.one_mul, Nat.zero_add]

/-- The row of an array that a mask singles out. -/
theorem row_at {f : ℕ → ℕ → ℝ} (n : ℕ) (hn : n < 128) (c : ℕ) :
    ∑ r : Fin 128, (if decide ((r.val : ℤ) = (n : ℤ)) = true then f r.val c else 0) = f n c := by
  simp only [decide_eq_true_eq]
  rw [Finset.sum_eq_single (⟨n, hn⟩ : Fin 128) (fun r _ hr => if_neg fun e => hr (Fin.ext (by exact_mod_cast e))) (fun h => absurd (Finset.mem_univ _) h)]
  exact if_pos rfl

/-- The number the mask puts in place of a score is minus infinity. -/
theorem mask_bot : (Named.named (F := Ideal) (φ := .f32) Cert.KernelIdeal.κ "mask" 0xF149F2CA#32 : EReal) = ⊥ :=
  IdealRules.named_const.ideal_named_scalar _ _ _ _ rfl

/-- The cleared buffer, with no block of keys added. -/
theorem zq_start {S : ℕ → ℕ → ℕ → ℝ} (ka : ℕ → ℕ → ℕ → ℝ) : At3 (l := 2) (m := 128) (n := 2048) (View.canon (kernelRun0_A.sl.HS8_1 (F := Ideal))) (ZQ ka S []) :=
  On3.full (On3.consf (g := fun _ _ _ => 0) (At3.cast (fun _ => zero_f32) _) (fun _ _ _ _ _ _ => rfl) (On3.nil fun b r c _ _ _ => by omega))

/-- A block cleared before the rest of the writes. -/
theorem On4.cleared {n : ℕ} {D : ℕ → ℕ → ℕ → ℕ → Prop} {F : ℕ → ℕ → ℕ → ℕ → ℝ} {inb}
    {w : (⟨4, ![1, 1, 8, n]⟩ : Shape).Idx → Elt Ideal .f32} (hw : At4 (k := 1) (l := 1) (m := 8) (n := n) w fun _ _ _ _ => 0)
    (e : ∀ c d, c < 8 → d < n → D 0 0 c d → F 0 0 c d = 0) :
    On4 D (View.canon [(⟨Rect.unit (s := ⟨4, ![1, 1, 8, n]⟩) ![0, 0, 0, 0] ![1, 1, 8, n] inb, w⟩ : View.Piece (Elt Ideal) (⟨4, ![1, 1, 8, n]⟩ : Shape) .f32)]) F := fun x hx => by
  have h0 : (x 0).val = 0 := Nat.lt_one_iff.mp (x 0).isLt
  have h1 : (x 1).val = 0 := Nat.lt_one_iff.mp (x 1).isLt
  refine (On4.cons (D := fun _ _ _ _ => True) (F := fun _ _ _ _ => 0) (inb := inb) hw (fun _ _ _ _ _ _ _ _ => rfl) (fun y hy => absurd ?_ hy.1) x trivial).trans ?_
  · have := (y 0).isLt
    have := (y 1).isLt
    have := (y 2).isLt
    have := (y 3).isLt
    exact ⟨Nat.zero_le _, by simpa using (y 0).isLt, Nat.zero_le _, by simpa using (y 1).isLt, Nat.zero_le _, by simpa using (y 2).isLt,
      Nat.zero_le _, by simpa using (y 3).isLt⟩
  · rw [h0, h1] at hx ⊢
    rw [e _ _ (x 2).isLt (x 3).isLt hx]

section
variable (c : Dev nD)
  (i : grid0.Coords)
  (arg2 : Memref sig .tc .vmem S2048x128 .bf16)
  (harg2 : arg2.IsWhole)
  (arg3 : Memref sig .tc .vmem S2048x128 .bf16)
  (harg3 : arg3.IsWhole)
  (arg4 : Memref sig .tc .vmem S2048x128 .bf16)
  (harg4 : arg4.IsWhole)
  (arg5 : Memref sig .tc .vmem S2048x128 .f32)
  (harg5 : arg5.IsWhole)
  (arg6 : Memref sig .tc .vmem S2048x128 .f32)
  (harg6 : arg6.IsWhole)
  (arg7 : Memref sig .tc .vmem S1x1x8x2048 .f32)
  (harg7 : arg7.IsWhole)
  (arg8 : Memref sig .tc .vmem S2048x128 .bf16)
  (harg8 : arg8.IsWhole)
  (arg9 : Memref sig .tc .vmem S2048x128 .bf16)
  (harg9 : arg9.IsWhole)
  (arg10 : Memref sig .tc .vmem S2048x128 .bf16)
  (harg10 : arg10.IsWhole)
  (arg11 : Memref sig .tc .vmem S2048x128 .bf16)
  (harg11 : arg11.IsWhole)
  (arg12 : Memref sig .tc .vmem S1x1x8x2048 .f32)
  (harg12 : arg12.IsWhole)
  (arg13 : Memref sig .tc .vmem S1x1x8x2048 .f32)
  (harg13 : arg13.IsWhole)
  (arg14 : Memref sig .tc .vmem S2x2048x128 .bf16)
  (harg14 : arg14.IsWhole)
  (arg15 : Memref sig .tc .vmem S2x2048x128 .bf16)
  (harg15 : arg15.IsWhole)
  (arg16 : Memref sig .tc .vmem S2x2048x128 .bf16)
  (harg16 : arg16.IsWhole)
  (arg17 : Memref sig .tc .vmem S2x2048x128 .bf16)
  (harg17 : arg17.IsWhole)
  (arg18 : Memref sig .tc .vmem S2x128x2048 .bf16)
  (harg18 : arg18.IsWhole)
  (arg19 : Memref sig .tc .vmem S2x128x2048 .bf16)
  (harg19 : arg19.IsWhole)
  (arg20 : Memref sig .tc .vmem S128x2048 .bf16)
  (harg20 : arg20.IsWhole)
  (arg21 : Memref sig .tc .vmem S2x8x2048 .f32)
  (harg21 : arg21.IsWhole)
  (arg22 : Memref sig .tc .vmem S2x128x2048 .f32)
  (harg22 : arg22.IsWhole)
  (arg23 : Memref sig .tc .vmem S2x128x512 .f32)
  (harg23 : arg23.IsWhole)
  (x0 : Vec Ideal S2048x128 .bf16)
  (x1 : Vec Ideal S2048x128 .bf16)
  (x2 : Vec Ideal S2048x128 .bf16)
  (x3 : Vec Ideal S2048x128 .f32)
  (x4 : Vec Ideal S2048x128 .f32)
  (x5 : Vec Ideal S1x1x8x2048 .f32)
  (x6 : Vec Ideal S2048x128 .bf16)

variable (hq : At2 (m := 2048) (n := 128) x0 q) (hk : At2 (m := 2048) (n := 128) x1 k) (hv : At2 (m := 2048) (n := 128) x2 v)
  (ha : At2 (m := 2048) (n := 128) x3 a) (ho : At2 (m := 2048) (n := 128) x4 o)
  (hX : At4 (k := 1) (l := 1) (m := 8) (n := 2048) x5 fun _ _ h t => ls h t) (hx : At2 (m := 2048) (n := 128) x6 ax)

include hq hk hv ha ho hx

omit hX in
/-- What the scratch buffers hold: the operands of each head, and two of them transposed. -/
theorem bufs :
    At3 (l := 2) (m := 2048) (n := 128) (View.canon (kernelRun0_A.sl.HS1_2 c arg3 harg3 arg8 harg8 x1 x6)) (KA k ax) ∧
    At3 (l := 2) (m := 2048) (n := 128) (View.canon (kernelRun0_A.sl.HS0_2 c arg2 harg2 x0)) (QA q) ∧
    At3 (l := 2) (m := 2048) (n := 128) (View.canon (kernelRun0_A.sl.HS2_2 c arg4 harg4 x2)) (MA v) ∧
    At3 (l := 2) (m := 2048) (n := 128) (View.canon (kernelRun0_A.sl.HS3_2 c arg5 harg5 x3)) (MA a) ∧
    At3 (l := 2) (m := 8) (n := 2048) (View.canon (kernelRun0_A.sl.HS7_2 c arg5 harg5 arg6 harg6 x3 x4)) (fun h _ t => DA a o h t) ∧
    At3 (l := 2) (m := 128) (n := 2048) (View.canon (kernelRun0_A.sl.HS4_8 c arg3 harg3 arg8 harg8 x1 x6)) (fun h l t => KA k ax h t l) ∧
    At3 (l := 2) (m := 128) (n := 2048) (View.canon (kernelRun0_A.sl.HS5_8 c arg2 harg2 x0)) (fun h l t => QA q h t l) :=
  ⟨ka_buf c arg3 harg3 arg8 harg8 x1 x6 hk hx, qa_buf c arg2 harg2 x0 hq, va_buf c arg4 harg4 x2 hv, da_buf c arg5 harg5 x3 ha,
    d_buf c arg5 harg5 arg6 harg6 x3 x4 ha ho, kat_buf c arg3 harg3 arg8 harg8 x1 x6 hk hx, qat_buf c arg2 harg2 x0 hq⟩

include hX

variable {c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6}

omit hv ho in
/-- The value cotangents of block 0. -/
theorem dv_0 :
    At2 (m := 512) (n := 128) (kernelRun0_A.sl.v599 c arg2 harg2 arg3 harg3 arg5 harg5 arg7 harg7 arg8 harg8 arg14 arg15 arg20 x0 x1 x3 x5 x6)
      fun r l => DVF a (KA k ax) (QA q) ls (0 + r) l := by
  have hK := ka_buf c arg3 harg3 arg8 harg8 x1 x6 hk hx
  have hQ := qa_buf c arg2 harg2 x0 hq
  have hT := dt_buf c arg5 harg5 x3 ha
  refine ((At2.concat ((((dv_part (h := 0) (j := 0) (i := 0) hT (p_diag mask_bot (pair_block hK hQ 0 0 0) (lse_block hX 0 0))).add
      (dv_part (h := 0) (j := 0) (i := 1) hT (p_off (pair_block hK hQ 0 0 1) (lse_block hX 0 1) (by decide)))).add
      (dv_part (h := 0) (j := 0) (i := 2) hT (p_off (pair_block hK hQ 0 0 2) (lse_block hX 0 2) (by decide)))).add
      (dv_part (h := 0) (j := 0) (i := 3) hT (p_off (pair_block hK hQ 0 0 3) (lse_block hX 0 3) (by decide))))
    ((((dv_part (h := 1) (j := 0) (i := 0) hT (p_diag mask_bot (pair_block hK hQ 1 0 0) (lse_block hX 1 0))).add
      (dv_part (h := 1) (j := 0) (i := 1) hT (p_off (pair_block hK hQ 1 0 1) (lse_block hX 1 1) (by decide)))).add
      (dv_part (h := 1) (j := 0) (i := 2) hT (p_off (pair_block hK hQ 1 0 2) (lse_block hX 1 2) (by decide)))).add
      (dv_part (h := 1) (j := 0) (i := 3) hT (p_off (pair_block hK hQ 1 0 3) (lse_block hX 1 3) (by decide)))) rfl _).transpose _ |>.trunc _).congr ?_
  intro r l hr hl
  refine (half_nat (fun h l => blk (fun t => a t l * PW (KA k ax) (QA q) ls h (0 + r) t) 0 + blk (fun t => a t l * PW (KA k ax) (QA q) ls h (0 + r) t) 1 + blk (fun t => a t l * PW (KA k ax) (QA q) ls h (0 + r) t) 2 + blk (fun t => a t l * PW (KA k ax) (QA q) ls h (0 + r) t) 3) hl).trans ?_
  exact (sum_from0 (fun t => a t l * PW (KA k ax) (QA q) ls (l / 64) (0 + r) t) ).symm

omit hv ho in
/-- The value cotangents of block 1. -/
theorem dv_1 :
    At2 (m := 512) (n := 128) (kernelRun0_A.sl.v862 c arg2 harg2 arg3 harg3 arg5 harg5 arg7 harg7 arg8 harg8 arg14 arg15 arg20 x0 x1 x3 x5 x6)
      fun r l => DVF a (KA k ax) (QA q) ls (512 + r) l := by
  have hK := ka_buf c arg3 harg3 arg8 harg8 x1 x6 hk hx
  have hQ := qa_buf c arg2 harg2 x0 hq
  have hT := dt_buf c arg5 harg5 x3 ha
  refine ((At2.concat (((dv_part (h := 0) (j := 1) (i := 1) hT (p_diag mask_bot (pair_block hK hQ 0 1 1) (lse_block hX 0 1))).add
      (dv_part (h := 0) (j := 1) (i := 2) hT (p_off (pair_block hK hQ 0 1 2) (lse_block hX 0 2) (by decide)))).add
      (dv_part (h := 0) (j := 1) (i := 3) hT (p_off (pair_block hK hQ 0 1 3) (lse_block hX 0 3) (by decide))))
    (((dv_part (h := 1) (j := 1) (i := 1) hT (p_diag mask_bot (pair_block hK hQ 1 1 1) (lse_block hX 1 1))).add
      (dv_part (h := 1) (j := 1) (i := 2) hT (p_off (pair_block hK hQ 1 1 2) (lse_block hX 1 2) (by decide)))).add
      (dv_part (h := 1) (j := 1) (i := 3) hT (p_off (pair_block hK hQ 1 1 3) (lse_block hX 1 3) (by decide)))) rfl _).transpose _ |>.trunc _).congr ?_
  intro r l hr hl
  refine (half_nat (fun h l => blk (fun t => a t l * PW (KA k ax) (QA q) ls h (512 + r) t) 1 + blk (fun t => a t l * PW (KA k ax) (QA q) ls h (512 + r) t) 2 + blk (fun t => a t l * PW (KA k ax) (QA q) ls h (512 + r) t) 3) hl).trans ?_
  exact (sum_from1 (fun t => a t l * PW (KA k ax) (QA q) ls (l / 64) (512 + r) t) (fun t ht => mul_eq_zero_of_right _ (PW_of_lt (by omega)))).symm

omit hv ho in
/-- The value cotangents of block 2. -/
theorem dv_2 :
    At2 (m := 512) (n := 128) (kernelRun0_A.sl.v1049 c arg2 harg2 arg3 harg3 arg5 harg5 arg7 harg7 arg8 harg8 arg14 arg15 arg20 x0 x1 x3 x5 x6)
      fun r l => DVF a (KA k ax) (QA q) ls (1024 + r) l := by
  have hK := ka_buf c arg3 harg3 arg8 harg8 x1 x6 hk hx
  have hQ := qa_buf c arg2 harg2 x0 hq
  have hT := dt_buf c arg5 harg5 x3 ha
  refine ((At2.concat ((dv_part (h := 0) (j := 2) (i := 2) hT (p_diag mask_bot (pair_block hK hQ 0 2 2) (lse_block hX 0 2))).add
      (dv_part (h := 0) (j := 2) (i := 3) hT (p_off (pair_block hK hQ 0 2 3) (lse_block hX 0 3) (by decide))))
    ((dv_part (h := 1) (j := 2) (i := 2) hT (p_diag mask_bot (pair_block hK hQ 1 2 2) (lse_block hX 1 2))).add
      (dv_part (h := 1) (j := 2) (i := 3) hT (p_off (pair_block hK hQ 1 2 3) (lse_block hX 1 3) (by decide)))) rfl _).transpose _ |>.trunc _).congr ?_
  intro r l hr hl
  refine (half_nat (fun h l => blk (fun t => a t l * PW (KA k ax) (QA q) ls h (1024 + r) t) 2 + blk (fun t => a t l * PW (KA k ax) (QA q) ls h (1024 + r) t) 3) hl).trans ?_
  exact (sum_from2 (fun t => a t l * PW (KA k ax) (QA q) ls (l / 64) (1024 + r) t) (fun t ht => mul_eq_zero_of_right _ (PW_of_lt (by omega)))).symm

omit hv ho in
/-- The value cotangents of block 3. -/
theorem dv_3 :
    At2 (m := 512) (n := 128) (kernelRun0_A.sl.v1160 c arg2 harg2 arg3 harg3 arg5 harg5 arg7 harg7 arg8 harg8 arg14 arg15 arg20 x0 x1 x3 x5 x6)
      fun r l => DVF a (KA k ax) (QA q) ls (1536 + r) l := by
  have hK := ka_buf c arg3 harg3 arg8 harg8 x1 x6 hk hx
  have hQ := qa_buf c arg2 harg2 x0 hq
  have hT := dt_buf c arg5 harg5 x3 ha
  refine ((At2.concat (dv_part (h := 0) (j := 3) (i := 3) hT (p_diag mask_bot (pair_block hK hQ 0 3 3) (lse_block hX 0 3)))
    (dv_part (h := 1) (j := 3) (i := 3) hT (p_diag mask_bot (pair_block hK hQ 1 3 3) (lse_block hX 1 3))) rfl _).transpose _ |>.trunc _).congr ?_
  intro r l hr hl
  refine (half_nat (fun h l => blk (fun t => a t l * PW (KA k ax) (QA q) ls h (1536 + r) t) 3) hl).trans ?_
  exact (sum_from3 (fun t => a t l * PW (KA k ax) (QA q) ls (l / 64) (1536 + r) t) (fun t ht => mul_eq_zero_of_right _ (PW_of_lt (by omega)))).symm

/-- The key cotangents of block 0. -/
theorem dk_0 :
    At2 (m := 512) (n := 128) (kernelRun0_A.sl.v595 c arg2 harg2 arg3 harg3 arg4 harg4 arg5 harg5 arg6 harg6 arg7 harg7 arg8 harg8 arg14 arg15 arg16 arg17 arg19 arg21 x0 x1 x2 x3 x4 x5 x6)
      fun r l => DKT (QA q) (DW (KA k ax) (QA q) (MA v) (MA a) ls (DA a o)) (l / 64) l (0 + r) := by
  obtain ⟨hK, hQ, hV, hA, hD, _, hQT⟩ := bufs c arg2 harg2 arg3 harg3 arg4 harg4 arg5 harg5 arg6 harg6 arg8 harg8 x0 x1 x2 x3 x4 x6 hq hk hv ha ho hx
  refine ((At2.select (φ := .f32) (Mask.slt (int2_iota0 (by norm_num) _) (int2_splat (k := 64#32) (z := 64) rfl)) ((((dk_part (h := 0) (j := 0) (i := 0) hQT (ds_block (p_diag mask_bot (pair_block hK hQ 0 0 0) (lse_block hX 0 0))
        (pair_block hV hA 0 0 0) (d_block hD 0 0))).add
      (dk_part (h := 0) (j := 0) (i := 1) hQT (ds_block (p_off (pair_block hK hQ 0 0 1) (lse_block hX 0 1) (by decide))
        (pair_block hV hA 0 0 1) (d_block hD 0 1)))).add
      (dk_part (h := 0) (j := 0) (i := 2) hQT (ds_block (p_off (pair_block hK hQ 0 0 2) (lse_block hX 0 2) (by decide))
        (pair_block hV hA 0 0 2) (d_block hD 0 2)))).add
      (dk_part (h := 0) (j := 0) (i := 3) hQT (ds_block (p_off (pair_block hK hQ 0 0 3) (lse_block hX 0 3) (by decide))
        (pair_block hV hA 0 0 3) (d_block hD 0 3))))
    ((((dk_part (h := 1) (j := 0) (i := 0) hQT (ds_block (p_diag mask_bot (pair_block hK hQ 1 0 0) (lse_block hX 1 0))
        (pair_block hV hA 1 0 0) (d_block hD 1 0))).add
      (dk_part (h := 1) (j := 0) (i := 1) hQT (ds_block (p_off (pair_block hK hQ 1 0 1) (lse_block hX 1 1) (by decide))
        (pair_block hV hA 1 0 1) (d_block hD 1 1)))).add
      (dk_part (h := 1) (j := 0) (i := 2) hQT (ds_block (p_off (pair_block hK hQ 1 0 2) (lse_block hX 1 2) (by decide))
        (pair_block hV hA 1 0 2) (d_block hD 1 2)))).add
      (dk_part (h := 1) (j := 0) (i := 3) hQT (ds_block (p_off (pair_block hK hQ 1 0 3) (lse_block hX 1 3) (by decide))
        (pair_block hV hA 1 0 3) (d_block hD 1 3))))).transpose _ |>.trunc _).congr ?_
  intro r l hr hl
  refine (half_int (fun h l => blk (fun t => QA q h t l * (DW (KA k ax) (QA q) (MA v) (MA a) ls (DA a o)) h (0 + r) t) 0 + blk (fun t => QA q h t l * (DW (KA k ax) (QA q) (MA v) (MA a) ls (DA a o)) h (0 + r) t) 1 + blk (fun t => QA q h t l * (DW (KA k ax) (QA q) (MA v) (MA a) ls (DA a o)) h (0 + r) t) 2 + blk (fun t => QA q h t l * (DW (KA k ax) (QA q) (MA v) (MA a) ls (DA a o)) h (0 + r) t) 3) hl).trans ?_
  exact (sum_from0 (fun t => QA q (l / 64) t l * (DW (KA k ax) (QA q) (MA v) (MA a) ls (DA a o)) (l / 64) (0 + r) t) ).symm

/-- The key cotangents of block 1. -/
theorem dk_1 :
    At2 (m := 512) (n := 128) (kernelRun0_A.sl.v858 c arg2 harg2 arg3 harg3 arg4 harg4 arg5 harg5 arg6 harg6 arg7 harg7 arg8 harg8 arg14 arg15 arg16 arg17 arg19 arg21 x0 x1 x2 x3 x4 x5 x6)
      fun r l => DKT (QA q) (DW (KA k ax) (QA q) (MA v) (MA a) ls (DA a o)) (l / 64) l (512 + r) := by
  obtain ⟨hK, hQ, hV, hA, hD, _, hQT⟩ := bufs c arg2 harg2 arg3 harg3 arg4 harg4 arg5 harg5 arg6 harg6 arg8 harg8 x0 x1 x2 x3 x4 x6 hq hk hv ha ho hx
  refine ((At2.select (φ := .f32) (Mask.slt (int2_iota0 (by norm_num) _) (int2_splat (k := 64#32) (z := 64) rfl)) (((dk_part (h := 0) (j := 1) (i := 1) hQT (ds_block (p_diag mask_bot (pair_block hK hQ 0 1 1) (lse_block hX 0 1))
        (pair_block hV hA 0 1 1) (d_block hD 0 1))).add
      (dk_part (h := 0) (j := 1) (i := 2) hQT (ds_block (p_off (pair_block hK hQ 0 1 2) (lse_block hX 0 2) (by decide))
        (pair_block hV hA 0 1 2) (d_block hD 0 2)))).add
      (dk_part (h := 0) (j := 1) (i := 3) hQT (ds_block (p_off (pair_block hK hQ 0 1 3) (lse_block hX 0 3) (by decide))
        (pair_block hV hA 0 1 3) (d_block hD 0 3))))
    (((dk_part (h := 1) (j := 1) (i := 1) hQT (ds_block (p_diag mask_bot (pair_block hK hQ 1 1 1) (lse_block hX 1 1))
        (pair_block hV hA 1 1 1) (d_block hD 1 1))).add
      (dk_part (h := 1) (j := 1) (i := 2) hQT (ds_block (p_off (pair_block hK hQ 1 1 2) (lse_block hX 1 2) (by decide))
        (pair_block hV hA 1 1 2) (d_block hD 1 2)))).add
      (dk_part (h := 1) (j := 1) (i := 3) hQT (ds_block (p_off (pair_block hK hQ 1 1 3) (lse_block hX 1 3) (by decide))
        (pair_block hV hA 1 1 3) (d_block hD 1 3))))).transpose _ |>.trunc _).congr ?_
  intro r l hr hl
  refine (half_int (fun h l => blk (fun t => QA q h t l * (DW (KA k ax) (QA q) (MA v) (MA a) ls (DA a o)) h (512 + r) t) 1 + blk (fun t => QA q h t l * (DW (KA k ax) (QA q) (MA v) (MA a) ls (DA a o)) h (512 + r) t) 2 + blk (fun t => QA q h t l * (DW (KA k ax) (QA q) (MA v) (MA a) ls (DA a o)) h (512 + r) t) 3) hl).trans ?_
  exact (sum_from1 (fun t => QA q (l / 64) t l * (DW (KA k ax) (QA q) (MA v) (MA a) ls (DA a o)) (l / 64) (512 + r) t) (fun t ht => mul_eq_zero_of_right _ (DW_of_lt (by omega)))).symm

/-- The key cotangents of block 2. -/
theorem dk_2 :
    At2 (m := 512) (n := 128) (kernelRun0_A.sl.v1045 c arg2 harg2 arg3 harg3 arg4 harg4 arg5 harg5 arg6 harg6 arg7 harg7 arg8 harg8 arg14 arg15 arg16 arg17 arg19 arg21 x0 x1 x2 x3 x4 x5 x6)
      fun r l => DKT (QA q) (DW (KA k ax) (QA q) (MA v) (MA a) ls (DA a o)) (l / 64) l (1024 + r) := by
  obtain ⟨hK, hQ, hV, hA, hD, _, hQT⟩ := bufs c arg2 harg2 arg3 harg3 arg4 harg4 arg5 harg5 arg6 harg6 arg8 harg8 x0 x1 x2 x3 x4 x6 hq hk hv ha ho hx
  refine ((At2.select (φ := .f32) (Mask.slt (int2_iota0 (by norm_num) _) (int2_splat (k := 64#32) (z := 64) rfl)) ((dk_part (h := 0) (j := 2) (i := 2) hQT (ds_block (p_diag mask_bot (pair_block hK hQ 0 2 2) (lse_block hX 0 2))
        (pair_block hV hA 0 2 2) (d_block hD 0 2))).add
      (dk_part (h := 0) (j := 2) (i := 3) hQT (ds_block (p_off (pair_block hK hQ 0 2 3) (lse_block hX 0 3) (by decide))
        (pair_block hV hA 0 2 3) (d_block hD 0 3))))
    ((dk_part (h := 1) (j := 2) (i := 2) hQT (ds_block (p_diag mask_bot (pair_block hK hQ 1 2 2) (lse_block hX 1 2))
        (pair_block hV hA 1 2 2) (d_block hD 1 2))).add
      (dk_part (h := 1) (j := 2) (i := 3) hQT (ds_block (p_off (pair_block hK hQ 1 2 3) (lse_block hX 1 3) (by decide))
        (pair_block hV hA 1 2 3) (d_block hD 1 3))))).transpose _ |>.trunc _).congr ?_
  intro r l hr hl
  refine (half_int (fun h l => blk (fun t => QA q h t l * (DW (KA k ax) (QA q) (MA v) (MA a) ls (DA a o)) h (1024 + r) t) 2 + blk (fun t => QA q h t l * (DW (KA k ax) (QA q) (MA v) (MA a) ls (DA a o)) h (1024 + r) t) 3) hl).trans ?_
  exact (sum_from2 (fun t => QA q (l / 64) t l * (DW (KA k ax) (QA q) (MA v) (MA a) ls (DA a o)) (l / 64) (1024 + r) t) (fun t ht => mul_eq_zero_of_right _ (DW_of_lt (by omega)))).symm

/-- The key cotangents of block 3. -/
theorem dk_3 :
    At2 (m := 512) (n := 128) (kernelRun0_A.sl.v1156 c arg2 harg2 arg3 harg3 arg4 harg4 arg5 harg5 arg6 harg6 arg7 harg7 arg8 harg8 arg14 arg15 arg16 arg17 arg19 arg21 x0 x1 x2 x3 x4 x5 x6)
      fun r l => DKT (QA q) (DW (KA k ax) (QA q) (MA v) (MA a) ls (DA a o)) (l / 64) l (1536 + r) := by
  obtain ⟨hK, hQ, hV, hA, hD, _, hQT⟩ := bufs c arg2 harg2 arg3 harg3 arg4 harg4 arg5 harg5 arg6 harg6 arg8 harg8 x0 x1 x2 x3 x4 x6 hq hk hv ha ho hx
  refine ((At2.select (φ := .f32) (Mask.slt (int2_iota0 (by norm_num) _) (int2_splat (k := 64#32) (z := 64) rfl)) (dk_part (h := 0) (j := 3) (i := 3) hQT (ds_block (p_diag mask_bot (pair_block hK hQ 0 3 3) (lse_block hX 0 3))
        (pair_block hV hA 0 3 3) (d_block hD 0 3)))
    (dk_part (h := 1) (j := 3) (i := 3) hQT (ds_block (p_diag mask_bot (pair_block hK hQ 1 3 3) (lse_block hX 1 3))
        (pair_block hV hA 1 3 3) (d_block hD 1 3)))).transpose _ |>.trunc _).congr ?_
  intro r l hr hl
  refine (half_int (fun h l => blk (fun t => QA q h t l * (DW (KA k ax) (QA q) (MA v) (MA a) ls (DA a o)) h (1536 + r) t) 3) hl).trans ?_
  exact (sum_from3 (fun t => QA q (l / 64) t l * (DW (KA k ax) (QA q) (MA v) (MA a) ls (DA a o)) (l / 64) (1536 + r) t) (fun t ht => mul_eq_zero_of_right _ (DW_of_lt (by omega)))).symm

/-- The query cotangents with 1 of the twenty blocks added. -/
theorem zq_1 :
    At3 (l := 2) (m := 128) (n := 2048) (View.canon (kernelRun0_A.sl.HS8_2 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 0 0 0
    (zq_start _) rfl (ds_block (p_diag mask_bot (pair_block hK hQ 0 0 0) (lse_block hX 0 0))
        (pair_block hV hA 0 0 0) (d_block hD 0 0))

/-- The query cotangents with 2 of the twenty blocks added. -/
theorem zq_2 :
    At3 (l := 2) (m := 128) (n := 2048) (View.canon (kernelRun0_A.sl.HS8_3 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 1 0 0
    (zq_1 hq hk hv ha ho hX hx) rfl (ds_block (p_diag mask_bot (pair_block hK hQ 1 0 0) (lse_block hX 1 0))
        (pair_block hV hA 1 0 0) (d_block hD 1 0))

/-- The query cotangents with 3 of the twenty blocks added. -/
theorem zq_3 :
    At3 (l := 2) (m := 128) (n := 2048) (View.canon (kernelRun0_A.sl.HS8_4 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 0 0 1
    (zq_2 hq hk hv ha ho hX hx) rfl (ds_block (p_off (pair_block hK hQ 0 0 1) (lse_block hX 0 1) (by decide))
        (pair_block hV hA 0 0 1) (d_block hD 0 1))

/-- The query cotangents with 4 of the twenty blocks added. -/
theorem zq_4 :
    At3 (l := 2) (m := 128) (n := 2048) (View.canon (kernelRun0_A.sl.HS8_5 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 1 0 1
    (zq_3 hq hk hv ha ho hX hx) rfl (ds_block (p_off (pair_block hK hQ 1 0 1) (lse_block hX 1 1) (by decide))
        (pair_block hV hA 1 0 1) (d_block hD 1 1))

/-- The query cotangents with 5 of the twenty blocks added. -/
theorem zq_5 :
    At3 (l := 2) (m := 128) (n := 2048) (View.canon (kernelRun0_A.sl.HS8_6 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 0 0 2
    (zq_4 hq hk hv ha ho hX hx) rfl (ds_block (p_off (pair_block hK hQ 0 0 2) (lse_block hX 0 2) (by decide))
        (pair_block hV hA 0 0 2) (d_block hD 0 2))

/-- The query cotangents with 6 of the twenty blocks added. -/
theorem zq_6 :
    At3 (l := 2) (m := 128) (n := 2048) (View.canon (kernelRun0_A.sl.HS8_7 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 1 0 2
    (zq_5 hq hk hv ha ho hX hx) rfl (ds_block (p_off (pair_block hK hQ 1 0 2) (lse_block hX 1 2) (by decide))
        (pair_block hV hA 1 0 2) (d_block hD 1 2))

/-- The query cotangents with 7 of the twenty blocks added. -/
theorem zq_7 :
    At3 (l := 2) (m := 128) (n := 2048) (View.canon (kernelRun0_A.sl.HS8_8 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 0 0 3
    (zq_6 hq hk hv ha ho hX hx) rfl (ds_block (p_off (pair_block hK hQ 0 0 3) (lse_block hX 0 3) (by decide))
        (pair_block hV hA 0 0 3) (d_block hD 0 3))

/-- The query cotangents with 8 of the twenty blocks added. -/
theorem zq_8 :
    At3 (l := 2) (m := 128) (n := 2048) (View.canon (kernelRun0_A.sl.HS8_9 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(1, 3), (0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 1 0 3
    (zq_7 hq hk hv ha ho hX hx) rfl (ds_block (p_off (pair_block hK hQ 1 0 3) (lse_block hX 1 3) (by decide))
        (pair_block hV hA 1 0 3) (d_block hD 1 3))

/-- The query cotangents with 9 of the twenty blocks added. -/
theorem zq_9 :
    At3 (l := 2) (m := 128) (n := 2048) (View.canon (kernelRun0_A.sl.HS8_10 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(0, 1), (1, 3), (0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 0 1 1
    (zq_8 hq hk hv ha ho hX hx) rfl (ds_block (p_diag mask_bot (pair_block hK hQ 0 1 1) (lse_block hX 0 1))
        (pair_block hV hA 0 1 1) (d_block hD 0 1))

/-- The query cotangents with 10 of the twenty blocks added. -/
theorem zq_10 :
    At3 (l := 2) (m := 128) (n := 2048) (View.canon (kernelRun0_A.sl.HS8_11 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(1, 1), (0, 1), (1, 3), (0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 1 1 1
    (zq_9 hq hk hv ha ho hX hx) rfl (ds_block (p_diag mask_bot (pair_block hK hQ 1 1 1) (lse_block hX 1 1))
        (pair_block hV hA 1 1 1) (d_block hD 1 1))

/-- The query cotangents with 11 of the twenty blocks added. -/
theorem zq_11 :
    At3 (l := 2) (m := 128) (n := 2048) (View.canon (kernelRun0_A.sl.HS8_12 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(0, 2), (1, 1), (0, 1), (1, 3), (0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 0 1 2
    (zq_10 hq hk hv ha ho hX hx) rfl (ds_block (p_off (pair_block hK hQ 0 1 2) (lse_block hX 0 2) (by decide))
        (pair_block hV hA 0 1 2) (d_block hD 0 2))

/-- The query cotangents with 12 of the twenty blocks added. -/
theorem zq_12 :
    At3 (l := 2) (m := 128) (n := 2048) (View.canon (kernelRun0_A.sl.HS8_13 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(1, 2), (0, 2), (1, 1), (0, 1), (1, 3), (0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 1 1 2
    (zq_11 hq hk hv ha ho hX hx) rfl (ds_block (p_off (pair_block hK hQ 1 1 2) (lse_block hX 1 2) (by decide))
        (pair_block hV hA 1 1 2) (d_block hD 1 2))

/-- The query cotangents with 13 of the twenty blocks added. -/
theorem zq_13 :
    At3 (l := 2) (m := 128) (n := 2048) (View.canon (kernelRun0_A.sl.HS8_14 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(0, 3), (1, 2), (0, 2), (1, 1), (0, 1), (1, 3), (0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 0 1 3
    (zq_12 hq hk hv ha ho hX hx) rfl (ds_block (p_off (pair_block hK hQ 0 1 3) (lse_block hX 0 3) (by decide))
        (pair_block hV hA 0 1 3) (d_block hD 0 3))

/-- The query cotangents with 14 of the twenty blocks added. -/
theorem zq_14 :
    At3 (l := 2) (m := 128) (n := 2048) (View.canon (kernelRun0_A.sl.HS8_15 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(1, 3), (0, 3), (1, 2), (0, 2), (1, 1), (0, 1), (1, 3), (0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 1 1 3
    (zq_13 hq hk hv ha ho hX hx) rfl (ds_block (p_off (pair_block hK hQ 1 1 3) (lse_block hX 1 3) (by decide))
        (pair_block hV hA 1 1 3) (d_block hD 1 3))

/-- The query cotangents with 15 of the twenty blocks added. -/
theorem zq_15 :
    At3 (l := 2) (m := 128) (n := 2048) (View.canon (kernelRun0_A.sl.HS8_16 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(0, 2), (1, 3), (0, 3), (1, 2), (0, 2), (1, 1), (0, 1), (1, 3), (0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 0 2 2
    (zq_14 hq hk hv ha ho hX hx) rfl (ds_block (p_diag mask_bot (pair_block hK hQ 0 2 2) (lse_block hX 0 2))
        (pair_block hV hA 0 2 2) (d_block hD 0 2))

/-- The query cotangents with 16 of the twenty blocks added. -/
theorem zq_16 :
    At3 (l := 2) (m := 128) (n := 2048) (View.canon (kernelRun0_A.sl.HS8_17 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(1, 2), (0, 2), (1, 3), (0, 3), (1, 2), (0, 2), (1, 1), (0, 1), (1, 3), (0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 1 2 2
    (zq_15 hq hk hv ha ho hX hx) rfl (ds_block (p_diag mask_bot (pair_block hK hQ 1 2 2) (lse_block hX 1 2))
        (pair_block hV hA 1 2 2) (d_block hD 1 2))

/-- The query cotangents with 17 of the twenty blocks added. -/
theorem zq_17 :
    At3 (l := 2) (m := 128) (n := 2048) (View.canon (kernelRun0_A.sl.HS8_18 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(0, 3), (1, 2), (0, 2), (1, 3), (0, 3), (1, 2), (0, 2), (1, 1), (0, 1), (1, 3), (0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 0 2 3
    (zq_16 hq hk hv ha ho hX hx) rfl (ds_block (p_off (pair_block hK hQ 0 2 3) (lse_block hX 0 3) (by decide))
        (pair_block hV hA 0 2 3) (d_block hD 0 3))

/-- The query cotangents with 18 of the twenty blocks added. -/
theorem zq_18 :
    At3 (l := 2) (m := 128) (n := 2048) (View.canon (kernelRun0_A.sl.HS8_19 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(1, 3), (0, 3), (1, 2), (0, 2), (1, 3), (0, 3), (1, 2), (0, 2), (1, 1), (0, 1), (1, 3), (0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 1 2 3
    (zq_17 hq hk hv ha ho hX hx) rfl (ds_block (p_off (pair_block hK hQ 1 2 3) (lse_block hX 1 3) (by decide))
        (pair_block hV hA 1 2 3) (d_block hD 1 3))

/-- The query cotangents with 19 of the twenty blocks added. -/
theorem zq_19 :
    At3 (l := 2) (m := 128) (n := 2048) (View.canon (kernelRun0_A.sl.HS8_20 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(0, 3), (1, 3), (0, 3), (1, 2), (0, 2), (1, 3), (0, 3), (1, 2), (0, 2), (1, 1), (0, 1), (1, 3), (0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 0 3 3
    (zq_18 hq hk hv ha ho hX hx) rfl (ds_block (p_diag mask_bot (pair_block hK hQ 0 3 3) (lse_block hX 0 3))
        (pair_block hV hA 0 3 3) (d_block hD 0 3))

/-- The query cotangents with 20 of the twenty blocks added. -/
theorem zq_20 :
    At3 (l := 2) (m := 128) (n := 2048) (View.canon (kernelRun0_A.sl.HS8_21 c arg2 harg2 arg3 harg3 arg4 harg4 arg5 harg5 arg6 harg6 arg7 harg7 arg8 harg8 arg14 arg15 arg16 arg17 arg18 arg21 arg22 x0 x1 x2 x3 x4 x5 x6))
      (ZQ (KA k ax) (DW (KA k ax) (QA q) (MA v) (MA a) ls (DA a o)) [(1, 3), (0, 3), (1, 3), (0, 3), (1, 2), (0, 2), (1, 3), (0, 3), (1, 2), (0, 2), (1, 1), (0, 1), (1, 3), (0, 3), (1, 2), (0, 2), (1, 1), (0, 1), (1, 0), (0, 0)]) := by
  obtain ⟨hK, hQ, hV, hA, hD, hKT, _⟩ := bufs c arg2 harg2 arg3 harg3 arg4 harg4 arg5 harg5 arg6 harg6 arg8 harg8 x0 x1 x2 x3 x4 x6 hq hk hv ha ho hx
  exact zq_step (S := (DW (KA k ax) (QA q) (MA v) (MA a) ls (DA a o))) hKT 1 3 3
    (zq_19 hq hk hv ha ho hX hx) rfl (ds_block (p_diag mask_bot (pair_block hK hQ 1 3 3) (lse_block hX 1 3))
        (pair_block hV hA 1 3 3) (d_block hD 1 3))

variable (c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6)

/-- They are complete. -/
theorem dq_buf :
    At3 (l := 2) (m := 128) (n := 2048) (View.canon (kernelRun0_A.sl.HS8_21 c arg2 harg2 arg3 harg3 arg4 harg4 arg5 harg5 arg6 harg6 arg7 harg7 arg8 harg8 arg14 arg15 arg16 arg17 arg18 arg21 arg22 x0 x1 x2 x3 x4 x5 x6))
      fun h l t => DQT (KA k ax) (DW (KA k ax) (QA q) (MA v) (MA a) ls (DA a o)) h l t := by
  intro x
  refine ((zq_20 hq hk hv ha ho hX hx) x).trans ?_
  rw [zq_done (fun h s t => DW_of_lt) (by decide) (x 0).isLt (x 2).isLt]

variable {c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6}

/-- The query cotangents of block 0. -/
theorem dq_0 :
    At2 (m := 512) (n := 128) (kernelRun0_A.sl.v1193 c arg2 harg2 arg3 harg3 arg4 harg4 arg5 harg5 arg6 harg6 arg7 harg7 arg8 harg8 arg14 arg15 arg16 arg17 arg18 arg21 arg22 x0 x1 x2 x3 x4 x5 x6)
      fun r l => DQT (KA k ax) (DW (KA k ax) (QA q) (MA v) (MA a) ls (DA a o)) (l / 64) l (0 + r) * (1 / 8) := by
  have hZ := (dq_buf c arg2 harg2 arg3 harg3 arg4 harg4 arg5 harg5 arg6 harg6 arg7 harg7 arg8 harg8 arg14 arg15 arg16 arg17 arg18 arg21 arg22 x0 x1 x2 x3 x4 x5 x6 hq hk hv ha ho hX hx)
  refine (((At2.select (φ := .f32) (Mask.slt (int2_iota1 (by norm_num) _) (int2_splat (k := 64#32) (z := 64) rfl)) (((hZ.backf 0 0 0 1 128 512 _).drop _).transpose _) (((hZ.backf 1 0 0 1 128 512 _).drop _).transpose _)).mul (at2_splat eighth_f32)).trunc _).congr ?_
  intro r l hr hl
  simp only [Nat.zero_add, Nat.add_zero]
  rw [half_int (fun h l => DQT (KA k ax) (DW (KA k ax) (QA q) (MA v) (MA a) ls (DA a o)) h l r) hl]

/-- The query cotangents of block 1. -/
theorem dq_1 :
    At2 (m := 512) (n := 128) (kernelRun0_A.sl.v1206 c arg2 harg2 arg3 harg3 arg4 harg4 arg5 harg5 arg6 harg6 arg7 harg7 arg8 harg8 arg14 arg15 arg16 arg17 arg18 arg21 arg22 x0 x1 x2 x3 x4 x5 x6)
      fun r l => DQT (KA k ax) (DW (KA k ax) (QA q) (MA v) (MA a) ls (DA a o)) (l / 64) l (512 + r) * (1 / 8) := by
  have hZ := (dq_buf c arg2 harg2 arg3 harg3 arg4 harg4 arg5 harg5 arg6 harg6 arg7 harg7 arg8 harg8 arg14 arg15 arg16 arg17 arg18 arg21 arg22 x0 x1 x2 x3 x4 x5 x6 hq hk hv ha ho hX hx)
  refine (((At2.select (φ := .f32) (Mask.slt (int2_iota1 (by norm_num) _) (int2_splat (k := 64#32) (z := 64) rfl)) (((hZ.backf 0 0 512 1 128 512 _).drop _).transpose _) (((hZ.backf 1 0 512 1 128 512 _).drop _).transpose _)).mul (at2_splat eighth_f32)).trunc _).congr ?_
  intro r l hr hl
  simp only [Nat.zero_add, Nat.add_zero]
  rw [half_int (fun h l => DQT (KA k ax) (DW (KA k ax) (QA q) (MA v) (MA a) ls (DA a o)) h l (512 + r)) hl]

/-- The query cotangents of block 2. -/
theorem dq_2 :
    At2 (m := 512) (n := 128) (kernelRun0_A.sl.v1219 c arg2 harg2 arg3 harg3 arg4 harg4 arg5 harg5 arg6 harg6 arg7 harg7 arg8 harg8 arg14 arg15 arg16 arg17 arg18 arg21 arg22 x0 x1 x2 x3 x4 x5 x6)
      fun r l => DQT (KA k ax) (DW (KA k ax) (QA q) (MA v) (MA a) ls (DA a o)) (l / 64) l (1024 + r) * (1 / 8) := by
  have hZ := (dq_buf c arg2 harg2 arg3 harg3 arg4 harg4 arg5 harg5 arg6 harg6 arg7 harg7 arg8 harg8 arg14 arg15 arg16 arg17 arg18 arg21 arg22 x0 x1 x2 x3 x4 x5 x6 hq hk hv ha ho hX hx)
  refine (((At2.select (φ := .f32) (Mask.slt (int2_iota1 (by norm_num) _) (int2_splat (k := 64#32) (z := 64) rfl)) (((hZ.backf 0 0 1024 1 128 512 _).drop _).transpose _) (((hZ.backf 1 0 1024 1 128 512 _).drop _).transpose _)).mul (at2_splat eighth_f32)).trunc _).congr ?_
  intro r l hr hl
  simp only [Nat.zero_add, Nat.add_zero]
  rw [half_int (fun h l => DQT (KA k ax) (DW (KA k ax) (QA q) (MA v) (MA a) ls (DA a o)) h l (1024 + r)) hl]

/-- The query cotangents of block 3. -/
theorem dq_3 :
    At2 (m := 512) (n := 128) (kernelRun0_A.sl.v1232 c arg2 harg2 arg3 harg3 arg4 harg4 arg5 harg5 arg6 harg6 arg7 harg7 arg8 harg8 arg14 arg15 arg16 arg17 arg18 arg21 arg22 x0 x1 x2 x3 x4 x5 x6)
      fun r l => DQT (KA k ax) (DW (KA k ax) (QA q) (MA v) (MA a) ls (DA a o)) (l / 64) l (1536 + r) * (1 / 8) := by
  have hZ := (dq_buf c arg2 harg2 arg3 harg3 arg4 harg4 arg5 harg5 arg6 harg6 arg7 harg7 arg8 harg8 arg14 arg15 arg16 arg17 arg18 arg21 arg22 x0 x1 x2 x3 x4 x5 x6 hq hk hv ha ho hX hx)
  refine (((At2.select (φ := .f32) (Mask.slt (int2_iota1 (by norm_num) _) (int2_splat (k := 64#32) (z := 64) rfl)) (((hZ.backf 0 0 1536 1 128 512 _).drop _).transpose _) (((hZ.backf 1 0 1536 1 128 512 _).drop _).transpose _)).mul (at2_splat eighth_f32)).trunc _).congr ?_
  intro r l hr hl
  simp only [Nat.zero_add, Nat.add_zero]
  rw [half_int (fun h l => DQT (KA k ax) (DW (KA k ax) (QA q) (MA v) (MA a) ls (DA a o)) h l (1536 + r)) hl]

/-- Output block 0. -/
theorem out_7 :
    At2 (m := 2048) (n := 128) (out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6)
      (fun t l => DQT (KA k ax) (DW (KA k ax) (QA q) (MA v) (MA a) ls (DA a o)) (l / 64) l t * (1 / 8)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6)]
  unfold kernelRun0_A
  dsimp only
  exact On2.full (On2.cons (dq_3 hq hk hv ha ho hX hx) (fun r l _ _ => by simp only [Nat.zero_add])
    (On2.cons (dq_2 hq hk hv ha ho hX hx) (fun r l _ _ => by simp only [Nat.zero_add])
    (On2.cons (dq_1 hq hk hv ha ho hX hx) (fun r l _ _ => by simp only [Nat.zero_add])
    (On2.cons (dq_0 hq hk hv ha ho hX hx) (fun r l _ _ => by simp only [Nat.zero_add])
    (On2.nil fun h r _ _ => by omega)))))

/-- Output block 1. -/
theorem out_8 :
    At2 (m := 2048) (n := 128) (out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6)
      (fun s l => DKT (QA q) (DW (KA k ax) (QA q) (MA v) (MA a) ls (DA a o)) (l / 64) l s) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6)]
  unfold kernelRun0_A
  dsimp only
  exact On2.full (On2.cons (dk_3 hq hk hv ha ho hX hx) (fun r l _ _ => by simp only [Nat.zero_add])
    (On2.cons (dk_2 hq hk hv ha ho hX hx) (fun r l _ _ => by simp only [Nat.zero_add])
    (On2.cons (dk_1 hq hk hv ha ho hX hx) (fun r l _ _ => by simp only [Nat.zero_add])
    (On2.cons (dk_0 hq hk hv ha ho hX hx) (fun r l _ _ => by simp only [Nat.zero_add])
    (On2.nil fun h r _ _ => by omega)))))

/-- Output block 2. -/
theorem out_9 :
    At2 (m := 2048) (n := 128) (out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6)
      (fun s l => DVF a (KA k ax) (QA q) ls s l) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6)]
  unfold kernelRun0_A
  dsimp only
  exact On2.full (On2.cons (dv_3 hq hk ha hX hx) (fun r l _ _ => by simp only [Nat.zero_add])
    (On2.cons (dv_2 hq hk ha hX hx) (fun r l _ _ => by simp only [Nat.zero_add])
    (On2.cons (dv_1 hq hk ha hX hx) (fun r l _ _ => by simp only [Nat.zero_add])
    (On2.cons (dv_0 hq hk ha hX hx) (fun r l _ _ => by simp only [Nat.zero_add])
    (On2.nil fun h r _ _ => by omega)))))

/-- The decay cotangents of block 0 of keys, head 0. -/
theorem dck_0_0 :
    At4 (k := 1) (l := 1) (m := 1) (n := 512) (kernelRun0_A.sl.v610 c arg2 harg2 arg3 harg3 arg4 harg4 arg5 harg5 arg6 harg6 arg7 harg7 arg8 harg8 arg14 arg15 arg16 arg17 arg19 arg21 arg23 x0 x1 x2 x3 x4 x5 x6)
      fun _ _ _ s => -DKT (QA q) (DW (KA k ax) (QA q) (MA v) (MA a) ls (DA a o)) 0 64 (0 + s) := by
  obtain ⟨hK, hQ, hV, hA, hD, _, hQT⟩ := bufs c arg2 harg2 arg3 harg3 arg4 harg4 arg5 harg5 arg6 harg6 arg8 harg8 x0 x1 x2 x3 x4 x6 hq hk hv ha ho hx
  refine At2.unit4 (At2.congr (g := fun _ s => -DKT (QA q) (DW (KA k ax) (QA q) (MA v) (MA a) ls (DA a o)) 0 64 (0 + s)) ((at2_splat zero_f32).sub ((slab_row ((((dk_part (h := 0) (j := 0) (i := 0) hQT (ds_block (p_diag mask_bot (pair_block hK hQ 0 0 0) (lse_block hX 0 0))
        (pair_block hV hA 0 0 0) (d_block hD 0 0))).add
      (dk_part (h := 0) (j := 0) (i := 1) hQT (ds_block (p_off (pair_block hK hQ 0 0 1) (lse_block hX 0 1) (by decide))
        (pair_block hV hA 0 0 1) (d_block hD 0 1)))).add
      (dk_part (h := 0) (j := 0) (i := 2) hQT (ds_block (p_off (pair_block hK hQ 0 0 2) (lse_block hX 0 2) (by decide))
        (pair_block hV hA 0 0 2) (d_block hD 0 2)))).add
      (dk_part (h := 0) (j := 0) (i := 3) hQT (ds_block (p_off (pair_block hK hQ 0 0 3) (lse_block hX 0 3) (by decide))
        (pair_block hV hA 0 0 3) (d_block hD 0 3)))) 0 64 (by decide)).drop _)) ?_) _
  intro r s hr hs
  rw [zero_sub]
  exact congrArg Neg.neg (sum_from0 (fun t => QA q 0 t 64 * (DW (KA k ax) (QA q) (MA v) (MA a) ls (DA a o)) 0 (0 + s) t) ).symm

/-- The decay cotangents of block 0 of keys, head 1. -/
theorem dck_1_0 :
    At4 (k := 1) (l := 1) (m := 1) (n := 512) (k0_pay108 (kernelRun0_A.sl.v614 c arg2 harg2 arg3 harg3 arg4 harg4 arg5 harg5 arg6 harg6 arg7 harg7 arg8 harg8 arg14 arg15 arg16 arg17 arg19 arg21 arg23 x0 x1 x2 x3 x4 x5 x6))
      fun _ _ _ s => -DKT (QA q) (DW (KA k ax) (QA q) (MA v) (MA a) ls (DA a o)) 1 0 (0 + s) := by
  obtain ⟨hK, hQ, hV, hA, hD, _, hQT⟩ := bufs c arg2 harg2 arg3 harg3 arg4 harg4 arg5 harg5 arg6 harg6 arg8 harg8 x0 x1 x2 x3 x4 x6 hq hk hv ha ho hx
  refine At2.unit4 (At2.congr (g := fun _ s => -DKT (QA q) (DW (KA k ax) (QA q) (MA v) (MA a) ls (DA a o)) 1 0 (0 + s)) ((at2_splat zero_f32).sub ((slab_row ((((dk_part (h := 1) (j := 0) (i := 0) hQT (ds_block (p_diag mask_bot (pair_block hK hQ 1 0 0) (lse_block hX 1 0))
        (pair_block hV hA 1 0 0) (d_block hD 1 0))).add
      (dk_part (h := 1) (j := 0) (i := 1) hQT (ds_block (p_off (pair_block hK hQ 1 0 1) (lse_block hX 1 1) (by decide))
        (pair_block hV hA 1 0 1) (d_block hD 1 1)))).add
      (dk_part (h := 1) (j := 0) (i := 2) hQT (ds_block (p_off (pair_block hK hQ 1 0 2) (lse_block hX 1 2) (by decide))
        (pair_block hV hA 1 0 2) (d_block hD 1 2)))).add
      (dk_part (h := 1) (j := 0) (i := 3) hQT (ds_block (p_off (pair_block hK hQ 1 0 3) (lse_block hX 1 3) (by decide))
        (pair_block hV hA 1 0 3) (d_block hD 1 3)))) 1 0 (by decide)).drop _)) ?_) _
  intro r s hr hs
  rw [zero_sub]
  exact congrArg Neg.neg (sum_from0 (fun t => QA q 1 t 0 * (DW (KA k ax) (QA q) (MA v) (MA a) ls (DA a o)) 1 (0 + s) t) ).symm

/-- The decay cotangents of block 1 of keys, head 0. -/
theorem dck_0_1 :
    At4 (k := 1) (l := 1) (m := 1) (n := 512) (kernelRun0_A.sl.v873 c arg2 harg2 arg3 harg3 arg4 harg4 arg5 harg5 arg6 harg6 arg7 harg7 arg8 harg8 arg14 arg15 arg16 arg17 arg19 arg21 arg23 x0 x1 x2 x3 x4 x5 x6)
      fun _ _ _ s => -DKT (QA q) (DW (KA k ax) (QA q) (MA v) (MA a) ls (DA a o)) 0 64 (512 + s) := by
  obtain ⟨hK, hQ, hV, hA, hD, _, hQT⟩ := bufs c arg2 harg2 arg3 harg3 arg4 harg4 arg5 harg5 arg6 harg6 arg8 harg8 x0 x1 x2 x3 x4 x6 hq hk hv ha ho hx
  refine At2.unit4 (At2.congr (g := fun _ s => -DKT (QA q) (DW (KA k ax) (QA q) (MA v) (MA a) ls (DA a o)) 0 64 (512 + s)) ((at2_splat zero_f32).sub ((slab_row (((dk_part (h := 0) (j := 1) (i := 1) hQT (ds_block (p_diag mask_bot (pair_block hK hQ 0 1 1) (lse_block hX 0 1))
        (pair_block hV hA 0 1 1) (d_block hD 0 1))).add
      (dk_part (h := 0) (j := 1) (i := 2) hQT (ds_block (p_off (pair_block hK hQ 0 1 2) (lse_block hX 0 2) (by decide))
        (pair_block hV hA 0 1 2) (d_block hD 0 2)))).add
      (dk_part (h := 0) (j := 1) (i := 3) hQT (ds_block (p_off (pair_block hK hQ 0 1 3) (lse_block hX 0 3) (by decide))
        (pair_block hV hA 0 1 3) (d_block hD 0 3)))) 0 64 (by decide)).drop _)) ?_) _
  intro r s hr hs
  rw [zero_sub]
  exact congrArg Neg.neg (sum_from1 (fun t => QA q 0 t 64 * (DW (KA k ax) (QA q) (MA v) (MA a) ls (DA a o)) 0 (512 + s) t) (fun t ht => mul_eq_zero_of_right _ (DW_of_lt (by omega)))).symm

/-- The decay cotangents of block 1 of keys, head 1. -/
theorem dck_1_1 :
    At4 (k := 1) (l := 1) (m := 1) (n := 512) (k0_pay152 (kernelRun0_A.sl.v c arg2 harg2 arg3 harg3 arg4 harg4 arg5 harg5 arg6 harg6 arg7 harg7 arg8 harg8 arg14 arg15 arg16 arg17 arg19 arg21 arg23 x0 x1 x2 x3 x4 x5 x6))
      fun _ _ _ s => -DKT (QA q) (DW (KA k ax) (QA q) (MA v) (MA a) ls (DA a o)) 1 0 (512 + s) := by
  obtain ⟨hK, hQ, hV, hA, hD, _, hQT⟩ := bufs c arg2 harg2 arg3 harg3 arg4 harg4 arg5 harg5 arg6 harg6 arg8 harg8 x0 x1 x2 x3 x4 x6 hq hk hv ha ho hx
  refine At2.unit4 (At2.congr (g := fun _ s => -DKT (QA q) (DW (KA k ax) (QA q) (MA v) (MA a) ls (DA a o)) 1 0 (512 + s)) ((at2_splat zero_f32).sub ((slab_row (((dk_part (h := 1) (j := 1) (i := 1) hQT (ds_block (p_diag mask_bot (pair_block hK hQ 1 1 1) (lse_block hX 1 1))
        (pair_block hV hA 1 1 1) (d_block hD 1 1))).add
      (dk_part (h := 1) (j := 1) (i := 2) hQT (ds_block (p_off (pair_block hK hQ 1 1 2) (lse_block hX 1 2) (by decide))
        (pair_block hV hA 1 1 2) (d_block hD 1 2)))).add
      (dk_part (h := 1) (j := 1) (i := 3) hQT (ds_block (p_off (pair_block hK hQ 1 1 3) (lse_block hX 1 3) (by decide))
        (pair_block hV hA 1 1 3) (d_block hD 1 3)))) 1 0 (by decide)).drop _)) ?_) _
  intro r s hr hs
  rw [zero_sub]
  exact congrArg Neg.neg (sum_from1 (fun t => QA q 1 t 0 * (DW (KA k ax) (QA q) (MA v) (MA a) ls (DA a o)) 1 (512 + s) t) (fun t ht => mul_eq_zero_of_right _ (DW_of_lt (by omega)))).symm

/-- The decay cotangents of block 2 of keys, head 0. -/
theorem dck_0_2 :
    At4 (k := 1) (l := 1) (m := 1) (n := 512) (k0_pay183 (kernelRun0_A.sl.v1055 c arg2 harg2 arg3 harg3 arg4 harg4 arg5 harg5 arg6 harg6 arg7 harg7 arg8 harg8 arg14 arg15 arg16 arg17 arg19 arg21 arg23 x0 x1 x2 x3 x4 x5 x6) (kernelRun0_A.sl.v606 (F := Ideal)))
      fun _ _ _ s => -DKT (QA q) (DW (KA k ax) (QA q) (MA v) (MA a) ls (DA a o)) 0 64 (1024 + s) := by
  obtain ⟨hK, hQ, hV, hA, hD, _, hQT⟩ := bufs c arg2 harg2 arg3 harg3 arg4 harg4 arg5 harg5 arg6 harg6 arg8 harg8 x0 x1 x2 x3 x4 x6 hq hk hv ha ho hx
  refine At2.unit4 (At2.congr (g := fun _ s => -DKT (QA q) (DW (KA k ax) (QA q) (MA v) (MA a) ls (DA a o)) 0 64 (1024 + s)) ((at2_splat zero_f32).sub ((slab_row ((dk_part (h := 0) (j := 2) (i := 2) hQT (ds_block (p_diag mask_bot (pair_block hK hQ 0 2 2) (lse_block hX 0 2))
        (pair_block hV hA 0 2 2) (d_block hD 0 2))).add
      (dk_part (h := 0) (j := 2) (i := 3) hQT (ds_block (p_off (pair_block hK hQ 0 2 3) (lse_block hX 0 3) (by decide))
        (pair_block hV hA 0 2 3) (d_block hD 0 3)))) 0 64 (by decide)).drop _)) ?_) _
  intro r s hr hs
  rw [zero_sub]
  exact congrArg Neg.neg (sum_from2 (fun t => QA q 0 t 64 * (DW (KA k ax) (QA q) (MA v) (MA a) ls (DA a o)) 0 (1024 + s) t) (fun t ht => mul_eq_zero_of_right _ (DW_of_lt (by omega)))).symm

/-- The decay cotangents of block 2 of keys, head 1. -/
theorem dck_1_2 :
    At4 (k := 1) (l := 1) (m := 1) (n := 512) (k0_pay185 (kernelRun0_A.sl.v1064 c arg2 harg2 arg3 harg3 arg4 harg4 arg5 harg5 arg6 harg6 arg7 harg7 arg8 harg8 arg14 arg15 arg16 arg17 arg19 arg21 arg23 x0 x1 x2 x3 x4 x5 x6))
      fun _ _ _ s => -DKT (QA q) (DW (KA k ax) (QA q) (MA v) (MA a) ls (DA a o)) 1 0 (1024 + s) := by
  obtain ⟨hK, hQ, hV, hA, hD, _, hQT⟩ := bufs c arg2 harg2 arg3 harg3 arg4 harg4 arg5 harg5 arg6 harg6 arg8 harg8 x0 x1 x2 x3 x4 x6 hq hk hv ha ho hx
  refine At2.unit4 (At2.congr (g := fun _ s => -DKT (QA q) (DW (KA k ax) (QA q) (MA v) (MA a) ls (DA a o)) 1 0 (1024 + s)) ((at2_splat zero_f32).sub ((slab_row ((dk_part (h := 1) (j := 2) (i := 2) hQT (ds_block (p_diag mask_bot (pair_block hK hQ 1 2 2) (lse_block hX 1 2))
        (pair_block hV hA 1 2 2) (d_block hD 1 2))).add
      (dk_part (h := 1) (j := 2) (i := 3) hQT (ds_block (p_off (pair_block hK hQ 1 2 3) (lse_block hX 1 3) (by decide))
        (pair_block hV hA 1 2 3) (d_block hD 1 3)))) 1 0 (by decide)).drop _)) ?_) _
  intro r s hr hs
  rw [zero_sub]
  exact congrArg Neg.neg (sum_from2 (fun t => QA q 1 t 0 * (DW (KA k ax) (QA q) (MA v) (MA a) ls (DA a o)) 1 (1024 + s) t) (fun t ht => mul_eq_zero_of_right _ (DW_of_lt (by omega)))).symm

/-- The decay cotangents of block 3 of keys, head 0. -/
theorem dck_0_3 :
    At4 (k := 1) (l := 1) (m := 1) (n := 512) (kernelRun0_A.sl.v1171 c arg2 harg2 arg3 harg3 arg4 harg4 arg5 harg5 arg6 harg6 arg7 harg7 arg8 harg8 arg14 arg15 arg16 arg17 arg19 arg21 arg23 x0 x1 x2 x3 x4 x5 x6)
      fun _ _ _ s => -DKT (QA q) (DW (KA k ax) (QA q) (MA v) (MA a) ls (DA a o)) 0 64 (1536 + s) := by
  obtain ⟨hK, hQ, hV, hA, hD, _, hQT⟩ := bufs c arg2 harg2 arg3 harg3 arg4 harg4 arg5 harg5 arg6 harg6 arg8 harg8 x0 x1 x2 x3 x4 x6 hq hk hv ha ho hx
  refine At2.unit4 (At2.congr (g := fun _ s => -DKT (QA q) (DW (KA k ax) (QA q) (MA v) (MA a) ls (DA a o)) 0 64 (1536 + s)) ((at2_splat zero_f32).sub ((slab_row (dk_part (h := 0) (j := 3) (i := 3) hQT (ds_block (p_diag mask_bot (pair_block hK hQ 0 3 3) (lse_block hX 0 3))
        (pair_block hV hA 0 3 3) (d_block hD 0 3))) 0 64 (by decide)).drop _)) ?_) _
  intro r s hr hs
  rw [zero_sub]
  exact congrArg Neg.neg (sum_from3 (fun t => QA q 0 t 64 * (DW (KA k ax) (QA q) (MA v) (MA a) ls (DA a o)) 0 (1536 + s) t) (fun t ht => mul_eq_zero_of_right _ (DW_of_lt (by omega)))).symm

/-- The decay cotangents of block 3 of keys, head 1. -/
theorem dck_1_3 :
    At4 (k := 1) (l := 1) (m := 1) (n := 512) (kernelRun0_A.sl.v1181 c arg2 harg2 arg3 harg3 arg4 harg4 arg5 harg5 arg6 harg6 arg7 harg7 arg8 harg8 arg14 arg15 arg16 arg17 arg19 arg21 arg23 x0 x1 x2 x3 x4 x5 x6)
      fun _ _ _ s => -DKT (QA q) (DW (KA k ax) (QA q) (MA v) (MA a) ls (DA a o)) 1 0 (1536 + s) := by
  obtain ⟨hK, hQ, hV, hA, hD, _, hQT⟩ := bufs c arg2 harg2 arg3 harg3 arg4 harg4 arg5 harg5 arg6 harg6 arg8 harg8 x0 x1 x2 x3 x4 x6 hq hk hv ha ho hx
  refine At2.unit4 (At2.congr (g := fun _ s => -DKT (QA q) (DW (KA k ax) (QA q) (MA v) (MA a) ls (DA a o)) 1 0 (1536 + s)) ((at2_splat zero_f32).sub ((slab_row (dk_part (h := 1) (j := 3) (i := 3) hQT (ds_block (p_diag mask_bot (pair_block hK hQ 1 3 3) (lse_block hX 1 3))
        (pair_block hV hA 1 3 3) (d_block hD 1 3))) 1 0 (by decide)).drop _)) ?_) _
  intro r s hr hs
  rw [zero_sub]
  exact congrArg Neg.neg (sum_from3 (fun t => QA q 1 t 0 * (DW (KA k ax) (QA q) (MA v) (MA a) ls (DA a o)) 1 (1536 + s) t) (fun t ht => mul_eq_zero_of_right _ (DW_of_lt (by omega)))).symm

/-- Output block 3. -/
theorem out_10 :
    At4 (k := 1) (l := 1) (m := 8) (n := 2048) (out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6)
      (fun _ _ r s => DCK (QA q) (DW (KA k ax) (QA q) (MA v) (MA a) ls (DA a o)) r s) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6)]
  unfold kernelRun0_A
  dsimp only
  refine On4.full (On4.cons (dck_1_3 hq hk hv ha ho hX hx) (fun a b r s _ _ hr _ => by
      obtain rfl : r = 0 := by omega
      simp [DCK])
    (On4.cons (dck_0_3 hq hk hv ha ho hX hx) (fun a b r s _ _ hr _ => by
      obtain rfl : r = 0 := by omega
      simp [DCK])
    (On4.cons (dck_1_2 hq hk hv ha ho hX hx) (fun a b r s _ _ hr _ => by
      obtain rfl : r = 0 := by omega
      simp [DCK])
    (On4.cons (dck_0_2 hq hk hv ha ho hX hx) (fun a b r s _ _ hr _ => by
      obtain rfl : r = 0 := by omega
      simp [DCK])
    (On4.cons (dck_1_1 hq hk hv ha ho hX hx) (fun a b r s _ _ hr _ => by
      obtain rfl : r = 0 := by omega
      simp [DCK])
    (On4.cons (dck_0_1 hq hk hv ha ho hX hx) (fun a b r s _ _ hr _ => by
      obtain rfl : r = 0 := by omega
      simp [DCK])
    (On4.cons (dck_1_0 hq hk hv ha ho hX hx) (fun a b r s _ _ hr _ => by
      obtain rfl : r = 0 := by omega
      simp [DCK])
    (On4.cons (dck_0_0 hq hk hv ha ho hX hx) (fun a b r s _ _ hr _ => by
      obtain rfl : r = 0 := by omega
      simp [DCK])
    (On4.cleared (fun _ => zero_f32) ?_)))))))))
  intro r s hr hs hD
  have h0 : r ≠ 0 := fun e => by
    subst e
    obtain hb | hb | hb | hb : s < 512 ∨ 512 ≤ s ∧ s < 1024 ∨ 1024 ≤ s ∧ s < 1536 ∨ 1536 ≤ s := by omega
    · exact hD.1 (by omega)
    · exact hD.2.2.1 (by omega)
    · exact hD.2.2.2.2.1 (by omega)
    · exact hD.2.2.2.2.2.2.1 (by omega)
  have h1 : r ≠ 1 := fun e => by
    subst e
    obtain hb | hb | hb | hb : s < 512 ∨ 512 ≤ s ∧ s < 1024 ∨ 1024 ≤ s ∧ s < 1536 ∨ 1536 ≤ s := by omega
    · exact hD.2.1 (by omega)
    · exact hD.2.2.2.1 (by omega)
    · exact hD.2.2.2.2.2.1 (by omega)
    · exact hD.2.2.2.2.2.2.2.1 (by omega)
  exact (if_neg h0).trans (if_neg h1)

/-- The decay cotangents of the queries, head 0. -/
theorem dcq_0 :
    At4 (k := 1) (l := 1) (m := 1) (n := 2048) (k0_pay1 (kernelRun0_A.sl.r_21 c arg2 harg2 arg3 harg3 arg4 harg4 arg5 harg5 arg6 harg6 arg7 harg7 arg8 harg8 arg14 arg15 arg16 arg17 arg18 arg21 arg22 x0 x1 x2 x3 x4 x5 x6))
      fun _ _ _ t => DQT (KA k ax) (DW (KA k ax) (QA q) (MA v) (MA a) ls (DA a o)) 0 67 t := by
  have hZ := (dq_buf c arg2 harg2 arg3 harg3 arg4 harg4 arg5 harg5 arg6 harg6 arg7 harg7 arg8 harg8 arg14 arg15 arg16 arg17 arg18 arg21 arg22 x0 x1 x2 x3 x4 x5 x6 hq hk hv ha ho hX hx)
  refine At2.unit4 (At2.congr (g := fun _ t => DQT (KA k ax) (DW (KA k ax) (QA q) (MA v) (MA a) ls (DA a o)) 0 67 t) (At1.row (At2.sumRows (At2.select (φ := .f32) (Mask.eq (int2_iota0 (by norm_num) _) (int2_splat (k := 67#32) (z := ((67 : ℕ) : ℤ)) rfl))
    ((hZ.backf 0 0 0 1 128 2048 _).drop _) (at2_splat zero_f32)) _ (.inl rfl) rfl) _) ?_) _
  intro r t hr ht
  simp only [Nat.zero_add, Nat.add_zero]
  exact row_at (f := fun l t => DQT (KA k ax) (DW (KA k ax) (QA q) (MA v) (MA a) ls (DA a o)) 0 l t) 67 (by decide) t

/-- The decay cotangents of the queries, head 1. -/
theorem dcq_1 :
    At4 (k := 1) (l := 1) (m := 1) (n := 2048) (k0_pay2 (kernelRun0_A.sl.v4) (kernelRun0_A.sl.v1249 c arg2 harg2 arg3 harg3 arg4 harg4 arg5 harg5 arg6 harg6 arg7 harg7 arg8 harg8 arg14 arg15 arg16 arg17 arg18 arg21 arg22 x0 x1 x2 x3 x4 x5 x6))
      fun _ _ _ t => DQT (KA k ax) (DW (KA k ax) (QA q) (MA v) (MA a) ls (DA a o)) 1 3 t := by
  have hZ := (dq_buf c arg2 harg2 arg3 harg3 arg4 harg4 arg5 harg5 arg6 harg6 arg7 harg7 arg8 harg8 arg14 arg15 arg16 arg17 arg18 arg21 arg22 x0 x1 x2 x3 x4 x5 x6 hq hk hv ha ho hX hx)
  refine At2.unit4 (At2.congr (g := fun _ t => DQT (KA k ax) (DW (KA k ax) (QA q) (MA v) (MA a) ls (DA a o)) 1 3 t) (At1.row (At2.sumRows (At2.select (φ := .f32) (Mask.eq (int2_iota0 (by norm_num) _) (int2_splat (k := 3#32) (z := ((3 : ℕ) : ℤ)) rfl))
    ((hZ.backf 1 0 0 1 128 2048 _).drop _) (at2_splat zero_f32)) _ (.inl rfl) rfl) _) ?_) _
  intro r t hr ht
  simp only [Nat.zero_add, Nat.add_zero]
  exact row_at (f := fun l t => DQT (KA k ax) (DW (KA k ax) (QA q) (MA v) (MA a) ls (DA a o)) 1 l t) 3 (by decide) t

/-- Output block 4. -/
theorem out_11 :
    At4 (k := 1) (l := 1) (m := 8) (n := 2048) (out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6)
      (fun _ _ r t => DCQ (KA k ax) (DW (KA k ax) (QA q) (MA v) (MA a) ls (DA a o)) r t) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6)]
  unfold kernelRun0_A
  dsimp only
  refine On4.full (On4.cons (dcq_1 hq hk hv ha ho hX hx) (fun a b r s _ _ hr _ => by
      obtain rfl : r = 0 := by omega
      simp [DCQ])
    (On4.cons (dcq_0 hq hk hv ha ho hX hx) (fun a b r s _ _ hr _ => by
      obtain rfl : r = 0 := by omega
      simp [DCQ])
    (On4.cleared (fun _ => zero_f32) ?_)))
  intro r s hr hs hD
  exact (if_neg fun e => hD.1 (by omega)).trans (if_neg fun e => hD.2.1 (by omega))

end

end AttBwd

end
-- ==== Proof.Grad.lean ====
/- The mathematics of the claim, over the real numbers, for one head: `n` positions, `w` features.
   `Q K V` are the head's queries, keys and values, `A` the cotangent of its output, `C` the gate's running
   sum, and `M` any number per query (both programs subtract the row's largest score; no equation here needs
   to know that it is the largest). First what the reference computes, then what the kernel computes, then
   that the two agree. -/
module

public import Mathlib.Analysis.SpecialFunctions.Log.Basic
public import Mathlib.Tactic.FieldSimp
public import Mathlib.Tactic.Ring

@[expose] public section

noncomputable section

namespace AttBwd

variable {n w : ℕ}

/-- The score of query `t` against key `s`: the scaled product plus the decay from `s` to `t`. -/
def score (Q K : Fin n → Fin w → ℝ) (C : Fin n → ℝ) (t s : Fin n) : ℝ :=
  (∑ d, Q t d * K s d) * (1 / 8) + (C t - C s)

/-- The causal exponential of a score, less the number `M t` of its row. -/
def ex (Q K : Fin n → Fin w → ℝ) (C M : Fin n → ℝ) (t s : Fin n) : ℝ :=
  if s ≤ t then Real.exp (score Q K C t s - M t) else 0

/-- The softmax denominator of a row. -/
def den (Q K : Fin n → Fin w → ℝ) (C M : Fin n → ℝ) (t : Fin n) : ℝ := ∑ s, ex Q K C M t s

/-- The head's output. -/
def out (Q K V : Fin n → Fin w → ℝ) (C M : Fin n → ℝ) (t : Fin n) (d : Fin w) : ℝ :=
  ∑ s, ex Q K C M t s / den Q K C M t * V s d

/-- The cotangent of the softmax weight of key `s` in row `t`. -/
def dwt (V A : Fin n → Fin w → ℝ) (t s : Fin n) : ℝ := ∑ d, A t d * V s d

/-- The cotangent of the row's denominator, sign left out. -/
def rden (Q K V A : Fin n → Fin w → ℝ) (C M : Fin n → ℝ) (t : Fin n) : ℝ :=
  ∑ s, dwt V A t s * (1 / (den Q K C M t * den Q K C M t)) * ex Q K C M t s

/-- The cotangent of a score, as the reference computes it. -/
def dscore (Q K V A : Fin n → Fin w → ℝ) (C M : Fin n → ℝ) (t s : Fin n) : ℝ :=
  (dwt V A t s / den Q K C M t + -rden Q K V A C M t) * ex Q K C M t s

/-! ### What the kernel computes -/

/-- The number the kernel subtracts from a score: the row's log-sum-exp, less the query's own gate sum. -/
def lse (Q K : Fin n → Fin w → ℝ) (C M : Fin n → ℝ) (t : Fin n) : ℝ := M t + Real.log (den Q K C M t) - C t

/-- The softmax weight, recomputed from the saved log-sum-exp. -/
def wt (Q K : Fin n → Fin w → ℝ) (C L : Fin n → ℝ) (s t : Fin n) : ℝ :=
  if s ≤ t then Real.exp (∑ d, K s d * (Q t d * (1 / 8)) + -C s - L t) else 0

/-- The inner product of a row's cotangent with the row's output. -/
def rowdot (A O : Fin n → Fin w → ℝ) (t : Fin n) : ℝ := ∑ d, A t d * O t d

/-- The cotangent of a score, as the kernel computes it. -/
def dsc (Q K V A O : Fin n → Fin w → ℝ) (C L : Fin n → ℝ) (s t : Fin n) : ℝ :=
  wt Q K C L s t * (∑ d, V s d * A t d - rowdot A O t)

/-! ### The two agree -/

section Agree

variable (Q K V A : Fin n → Fin w → ℝ) (C M : Fin n → ℝ)

theorem ex_nonneg (t s : Fin n) : 0 ≤ ex Q K C M t s := by
  unfold ex; split
  · exact (Real.exp_pos _).le
  · exact le_rfl

theorem den_pos (t : Fin n) : 0 < den Q K C M t := by
  refine Finset.sum_pos' (fun s _ => ex_nonneg Q K C M t s) ⟨t, Finset.mem_univ _, ?_⟩
  unfold ex; rw [if_pos le_rfl]; exact Real.exp_pos _

theorem den_ne (t : Fin n) : den Q K C M t ≠ 0 := (den_pos Q K C M t).ne'

/-- The recomputed weight is the softmax weight. -/
theorem wt_eq (s t : Fin n) : wt Q K C (lse Q K C M) s t = ex Q K C M t s / den Q K C M t := by
  unfold wt ex
  split
  · have h : ∑ d, K s d * (Q t d * (1 / 8)) = (∑ d, Q t d * K s d) * (1 / 8) := by
      rw [Finset.sum_mul]; exact Finset.sum_congr rfl fun d _ => by ring
    rw [h, lse, score,
      show (∑ d, Q t d * K s d) * (1 / 8) + -C s - (M t + Real.log (den Q K C M t) - C t)
        = ((∑ d, Q t d * K s d) * (1 / 8) + (C t - C s) - M t) - Real.log (den Q K C M t) by ring,
      Real.exp_sub, Real.exp_log (den_pos Q K C M t)]
  · simp

/-- The row's inner product is the cotangent of its denominator, times the denominator. -/
theorem rowdot_eq (t : Fin n) :
    rowdot A (out Q K V C M) t = rden Q K V A C M t * den Q K C M t := by
  unfold rowdot out rden dwt
  rw [Finset.sum_mul]
  simp only [Finset.mul_sum, Finset.sum_mul]
  rw [Finset.sum_comm]
  refine Finset.sum_congr rfl fun s _ => Finset.sum_congr rfl fun d _ => ?_
  have := den_ne Q K C M t
  field_simp

/-- The two cotangents of a score agree. -/
theorem dsc_eq (s t : Fin n) :
    dsc Q K V A (out Q K V C M) C (lse Q K C M) s t = dscore Q K V A C M t s := by
  unfold dsc dscore
  rw [wt_eq, rowdot_eq]
  have h : ∑ d, V s d * A t d = dwt V A t s := Finset.sum_congr rfl fun d _ => mul_comm _ _
  rw [h]
  have := den_ne Q K C M t
  field_simp
  ring

theorem dscore_of_lt {t s : Fin n} (h : ¬ s ≤ t) : dscore Q K V A C M t s = 0 := by
  unfold dscore ex; rw [if_neg h, mul_zero]

end Agree

end AttBwd

end
-- ==== Proof.RefScores.lean ====
/- The first half of the reference, read at real arguments: scores, row maxima, exponentials, denominators and
   the head outputs. The kernel's host lines prepare the saved outputs and log-sum-exp with the same text, so the
   facts here serve both programs. -/
module

public import proofs.«01_k».proof.Proof.Coe
public import proofs.«01_k».proof.Proof.Grad
public import proofs.«01_k».proof.Proof.Gen.ReferenceIdeal.Read

@[expose] public section

set_option maxRecDepth 16384

noncomputable section

namespace AttBwd

open Cert.ReferenceIdeal Cert.ReferenceIdeal.Gen Cert.ReferenceIdeal.Read
open Idealize.ShloMosaic Idealize.ShloMosaic.TcCoe Idealize.ShloMosaic.ValueIdx

/-- The row of position `t` of sequence `b`. -/
def rowOf (b : Fin 4) (t : Fin 2048) : Fin 8192 := ⟨b.val * 2048 + t.val, by omega⟩

/-- The column of feature `d` of head `h`. -/
def colOf (h : Fin 16) (d : Fin 64) : Fin 1024 := ⟨h.val * 64 + d.val, by omega⟩

/-- The same column in the cotangent, whose second half belongs to attention. -/
def dyCol (h : Fin 16) (d : Fin 64) : Fin 2048 := ⟨1024 + (h.val * 64 + d.val), by omega⟩

/-- One head of a projected array. -/
def hd (x : S8192x1024.Idx → ℝ) (b : Fin 4) (h : Fin 16) (t : Fin 2048) (d : Fin 64) : ℝ := x (ix2 (rowOf b t) (colOf h d))

/-- One head of the output's cotangent. -/
def hdA (a : S8192x2048.Idx → ℝ) (b : Fin 4) (h : Fin 16) (t : Fin 2048) (d : Fin 64) : ℝ := a (ix2 (rowOf b t) (dyCol h d))

/-- One head's gate sums. -/
def hdC (c : S4x16x2048.Idx → ℝ) (b : Fin 4) (h : Fin 16) (t : Fin 2048) : ℝ := c (ix3 b h t)

theorem heads_v1 (q : S8192x1024.Idx → ℝ) (b : Fin 4) (h : Fin 16) (t : Fin 2048) (d : Fin 64) :
    val_main_v1 (F := Ideal) (up q) (ix4 b h t d) = ((hd q b h t d : ℝ) : EReal) := by
  rw [val_main_v1_apply, val_main_v0_apply]
  refine congrArg (up q) (ix2_of (r := rowOf b t) (c := colOf h d) ?_ ?_)
  · show (((b.val * 2048 + t.val) * 16 + h.val) * 64 + d.val) / 1024 = b.val * 2048 + t.val; omega
  · show (((b.val * 2048 + t.val) * 16 + h.val) * 64 + d.val) % 1024 = h.val * 64 + d.val; omega

theorem heads_v3 (k : S8192x1024.Idx → ℝ) (b : Fin 4) (h : Fin 16) (t : Fin 2048) (d : Fin 64) :
    val_main_v3 (F := Ideal) (up k) (ix4 b h t d) = ((hd k b h t d : ℝ) : EReal) := by
  rw [val_main_v3_apply, val_main_v2_apply]
  refine congrArg (up k) (ix2_of (r := rowOf b t) (c := colOf h d) ?_ ?_)
  · show (((b.val * 2048 + t.val) * 16 + h.val) * 64 + d.val) / 1024 = b.val * 2048 + t.val; omega
  · show (((b.val * 2048 + t.val) * 16 + h.val) * 64 + d.val) % 1024 = h.val * 64 + d.val; omega

theorem heads_v50 (v : S8192x1024.Idx → ℝ) (b : Fin 4) (h : Fin 16) (t : Fin 2048) (d : Fin 64) :
    val_main_v50 (F := Ideal) (up v) (ix4 b h t d) = ((hd v b h t d : ℝ) : EReal) := by
  rw [val_main_v50_apply, val_main_v49_apply]
  refine congrArg (up v) (ix2_of (r := rowOf b t) (c := colOf h d) ?_ ?_)
  · show (((b.val * 2048 + t.val) * 16 + h.val) * 64 + d.val) / 1024 = b.val * 2048 + t.val; omega
  · show (((b.val * 2048 + t.val) * 16 + h.val) * 64 + d.val) % 1024 = h.val * 64 + d.val; omega

theorem heads_v56 (a : S8192x2048.Idx → ℝ) (b : Fin 4) (h : Fin 16) (t : Fin 2048) (d : Fin 64) :
    val_main_v56 (F := Ideal) (up a) (ix4 b h t d) = ((hdA a b h t d : ℝ) : EReal) := by
  rw [val_main_v56_apply, val_main_v55_apply, val_main_v54_apply]
  refine congrArg (up a) (ix2_of (r := rowOf b t) (c := dyCol h d) ?_ ?_)
  · show (((b.val * 2048 + t.val) * 16 + h.val) * 64 + d.val) / 1024 = b.val * 2048 + t.val; omega
  · show 1024 + (((b.val * 2048 + t.val) * 16 + h.val) * 64 + d.val) % 1024 = 1024 + (h.val * 64 + d.val); omega

variable (q k v : S8192x1024.Idx → ℝ) (c : S4x16x2048.Idx → ℝ)

/-- The score of a query against a key. -/
abbrev sc (b : Fin 4) (h : Fin 16) (t s : Fin 2048) : ℝ := score (hd q b h) (hd k b h) (hdC c b h) t s

theorem score_v12 (b : Fin 4) (h : Fin 16) (t s : Fin 2048) :
    val_main_v12 (F := Ideal) (up q) (up k) (up c) (ix4 b h t s) = ((sc q k c b h t s : ℝ) : EReal) := by
  rw [val_main_v12_apply, val_main_v6_apply, val_main_v11_apply, val_main_v4_apply, val_main_v5_apply, val_main_cst_apply,
    val_main_v9_apply, val_main_v7_apply, val_main_v10_apply, val_main_v8_apply]
  have hl : ∀ d : Fin 64, val_main_v1 (F := Ideal) (up q) (lidx_main_v4 (ix4 b h t s) d) = ((hd q b h t d : ℝ) : EReal) := fun d =>
    (congrArg _ (ix4_of rfl rfl rfl rfl)).trans (heads_v1 q b h t d)
  have hr : ∀ d : Fin 64, val_main_v3 (F := Ideal) (up k) (ridx_main_v4 (ix4 b h t s) d) = ((hd k b h s d : ℝ) : EReal) := fun d =>
    (congrArg _ (ix4_of rfl rfl rfl rfl)).trans (heads_v3 k b h s d)
  have hq : up c (idx_main_v7 (idx_main_v9 (ix4 b h t s))) = ((hdC c b h t : ℝ) : EReal) := congrArg (up c) (ix3_of rfl rfl rfl)
  have hk : up c (idx_main_v8 (idx_main_v10 (ix4 b h t s))) = ((hdC c b h s : ℝ) : EReal) := congrArg (up c) (ix3_of rfl rfl rfl)
  simp only [hl, hr]
  rw [hq, hk, sum_mul_coe]
  show _ * Ideal.ofBits .f32 0x3E000000#32 + (_ - _) = _
  rw [eighth_f32, ← EReal.coe_mul, ← EReal.coe_sub, ← EReal.coe_add]
  rfl

/-- The causal comparison of two positions. -/
theorem mask_v20 (b : Fin 4) (h : Fin 16) (t s : Fin 2048) :
    val_main_v20_1 (F := Ideal) (ix4 b h t s) = if s ≤ t then 1#1 else 0#1 := by
  rw [val_main_v20_1_apply, val_main_v19_apply, val_main_v17_apply, val_main_v14_apply, val_main_v13_apply, val_main_v18_apply,
    val_main_v16_apply, val_main_v15_apply]
  show IntOp.cmpi .sge (BitVec.ofNat 32 t.val) (BitVec.ofNat 32 s.val) = _
  have ht : (BitVec.ofNat 32 t.val).toInt = t.val := by
    rw [BitVec.toInt_eq_toNat_of_lt (by rw [BitVec.toNat_ofNat]; omega), BitVec.toNat_ofNat, Nat.mod_eq_of_lt (by omega)]
  have hs : (BitVec.ofNat 32 s.val).toInt = s.val := by
    rw [BitVec.toInt_eq_toNat_of_lt (by rw [BitVec.toNat_ofNat]; omega), BitVec.toNat_ofNat, Nat.mod_eq_of_lt (by omega)]
  simp only [IntOp.cmpi, BitVec.sle, ht, hs, Nat.cast_le, ← Fin.le_def]
  by_cases hst : s ≤ t
  · rw [if_pos hst, decide_eq_true hst]; rfl
  · rw [if_neg hst, decide_eq_false hst]; rfl

/-- The masked score. -/
theorem masked_v20 (b : Fin 4) (h : Fin 16) (t s : Fin 2048) :
    val_main_v20_0 (F := Ideal) (up q) (up k) (up c) (ix4 b h t s)
      = if s ≤ t then ((sc q k c b h t s : ℝ) : EReal) else ⊥ := by
  rw [val_main_v20_0_apply, mask_v20, score_v12, val_main_call0_v2_apply, val_main_call0_v0_apply, val_main_cst_0_apply]
  split
  · rfl
  · exact neg_inf_f32

/-- The largest score of a row: the number both programs subtract. -/
def top (b : Fin 4) (h : Fin 16) (t : Fin 2048) : ℝ :=
  (val_main_v21 (F := Ideal) (up q) (up k) (up c) (ix3 b h t)).toReal

theorem fold_v21 (b : Fin 4) (h : Fin 16) (t : Fin 2048) :
    val_main_v21 (F := Ideal) (up q) (up k) (up c) (ix3 b h t)
      = (Finset.univ : Finset (Fin 2048)).fold max (⊥ : EReal)
          (fun s => if s ≤ t then ((sc q k c b h t s : ℝ) : EReal) else ⊥) := by
  unfold val_main_v21
  rw [Host.reduce_eq_fold_single FloatOps.maximumf _ _ reducesTo_S4x16x2048x2048_S4x16x2048_d3 (by decide)]
  have hf : (val_main_v20_0 (F := Ideal) (up q) (up k) (up c)
      ∘ (show S4x16x2048x2048.Reduces [3] S4x16x2048 by decide).lift (ix3 b h t))
        = fun s : Fin 2048 => if s ≤ t then ((sc q k c b h t s : ℝ) : EReal) else ⊥ := funext fun s =>
    (congrArg (val_main_v20_0 (F := Ideal) (up q) (up k) (up c)) (ix4_of rfl rfl rfl rfl)).trans (masked_v20 q k c b h t s)
  rw [hf, val_main_cst_1_apply]
  exact congrArg (fun x => (Finset.univ : Finset (Fin 2048)).fold max x
    (fun s => if s ≤ t then ((sc q k c b h t s : ℝ) : EReal) else ⊥)) neg_inf_f32

theorem top_v21 (b : Fin 4) (h : Fin 16) (t : Fin 2048) :
    val_main_v21 (F := Ideal) (up q) (up k) (up c) (ix3 b h t) = ((top q k c b h t : ℝ) : EReal) := by
  refine (coe_toReal_of ?_ ?_).symm
  · rw [fold_v21, Finset.fold_max_lt]
    refine ⟨bot_lt_top, fun s _ => ?_⟩
    split
    · exact EReal.coe_lt_top _
    · exact bot_lt_top
  · rw [fold_v21, Finset.lt_fold_max]
    refine Or.inr ⟨t, Finset.mem_univ _, ?_⟩
    rw [if_pos le_rfl]; exact EReal.bot_lt_coe _

/-- The softmax starts its maximum at minus infinity, which changes nothing. -/
theorem top_v28 (b : Fin 4) (h : Fin 16) (t : Fin 2048) :
    val_main_v28 (F := Ideal) (up q) (up k) (up c) (ix3 b h t) = ((top q k c b h t : ℝ) : EReal) := by
  rw [val_main_v28_apply, val_main_v27_apply, val_main_cst_3_apply, top_v21]
  show max (Ideal.ofBits .f32 0xFF800000#32) _ = _
  rw [neg_inf_f32]; exact max_eq_right bot_le

/-- The exponential of a score, causal. -/
abbrev exR (b : Fin 4) (h : Fin 16) (t s : Fin 2048) : ℝ := ex (hd q b h) (hd k b h) (hdC c b h) (top q k c b h) t s

/-- The denominator of a row. -/
abbrev denR (b : Fin 4) (h : Fin 16) (t : Fin 2048) : ℝ := den (hd q b h) (hd k b h) (hdC c b h) (top q k c b h) t

/-- The exponential of a masked score less a real is the causal exponential. -/
theorem exp_masked (b : Fin 4) (h : Fin 16) (t s : Fin 2048) :
    Ideal.exp ((if s ≤ t then ((sc q k c b h t s : ℝ) : EReal) else ⊥) - ((top q k c b h t : ℝ) : EReal))
      = ((exR q k c b h t s : ℝ) : EReal) := by
  unfold exR ex
  by_cases hst : s ≤ t
  · rw [if_pos hst, if_pos hst, ← EReal.coe_sub, Ideal.exp_coe]
  · rw [if_neg hst, if_neg hst, EReal.bot_sub, Ideal.exp_bot, EReal.coe_zero]

theorem ex_v41 (b : Fin 4) (h : Fin 16) (t s : Fin 2048) :
    val_main_v41 (F := Ideal) (up q) (up k) (up c) (ix4 b h t s) = ((exR q k c b h t s : ℝ) : EReal) := by
  rw [val_main_v41_apply, val_main_v40_apply, masked_v20, val_main_v39_apply, val_main_v38_apply]
  have ht : val_main_v28 (F := Ideal) (up q) (up k) (up c) (idx_main_v38 (idx_main_v39 (ix4 b h t s)))
      = ((top q k c b h t : ℝ) : EReal) := (congrArg _ (ix3_of rfl rfl rfl)).trans (top_v28 q k c b h t)
  rw [ht]
  exact exp_masked q k c b h t s

theorem den_v42 (b : Fin 4) (h : Fin 16) (t : Fin 2048) :
    val_main_v42 (F := Ideal) (up q) (up k) (up c) (ix3 b h t) = ((denR q k c b h t : ℝ) : EReal) := by
  rw [val_main_v42_apply, val_main_cst_9_apply]
  have he : ∀ s : Fin 2048, val_main_v41 (F := Ideal) (up q) (up k) (up c) (idx_main_v42 (ix3 b h t) s)
      = ((exR q k c b h t s : ℝ) : EReal) := fun s => (congrArg _ (ix4_of rfl rfl rfl rfl)).trans (ex_v41 q k c b h t s)
  simp only [he]
  rw [sum_coe]
  show Ideal.ofBits .f32 0x00000000#32 + _ = _
  rw [zero_f32, ← EReal.coe_add, zero_add]; rfl

theorem den_v43 (b : Fin 4) (h : Fin 16) (t : Fin 2048) (z : Fin 1) :
    val_main_v43 (F := Ideal) (up q) (up k) (up c) (ix4 b h t z) = ((denR q k c b h t : ℝ) : EReal) := by
  rw [val_main_v43_apply]
  exact (congrArg _ (ix3_of rfl rfl rfl)).trans (den_v42 q k c b h t)

theorem den_v44 (b : Fin 4) (h : Fin 16) (t s : Fin 2048) :
    val_main_v44 (F := Ideal) (up q) (up k) (up c) (ix4 b h t s) = ((denR q k c b h t : ℝ) : EReal) := by
  rw [val_main_v44_apply]
  exact (congrArg _ (ix4_of (d := (0 : Fin 1)) rfl rfl rfl rfl)).trans (den_v43 q k c b h t 0)

/-- The softmax weight. -/
theorem wt_v45 (b : Fin 4) (h : Fin 16) (t s : Fin 2048) :
    val_main_v45 (F := Ideal) (up q) (up k) (up c) (ix4 b h t s) = ((exR q k c b h t s / denR q k c b h t : ℝ) : EReal) := by
  rw [val_main_v45_apply, ex_v41, den_v44]
  exact div_coe_coe (den_ne _ _ _ _ _) _

/-- The head's output. -/
abbrev outR (b : Fin 4) (h : Fin 16) (t : Fin 2048) (d : Fin 64) : ℝ :=
  out (hd q b h) (hd k b h) (hd v b h) (hdC c b h) (top q k c b h) t d

theorem out_v51 (b : Fin 4) (h : Fin 16) (t : Fin 2048) (d : Fin 64) :
    val_main_v51 (F := Ideal) (up q) (up k) (up v) (up c) (ix4 b h t d) = ((outR q k v c b h t d : ℝ) : EReal) := by
  rw [val_main_v51_apply]
  have hl : ∀ s : Fin 2048, val_main_v45 (F := Ideal) (up q) (up k) (up c) (lidx_main_v51 (ix4 b h t d) s)
      = ((exR q k c b h t s / denR q k c b h t : ℝ) : EReal) := fun s =>
    (congrArg _ (ix4_of rfl rfl rfl rfl)).trans (wt_v45 q k c b h t s)
  have hr : ∀ s : Fin 2048, val_main_v50 (F := Ideal) (up v) (ridx_main_v51 (ix4 b h t d) s) = ((hd v b h s d : ℝ) : EReal) :=
    fun s => (congrArg _ (ix4_of rfl rfl rfl rfl)).trans (heads_v50 v b h s d)
  simp only [hl, hr]
  rw [sum_mul_coe]; rfl

/-- The heads' outputs side by side. -/
theorem out_v53 (b : Fin 4) (h : Fin 16) (t : Fin 2048) (d : Fin 64) :
    val_main_v53 (F := Ideal) (up q) (up k) (up v) (up c) (ix2 (rowOf b t) (colOf h d)) = ((outR q k v c b h t d : ℝ) : EReal) := by
  rw [val_main_v53_apply, val_main_v52_apply]
  refine (congrArg _ (ix4_of (a := b) (b := h) (c := t) (d := d) ?_ ?_ ?_ ?_)).trans (out_v51 q k v c b h t d)
  · show ((b.val * 2048 + t.val) * 1024 + (h.val * 64 + d.val)) / 2097152 = b.val; omega
  · show ((b.val * 2048 + t.val) * 1024 + (h.val * 64 + d.val)) / 64 % 16 = h.val; omega
  · show ((b.val * 2048 + t.val) * 1024 + (h.val * 64 + d.val)) / 1024 % 2048 = t.val; omega
  · show ((b.val * 2048 + t.val) * 1024 + (h.val * 64 + d.val)) % 64 = d.val; omega

end AttBwd

end
-- ==== Proof.RefGrads.lean ====
/- The second half of the reference, read at real arguments: the cotangents of the scores, and from them the
   five results. -/
module

public import proofs.«01_k».proof.Proof.RefScores
public import Idealize.ShloMosaic.Lib.KernelVsHost

@[expose] public section

set_option maxRecDepth 16384

noncomputable section

namespace AttBwd

open Cert.ReferenceIdeal Cert.ReferenceIdeal.Gen Cert.ReferenceIdeal.Read
open Idealize.ShloMosaic Idealize.ShloMosaic.TcCoe Idealize.ShloMosaic.ValueIdx

variable (q k v : S8192x1024.Idx → ℝ) (c : S4x16x2048.Idx → ℝ) (a : S8192x2048.Idx → ℝ)

/-- The value gradient of a head. -/
abbrev dvR (b : Fin 4) (h : Fin 16) (s : Fin 2048) (d : Fin 64) : ℝ :=
  ∑ t, hdA a b h t d * (exR q k c b h t s / denR q k c b h t)

/-- The cotangent of a score. -/
abbrev dsR (b : Fin 4) (h : Fin 16) (t s : Fin 2048) : ℝ :=
  dscore (hd q b h) (hd k b h) (hd v b h) (hdA a b h) (hdC c b h) (top q k c b h) t s

theorem dv_v57 (b : Fin 4) (h : Fin 16) (d : Fin 64) (s : Fin 2048) :
    val_main_v57 (F := Ideal) (up q) (up k) (up c) (up a) (ix4 b h d s) = ((dvR q k c a b h s d : ℝ) : EReal) := by
  rw [val_main_v57_apply]
  have hl : ∀ t : Fin 2048, val_main_v56 (F := Ideal) (up a) (lidx_main_v57 (ix4 b h d s) t) = ((hdA a b h t d : ℝ) : EReal) :=
    fun t => (congrArg _ (ix4_of rfl rfl rfl rfl)).trans (heads_v56 a b h t d)
  have hr : ∀ t : Fin 2048, val_main_v45 (F := Ideal) (up q) (up k) (up c) (ridx_main_v57 (ix4 b h d s) t)
      = ((exR q k c b h t s / denR q k c b h t : ℝ) : EReal) := fun t =>
    (congrArg _ (ix4_of rfl rfl rfl rfl)).trans (wt_v45 q k c b h t s)
  simp only [hl, hr]
  rw [sum_mul_coe]

/-- The place of a row and a head's feature among the heads side by side. -/
theorem place_div (b : Fin 4) (h : Fin 16) (t : Fin 2048) (d : Fin 64) :
    ((b.val * 2048 + t.val) * 1024 + (h.val * 64 + d.val)) / 2097152 = b.val
    ∧ ((b.val * 2048 + t.val) * 1024 + (h.val * 64 + d.val)) / 1024 % 2048 = t.val
    ∧ ((b.val * 2048 + t.val) * 1024 + (h.val * 64 + d.val)) / 64 % 16 = h.val
    ∧ ((b.val * 2048 + t.val) * 1024 + (h.val * 64 + d.val)) % 64 = d.val := by omega

/-- The value gradient. -/
theorem dv_v92 (b : Fin 4) (h : Fin 16) (s : Fin 2048) (d : Fin 64) :
    val_main_v92 (F := Ideal) (up q) (up k) (up c) (up a) (ix2 (rowOf b s) (colOf h d)) = ((dvR q k c a b h s d : ℝ) : EReal) := by
  obtain ⟨h0, h1, h2, h3⟩ := place_div b h s d
  rw [val_main_v92_apply, val_main_v61_apply, val_main_v60_apply, val_main_v58_apply]
  show val_main_v57 (F := Ideal) (up q) (up k) (up c) (up a) _ = _
  exact (congrArg _ (ix4_of (a := b) (b := h) (c := d) (d := s) h0 h2 h3 h1)).trans (dv_v57 q k c a b h d s)

theorem dp_v59 (b : Fin 4) (h : Fin 16) (t s : Fin 2048) :
    val_main_v59 (F := Ideal) (up v) (up a) (ix4 b h t s) = ((dwt (hd v b h) (hdA a b h) t s : ℝ) : EReal) := by
  rw [val_main_v59_apply]
  have hl : ∀ d : Fin 64, val_main_v56 (F := Ideal) (up a) (lidx_main_v59 (ix4 b h t s) d) = ((hdA a b h t d : ℝ) : EReal) :=
    fun d => (congrArg _ (ix4_of rfl rfl rfl rfl)).trans (heads_v56 a b h t d)
  have hr : ∀ d : Fin 64, val_main_v50 (F := Ideal) (up v) (ridx_main_v59 (ix4 b h t s) d) = ((hd v b h s d : ℝ) : EReal) :=
    fun d => (congrArg _ (ix4_of rfl rfl rfl rfl)).trans (heads_v50 v b h s d)
  simp only [hl, hr]
  rw [sum_mul_coe]; rfl

/-- The reciprocal of a denominator's square. -/
theorem rec_v48 (b : Fin 4) (h : Fin 16) (t : Fin 2048) (z : Fin 1) :
    val_main_v48 (F := Ideal) (up q) (up k) (up c) (ix4 b h t z)
      = ((1 / (denR q k c b h t * denR q k c b h t) : ℝ) : EReal) := by
  rw [val_main_v48_apply, val_main_v46_apply, val_main_v47_apply, val_main_cst_10_apply, den_v43]
  show Ideal.div (Ideal.ofBits .f32 0x3F800000#32) (_ * _) = _
  rw [one_f32, ← EReal.coe_mul]
  exact div_coe_coe (mul_ne_zero (den_ne _ _ _ _ _) (den_ne _ _ _ _ _)) _

theorem rec_v62 (b : Fin 4) (h : Fin 16) (t s : Fin 2048) :
    val_main_v62 (F := Ideal) (up q) (up k) (up c) (ix4 b h t s)
      = ((1 / (denR q k c b h t * denR q k c b h t) : ℝ) : EReal) := by
  rw [val_main_v62_apply]
  exact (congrArg _ (ix4_of (d := (0 : Fin 1)) rfl rfl rfl rfl)).trans (rec_v48 q k c b h t 0)

theorem term_v64 (b : Fin 4) (h : Fin 16) (t s : Fin 2048) :
    val_main_v64 (F := Ideal) (up q) (up k) (up v) (up c) (up a) (ix4 b h t s)
      = ((dwt (hd v b h) (hdA a b h) t s * (1 / (denR q k c b h t * denR q k c b h t)) * exR q k c b h t s : ℝ) : EReal) := by
  rw [val_main_v64_apply, val_main_v63_apply, dp_v59, rec_v62, ex_v41, EReal.coe_mul, EReal.coe_mul]; rfl

/-- The cotangent of a row's denominator, sign left out. -/
abbrev rdenR (b : Fin 4) (h : Fin 16) (t : Fin 2048) : ℝ :=
  rden (hd q b h) (hd k b h) (hd v b h) (hdA a b h) (hdC c b h) (top q k c b h) t

theorem rden_v65 (b : Fin 4) (h : Fin 16) (t : Fin 2048) :
    val_main_v65 (F := Ideal) (up q) (up k) (up v) (up c) (up a) (ix3 b h t) = ((rdenR q k v c a b h t : ℝ) : EReal) := by
  rw [val_main_v65_apply, val_main_cst_11_apply]
  have he : ∀ s : Fin 2048, val_main_v64 (F := Ideal) (up q) (up k) (up v) (up c) (up a) (idx_main_v65 (ix3 b h t) s)
      = ((dwt (hd v b h) (hdA a b h) t s * (1 / (denR q k c b h t * denR q k c b h t)) * exR q k c b h t s : ℝ) : EReal) :=
    fun s => (congrArg _ (ix4_of rfl rfl rfl rfl)).trans (term_v64 q k v c a b h t s)
  simp only [he]
  rw [sum_coe]
  show Ideal.ofBits .f32 0x00000000#32 + _ = _
  rw [zero_f32, ← EReal.coe_add, zero_add]; rfl

/-- A sum over an axis of one is its single term. -/
theorem sum_one (f : Fin 1 → EReal) {x : ℝ} (h : ∀ z, f z = (x : EReal)) :
    Ideal.ofBits .f32 0x00000000#32 + ∑ z, f z = (x : EReal) := by
  rw [Fin.sum_univ_one, h, zero_f32, ← EReal.coe_add, zero_add]

theorem rden_v67 (b : Fin 4) (h : Fin 16) (t : Fin 2048) (z : Fin 1) :
    val_main_v67 (F := Ideal) (up q) (up k) (up v) (up c) (up a) (ix4 b h t z) = ((-rdenR q k v c a b h t : ℝ) : EReal) := by
  rw [val_main_v67_apply, val_main_v66_apply,
    show idx_main_v66 (ix4 b h t z) = ix3 b h t from ix3_of
      (by show (((b.val * 16 + h.val) * 2048 + t.val) * 1 + z.val) / 32768 = b.val; omega)
      (by show (((b.val * 16 + h.val) * 2048 + t.val) * 1 + z.val) / 2048 % 16 = h.val; omega)
      (by show (((b.val * 16 + h.val) * 2048 + t.val) * 1 + z.val) % 2048 = t.val; omega),
    rden_v65, EReal.coe_neg]
  rfl

theorem rden_v71 (b : Fin 4) (h : Fin 16) (t s : Fin 2048) :
    val_main_v71 (F := Ideal) (up q) (up k) (up v) (up c) (up a) (ix4 b h t s) = ((-rdenR q k v c a b h t : ℝ) : EReal) := by
  rw [val_main_v71_apply, val_main_v70_apply, val_main_cst_12_apply]
  exact sum_one _ fun z => (congrArg _ (ix4_of rfl rfl rfl rfl)).trans (rden_v67 q k v c a b h t z)

theorem quot_v69 (b : Fin 4) (h : Fin 16) (t s : Fin 2048) :
    val_main_v69 (F := Ideal) (up q) (up k) (up v) (up c) (up a) (ix4 b h t s)
      = ((dwt (hd v b h) (hdA a b h) t s / denR q k c b h t : ℝ) : EReal) := by
  rw [val_main_v69_apply, dp_v59, val_main_v68_apply,
    show idx_main_v68 (ix4 b h t s) = ix4 b h t (0 : Fin 1) from ix4_of rfl rfl rfl rfl, den_v43]
  exact div_coe_coe (den_ne _ _ _ _ _) _

/-- The cotangent of a score: above the diagonal both programs have zero. -/
theorem dscore_v74 (b : Fin 4) (h : Fin 16) (t s : Fin 2048) :
    val_main_v74 (F := Ideal) (up q) (up k) (up v) (up c) (up a) (ix4 b h t s) = ((dsR q k v c a b h t s : ℝ) : EReal) := by
  rw [val_main_v74_apply, mask_v20]
  by_cases hst : s ≤ t
  · rw [if_pos hst, val_main_v73_apply, val_main_v72_apply, quot_v69, rden_v71, ex_v41]
    show (if (1#1 : BitVec 1) = 1#1 then _ else _) = _
    rw [if_pos rfl]
    show (_ + _) * _ = _
    rw [← EReal.coe_add, ← EReal.coe_mul]
    rfl
  · rw [if_neg hst, dsR, dscore_of_lt _ _ _ _ _ _ hst]
    show (if (0#1 : BitVec 1) = 1#1 then _ else _) = _
    rw [if_neg (by decide)]
    exact zero_f32

/-- The row sums: the gradient of the query's gate sum. -/
theorem dcq_v81 (b : Fin 4) (h : Fin 16) (t : Fin 2048) :
    val_main_v81 (F := Ideal) (up q) (up k) (up v) (up c) (up a) (ix3 b h t) = ((∑ s, dsR q k v c a b h t s : ℝ) : EReal) := by
  have h75 : val_main_v75 (F := Ideal) (up q) (up k) (up v) (up c) (up a) (ix3 b h t)
      = ((∑ s, dsR q k v c a b h t s : ℝ) : EReal) := by
    rw [val_main_v75_apply, val_main_cst_13_apply]
    have he : ∀ s : Fin 2048, val_main_v74 (F := Ideal) (up q) (up k) (up v) (up c) (up a) (idx_main_v75 (ix3 b h t) s)
        = ((dsR q k v c a b h t s : ℝ) : EReal) := fun s =>
      (congrArg _ (ix4_of rfl rfl rfl rfl)).trans (dscore_v74 q k v c a b h t s)
    simp only [he]
    rw [sum_coe]
    show Ideal.ofBits .f32 0x00000000#32 + _ = _
    rw [zero_f32, ← EReal.coe_add, zero_add]
  rw [val_main_v81_apply, val_main_cst_16_apply]
  refine sum_one _ fun z => ?_
  rw [val_main_v76_apply]
  refine (congrArg _ (ix3_of (a := b) (b := h) (c := t) ?_ ?_ ?_)).trans h75
  · show (((b.val * 16 + h.val) * 2048 + t.val) * 1 + z.val) / 32768 = b.val; omega
  · show (((b.val * 16 + h.val) * 2048 + t.val) * 1 + z.val) / 2048 % 16 = h.val; omega
  · show (((b.val * 16 + h.val) * 2048 + t.val) * 1 + z.val) % 2048 = t.val; omega

/-- The column sums, with their sign: the gradient of the key's gate sum. -/
theorem dck_v80 (b : Fin 4) (h : Fin 16) (s : Fin 2048) :
    val_main_v80 (F := Ideal) (up q) (up k) (up v) (up c) (up a) (ix3 b h s) = ((∑ t, -dsR q k v c a b h t s : ℝ) : EReal) := by
  have h78 : val_main_v78 (F := Ideal) (up q) (up k) (up v) (up c) (up a) (ix3 b h s)
      = ((∑ t, -dsR q k v c a b h t s : ℝ) : EReal) := by
    rw [val_main_v78_apply, val_main_cst_14_apply]
    have he : ∀ t : Fin 2048, val_main_v77 (F := Ideal) (up q) (up k) (up v) (up c) (up a) (idx_main_v78 (ix3 b h s) t)
        = ((-dsR q k v c a b h t s : ℝ) : EReal) := fun t => by
      rw [val_main_v77_apply,
        show idx_main_v78 (ix3 b h s) t = ix4 b h t s from ix4_of rfl rfl rfl rfl, dscore_v74, EReal.coe_neg]
      rfl
    simp only [he]
    rw [sum_coe]
    show Ideal.ofBits .f32 0x00000000#32 + _ = _
    rw [zero_f32, ← EReal.coe_add, zero_add]
  rw [val_main_v80_apply, val_main_cst_15_apply]
  refine sum_one _ fun z => ?_
  rw [val_main_v79_apply]
  refine (congrArg _ (ix3_of (a := b) (b := h) (c := s) ?_ ?_ ?_)).trans h78
  · show (((b.val * 16 + h.val) * 1 + z.val) * 2048 + s.val) / 32768 = b.val; omega
  · show (((b.val * 16 + h.val) * 1 + z.val) * 2048 + s.val) / 2048 % 16 = h.val; omega
  · show (((b.val * 16 + h.val) * 1 + z.val) * 2048 + s.val) % 2048 = s.val; omega

theorem ds_v83 (b : Fin 4) (h : Fin 16) (t s : Fin 2048) :
    val_main_v83 (F := Ideal) (up q) (up k) (up v) (up c) (up a) (ix4 b h t s)
      = ((dsR q k v c a b h t s * (1 / 8) : ℝ) : EReal) := by
  rw [val_main_v83_apply, dscore_v74, val_main_v82_apply, val_main_cst_17_apply]
  show _ * Ideal.ofBits .f32 0x3E000000#32 = _
  rw [eighth_f32, ← EReal.coe_mul]

/-- The key gradient. -/
theorem dk_v91 (b : Fin 4) (h : Fin 16) (s : Fin 2048) (d : Fin 64) :
    val_main_v91 (F := Ideal) (up q) (up k) (up v) (up c) (up a) (ix2 (rowOf b s) (colOf h d))
      = ((∑ t, dsR q k v c a b h t s * (1 / 8) * hd q b h t d : ℝ) : EReal) := by
  obtain ⟨h0, h1, h2, h3⟩ := place_div b h s d
  rw [val_main_v91_apply, val_main_v87_apply, val_main_v86_apply]
  show val_main_v84 (F := Ideal) (up q) (up k) (up v) (up c) (up a) _ = _
  rw [show idx_main_v86 (idx_main_v87 (ix2 (rowOf b s) (colOf h d))) = ix4 b h s d from ix4_of h0 h2 h1 h3, val_main_v84_apply]
  have hl : ∀ t : Fin 2048, val_main_v83 (F := Ideal) (up q) (up k) (up v) (up c) (up a) (lidx_main_v84 (ix4 b h s d) t)
      = ((dsR q k v c a b h t s * (1 / 8) : ℝ) : EReal) := fun t =>
    (congrArg _ (ix4_of rfl rfl rfl rfl)).trans (ds_v83 q k v c a b h t s)
  have hr : ∀ t : Fin 2048, val_main_v1 (F := Ideal) (up q) (ridx_main_v84 (ix4 b h s d) t) = ((hd q b h t d : ℝ) : EReal) :=
    fun t => (congrArg _ (ix4_of rfl rfl rfl rfl)).trans (heads_v1 q b h t d)
  simp only [hl, hr]
  rw [sum_mul_coe]

/-- The query gradient. -/
theorem dq_v90 (b : Fin 4) (h : Fin 16) (t : Fin 2048) (d : Fin 64) :
    val_main_v90 (F := Ideal) (up q) (up k) (up v) (up c) (up a) (ix2 (rowOf b t) (colOf h d))
      = ((∑ s, dsR q k v c a b h t s * (1 / 8) * hd k b h s d : ℝ) : EReal) := by
  obtain ⟨h0, h1, h2, h3⟩ := place_div b h t d
  rw [val_main_v90_apply, val_main_v89_apply, val_main_v88_apply]
  show val_main_v85 (F := Ideal) (up q) (up k) (up v) (up c) (up a) _ = _
  rw [show idx_main_v88 (idx_main_v89 (ix2 (rowOf b t) (colOf h d))) = ix4 b h t d from ix4_of h0 h2 h1 h3, val_main_v85_apply]
  have hl : ∀ s : Fin 2048, val_main_v83 (F := Ideal) (up q) (up k) (up v) (up c) (up a) (lidx_main_v85 (ix4 b h t d) s)
      = ((dsR q k v c a b h t s * (1 / 8) : ℝ) : EReal) := fun s =>
    (congrArg _ (ix4_of rfl rfl rfl rfl)).trans (ds_v83 q k v c a b h t s)
  have hr : ∀ s : Fin 2048, val_main_v3 (F := Ideal) (up k) (ridx_main_v85 (ix4 b h t d) s) = ((hd k b h s d : ℝ) : EReal) :=
    fun s => (congrArg _ (ix4_of rfl rfl rfl rfl)).trans (heads_v3 k b h s d)
  simp only [hl, hr]
  rw [sum_mul_coe]

/-! ### The two row results, padded with zero rows -/

/-- Head `r` of pair `p`. -/
def headOf (p : Fin 8) (r : Fin 2) : Fin 16 := ⟨p.val * 2 + r.val, by omega⟩

/-- The value the rows are padded with. -/
theorem pad_zero (i : S_.Idx) : val_main_call2_v0 (F := Ideal) i = ((0 : ℝ) : EReal) ∧ val_main_call3_v0 (F := Ideal) i = ((0 : ℝ) : EReal) := by
  refine ⟨?_, ?_⟩
  · rw [val_main_call2_v0_apply, val_main_c_apply]
    show (((0#32 : BitVec 32).toInt : ℝ) : EReal) = _
    simp
  · rw [val_main_call3_v0_apply, val_main_c_18_apply]
    show (((0#32 : BitVec 32).toInt : ℝ) : EReal) = _
    simp

/-- Rows per head, padded from two to eight. -/
theorem padded (x : S4x8x2x2048.Idx → EReal) (z : S_.Idx → EReal) (hz : ∀ i, z i = ((0 : ℝ) : EReal))
    (f : Fin 4 → Fin 16 → Fin 2048 → ℝ) (hx : ∀ b p r t, x (ix4 b p r t) = ((f b (headOf p r) t : ℝ) : EReal))
    (b : Fin 4) (p : Fin 8) (r : Fin 8) (t : Fin 2048) :
    pad S4x8x8x2048 ![0, 0, 0, 0] ![0, 0, 6, 0] ![0, 0, 0, 0] x z pads_S4x8x2x2048_S4x8x8x2048_000_000_060_000 h_S_ (ix4 b p r t)
      = ((if h : r.val < 2 then f b (headOf p ⟨r.val, h⟩) t else 0 : ℝ) : EReal) := by
  by_cases h : r.val < 2
  · rw [dif_pos h, ← hx]
    refine pad_apply_of_inside _ _ _ x z _ _ _ (ix4 b p ⟨r.val, h⟩ t) fun a => ?_
    fin_cases a
    · show b.val = 0 + b.val * (0 + 1); omega
    · show p.val = 0 + p.val * (0 + 1); omega
    · show r.val = 0 + r.val * (0 + 1); omega
    · show t.val = 0 + t.val * (0 + 1); omega
  · rw [dif_neg h, ← hz (Shape.Idx.first h_S_)]
    refine pad_apply_of_not_inside _ _ _ x z _ _ _ (2 : Fin 4) fun hin => ?_
    have : (r.val - 0) / (0 + 1) < 2 := hin.2.2
    omega

theorem dck_v94 (b : Fin 4) (p : Fin 8) (r : Fin 8) (s : Fin 2048) :
    val_main_v94 (F := Ideal) (up q) (up k) (up v) (up c) (up a) (ix4 b p r s)
      = ((if h : r.val < 2 then ∑ t, -dsR q k v c a b (headOf p ⟨r.val, h⟩) t s else 0 : ℝ) : EReal) := by
  unfold val_main_v94
  refine padded _ _ (fun i => (pad_zero i).1) (fun b h s => ∑ t, -dsR q k v c a b h t s) (fun b p r s => ?_) b p r s
  rw [val_main_v93_apply]
  refine (congrArg _ (ix3_of (a := b) (b := headOf p r) (c := s) ?_ ?_ ?_)).trans (dck_v80 q k v c a b (headOf p r) s)
  · show (((b.val * 8 + p.val) * 2 + r.val) * 2048 + s.val) / 32768 = b.val; omega
  · show (((b.val * 8 + p.val) * 2 + r.val) * 2048 + s.val) / 2048 % 16 = p.val * 2 + r.val; omega
  · show (((b.val * 8 + p.val) * 2 + r.val) * 2048 + s.val) % 2048 = s.val; omega

theorem dcq_v96 (b : Fin 4) (p : Fin 8) (r : Fin 8) (t : Fin 2048) :
    val_main_v96 (F := Ideal) (up q) (up k) (up v) (up c) (up a) (ix4 b p r t)
      = ((if h : r.val < 2 then ∑ s, dsR q k v c a b (headOf p ⟨r.val, h⟩) t s else 0 : ℝ) : EReal) := by
  unfold val_main_v96
  refine padded _ _ (fun i => (pad_zero i).2) (fun b h t => ∑ s, dsR q k v c a b h t s) (fun b p r t => ?_) b p r t
  rw [val_main_v95_apply]
  refine (congrArg _ (ix3_of (a := b) (b := headOf p r) (c := t) ?_ ?_ ?_)).trans (dcq_v81 q k v c a b (headOf p r) t)
  · show (((b.val * 8 + p.val) * 2 + r.val) * 2048 + t.val) / 32768 = b.val; omega
  · show (((b.val * 8 + p.val) * 2 + r.val) * 2048 + t.val) / 2048 % 16 = p.val * 2 + r.val; omega
  · show (((b.val * 8 + p.val) * 2 + r.val) * 2048 + t.val) % 2048 = t.val; omega

end AttBwd

end
-- ==== Proof.Pair.lean ====
/- From the lanes of a pair of heads to each head: the four lanes that carry the decay add what the reference
   adds to a score, the cleared lanes add nothing, and the pair's blocks are the two heads' arrays. -/
module

public import proofs.«01_k».proof.Proof.Body
public import proofs.«01_k».proof.Proof.RefGrads

@[expose] public section

noncomputable section

namespace AttBwd

/-! ### Sums over the lanes -/

theorem two_halves (f : ℕ → ℝ) : ∑ l : Fin 128, f l.val = ∑ d : Fin 64, f d.val + ∑ d : Fin 64, f (64 + d.val) :=
  Fin.sum_univ_add (a := 64) (b := 64) fun l => f l.val

/-- The lanes of head `h` and the lanes of the other. -/
theorem own_other {h : ℕ} (hh : h < 2) (f : ℕ → ℝ) :
    ∑ l : Fin 128, f l.val = ∑ d : Fin 64, f (64 * h + d.val) + ∑ d : Fin 64, f (64 * (1 - h) + d.val) := by
  rw [two_halves]
  rcases (by omega : h = 0 ∨ h = 1) with rfl | rfl
  · simp
  · simp only [Nat.sub_self, Nat.mul_zero, Nat.zero_add, Nat.mul_one]; exact add_comm _ _

/-- A sum of which only the first three terms may differ from zero. -/
theorem first_three (g : ℕ → ℝ) (h : ∀ d, 3 ≤ d → d < 64 → g d = 0) : ∑ d : Fin 64, g d.val = g 0 + g 1 + g 2 := by
  rw [show (∑ d : Fin 64, g d.val) = ∑ d : Fin 3, g d.val + ∑ d : Fin 61, g (3 + d.val) from
    Fin.sum_univ_add (a := 3) (b := 61) fun l => g l.val, Fin.sum_univ_three,
    Finset.sum_eq_zero fun d _ => h (3 + d.val) (by omega) (by omega), add_zero]
  rfl

variable {q k v a o ax : ℕ → ℕ → ℝ} {ls : ℕ → ℕ → ℝ} {h : ℕ}

theorem own_div (d : Fin 64) : (64 * h + d.val) / 64 = h := by omega

theorem other_div (hh : h < 2) (d : ℕ) (hd : d < 64) : (64 * (1 - h) + d) / 64 ≠ h := by omega

/-- What the auxiliary lanes of head `h` hold. -/
structure Aux (ax : ℕ → ℕ → ℝ) (h : ℕ) (C : Fin 2048 → ℝ) : Prop where
  decay : ∀ s : Fin 2048, ax s.val (64 * (1 - h)) = -C s
  rest1 : ∀ s : Fin 2048, ax s.val (64 * (1 - h) + 1) = 0
  rest2 : ∀ s : Fin 2048, ax s.val (64 * (1 - h) + 2) = 0
  one : ∀ s : Fin 2048, ax s.val (64 * (1 - h) + 3) = 1

/-- The head's own lanes of a pair's block. -/
def own (x : ℕ → ℕ → ℝ) (h : ℕ) (t : Fin 2048) (d : Fin 64) : ℝ := x t.val (64 * h + d.val)

/-- The lanes' product is the head's product and the decay. -/
theorem lanes_score (hh : h < 2) {C : Fin 2048 → ℝ} (H : Aux ax h C) (s t : Fin 2048) :
    ∑ l : Fin 128, KA k ax h s.val l.val * QA q h t.val l.val = ∑ d : Fin 64, own k h s d * (own q h t d * (1 / 8)) + -C s := by
  rw [own_other hh fun l => KA k ax h s.val l * QA q h t.val l]
  refine congrArg₂ (· + ·) (Finset.sum_congr rfl fun d _ => ?_) ?_
  · unfold KA QA own; rw [if_pos (own_div d), if_pos (own_div d)]
  · rw [first_three fun d => KA k ax h s.val (64 * (1 - h) + d) * QA q h t.val (64 * (1 - h) + d)]
    · have hk : ∀ d, d ≤ 3 → KA k ax h s.val (64 * (1 - h) + d) = ax s.val (64 * (1 - h) + d) := fun d hd => by
        unfold KA; rw [if_neg (other_div hh d (by omega)), if_pos ⟨by omega, by omega⟩]
      have hq : ∀ d, d < 3 → QA q h t.val (64 * (1 - h) + d) = 1 := fun d hd => by
        unfold QA; rw [if_neg (other_div hh d (by omega)), if_pos ⟨by omega, by omega⟩]
      rw [hk 0 (by omega), hk 1 (by omega), hk 2 (by omega), hq 0 (by omega), hq 1 (by omega), hq 2 (by omega),
        Nat.add_zero, H.decay, H.rest1, H.rest2]
      ring
    · intro d hd hd'
      show _ * QA q h t.val (64 * (1 - h) + d) = 0
      unfold QA; rw [if_neg (other_div hh d hd'), if_neg (by omega), mul_zero]

/-- The cleared lanes add nothing to the product of the values with the cotangent. -/
theorem lanes_dwt (hh : h < 2) (s t : Fin 2048) :
    ∑ l : Fin 128, MA v h s.val l.val * MA a h t.val l.val = ∑ d : Fin 64, own v h s d * own a h t d := by
  rw [own_other hh fun l => MA v h s.val l * MA a h t.val l]
  refine (congrArg₂ (· + ·) ?_ (Finset.sum_eq_zero fun d _ => ?_)).trans (add_zero _)
  · refine Finset.sum_congr rfl fun d _ => ?_
    unfold MA own; rw [if_pos (own_div d), if_pos (own_div d)]
  · show MA v h s.val _ * _ = 0
    unfold MA; rw [if_neg (other_div hh d.val d.isLt), zero_mul]

theorem lanes_rowdot (hh : h < 2) (t : Fin 2048) : DA a o h t.val = rowdot (own a h) (own o h) t := by
  unfold DA
  rw [own_other hh fun l => MA a h t.val l * o t.val l]
  refine (congrArg₂ (· + ·) ?_ (Finset.sum_eq_zero fun d _ => ?_)).trans (add_zero _)
  · refine Finset.sum_congr rfl fun d _ => ?_
    unfold MA own; rw [if_pos (own_div d)]
  · show MA a h t.val _ * _ = 0
    unfold MA; rw [if_neg (other_div hh d.val d.isLt), zero_mul]

theorem lanes_wt (hh : h < 2) {C : Fin 2048 → ℝ} (H : Aux ax h C) (s t : Fin 2048) :
    PW (KA k ax) (QA q) ls h s.val t.val = wt (own q h) (own k h) C (fun t => ls h t.val) s t := by
  unfold PW wt
  rw [lanes_score hh H]
  rfl

/-- The cotangent of a score, from the lanes. -/
theorem lanes_dsc (hh : h < 2) {C : Fin 2048 → ℝ} (H : Aux ax h C) (s t : Fin 2048) :
    DW (KA k ax) (QA q) (MA v) (MA a) ls (DA a o) h s.val t.val
      = dsc (own q h) (own k h) (own v h) (own a h) (own o h) C (fun t => ls h t.val) s t := by
  unfold DW dsc
  rw [lanes_wt hh H, lanes_dwt hh, lanes_rowdot hh]

/-! ### What the outputs hold -/

variable {C M : Fin 2048 → ℝ}

/-- The blocks of one pair at head `h`: the saved output and log-sum-exp are the forward pass's. -/
structure Saved (q k v o ax : ℕ → ℕ → ℝ) (ls : ℕ → ℕ → ℝ) (h : ℕ) (C M : Fin 2048 → ℝ) : Prop where
  aux : Aux ax h C
  out : own o h = out (own q h) (own k h) (own v h) C M
  lse : (fun t : Fin 2048 => ls h t.val) = lse (own q h) (own k h) C M

/-- With the forward pass's output and log-sum-exp the cotangent of a score is the reference's. -/
theorem lanes_dscore (hh : h < 2) (H : Saved q k v o ax ls h C M) (s t : Fin 2048) :
    DW (KA k ax) (QA q) (MA v) (MA a) ls (DA a o) h s.val t.val
      = dscore (own q h) (own k h) (own v h) (own a h) C M t s := by
  rw [lanes_dsc hh H.aux, H.out, H.lse, dsc_eq]

theorem lanes_dv (hh : h < 2) (H : Saved q k v o ax ls h C M) (s : Fin 2048) (d : Fin 64) :
    DVF a (KA k ax) (QA q) ls s.val (64 * h + d.val)
      = ∑ t, own a h t d * (ex (own q h) (own k h) C M t s / den (own q h) (own k h) C M t) := by
  unfold DVF
  rw [own_div]
  refine Finset.sum_congr rfl fun t _ => ?_
  rw [lanes_wt hh H.aux, H.lse, wt_eq]; rfl

theorem lanes_dk (hh : h < 2) (H : Saved q k v o ax ls h C M) (s : Fin 2048) (d : Fin 64) :
    DKT (QA q) (DW (KA k ax) (QA q) (MA v) (MA a) ls (DA a o)) ((64 * h + d.val) / 64) (64 * h + d.val) s.val
      = ∑ t, dscore (own q h) (own k h) (own v h) (own a h) C M t s * (1 / 8) * own q h t d := by
  unfold DKT
  rw [own_div]
  refine Finset.sum_congr rfl fun t _ => ?_
  rw [lanes_dscore hh H]
  unfold QA own; rw [if_pos (own_div d)]; ring

theorem lanes_dq (hh : h < 2) (H : Saved q k v o ax ls h C M) (t : Fin 2048) (d : Fin 64) :
    DQT (KA k ax) (DW (KA k ax) (QA q) (MA v) (MA a) ls (DA a o)) ((64 * h + d.val) / 64) (64 * h + d.val) t.val * (1 / 8)
      = ∑ s, dscore (own q h) (own k h) (own v h) (own a h) C M t s * (1 / 8) * own k h s d := by
  unfold DQT
  rw [own_div, Finset.sum_mul]
  refine Finset.sum_congr rfl fun s _ => ?_
  rw [lanes_dscore hh H]
  unfold KA own; rw [if_pos (own_div d)]; ring

/-- The lane of ones sums a score's cotangents over the keys. -/
theorem lanes_dcq (hh : h < 2) (H : Saved q k v o ax ls h C M) (t : Fin 2048) :
    DQT (KA k ax) (DW (KA k ax) (QA q) (MA v) (MA a) ls (DA a o)) h (64 * (1 - h) + 3) t.val
      = ∑ s, dscore (own q h) (own k h) (own v h) (own a h) C M t s := by
  unfold DQT
  refine Finset.sum_congr rfl fun s _ => ?_
  rw [lanes_dscore hh H]
  unfold KA; rw [if_neg (other_div hh 3 (by omega)), if_pos ⟨by omega, by omega⟩, H.aux.one, one_mul]

/-- The first lane of ones on the query side sums them over the queries. -/
theorem lanes_dck (hh : h < 2) (H : Saved q k v o ax ls h C M) (s : Fin 2048) :
    -DKT (QA q) (DW (KA k ax) (QA q) (MA v) (MA a) ls (DA a o)) h (64 * (1 - h)) s.val
      = ∑ t, -dscore (own q h) (own k h) (own v h) (own a h) C M t s := by
  unfold DKT
  rw [← Finset.sum_neg_distrib]
  refine Finset.sum_congr rfl fun t _ => ?_
  rw [lanes_dscore hh H]
  have := other_div hh 0 (by omega)
  rw [Nat.add_zero] at this
  unfold QA; rw [if_neg this, if_pos ⟨by omega, by omega⟩, one_mul]

end AttBwd

end
-- ==== Proof.HostArgs.lean ====
/- What the kernel's host lines hand to the kernel, read at real arguments: the projections side by side, the
   head outputs, the log-sum-exp rows and the auxiliary lanes. -/
module

public import proofs.«01_k».proof.Proof.Pair
public import proofs.«01_k».proof.Proof.Gen.KernelIdeal.Value
public import Idealize.ShloMosaic.Lib.Claim

@[expose] public section

set_option maxRecDepth 100000

noncomputable section

namespace AttBwd

open Cert.KernelIdeal Cert.KernelIdeal.Gen
open Idealize.ShloMosaic Idealize.ShloMosaic.TcCoe Idealize.ShloMosaic.ValueIdx Idealize.SL.Sem

/-! ### The arrays, as terms over the arguments -/

/-- A float32 array of one shape. -/
local notation "R" s => FVec Ideal s FTy.f32

local notation "H" s => FVec Ideal s FTy.bf16

/-- Queries, keys and values side by side. -/
def qkvArr (x0 x1 x2 : R S8192x1024) : H S8192x3072 :=
  truncf .bf16 (concatenate S8192x3072 1 [⟨S8192x2048, concatenate S8192x2048 1 [⟨S8192x1024, x0⟩, ⟨S8192x1024, x1⟩] concatenates_S8192x1024_S8192x1024_S8192x2048_d1⟩,
    ⟨S8192x1024, x2⟩] concatenates_S8192x2048_S8192x1024_S8192x3072_d1 : R S8192x3072) bitsLt_bf16_f32

/-- The log-sum-exp of each row, less the query's gate sum. -/
def lseRow (x0 x1 : R S8192x1024) (x3 : R S4x16x2048) : R S4x16x2048 :=
  subf (addf (Cert.ReferenceIdeal.Read.val_main_v21 (F := Ideal) x0 x1 x3)
    (Host.log (Host.reduceAdd (Host.exp (subf (Cert.ReferenceIdeal.Read.val_main_v20_0 (F := Ideal) x0 x1 x3)
      (broadcastInDim S4x16x2048x2048 ![0, 1, 2, 3] bcast_S4x16x2048x1_S4x16x2048x2048_0_1_2_3
        (broadcastInDim S4x16x2048x1 ![0, 1, 2] bcast_S4x16x2048_S4x16x2048x1_0_1_2
          (Cert.ReferenceIdeal.Read.val_main_v21 (F := Ideal) x0 x1 x3)))))
      (constant S_ .f32 0x00000000#32) reducesTo_S4x16x2048x2048_S4x16x2048_d3 h_S_))) x3

/-- Those rows, one block of eight for each pair of heads. -/
def lseArr (x0 x1 : R S8192x1024) (x3 : R S4x16x2048) : R S4x8x8x2048 :=
  pad S4x8x8x2048 ![0, 0, 0, 0] ![0, 0, 6, 0] ![0, 0, 0, 0] (shapeCast S4x8x2x2048 (lseRow x0 x1 x3) shapeCasts_S4x16x2048_S4x8x2x2048)
    (sitofp .f32 (constantI S_ 32 0#32)) pads_S4x8x2x2048_S4x8x8x2048_000_000_060_000 h_S_

/-- The gate sums, negated, by position and head. -/
def negC (x3 : R S4x16x2048) : R S8192x8x2 :=
  Host.negf (shapeCast S8192x8x2 (transpose S4x2048x16 [0, 2, 1] x3 transposes_S4x16x2048_S4x2048x16_0_2_1) shapeCasts_S4x2048x16_S8192x8x2)

/-- In each lane the gate sum of the head whose product the lane joins: the other half's. -/
def lane0 (x3 : R S4x16x2048) : R S8192x8x128 :=
  select (cmpi .slt (iotaInDim S8192x8x128 32 2) (broadcastInDim S8192x8x128 ![] bcast_S_S8192x8x128 (constantI S_ 32 64#32)))
    (broadcastInDim S8192x8x128 ![0, 1, 2] bcast_S8192x8x1_S8192x8x128_0_1_2 (extractStridedSlice S8192x8x1 ![0, 0, 1] (negC x3) slices_S8192x8x2_S8192x8x1_0_0_1))
    (broadcastInDim S8192x8x128 ![0, 1, 2] bcast_S8192x8x1_S8192x8x128_0_1_2 (extractStridedSlice S8192x8x1 ![0, 0, 0] (negC x3) slices_S8192x8x2_S8192x8x1_0_0_0))

/-- What rounding leaves of an array. -/
def rest (x : R S8192x8x128) : R S8192x8x128 := subf x (extf .f32 (truncf .bf16 x bitsLt_bf16_f32 : H S8192x8x128) bitsLt_bf16_f32)

/-- The lane within its half, compared with a number. -/
def laneIs (k : BitVec 32) : IVec S8192x8x128 1 :=
  cmpi .eq (andi (iotaInDim S8192x8x128 32 2) (broadcastInDim S8192x8x128 ![] bcast_S_S8192x8x128 (constantI S_ 32 63#32)))
    (broadcastInDim S8192x8x128 ![] bcast_S_S8192x8x128 (constantI S_ 32 k))

/-- The auxiliary lanes. -/
def auxLanes (x3 : R S4x16x2048) : H S8192x8x128 :=
  select (laneIs 0#32) (truncf .bf16 (lane0 x3) bitsLt_bf16_f32)
    (select (laneIs 1#32) (truncf .bf16 (rest (lane0 x3)) bitsLt_bf16_f32)
      (select (laneIs 2#32) (truncf .bf16 (rest (rest (lane0 x3))) bitsLt_bf16_f32)
        (select (laneIs 3#32) (broadcastInDim S8192x8x128 ![] bcast_S_S8192x8x128 (constant S_ .bf16 0x3F80#16))
          (broadcastInDim S8192x8x128 ![] bcast_S_S8192x8x128 (constant S_ .bf16 0x0000#16)))))

def auxArr (x3 : R S4x16x2048) : H S8192x1024 := shapeCast S8192x1024 (auxLanes x3) shapeCasts_S8192x8x128_S8192x1024

section Entry

variable (m : (ℓ : Loc nD τ sig) → Buf (Elt Ideal) ℓ) (c : Dev nD)

/-- The kernel's saved head outputs are the reference's. -/
theorem entry_v36 : V m c main_v36 = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

theorem entry_v47 : V m c main_v47 = lseArr (m ((c : Thread nD τ).loc main_arg0)) (m ((c : Thread nD τ).loc main_arg1)) (m ((c : Thread nD τ).loc main_arg3)) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

theorem entry_v50 : V m c main_v50 = qkvArr (m ((c : Thread nD τ).loc main_arg0)) (m ((c : Thread nD τ).loc main_arg1)) (m ((c : Thread nD τ).loc main_arg2)) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

theorem entry_v83 : V m c main_v83 = auxArr (m ((c : Thread nD τ).loc main_arg3)) := by
  simp only [V, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

end Entry

end AttBwd

end
-- ==== Proof.HostReads.lean ====
/- The arrays the kernel is handed, read at real arguments. -/
module

public import proofs.«01_k».proof.Proof.HostArgs

@[expose] public section

set_option maxRecDepth 100000

noncomputable section

namespace AttBwd

open Cert.KernelIdeal Cert.KernelIdeal.Gen
open Idealize.ShloMosaic Idealize.ShloMosaic.TcCoe Idealize.ShloMosaic.ValueIdx Idealize.SL.Sem

variable (q k v : S8192x1024.Idx → ℝ) (c : S4x16x2048.Idx → ℝ)

/-! ### Queries, keys and values -/

theorem qkv_q (r : Fin 8192) (j : Fin 1024) :
    qkvArr (up q) (up k) (up v) (ix2 r (⟨j.val, by omega⟩ : Fin 3072)) = ((q (ix2 r j) : ℝ) : EReal) :=
  (concatenate_pair_apply_left (t := S8192x3072) 1 _ _ concatenates_S8192x2048_S8192x1024_S8192x3072_d1 _ rfl
    (ix2 r (⟨j.val, by omega⟩ : Fin 2048)) (fun b => by fin_cases b <;> rfl)).trans
  (concatenate_pair_apply_left (t := S8192x2048) 1 (up q) (up k) concatenates_S8192x1024_S8192x1024_S8192x2048_d1 _ rfl
    (ix2 r j) (fun b => by fin_cases b <;> rfl))

theorem qkv_k (r : Fin 8192) (j : Fin 1024) :
    qkvArr (up q) (up k) (up v) (ix2 r (⟨1024 + j.val, by omega⟩ : Fin 3072)) = ((k (ix2 r j) : ℝ) : EReal) :=
  (concatenate_pair_apply_left (t := S8192x3072) 1 _ _ concatenates_S8192x2048_S8192x1024_S8192x3072_d1 _ rfl
    (ix2 r (⟨1024 + j.val, by omega⟩ : Fin 2048)) (fun b => by fin_cases b <;> rfl)).trans
  (concatenate_pair_apply_right (t := S8192x2048) 1 (up q) (up k) concatenates_S8192x1024_S8192x1024_S8192x2048_d1 _ rfl rfl
    (ix2 r j) (fun b hb => by fin_cases b; · rfl
                              · exact absurd rfl hb) (Nat.add_comm _ _))

theorem qkv_v (r : Fin 8192) (j : Fin 1024) :
    qkvArr (up q) (up k) (up v) (ix2 r (⟨2048 + j.val, by omega⟩ : Fin 3072)) = ((v (ix2 r j) : ℝ) : EReal) :=
  concatenate_pair_apply_right (t := S8192x3072) 1 _ (up v) concatenates_S8192x2048_S8192x1024_S8192x3072_d1 _ rfl rfl
    (ix2 r j) (fun b hb => by fin_cases b; · rfl
                              · exact absurd rfl hb) (Nat.add_comm _ _)

/-! ### The log-sum-exp -/

theorem top_eq : Cert.ReferenceIdeal.Read.val_main_v21 (F := Ideal) (up q) (up k) (up c)
    = Cert.ReferenceIdeal.Read.val_main_v28 (F := Ideal) (up q) (up k) (up c) := funext fun i => by
  rw [eq_ix3 i]; exact (top_v21 q k c (i 0) (i 1) (i 2)).trans (top_v28 q k c (i 0) (i 1) (i 2)).symm

/-- The sum under the logarithm is the softmax denominator. -/
theorem lse_sum (y : FVec Ideal S4x16x2048 .f32) (hy : y = Cert.ReferenceIdeal.Read.val_main_v28 (F := Ideal) (up q) (up k) (up c)) :
    Host.reduceAdd (Host.exp (subf (Cert.ReferenceIdeal.Read.val_main_v20_0 (F := Ideal) (up q) (up k) (up c))
      (broadcastInDim S4x16x2048x2048 ![0, 1, 2, 3] bcast_S4x16x2048x1_S4x16x2048x2048_0_1_2_3
        (broadcastInDim S4x16x2048x1 ![0, 1, 2] bcast_S4x16x2048_S4x16x2048x1_0_1_2 y))))
      (constant S_ .f32 0x00000000#32) reducesTo_S4x16x2048x2048_S4x16x2048_d3 h_S_
      = Cert.ReferenceIdeal.Read.val_main_v42 (F := Ideal) (up q) (up k) (up c) := by
  subst hy; rfl

theorem lse_parts (x y z : FVec Ideal S4x16x2048 .f32) (i : S4x16x2048.Idx) :
    subf (addf x (Host.log y)) z i = x i + Ideal.log (y i) - z i := rfl

theorem log_pos {x : ℝ} (h : 0 < x) : Ideal.log (x : EReal) = ((Real.log x : ℝ) : EReal) := by
  rw [Ideal.log_coe, if_neg (not_le.mpr h)]

theorem lse_row (b : Fin 4) (h : Fin 16) (t : Fin 2048) :
    lseRow (up q) (up k) (up c) (ix3 b h t)
      = ((lse (hd q b h) (hd k b h) (hdC c b h) (top q k c b h) t : ℝ) : EReal) := by
  unfold lseRow
  rw [lse_sum q k c _ (top_eq q k c), lse_parts, top_v21, den_v42, log_pos (den_pos _ _ _ _ _), ← EReal.coe_add]
  exact (EReal.coe_sub _ _).symm

theorem lse_at (b : Fin 4) (p : Fin 8) (r : Fin 8) (t : Fin 2048) :
    lseArr (up q) (up k) (up c) (ix4 b p r t)
      = ((if h : r.val < 2 then lse (hd q b (headOf p ⟨r.val, h⟩)) (hd k b (headOf p ⟨r.val, h⟩)) (hdC c b (headOf p ⟨r.val, h⟩))
          (top q k c b (headOf p ⟨r.val, h⟩)) t else 0 : ℝ) : EReal) := by
  unfold lseArr
  refine padded _ _ (fun i => ?_) (fun b h t => lse (hd q b h) (hd k b h) (hdC c b h) (top q k c b h) t) (fun b p r t => ?_) b p r t
  · show (((0#32 : BitVec 32).toInt : ℝ) : EReal) = _
    simp
  · refine (shapeCast_apply _ _ _ (ix3 b (headOf p r) t) ?_).trans (lse_row q k c b (headOf p r) t)
    rw [Shape.rowMajor_val_three, Shape.rowMajor_val_four]
    show (b.val * 16 + (p.val * 2 + r.val)) * 2048 + t.val = ((b.val * 8 + p.val) * 2 + r.val) * 2048 + t.val
    omega

/-! ### The auxiliary lanes -/

theorem select_ite {s : Shape} {α : Type} (m : IVec s 1) (x y : s.Idx → α) (i : s.Idx) (p : Prop) [Decidable p]
    (h : m i = if p then 1#1 else 0#1) : select m x y i = if p then x i else y i := by
  show (if m i = 1#1 then x i else y i) = _
  rw [h]; by_cases hp : p
  · rw [if_pos hp, if_pos hp, if_pos rfl]
  · rw [if_neg hp, if_neg hp, if_neg (by decide)]

theorem first_half (l : Fin 128) : IntOp.cmpi .slt (BitVec.ofNat 32 l.val) 64#32 = if l.val < 64 then 1#1 else 0#1 := by
  revert l; decide +kernel

theorem lane_is (l : Fin 128) (n : Fin 4) : IntOp.cmpi .eq (IntOp.andi (BitVec.ofNat 32 l.val) 63#32) (BitVec.ofNat 32 n.val)
    = if l.val % 64 = n.val then 1#1 else 0#1 := by
  revert l n; decide +kernel

theorem negC_at (b : Fin 4) (s : Fin 2048) (p : Fin 8) (r : Fin 2) :
    negC (up c) (ix3 (rowOf b s) p r) = ((-c (ix3 b (headOf p r) s) : ℝ) : EReal) := by
  unfold negC
  show -(shapeCast S8192x8x2 (transpose S4x2048x16 [0, 2, 1] (up c) transposes_S4x16x2048_S4x2048x16_0_2_1) shapeCasts_S4x2048x16_S8192x8x2
    (ix3 (rowOf b s) p r) : EReal) = _
  rw [shapeCast_apply _ _ _ (ix3 b s (headOf p r)) (by
      rw [Shape.rowMajor_val_three, Shape.rowMajor_val_three]
      show (b.val * 2048 + s.val) * 16 + (p.val * 2 + r.val) = ((b.val * 2048 + s.val) * 8 + p.val) * 2 + r.val
      omega),
    transpose_apply _ (up c) _ _ (ix3 b (headOf p r) s) (fun a => by fin_cases a <;> rfl)]
  exact (EReal.coe_neg _).symm

/-- The head whose product a lane joins. -/
def otherHead (l : Fin 128) : Fin 2 := if l.val < 64 then 1 else 0

theorem lane0_at (b : Fin 4) (s : Fin 2048) (p : Fin 8) (l : Fin 128) :
    lane0 (up c) (ix3 (rowOf b s) p l) = ((-c (ix3 b (headOf p (otherHead l)) s) : ℝ) : EReal) := by
  unfold lane0 otherHead
  rw [select_ite _ _ _ _ (l.val < 64) (first_half l)]
  split
  · rw [broadcastInDim_apply _ _ _ _ (ix3 (rowOf b s) p (0 : Fin 1)) (fun a => by fin_cases a <;> rfl),
      extractStridedSlice_apply _ _ _ _ (ix3 (rowOf b s) p (1 : Fin 2)) (fun a => by fin_cases a <;> simp [ix3])]
    exact negC_at c b s p 1
  · rw [broadcastInDim_apply _ _ _ _ (ix3 (rowOf b s) p (0 : Fin 1)) (fun a => by fin_cases a <;> rfl),
      extractStridedSlice_apply _ _ _ _ (ix3 (rowOf b s) p (0 : Fin 2)) (fun a => by fin_cases a <;> simp [ix3])]
    exact negC_at c b s p 0

/-- Rounding leaves nothing of a real. -/
theorem rest_at (x : FVec Ideal S8192x8x128 .f32) (i : S8192x8x128.Idx) (r : ℝ) (h : x i = ((r : ℝ) : EReal)) :
    rest x i = ((0 : ℝ) : EReal) := by
  show x i - x i = _
  rw [h, ← EReal.coe_sub, sub_self]

/-- The number in auxiliary lane `l`. -/
def auxOf (b : Fin 4) (p : Fin 8) (s : Fin 2048) (l : Fin 128) : ℝ :=
  if l.val % 64 = 0 then -c (ix3 b (headOf p (otherHead l)) s) else if l.val % 64 = 3 then 1 else 0

theorem auxLanes_at (b : Fin 4) (s : Fin 2048) (p : Fin 8) (l : Fin 128) :
    auxLanes (up c) (ix3 (rowOf b s) p l) = ((auxOf c b p s l : ℝ) : EReal) := by
  have h1 := rest_at _ _ _ (lane0_at c b s p l)
  have h2 := rest_at _ _ _ h1
  unfold auxLanes auxOf
  rw [select_ite _ _ _ _ (l.val % 64 = 0) (lane_is l 0)]
  split
  · exact lane0_at c b s p l
  rw [select_ite _ _ _ _ (l.val % 64 = 1) (lane_is l 1)]
  split
  · rw [if_neg (by omega)]; exact h1
  rw [select_ite _ _ _ _ (l.val % 64 = 2) (lane_is l 2)]
  split
  · rw [if_neg (by omega)]; exact h2
  rw [select_ite _ _ _ _ (l.val % 64 = 3) (lane_is l 3)]
  split
  · exact one_bf16
  · exact zero_bf16

theorem aux_at (b : Fin 4) (s : Fin 2048) (p : Fin 8) (l : Fin 128) :
    auxArr (up c) (ix2 (rowOf b s) (⟨p.val * 128 + l.val, by omega⟩ : Fin 1024)) = ((auxOf c b p s l : ℝ) : EReal) := by
  unfold auxArr
  refine (shapeCast_apply _ _ _ (ix3 (rowOf b s) p l) ?_).trans (auxLanes_at c b s p l)
  rw [Shape.rowMajor_val_three, Shape.rowMajor_val_two]
  show ((b.val * 2048 + s.val) * 8 + p.val) * 128 + l.val = (b.val * 2048 + s.val) * 1024 + (p.val * 128 + l.val)
  omega

end AttBwd

end
-- ==== Proof.Inputs.lean ====
/- The blocks a grid point reads, at real arguments: those of one pair of heads of one sequence. -/
module

public import proofs.«01_k».proof.Proof.HostReads
public import Idealize.ShloMosaic.Lib.Pipeline.ValueKit

@[expose] public section

set_option maxRecDepth 100000

noncomputable section

namespace AttBwd

open Cert.KernelIdeal Cert.KernelIdeal.Gen
open Idealize.ShloMosaic hiding ix2 ix3 ix4 eq_ix2 eq_ix3 eq_ix4
open Idealize.ShloMosaic.TcCoe Idealize.ShloMosaic.ValueIdx Idealize.SL.Sem

/-! ### Functions of natural coordinates -/

/-- A table, as a function of natural numbers. -/
def ofFin2 {m n : ℕ} (f : Fin m → Fin n → ℝ) (r c : ℕ) : ℝ := if h : r < m ∧ c < n then f ⟨r, h.1⟩ ⟨c, h.2⟩ else 0

theorem ofFin2_of {m n : ℕ} (f : Fin m → Fin n → ℝ) {r c : ℕ} (i : Fin m) (j : Fin n) (hr : r = i.val) (hc : c = j.val) :
    ofFin2 f r c = f i j := by
  subst hr hc; exact dif_pos ⟨i.isLt, j.isLt⟩

theorem at2_of {m n : ℕ} {x : (⟨2, ![m, n]⟩ : Shape).Idx → EReal} (f : Fin m → Fin n → ℝ)
    (h : ∀ i j, x (ix2 i j) = ((f i j : ℝ) : EReal)) : At2 x (ofFin2 f) := fun i =>
  (congrArg x (eq_ix2 i)).trans ((h (i 0) (i 1)).trans (congrArg _ (ofFin2_of f (i 0) (i 1) rfl rfl).symm))

/-! ### The pair's columns -/

/-- The half of a lane: which of the pair's two heads. -/
def half (l : Fin 128) : Fin 2 := ⟨l.val / 64, by omega⟩

/-- The lane within its half. -/
def lane (l : Fin 128) : Fin 64 := ⟨l.val % 64, by omega⟩

/-- The array's column of a lane of pair `p`. -/
def pcol (p : Fin 8) (l : Fin 128) : Fin 1024 := ⟨p.val * 128 + l.val, by omega⟩

theorem pcol_eq (p : Fin 8) (l : Fin 128) : pcol p l = colOf (headOf p (half l)) (lane l) := Fin.ext (by
  show p.val * 128 + l.val = (p.val * 2 + l.val / 64) * 64 + l.val % 64
  omega)

/-- Lane `d` of half `r`. -/
def laneOf (r : Fin 2) (d : Fin 64) : Fin 128 := ⟨64 * r.val + d.val, by omega⟩

theorem half_laneOf (r : Fin 2) (d : Fin 64) : half (laneOf r d) = r := Fin.ext (by
  show (64 * r.val + d.val) / 64 = r.val
  omega)

theorem lane_laneOf (r : Fin 2) (d : Fin 64) : lane (laneOf r d) = d := Fin.ext (by
  show (64 * r.val + d.val) % 64 = d.val
  omega)

variable (q k v : S8192x1024.Idx → ℝ) (c : S4x16x2048.Idx → ℝ) (a : S8192x2048.Idx → ℝ) (b : Fin 4) (p : Fin 8)

/-- A pair's block of a projected array. -/
def colB (x : S8192x1024.Idx → ℝ) : ℕ → ℕ → ℝ := ofFin2 fun (t : Fin 2048) (l : Fin 128) => hd x b (headOf p (half l)) t (lane l)

/-- Its block of the cotangent. -/
def cotB : ℕ → ℕ → ℝ := ofFin2 fun (t : Fin 2048) (l : Fin 128) => hdA a b (headOf p (half l)) t (lane l)

/-- Its block of the saved outputs. -/
def outB : ℕ → ℕ → ℝ := ofFin2 fun (t : Fin 2048) (l : Fin 128) => outR q k v c b (headOf p (half l)) t (lane l)

/-- Its rows of log-sum-exp. -/
def lseB : ℕ → ℕ → ℝ := ofFin2 fun (r : Fin 8) (t : Fin 2048) => if h : r.val < 2 then
  lse (hd q b (headOf p ⟨r.val, h⟩)) (hd k b (headOf p ⟨r.val, h⟩)) (hdC c b (headOf p ⟨r.val, h⟩)) (top q k c b (headOf p ⟨r.val, h⟩)) t else 0

/-- Its auxiliary lanes. -/
def auxB : ℕ → ℕ → ℝ := ofFin2 fun (s : Fin 2048) (l : Fin 128) => auxOf c b p s l

theorem own_colB (x : S8192x1024.Idx → ℝ) (r : Fin 2) : own (colB b p x) r.val = hd x b (headOf p r) := funext₂ fun t d => by
  unfold own colB
  exact (ofFin2_of _ t (laneOf r d) rfl rfl).trans (by rw [half_laneOf, lane_laneOf])

theorem own_cotB (r : Fin 2) : own (cotB a b p) r.val = hdA a b (headOf p r) := funext₂ fun t d => by
  unfold own cotB
  exact (ofFin2_of _ t (laneOf r d) rfl rfl).trans (by rw [half_laneOf, lane_laneOf])

theorem own_outB (r : Fin 2) : own (outB q k v c b p) r.val = outR q k v c b (headOf p r) := funext₂ fun t d => by
  unfold own outB
  exact (ofFin2_of _ t (laneOf r d) rfl rfl).trans (by rw [half_laneOf, lane_laneOf])

theorem auxB_aux (r : Fin 2) : Aux (auxB c b p) r.val (hdC c b (headOf p r)) where
  decay s := by
    unfold auxB
    rw [ofFin2_of _ s (⟨64 * (1 - r.val), by omega⟩ : Fin 128) rfl rfl]
    have : otherHead ⟨64 * (1 - r.val), by omega⟩ = r := by revert r; decide
    unfold auxOf
    rw [if_pos (by show 64 * (1 - r.val) % 64 = 0; omega), this]; rfl
  rest1 s := by
    unfold auxB
    rw [ofFin2_of _ s (⟨64 * (1 - r.val) + 1, by omega⟩ : Fin 128) rfl rfl]
    unfold auxOf
    rw [if_neg (by show ¬(64 * (1 - r.val) + 1) % 64 = 0; omega), if_neg (by show ¬(64 * (1 - r.val) + 1) % 64 = 3; omega)]
  rest2 s := by
    unfold auxB
    rw [ofFin2_of _ s (⟨64 * (1 - r.val) + 2, by omega⟩ : Fin 128) rfl rfl]
    unfold auxOf
    rw [if_neg (by show ¬(64 * (1 - r.val) + 2) % 64 = 0; omega), if_neg (by show ¬(64 * (1 - r.val) + 2) % 64 = 3; omega)]
  one s := by
    unfold auxB
    rw [ofFin2_of _ s (⟨64 * (1 - r.val) + 3, by omega⟩ : Fin 128) rfl rfl]
    unfold auxOf
    rw [if_neg (by show ¬(64 * (1 - r.val) + 3) % 64 = 0; omega), if_pos (by show (64 * (1 - r.val) + 3) % 64 = 3; omega)]

/-- A pair's blocks hold the forward pass's output and log-sum-exp. -/
theorem saved (r : Fin 2) : Saved (colB b p q) (colB b p k) (colB b p v) (outB q k v c b p) (auxB c b p) (lseB q k c b p) r.val
    (hdC c b (headOf p r)) (top q k c b (headOf p r)) where
  aux := auxB_aux c b p r
  out := by rw [own_outB, own_colB, own_colB, own_colB]
  lse := funext fun t => by
    rw [own_colB, own_colB]
    unfold lseB
    rw [ofFin2_of _ (⟨r.val, by omega⟩ : Fin 8) t rfl rfl, dif_pos r.isLt]

/-! ### The blocks as the kernel reads them -/

section Reads

/-- The sequence of a grid point, and its pair. -/
def seqOf (t : Fin cfg0.N) : Fin 4 := ⟨t.val / 8, by have : t.val < 32 := t.isLt; omega⟩
def pairOf (t : Fin cfg0.N) : Fin 8 := ⟨t.val % 8, by omega⟩

theorem idx_0 : ∀ t : Fin cfg0.N, win0_0.index t = ![t.val / 8, t.val % 8] := by decide +kernel
theorem idx_1 : ∀ t : Fin cfg0.N, win0_1.index t = ![t.val / 8, 8 + t.val % 8] := by decide +kernel
theorem idx_2 : ∀ t : Fin cfg0.N, win0_2.index t = ![t.val / 8, 16 + t.val % 8] := by decide +kernel
theorem idx_3 : ∀ t : Fin cfg0.N, win0_3.index t = ![t.val / 8, 8 + t.val % 8] := by decide +kernel
theorem idx_4 : ∀ t : Fin cfg0.N, win0_4.index t = ![t.val / 8, t.val % 8] := by decide +kernel
theorem idx_5 : ∀ t : Fin cfg0.N, win0_5.index t = ![t.val / 8, t.val % 8, 0, 0] := by decide +kernel
theorem idx_6 : ∀ t : Fin cfg0.N, win0_6.index t = ![t.val / 8, t.val % 8] := by decide +kernel

variable (m : (ℓ : Loc nD τ sig) → Buf (Elt Ideal) ℓ) (d : Dev nD) (t : Fin cfg0.N)

theorem read_0 (i : Fin 2048) (j : Fin 128) : (iblk m d 0 t : S2048x128.Idx → EReal) (ix2 i j)
    = (V m d main_v50 : S8192x3072.Idx → EReal) (ix2 (rowOf (seqOf t) i) (⟨(pcol (pairOf t) j).val, by omega⟩ : Fin 3072)) := by
  refine congrArg (V m d main_v50) (ix2_of ?_ ?_)
  · exact (Pipeline.Window.rect_emb_val win0_0 t (ix2 i j) 0).trans (by rw [idx_0]; rfl)
  · refine (Pipeline.Window.rect_emb_val win0_0 t (ix2 i j) 1).trans ?_
    rw [idx_0]; show (t.val % 8) * 128 + j.val = t.val % 8 * 128 + j.val; omega

theorem read_1 (i : Fin 2048) (j : Fin 128) : (iblk m d 1 t : S2048x128.Idx → EReal) (ix2 i j)
    = (V m d main_v50 : S8192x3072.Idx → EReal) (ix2 (rowOf (seqOf t) i) (⟨1024 + (pcol (pairOf t) j).val, by omega⟩ : Fin 3072)) := by
  refine congrArg (V m d main_v50) (ix2_of ?_ ?_)
  · exact (Pipeline.Window.rect_emb_val win0_1 t (ix2 i j) 0).trans (by rw [idx_1]; rfl)
  · refine (Pipeline.Window.rect_emb_val win0_1 t (ix2 i j) 1).trans ?_
    rw [idx_1]; show (8 + t.val % 8) * 128 + j.val = 1024 + (t.val % 8 * 128 + j.val); omega

theorem read_2 (i : Fin 2048) (j : Fin 128) : (iblk m d 2 t : S2048x128.Idx → EReal) (ix2 i j)
    = (V m d main_v50 : S8192x3072.Idx → EReal) (ix2 (rowOf (seqOf t) i) (⟨2048 + (pcol (pairOf t) j).val, by omega⟩ : Fin 3072)) := by
  refine congrArg (V m d main_v50) (ix2_of ?_ ?_)
  · exact (Pipeline.Window.rect_emb_val win0_2 t (ix2 i j) 0).trans (by rw [idx_2]; rfl)
  · refine (Pipeline.Window.rect_emb_val win0_2 t (ix2 i j) 1).trans ?_
    rw [idx_2]; show (16 + t.val % 8) * 128 + j.val = 2048 + (t.val % 8 * 128 + j.val); omega

theorem read_3 (i : Fin 2048) (j : Fin 128) : (iblk m d 3 t : S2048x128.Idx → EReal) (ix2 i j)
    = (V m d main_arg4 : S8192x2048.Idx → EReal) (ix2 (rowOf (seqOf t) i) (⟨1024 + (pcol (pairOf t) j).val, by omega⟩ : Fin 2048)) := by
  refine congrArg (V m d main_arg4) (ix2_of ?_ ?_)
  · exact (Pipeline.Window.rect_emb_val win0_3 t (ix2 i j) 0).trans (by rw [idx_3]; rfl)
  · refine (Pipeline.Window.rect_emb_val win0_3 t (ix2 i j) 1).trans ?_
    rw [idx_3]; show (8 + t.val % 8) * 128 + j.val = 1024 + (t.val % 8 * 128 + j.val); omega

theorem read_4 (i : Fin 2048) (j : Fin 128) : (iblk m d 4 t : S2048x128.Idx → EReal) (ix2 i j)
    = (V m d main_v36 : S8192x1024.Idx → EReal) (ix2 (rowOf (seqOf t) i) (pcol (pairOf t) j)) := by
  refine congrArg (V m d main_v36) (ix2_of ?_ ?_)
  · exact (Pipeline.Window.rect_emb_val win0_4 t (ix2 i j) 0).trans (by rw [idx_4]; rfl)
  · refine (Pipeline.Window.rect_emb_val win0_4 t (ix2 i j) 1).trans ?_
    rw [idx_4]; show (t.val % 8) * 128 + j.val = t.val % 8 * 128 + j.val; omega

theorem read_6 (i : Fin 2048) (j : Fin 128) : (iblk m d 6 t : S2048x128.Idx → EReal) (ix2 i j)
    = (V m d main_v83 : S8192x1024.Idx → EReal) (ix2 (rowOf (seqOf t) i) (⟨(pairOf t).val * 128 + j.val, by omega⟩ : Fin 1024)) := by
  refine congrArg (V m d main_v83) (ix2_of ?_ ?_)
  · exact (Pipeline.Window.rect_emb_val win0_6 t (ix2 i j) 0).trans (by rw [idx_6]; rfl)
  · refine (Pipeline.Window.rect_emb_val win0_6 t (ix2 i j) 1).trans ?_
    rw [idx_6]; show (t.val % 8) * 128 + j.val = t.val % 8 * 128 + j.val; omega

theorem emb_5_2 (y : S1x1x8x2048.Idx) : ((((cfg0.win 5).blk t).view.emb y) 2).val = (y 2).val :=
  Pipeline.Window.rect_emb_val_of_index_zero win0_5 t 2 (by rw [idx_5]; rfl) y

theorem emb_5_3 (y : S1x1x8x2048.Idx) : ((((cfg0.win 5).blk t).view.emb y) 3).val = (y 3).val :=
  Pipeline.Window.rect_emb_val_of_index_zero win0_5 t 3 (by rw [idx_5]; rfl) y

theorem emb_5_0 (y : S1x1x8x2048.Idx) : ((((cfg0.win 5).blk t).view.emb y) 0).val = t.val / 8 := by
  refine (Pipeline.Window.rect_emb_val win0_5 t y 0).trans ?_
  have : (y 0).val < 1 := (y 0).isLt
  rw [idx_5]; show t.val / 8 * 1 + (y 0).val = t.val / 8; omega

theorem emb_5_1 (y : S1x1x8x2048.Idx) : ((((cfg0.win 5).blk t).view.emb y) 1).val = t.val % 8 := by
  refine (Pipeline.Window.rect_emb_val win0_5 t y 1).trans ?_
  have : (y 1).val < 1 := (y 1).isLt
  rw [idx_5]; show t.val % 8 * 1 + (y 1).val = t.val % 8; omega

theorem read_5 (y : S1x1x8x2048.Idx) : (iblk m d 5 t : S1x1x8x2048.Idx → EReal) y
    = (V m d main_v47 : S4x8x8x2048.Idx → EReal) (ix4 (seqOf t) (pairOf t) (y 2) (y 3)) :=
  congrArg (V m d main_v47) (ix4_of (emb_5_0 t y) (emb_5_1 t y) (emb_5_2 t y) (emb_5_3 t y))

end Reads

end AttBwd

end
-- ==== Proof.Result.lean ====
/- The gradients the kernel writes are the reference's: each output array from its blocks. -/
module

public import proofs.«01_k».proof.Proof.Inputs

@[expose] public section

set_option maxRecDepth 100000

noncomputable section

namespace AttBwd

open Cert.KernelIdeal Cert.KernelIdeal.Gen
open Idealize.ShloMosaic hiding ix2 ix3 ix4 eq_ix2 eq_ix3 eq_ix4
open Idealize.ShloMosaic.TcCoe Idealize.ShloMosaic.ValueIdx Idealize.SL.Sem

variable {q k v : S8192x1024.Idx → ℝ} {c : S4x16x2048.Idx → ℝ} {a : S8192x2048.Idx → ℝ}
variable {m : (ℓ : Loc nD τ sig) → Buf (Elt Ideal) ℓ} {d : Dev nD}

/-- The arguments on a device are these reals. -/
structure Args (m : (ℓ : Loc nD τ sig) → Buf (Elt Ideal) ℓ) (d : Dev nD) (q k v : S8192x1024.Idx → ℝ)
    (c : S4x16x2048.Idx → ℝ) (a : S8192x2048.Idx → ℝ) : Prop where
  q : m ((d : Thread nD τ).loc main_arg0) = up q
  k : m ((d : Thread nD τ).loc main_arg1) = up k
  v : m ((d : Thread nD τ).loc main_arg2) = up v
  c : m ((d : Thread nD τ).loc main_arg3) = up c
  a : m ((d : Thread nD τ).loc main_arg4) = up a

theorem at4_of {m n : ℕ} {x : (⟨4, ![1, 1, m, n]⟩ : Shape).Idx → EReal} (f : Fin m → Fin n → ℝ)
    (h : ∀ y, x y = ((f (y 2) (y 3) : ℝ) : EReal)) : At4 x fun _ _ r s => ofFin2 f r s := fun y =>
  (h y).trans (congrArg _ (ofFin2_of f (y 2) (y 3) rfl rfl).symm)

theorem at2_at {m n : ℕ} {x : (⟨2, ![m, n]⟩ : Shape).Idx → EReal} {f : ℕ → ℕ → ℝ} (h : At2 x f) (i : Fin m) (j : Fin n) :
    x (ix2 i j) = ((f i.val j.val : ℝ) : EReal) := h (ix2 i j)

theorem at4_at {m n : ℕ} {x : (⟨4, ![1, 1, m, n]⟩ : Shape).Idx → EReal} {f : ℕ → ℕ → ℝ} (h : At4 x fun _ _ r s => f r s)
    (i j : Fin 1) (r : Fin m) (s : Fin n) : x (ix4 i j r s) = ((f r.val s.val : ℝ) : EReal) := h (ix4 i j r s)

/-! ### The blocks a point reads -/

section In

variable (H : Args m d q k v c a) (t : Fin cfg0.N)
include H

theorem in_0 : At2 (m := 2048) (n := 128) (iblk m d 0 t) (colB (seqOf t) (pairOf t) q) := at2_of _ fun i j => by
  rw [read_0, entry_v50, H.q, H.k, H.v, qkv_q, pcol_eq]; rfl

theorem in_1 : At2 (m := 2048) (n := 128) (iblk m d 1 t) (colB (seqOf t) (pairOf t) k) := at2_of _ fun i j => by
  rw [read_1, entry_v50, H.q, H.k, H.v, qkv_k, pcol_eq]; rfl

theorem in_2 : At2 (m := 2048) (n := 128) (iblk m d 2 t) (colB (seqOf t) (pairOf t) v) := at2_of _ fun i j => by
  rw [read_2, entry_v50, H.q, H.k, H.v, qkv_v, pcol_eq]; rfl

theorem in_3 : At2 (m := 2048) (n := 128) (iblk m d 3 t) (cotB a (seqOf t) (pairOf t)) := at2_of _ fun i j => by
  rw [read_3, V_main_arg4, H.a]
  exact congrArg (fun x => ((a (ix2 (rowOf (seqOf t) i) x) : ℝ) : EReal))
    (Fin.ext (congrArg (fun x : Fin 1024 => 1024 + x.val) (pcol_eq (pairOf t) j)))

theorem in_4 : At2 (m := 2048) (n := 128) (iblk m d 4 t) (outB q k v c (seqOf t) (pairOf t)) := at2_of _ fun i j => by
  rw [read_4, entry_v36, H.q, H.k, H.v, H.c, pcol_eq]
  exact out_v53 q k v c _ _ _ _

theorem in_5 : At4 (k := 1) (l := 1) (m := 8) (n := 2048) (iblk m d 5 t) fun _ _ h s => lseB q k c (seqOf t) (pairOf t) h s := at4_of _ fun y => by
  rw [read_5, entry_v47, H.q, H.k, H.c]
  exact lse_at q k c _ _ _ _

theorem in_6 : At2 (m := 2048) (n := 128) (iblk m d 6 t) (auxB c (seqOf t) (pairOf t)) := at2_of _ fun i j => by
  rw [read_6, entry_v83, H.c]
  exact aux_at c _ _ _ _

end In

/-! ### The columns an output block fills -/

theorem lane_val (l : Fin 128) : 64 * (half l).val + (lane l).val = l.val := by
  show 64 * (l.val / 64) + l.val % 64 = l.val; omega

section Out

variable (q k v c a) (b : Fin 4) (p : Fin 8)

/-- The cotangents of the scores of one pair. -/
def pairS : ℕ → ℕ → ℕ → ℝ := (DW (KA (colB b p k) (auxB c b p)) (QA (colB b p q)) (MA (colB b p v)) (MA (cotB a b p)) (lseB q k c b p) (DA (cotB a b p) (outB q k v c b p)))

theorem pair_dq (t : Fin 2048) (l : Fin 128) : DQT (KA (colB b p k) (auxB c b p)) (pairS q k v c a b p) (l.val / 64) l.val t.val * (1 / 8)
    = ∑ s, dsR q k v c a b (headOf p (half l)) t s * (1 / 8) * hd k b (headOf p (half l)) s (lane l) := by
  have e := lanes_dq (a := cotB a b p) (half l).isLt (saved q k v c b p (half l)) t (lane l)
  rw [own_colB, own_colB, own_colB, own_cotB, lane_val] at e
  exact e

theorem pair_dk (s : Fin 2048) (l : Fin 128) : DKT (QA (colB b p q)) (pairS q k v c a b p) (l.val / 64) l.val s.val
    = ∑ t, dsR q k v c a b (headOf p (half l)) t s * (1 / 8) * hd q b (headOf p (half l)) t (lane l) := by
  have e := lanes_dk (a := cotB a b p) (half l).isLt (saved q k v c b p (half l)) s (lane l)
  rw [own_colB, own_colB, own_colB, own_cotB, lane_val] at e
  exact e

theorem pair_dv (s : Fin 2048) (l : Fin 128) :
    DVF (cotB a b p) (KA (colB b p k) (auxB c b p)) (QA (colB b p q)) (lseB q k c b p) s.val l.val
      = dvR q k c a b (headOf p (half l)) s (lane l) := by
  have e := lanes_dv (a := cotB a b p) (half l).isLt (saved q k k c b p (half l)) s (lane l)
  rw [own_colB, own_colB, own_cotB, lane_val] at e
  exact e

theorem pair_dck (r : Fin 8) (s : Fin 2048) : DCK (QA (colB b p q)) (pairS q k v c a b p) r.val s.val
    = if h : r.val < 2 then ∑ t, -dsR q k v c a b (headOf p ⟨r.val, h⟩) t s else 0 := by
  have e := fun r : Fin 2 => lanes_dck (a := cotB a b p) r.isLt (saved q k v c b p r) s
  have e0 := e 0
  have e1 := e 1
  rw [own_colB, own_colB, own_colB, own_cotB] at e0 e1
  unfold DCK
  rcases (by omega : r.val = 0 ∨ r.val = 1 ∨ 2 ≤ r.val) with h | h | h
  · rw [if_pos h, dif_pos (by omega), (Fin.ext h : (⟨r.val, by omega⟩ : Fin 2) = 0)]; exact e0
  · rw [if_neg (by omega), if_pos h, dif_pos (by omega), (Fin.ext h : (⟨r.val, by omega⟩ : Fin 2) = 1)]; exact e1
  · rw [if_neg (by omega), if_neg (by omega), dif_neg (by omega)]

theorem pair_dcq (r : Fin 8) (t : Fin 2048) : DCQ (KA (colB b p k) (auxB c b p)) (pairS q k v c a b p) r.val t.val
    = if h : r.val < 2 then ∑ s, dsR q k v c a b (headOf p ⟨r.val, h⟩) t s else 0 := by
  have e := fun r : Fin 2 => lanes_dcq (a := cotB a b p) r.isLt (saved q k v c b p r) t
  have e0 := e 0
  have e1 := e 1
  rw [own_colB, own_colB, own_colB, own_cotB] at e0 e1
  unfold DCQ
  rcases (by omega : r.val = 0 ∨ r.val = 1 ∨ 2 ≤ r.val) with h | h | h
  · rw [if_pos h, dif_pos (by omega), (Fin.ext h : (⟨r.val, by omega⟩ : Fin 2) = 0)]; exact e0
  · rw [if_neg (by omega), if_pos h, dif_pos (by omega), (Fin.ext h : (⟨r.val, by omega⟩ : Fin 2) = 1)]; exact e1
  · rw [if_neg (by omega), if_neg (by omega), dif_neg (by omega)]

end Out

theorem widx_7 : ∀ t : Fin cfg0.N, win0_7.index t = ![t.val / 8, t.val % 8] := by decide +kernel
theorem widx_8 : ∀ t : Fin cfg0.N, win0_8.index t = ![t.val / 8, t.val % 8] := by decide +kernel
theorem widx_9 : ∀ t : Fin cfg0.N, win0_9.index t = ![t.val / 8, t.val % 8] := by decide +kernel
theorem widx_10 : ∀ t : Fin cfg0.N, win0_10.index t = ![t.val / 8, t.val % 8, 0, 0] := by decide +kernel
theorem widx_11 : ∀ t : Fin cfg0.N, win0_11.index t = ![t.val / 8, t.val % 8, 0, 0] := by decide +kernel

theorem place_7 (t : Fin cfg0.N) (y : S2048x128.Idx) : (((cfg0.win 7).blk t).view.emb y : S8192x1024.Idx)
    = ix2 (rowOf (seqOf t) (y 0)) (colOf (headOf (pairOf t) (half (y 1))) (lane (y 1))) := by
  refine (ix2_of (r := rowOf (seqOf t) (y 0)) (c := pcol (pairOf t) (y 1)) ?_ ?_).trans (congrArg _ (pcol_eq _ _))
  · exact (Pipeline.Window.rect_emb_val win0_7 t y 0).trans (by rw [widx_7]; rfl)
  · exact (Pipeline.Window.rect_emb_val win0_7 t y 1).trans (by rw [widx_7]; rfl)

theorem place_8 (t : Fin cfg0.N) (y : S2048x128.Idx) : (((cfg0.win 8).blk t).view.emb y : S8192x1024.Idx)
    = ix2 (rowOf (seqOf t) (y 0)) (colOf (headOf (pairOf t) (half (y 1))) (lane (y 1))) := by
  refine (ix2_of (r := rowOf (seqOf t) (y 0)) (c := pcol (pairOf t) (y 1)) ?_ ?_).trans (congrArg _ (pcol_eq _ _))
  · exact (Pipeline.Window.rect_emb_val win0_8 t y 0).trans (by rw [widx_8]; rfl)
  · exact (Pipeline.Window.rect_emb_val win0_8 t y 1).trans (by rw [widx_8]; rfl)

theorem place_9 (t : Fin cfg0.N) (y : S2048x128.Idx) : (((cfg0.win 9).blk t).view.emb y : S8192x1024.Idx)
    = ix2 (rowOf (seqOf t) (y 0)) (colOf (headOf (pairOf t) (half (y 1))) (lane (y 1))) := by
  refine (ix2_of (r := rowOf (seqOf t) (y 0)) (c := pcol (pairOf t) (y 1)) ?_ ?_).trans (congrArg _ (pcol_eq _ _))
  · exact (Pipeline.Window.rect_emb_val win0_9 t y 0).trans (by rw [widx_9]; rfl)
  · exact (Pipeline.Window.rect_emb_val win0_9 t y 1).trans (by rw [widx_9]; rfl)

theorem emb_10_0 (t : Fin cfg0.N) (y : S1x1x8x2048.Idx) : ((((cfg0.win 10).blk t).view.emb y) 0).val = t.val / 8 := by
  refine (Pipeline.Window.rect_emb_val win0_10 t y 0).trans ?_
  have : (y 0).val < 1 := (y 0).isLt
  rw [widx_10]; show t.val / 8 * 1 + (y 0).val = t.val / 8; omega

theorem emb_10_1 (t : Fin cfg0.N) (y : S1x1x8x2048.Idx) : ((((cfg0.win 10).blk t).view.emb y) 1).val = t.val % 8 := by
  refine (Pipeline.Window.rect_emb_val win0_10 t y 1).trans ?_
  have : (y 1).val < 1 := (y 1).isLt
  rw [widx_10]; show t.val % 8 * 1 + (y 1).val = t.val % 8; omega

theorem place_10 (t : Fin cfg0.N) (y : S1x1x8x2048.Idx) : (((cfg0.win 10).blk t).view.emb y : S4x8x8x2048.Idx)
    = ix4 (seqOf t) (pairOf t) (y 2) (y 3) :=
  ix4_of (emb_10_0 t y) (emb_10_1 t y) (Pipeline.Window.rect_emb_val_of_index_zero win0_10 t 2 (by rw [widx_10]; rfl) y)
    (Pipeline.Window.rect_emb_val_of_index_zero win0_10 t 3 (by rw [widx_10]; rfl) y)

theorem emb_11_0 (t : Fin cfg0.N) (y : S1x1x8x2048.Idx) : ((((cfg0.win 11).blk t).view.emb y) 0).val = t.val / 8 := by
  refine (Pipeline.Window.rect_emb_val win0_11 t y 0).trans ?_
  have : (y 0).val < 1 := (y 0).isLt
  rw [widx_11]; show t.val / 8 * 1 + (y 0).val = t.val / 8; omega

theorem emb_11_1 (t : Fin cfg0.N) (y : S1x1x8x2048.Idx) : ((((cfg0.win 11).blk t).view.emb y) 1).val = t.val % 8 := by
  refine (Pipeline.Window.rect_emb_val win0_11 t y 1).trans ?_
  have : (y 1).val < 1 := (y 1).isLt
  rw [widx_11]; show t.val % 8 * 1 + (y 1).val = t.val % 8; omega

theorem place_11 (t : Fin cfg0.N) (y : S1x1x8x2048.Idx) : (((cfg0.win 11).blk t).view.emb y : S4x8x8x2048.Idx)
    = ix4 (seqOf t) (pairOf t) (y 2) (y 3) :=
  ix4_of (emb_11_0 t y) (emb_11_1 t y) (Pipeline.Window.rect_emb_val_of_index_zero win0_11 t 2 (by rw [widx_11]; rfl) y)
    (Pipeline.Window.rect_emb_val_of_index_zero win0_11 t 3 (by rw [widx_11]; rfl) y)

variable (H : Args m d q k v c a)
include H

/-- The gradient of the queries: what a grid point writes, and the whole array. -/
theorem out_at_7 (t : Fin cfg0.N) (i : Fin 2048) (j : Fin 128) : (outsAt0 m d t).1 (ix2 i j) = ((DQT (KA (colB (seqOf t) (pairOf t) k) (auxB c (seqOf t) (pairOf t))) (pairS q k v c a (seqOf t) (pairOf t)) (j.val / 64) j.val i.val * (1 / 8) : ℝ) : EReal) := by
  simp only [outsAt0]
  exact at2_at (out_7 (in_0 H t) (in_1 H t) (in_2 H t) (in_3 H t) (in_4 H t) (in_5 H t) (in_6 H t)) i j

theorem point_7 (t : Fin cfg0.N) (i : Fin 2048) (j : Fin 128) : (outsAt0 m d t).1 (ix2 i j) = Cert.ReferenceIdeal.Read.val_main_v90 (F := Ideal) (up q) (up k) (up v) (up c) (up a) (ix2 (rowOf (seqOf t) i) (colOf (headOf (pairOf t) (half j)) (lane j))) := by
  rw [out_at_7 H t, pair_dq]
  exact (dq_v90 q k v c a _ _ _ _).symm

theorem res_7 : (dats m 0 d).arrAt 7 cfg0.N = Cert.ReferenceIdeal.Read.val_main_v90 (F := Ideal) (up q) (up k) (up v) (up c) (up a) := by
  refine (dats m 0 d).arrAt_eq_of_covers 7 _ (by decide +kernel) fun t hf y => ?_
  blk_simp
  rw [after0_7]
  exact (congrArg _ (eq_ix2 y)).trans ((point_7 H t (y 0) (y 1)).trans (congrArg _ (place_7 t y).symm))

/-- The gradient of the keys: what a grid point writes, and the whole array. -/
theorem out_at_8 (t : Fin cfg0.N) (i : Fin 2048) (j : Fin 128) : (outsAt0 m d t).2.1 (ix2 i j) = ((DKT (QA (colB (seqOf t) (pairOf t) q)) (pairS q k v c a (seqOf t) (pairOf t)) (j.val / 64) j.val i.val : ℝ) : EReal) := by
  simp only [outsAt0]
  exact at2_at (out_8 (in_0 H t) (in_1 H t) (in_2 H t) (in_3 H t) (in_4 H t) (in_5 H t) (in_6 H t)) i j

theorem point_8 (t : Fin cfg0.N) (i : Fin 2048) (j : Fin 128) : (outsAt0 m d t).2.1 (ix2 i j) = Cert.ReferenceIdeal.Read.val_main_v91 (F := Ideal) (up q) (up k) (up v) (up c) (up a) (ix2 (rowOf (seqOf t) i) (colOf (headOf (pairOf t) (half j)) (lane j))) := by
  rw [out_at_8 H t, pair_dk]
  exact (dk_v91 q k v c a _ _ _ _).symm

theorem res_8 : (dats m 0 d).arrAt 8 cfg0.N = Cert.ReferenceIdeal.Read.val_main_v91 (F := Ideal) (up q) (up k) (up v) (up c) (up a) := by
  refine (dats m 0 d).arrAt_eq_of_covers 8 _ (by decide +kernel) fun t hf y => ?_
  blk_simp
  rw [after0_8]
  exact (congrArg _ (eq_ix2 y)).trans ((point_8 H t (y 0) (y 1)).trans (congrArg _ (place_8 t y).symm))

/-- The gradient of the values: what a grid point writes, and the whole array. -/
theorem out_at_9 (t : Fin cfg0.N) (i : Fin 2048) (j : Fin 128) : (outsAt0 m d t).2.2.1 (ix2 i j) = ((DVF (cotB a (seqOf t) (pairOf t)) (KA (colB (seqOf t) (pairOf t) k) (auxB c (seqOf t) (pairOf t))) (QA (colB (seqOf t) (pairOf t) q)) (lseB q k c (seqOf t) (pairOf t)) i.val j.val : ℝ) : EReal) := by
  simp only [outsAt0]
  exact at2_at (out_9 (in_0 H t) (in_1 H t) (in_2 H t) (in_3 H t) (in_4 H t) (in_5 H t) (in_6 H t)) i j

theorem point_9 (t : Fin cfg0.N) (i : Fin 2048) (j : Fin 128) : (outsAt0 m d t).2.2.1 (ix2 i j) = Cert.ReferenceIdeal.Read.val_main_v92 (F := Ideal) (up q) (up k) (up c) (up a) (ix2 (rowOf (seqOf t) i) (colOf (headOf (pairOf t) (half j)) (lane j))) := by
  rw [out_at_9 H t, pair_dv]
  exact (dv_v92 q k c a _ _ _ _).symm

theorem res_9 : (dats m 0 d).arrAt 9 cfg0.N = Cert.ReferenceIdeal.Read.val_main_v92 (F := Ideal) (up q) (up k) (up c) (up a) := by
  refine (dats m 0 d).arrAt_eq_of_covers 9 _ (by decide +kernel) fun t hf y => ?_
  blk_simp
  rw [after0_9]
  exact (congrArg _ (eq_ix2 y)).trans ((point_9 H t (y 0) (y 1)).trans (congrArg _ (place_9 t y).symm))

/-- The gradient of the key gate sums: what a grid point writes, and the whole array. -/
theorem out_at_10 (t : Fin cfg0.N) (i j : Fin 1) (r : Fin 8) (s : Fin 2048) : (outsAt0 m d t).2.2.2.1 (ix4 i j r s) = ((DCK (QA (colB (seqOf t) (pairOf t) q)) (pairS q k v c a (seqOf t) (pairOf t)) r.val s.val : ℝ) : EReal) := by
  simp only [outsAt0]
  exact at4_at (out_10 (in_0 H t) (in_1 H t) (in_2 H t) (in_3 H t) (in_4 H t) (in_5 H t) (in_6 H t)) i j r s

theorem point_10 (t : Fin cfg0.N) (i j : Fin 1) (r : Fin 8) (s : Fin 2048) : (outsAt0 m d t).2.2.2.1 (ix4 i j r s) = Cert.ReferenceIdeal.Read.val_main_v94 (F := Ideal) (up q) (up k) (up v) (up c) (up a) (ix4 (seqOf t) (pairOf t) r s) := by
  rw [out_at_10 H t, pair_dck]
  exact (dck_v94 q k v c a _ _ _ _).symm

theorem res_10 : (dats m 0 d).arrAt 10 cfg0.N = Cert.ReferenceIdeal.Read.val_main_v94 (F := Ideal) (up q) (up k) (up v) (up c) (up a) := by
  refine (dats m 0 d).arrAt_eq_of_covers 10 _ (by decide +kernel) fun t hf y => ?_
  blk_simp
  rw [after0_10]
  exact (congrArg _ (eq_ix4 y)).trans ((point_10 H t (y 0) (y 1) (y 2) (y 3)).trans (congrArg _ (place_10 t y).symm))

/-- The gradient of the query gate sums: what a grid point writes, and the whole array. -/
theorem out_at_11 (t : Fin cfg0.N) (i j : Fin 1) (r : Fin 8) (s : Fin 2048) : (outsAt0 m d t).2.2.2.2 (ix4 i j r s) = ((DCQ (KA (colB (seqOf t) (pairOf t) k) (auxB c (seqOf t) (pairOf t))) (pairS q k v c a (seqOf t) (pairOf t)) r.val s.val : ℝ) : EReal) := by
  simp only [outsAt0]
  exact at4_at (out_11 (in_0 H t) (in_1 H t) (in_2 H t) (in_3 H t) (in_4 H t) (in_5 H t) (in_6 H t)) i j r s

theorem point_11 (t : Fin cfg0.N) (i j : Fin 1) (r : Fin 8) (s : Fin 2048) : (outsAt0 m d t).2.2.2.2 (ix4 i j r s) = Cert.ReferenceIdeal.Read.val_main_v96 (F := Ideal) (up q) (up k) (up v) (up c) (up a) (ix4 (seqOf t) (pairOf t) r s) := by
  rw [out_at_11 H t, pair_dcq]
  exact (dcq_v96 q k v c a _ _ _ _).symm

theorem res_11 : (dats m 0 d).arrAt 11 cfg0.N = Cert.ReferenceIdeal.Read.val_main_v96 (F := Ideal) (up q) (up k) (up v) (up c) (up a) := by
  refine (dats m 0 d).arrAt_eq_of_covers 11 _ (by decide +kernel) fun t hf y => ?_
  blk_simp
  rw [after0_11]
  exact (congrArg _ (eq_ix4 y)).trans ((point_11 H t (y 0) (y 1) (y 2) (y 3)).trans (congrArg _ (place_11 t y).symm))

end AttBwd

end
-- ==== Proof.Claim.lean ====
/- The value claim of the attention's backward pass: from finite arguments, the kernel's five results are the reference's. -/
module

public import proofs.«01_k».proof.Defs
public import proofs.«01_k».proof.Proof.Gen.Pre_finite
public import proofs.«01_k».proof.Proof.Result

@[expose] public section

set_option maxRecDepth 100000

noncomputable section

namespace AttBwd

open Idealize.ShloMosaic Idealize.ShloMosaic.TcCoe Idealize.SL.Sem

/-- An array whose every absolute value compares below infinity holds reals. -/
theorem real_of {s e : Shape} {D : Fin e.rank → Fin s.rank} {hb : e.BroadcastsInDim s D} {x : FVec Ideal s .f32}
    (h : cmpf .olt (Host.absf x) (broadcastInDim s D hb (constant (F := Ideal) e .f32 0x7F800000#32)) = fun _ => 1#1) :
    x = up fun i => (x i).toReal := by
  funext i
  refine (coe_toReal_of_abs ?_).symm
  have hi : BitVec.ofBool (decide (max (x i) (-(x i)) < Ideal.ofBits .f32 0x7F800000#32)) = 1#1 := congrFun h i
  rw [pos_inf_f32] at hi
  by_contra hn
  rw [decide_eq_false hn] at hi
  exact absurd hi (by decide)

/-- The precondition on the kernel's arguments: on each device they are reals. -/
theorem args_of {m : (ℓ : Loc Cert.KernelIdeal.nD Cert.KernelIdeal.τ Cert.KernelIdeal.sig) → Buf (Elt Ideal) ℓ}
    (h : Cert.Pre_KernelIdeal_finite m) (d : Dev Cert.KernelIdeal.nD) :
    Args m d (fun i => (m ((d.tc : Thread Cert.KernelIdeal.nD Cert.KernelIdeal.τ).loc Cert.KernelIdeal.main_arg0) i).toReal)
      (fun i => (m ((d.tc : Thread Cert.KernelIdeal.nD Cert.KernelIdeal.τ).loc Cert.KernelIdeal.main_arg1) i).toReal)
      (fun i => (m ((d.tc : Thread Cert.KernelIdeal.nD Cert.KernelIdeal.τ).loc Cert.KernelIdeal.main_arg2) i).toReal)
      (fun i => (m ((d.tc : Thread Cert.KernelIdeal.nD Cert.KernelIdeal.τ).loc Cert.KernelIdeal.main_arg3) i).toReal)
      (fun i => (m ((d.tc : Thread Cert.KernelIdeal.nD Cert.KernelIdeal.τ).loc Cert.KernelIdeal.main_arg4) i).toReal) :=
  ⟨real_of (h d).1, real_of (h d).2.1, real_of (h d).2.2.1, real_of (h d).2.2.2.1, real_of (h d).2.2.2.2⟩

/-- The reference's arguments on its device are these reals. -/
structure RefArgs (m' : (ℓ : Loc Cert.ReferenceIdeal.nD Cert.ReferenceIdeal.τ Cert.ReferenceIdeal.sig) → Buf (Elt Ideal) ℓ)
    (d : Dev Cert.ReferenceIdeal.nD) (q k v : Cert.ReferenceIdeal.S8192x1024.Idx → ℝ) (c : Cert.ReferenceIdeal.S4x16x2048.Idx → ℝ)
    (a : Cert.ReferenceIdeal.S8192x2048.Idx → ℝ) : Prop where
  q : m' ((d.tc : Thread Cert.ReferenceIdeal.nD Cert.ReferenceIdeal.τ).loc Cert.ReferenceIdeal.main_arg0) = up q
  k : m' ((d.tc : Thread Cert.ReferenceIdeal.nD Cert.ReferenceIdeal.τ).loc Cert.ReferenceIdeal.main_arg1) = up k
  v : m' ((d.tc : Thread Cert.ReferenceIdeal.nD Cert.ReferenceIdeal.τ).loc Cert.ReferenceIdeal.main_arg2) = up v
  c : m' ((d.tc : Thread Cert.ReferenceIdeal.nD Cert.ReferenceIdeal.τ).loc Cert.ReferenceIdeal.main_arg3) = up c
  a : m' ((d.tc : Thread Cert.ReferenceIdeal.nD Cert.ReferenceIdeal.τ).loc Cert.ReferenceIdeal.main_arg4) = up a

theorem congr4 {α β γ δ ε : Sort _} (f : α → β → γ → δ → ε) {a a' : α} {b b' : β} {c c' : γ} {d d' : δ}
    (ha : a = a') (hb : b = b') (hc : c = c') (hd : d = d') : f a b c d = f a' b' c' d' := by
  rw [ha, hb, hc, hd]

theorem congr5 {α β γ δ ε ζ : Sort _} (f : α → β → γ → δ → ε → ζ) {a a' : α} {b b' : β} {c c' : γ} {d d' : δ} {e e' : ε}
    (ha : a = a') (hb : b = b') (hc : c = c') (hd : d = d') (he : e = e') : f a b c d e = f a' b' c' d' e' := by
  rw [ha, hb, hc, hd, he]

section

variable {m' : (ℓ : Loc Cert.ReferenceIdeal.nD Cert.ReferenceIdeal.τ Cert.ReferenceIdeal.sig) → Buf (Elt Ideal) ℓ}
  {d : Dev Cert.ReferenceIdeal.nD} {q k v : Cert.ReferenceIdeal.S8192x1024.Idx → ℝ} {c : Cert.ReferenceIdeal.S4x16x2048.Idx → ℝ}
  {a : Cert.ReferenceIdeal.S8192x2048.Idx → ℝ} (R : RefArgs m' d q k v c a)
include R

/-! The reference's results, read at these reals. -/

theorem ref_v90 : Cert.ReferenceIdeal.Value.res_main_v90 (F := Ideal) m' d = Cert.ReferenceIdeal.Read.val_main_v90 (F := Ideal) (up q) (up k) (up v) (up c) (up a) :=
  (Cert.ReferenceIdeal.Read.val_main_v90_eq m' d).trans (congr5 _ R.q R.k R.v R.c R.a)

theorem ref_v91 : Cert.ReferenceIdeal.Value.res_main_v91 (F := Ideal) m' d = Cert.ReferenceIdeal.Read.val_main_v91 (F := Ideal) (up q) (up k) (up v) (up c) (up a) :=
  (Cert.ReferenceIdeal.Read.val_main_v91_eq m' d).trans (congr5 _ R.q R.k R.v R.c R.a)

theorem ref_v92 : Cert.ReferenceIdeal.Value.res_main_v92 (F := Ideal) m' d = Cert.ReferenceIdeal.Read.val_main_v92 (F := Ideal) (up q) (up k) (up c) (up a) :=
  (Cert.ReferenceIdeal.Read.val_main_v92_eq m' d).trans (congr4 _ R.q R.k R.c R.a)

theorem ref_v94 : Cert.ReferenceIdeal.Value.res_main_v94 (F := Ideal) m' d = Cert.ReferenceIdeal.Read.val_main_v94 (F := Ideal) (up q) (up k) (up v) (up c) (up a) :=
  (Cert.ReferenceIdeal.Read.val_main_v94_eq m' d).trans (congr5 _ R.q R.k R.v R.c R.a)

theorem ref_v96 : Cert.ReferenceIdeal.Value.res_main_v96 (F := Ideal) m' d = Cert.ReferenceIdeal.Read.val_main_v96 (F := Ideal) (up q) (up k) (up v) (up c) (up a) :=
  (Cert.ReferenceIdeal.Read.val_main_v96_eq m' d).trans (congr5 _ R.q R.k R.v R.c R.a)

variable {m : (ℓ : Loc Cert.KernelIdeal.nD Cert.KernelIdeal.τ Cert.KernelIdeal.sig) → Buf (Elt Ideal) ℓ} (H : Args m d q k v c a)
include H

/-! The two programs' results agree. -/

theorem same_7 : Cert.ReferenceIdeal.Value.res_main_v90 (F := Ideal) m' d = (Cert.KernelIdeal.Gen.dats m 0 d).arrAt 7 Cert.KernelIdeal.cfg0.N :=
  (ref_v90 R).trans (res_7 H).symm

theorem same_8 : Cert.ReferenceIdeal.Value.res_main_v91 (F := Ideal) m' d = (Cert.KernelIdeal.Gen.dats m 0 d).arrAt 8 Cert.KernelIdeal.cfg0.N :=
  (ref_v91 R).trans (res_8 H).symm

theorem same_9 : Cert.ReferenceIdeal.Value.res_main_v92 (F := Ideal) m' d = (Cert.KernelIdeal.Gen.dats m 0 d).arrAt 9 Cert.KernelIdeal.cfg0.N :=
  (ref_v92 R).trans (res_9 H).symm

theorem same_10 : Cert.ReferenceIdeal.Value.res_main_v94 (F := Ideal) m' d = (Cert.KernelIdeal.Gen.dats m 0 d).arrAt 10 Cert.KernelIdeal.cfg0.N :=
  (ref_v94 R).trans (res_10 H).symm

theorem same_11 : Cert.ReferenceIdeal.Value.res_main_v96 (F := Ideal) m' d = (Cert.KernelIdeal.Gen.dats m 0 d).arrAt 11 Cert.KernelIdeal.cfg0.N :=
  (ref_v96 R).trans (res_11 H).symm

end

/-- Both programs run, and from equal finite arguments the five gradients are equal. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N, Cert.KernelIdeal.Value.run_blocks m g, ?_⟩
  refine (θ_run (Cert.ReferenceIdeal.defs (F := Ideal)) _ _).mono (fun r h c => ?_) (Cert.ReferenceIdeal.Value.run (F := Ideal) m' g')
  obtain ⟨r0, r1, r2, r3, r4, kept⟩ := h c
  have H := args_of hpre c
  have R := RefArgs.mk ((hargs c).1.trans H.q) ((hargs c).2.1.trans H.k) ((hargs c).2.2.1.trans H.v)
    ((hargs c).2.2.2.1.trans H.c) ((hargs c).2.2.2.2.trans H.a)
  exact ⟨r0.trans (same_7 R H), r1.trans (same_8 R H), r2.trans (same_9 R H), r3.trans (same_10 R H), r4.trans (same_11 R H), kept⟩

/-- The reference leaves its arguments as they were; it declares no semaphore. -/
theorem ref_frame : Cert.quiescent_ReferenceIdeal (hReferenceIdeal := Cert.ReferenceIdeal.Gen.facts) := fun m g _ =>
  (θ_run (Cert.ReferenceIdeal.defs (F := Ideal)) _ _).mono (fun r h => ⟨fun c => (h c).2.2.2.2.2,
      sem_eq_zero_of_no_sems (by decide) r.2⟩)
    (Cert.ReferenceIdeal.Value.run (F := Ideal) m g)

end AttBwd

end
-- ==== Proof.Products.lean ====
/- Products of matrices at the ideal instance: rows against rows, and columns against columns. The numbers are extended
   reals, finite or not: the sums are regrouped, which the extended reals allow. -/
module

public import proofs.«01_k».proof.Proof.Claim

@[expose] public section

noncomputable section

namespace Products

open Idealize.ShloMosaic hiding ix2 ix3 ix4 eq_ix2 eq_ix3 eq_ix4
open Idealize.ShloMosaic.ValueIdx

/-- The number of a matrix at natural coordinates, zero outside of it. -/
def at2 {m n : ℕ} (v : (⟨2, ![m, n]⟩ : Shape).Idx → EReal) (r c : ℕ) : EReal :=
  if h : r < m ∧ c < n then v (ix2 ⟨r, h.1⟩ ⟨c, h.2⟩) else 0

theorem at2_of {m n : ℕ} (v : (⟨2, ![m, n]⟩ : Shape).Idx → EReal) (i : (⟨2, ![m, n]⟩ : Shape).Idx) {r c : ℕ}
    (hr : (i 0).val = r) (hc : (i 1).val = c) : v i = at2 v r c := by
  subst hr; subst hc
  unfold at2
  rw [dif_pos ⟨(i 0).isLt, (i 1).isLt⟩]
  exact congrArg v (AttBwd.ix2_of rfl rfl)

theorem at2_eq {m n : ℕ} {v w : (⟨2, ![m, n]⟩ : Shape).Idx → EReal} (h : v = w) {r c : ℕ} : at2 v r c = at2 w r c := congrArg (at2 · r c) h

/-- Equal factors have equal products, equal terms equal sums. -/
theorem hm {a a' c c' : EReal} (h : a = a') (h' : c = c') : a * c = a' * c' := congrArg₂ _ h h'
theorem ha {a a' c c' : EReal} (h : a = a') (h' : c = c') : a + c = a' + c' := congrArg₂ _ h h'

theorem origin : (![0, 0] : Fin 2 → ℕ) = fun _ => 0 := by funext a; fin_cases a <;> rfl

theorem ld_whole {e : EltTy} {n : Fin 2 → ℕ} (x : (⟨2, n⟩ : Shape).Idx → Elt Ideal e) (inb) :
    View.ld x (Rect.unit (s := ⟨2, n⟩) ![0, 0] n inb) = x := View.ld_unit_zero origin inb x

alias emb := Pipeline.Window.rect_emb_val
alias emb_zero := Pipeline.Window.rect_emb_val_of_index_zero

/-- The dimension numbers of a product of columns against columns: `K×M` by `K×N`. -/
def tn (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {M K N : ℕ} {φ₁ φ₂ : FTy}

/-- Columns against columns, at an index. -/
theorem matmul_tn (a : FVec Ideal ⟨2, ![K, M]⟩ φ₁) (b : FVec Ideal ⟨2, ![K, N]⟩ φ₂) (y : (⟨2, ![M, N]⟩ : Shape).Idx) :
    FloatOps.matmul (F := Ideal) (tn M K N) none a b (constant ⟨2, ![M, N]⟩ .f32 0#32) y
      = ∑ k : Fin K, (a (ix2 k (y 0)) : EReal) * (b (ix2 k (y 1)) : EReal) := by
  have hr : (tn M K N).contr.rank = 1 := rfl
  have hs : (tn M K N).contr.size ⟨0, by rw [hr]; exact Nat.one_pos⟩ = K := rfl
  rw [Ideal.matmul_apply, ← Equiv.sum_comp (contrEquiv1 _ K hr hs).symm,
    show (constant (F := Ideal) ⟨2, ![M, N]⟩ .f32 0#32) y = (0 : EReal) from AttBwd.zero_f32, zero_add]
  refine Finset.sum_congr rfl fun k _ => ?_
  have hk := contrEquiv1_symm_val _ K hr hs k
  have el : (tn M K N).lhsIdx y ((contrEquiv1 _ K hr hs).symm k) = ix2 k (y 0) := by
    funext a; apply Fin.ext
    match a with
    | ⟨0, _⟩ => exact hk
    | ⟨1, _⟩ => rfl
  have er : (tn M K N).rhsIdx y ((contrEquiv1 _ K hr hs).symm k) = ix2 k (y 1) := by
    funext a; apply Fin.ext
    match a with
    | ⟨0, _⟩ => exact hk
    | ⟨1, _⟩ => rfl
  rw [el, er]; rfl

/-- Rows against rows, at an index. -/
theorem matmul_nt (a : FVec Ideal ⟨2, ![M, K]⟩ φ₁) (b : FVec Ideal ⟨2, ![N, K]⟩ φ₂) (y : (⟨2, ![M, N]⟩ : Shape).Idx) :
    FloatOps.matmul (F := Ideal) (DotDims.transposedRhs M K N) none a b (constant ⟨2, ![M, N]⟩ .f32 0#32) y
      = ∑ k : Fin K, (a (ix2 (y 0) k) : EReal) * (b (ix2 (y 1) k) : EReal) := by
  rw [eq_ix2 y]
  refine (Ideal.matmul_transposedRhs_apply none a b _ (y 0) (y 1)).trans ?_
  rw [show (constant (F := Ideal) ⟨2, ![M, N]⟩ .f32 0#32) (ix2 (y 0) (y 1)) = (0 : EReal) from AttBwd.zero_f32, zero_add]
  rfl

/-- Consecutive runs of `b` terms, summed run by run. -/
theorem sum_runs (f : ℕ → EReal) (b n : ℕ) :
    ∑ s ∈ Finset.range n, ∑ k : Fin b, f (s * b + k.val) = ∑ x : Fin (n * b), f x.val := by
  rw [Finset.sum_range fun s => ∑ k : Fin b, f (s * b + k.val), ← Fintype.sum_prod_type',
    ← Equiv.sum_comp (finProdFinEquiv (m := n) (n := b))]
  refine Finset.sum_congr rfl fun x _ => ?_
  rw [finProdFinEquiv_apply_val, Nat.add_comm, Nat.mul_comm]

/-- A running sum that starts again at every fourth point, each point adding 2048 consecutive terms of its group's
    sequence: after the fourth it is the group's sum. -/
theorem sum_of_four {N : ℕ} (S : ∀ n, n < N → EReal) (f : ℕ → ℕ → EReal)
    (first : ∀ n h, n % 4 = 0 → S n h = ∑ k : Fin 2048, f (n / 4) (n % 4 * 2048 + k.val))
    (next : ∀ n h h', n % 4 ≠ 0 → S n h = S (n - 1) h' + ∑ k : Fin 2048, f (n / 4) (n % 4 * 2048 + k.val))
    (n : ℕ) (h : n < N) (hn : n % 4 = 3) : S n h = ∑ x : Fin 8192, f (n / 4) x.val := by
  have all : ∀ n h, S n h = ∑ s ∈ Finset.range (n % 4 + 1), ∑ k : Fin 2048, f (n / 4) (s * 2048 + k.val) := by
    intro n
    induction n with
    | zero => intro h; rw [first 0 h rfl, Nat.zero_mod, Nat.zero_add, Finset.sum_range_one]
    | succ n ih =>
      intro h
      by_cases h0 : (n + 1) % 4 = 0
      · rw [first _ h h0, h0, Nat.zero_add, Finset.sum_range_one]
      · rw [next _ h (Nat.lt_of_succ_lt h) h0, Finset.sum_range_succ]
        refine congrArg (fun a : EReal => a + _) ((ih _).trans ?_)
        rw [show n % 4 + 1 = (n + 1) % 4 by omega, show (n + 1) / 4 = n / 4 by omega]
  rw [all n h, hn]
  exact sum_runs (f (n / 4)) 2048 4

end Products

end
-- ==== Proof.OutBwd.lean ====
/- The cotangent of the output projection's input: each row block against the rows of the weights. -/
module

public import proofs.«01_k».proof.Proof.Products
public import proofs.«01_k».proof.Proof.Gen.OutBwdIdeal.Value
public import proofs.«01_k».proof.Proof.Gen.OutBwdRefIdeal.Read

@[expose] public section

set_option maxRecDepth 100000

noncomputable section

namespace OutBwd

open Cert.OutBwdIdeal Cert.OutBwdIdeal.Gen Products
open Idealize.ShloMosaic hiding ix2 ix3 ix4 eq_ix2 eq_ix3 eq_ix4
open Idealize.ShloMosaic.TcCoe Idealize.ShloMosaic.ValueIdx Idealize.SL.Sem

variable (m : (ℓ : Loc nD τ sig) → Buf (Elt Ideal) ℓ) (d : Dev nD) (t : Fin cfg0.N)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

/-- The weights as the region finds them. -/
theorem entry_w : (V m d main_v0 : S2048x1024.Idx → EReal) = m ((d : Thread nD τ).loc main_arg1) := by
  simp [V, hostOps0]
  after_results_simp; rfl

/-- What a grid point reads of the cotangent, and of the weights. -/
theorem read_0 (i : Fin 512) (k : Fin 1024) : (iblk m d 0 t : S512x1024.Idx → EReal) (ix2 i k)
    = at2 (m ((d : Thread nD τ).loc main_arg0) : S8192x1024.Idx → EReal) (t.val * 512 + i.val) k.val := by
  refine Eq.trans ?_ (at2_eq (V_main_arg0 m d))
  refine at2_of (V m d main_arg0) _ ?_ ?_
  · exact (emb win0_0 t (ix2 i k) 0).trans (by rw [idx_0]; rfl)
  · exact emb_zero win0_0 t 1 (by rw [idx_0]; rfl) (ix2 i k)

theorem read_1 (j : Fin 2048) (k : Fin 1024) : (iblk m d 1 t : S2048x1024.Idx → EReal) (ix2 j k)
    = at2 (m ((d : Thread nD τ).loc main_arg1) : S2048x1024.Idx → EReal) j.val k.val := by
  refine Eq.trans ?_ (at2_eq (entry_w m d))
  refine at2_of (V m d main_v0) _ ?_ ?_
  · exact emb_zero win0_1 t 0 (by rw [idx_1]; rfl) (ix2 j k)
  · exact emb_zero win0_1 t 1 (by rw [idx_1]; rfl) (ix2 j k)

/-- What a grid point writes. -/
theorem point (y : S512x2048.Idx) : (out0_2 (iblk m d 0 t) (iblk m d 1 t) : S512x2048.Idx → EReal) y
    = ∑ k : Fin 1024, at2 (m ((d : Thread nD τ).loc main_arg0) : S8192x1024.Idx → EReal) (t.val * 512 + (y 0).val) k.val
        * at2 (m ((d : Thread nD τ).loc main_arg1) : S2048x1024.Idx → EReal) (y 1).val k.val := by
  unfold out0_2
  rw [View.canon_unit_zero, View.ld_unit_zero, View.ld_unit_zero]
  unfold k0_pay1
  dsimp only
  rw [shapeCast_self]
  refine (matmul_nt (M := 512) (K := 1024) (N := 2048) (φ₁ := .bf16) (φ₂ := .bf16) (iblk m d 0 t) (iblk m d 1 t) y).trans ?_
  exact Finset.sum_congr rfl fun k _ => hm (read_0 m d t (y 0) k) (read_1 m d t (y 1) k)
  all_goals exact origin

/-- The whole array. -/
theorem result : (dats m 0 d).arrAt 2 cfg0.N
    = Cert.OutBwdRefIdeal.Read.val_main_v2 (F := Ideal) (m ((d : Thread nD τ).loc main_arg0)) (m ((d : Thread nD τ).loc main_arg1)) := by
  refine (dats m 0 d).arrAt_eq_of_covers 2 _ (by decide +kernel) fun t hf y => ?_
  blk_simp
  rw [after0_2]
  refine (point m d t y).trans (Eq.symm ((Cert.OutBwdRefIdeal.Read.val_main_v2_apply _ _ _).trans ?_))
  refine Finset.sum_congr rfl fun k _ => hm (at2_of _ _ ?_ rfl) (at2_of _ _ ?_ rfl)
  · exact (emb win0_2 t y 0).trans (by rw [idx_2]; rfl)
  · exact emb_zero win0_2 t 1 (by rw [idx_2]; rfl) y

theorem algebraic : Cert.algebraic_OutBwdIdeal_OutBwdRefIdeal (hOutBwdIdeal := Cert.OutBwdIdeal.Gen.facts)
    (hOutBwdRefIdeal := Cert.OutBwdRefIdeal.Gen.facts) := by
  intro m g m' g' _ hargs
  refine ⟨fun d => (Gen.dats m 0 d).arrAt 2 cfg0.N, Value.run_blocks m g, ?_⟩
  refine (θ_run (Cert.OutBwdRefIdeal.defs (F := Ideal)) _ _).mono (fun r h d => ?_) (Cert.OutBwdRefIdeal.Value.run (F := Ideal) m' g')
  refine ⟨(h d).1.trans ?_, (h d).2⟩
  rw [(hargs d).1, (hargs d).2]
  exact (result m d).symm

/-- Every execution of the reference ends, its arguments unchanged. -/
theorem ref_frame : Cert.quiescent_OutBwdRefIdeal (hOutBwdRefIdeal := Cert.OutBwdRefIdeal.Gen.facts) := fun m g _ =>
  (θ_run (Cert.OutBwdRefIdeal.defs (F := Ideal)) _ _).mono (fun r h => ⟨fun d => (h d).2, sem_eq_zero_of_no_sems (by decide) r.2⟩)
    (Cert.OutBwdRefIdeal.Value.run (F := Ideal) m g)

end OutBwd

end
-- ==== Proof.MlpDown.lean ====
/- The cotangent of the MLP's pre-activation, and the activation. The kernel multiplies by twice the positive part where
   the reference selects: where the pre-activation is not positive both are zero. -/
module

public import proofs.«01_k».proof.Proof.OutBwd
public import proofs.«01_k».proof.Proof.Gen.MlpDownIdeal.Value
public import proofs.«01_k».proof.Proof.Gen.MlpDownRefIdeal.Read

@[expose] public section

set_option maxRecDepth 100000

noncomputable section

namespace MlpDown

open Cert.MlpDownIdeal Cert.MlpDownIdeal.Gen Products Cert.MlpDownRefIdeal.Read
open Idealize.ShloMosaic hiding ix2 ix3 ix4 eq_ix2 eq_ix3 eq_ix4
open Idealize.ShloMosaic.TcCoe Idealize.ShloMosaic.ValueIdx Idealize.SL.Sem

/-- The positive part, and the constants the programs spell. -/
def pos (p : EReal) : EReal := max p (Ideal.ofBits .f32 0#32)

def two : EReal := Ideal.ofBits .f32 0x40000000#32

/-- The derivative of the squared positive part, with the comparison and without. -/
theorem select_pos (p du : EReal) :
    Scalar.select (BitVec.ofBool (decide (p > Ideal.ofBits .f32 0#32))) (du * (two * pos p)) (Ideal.ofBits .f32 0#32) = du * (two * pos p) := by
  by_cases h : p > Ideal.ofBits .f32 0#32
  · rw [decide_eq_true h]; rfl
  · rw [decide_eq_false h]
    have h0 : pos p = 0 := by
      unfold pos; rw [max_eq_right (not_lt.mp h)]; exact AttBwd.zero_f32
    rw [h0, mul_zero, mul_zero]
    exact AttBwd.zero_f32

variable (m : (ℓ : Loc nD τ sig) → Buf (Elt Ideal) ℓ) (d : Dev nD) (t : Fin cfg0.N)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel
theorem idx_3 : ∀ t : Fin cfg0.N, win0_3.index t = ![t.val, 0] := by decide +kernel
theorem idx_4 : ∀ t : Fin cfg0.N, win0_4.index t = ![t.val, 0] := by decide +kernel

/-- The weights and the pre-activation as the region finds them. -/
theorem entry_w : (V m d main_v0 : S4096x1024.Idx → EReal) = m ((d : Thread nD τ).loc main_arg1) := by
  simp [V, hostOps0]
  after_results_simp; rfl

theorem entry_p : (V m d main_v1 : S8192x4096.Idx → EReal) = m ((d : Thread nD τ).loc main_arg2) := by
  simp [V, hostOps0]
  after_results_simp; rfl

/-- What a grid point reads of the cotangent, of the weights and of the pre-activation. -/
theorem read_0 (i : Fin 256) (k : Fin 1024) : (iblk m d 0 t : S256x1024.Idx → EReal) (ix2 i k)
    = at2 (m ((d : Thread nD τ).loc main_arg0) : S8192x1024.Idx → EReal) (t.val * 256 + i.val) k.val := by
  refine Eq.trans ?_ (at2_eq (V_main_arg0 m d))
  refine at2_of (V m d main_arg0) _ ?_ ?_
  · exact (emb win0_0 t (ix2 i k) 0).trans (by rw [idx_0]; rfl)
  · exact emb_zero win0_0 t 1 (by rw [idx_0]; rfl) (ix2 i k)

theorem read_1 (j : Fin 4096) (k : Fin 1024) : (iblk m d 1 t : S4096x1024.Idx → EReal) (ix2 j k)
    = at2 (m ((d : Thread nD τ).loc main_arg1) : S4096x1024.Idx → EReal) j.val k.val := by
  refine Eq.trans ?_ (at2_eq (entry_w m d))
  refine at2_of (V m d main_v0) _ ?_ ?_
  · exact emb_zero win0_1 t 0 (by rw [idx_1]; rfl) (ix2 j k)
  · exact emb_zero win0_1 t 1 (by rw [idx_1]; rfl) (ix2 j k)

theorem read_2 (y : S256x4096.Idx) : (iblk m d 2 t : S256x4096.Idx → EReal) y
    = at2 (m ((d : Thread nD τ).loc main_arg2) : S8192x4096.Idx → EReal) (t.val * 256 + (y 0).val) (y 1).val := by
  refine Eq.trans ?_ (at2_eq (entry_p m d))
  refine at2_of (V m d main_v1) _ ?_ ?_
  · exact (emb win0_2 t y 0).trans (by rw [idx_2]; rfl)
  · exact emb_zero win0_2 t 1 (by rw [idx_2]; rfl) y

/-- The positive part of a block, at an index. -/
theorem pay1 (x : Vec Ideal S256x4096 .bf16) (y : S256x4096.Idx) : (k0_pay1 x : S256x4096.Idx → EReal) y = pos ((x : S256x4096.Idx → EReal) y) := by
  unfold k0_pay1
  rw [shapeCast_self]
  rfl

/-- What a grid point writes of the cotangent. -/
theorem point_3 (y : S256x4096.Idx) : (out0_3 (iblk m d 0 t) (iblk m d 1 t) (iblk m d 2 t) : S256x4096.Idx → EReal) y
    = (∑ k : Fin 1024, at2 (m ((d : Thread nD τ).loc main_arg0) : S8192x1024.Idx → EReal) (t.val * 256 + (y 0).val) k.val
        * at2 (m ((d : Thread nD τ).loc main_arg1) : S4096x1024.Idx → EReal) (y 1).val k.val)
      * (two * pos (at2 (m ((d : Thread nD τ).loc main_arg2) : S8192x4096.Idx → EReal) (t.val * 256 + (y 0).val) (y 1).val)) := by
  unfold out0_3
  rw [View.canon_unit_zero, View.ld_unit_zero, View.ld_unit_zero, View.ld_unit_zero]
  unfold k0_pay2
  dsimp only
  rw [shapeCast_self]
  refine congrArg₂ (fun a b : EReal => a * (two * b))
    ((matmul_nt (M := 256) (K := 1024) (N := 4096) (φ₁ := .bf16) (φ₂ := .bf16) (iblk m d 0 t) (iblk m d 1 t) y).trans ?_)
    ((pay1 (iblk m d 2 t) y).trans (congrArg pos (read_2 m d t y)))
  exact Finset.sum_congr rfl fun k _ => hm (read_0 m d t (y 0) k) (read_1 m d t (y 1) k)
  all_goals exact origin

/-- What a grid point writes of the activation. -/
theorem point_4 (y : S256x4096.Idx) : (out0_4 (iblk m d 0 t) (iblk m d 1 t) (iblk m d 2 t) : S256x4096.Idx → EReal) y
    = pos (at2 (m ((d : Thread nD τ).loc main_arg2) : S8192x4096.Idx → EReal) (t.val * 256 + (y 0).val) (y 1).val)
      * pos (at2 (m ((d : Thread nD τ).loc main_arg2) : S8192x4096.Idx → EReal) (t.val * 256 + (y 0).val) (y 1).val) := by
  unfold out0_4
  rw [View.canon_unit_zero, View.ld_unit_zero]
  unfold k0_pay3
  dsimp only
  have e := (pay1 (iblk m d 2 t) y).trans (congrArg pos (read_2 m d t y))
  exact hm e e
  all_goals exact origin

/-- The reference at an index. -/
theorem ref_3 (x0 : S8192x1024.Idx → EReal) (x1 : S4096x1024.Idx → EReal) (x2 : S8192x4096.Idx → EReal) (i : S8192x4096.Idx) :
    (val_main_v12 (F := Ideal) x0 x1 x2 : S8192x4096.Idx → EReal) i
      = (∑ k : Fin 1024, at2 x0 (i 0).val k.val * at2 x1 (i 1).val k.val) * (two * pos (x2 i)) := by
  rw [← select_pos (x2 i)]
  refine congrArg (fun s : EReal => Scalar.select (BitVec.ofBool (decide (x2 i > Ideal.ofBits .f32 0#32))) (s * (two * pos (x2 i))) (Ideal.ofBits .f32 0#32))
    ((val_main_v8_apply x0 x1 i).trans ?_)
  exact Finset.sum_congr rfl fun k _ => hm (at2_of _ _ rfl rfl) (at2_of _ _ rfl rfl)

/-- Both arrays. -/
theorem result_3 : (dats m 0 d).arrAt 3 cfg0.N = val_main_v12 (F := Ideal)
    (m ((d : Thread nD τ).loc main_arg0)) (m ((d : Thread nD τ).loc main_arg1)) (m ((d : Thread nD τ).loc main_arg2)) := by
  refine (dats m 0 d).arrAt_eq_of_covers 3 _ (by decide +kernel) fun t hf y => ?_
  blk_simp
  rw [after0_3]
  have e0 := (emb win0_3 t y 0).trans (show win0_3.index t 0 * 256 + (y 0).val = t.val * 256 + (y 0).val by rw [idx_3]; rfl)
  have e1 := emb_zero win0_3 t 1 (by rw [idx_3]; rfl) y
  refine (point_3 m d t y).trans (Eq.symm ((ref_3 _ _ _ _).trans ?_))
  refine congrArg₂ (fun a b : EReal => a * (two * pos b)) ?_ (at2_of _ _ e0 e1)
  exact Finset.sum_congr rfl fun k _ => congrArg₂ (fun a b : ℕ => at2 (m ((d : Thread nD τ).loc main_arg0) : S8192x1024.Idx → EReal) a k.val
        * at2 (m ((d : Thread nD τ).loc main_arg1) : S4096x1024.Idx → EReal) b k.val) e0 e1

theorem result_4 : (dats m 0 d).arrAt 4 cfg0.N = val_main_v15 (F := Ideal) (m ((d : Thread nD τ).loc main_arg2)) := by
  refine (dats m 0 d).arrAt_eq_of_covers 4 _ (by decide +kernel) fun t hf y => ?_
  blk_simp
  rw [after0_4]
  have e0 := (emb win0_4 t y 0).trans (show win0_4.index t 0 * 256 + (y 0).val = t.val * 256 + (y 0).val by rw [idx_4]; rfl)
  have e1 := emb_zero win0_4 t 1 (by rw [idx_4]; rfl) y
  exact (point_4 m d t y).trans (congrArg (fun p : EReal => pos p * pos p) (at2_of _ _ e0 e1).symm)

theorem algebraic : Cert.algebraic_MlpDownIdeal_MlpDownRefIdeal (hMlpDownIdeal := Cert.MlpDownIdeal.Gen.facts)
    (hMlpDownRefIdeal := Cert.MlpDownRefIdeal.Gen.facts) := by
  intro m g m' g' _ hargs
  refine ⟨fun d => (Gen.dats m 0 d).arrAt 3 cfg0.N, fun d => (Gen.dats m 0 d).arrAt 4 cfg0.N, Value.run_blocks m g, ?_⟩
  refine (θ_run (Cert.MlpDownRefIdeal.defs (F := Ideal)) _ _).mono (fun r h d => ?_) (Cert.MlpDownRefIdeal.Value.run (F := Ideal) m' g')
  refine ⟨(h d).1.trans ?_, (h d).2.1.trans ?_, (h d).2.2⟩
  · rw [(hargs d).1, (hargs d).2.1, (hargs d).2.2]
    exact (result_3 m d).symm
  · rw [(hargs d).2.2]
    exact (result_4 m d).symm

/-- Every execution of the reference ends, its arguments unchanged. -/
theorem ref_frame : Cert.quiescent_MlpDownRefIdeal (hMlpDownRefIdeal := Cert.MlpDownRefIdeal.Gen.facts) := fun m g _ =>
  (θ_run (Cert.MlpDownRefIdeal.defs (F := Ideal)) _ _).mono (fun r h => ⟨fun d => (h d).2.2, sem_eq_zero_of_no_sems (by decide) r.2⟩)
    (Cert.MlpDownRefIdeal.Value.run (F := Ideal) m g)

end MlpDown

end
-- ==== Proof.GradDown.lean ====
/- The gradient of the second layer's weights: columns of the layer's input against columns of the cotangent, the rows
   taken in four runs of 2048 and summed in a scratch block. -/
module

public import proofs.«01_k».proof.Proof.MlpDown
public import proofs.«01_k».proof.Proof.Gen.GradDownIdeal.Value
public import proofs.«01_k».proof.Proof.Gen.GradDownRefIdeal.Read

@[expose] public section

set_option maxRecDepth 100000

noncomputable section

namespace GradDown

open Cert.GradDownIdeal Cert.GradDownIdeal.Gen Products Cert.GradDownRefIdeal.Read
open Idealize.ShloMosaic hiding ix2 ix3 ix4 eq_ix2 eq_ix3 eq_ix4
open Idealize.ShloMosaic.TcCoe Idealize.ShloMosaic.ValueIdx Idealize.SL.Sem

section Step

variable (c : Dev nD) (i : grid0.Coords) (a3 : Memref sig .tc .vmem S2048x1024 .bf16) (h3 : a3.IsWhole)
  (a4 : Memref sig .tc .vmem S2048x1024 .f32) (h4 : a4.IsWhole) (a5 : Memref sig .tc .vmem S1024x1024 .bf16) (h5 : a5.IsWhole)
  (a6 : Memref sig .tc .vmem S1024x1024 .f32) (h6 : a6.IsWhole) (x0 : Vec Ideal S2048x1024 .bf16)
  (x1 : Vec Ideal S2048x1024 .f32) (acc : Vec Ideal S1024x1024 .f32)

/-- One run's products added to what the scratch holds. -/
theorem step (y : S1024x1024.Idx) : (k0_pay2 acc x0 x1 : S1024x1024.Idx → EReal) y
    = (acc y : EReal) + ∑ k : Fin 2048, (x0 (ix2 k (y 0)) : EReal) * (x1 (ix2 k (y 1)) : EReal) := by
  unfold k0_pay2
  simp only [shapeCast_self]
  exact congrArg (fun a : EReal => (acc y : EReal) + a) (matmul_tn (M := 1024) (K := 2048) (N := 1024) (φ₁ := .bf16) (φ₂ := .bf16) x0 x1 y)

/-- What the scratch holds after a run: the first starts from zero, … -/
theorem scratch_A (h0 h1) (y : S1024x1024.Idx) : (sout0_A_0 c i a3 h3 a4 h4 a5 h5 a6 h6 h0 h1 x0 x1 : S1024x1024.Idx → EReal) y
    = ∑ k : Fin 2048, (x0 (ix2 k (y 0)) : EReal) * (x1 (ix2 k (y 1)) : EReal) := by
  unfold sout0_A_0
  rw [View.read_writes_junk_eq_canon]
  unfold kernelRun0_A
  dsimp only
  sl_unfold_words
  rw [View.canon_cons_unit_zero origin, View.readCov_unit_zero _ origin]
  simp only [View.readAt_eq_ld, h3.read_unread, h4.read_unread, ld_whole]
  rw [step]
  exact (congrArg (fun a : EReal => a + _) AttBwd.zero_f32).trans (zero_add _)

/-- … the others from what the one before left, … -/
theorem scratch_B (h0 h1) : sout0_B_0 c i a3 h3 a4 h4 a5 h5 a6 h6 h0 h1 x0 x1 acc = k0_pay2 acc x0 x1 := by
  unfold sout0_B_0
  rw [View.read_writes_junk_eq_canon]
  unfold kernelRun0_B
  dsimp only
  rw [View.canon_unit_zero origin]
  simp only [View.readAt_eq_ld, h3.read_unread, h4.read_unread, h6.read_unread, ld_whole]

theorem scratch_C (h0 h1) : sout0_C_0 c i a3 h3 a4 h4 a5 h5 a6 h6 h0 h1 x0 x1 acc = k0_pay2 acc x0 x1 := by
  unfold sout0_C_0
  rw [View.read_writes_junk_eq_canon]
  unfold kernelRun0_C
  dsimp only
  sl_unfold_words
  rw [View.canon_unit_zero origin]
  simp only [View.readAt_eq_ld, h3.read_unread, h4.read_unread, h6.read_unread, ld_whole]

/-- … and the last writes it out. -/
theorem out_C (h0 h1) : (out0_C_2 c i a3 h3 a4 h4 a5 h5 a6 h6 h0 h1 x0 x1 acc : S1024x1024.Idx → EReal)
    = sout0_C_0 c i a3 h3 a4 h4 a5 h5 a6 h6 h0 h1 x0 x1 acc := by
  rw [scratch_C]
  unfold out0_C_2
  rw [View.read_writes_junk_eq_canon]
  unfold kernelRun0_C
  dsimp only
  sl_unfold_words
  rw [View.canon_unit_zero origin, View.readCov_unit_zero _ origin]
  simp only [View.readAt_eq_ld, h3.read_unread, h4.read_unread, h6.read_unread, ld_whole]
  rfl

end Step

variable (m : (ℓ : Loc nD τ sig) → Buf (Elt Ideal) ℓ) (d : Dev nD) (t : Fin cfg0.N)

theorem idx_0 : ∀ t : Fin cfg0.N, win0_0.index t = ![t.val % 4, t.val / 4] := by decide +kernel
theorem idx_1 : ∀ t : Fin cfg0.N, win0_1.index t = ![t.val % 4, 0] := by decide +kernel
theorem idx_2 : ∀ t : Fin cfg0.N, win0_2.index t = ![t.val / 4, 0] := by decide +kernel

/-- The layer's input as the region finds it. -/
theorem entry_u : (V m d main_v0 : S8192x4096.Idx → EReal) = m ((d : Thread nD τ).loc main_arg0) := by
  simp [V, hostOps0]
  after_results_simp; rfl

/-- The two arguments, and a term of the product of their columns. -/
abbrev u : S8192x4096.Idx → EReal := m ((d : Thread nD τ).loc main_arg0)
abbrev ct : S8192x1024.Idx → EReal := m ((d : Thread nD τ).loc main_arg1)
abbrev term (y : S1024x1024.Idx) (j x : ℕ) : EReal := at2 (u m d) x (j * 1024 + (y 0).val) * at2 (ct m d) x (y 1).val

/-- What a grid point reads of them. -/
abbrev block_0 : S2048x1024.Idx → EReal := iblk m d 0 t
abbrev block_1 : S2048x1024.Idx → EReal := iblk m d 1 t

theorem read_0 (k : Fin 2048) (j : Fin 1024) : block_0 m d t (ix2 k j)
    = at2 (u m d) (t.val % 4 * 2048 + k.val) (t.val / 4 * 1024 + j.val) := by
  refine Eq.trans ?_ (at2_eq (entry_u m d))
  refine at2_of (V m d main_v0) _ ?_ ?_
  · exact (emb win0_0 t (ix2 k j) 0).trans (by rw [idx_0]; rfl)
  · exact (emb win0_0 t (ix2 k j) 1).trans (by rw [idx_0]; rfl)

theorem read_1 (k : Fin 2048) (j : Fin 1024) : block_1 m d t (ix2 k j)
    = at2 (ct m d) (t.val % 4 * 2048 + k.val) j.val := by
  refine Eq.trans ?_ (at2_eq (V_main_arg1 m d))
  refine at2_of (V m d main_arg1) _ ?_ ?_
  · exact (emb win0_1 t (ix2 k j) 0).trans (by rw [idx_1]; rfl)
  · exact emb_zero win0_1 t 1 (by rw [idx_1]; rfl) (ix2 k j)

/-- The products a grid point forms. -/
theorem run_sum (y : S1024x1024.Idx) :
    ∑ k : Fin 2048, block_0 m d t (ix2 k (y 0)) * block_1 m d t (ix2 k (y 1))
      = ∑ k : Fin 2048, term m d y (t.val / 4) (t.val % 4 * 2048 + k.val) :=
  Finset.sum_congr rfl fun k _ => hm (read_0 m d t k (y 0)) (read_1 m d t k (y 1))

/-- What the scratch holds after a point. -/
def held (n : ℕ) (h : n < cfg0.N) : S1024x1024.Idx → EReal := (outsAt0 m d n h).2

theorem held_first (h : t.val % 4 = 0) (y : S1024x1024.Idx) :
    held m d t.val t.isLt y = ∑ k : Fin 2048, term m d y (t.val / 4) (t.val % 4 * 2048 + k.val) := by
  unfold held
  rw [outsAt0_A m d t h (by omega)]
  dsimp only
  exact (scratch_A ..).trans (run_sum m d t y)

theorem held_next (h : t.val % 4 ≠ 0) (h' : t.val - 1 < cfg0.N) (y : S1024x1024.Idx) :
    held m d t.val t.isLt y
      = held m d (t.val - 1) h' y + ∑ k : Fin 2048, term m d y (t.val / 4) (t.val % 4 * 2048 + k.val) := by
  rw [← run_sum m d t y]
  unfold held
  by_cases h1 : t.val % 4 = 3
  · rw [outsAt0_C m d t h h1]
    dsimp only
    rw [scratch_C]
    exact step ..
  · rw [outsAt0_B m d t h h1]
    dsimp only
    rw [scratch_B]
    exact step ..

/-- What a writing point writes: the sum over all rows. -/
theorem point (h : t.val % 4 = 3) (y : S1024x1024.Idx) : ((outsAt0 m d t.val t.isLt).1 : S1024x1024.Idx → EReal) y
    = ∑ x : Fin 8192, term m d y (t.val / 4) x.val := by
  refine Eq.trans ?_ (sum_of_four (fun n hn => held m d n hn y) (term m d y) (fun n hn e => held_first m d ⟨n, hn⟩ e y)
    (fun n hn hn' e => held_next m d ⟨n, hn⟩ e hn' y) t.val t.isLt h)
  unfold held
  rw [outsAt0_C m d t (by omega) h]
  dsimp only
  rw [out_C]

/-- The whole array. -/
theorem result : (dats m 0 d).arrAt 2 cfg0.N
    = val_main_v4 (F := Ideal) (m ((d : Thread nD τ).loc main_arg0)) (m ((d : Thread nD τ).loc main_arg1)) := by
  refine (dats m 0 d).arrAt_eq_of_covers 2 _ (by decide +kernel) fun t hf y => ?_
  blk_simp
  rw [after0_2]
  refine (point m d t ((flush0_2 t).mp hf) y).trans (Eq.symm ?_)
  refine (val_main_v4_apply _ _ _).trans ((val_main_v3_apply _ _ _).trans
    ((val_main_v2_apply _ _ _).trans (Finset.sum_congr rfl fun k _ => ?_)))
  refine (mul_comm _ _).trans (hm (at2_of _ _ rfl ?_) (at2_of _ _ rfl ?_))
  · exact (emb win0_2 t y 0).trans (by rw [idx_2]; rfl)
  · exact emb_zero win0_2 t 1 (by rw [idx_2]; rfl) y

theorem algebraic : Cert.algebraic_GradDownIdeal_GradDownRefIdeal (hGradDownIdeal := Cert.GradDownIdeal.Gen.facts)
    (hGradDownRefIdeal := Cert.GradDownRefIdeal.Gen.facts) := by
  intro m g m' g' _ hargs
  refine ⟨fun d => (Gen.dats m 0 d).arrAt 2 cfg0.N, Value.run_blocks m g, ?_⟩
  refine (θ_run (Cert.GradDownRefIdeal.defs (F := Ideal)) _ _).mono (fun r h d => ?_) (Cert.GradDownRefIdeal.Value.run (F := Ideal) m' g')
  refine ⟨(h d).1.trans ?_, (h d).2⟩
  rw [(hargs d).1, (hargs d).2]
  exact (result m d).symm

/-- Every execution of the reference ends, its arguments unchanged. -/
theorem ref_frame : Cert.quiescent_GradDownRefIdeal (hGradDownRefIdeal := Cert.GradDownRefIdeal.Gen.facts) := fun m g _ =>
  (θ_run (Cert.GradDownRefIdeal.defs (F := Ideal)) _ _).mono (fun r h => ⟨fun d => (h d).2, sem_eq_zero_of_no_sems (by decide) r.2⟩)
    (Cert.GradDownRefIdeal.Value.run (F := Ideal) m g)

end GradDown

end
-- ==== Proof.GradUp.lean ====
/- The gradient of the first layer's weights: columns of the cotangent against columns of the layer's input, the rows
   taken in four runs of 2048 and summed in a scratch block. -/
module

public import proofs.«01_k».proof.Proof.GradDown
public import proofs.«01_k».proof.Proof.Gen.GradUpIdeal.Value
public import proofs.«01_k».proof.Proof.Gen.GradUpRefIdeal.Read

@[expose] public section

set_option maxRecDepth 100000

noncomputable section

namespace GradUp

open Cert.GradUpIdeal Cert.GradUpIdeal.Gen Products Cert.GradUpRefIdeal.Read
open Idealize.ShloMosaic hiding ix2 ix3 ix4 eq_ix2 eq_ix3 eq_ix4
open Idealize.ShloMosaic.TcCoe Idealize.ShloMosaic.ValueIdx Idealize.SL.Sem

section Step

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x0 : Vec Ideal S2048x1024 .bf16)
  (x1 : Vec Ideal S2048x1024 .bf16) (acc : Vec Ideal S1024x1024 .f32)

/-- One run's products added to what the scratch holds. -/
theorem step (y : S1024x1024.Idx) : (k0_pay2 acc x0 x1 : S1024x1024.Idx → EReal) y
    = (acc y : EReal) + ∑ k : Fin 2048, (x0 (ix2 k (y 0)) : EReal) * (x1 (ix2 k (y 1)) : EReal) := by
  unfold k0_pay2
  simp only [shapeCast_self]
  exact congrArg (fun a : EReal => (acc y : EReal) + a) (matmul_tn (M := 1024) (K := 2048) (N := 1024) (φ₁ := .bf16) (φ₂ := .bf16) x0 x1 y)

/-- What the scratch holds after a run: the first starts from zero, … -/
theorem scratch_A (h0 h1) (y : S1024x1024.Idx) : (sout0_A_0 c i a3 h3 a4 h4 a5 h5 a6 h6 h0 h1 x0 x1 : S1024x1024.Idx → EReal) y
    = ∑ k : Fin 2048, (x0 (ix2 k (y 0)) : EReal) * (x1 (ix2 k (y 1)) : EReal) := by
  unfold sout0_A_0
  rw [View.read_writes_junk_eq_canon]
  unfold kernelRun0_A
  dsimp only
  sl_unfold_words
  rw [View.canon_cons_unit_zero origin, View.readCov_unit_zero _ origin]
  simp only [View.readAt_eq_ld, h3.read_unread, h4.read_unread, ld_whole]
  rw [step]
  exact (congrArg (fun a : EReal => a + _) AttBwd.zero_f32).trans (zero_add _)

/-- … the others from what the one before left, … -/
theorem scratch_B (h0 h1) : sout0_B_0 c i a3 h3 a4 h4 a5 h5 a6 h6 h0 h1 x0 x1 acc = k0_pay2 acc x0 x1 := by
  unfold sout0_B_0
  rw [View.read_writes_junk_eq_canon]
  unfold kernelRun0_B
  dsimp only
  rw [View.canon_unit_zero origin]
  simp only [View.readAt_eq_ld, h3.read_unread, h4.read_unread, h6.read_unread, ld_whole]

theorem scratch_C (h0 h1) : sout0_C_0 c i a3 h3 a4 h4 a5 h5 a6 h6 h0 h1 x0 x1 acc = k0_pay2 acc x0 x1 := by
  unfold sout0_C_0
  rw [View.read_writes_junk_eq_canon]
  unfold kernelRun0_C
  dsimp only
  sl_unfold_words
  rw [View.canon_unit_zero origin]
  simp only [View.readAt_eq_ld, h3.read_unread, h4.read_unread, h6.read_unread, ld_whole]

/-- … and the last writes it out. -/
theorem out_C (h0 h1) : (out0_C_2 c i a3 h3 a4 h4 a5 h5 a6 h6 h0 h1 x0 x1 acc : S1024x1024.Idx → EReal)
    = sout0_C_0 c i a3 h3 a4 h4 a5 h5 a6 h6 h0 h1 x0 x1 acc := by
  rw [scratch_C]
  unfold out0_C_2
  rw [View.read_writes_junk_eq_canon]
  unfold kernelRun0_C
  dsimp only
  sl_unfold_words
  rw [View.canon_unit_zero origin, View.readCov_unit_zero _ origin]
  simp only [View.readAt_eq_ld, h3.read_unread, h4.read_unread, h6.read_unread, ld_whole]
  rfl

end Step

variable (m : (ℓ : Loc nD τ sig) → Buf (Elt Ideal) ℓ) (d : Dev nD) (t : Fin cfg0.N)

theorem idx_0 : ∀ t : Fin cfg0.N, win0_0.index t = ![t.val % 4, t.val / 4] := by decide +kernel
theorem idx_1 : ∀ t : Fin cfg0.N, win0_1.index t = ![t.val % 4, 0] := by decide +kernel
theorem idx_2 : ∀ t : Fin cfg0.N, win0_2.index t = ![t.val / 4, 0] := by decide +kernel

/-- The arguments as the region finds them. -/
theorem entry_ct : (V m d main_v0 : S8192x4096.Idx → EReal) = m ((d : Thread nD τ).loc main_arg1) := by
  simp [V, hostOps0]
  after_results_simp; rfl

theorem entry_h : (V m d main_v1 : S8192x1024.Idx → EReal) = m ((d : Thread nD τ).loc main_arg0) := by
  simp [V, hostOps0]
  after_results_simp; rfl

/-- The two arguments, and a term of the product of their columns. -/
abbrev ct : S8192x4096.Idx → EReal := m ((d : Thread nD τ).loc main_arg1)
abbrev h2 : S8192x1024.Idx → EReal := m ((d : Thread nD τ).loc main_arg0)
abbrev term (y : S1024x1024.Idx) (j x : ℕ) : EReal := at2 (ct m d) x (j * 1024 + (y 0).val) * at2 (h2 m d) x (y 1).val

/-- What a grid point reads of them. -/
abbrev block_0 : S2048x1024.Idx → EReal := iblk m d 0 t
abbrev block_1 : S2048x1024.Idx → EReal := iblk m d 1 t

theorem read_0 (k : Fin 2048) (j : Fin 1024) : block_0 m d t (ix2 k j)
    = at2 (ct m d) (t.val % 4 * 2048 + k.val) (t.val / 4 * 1024 + j.val) := by
  refine Eq.trans ?_ (at2_eq (entry_ct m d))
  refine at2_of (V m d main_v0) _ ?_ ?_
  · exact (emb win0_0 t (ix2 k j) 0).trans (by rw [idx_0]; rfl)
  · exact (emb win0_0 t (ix2 k j) 1).trans (by rw [idx_0]; rfl)

theorem read_1 (k : Fin 2048) (j : Fin 1024) : block_1 m d t (ix2 k j)
    = at2 (h2 m d) (t.val % 4 * 2048 + k.val) j.val := by
  refine Eq.trans ?_ (at2_eq (entry_h m d))
  refine at2_of (V m d main_v1) _ ?_ ?_
  · exact (emb win0_1 t (ix2 k j) 0).trans (by rw [idx_1]; rfl)
  · exact emb_zero win0_1 t 1 (by rw [idx_1]; rfl) (ix2 k j)

/-- The products a grid point forms. -/
theorem run_sum (y : S1024x1024.Idx) :
    ∑ k : Fin 2048, block_0 m d t (ix2 k (y 0)) * block_1 m d t (ix2 k (y 1))
      = ∑ k : Fin 2048, term m d y (t.val / 4) (t.val % 4 * 2048 + k.val) :=
  Finset.sum_congr rfl fun k _ => hm (read_0 m d t k (y 0)) (read_1 m d t k (y 1))

/-- What the scratch holds after a point. -/
def held (n : ℕ) (h : n < cfg0.N) : S1024x1024.Idx → EReal := (outsAt0 m d n h).2

theorem held_first (h : t.val % 4 = 0) (y : S1024x1024.Idx) :
    held m d t.val t.isLt y = ∑ k : Fin 2048, term m d y (t.val / 4) (t.val % 4 * 2048 + k.val) := by
  unfold held
  rw [outsAt0_A m d t h (by omega)]
  dsimp only
  exact (scratch_A ..).trans (run_sum m d t y)

theorem held_next (h : t.val % 4 ≠ 0) (h' : t.val - 1 < cfg0.N) (y : S1024x1024.Idx) :
    held m d t.val t.isLt y
      = held m d (t.val - 1) h' y + ∑ k : Fin 2048, term m d y (t.val / 4) (t.val % 4 * 2048 + k.val) := by
  rw [← run_sum m d t y]
  unfold held
  by_cases h1 : t.val % 4 = 3
  · rw [outsAt0_C m d t h h1]
    dsimp only
    rw [scratch_C]
    exact step ..
  · rw [outsAt0_B m d t h h1]
    dsimp only
    rw [scratch_B]
    exact step ..

/-- What a writing point writes: the sum over all rows. -/
theorem point (h : t.val % 4 = 3) (y : S1024x1024.Idx) : ((outsAt0 m d t.val t.isLt).1 : S1024x1024.Idx → EReal) y
    = ∑ x : Fin 8192, term m d y (t.val / 4) x.val := by
  refine Eq.trans ?_ (sum_of_four (fun n hn => held m d n hn y) (term m d y) (fun n hn e => held_first m d ⟨n, hn⟩ e y)
    (fun n hn hn' e => held_next m d ⟨n, hn⟩ e hn' y) t.val t.isLt h)
  unfold held
  rw [outsAt0_C m d t (by omega) h]
  dsimp only
  rw [out_C]

/-- The whole array. -/
theorem result : (dats m 0 d).arrAt 2 cfg0.N
    = val_main_v5 (F := Ideal) (m ((d : Thread nD τ).loc main_arg0)) (m ((d : Thread nD τ).loc main_arg1)) := by
  refine (dats m 0 d).arrAt_eq_of_covers 2 _ (by decide +kernel) fun t hf y => ?_
  blk_simp
  rw [after0_2]
  refine (point m d t ((flush0_2 t).mp hf) y).trans (Eq.symm ?_)
  refine (val_main_v5_apply _ _ _).trans ((val_main_v4_apply _ _ _).trans ((val_main_v3_apply _ _ _).trans
    ((val_main_v2_apply _ _ _).trans (Finset.sum_congr rfl fun k _ => ?_))))
  refine hm (at2_of _ _ rfl ?_) (at2_of _ _ rfl ?_)
  · exact (emb win0_2 t y 0).trans (by rw [idx_2]; rfl)
  · exact emb_zero win0_2 t 1 (by rw [idx_2]; rfl) y

theorem algebraic : Cert.algebraic_GradUpIdeal_GradUpRefIdeal (hGradUpIdeal := Cert.GradUpIdeal.Gen.facts)
    (hGradUpRefIdeal := Cert.GradUpRefIdeal.Gen.facts) := by
  intro m g m' g' _ hargs
  refine ⟨fun d => (Gen.dats m 0 d).arrAt 2 cfg0.N, Value.run_blocks m g, ?_⟩
  refine (θ_run (Cert.GradUpRefIdeal.defs (F := Ideal)) _ _).mono (fun r h d => ?_) (Cert.GradUpRefIdeal.Value.run (F := Ideal) m' g')
  refine ⟨(h d).1.trans ?_, (h d).2⟩
  rw [(hargs d).1, (hargs d).2]
  exact (result m d).symm

/-- Every execution of the reference ends, its arguments unchanged. -/
theorem ref_frame : Cert.quiescent_GradUpRefIdeal (hGradUpRefIdeal := Cert.GradUpRefIdeal.Gen.facts) := fun m g _ =>
  (θ_run (Cert.GradUpRefIdeal.defs (F := Ideal)) _ _).mono (fun r h => ⟨fun d => (h d).2, sem_eq_zero_of_no_sems (by decide) r.2⟩)
    (Cert.GradUpRefIdeal.Value.run (F := Ideal) m g)

end GradUp

end
-- ==== Proof.GradOut.lean ====
/- The gradient of the output projection's weights: columns of its input against columns of the cotangent, the rows
   taken in four runs of 2048 and summed in a scratch block. -/
module

public import proofs.«01_k».proof.Proof.GradUp
public import proofs.«01_k».proof.Proof.Gen.GradOutIdeal.Value
public import proofs.«01_k».proof.Proof.Gen.GradOutRefIdeal.Read

@[expose] public section

set_option maxRecDepth 100000

noncomputable section

namespace GradOut

open Cert.GradOutIdeal Cert.GradOutIdeal.Gen Products Cert.GradOutRefIdeal.Read
open Idealize.ShloMosaic hiding ix2 ix3 ix4 eq_ix2 eq_ix3 eq_ix4
open Idealize.ShloMosaic.TcCoe Idealize.ShloMosaic.ValueIdx Idealize.SL.Sem

section Step

variable (c : Dev nD) (i : grid0.Coords) (a3 : Memref sig .tc .vmem S2048x1024 .bf16) (h3 : a3.IsWhole)
  (a4 : Memref sig .tc .vmem S2048x1024 .f32) (h4 : a4.IsWhole) (a5 : Memref sig .tc .vmem S1024x1024 .bf16) (h5 : a5.IsWhole)
  (a6 : Memref sig .tc .vmem S1024x1024 .f32) (h6 : a6.IsWhole) (x0 : Vec Ideal S2048x1024 .bf16)
  (x1 : Vec Ideal S2048x1024 .f32) (acc : Vec Ideal S1024x1024 .f32)

/-- One run's products added to what the scratch holds. -/
theorem step (y : S1024x1024.Idx) : (k0_pay2 acc x0 x1 : S1024x1024.Idx → EReal) y
    = (acc y : EReal) + ∑ k : Fin 2048, (x0 (ix2 k (y 0)) : EReal) * (x1 (ix2 k (y 1)) : EReal) := by
  unfold k0_pay2
  simp only [shapeCast_self]
  exact congrArg (fun a : EReal => (acc y : EReal) + a) (matmul_tn (M := 1024) (K := 2048) (N := 1024) (φ₁ := .bf16) (φ₂ := .bf16) x0 x1 y)

/-- What the scratch holds after a run: the first starts from zero, … -/
theorem scratch_A (h0 h1) (y : S1024x1024.Idx) : (sout0_A_0 c i a3 h3 a4 h4 a5 h5 a6 h6 h0 h1 x0 x1 : S1024x1024.Idx → EReal) y
    = ∑ k : Fin 2048, (x0 (ix2 k (y 0)) : EReal) * (x1 (ix2 k (y 1)) : EReal) := by
  unfold sout0_A_0
  rw [View.read_writes_junk_eq_canon]
  unfold kernelRun0_A
  dsimp only
  sl_unfold_words
  rw [View.canon_cons_unit_zero origin, View.readCov_unit_zero _ origin]
  simp only [View.readAt_eq_ld, h3.read_unread, h4.read_unread, ld_whole]
  rw [step]
  exact (congrArg (fun a : EReal => a + _) AttBwd.zero_f32).trans (zero_add _)

/-- … the others from what the one before left, … -/
theorem scratch_B (h0 h1) : sout0_B_0 c i a3 h3 a4 h4 a5 h5 a6 h6 h0 h1 x0 x1 acc = k0_pay2 acc x0 x1 := by
  unfold sout0_B_0
  rw [View.read_writes_junk_eq_canon]
  unfold kernelRun0_B
  dsimp only
  rw [View.canon_unit_zero origin]
  simp only [View.readAt_eq_ld, h3.read_unread, h4.read_unread, h6.read_unread, ld_whole]

theorem scratch_C (h0 h1) : sout0_C_0 c i a3 h3 a4 h4 a5 h5 a6 h6 h0 h1 x0 x1 acc = k0_pay2 acc x0 x1 := by
  unfold sout0_C_0
  rw [View.read_writes_junk_eq_canon]
  unfold kernelRun0_C
  dsimp only
  sl_unfold_words
  rw [View.canon_unit_zero origin]
  simp only [View.readAt_eq_ld, h3.read_unread, h4.read_unread, h6.read_unread, ld_whole]

/-- … and the last writes it out. -/
theorem out_C (h0 h1) : (out0_C_2 c i a3 h3 a4 h4 a5 h5 a6 h6 h0 h1 x0 x1 acc : S1024x1024.Idx → EReal)
    = sout0_C_0 c i a3 h3 a4 h4 a5 h5 a6 h6 h0 h1 x0 x1 acc := by
  rw [scratch_C]
  unfold out0_C_2
  rw [View.read_writes_junk_eq_canon]
  unfold kernelRun0_C
  dsimp only
  sl_unfold_words
  rw [View.canon_unit_zero origin, View.readCov_unit_zero _ origin]
  simp only [View.readAt_eq_ld, h3.read_unread, h4.read_unread, h6.read_unread, ld_whole]
  rfl

end Step

variable (m : (ℓ : Loc nD τ sig) → Buf (Elt Ideal) ℓ) (d : Dev nD) (t : Fin cfg0.N)

theorem idx_0 : ∀ t : Fin cfg0.N, win0_0.index t = ![t.val % 4, t.val / 4] := by decide +kernel
theorem idx_1 : ∀ t : Fin cfg0.N, win0_1.index t = ![t.val % 4, 0] := by decide +kernel
theorem idx_2 : ∀ t : Fin cfg0.N, win0_2.index t = ![t.val / 4, 0] := by decide +kernel

/-- The projection's input as the region finds it. -/
theorem entry_y : (V m d main_v0 : S8192x2048.Idx → EReal) = m ((d : Thread nD τ).loc main_arg0) := by
  simp [V, hostOps0]
  after_results_simp; rfl

/-- The two arguments, and a term of the product of their columns. -/
abbrev ycat : S8192x2048.Idx → EReal := m ((d : Thread nD τ).loc main_arg0)
abbrev ct : S8192x1024.Idx → EReal := m ((d : Thread nD τ).loc main_arg1)
abbrev term (y : S1024x1024.Idx) (j x : ℕ) : EReal := at2 (ycat m d) x (j * 1024 + (y 0).val) * at2 (ct m d) x (y 1).val

/-- What a grid point reads of them. -/
abbrev block_0 : S2048x1024.Idx → EReal := iblk m d 0 t
abbrev block_1 : S2048x1024.Idx → EReal := iblk m d 1 t

theorem read_0 (k : Fin 2048) (j : Fin 1024) : block_0 m d t (ix2 k j)
    = at2 (ycat m d) (t.val % 4 * 2048 + k.val) (t.val / 4 * 1024 + j.val) := by
  refine Eq.trans ?_ (at2_eq (entry_y m d))
  refine at2_of (V m d main_v0) _ ?_ ?_
  · exact (emb win0_0 t (ix2 k j) 0).trans (by rw [idx_0]; rfl)
  · exact (emb win0_0 t (ix2 k j) 1).trans (by rw [idx_0]; rfl)

theorem read_1 (k : Fin 2048) (j : Fin 1024) : block_1 m d t (ix2 k j)
    = at2 (ct m d) (t.val % 4 * 2048 + k.val) j.val := by
  refine Eq.trans ?_ (at2_eq (V_main_arg1 m d))
  refine at2_of (V m d main_arg1) _ ?_ ?_
  · exact (emb win0_1 t (ix2 k j) 0).trans (by rw [idx_1]; rfl)
  · exact emb_zero win0_1 t 1 (by rw [idx_1]; rfl) (ix2 k j)

/-- The products a grid point forms. -/
theorem run_sum (y : S1024x1024.Idx) :
    ∑ k : Fin 2048, block_0 m d t (ix2 k (y 0)) * block_1 m d t (ix2 k (y 1))
      = ∑ k : Fin 2048, term m d y (t.val / 4) (t.val % 4 * 2048 + k.val) :=
  Finset.sum_congr rfl fun k _ => hm (read_0 m d t k (y 0)) (read_1 m d t k (y 1))

/-- What the scratch holds after a point. -/
def held (n : ℕ) (h : n < cfg0.N) : S1024x1024.Idx → EReal := (outsAt0 m d n h).2

theorem held_first (h : t.val % 4 = 0) (y : S1024x1024.Idx) :
    held m d t.val t.isLt y = ∑ k : Fin 2048, term m d y (t.val / 4) (t.val % 4 * 2048 + k.val) := by
  unfold held
  rw [outsAt0_A m d t h (by omega)]
  dsimp only
  exact (scratch_A ..).trans (run_sum m d t y)

theorem held_next (h : t.val % 4 ≠ 0) (h' : t.val - 1 < cfg0.N) (y : S1024x1024.Idx) :
    held m d t.val t.isLt y
      = held m d (t.val - 1) h' y + ∑ k : Fin 2048, term m d y (t.val / 4) (t.val % 4 * 2048 + k.val) := by
  rw [← run_sum m d t y]
  unfold held
  by_cases h1 : t.val % 4 = 3
  · rw [outsAt0_C m d t h h1]
    dsimp only
    rw [scratch_C]
    exact step ..
  · rw [outsAt0_B m d t h h1]
    dsimp only
    rw [scratch_B]
    exact step ..

/-- What a writing point writes: the sum over all rows. -/
theorem point (h : t.val % 4 = 3) (y : S1024x1024.Idx) : ((outsAt0 m d t.val t.isLt).1 : S1024x1024.Idx → EReal) y
    = ∑ x : Fin 8192, term m d y (t.val / 4) x.val := by
  refine Eq.trans ?_ (sum_of_four (fun n hn => held m d n hn y) (term m d y) (fun n hn e => held_first m d ⟨n, hn⟩ e y)
    (fun n hn hn' e => held_next m d ⟨n, hn⟩ e hn' y) t.val t.isLt h)
  unfold held
  rw [outsAt0_C m d t (by omega) h]
  dsimp only
  rw [out_C]

/-- The whole array. -/
theorem result : (dats m 0 d).arrAt 2 cfg0.N
    = val_main_v4 (F := Ideal) (m ((d : Thread nD τ).loc main_arg0)) (m ((d : Thread nD τ).loc main_arg1)) := by
  refine (dats m 0 d).arrAt_eq_of_covers 2 _ (by decide +kernel) fun t hf y => ?_
  blk_simp
  rw [after0_2]
  refine (point m d t ((flush0_2 t).mp hf) y).trans (Eq.symm ?_)
  refine (val_main_v4_apply _ _ _).trans ((val_main_v3_apply _ _ _).trans
    ((val_main_v2_apply _ _ _).trans (Finset.sum_congr rfl fun k _ => ?_)))
  refine (mul_comm _ _).trans (hm (at2_of _ _ rfl ?_) (at2_of _ _ rfl ?_))
  · exact (emb win0_2 t y 0).trans (by rw [idx_2]; rfl)
  · exact emb_zero win0_2 t 1 (by rw [idx_2]; rfl) y

theorem algebraic : Cert.algebraic_GradOutIdeal_GradOutRefIdeal (hGradOutIdeal := Cert.GradOutIdeal.Gen.facts)
    (hGradOutRefIdeal := Cert.GradOutRefIdeal.Gen.facts) := by
  intro m g m' g' _ hargs
  refine ⟨fun d => (Gen.dats m 0 d).arrAt 2 cfg0.N, Value.run_blocks m g, ?_⟩
  refine (θ_run (Cert.GradOutRefIdeal.defs (F := Ideal)) _ _).mono (fun r h d => ?_) (Cert.GradOutRefIdeal.Value.run (F := Ideal) m' g')
  refine ⟨(h d).1.trans ?_, (h d).2⟩
  rw [(hargs d).1, (hargs d).2]
  exact (result m d).symm

/-- Every execution of the reference ends, its arguments unchanged. -/
theorem ref_frame : Cert.quiescent_GradOutRefIdeal (hGradOutRefIdeal := Cert.GradOutRefIdeal.Gen.facts) := fun m g _ =>
  (θ_run (Cert.GradOutRefIdeal.defs (F := Ideal)) _ _).mono (fun r h => ⟨fun d => (h d).2, sem_eq_zero_of_no_sems (by decide) r.2⟩)
    (Cert.GradOutRefIdeal.Value.run (F := Ideal) m g)

end GradOut

end
-- ==== Proof.Plain.lean ====
/- Products of a row block with weights: the weights as they are, or turned beforehand. -/
module

public import proofs.«01_k».proof.Proof.GradOut

@[expose] public section

noncomputable section

namespace Products

open Idealize.ShloMosaic hiding ix2 ix3 ix4 eq_ix2 eq_ix3 eq_ix4
open Idealize.ShloMosaic.ValueIdx

variable {M K N R : ℕ} {φ₁ φ₂ : FTy}

/-- A turned array at an index. -/
theorem turned (v : (⟨2, ![K, N]⟩ : Shape).Idx → EReal) (h : (⟨2, ![K, N]⟩ : Shape).Transposes [1, 0] ⟨2, ![N, K]⟩)
    (i : (⟨2, ![N, K]⟩ : Shape).Idx) {r c : ℕ} (hr : (i 0).val = r) (hc : (i 1).val = c) :
    transpose ⟨2, ![N, K]⟩ [1, 0] v h i = at2 v c r := by
  refine (transpose_apply (t := ⟨2, ![N, K]⟩) [1, 0] v h i (ix2 (i 1) (i 0)) fun b => ?_).trans (at2_of v _ hc hr)
  match b with
  | ⟨0, _⟩ => rfl
  | ⟨1, _⟩ => rfl

/-- Rows against columns, at an index. -/
theorem matmul_nn (a : FVec Ideal ⟨2, ![M, K]⟩ φ₁) (b : FVec Ideal ⟨2, ![K, N]⟩ φ₂) (y : (⟨2, ![M, N]⟩ : Shape).Idx) :
    FloatOps.matmul (F := Ideal) (DotDims.plain M K N) none a b (constant ⟨2, ![M, N]⟩ .f32 0#32) y
      = ∑ k : Fin K, (a (ix2 (y 0) k) : EReal) * (b (ix2 k (y 1)) : EReal) := by
  rw [eq_ix2 y]
  refine (Ideal.matmul_plain_apply none a b _ (y 0) (y 1)).trans ?_
  rw [show (constant (F := Ideal) ⟨2, ![M, N]⟩ .f32 0#32) (ix2 (y 0) (y 1)) = (0 : EReal) from AttBwd.zero_f32, zero_add]
  rfl

/-- Rows `r, …` of an array against the columns of weights that were turned. -/
theorem matmul_turned (a : FVec Ideal ⟨2, ![M, K]⟩ φ₁) (b : FVec Ideal ⟨2, ![N, K]⟩ φ₂) (A : (⟨2, ![R, K]⟩ : Shape).Idx → EReal)
    (W : (⟨2, ![K, N]⟩ : Shape).Idx → EReal) (r : ℕ) (ha : ∀ i k, (a (ix2 i k) : EReal) = at2 A (r + i.val) k.val)
    (hb : ∀ j k, (b (ix2 j k) : EReal) = at2 W k.val j.val) (y : (⟨2, ![M, N]⟩ : Shape).Idx) :
    FloatOps.matmul (F := Ideal) (DotDims.transposedRhs M K N) none a b (constant ⟨2, ![M, N]⟩ .f32 0#32) y
      = ∑ k : Fin K, at2 A (r + (y 0).val) k.val * at2 W k.val (y 1).val :=
  (matmul_nt a b y).trans (Finset.sum_congr rfl fun k _ => congrArg₂ (fun a b : EReal => a * b) (ha (y 0) k) (hb (y 1) k))

end Products

end
-- ==== Proof.Rms.lean ====
/- The gradient of a row's normalization by its root mean square, over the extended reals: the form with one mean of the
   normalized products, and the form that differentiates the root. No row need be finite: a row with an infinity is scaled
   by zero in both. -/
module

public import proofs.«01_k».proof.Proof.Plain

@[expose] public section

noncomputable section

namespace Rms

open Idealize.ShloMosaic

theorem width : Ideal.ofBits .f32 0x44800000#32 = ((1024 : ℝ) : EReal) := by
  simp [Ideal.ofBits, Ideal.ieee, -EReal.coe_mul]; norm_num

theorem width_512 : Ideal.ofBits .f32 0x44000000#32 = ((512 : ℝ) : EReal) := by
  simp [Ideal.ofBits, Ideal.ieee, -EReal.coe_mul]; norm_num

theorem neg_half : Ideal.ofBits .f32 0xBF000000#32 = ((-(1 / 2) : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The mean square of a row, its sum divided by `W`, and a small number; and the reciprocal of its root. -/
def square_of {n : ℕ} (W : EReal) (x : Fin n → EReal) : EReal := Ideal.div (∑ k, x k * x k) W + Ideal.ofBits .f32 0x3727C5AC#32
def scale_of {n : ℕ} (W : EReal) (x : Fin n → EReal) : EReal := Ideal.rsqrt (square_of W x)

/-- The same for a row of 1024. -/
def square (x : Fin 1024 → EReal) : EReal :=
  Ideal.div (∑ k, x k * x k) (Ideal.ofBits .f32 0x44800000#32) + Ideal.ofBits .f32 0x3727C5AC#32
def scale (x : Fin 1024 → EReal) : EReal := Ideal.rsqrt (square x)

theorem square_nonneg (a : EReal) : 0 ≤ a * a := by
  rcases le_total 0 a with h | h
  · exact mul_nonneg h h
  · rw [← neg_mul_neg]
    exact mul_nonneg (EReal.neg_nonneg.2 h) (EReal.neg_nonneg.2 h)

/-- Either the row has an infinity, or the root is that of a positive real. -/
theorem cases {n : ℕ} {w : ℝ} (hw : 0 < w) (x : Fin n → EReal) : (square_of (w : EReal) x = ⊤ ∧ scale_of (w : EReal) x = 0)
    ∨ ∃ r : ℝ, 0 < r ∧ scale_of (w : EReal) x = (r : EReal) ∧ square_of (w : EReal) x = ((1 / (r * r) : ℝ) : EReal) := by
  obtain ⟨e, he, hq⟩ := eps
  have hn : 0 ≤ ∑ k, x k * x k := Finset.sum_nonneg fun k _ => square_nonneg (x k)
  unfold scale_of square_of
  rw [hq]
  generalize (∑ k, x k * x k) = s at hn ⊢
  induction s using EReal.rec with
  | bot => exact absurd hn (by simp)
  | top =>
    left
    have h : Ideal.div ⊤ (w : EReal) + (e : EReal) = ⊤ := by
      rw [Ideal.div, if_neg (by exact_mod_cast hw.ne'), ← EReal.coe_inv, EReal.top_mul_coe_of_pos (inv_pos.2 hw), EReal.top_add_coe]
    rw [h]
    exact ⟨rfl, rfl⟩
  | coe s =>
    right
    have hs : 0 ≤ s := by exact_mod_cast hn
    have hp : 0 < s / w + e := by positivity
    refine ⟨(Real.sqrt (s / w + e))⁻¹, by positivity, ?_, ?_⟩
    · rw [AttBwd.div_coe_coe hw.ne', ← EReal.coe_add, Ideal.rsqrt_coe, if_neg hp.not_gt, if_neg hp.ne']
    · rw [AttBwd.div_coe_coe hw.ne', ← EReal.coe_add, ← mul_inv, Real.mul_self_sqrt hp.le, one_div, inv_inv]

/-- A positive real goes through a difference. -/
theorem mul_sub_of_pos {r : ℝ} (hr : 0 < r) (a b : EReal) : (r : EReal) * (a - b) = r * a - r * b := by
  rw [sub_eq_add_neg, sub_eq_add_neg, EReal.left_distrib_of_nonneg_of_ne_top (by exact_mod_cast hr.le) (EReal.coe_ne_top r),
    mul_neg]

theorem mul_sum_of_pos {r : ℝ} (hr : 0 < r) {ι : Type} (s : Finset ι) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr.le) (EReal.coe_ne_top r), ih]

/-- The two forms of the gradient with respect to the row, added to what came by. -/
theorem grad_of {n : ℕ} {w : ℝ} (hw : 0 < w) (W : EReal) (hW : W = (w : EReal)) (x g : Fin n → EReal) (i : Fin n) (d : EReal) :
    d + scale_of W x * (g i - x i * scale_of W x * Ideal.div (∑ k, g k * (x k * scale_of W x)) W)
      = d + g i * scale_of W x
        + x i * Ideal.div ((∑ k, x k * g k) * (Ideal.ofBits .f32 0xBF000000#32 * Ideal.div (scale_of W x) (square_of W x))) W
        + Ideal.div ((∑ k, x k * g k) * (Ideal.ofBits .f32 0xBF000000#32 * Ideal.div (scale_of W x) (square_of W x))) W * x i := by
  rw [hW, neg_half]
  have hd : ∀ a : EReal, Ideal.div a (w : EReal) = ((1 / w : ℝ) : EReal) * a := fun a => by
    rw [Ideal.div, if_neg (by exact_mod_cast hw.ne'), ← EReal.coe_inv, mul_comm, one_div]
  simp only [hd]
  rcases cases hw x with ⟨hq, hr⟩ | ⟨r, hp, hr, hq⟩
  · rw [hq, hr]
    have hz : Ideal.div 0 ⊤ = 0 := by simp [Ideal.div]
    simp [hz]
  · rw [hq, hr, AttBwd.div_coe_coe (by positivity), ← EReal.coe_mul]
    have hs : (∑ k, g k * (x k * (r : EReal))) = (r : EReal) * ∑ k, x k * g k := by
      rw [mul_sum_of_pos hp]
      exact Finset.sum_congr rfl fun k _ => by rw [mul_comm (x k), mul_left_comm, mul_comm (g k)]
    rw [hs, mul_sub_of_pos hp, add_assoc, add_assoc]
    generalize (∑ k, x k * g k) = t
    have e1 : (r : EReal) * (x i * r * (((1 / w : ℝ) : EReal) * (r * t))) = ((r * r * r / w : ℝ) : EReal) * (x i * t) := by
      rw [show (r * r * r / w : ℝ) = r * r * (1 / w) * r by ring]
      simp only [EReal.coe_mul]
      ac_rfl
    have e2 : x i * (((1 / w : ℝ) : EReal) * (t * ((-(1 / 2) * (r / (1 / (r * r))) : ℝ) : EReal)))
        = -(((r * r * r / (2 * w) : ℝ) : EReal) * (x i * t)) := by
      rw [show (-(1 / 2) * (r / (1 / (r * r))) : ℝ) = -(r * r * r / 2) by field_simp, EReal.coe_neg,
        show (r * r * r / (2 * w) : ℝ) = 1 / w * (r * r * r / 2) by ring, EReal.coe_mul]
      simp only [mul_neg]
      congr 1
      ac_rfl
    rw [mul_comm _ (x i), e1, e2, mul_comm (g i), sub_eq_add_neg]
    congr 2
    generalize x i * t = u
    rw [show (r * r * r / w : ℝ) = r * r * r / (2 * w) + r * r * r / (2 * w) by ring]
    have hc : 0 < r * r * r / (2 * w) := by positivity
    generalize r * r * r / (2 * w) = c at hc ⊢
    rw [EReal.coe_add, EReal.right_distrib_of_nonneg (by exact_mod_cast hc.le) (by exact_mod_cast hc.le)]
    induction u using EReal.rec with
    | bot => rw [EReal.coe_mul_bot_of_pos hc]; rfl
    | top => rw [EReal.coe_mul_top_of_pos hc]; rfl
    | coe u => norm_cast; ring_nf

end Rms

end
-- ==== Proof.InZ.lean ====
/- The forward product with the gate's part of the input projection. -/
module

public import proofs.«01_k».proof.Proof.Rms
public import proofs.«01_k».proof.Proof.Gen.InZIdeal.Value
public import proofs.«01_k».proof.Proof.Gen.InZRefIdeal.Read

@[expose] public section

set_option maxRecDepth 100000

noncomputable section

namespace InZ

open Cert.InZIdeal Cert.InZIdeal.Gen Products
open Idealize.ShloMosaic hiding ix2 ix3 ix4 eq_ix2 eq_ix3 eq_ix4
open Idealize.ShloMosaic.TcCoe Idealize.ShloMosaic.ValueIdx Idealize.SL.Sem

variable (m : (ℓ : Loc nD τ sig) → Buf (Elt Ideal) ℓ) (d : Dev nD) (t : Fin cfg0.N)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

abbrev rows : S8192x1024.Idx → EReal := m ((d : Thread nD τ).loc main_arg0)
abbrev weights : S1024x1024.Idx → EReal := m ((d : Thread nD τ).loc main_arg1)

/-- The rows and the turned weights as the region finds them. -/
theorem entry_0 : (V m d main_v0 : S8192x1024.Idx → EReal) = rows m d := by
  simp [V, hostOps0]
  after_results_simp; rfl

theorem entry_1 : (V m d main_v2 : S1024x1024.Idx → EReal)
    = transpose S1024x1024 [1, 0] (weights m d) transposes_S1024x1024_S1024x1024_1_0 := by
  simp [V, hostOps0]
  after_results_simp; rfl

/-- What a grid point reads of them. -/
theorem read_0 (i : Fin 1024) (k : Fin 1024) : (iblk m d 0 t : S1024x1024.Idx → EReal) (ix2 i k)
    = at2 (rows m d) (t.val * 1024 + i.val) k.val := by
  refine Eq.trans ?_ (at2_eq (entry_0 m d))
  refine at2_of (V m d main_v0) _ ?_ ?_
  · exact (emb win0_0 t (ix2 i k) 0).trans (by rw [idx_0]; rfl)
  · exact emb_zero win0_0 t 1 (by rw [idx_0]; rfl) (ix2 i k)

theorem read_1 (j : Fin 1024) (k : Fin 1024) : (iblk m d 1 t : S1024x1024.Idx → EReal) (ix2 j k)
    = at2 (weights m d) k.val j.val := by
  refine Eq.trans (congrFun (entry_1 m d) _) (turned (weights m d) transposes_S1024x1024_S1024x1024_1_0 _ ?_ ?_)
  · exact emb_zero win0_1 t 0 (by rw [idx_1]; rfl) (ix2 j k)
  · exact emb_zero win0_1 t 1 (by rw [idx_1]; rfl) (ix2 j k)

/-- What a grid point writes. -/
theorem point (y : S1024x1024.Idx) : (out0_2 (iblk m d 0 t) (iblk m d 1 t) : S1024x1024.Idx → EReal) y
    = ∑ k : Fin 1024, at2 (rows m d) (t.val * 1024 + (y 0).val) k.val * at2 (weights m d) k.val (y 1).val := by
  unfold out0_2
  rw [View.canon_unit_zero origin, ld_whole, ld_whole]
  unfold k0_pay1
  dsimp only
  rw [shapeCast_self, shapeCast_self]
  exact matmul_turned (R := 8192) (M := 1024) (K := 1024) (N := 1024) (φ₁ := .bf16) (φ₂ := .bf16) (iblk m d 0 t) (iblk m d 1 t) (rows m d)
    (weights m d) (t.val * 1024) (read_0 m d t) (read_1 m d t) y

/-- The whole array. -/
theorem result : (dats m 0 d).arrAt 2 cfg0.N = Cert.InZRefIdeal.Read.val_main_v0 (F := Ideal) (rows m d) (weights m d) := by
  refine (dats m 0 d).arrAt_eq_of_covers 2 _ (by decide +kernel) fun t hf y => ?_
  blk_simp
  rw [after0_2]
  refine (point m d t y).trans (Eq.symm ((Cert.InZRefIdeal.Read.val_main_v0_apply _ _ _).trans ?_))
  refine Finset.sum_congr rfl fun k _ => hm (at2_of _ _ ?_ rfl) (at2_of _ _ rfl ?_)
  · exact (emb win0_2 t y 0).trans (by rw [idx_2]; rfl)
  · exact emb_zero win0_2 t 1 (by rw [idx_2]; rfl) y

theorem algebraic : Cert.algebraic_InZIdeal_InZRefIdeal (hInZIdeal := Cert.InZIdeal.Gen.facts)
    (hInZRefIdeal := Cert.InZRefIdeal.Gen.facts) := by
  intro m g m' g' _ hargs
  refine ⟨fun d => (Gen.dats m 0 d).arrAt 2 cfg0.N, Value.run_blocks m g, ?_⟩
  refine (θ_run (Cert.InZRefIdeal.defs (F := Ideal)) _ _).mono (fun r h d => ?_) (Cert.InZRefIdeal.Value.run (F := Ideal) m' g')
  refine ⟨(h d).1.trans ?_, (h d).2⟩
  rw [(hargs d).1, (hargs d).2]
  exact (result m d).symm

/-- Every execution of the reference ends, its arguments unchanged. -/
theorem ref_frame : Cert.quiescent_InZRefIdeal (hInZRefIdeal := Cert.InZRefIdeal.Gen.facts) := fun m g _ =>
  (θ_run (Cert.InZRefIdeal.defs (F := Ideal)) _ _).mono (fun r h => ⟨fun d => (h d).2, sem_eq_zero_of_no_sems (by decide) r.2⟩)
    (Cert.InZRefIdeal.Value.run (F := Ideal) m g)

end InZ

end
-- ==== Proof.GradIn.lean ====
/- The gradient of a quarter of the input projection's weights (those of the gate, the queries, the keys and the values
   alike): columns of the cotangent against columns of the layer's input, in four runs of 2048 rows. -/
module

public import proofs.«01_k».proof.Proof.InZ
public import proofs.«01_k».proof.Proof.Gen.GradInIdeal.Value
public import proofs.«01_k».proof.Proof.Gen.GradInRefIdeal.Read

@[expose] public section

set_option maxRecDepth 100000

noncomputable section

namespace GradIn

open Cert.GradInIdeal Cert.GradInIdeal.Gen Products Cert.GradInRefIdeal.Read
open Idealize.ShloMosaic hiding ix2 ix3 ix4 eq_ix2 eq_ix3 eq_ix4
open Idealize.ShloMosaic.TcCoe Idealize.ShloMosaic.ValueIdx Idealize.SL.Sem

section Step

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x0 : Vec Ideal S2048x1024 .bf16)
  (x1 : Vec Ideal S2048x1024 .bf16) (acc : Vec Ideal S1024x1024 .f32)

/-- One run's products added to what the scratch holds. -/
theorem step (y : S1024x1024.Idx) : (k0_pay2 acc x0 x1 : S1024x1024.Idx → EReal) y
    = (acc y : EReal) + ∑ k : Fin 2048, (x0 (ix2 k (y 0)) : EReal) * (x1 (ix2 k (y 1)) : EReal) := by
  unfold k0_pay2
  simp only [shapeCast_self]
  exact congrArg (fun a : EReal => (acc y : EReal) + a) (matmul_tn (M := 1024) (K := 2048) (N := 1024) (φ₁ := .bf16) (φ₂ := .bf16) x0 x1 y)

/-- What the scratch holds after a run: the first starts from zero, … -/
theorem scratch_A (h0 h1) (y : S1024x1024.Idx) : (sout0_A_0 c i a3 h3 a4 h4 a5 h5 a6 h6 h0 h1 x0 x1 : S1024x1024.Idx → EReal) y
    = ∑ k : Fin 2048, (x0 (ix2 k (y 0)) : EReal) * (x1 (ix2 k (y 1)) : EReal) := by
  unfold sout0_A_0
  rw [View.read_writes_junk_eq_canon]
  unfold kernelRun0_A
  dsimp only
  sl_unfold_words
  rw [View.canon_cons_unit_zero origin, View.readCov_unit_zero _ origin]
  simp only [View.readAt_eq_ld, h3.read_unread, h4.read_unread, ld_whole]
  rw [step]
  exact (congrArg (fun a : EReal => a + _) AttBwd.zero_f32).trans (zero_add _)

/-- … the others from what the one before left, … -/
theorem scratch_B (h0 h1) : sout0_B_0 c i a3 h3 a4 h4 a5 h5 a6 h6 h0 h1 x0 x1 acc = k0_pay2 acc x0 x1 := by
  unfold sout0_B_0
  rw [View.read_writes_junk_eq_canon]
  unfold kernelRun0_B
  dsimp only
  rw [View.canon_unit_zero origin]
  simp only [View.readAt_eq_ld, h3.read_unread, h4.read_unread, h6.read_unread, ld_whole]

theorem scratch_C (h0 h1) : sout0_C_0 c i a3 h3 a4 h4 a5 h5 a6 h6 h0 h1 x0 x1 acc = k0_pay2 acc x0 x1 := by
  unfold sout0_C_0
  rw [View.read_writes_junk_eq_canon]
  unfold kernelRun0_C
  dsimp only
  sl_unfold_words
  rw [View.canon_unit_zero origin]
  simp only [View.readAt_eq_ld, h3.read_unread, h4.read_unread, h6.read_unread, ld_whole]

/-- … and the last writes it out. -/
theorem out_C (h0 h1) : (out0_C_2 c i a3 h3 a4 h4 a5 h5 a6 h6 h0 h1 x0 x1 acc : S1024x1024.Idx → EReal)
    = sout0_C_0 c i a3 h3 a4 h4 a5 h5 a6 h6 h0 h1 x0 x1 acc := by
  rw [scratch_C]
  unfold out0_C_2
  rw [View.read_writes_junk_eq_canon]
  unfold kernelRun0_C
  dsimp only
  sl_unfold_words
  rw [View.canon_unit_zero origin, View.readCov_unit_zero _ origin]
  simp only [View.readAt_eq_ld, h3.read_unread, h4.read_unread, h6.read_unread, ld_whole]
  rfl

end Step

variable (m : (ℓ : Loc nD τ sig) → Buf (Elt Ideal) ℓ) (d : Dev nD) (t : Fin cfg0.N)

theorem idx_0 : ∀ t : Fin cfg0.N, win0_0.index t = ![t.val % 4, t.val / 4] := by decide +kernel
theorem idx_1 : ∀ t : Fin cfg0.N, win0_1.index t = ![t.val % 4, 0] := by decide +kernel
theorem idx_2 : ∀ t : Fin cfg0.N, win0_2.index t = ![t.val / 4, 0] := by decide +kernel

/-- The arguments as the region finds them. -/
theorem entry_ct : (V m d main_v0 : S8192x1024.Idx → EReal) = m ((d : Thread nD τ).loc main_arg0) := by
  simp [V, hostOps0]
  after_results_simp; rfl

theorem entry_h : (V m d main_v1 : S8192x1024.Idx → EReal) = m ((d : Thread nD τ).loc main_arg1) := by
  simp [V, hostOps0]
  after_results_simp; rfl

/-- The two arguments, and a term of the product of their columns. -/
abbrev ct : S8192x1024.Idx → EReal := m ((d : Thread nD τ).loc main_arg0)
abbrev h1 : S8192x1024.Idx → EReal := m ((d : Thread nD τ).loc main_arg1)
abbrev term (y : S1024x1024.Idx) (j x : ℕ) : EReal := at2 (ct m d) x (j * 1024 + (y 0).val) * at2 (h1 m d) x (y 1).val

/-- What a grid point reads of them. -/
abbrev block_0 : S2048x1024.Idx → EReal := iblk m d 0 t
abbrev block_1 : S2048x1024.Idx → EReal := iblk m d 1 t

theorem read_0 (k : Fin 2048) (j : Fin 1024) : block_0 m d t (ix2 k j)
    = at2 (ct m d) (t.val % 4 * 2048 + k.val) (t.val / 4 * 1024 + j.val) := by
  refine Eq.trans ?_ (at2_eq (entry_ct m d))
  refine at2_of (V m d main_v0) _ ?_ ?_
  · exact (emb win0_0 t (ix2 k j) 0).trans (by rw [idx_0]; rfl)
  · exact (emb win0_0 t (ix2 k j) 1).trans (by rw [idx_0]; rfl)

theorem read_1 (k : Fin 2048) (j : Fin 1024) : block_1 m d t (ix2 k j)
    = at2 (h1 m d) (t.val % 4 * 2048 + k.val) j.val := by
  refine Eq.trans ?_ (at2_eq (entry_h m d))
  refine at2_of (V m d main_v1) _ ?_ ?_
  · exact (emb win0_1 t (ix2 k j) 0).trans (by rw [idx_1]; rfl)
  · exact emb_zero win0_1 t 1 (by rw [idx_1]; rfl) (ix2 k j)

/-- The products a grid point forms. -/
theorem run_sum (y : S1024x1024.Idx) :
    ∑ k : Fin 2048, block_0 m d t (ix2 k (y 0)) * block_1 m d t (ix2 k (y 1))
      = ∑ k : Fin 2048, term m d y (t.val / 4) (t.val % 4 * 2048 + k.val) :=
  Finset.sum_congr rfl fun k _ => hm (read_0 m d t k (y 0)) (read_1 m d t k (y 1))

/-- What the scratch holds after a point. -/
def held (n : ℕ) (h : n < cfg0.N) : S1024x1024.Idx → EReal := (outsAt0 m d n h).2

theorem held_first (h : t.val % 4 = 0) (y : S1024x1024.Idx) :
    held m d t.val t.isLt y = ∑ k : Fin 2048, term m d y (t.val / 4) (t.val % 4 * 2048 + k.val) := by
  unfold held
  rw [outsAt0_A m d t h (by omega)]
  dsimp only
  exact (scratch_A ..).trans (run_sum m d t y)

theorem held_next (h : t.val % 4 ≠ 0) (h' : t.val - 1 < cfg0.N) (y : S1024x1024.Idx) :
    held m d t.val t.isLt y
      = held m d (t.val - 1) h' y + ∑ k : Fin 2048, term m d y (t.val / 4) (t.val % 4 * 2048 + k.val) := by
  rw [← run_sum m d t y]
  unfold held
  by_cases h1 : t.val % 4 = 3
  · rw [outsAt0_C m d t h h1]
    dsimp only
    rw [scratch_C]
    exact step ..
  · rw [outsAt0_B m d t h h1]
    dsimp only
    rw [scratch_B]
    exact step ..

/-- What a writing point writes: the sum over all rows. -/
theorem point (h : t.val % 4 = 3) (y : S1024x1024.Idx) : ((outsAt0 m d t.val t.isLt).1 : S1024x1024.Idx → EReal) y
    = ∑ x : Fin 8192, term m d y (t.val / 4) x.val := by
  refine Eq.trans ?_ (sum_of_four (fun n hn => held m d n hn y) (term m d y) (fun n hn e => held_first m d ⟨n, hn⟩ e y)
    (fun n hn hn' e => held_next m d ⟨n, hn⟩ e hn' y) t.val t.isLt h)
  unfold held
  rw [outsAt0_C m d t (by omega) h]
  dsimp only
  rw [out_C]

/-- The whole array. -/
theorem result : (dats m 0 d).arrAt 2 cfg0.N
    = val_main_v5 (F := Ideal) (m ((d : Thread nD τ).loc main_arg0)) (m ((d : Thread nD τ).loc main_arg1)) := by
  refine (dats m 0 d).arrAt_eq_of_covers 2 _ (by decide +kernel) fun t hf y => ?_
  blk_simp
  rw [after0_2]
  refine (point m d t ((flush0_2 t).mp hf) y).trans (Eq.symm ?_)
  refine (val_main_v5_apply _ _ _).trans ((val_main_v4_apply _ _ _).trans ((val_main_v3_apply _ _ _).trans
    ((val_main_v2_apply _ _ _).trans (Finset.sum_congr rfl fun k _ => ?_))))
  refine hm (at2_of _ _ rfl ?_) (at2_of _ _ rfl ?_)
  · exact (emb win0_2 t y 0).trans (by rw [idx_2]; rfl)
  · exact emb_zero win0_2 t 1 (by rw [idx_2]; rfl) y

theorem algebraic : Cert.algebraic_GradInIdeal_GradInRefIdeal (hGradInIdeal := Cert.GradInIdeal.Gen.facts)
    (hGradInRefIdeal := Cert.GradInRefIdeal.Gen.facts) := by
  intro m g m' g' _ hargs
  refine ⟨fun d => (Gen.dats m 0 d).arrAt 2 cfg0.N, Value.run_blocks m g, ?_⟩
  refine (θ_run (Cert.GradInRefIdeal.defs (F := Ideal)) _ _).mono (fun r h d => ?_) (Cert.GradInRefIdeal.Value.run (F := Ideal) m' g')
  refine ⟨(h d).1.trans ?_, (h d).2⟩
  rw [(hargs d).1, (hargs d).2]
  exact (result m d).symm

/-- Every execution of the reference ends, its arguments unchanged. -/
theorem ref_frame : Cert.quiescent_GradInRefIdeal (hGradInRefIdeal := Cert.GradInRefIdeal.Gen.facts) := fun m g _ =>
  (θ_run (Cert.GradInRefIdeal.defs (F := Ideal)) _ _).mono (fun r h => ⟨fun d => (h d).2, sem_eq_zero_of_no_sems (by decide) r.2⟩)
    (Cert.GradInRefIdeal.Value.run (F := Ideal) m g)

end GradIn

end
-- ==== Proof.GradXbc.lean ====
/- The gradient of the convolved part of the input projection's weights, in two blocks of 768 columns. -/
module

public import proofs.«01_k».proof.Proof.GradIn
public import proofs.«01_k».proof.Proof.Gen.GradXbcIdeal.Value
public import proofs.«01_k».proof.Proof.Gen.GradXbcRefIdeal.Read

@[expose] public section

set_option maxRecDepth 100000

noncomputable section

namespace GradXbc

open Cert.GradXbcIdeal Cert.GradXbcIdeal.Gen Products Cert.GradXbcRefIdeal.Read
open Idealize.ShloMosaic hiding ix2 ix3 ix4 eq_ix2 eq_ix3 eq_ix4
open Idealize.ShloMosaic.TcCoe Idealize.ShloMosaic.ValueIdx Idealize.SL.Sem

section Step

variable (c : Dev nD) (i : grid0.Coords) (a3 : Memref sig .tc .vmem S2048x768 .bf16) (h3 : a3.IsWhole)
  (a4 : Memref sig .tc .vmem S2048x1024 .bf16) (h4 : a4.IsWhole) (a5 : Memref sig .tc .vmem S768x1024 .bf16) (h5 : a5.IsWhole)
  (a6 : Memref sig .tc .vmem S768x1024 .f32) (h6 : a6.IsWhole) (x0 : Vec Ideal S2048x768 .bf16)
  (x1 : Vec Ideal S2048x1024 .bf16) (acc : Vec Ideal S768x1024 .f32)

/-- One run's products added to what the scratch holds. -/
theorem step (y : S768x1024.Idx) : (k0_pay2 acc x0 x1 : S768x1024.Idx → EReal) y
    = (acc y : EReal) + ∑ k : Fin 2048, (x0 (ix2 k (y 0)) : EReal) * (x1 (ix2 k (y 1)) : EReal) := by
  unfold k0_pay2
  simp only [shapeCast_self]
  exact congrArg (fun a : EReal => (acc y : EReal) + a) (matmul_tn (M := 768) (K := 2048) (N := 1024) (φ₁ := .bf16) (φ₂ := .bf16) x0 x1 y)

/-- What the scratch holds after a run: the first starts from zero, … -/
theorem scratch_A (h0 h1) (y : S768x1024.Idx) : (sout0_A_0 c i a3 h3 a4 h4 a5 h5 a6 h6 h0 h1 x0 x1 : S768x1024.Idx → EReal) y
    = ∑ k : Fin 2048, (x0 (ix2 k (y 0)) : EReal) * (x1 (ix2 k (y 1)) : EReal) := by
  unfold sout0_A_0
  rw [View.read_writes_junk_eq_canon]
  unfold kernelRun0_A
  dsimp only
  sl_unfold_words
  rw [View.canon_cons_unit_zero origin, View.readCov_unit_zero _ origin]
  simp only [View.readAt_eq_ld, h3.read_unread, h4.read_unread, ld_whole]
  rw [step]
  exact (congrArg (fun a : EReal => a + _) AttBwd.zero_f32).trans (zero_add _)

/-- … the others from what the one before left, … -/
theorem scratch_B (h0 h1) : sout0_B_0 c i a3 h3 a4 h4 a5 h5 a6 h6 h0 h1 x0 x1 acc = k0_pay2 acc x0 x1 := by
  unfold sout0_B_0
  rw [View.read_writes_junk_eq_canon]
  unfold kernelRun0_B
  dsimp only
  rw [View.canon_unit_zero origin]
  simp only [View.readAt_eq_ld, h3.read_unread, h4.read_unread, h6.read_unread, ld_whole]

theorem scratch_C (h0 h1) : sout0_C_0 c i a3 h3 a4 h4 a5 h5 a6 h6 h0 h1 x0 x1 acc = k0_pay2 acc x0 x1 := by
  unfold sout0_C_0
  rw [View.read_writes_junk_eq_canon]
  unfold kernelRun0_C
  dsimp only
  sl_unfold_words
  rw [View.canon_unit_zero origin]
  simp only [View.readAt_eq_ld, h3.read_unread, h4.read_unread, h6.read_unread, ld_whole]

/-- … and the last writes it out. -/
theorem out_C (h0 h1) : (out0_C_2 c i a3 h3 a4 h4 a5 h5 a6 h6 h0 h1 x0 x1 acc : S768x1024.Idx → EReal)
    = sout0_C_0 c i a3 h3 a4 h4 a5 h5 a6 h6 h0 h1 x0 x1 acc := by
  rw [scratch_C]
  unfold out0_C_2
  rw [View.read_writes_junk_eq_canon]
  unfold kernelRun0_C
  dsimp only
  sl_unfold_words
  rw [View.canon_unit_zero origin, View.readCov_unit_zero _ origin]
  simp only [View.readAt_eq_ld, h3.read_unread, h4.read_unread, h6.read_unread, ld_whole]
  rfl

end Step

variable (m : (ℓ : Loc nD τ sig) → Buf (Elt Ideal) ℓ) (d : Dev nD) (t : Fin cfg0.N)

theorem idx_0 : ∀ t : Fin cfg0.N, win0_0.index t = ![t.val % 4, t.val / 4] := by decide +kernel
theorem idx_1 : ∀ t : Fin cfg0.N, win0_1.index t = ![t.val % 4, 0] := by decide +kernel
theorem idx_2 : ∀ t : Fin cfg0.N, win0_2.index t = ![t.val / 4, 0] := by decide +kernel

/-- The arguments as the region finds them. -/
theorem entry_ct : (V m d main_v0 : S8192x1536.Idx → EReal) = m ((d : Thread nD τ).loc main_arg0) := by
  simp [V, hostOps0]
  after_results_simp; rfl

theorem entry_h : (V m d main_v1 : S8192x1024.Idx → EReal) = m ((d : Thread nD τ).loc main_arg1) := by
  simp [V, hostOps0]
  after_results_simp; rfl

/-- The two arguments, and a term of the product of their columns. -/
abbrev ct : S8192x1536.Idx → EReal := m ((d : Thread nD τ).loc main_arg0)
abbrev h1 : S8192x1024.Idx → EReal := m ((d : Thread nD τ).loc main_arg1)
abbrev term (y : S768x1024.Idx) (j x : ℕ) : EReal := at2 (ct m d) x (j * 768 + (y 0).val) * at2 (h1 m d) x (y 1).val

/-- What a grid point reads of them. -/
abbrev block_0 : S2048x768.Idx → EReal := iblk m d 0 t
abbrev block_1 : S2048x1024.Idx → EReal := iblk m d 1 t

theorem read_0 (k : Fin 2048) (j : Fin 768) : block_0 m d t (ix2 k j)
    = at2 (ct m d) (t.val % 4 * 2048 + k.val) (t.val / 4 * 768 + j.val) := by
  refine Eq.trans ?_ (at2_eq (entry_ct m d))
  refine at2_of (V m d main_v0) _ ?_ ?_
  · exact (emb win0_0 t (ix2 k j) 0).trans (by rw [idx_0]; rfl)
  · exact (emb win0_0 t (ix2 k j) 1).trans (by rw [idx_0]; rfl)

theorem read_1 (k : Fin 2048) (j : Fin 1024) : block_1 m d t (ix2 k j)
    = at2 (h1 m d) (t.val % 4 * 2048 + k.val) j.val := by
  refine Eq.trans ?_ (at2_eq (entry_h m d))
  refine at2_of (V m d main_v1) _ ?_ ?_
  · exact (emb win0_1 t (ix2 k j) 0).trans (by rw [idx_1]; rfl)
  · exact emb_zero win0_1 t 1 (by rw [idx_1]; rfl) (ix2 k j)

/-- The products a grid point forms. -/
theorem run_sum (y : S768x1024.Idx) :
    ∑ k : Fin 2048, block_0 m d t (ix2 k (y 0)) * block_1 m d t (ix2 k (y 1))
      = ∑ k : Fin 2048, term m d y (t.val / 4) (t.val % 4 * 2048 + k.val) :=
  Finset.sum_congr rfl fun k _ => hm (read_0 m d t k (y 0)) (read_1 m d t k (y 1))

/-- What the scratch holds after a point. -/
def held (n : ℕ) (h : n < cfg0.N) : S768x1024.Idx → EReal := (outsAt0 m d n h).2

theorem held_first (h : t.val % 4 = 0) (y : S768x1024.Idx) :
    held m d t.val t.isLt y = ∑ k : Fin 2048, term m d y (t.val / 4) (t.val % 4 * 2048 + k.val) := by
  unfold held
  rw [outsAt0_A m d t h (by omega)]
  dsimp only
  exact (scratch_A ..).trans (run_sum m d t y)

theorem held_next (h : t.val % 4 ≠ 0) (h' : t.val - 1 < cfg0.N) (y : S768x1024.Idx) :
    held m d t.val t.isLt y
      = held m d (t.val - 1) h' y + ∑ k : Fin 2048, term m d y (t.val / 4) (t.val % 4 * 2048 + k.val) := by
  rw [← run_sum m d t y]
  unfold held
  by_cases h1 : t.val % 4 = 3
  · rw [outsAt0_C m d t h h1]
    dsimp only
    rw [scratch_C]
    exact step ..
  · rw [outsAt0_B m d t h h1]
    dsimp only
    rw [scratch_B]
    exact step ..

/-- What a writing point writes: the sum over all rows. -/
theorem point (h : t.val % 4 = 3) (y : S768x1024.Idx) : ((outsAt0 m d t.val t.isLt).1 : S768x1024.Idx → EReal) y
    = ∑ x : Fin 8192, term m d y (t.val / 4) x.val := by
  refine Eq.trans ?_ (sum_of_four (fun n hn => held m d n hn y) (term m d y) (fun n hn e => held_first m d ⟨n, hn⟩ e y)
    (fun n hn hn' e => held_next m d ⟨n, hn⟩ e hn' y) t.val t.isLt h)
  unfold held
  rw [outsAt0_C m d t (by omega) h]
  dsimp only
  rw [out_C]

/-- The whole array. -/
theorem result : (dats m 0 d).arrAt 2 cfg0.N
    = val_main_v5 (F := Ideal) (m ((d : Thread nD τ).loc main_arg0)) (m ((d : Thread nD τ).loc main_arg1)) := by
  refine (dats m 0 d).arrAt_eq_of_covers 2 _ (by decide +kernel) fun t hf y => ?_
  blk_simp
  rw [after0_2]
  refine (point m d t ((flush0_2 t).mp hf) y).trans (Eq.symm ?_)
  refine (val_main_v5_apply _ _ _).trans ((val_main_v4_apply _ _ _).trans ((val_main_v3_apply _ _ _).trans
    ((val_main_v2_apply _ _ _).trans (Finset.sum_congr rfl fun k _ => ?_))))
  refine hm (at2_of _ _ rfl ?_) (at2_of _ _ rfl ?_)
  · exact (emb win0_2 t y 0).trans (by rw [idx_2]; rfl)
  · exact emb_zero win0_2 t 1 (by rw [idx_2]; rfl) y

theorem algebraic : Cert.algebraic_GradXbcIdeal_GradXbcRefIdeal (hGradXbcIdeal := Cert.GradXbcIdeal.Gen.facts)
    (hGradXbcRefIdeal := Cert.GradXbcRefIdeal.Gen.facts) := by
  intro m g m' g' _ hargs
  refine ⟨fun d => (Gen.dats m 0 d).arrAt 2 cfg0.N, Value.run_blocks m g, ?_⟩
  refine (θ_run (Cert.GradXbcRefIdeal.defs (F := Ideal)) _ _).mono (fun r h d => ?_) (Cert.GradXbcRefIdeal.Value.run (F := Ideal) m' g')
  refine ⟨(h d).1.trans ?_, (h d).2⟩
  rw [(hargs d).1, (hargs d).2]
  exact (result m d).symm

/-- Every execution of the reference ends, its arguments unchanged. -/
theorem ref_frame : Cert.quiescent_GradXbcRefIdeal (hGradXbcRefIdeal := Cert.GradXbcRefIdeal.Gen.facts) := fun m g _ =>
  (θ_run (Cert.GradXbcRefIdeal.defs (F := Ideal)) _ _).mono (fun r h => ⟨fun d => (h d).2, sem_eq_zero_of_no_sems (by decide) r.2⟩)
    (Cert.GradXbcRefIdeal.Value.run (F := Ideal) m g)

end GradXbc

end
-- ==== Proof.InXbc.lean ====
/- The forward product with the convolved part of the input projection. -/
module

public import proofs.«01_k».proof.Proof.GradXbc
public import proofs.«01_k».proof.Proof.Gen.InXbcIdeal.Value
public import proofs.«01_k».proof.Proof.Gen.InXbcRefIdeal.Read

@[expose] public section

set_option maxRecDepth 100000

noncomputable section

namespace InXbc

open Cert.InXbcIdeal Cert.InXbcIdeal.Gen Products
open Idealize.ShloMosaic hiding ix2 ix3 ix4 eq_ix2 eq_ix3 eq_ix4
open Idealize.ShloMosaic.TcCoe Idealize.ShloMosaic.ValueIdx Idealize.SL.Sem

variable (m : (ℓ : Loc nD τ sig) → Buf (Elt Ideal) ℓ) (d : Dev nD) (t : Fin cfg0.N)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

abbrev rows : S8192x1024.Idx → EReal := m ((d : Thread nD τ).loc main_arg0)
abbrev weights : S1024x1536.Idx → EReal := m ((d : Thread nD τ).loc main_arg1)

/-- The rows and the turned weights as the region finds them. -/
theorem entry_0 : (V m d main_v0 : S8192x1024.Idx → EReal) = rows m d := by
  simp [V, hostOps0]
  after_results_simp; rfl

theorem entry_1 : (V m d main_v2 : S1536x1024.Idx → EReal)
    = transpose S1536x1024 [1, 0] (weights m d) transposes_S1024x1536_S1536x1024_1_0 := by
  simp [V, hostOps0]
  after_results_simp; rfl

/-- What a grid point reads of them. -/
theorem read_0 (i : Fin 512) (k : Fin 1024) : (iblk m d 0 t : S512x1024.Idx → EReal) (ix2 i k)
    = at2 (rows m d) (t.val * 512 + i.val) k.val := by
  refine Eq.trans ?_ (at2_eq (entry_0 m d))
  refine at2_of (V m d main_v0) _ ?_ ?_
  · exact (emb win0_0 t (ix2 i k) 0).trans (by rw [idx_0]; rfl)
  · exact emb_zero win0_0 t 1 (by rw [idx_0]; rfl) (ix2 i k)

theorem read_1 (j : Fin 1536) (k : Fin 1024) : (iblk m d 1 t : S1536x1024.Idx → EReal) (ix2 j k)
    = at2 (weights m d) k.val j.val := by
  refine Eq.trans (congrFun (entry_1 m d) _) (turned (weights m d) transposes_S1024x1536_S1536x1024_1_0 _ ?_ ?_)
  · exact emb_zero win0_1 t 0 (by rw [idx_1]; rfl) (ix2 j k)
  · exact emb_zero win0_1 t 1 (by rw [idx_1]; rfl) (ix2 j k)

/-- What a grid point writes. -/
theorem point (y : S512x1536.Idx) : (out0_2 (iblk m d 0 t) (iblk m d 1 t) : S512x1536.Idx → EReal) y
    = ∑ k : Fin 1024, at2 (rows m d) (t.val * 512 + (y 0).val) k.val * at2 (weights m d) k.val (y 1).val := by
  unfold out0_2
  rw [View.canon_unit_zero origin, ld_whole, ld_whole]
  unfold k0_pay1
  dsimp only
  rw [shapeCast_self, shapeCast_self]
  exact matmul_turned (R := 8192) (M := 512) (K := 1024) (N := 1536) (φ₁ := .bf16) (φ₂ := .bf16) (iblk m d 0 t) (iblk m d 1 t) (rows m d)
    (weights m d) (t.val * 512) (read_0 m d t) (read_1 m d t) y

/-- The whole array. -/
theorem result : (dats m 0 d).arrAt 2 cfg0.N = Cert.InXbcRefIdeal.Read.val_main_v0 (F := Ideal) (rows m d) (weights m d) := by
  refine (dats m 0 d).arrAt_eq_of_covers 2 _ (by decide +kernel) fun t hf y => ?_
  blk_simp
  rw [after0_2]
  refine (point m d t y).trans (Eq.symm ((Cert.InXbcRefIdeal.Read.val_main_v0_apply _ _ _).trans ?_))
  refine Finset.sum_congr rfl fun k _ => hm (at2_of _ _ ?_ rfl) (at2_of _ _ rfl ?_)
  · exact (emb win0_2 t y 0).trans (by rw [idx_2]; rfl)
  · exact emb_zero win0_2 t 1 (by rw [idx_2]; rfl) y

theorem algebraic : Cert.algebraic_InXbcIdeal_InXbcRefIdeal (hInXbcIdeal := Cert.InXbcIdeal.Gen.facts)
    (hInXbcRefIdeal := Cert.InXbcRefIdeal.Gen.facts) := by
  intro m g m' g' _ hargs
  refine ⟨fun d => (Gen.dats m 0 d).arrAt 2 cfg0.N, Value.run_blocks m g, ?_⟩
  refine (θ_run (Cert.InXbcRefIdeal.defs (F := Ideal)) _ _).mono (fun r h d => ?_) (Cert.InXbcRefIdeal.Value.run (F := Ideal) m' g')
  refine ⟨(h d).1.trans ?_, (h d).2⟩
  rw [(hargs d).1, (hargs d).2]
  exact (result m d).symm

/-- Every execution of the reference ends, its arguments unchanged. -/
theorem ref_frame : Cert.quiescent_InXbcRefIdeal (hInXbcRefIdeal := Cert.InXbcRefIdeal.Gen.facts) := fun m g _ =>
  (θ_run (Cert.InXbcRefIdeal.defs (F := Ideal)) _ _).mono (fun r h => ⟨fun d => (h d).2, sem_eq_zero_of_no_sems (by decide) r.2⟩)
    (Cert.InXbcRefIdeal.Value.run (F := Ideal) m g)

end InXbc

end
-- ==== Proof.InQkv.lean ====
/- The forward product with the attention's part of the input projection. -/
module

public import proofs.«01_k».proof.Proof.InXbc
public import proofs.«01_k».proof.Proof.Gen.InQkvIdeal.Value
public import proofs.«01_k».proof.Proof.Gen.InQkvRefIdeal.Read

@[expose] public section

set_option maxRecDepth 100000

noncomputable section

namespace InQkv

open Cert.InQkvIdeal Cert.InQkvIdeal.Gen Products Cert.InQkvRefIdeal.Read
open Idealize.ShloMosaic hiding ix2 ix3 ix4 eq_ix2 eq_ix3 eq_ix4
open Idealize.ShloMosaic.TcCoe Idealize.ShloMosaic.ValueIdx Idealize.SL.Sem

variable (m : (ℓ : Loc nD τ sig) → Buf (Elt Ideal) ℓ) (d : Dev nD) (t : Fin cfg0.N)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

abbrev rows : S8192x1024.Idx → EReal := m ((d : Thread nD τ).loc main_arg0)
abbrev weights : S1024x3072.Idx → EReal := m ((d : Thread nD τ).loc main_arg1)

/-- The rows and the turned weights as the region finds them. -/
theorem entry_0 : (V m d main_v0 : S8192x1024.Idx → EReal) = rows m d := by
  simp [V, hostOps0]
  after_results_simp; rfl

theorem entry_1 : (V m d main_v2 : S3072x1024.Idx → EReal)
    = transpose S3072x1024 [1, 0] (weights m d) transposes_S1024x3072_S3072x1024_1_0 := by
  simp [V, hostOps0]
  after_results_simp; rfl

/-- What a grid point reads of them. -/
theorem read_0 (i : Fin 512) (k : Fin 1024) : (iblk m d 0 t : S512x1024.Idx → EReal) (ix2 i k)
    = at2 (rows m d) (t.val * 512 + i.val) k.val := by
  refine Eq.trans ?_ (at2_eq (entry_0 m d))
  refine at2_of (V m d main_v0) _ ?_ ?_
  · exact (emb win0_0 t (ix2 i k) 0).trans (by rw [idx_0]; rfl)
  · exact emb_zero win0_0 t 1 (by rw [idx_0]; rfl) (ix2 i k)

theorem read_1 (j : Fin 3072) (k : Fin 1024) : (iblk m d 1 t : S3072x1024.Idx → EReal) (ix2 j k)
    = at2 (weights m d) k.val j.val := by
  refine Eq.trans (congrFun (entry_1 m d) _) (turned (weights m d) transposes_S1024x3072_S3072x1024_1_0 _ ?_ ?_)
  · exact emb_zero win0_1 t 0 (by rw [idx_1]; rfl) (ix2 j k)
  · exact emb_zero win0_1 t 1 (by rw [idx_1]; rfl) (ix2 j k)

/-- What a grid point writes. -/
theorem point (y : S512x3072.Idx) : (out0_2 (iblk m d 0 t) (iblk m d 1 t) : S512x3072.Idx → EReal) y
    = ∑ k : Fin 1024, at2 (rows m d) (t.val * 512 + (y 0).val) k.val * at2 (weights m d) k.val (y 1).val := by
  unfold out0_2
  rw [View.canon_unit_zero origin, ld_whole, ld_whole]
  unfold k0_pay1
  dsimp only
  rw [shapeCast_self, shapeCast_self]
  exact matmul_turned (R := 8192) (M := 512) (K := 1024) (N := 3072) (φ₁ := .bf16) (φ₂ := .bf16) (iblk m d 0 t) (iblk m d 1 t) (rows m d)
    (weights m d) (t.val * 512) (read_0 m d t) (read_1 m d t) y

/-- The whole array. -/
theorem result : (dats m 0 d).arrAt 2 cfg0.N = val_main_v1 (F := Ideal) (rows m d) (weights m d) := by
  refine (dats m 0 d).arrAt_eq_of_covers 2 _ (by decide +kernel) fun t hf y => ?_
  blk_simp
  rw [after0_2]
  refine (point m d t y).trans (Eq.symm ((val_main_v1_apply _ _ _).trans
    ((val_main_v0_apply _ _ _).trans ?_)))
  refine Finset.sum_congr rfl fun k _ => hm (at2_of _ _ ?_ rfl) (at2_of _ _ rfl ?_)
  · exact (emb win0_2 t y 0).trans (by rw [idx_2]; rfl)
  · exact emb_zero win0_2 t 1 (by rw [idx_2]; rfl) y

theorem algebraic : Cert.algebraic_InQkvIdeal_InQkvRefIdeal (hInQkvIdeal := Cert.InQkvIdeal.Gen.facts)
    (hInQkvRefIdeal := Cert.InQkvRefIdeal.Gen.facts) := by
  intro m g m' g' _ hargs
  refine ⟨fun d => (Gen.dats m 0 d).arrAt 2 cfg0.N, Value.run_blocks m g, ?_⟩
  refine (θ_run (Cert.InQkvRefIdeal.defs (F := Ideal)) _ _).mono (fun r h d => ?_) (Cert.InQkvRefIdeal.Value.run (F := Ideal) m' g')
  refine ⟨(h d).1.trans ?_, (h d).2⟩
  rw [(hargs d).1, (hargs d).2]
  exact (result m d).symm

/-- Every execution of the reference ends, its arguments unchanged. -/
theorem ref_frame : Cert.quiescent_InQkvRefIdeal (hInQkvRefIdeal := Cert.InQkvRefIdeal.Gen.facts) := fun m g _ =>
  (θ_run (Cert.InQkvRefIdeal.defs (F := Ideal)) _ _).mono (fun r h => ⟨fun d => (h d).2, sem_eq_zero_of_no_sems (by decide) r.2⟩)
    (Cert.InQkvRefIdeal.Value.run (F := Ideal) m g)

end InQkv

end
-- ==== Proof.UpFwd.lean ====
/- The forward product with the first layer of the MLP. -/
module

public import proofs.«01_k».proof.Proof.InQkv
public import proofs.«01_k».proof.Proof.Gen.UpFwdIdeal.Value
public import proofs.«01_k».proof.Proof.Gen.UpFwdRefIdeal.Read

@[expose] public section

set_option maxRecDepth 100000

noncomputable section

namespace UpFwd

open Cert.UpFwdIdeal Cert.UpFwdIdeal.Gen Products Cert.UpFwdRefIdeal.Read
open Idealize.ShloMosaic hiding ix2 ix3 ix4 eq_ix2 eq_ix3 eq_ix4
open Idealize.ShloMosaic.TcCoe Idealize.ShloMosaic.ValueIdx Idealize.SL.Sem

variable (m : (ℓ : Loc nD τ sig) → Buf (Elt Ideal) ℓ) (d : Dev nD) (t : Fin cfg0.N)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

abbrev rows : S8192x1024.Idx → EReal := m ((d : Thread nD τ).loc main_arg0)
abbrev weights : S1024x4096.Idx → EReal := m ((d : Thread nD τ).loc main_arg1)

/-- The rows and the turned weights as the region finds them. -/
theorem entry_0 : (V m d main_v0 : S8192x1024.Idx → EReal) = rows m d := by
  simp [V, hostOps0]
  after_results_simp; rfl

theorem entry_1 : (V m d main_v2 : S4096x1024.Idx → EReal)
    = transpose S4096x1024 [1, 0] (weights m d) transposes_S1024x4096_S4096x1024_1_0 := by
  simp [V, hostOps0]
  after_results_simp; rfl

/-- What a grid point reads of them. -/
theorem read_0 (i : Fin 512) (k : Fin 1024) : (iblk m d 0 t : S512x1024.Idx → EReal) (ix2 i k)
    = at2 (rows m d) (t.val * 512 + i.val) k.val := by
  refine Eq.trans ?_ (at2_eq (entry_0 m d))
  refine at2_of (V m d main_v0) _ ?_ ?_
  · exact (emb win0_0 t (ix2 i k) 0).trans (by rw [idx_0]; rfl)
  · exact emb_zero win0_0 t 1 (by rw [idx_0]; rfl) (ix2 i k)

theorem read_1 (j : Fin 4096) (k : Fin 1024) : (iblk m d 1 t : S4096x1024.Idx → EReal) (ix2 j k)
    = at2 (weights m d) k.val j.val := by
  refine Eq.trans (congrFun (entry_1 m d) _) (turned (weights m d) transposes_S1024x4096_S4096x1024_1_0 _ ?_ ?_)
  · exact emb_zero win0_1 t 0 (by rw [idx_1]; rfl) (ix2 j k)
  · exact emb_zero win0_1 t 1 (by rw [idx_1]; rfl) (ix2 j k)

/-- What a grid point writes. -/
theorem point (y : S512x4096.Idx) : (out0_2 (iblk m d 0 t) (iblk m d 1 t) : S512x4096.Idx → EReal) y
    = ∑ k : Fin 1024, at2 (rows m d) (t.val * 512 + (y 0).val) k.val * at2 (weights m d) k.val (y 1).val := by
  unfold out0_2
  rw [View.canon_unit_zero origin, ld_whole, ld_whole]
  unfold k0_pay1
  dsimp only
  rw [shapeCast_self, shapeCast_self]
  exact matmul_turned (R := 8192) (M := 512) (K := 1024) (N := 4096) (φ₁ := .bf16) (φ₂ := .bf16) (iblk m d 0 t) (iblk m d 1 t) (rows m d)
    (weights m d) (t.val * 512) (read_0 m d t) (read_1 m d t) y

/-- The whole array. -/
theorem result : (dats m 0 d).arrAt 2 cfg0.N = val_main_v1 (F := Ideal) (rows m d) (weights m d) := by
  refine (dats m 0 d).arrAt_eq_of_covers 2 _ (by decide +kernel) fun t hf y => ?_
  blk_simp
  rw [after0_2]
  refine (point m d t y).trans (Eq.symm ((val_main_v1_apply _ _ _).trans
    ((val_main_v0_apply _ _ _).trans ?_)))
  refine Finset.sum_congr rfl fun k _ => hm (at2_of _ _ ?_ rfl) (at2_of _ _ rfl ?_)
  · exact (emb win0_2 t y 0).trans (by rw [idx_2]; rfl)
  · exact emb_zero win0_2 t 1 (by rw [idx_2]; rfl) y

theorem algebraic : Cert.algebraic_UpFwdIdeal_UpFwdRefIdeal (hUpFwdIdeal := Cert.UpFwdIdeal.Gen.facts)
    (hUpFwdRefIdeal := Cert.UpFwdRefIdeal.Gen.facts) := by
  intro m g m' g' _ hargs
  refine ⟨fun d => (Gen.dats m 0 d).arrAt 2 cfg0.N, Value.run_blocks m g, ?_⟩
  refine (θ_run (Cert.UpFwdRefIdeal.defs (F := Ideal)) _ _).mono (fun r h d => ?_) (Cert.UpFwdRefIdeal.Value.run (F := Ideal) m' g')
  refine ⟨(h d).1.trans ?_, (h d).2⟩
  rw [(hargs d).1, (hargs d).2]
  exact (result m d).symm

/-- Every execution of the reference ends, its arguments unchanged. -/
theorem ref_frame : Cert.quiescent_UpFwdRefIdeal (hUpFwdRefIdeal := Cert.UpFwdRefIdeal.Gen.facts) := fun m g _ =>
  (θ_run (Cert.UpFwdRefIdeal.defs (F := Ideal)) _ _).mono (fun r h => ⟨fun d => (h d).2, sem_eq_zero_of_no_sems (by decide) r.2⟩)
    (Cert.UpFwdRefIdeal.Value.run (F := Ideal) m g)

end UpFwd

end
-- ==== Proof.Rows.lean ====
/- A block of rows: its sums along and across the rows, a column or a row spread over it, and the normalization and its
   gradient as the kernels compute them. -/
module

public import proofs.«01_k».proof.Proof.UpFwd
public import Idealize.ShloMosaic.Lib.ValueLayoutCasts

@[expose] public section

noncomputable section

namespace Rms

open Idealize.ShloMosaic hiding ix2 ix3 ix4 eq_ix2 eq_ix3 eq_ix4
open Idealize.ShloMosaic.ValueIdx

variable {R C : ℕ}

theorem row_sum (v : FVec Ideal ⟨2, ![R, C]⟩ .f32) {b h hφ hacc hc} (y : (⟨2, ![R, 1]⟩ : Shape).Idx) :
    (shapeCast ⟨2, ![R, 1]⟩ (multiReduction .add [1] ⟨1, ![R]⟩ v b h hφ hacc) hc : (⟨2, ![R, 1]⟩ : Shape).Idx → EReal) y
      = ∑ k : Fin C, (v (ix2 (y 0) k) : EReal) := by
  refine (congrArg _ (eq_ix2 y)).trans ((shapeCast_a_a1_apply _ hc (y 0) (y 1)).trans
    ((Ideal.multiReduction_add_single v b h hφ hacc _).trans ?_))
  refine Finset.sum_congr rfl fun k _ => congrArg v (funext fun a => Fin.ext ?_)
  match a with
  | ⟨0, _⟩ => rfl
  | ⟨1, _⟩ => rfl

theorem col_sum (v : FVec Ideal ⟨2, ![R, C]⟩ .f32) {b h hφ hacc hc} (y : (⟨2, ![1, C]⟩ : Shape).Idx) :
    (shapeCast ⟨2, ![1, C]⟩ (multiReduction .add [0] ⟨1, ![C]⟩ v b h hφ hacc) hc : (⟨2, ![1, C]⟩ : Shape).Idx → EReal) y
      = ∑ r : Fin R, (v (ix2 r (y 1)) : EReal) := by
  refine (congrArg _ (eq_ix2 y)).trans ((shapeCast_a_1a_apply _ hc (y 0) (y 1)).trans
    ((Ideal.multiReduction_add_single v b h hφ hacc _).trans ?_))
  refine Finset.sum_congr rfl fun k _ => congrArg v (funext fun a => Fin.ext ?_)
  match a with
  | ⟨0, _⟩ => rfl
  | ⟨1, _⟩ => rfl

theorem spread (v : FVec Ideal ⟨2, ![R, 1]⟩ .f32) {h} (y : (⟨2, ![R, C]⟩ : Shape).Idx) :
    (broadcastTo ⟨2, ![R, C]⟩ v h : (⟨2, ![R, C]⟩ : Shape).Idx → EReal) y = v (ix2 (y 0) 0) :=
  broadcastTo_apply v h y (ix2 (y 0) 0) fun a => by
    match a with
    | ⟨0, _⟩ =>
      show (y 0).val = if R = 1 then 0 else (y 0).val
      have : (y 0).val < R := (y 0).isLt
      split_ifs <;> omega
    | ⟨1, _⟩ => rfl

theorem down (v : FVec Ideal ⟨2, ![1, C]⟩ .f32) {h} (y : (⟨2, ![R, C]⟩ : Shape).Idx) :
    (broadcastTo ⟨2, ![R, C]⟩ v h : (⟨2, ![R, C]⟩ : Shape).Idx → EReal) y = v (ix2 0 (y 1)) := by
  rw [eq_ix2 y]
  exact broadcastTo_1b_ab_apply v h (y 0) (y 1)

/-- The scale of each row of a block. -/
theorem scale_block_of {W : BitVec 32} (x : FVec Ideal ⟨2, ![R, C]⟩ .f32) {b h hφ hacc hc} (y : (⟨2, ![R, 1]⟩ : Shape).Idx) :
    (rsqrt (addf (divf (shapeCast ⟨2, ![R, 1]⟩ (multiReduction .add [1] ⟨1, ![R]⟩ (mulf x x) b h hφ hacc) hc)
        (broadcast ⟨2, ![R, 1]⟩ (Scalar.ofBits (F := Ideal) .f32 W)))
        (broadcast ⟨2, ![R, 1]⟩ (Scalar.ofBits (F := Ideal) .f32 0x3727C5AC#32))) : (⟨2, ![R, 1]⟩ : Shape).Idx → EReal) y
      = scale_of (Ideal.ofBits .f32 W) fun k => x (ix2 (y 0) k) := by
  show Ideal.rsqrt (Ideal.div ((shapeCast ⟨2, ![R, 1]⟩ (multiReduction .add [1] ⟨1, ![R]⟩ (mulf x x) b h hφ hacc) hc
    : (⟨2, ![R, 1]⟩ : Shape).Idx → EReal) y) _ + _) = _
  rw [row_sum]
  rfl

theorem scale_block (x : FVec Ideal ⟨2, ![R, 1024]⟩ .f32) {b h hφ hacc hc} (y : (⟨2, ![R, 1]⟩ : Shape).Idx) :
    (rsqrt (addf (divf (shapeCast ⟨2, ![R, 1]⟩ (multiReduction .add [1] ⟨1, ![R]⟩ (mulf x x) b h hφ hacc) hc)
        (broadcast ⟨2, ![R, 1]⟩ (Scalar.ofBits (F := Ideal) .f32 0x44800000#32)))
        (broadcast ⟨2, ![R, 1]⟩ (Scalar.ofBits (F := Ideal) .f32 0x3727C5AC#32))) : (⟨2, ![R, 1]⟩ : Shape).Idx → EReal) y
      = scale fun k => x (ix2 (y 0) k) :=
  scale_block_of x y

/-- What reaches a row through its normalization, the sum of its squares divided by `W`. -/
def back_of (W : EReal) (x g : Fin C → EReal) (i : Fin C) : EReal :=
  scale_of W x * (g i - x i * scale_of W x * Ideal.div (∑ k, g k * (x k * scale_of W x)) W)

theorem back_block_of {W : BitVec 32} (g x : FVec Ideal ⟨2, ![R, C]⟩ .f32) (r : FVec Ideal ⟨2, ![R, 1]⟩ .f32)
    (hr : ∀ y, (r y : EReal) = scale_of (Ideal.ofBits .f32 W) fun k => x (ix2 (y 0) k)) {b h hφ hacc hc h1 h2 h3}
    (y : (⟨2, ![R, C]⟩ : Shape).Idx) :
    (mulf (broadcastTo ⟨2, ![R, C]⟩ r h1) (subf g (mulf (mulf x (broadcastTo ⟨2, ![R, C]⟩ r h2))
        (broadcastTo ⟨2, ![R, C]⟩ (divf (shapeCast ⟨2, ![R, 1]⟩ (multiReduction .add [1] ⟨1, ![R]⟩
          (mulf g (mulf x (broadcastTo ⟨2, ![R, C]⟩ r h2))) b h hφ hacc) hc)
          (broadcast ⟨2, ![R, 1]⟩ (Scalar.ofBits (F := Ideal) .f32 W))) h3))) : (⟨2, ![R, C]⟩ : Shape).Idx → EReal) y
      = back_of (Ideal.ofBits .f32 W) (fun k => x (ix2 (y 0) k)) (fun k => g (ix2 (y 0) k)) (y 1) := by
  show (broadcastTo ⟨2, ![R, C]⟩ r h1 : (⟨2, ![R, C]⟩ : Shape).Idx → EReal) y
    * (g y - x y * (broadcastTo ⟨2, ![R, C]⟩ r h2 : (⟨2, ![R, C]⟩ : Shape).Idx → EReal) y * _) = _
  refine congrArg₂ (fun a b : EReal => a * b) ((spread r y).trans (hr _)) (congrArg₂ (fun a b : EReal => a - b) (congrArg g (eq_ix2 y))
    (congrArg₂ (fun a b : EReal => a * b) (congrArg₂ (fun a b : EReal => a * b) (congrArg x (eq_ix2 y)) ((spread r y).trans (hr _))) ?_))
  refine (spread _ y).trans ?_
  refine congrArg (fun a : EReal => Ideal.div a _) ((row_sum _ _).trans (Finset.sum_congr rfl fun k _ => ?_))
  show g _ * (x _ * (broadcastTo ⟨2, ![R, C]⟩ r h2 : (⟨2, ![R, C]⟩ : Shape).Idx → EReal) _) = _
  rw [spread, hr]
  rfl

/-- The same for a row of 1024. -/
def back (x g : Fin 1024 → EReal) (i : Fin 1024) : EReal :=
  scale x * (g i - x i * scale x * Ideal.div (∑ k, g k * (x k * scale x)) (Ideal.ofBits .f32 0x44800000#32))

theorem back_block (g x : FVec Ideal ⟨2, ![R, 1024]⟩ .f32) (r : FVec Ideal ⟨2, ![R, 1]⟩ .f32)
    (hr : ∀ y, (r y : EReal) = scale fun k => x (ix2 (y 0) k)) {b h hφ hacc hc h1 h2 h3} (y : (⟨2, ![R, 1024]⟩ : Shape).Idx) :
    (mulf (broadcastTo ⟨2, ![R, 1024]⟩ r h1) (subf g (mulf (mulf x (broadcastTo ⟨2, ![R, 1024]⟩ r h2))
        (broadcastTo ⟨2, ![R, 1024]⟩ (divf (shapeCast ⟨2, ![R, 1]⟩ (multiReduction .add [1] ⟨1, ![R]⟩
          (mulf g (mulf x (broadcastTo ⟨2, ![R, 1024]⟩ r h2))) b h hφ hacc) hc)
          (broadcast ⟨2, ![R, 1]⟩ (Scalar.ofBits (F := Ideal) .f32 0x44800000#32))) h3))) : (⟨2, ![R, 1024]⟩ : Shape).Idx → EReal) y
      = back (fun k => x (ix2 (y 0) k)) (fun k => g (ix2 (y 0) k)) (y 1) :=
  back_block_of g x r hr y

/-- A sum that starts from the constant zero. -/
theorem from_zero (s : EReal) : Ideal.ofBits .f32 0x00000000#32 + s = s :=
  (congrArg (fun a : EReal => a + s) AttBwd.zero_f32).trans (zero_add s)

/-- A running sum, each point adding the next `b` terms of a sequence. -/
theorem sum_of_points {N b : ℕ} (S : ∀ n, n < N → EReal) (f : ℕ → EReal) (first : ∀ h, S 0 h = ∑ k : Fin b, f (0 * b + k.val))
    (next : ∀ n h h', S (n + 1) h = S n h' + ∑ k : Fin b, f ((n + 1) * b + k.val)) (n : ℕ) (h : n < N) :
    S n h = ∑ x : Fin ((n + 1) * b), f x.val := by
  refine Eq.trans ?_ (Products.sum_runs f b (n + 1))
  induction n with
  | zero => rw [first h, Nat.zero_add, Finset.sum_range_one]
  | succ n ih => rw [next n h (Nat.lt_of_succ_lt h), Finset.sum_range_succ, ih (Nat.lt_of_succ_lt h)]

end Rms

end
-- ==== Proof.UpBwd.lean ====
/- The cotangents of the MLP's input and of its norm's weights: the cotangent of the first layer taken back through its
   weights, then through the normalization, beside what came by the residual. -/
module

public import proofs.«01_k».proof.Proof.Rows
public import proofs.«01_k».proof.Proof.Gen.UpBwdIdeal.Value
public import proofs.«01_k».proof.Proof.Gen.UpBwdRefIdeal.Read

@[expose] public section

set_option maxRecDepth 100000

noncomputable section

namespace UpBwd

open Cert.UpBwdIdeal Cert.UpBwdIdeal.Gen Products Rms Cert.UpBwdRefIdeal.Read
open Idealize.ShloMosaic hiding ix2 ix3 ix4 eq_ix2 eq_ix3 eq_ix4
open Idealize.ShloMosaic.TcCoe Idealize.ShloMosaic.ValueIdx Idealize.SL.Sem

section Step

variable (c : Dev nD) (i : grid0.Coords) (a2 : Memref sig .tc .vmem S512x4096 .bf16) (h2 : a2.IsWhole)
  (a3 : Memref sig .tc .vmem S4096x1024 .bf16) (h3 : a3.IsWhole) (a4 : Memref sig .tc .vmem S512x1024 .f32) (h4 : a4.IsWhole)
  (a5 : Memref sig .tc .vmem S512x1024 .f32) (h5 : a5.IsWhole) (a6 : Memref sig .tc .vmem S1x1024 .f32) (h6 : a6.IsWhole)
  (a7 : Memref sig .tc .vmem S512x1024 .f32) (h7 : a7.IsWhole) (a8 : Memref sig .tc .vmem S1x1024 .f32) (h8 : a8.IsWhole)
  (x0 : Vec Ideal S512x4096 .bf16) (x1 : Vec Ideal S4096x1024 .bf16) (x2 x3 : Vec Ideal S512x1024 .f32) (x4 xo : Vec Ideal S1x1024 .f32)

/-- The block's products with the weights. -/
theorem product (y : S512x1024.Idx) : (k0_pay2 x0 x1 : S512x1024.Idx → EReal) y
    = ∑ k : Fin 4096, (x0 (ix2 (y 0) k) : EReal) * (x1 (ix2 k (y 1)) : EReal) := by
  unfold k0_pay2
  rw [shapeCast_self, shapeCast_self]
  exact matmul_nn (M := 512) (K := 4096) (N := 1024) (φ₁ := .bf16) (φ₂ := .bf16) x0 x1 y

theorem scales (y : S512x1.Idx) : (k0_pay3 x3 : S512x1.Idx → EReal) y = scale fun k => x3 (ix2 (y 0) k) :=
  scale_block (R := 512) x3 y

theorem normal (y : S512x1024.Idx) : (k0_pay4 x3 : S512x1024.Idx → EReal) y = x3 y * scale fun k => x3 (ix2 (y 0) k) :=
  congrArg (fun a : EReal => x3 y * a) ((spread (R := 512) (C := 1024) (k0_pay3 x3) y).trans (scales x3 _))

/-- The rows' cotangents. -/
theorem rows (y : S512x1024.Idx) : (k0_pay5 x0 x1 x3 x4 x2 : S512x1024.Idx → EReal) y
    = x2 y + back (fun k => x3 (ix2 (y 0) k)) (fun k => (k0_pay2 x0 x1 : S512x1024.Idx → EReal) (ix2 (y 0) k) * x4 (ix2 0 k)) (y 1) := by
  refine congrArg (fun a : EReal => x2 y + a) ((back_block (R := 512) (mulf (k0_pay2 x0 x1) (broadcastTo S512x1024 x4
    broadcasts_S1x1024_S512x1024)) x3 (k0_pay3 x3) (scales x3) y).trans ?_)
  refine congrArg (fun g => back _ g _) (funext fun k => ?_)
  exact congrArg (fun a : EReal => (k0_pay2 x0 x1 : S512x1024.Idx → EReal) (ix2 (y 0) k) * a) (down (R := 512) (C := 1024) x4 _)

/-- What a block adds to the row of the norm's weights. -/
theorem row (y : S1x1024.Idx) : (k0_pay1 (k0_pay2 x0 x1) (k0_pay4 x3) xo : S1x1024.Idx → EReal) y
    = xo y + ∑ r : Fin 512, (k0_pay2 x0 x1 : S512x1024.Idx → EReal) (ix2 r (y 1))
        * (x3 (ix2 r (y 1)) * scale fun k => x3 (ix2 r k)) := by
  unfold k0_pay1
  dsimp only
  rw [shapeCast_self]
  refine congrArg (fun a : EReal => xo y + a) ((col_sum (R := 512) (C := 1024) _ y).trans (Finset.sum_congr rfl fun r _ => ?_))
  exact congrArg (fun a : EReal => (k0_pay2 x0 x1 : S512x1024.Idx → EReal) (ix2 r (y 1)) * a) (normal x3 _)

/-- What the body leaves in its two blocks. -/
theorem rows_A (h0) : out0_A_5 c i a2 h2 a3 h3 a4 h4 a5 h5 a6 h6 a7 h7 a8 h8 h0 x0 x1 x2 x3 x4 = k0_pay5 x0 x1 x3 x4 x2 := by
  unfold out0_A_5
  rw [View.read_writes_junk_eq_canon]
  unfold kernelRun0_A
  dsimp only
  sl_unfold_words
  rw [View.canon_unit_zero origin]
  simp only [View.readAt_eq_ld, h2.read_unread, h3.read_unread, h4.read_unread, h5.read_unread, h6.read_unread, ld_whole]

theorem rows_B (h0) : out0_B_5 c i a2 h2 a3 h3 a4 h4 a5 h5 a6 h6 a7 h7 a8 h8 h0 x0 x1 x2 x3 x4 xo = k0_pay5 x0 x1 x3 x4 x2 := by
  unfold out0_B_5
  rw [View.read_writes_junk_eq_canon]
  unfold kernelRun0_B
  dsimp only
  sl_unfold_words
  rw [View.canon_unit_zero origin]
  simp only [View.readAt_eq_ld, h2.read_unread, h3.read_unread, h4.read_unread, h5.read_unread, h6.read_unread, ld_whole]

theorem row_A (h0) : out0_A_6 c i a2 h2 a3 h3 a4 h4 a5 h5 a6 h6 a7 h7 a8 h8 h0 x0 x1 x2 x3 x4
    = k0_pay1 (k0_pay2 x0 x1) (k0_pay4 x3) (k0_pay6 (F := Ideal)) := by
  unfold out0_A_6
  rw [View.read_writes_junk_eq_canon]
  unfold kernelRun0_A
  dsimp only
  sl_unfold_words
  rw [View.canon_cons_unit_zero origin, View.readCov_unit_zero _ origin]
  simp only [View.readAt_eq_ld, h2.read_unread, h3.read_unread, h5.read_unread, ld_whole]

theorem row_B (h0) : out0_B_6 c i a2 h2 a3 h3 a4 h4 a5 h5 a6 h6 a7 h7 a8 h8 h0 x0 x1 x2 x3 x4 xo
    = k0_pay1 (k0_pay2 x0 x1) (k0_pay4 x3) xo := by
  unfold out0_B_6
  rw [View.read_writes_junk_eq_canon]
  unfold kernelRun0_B
  dsimp only
  sl_unfold_words
  rw [View.canon_unit_zero origin]
  simp only [View.readAt_eq_ld, h2.read_unread, h3.read_unread, h5.read_unread, h8.read_unread, ld_whole]

end Step

variable (m : (ℓ : Loc nD τ sig) → Buf (Elt Ideal) ℓ) (d : Dev nD) (t : Fin cfg0.N)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel
theorem idx_3 : ∀ t : Fin cfg0.N, win0_3.index t = ![t.val, 0] := by decide +kernel
theorem idx_4 : ∀ t : Fin cfg0.N, win0_4.index t = ![0, 0] := by decide +kernel
theorem idx_5 : ∀ t : Fin cfg0.N, win0_5.index t = ![t.val, 0] := by decide +kernel
theorem idx_6 : ∀ t : Fin cfg0.N, win0_6.index t = ![0, 0] := by decide +kernel

/-- The arguments: the first layer's cotangent, its weights, what came by the residual, the rows, and the norm's weights. -/
abbrev ct : S8192x4096.Idx → EReal := m ((d : Thread nD τ).loc main_arg0)
abbrev weights : S1024x4096.Idx → EReal := m ((d : Thread nD τ).loc main_arg1)
abbrev past : S8192x1024.Idx → EReal := m ((d : Thread nD τ).loc main_arg2)
abbrev hidden : S8192x1024.Idx → EReal := m ((d : Thread nD τ).loc main_arg3)
abbrev norm : S1x1024.Idx → EReal := m ((d : Thread nD τ).loc main_arg4)

theorem entry_0 : (V m d main_v0 : S8192x4096.Idx → EReal) = ct m d := by
  simp [V, hostOps0]
  after_results_simp; rfl

theorem entry_1 : (V m d main_v2 : S4096x1024.Idx → EReal)
    = transpose S4096x1024 [1, 0] (weights m d) transposes_S1024x4096_S4096x1024_1_0 := by
  simp [V, hostOps0]
  after_results_simp; rfl

/-- What a grid point reads of them. -/
abbrev block_0 : S512x4096.Idx → EReal := iblk m d 0 t
abbrev block_1 : S4096x1024.Idx → EReal := iblk m d 1 t
abbrev block_2 : S512x1024.Idx → EReal := iblk m d 2 t
abbrev block_3 : S512x1024.Idx → EReal := iblk m d 3 t
abbrev block_4 : S1x1024.Idx → EReal := iblk m d 4 t

theorem read_0 (i : Fin 512) (k : Fin 4096) : block_0 m d t (ix2 i k) = at2 (ct m d) (t.val * 512 + i.val) k.val := by
  refine Eq.trans ?_ (at2_eq (entry_0 m d))
  refine at2_of (V m d main_v0) _ ?_ ?_
  · exact (emb win0_0 t (ix2 i k) 0).trans (by rw [idx_0]; rfl)
  · exact emb_zero win0_0 t 1 (by rw [idx_0]; rfl) (ix2 i k)

theorem read_1 (k : Fin 4096) (j : Fin 1024) : block_1 m d t (ix2 k j) = at2 (weights m d) j.val k.val := by
  refine Eq.trans (congrFun (entry_1 m d) _) (turned (weights m d) transposes_S1024x4096_S4096x1024_1_0 _ ?_ ?_)
  · exact emb_zero win0_1 t 0 (by rw [idx_1]; rfl) (ix2 k j)
  · exact emb_zero win0_1 t 1 (by rw [idx_1]; rfl) (ix2 k j)

theorem read_2 (i : Fin 512) (k : Fin 1024) : block_2 m d t (ix2 i k) = at2 (past m d) (t.val * 512 + i.val) k.val := by
  refine Eq.trans ?_ (at2_eq (V_main_arg2 m d))
  refine at2_of (V m d main_arg2) _ ?_ ?_
  · exact (emb win0_2 t (ix2 i k) 0).trans (by rw [idx_2]; rfl)
  · exact emb_zero win0_2 t 1 (by rw [idx_2]; rfl) (ix2 i k)

theorem read_3 (i : Fin 512) (k : Fin 1024) : block_3 m d t (ix2 i k) = at2 (hidden m d) (t.val * 512 + i.val) k.val := by
  refine Eq.trans ?_ (at2_eq (V_main_arg3 m d))
  refine at2_of (V m d main_arg3) _ ?_ ?_
  · exact (emb win0_3 t (ix2 i k) 0).trans (by rw [idx_3]; rfl)
  · exact emb_zero win0_3 t 1 (by rw [idx_3]; rfl) (ix2 i k)

theorem read_4 (i : Fin 1) (k : Fin 1024) : block_4 m d t (ix2 i k) = at2 (norm m d) 0 k.val := by
  refine Eq.trans ?_ (at2_eq (V_main_arg4 m d))
  refine at2_of (V m d main_arg4) _ ?_ ?_
  · exact (emb_zero win0_4 t 0 (by rw [idx_4]; rfl) (ix2 i k)).trans
      (congrArg Fin.val (Subsingleton.elim i 0))
  · exact emb_zero win0_4 t 1 (by rw [idx_4]; rfl) (ix2 i k)

section Math

variable (x0 : S8192x4096.Idx → EReal) (x1 : S1024x4096.Idx → EReal) (x2 x3 : S8192x1024.Idx → EReal) (x4 : S1x1024.Idx → EReal)

/-- The cotangent of the normalized rows, a row of the rows themselves, and the two results. -/
def back_of (r c : ℕ) : EReal := ∑ k : Fin 4096, at2 x0 r k.val * at2 x1 c k.val
def row_of (r : ℕ) (k : Fin 1024) : EReal := at2 x3 r k.val
def rows_of (r : ℕ) (c : Fin 1024) : EReal :=
  at2 x2 r c.val + back (row_of x3 r) (fun k => back_of x0 x1 r k.val * at2 x4 0 k.val) c
def term_of (c r : ℕ) : EReal := back_of x0 x1 r c * (at2 x3 r c * scale (row_of x3 r))

end Math

/-- What a point's blocks give. -/
theorem product_read (i : Fin 512) (c : Fin 1024) : (k0_pay2 (F := Ideal) (block_0 m d t) (block_1 m d t) : S512x1024.Idx → EReal) (ix2 i c)
    = back_of (ct m d) (weights m d) (t.val * 512 + i.val) c.val :=
  (product (block_0 m d t) (block_1 m d t) (ix2 i c)).trans
    (Finset.sum_congr rfl fun k _ => hm (read_0 m d t i k) (read_1 m d t k c))

theorem hidden_read (i : Fin 512) : (fun k : Fin 1024 => block_3 m d t (ix2 i k)) = row_of (hidden m d) (t.val * 512 + i.val) :=
  funext fun k => read_3 m d t i k

theorem rows_read (y : S512x1024.Idx) :
    (k0_pay5 (F := Ideal) (block_0 m d t) (block_1 m d t) (block_3 m d t) (block_4 m d t) (block_2 m d t) : S512x1024.Idx → EReal) y
      = rows_of (ct m d) (weights m d) (past m d) (hidden m d) (norm m d) (t.val * 512 + (y 0).val) (y 1) := by
  refine (rows (block_0 m d t) (block_1 m d t) (block_2 m d t) (block_3 m d t) (block_4 m d t) y).trans ?_
  refine ha ((congrArg (block_2 m d t) (eq_ix2 y)).trans (read_2 m d t (y 0) (y 1))) ?_
  refine congrArg₂ (fun x g => back x g (y 1)) (hidden_read m d t (y 0)) (funext fun k => ?_)
  exact hm (product_read m d t (y 0) k) (read_4 m d t 0 k)

/-- What a point writes of the rows. -/
theorem point_5 (y : S512x1024.Idx) : ((outsAt0 m d t.val t.isLt).1 : S512x1024.Idx → EReal) y
    = rows_of (ct m d) (weights m d) (past m d) (hidden m d) (norm m d) (t.val * 512 + (y 0).val) (y 1) := by
  refine Eq.trans ?_ (rows_read m d t y)
  by_cases h : t.val % 16 = 0
  · rw [outsAt0_A m d t h]
    dsimp only
    rw [rows_A]
  · rw [outsAt0_B m d t h]
    dsimp only
    rw [rows_B]

/-- What the row of the norm's weights holds after a point. -/
def held (n : ℕ) (h : n < cfg0.N) : S1x1024.Idx → EReal := (outsAt0 m d n h).2

theorem row_read (xo : S1x1024.Idx → EReal) (y : S1x1024.Idx) :
    (k0_pay1 (F := Ideal) (k0_pay2 (F := Ideal) (block_0 m d t) (block_1 m d t)) (k0_pay4 (F := Ideal) (block_3 m d t)) xo : S1x1024.Idx → EReal) y
      = xo y + ∑ k : Fin 512, term_of (ct m d) (weights m d) (hidden m d) (y 1).val (t.val * 512 + k.val) := by
  refine (row (block_0 m d t) (block_1 m d t) (block_3 m d t) xo y).trans
    (congrArg (fun a : EReal => xo y + a) (Finset.sum_congr rfl fun k _ => ?_))
  exact hm (product_read m d t k (y 1))
    (hm (read_3 m d t k (y 1)) (congrArg scale (hidden_read m d t k)))

theorem held_first (h : t.val % 16 = 0) (y : S1x1024.Idx) : held m d t.val t.isLt y
    = ∑ k : Fin 512, term_of (ct m d) (weights m d) (hidden m d) (y 1).val (t.val * 512 + k.val) := by
  unfold held
  rw [outsAt0_A m d t h]
  dsimp only
  rw [row_A]
  exact (row_read m d t _ y).trans (from_zero _)

theorem held_next (h : ¬t.val % 16 = 0) (h' : t.val - 1 < cfg0.N) (y : S1x1024.Idx) : held m d t.val t.isLt y
    = held m d (t.val - 1) h' y + ∑ k : Fin 512, term_of (ct m d) (weights m d) (hidden m d) (y 1).val (t.val * 512 + k.val) := by
  unfold held
  rw [outsAt0_B m d t h]
  dsimp only
  rw [row_B]
  exact row_read m d t _ y

/-- What the last point writes: the sum over all rows. -/
theorem point_6 (h : t.val % 16 = 15) (y : S1x1024.Idx) : ((outsAt0 m d t.val t.isLt).2 : S1x1024.Idx → EReal) y
    = ∑ r : Fin 8192, term_of (ct m d) (weights m d) (hidden m d) (y 1).val r.val := by
  have ht : t.val = 15 := by have := t.isLt.trans_eq N_0; omega
  have hs := sum_of_points (N := cfg0.N) (b := 512) (fun n hn => held m d n hn y)
    (term_of (ct m d) (weights m d) (hidden m d) (y 1).val) (fun h => held_first m d ⟨0, h⟩ rfl y)
    (fun n hn hn' => held_next m d ⟨n + 1, hn⟩ (by have := hn.trans_eq N_0; show ¬(n + 1) % 16 = 0; omega) hn' y) t.val t.isLt
  refine hs.trans ?_
  rw [ht]

section Reference

variable (x0 : S8192x4096.Idx → EReal) (x1 : S1024x4096.Idx → EReal) (x2 x3 : S8192x1024.Idx → EReal) (x4 : S1x1024.Idx → EReal)

/-- The reference: the mean of a row's squares, the scale, and the slope of the scale. -/
theorem ref_square (i : Cert.UpBwdRefIdeal.S8192x1.Idx) : (val_main_v7 (F := Ideal) x3 i : EReal) = square (row_of x3 (i 0).val) := by
  refine congrArg (fun a : EReal => Ideal.div a (Ideal.ofBits .f32 0x44800000#32) + Ideal.ofBits .f32 0x3727C5AC#32)
    ((val_main_v3_apply (F := Ideal) x3 i).trans ((val_main_v2_apply x3 _).trans ((from_zero _).trans (Finset.sum_congr rfl fun k _ => ?_))))
  exact hm (at2_of x3 _ rfl rfl) (at2_of x3 _ rfl rfl)

theorem ref_scale (i : Cert.UpBwdRefIdeal.S8192x1.Idx) : (val_main_v8 (F := Ideal) x3 i : EReal) = scale (row_of x3 (i 0).val) :=
  congrArg Ideal.rsqrt (ref_square x3 i)

theorem ref_slope (i : Cert.UpBwdRefIdeal.S8192x1.Idx) : (val_main_v11 (F := Ideal) x3 i : EReal)
    = Ideal.ofBits .f32 0xBF000000#32 * Ideal.div (scale (row_of x3 (i 0).val)) (square (row_of x3 (i 0).val)) :=
  congrArg (fun a : EReal => Ideal.ofBits .f32 0xBF000000#32 * a) (congrArg₂ Ideal.div (ref_scale x3 i) (ref_square x3 i))

theorem ref_product (i : S8192x1024.Idx) : (val_main_v18 (F := Ideal) x0 x1 i : EReal) = back_of x0 x1 (i 0).val (i 1).val :=
  (val_main_v18_apply x0 x1 i).trans (Finset.sum_congr rfl fun k _ =>
    hm (at2_of x0 _ rfl rfl) (at2_of x1 _ rfl rfl))

theorem ref_weighted (i : S8192x1024.Idx) : (val_main_v23 (F := Ideal) x0 x1 x4 i : EReal)
    = back_of x0 x1 (i 0).val (i 1).val * at2 x4 0 (i 1).val :=
  hm (ref_product x0 x1 i) ((val_main_v22_apply (F := Ideal) x4 i).trans ((val_main_v14_apply (F := Ideal) x4 _).trans
    ((val_main_v0_apply (F := Ideal) x4 _).trans (at2_of x4 _ rfl (Nat.mod_eq_of_lt (i 1).isLt)))))

/-- The part of a row's cotangent that comes through its scale. -/
theorem ref_through (i : S8192x1024.Idx) : (val_main_v35 (F := Ideal) x0 x1 x3 x4 i : EReal)
    = Ideal.div ((∑ k : Fin 1024, row_of x3 (i 0).val k * (back_of x0 x1 (i 0).val k.val * at2 x4 0 k.val))
        * (Ideal.ofBits .f32 0xBF000000#32 * Ideal.div (scale (row_of x3 (i 0).val)) (square (row_of x3 (i 0).val))))
        (Ideal.ofBits .f32 0x44800000#32) := by
  refine (val_main_v35_apply (F := Ideal) x0 x1 x3 x4 i).trans ((val_main_v34_apply x0 x1 x3 x4 _).trans ((from_zero _).trans
    ((Fin.sum_univ_one _).trans ?_)))
  refine congrArg (fun a : EReal => Ideal.div a (Ideal.ofBits .f32 0x44800000#32))
    (hm ((val_main_v27_apply (F := Ideal) x0 x1 x3 x4 _).trans ((val_main_v26_apply x0 x1 x3 x4 _).trans
      ((from_zero _).trans (Finset.sum_congr rfl fun k _ => ?_)))) (ref_slope x3 _))
  exact hm (at2_of x3 _ (Nat.mul_one _) rfl)
    ((ref_weighted x0 x1 x4 _).trans (congrArg (fun r : ℕ => back_of x0 x1 r k.val * at2 x4 0 k.val) (Nat.mul_one _)))

theorem ref_rows (i : S8192x1024.Idx) : (val_main_v39 (F := Ideal) x0 x1 x2 x3 x4 i : EReal)
    = rows_of x0 x1 x2 x3 x4 (i 0).val (i 1) := by
  refine Eq.trans ?_ (grad_of (by norm_num) _ width (row_of x3 (i 0).val) (fun k => back_of x0 x1 (i 0).val k.val * at2 x4 0 k.val) (i 1)
    (at2 x2 (i 0).val (i 1).val)).symm
  have hx : x3 i = row_of x3 (i 0).val (i 1) := at2_of x3 i rfl rfl
  refine ha (ha (ha
    (at2_of x2 i rfl rfl) (hm (ref_weighted x0 x1 x4 i)
      ((val_main_v28_apply (F := Ideal) x3 i).trans (ref_scale x3 _)))) (hm hx (ref_through x0 x1 x3 x4 i)))
    (hm (ref_through x0 x1 x3 x4 i) hx)

theorem ref_row (i : S1x1024.Idx) : (val_main_v40 (F := Ideal) x0 x1 x3 i : EReal)
    = ∑ r : Fin 8192, term_of x0 x1 x3 (i 1).val r.val := by
  refine (val_main_v40_apply (F := Ideal) x0 x1 x3 i).trans ((val_main_v24_apply x0 x1 x3 _).trans ((from_zero _).trans
    ((Fin.sum_univ_one _).trans ((val_main_v21_apply (F := Ideal) x0 x1 x3 _).trans ((val_main_v20_apply x0 x1 x3 _).trans ((from_zero _).trans
      (Finset.sum_congr rfl fun k _ => ?_)))))))
  have hc : 0 * 1024 + (i 1).val = (i 1).val := by omega
  refine Eq.trans (mul_comm (_ : EReal) _) (hm ((ref_product x0 x1 _).trans
    (congrArg (back_of x0 x1 k.val) hc)) (hm (at2_of x3 _ rfl hc)
      ((val_main_v12_apply (F := Ideal) x3 _).trans (ref_scale x3 _))))

end Reference

/-- The two arrays. -/
theorem result_5 : (dats m 0 d).arrAt 5 cfg0.N = val_main_v39 (F := Ideal) (ct m d) (weights m d) (past m d)
    (hidden m d) (norm m d) := by
  refine (dats m 0 d).arrAt_eq_of_covers 5 _ (by decide +kernel) fun t hf y => ?_
  blk_simp
  rw [after0_5]
  refine (point_5 m d t y).trans (Eq.symm ((ref_rows _ _ _ _ _ _).trans ?_))
  refine congrArg₂ (rows_of _ _ _ _ _) ?_ (Fin.ext ?_)
  · exact (emb win0_5 t y 0).trans (by rw [idx_5]; rfl)
  · exact emb_zero win0_5 t 1 (by rw [idx_5]; rfl) y

theorem result_6 : (dats m 0 d).arrAt 6 cfg0.N = val_main_v40 (F := Ideal) (ct m d) (weights m d)
    (hidden m d) := by
  refine (dats m 0 d).arrAt_eq_of_covers 6 _ (by decide +kernel) fun t hf y => ?_
  blk_simp
  rw [after0_6]
  refine (point_6 m d t ((flush0_6 t).mp hf) y).trans (Eq.symm ((ref_row _ _ _ _).trans ?_))
  refine Finset.sum_congr rfl fun r _ => congrArg (fun c : ℕ => term_of _ _ _ c r.val) ?_
  exact emb_zero win0_6 t 1 (by rw [idx_6]; rfl) y

theorem algebraic : Cert.algebraic_UpBwdIdeal_UpBwdRefIdeal (hUpBwdIdeal := Cert.UpBwdIdeal.Gen.facts)
    (hUpBwdRefIdeal := Cert.UpBwdRefIdeal.Gen.facts) := by
  intro m g m' g' _ hargs
  refine ⟨fun d => (Gen.dats m 0 d).arrAt 5 cfg0.N, fun d => (Gen.dats m 0 d).arrAt 6 cfg0.N, Value.run_blocks m g, ?_⟩
  refine (θ_run (Cert.UpBwdRefIdeal.defs (F := Ideal)) _ _).mono (fun r h d => ?_) (Cert.UpBwdRefIdeal.Value.run (F := Ideal) m' g')
  obtain ⟨e0, e1, e2, e3, e4⟩ := hargs d
  refine ⟨(h d).1.trans ?_, (h d).2.1.trans ?_, (h d).2.2⟩
  · rw [val_main_v39_eq, e0, e1, e2, e3, e4]
    exact (result_5 m d).symm
  · rw [e0, e1, e3]
    exact (result_6 m d).symm

/-- Every execution of the reference ends, its arguments unchanged. -/
theorem ref_frame : Cert.quiescent_UpBwdRefIdeal (hUpBwdRefIdeal := Cert.UpBwdRefIdeal.Gen.facts) := fun m g _ =>
  (θ_run (Cert.UpBwdRefIdeal.defs (F := Ideal)) _ _).mono (fun r h => ⟨fun d => (h d).2.2, sem_eq_zero_of_no_sems (by decide) r.2⟩)
    (Cert.UpBwdRefIdeal.Value.run (F := Ideal) m g)

end UpBwd

end
-- ==== Proof.OutFwd.lean ====
/- The attention's output projection added to the residual, and the rows it gives normalized for the MLP. -/
module

public import proofs.«01_k».proof.Proof.UpBwd
public import proofs.«01_k».proof.Proof.Gen.OutFwdIdeal.Value
public import proofs.«01_k».proof.Proof.Gen.OutFwdRefIdeal.Read

@[expose] public section

set_option maxRecDepth 100000

noncomputable section

namespace OutFwd

open Cert.OutFwdIdeal Cert.OutFwdIdeal.Gen Products Rms
open Idealize.ShloMosaic hiding ix2 ix3 ix4 eq_ix2 eq_ix3 eq_ix4
open Idealize.ShloMosaic.TcCoe Idealize.ShloMosaic.ValueIdx Idealize.SL.Sem

section Step

variable (x0 : Vec Ideal S512x2048 .bf16) (x1 : Vec Ideal S2048x1024 .bf16) (x2 : Vec Ideal S512x1024 .f32) (x3 : Vec Ideal S1x1024 .f32)

/-- The block's rows: the residual and the products. -/
theorem sums (y : S512x1024.Idx) : (k0_pay1 x0 x1 x2 : S512x1024.Idx → EReal) y
    = x2 y + ∑ k : Fin 2048, (x0 (ix2 (y 0) k) : EReal) * (x1 (ix2 k (y 1)) : EReal) := by
  unfold k0_pay1
  rw [shapeCast_self, shapeCast_self]
  exact congrArg (fun a : EReal => x2 y + a) (matmul_nn (M := 512) (K := 2048) (N := 1024) (φ₁ := .bf16) (φ₂ := .bf16) x0 x1 y)

/-- The rows normalized. -/
theorem normal (y : S512x1024.Idx) : (k0_pay2 x0 x1 x2 x3 : S512x1024.Idx → EReal) y
    = (k0_pay1 x0 x1 x2 : S512x1024.Idx → EReal) y * scale (fun k => (k0_pay1 x0 x1 x2 : S512x1024.Idx → EReal) (ix2 (y 0) k))
      * x3 (ix2 0 (y 1)) :=
  congrArg₂ (fun a b : EReal => (k0_pay1 x0 x1 x2 : S512x1024.Idx → EReal) y * a * b)
    ((spread (R := 512) (C := 1024) _ y).trans (scale_block (R := 512) (k0_pay1 x0 x1 x2) _)) (down (R := 512) (C := 1024) x3 y)

end Step

variable (m : (ℓ : Loc nD τ sig) → Buf (Elt Ideal) ℓ) (d : Dev nD) (t : Fin cfg0.N)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel
theorem idx_3 : ∀ t : Fin cfg0.N, win0_3.index t = ![0, 0] := by decide +kernel
theorem idx_4 : ∀ t : Fin cfg0.N, win0_4.index t = ![t.val, 0] := by decide +kernel
theorem idx_5 : ∀ t : Fin cfg0.N, win0_5.index t = ![t.val, 0] := by decide +kernel

/-- The arguments: the attention's rows, the projection's weights, the residual, and the norm's weights. -/
abbrev heads : S8192x2048.Idx → EReal := m ((d : Thread nD τ).loc main_arg0)
abbrev weights : S2048x1024.Idx → EReal := m ((d : Thread nD τ).loc main_arg1)
abbrev past : S8192x1024.Idx → EReal := m ((d : Thread nD τ).loc main_arg2)
abbrev norm : S1x1024.Idx → EReal := m ((d : Thread nD τ).loc main_arg3)

theorem entry_0 : (V m d main_v0 : S8192x2048.Idx → EReal) = heads m d := by
  simp [V, hostOps0]
  after_results_simp; rfl

theorem entry_1 : (V m d main_v1 : S2048x1024.Idx → EReal) = weights m d := by
  simp [V, hostOps0]
  after_results_simp; rfl

/-- What a grid point reads of them. -/
abbrev block_0 : S512x2048.Idx → EReal := iblk m d 0 t
abbrev block_1 : S2048x1024.Idx → EReal := iblk m d 1 t
abbrev block_2 : S512x1024.Idx → EReal := iblk m d 2 t
abbrev block_3 : S1x1024.Idx → EReal := iblk m d 3 t

theorem read_0 (i : Fin 512) (k : Fin 2048) : block_0 m d t (ix2 i k) = at2 (heads m d) (t.val * 512 + i.val) k.val := by
  refine Eq.trans ?_ (at2_eq (entry_0 m d))
  refine at2_of (V m d main_v0) _ ?_ ?_
  · exact (emb win0_0 t (ix2 i k) 0).trans (by rw [idx_0]; rfl)
  · exact emb_zero win0_0 t 1 (by rw [idx_0]; rfl) (ix2 i k)

theorem read_1 (k : Fin 2048) (j : Fin 1024) : block_1 m d t (ix2 k j) = at2 (weights m d) k.val j.val := by
  refine Eq.trans ?_ (at2_eq (entry_1 m d))
  refine at2_of (V m d main_v1) _ ?_ ?_
  · exact emb_zero win0_1 t 0 (by rw [idx_1]; rfl) (ix2 k j)
  · exact emb_zero win0_1 t 1 (by rw [idx_1]; rfl) (ix2 k j)

theorem read_2 (i : Fin 512) (k : Fin 1024) : block_2 m d t (ix2 i k) = at2 (past m d) (t.val * 512 + i.val) k.val := by
  refine Eq.trans ?_ (at2_eq (V_main_arg2 m d))
  refine at2_of (V m d main_arg2) _ ?_ ?_
  · exact (emb win0_2 t (ix2 i k) 0).trans (by rw [idx_2]; rfl)
  · exact emb_zero win0_2 t 1 (by rw [idx_2]; rfl) (ix2 i k)

theorem read_3 (k : Fin 1024) : block_3 m d t (ix2 0 k) = at2 (norm m d) 0 k.val := by
  refine Eq.trans ?_ (at2_eq (V_main_arg3 m d))
  refine at2_of (V m d main_arg3) _ ?_ ?_
  · exact emb_zero win0_3 t 0 (by rw [idx_3]; rfl) (ix2 0 k)
  · exact emb_zero win0_3 t 1 (by rw [idx_3]; rfl) (ix2 0 k)

section Reference

variable (x0 : S8192x2048.Idx → EReal) (x1 : S2048x1024.Idx → EReal) (x2 : S8192x1024.Idx → EReal) (x3 : S1x1024.Idx → EReal)

/-- A row after the projection, and that row normalized. -/
def row_of (r : ℕ) (c : Fin 1024) : EReal := at2 x2 r c.val + ∑ k : Fin 2048, at2 x0 r k.val * at2 x1 k.val c.val
def normal_of (r : ℕ) (c : Fin 1024) : EReal := row_of x0 x1 x2 r c * scale (row_of x0 x1 x2 r) * at2 x3 0 c.val

open Cert.OutFwdRefIdeal.Read

/-- They are what the reference computes. -/
theorem ref_row (i : S8192x1024.Idx) : (val_main_v1 (F := Ideal) x0 x1 x2 i : EReal) = row_of x0 x1 x2 (i 0).val (i 1) :=
  ha (at2_of x2 i rfl rfl) ((val_main_v0_apply x0 x1 i).trans (Finset.sum_congr rfl fun k _ =>
    hm (at2_of x0 _ rfl rfl) (at2_of x1 _ rfl rfl)))

theorem ref_scale (i : Cert.OutFwdRefIdeal.S8192x1.Idx) : (val_main_v10 (F := Ideal) x0 x1 x2 i : EReal)
    = scale (row_of x0 x1 x2 (i 0).val) := by
  refine congrArg (fun a : EReal => Ideal.rsqrt (Ideal.div a (Ideal.ofBits .f32 0x44800000#32) + Ideal.ofBits .f32 0x3727C5AC#32))
    ((val_main_v5_apply (F := Ideal) x0 x1 x2 i).trans ((val_main_v4_apply x0 x1 x2 _).trans ((from_zero _).trans
      (Finset.sum_congr rfl fun k _ => ?_))))
  exact hm (ref_row x0 x1 x2 _) (ref_row x0 x1 x2 _)

theorem ref_normal (i : S8192x1024.Idx) : (val_main_v16 (F := Ideal) x0 x1 x2 x3 i : EReal)
    = normal_of x0 x1 x2 x3 (i 0).val (i 1) := by
  refine hm (hm (ref_row x0 x1 x2 i)
    ((val_main_v11_apply (F := Ideal) x0 x1 x2 i).trans (ref_scale x0 x1 x2 _))) ?_
  exact (val_main_v14_apply (F := Ideal) x3 i).trans ((val_main_v13_apply (F := Ideal) x3 _).trans
    ((val_main_v2_apply (F := Ideal) x3 _).trans (at2_of x3 _ rfl (Nat.mod_eq_of_lt (i 1).isLt))))

end Reference

/-- What a grid point writes. -/
theorem sums_read (y : S512x1024.Idx) :
    (k0_pay1 (F := Ideal) (block_0 m d t) (block_1 m d t) (block_2 m d t) : S512x1024.Idx → EReal) y
      = row_of (heads m d) (weights m d) (past m d) (t.val * 512 + (y 0).val) (y 1) :=
  (sums (block_0 m d t) (block_1 m d t) (block_2 m d t) y).trans (ha
    ((congrArg (block_2 m d t) (eq_ix2 y)).trans (read_2 m d t (y 0) (y 1)))
    (Finset.sum_congr rfl fun k _ => hm (read_0 m d t (y 0) k) (read_1 m d t k (y 1))))

theorem point_4 (y : S512x1024.Idx) :
    (out0_4 (F := Ideal) (block_0 m d t) (block_1 m d t) (block_2 m d t) (block_3 m d t) : S512x1024.Idx → EReal) y
      = row_of (heads m d) (weights m d) (past m d) (t.val * 512 + (y 0).val) (y 1) := by
  refine Eq.trans ?_ (sums_read m d t y)
  unfold out0_4
  rw [View.canon_unit_zero origin, ld_whole, ld_whole, ld_whole]

theorem point_5 (y : S512x1024.Idx) :
    (out0_5 (F := Ideal) (block_0 m d t) (block_1 m d t) (block_2 m d t) (block_3 m d t) : S512x1024.Idx → EReal) y
      = normal_of (heads m d) (weights m d) (past m d) (norm m d) (t.val * 512 + (y 0).val) (y 1) := by
  unfold out0_5
  rw [View.canon_unit_zero origin, ld_whole, ld_whole, ld_whole, ld_whole]
  refine (normal (block_0 m d t) (block_1 m d t) (block_2 m d t) (block_3 m d t) y).trans ?_
  exact hm (hm (sums_read m d t y)
    (congrArg scale (funext fun k => sums_read m d t (ix2 (y 0) k)))) (read_3 m d t (y 1))

/-- The two arrays. -/
theorem result_4 : (dats m 0 d).arrAt 4 cfg0.N = Cert.OutFwdRefIdeal.Read.val_main_v1 (F := Ideal) (heads m d) (weights m d) (past m d) := by
  refine (dats m 0 d).arrAt_eq_of_covers 4 _ (by decide +kernel) fun t hf y => ?_
  blk_simp
  rw [after0_4]
  refine (point_4 m d t y).trans (Eq.symm ((ref_row _ _ _ _).trans ?_))
  refine congrArg₂ (row_of _ _ _) ?_ (Fin.ext ?_)
  · exact (emb win0_4 t y 0).trans (by rw [idx_4]; rfl)
  · exact emb_zero win0_4 t 1 (by rw [idx_4]; rfl) y

theorem result_5 : (dats m 0 d).arrAt 5 cfg0.N = Cert.OutFwdRefIdeal.Read.val_main_v16 (F := Ideal) (heads m d) (weights m d) (past m d)
    (norm m d) := by
  refine (dats m 0 d).arrAt_eq_of_covers 5 _ (by decide +kernel) fun t hf y => ?_
  blk_simp
  rw [after0_5]
  refine (point_5 m d t y).trans (Eq.symm ((ref_normal _ _ _ _ _).trans ?_))
  refine congrArg₂ (normal_of _ _ _ _) ?_ (Fin.ext ?_)
  · exact (emb win0_5 t y 0).trans (by rw [idx_5]; rfl)
  · exact emb_zero win0_5 t 1 (by rw [idx_5]; rfl) y

theorem algebraic : Cert.algebraic_OutFwdIdeal_OutFwdRefIdeal (hOutFwdIdeal := Cert.OutFwdIdeal.Gen.facts)
    (hOutFwdRefIdeal := Cert.OutFwdRefIdeal.Gen.facts) := by
  intro m g m' g' _ hargs
  refine ⟨fun d => (Gen.dats m 0 d).arrAt 4 cfg0.N, fun d => (Gen.dats m 0 d).arrAt 5 cfg0.N, Value.run_blocks m g, ?_⟩
  refine (θ_run (Cert.OutFwdRefIdeal.defs (F := Ideal)) _ _).mono (fun r h d => ?_) (Cert.OutFwdRefIdeal.Value.run (F := Ideal) m' g')
  obtain ⟨e0, e1, e2, e3⟩ := hargs d
  refine ⟨(h d).1.trans ?_, (h d).2.1.trans ?_, (h d).2.2⟩
  · rw [e0, e1, e2]
    exact (result_4 m d).symm
  · rw [e0, e1, e2, e3]
    exact (result_5 m d).symm

/-- Every execution of the reference ends, its arguments unchanged. -/
theorem ref_frame : Cert.quiescent_OutFwdRefIdeal (hOutFwdRefIdeal := Cert.OutFwdRefIdeal.Gen.facts) := fun m g _ =>
  (θ_run (Cert.OutFwdRefIdeal.defs (F := Ideal)) _ _).mono (fun r h => ⟨fun d => (h d).2.2, sem_eq_zero_of_no_sems (by decide) r.2⟩)
    (Cert.OutFwdRefIdeal.Value.run (F := Ideal) m g)

end OutFwd

end
-- ==== Proof.DownLoss.lean ====
/- The MLP's second layer added to the residual and normalized, half the mean square of its distance from the target, and
   the slopes of that with respect to the rows and the norm's weights. -/
module

public import proofs.«01_k».proof.Proof.OutFwd
public import Idealize.ShloMosaic.Lib.ValueIdxRank1
public import proofs.«01_k».proof.Proof.Gen.DownLossIdeal.Value
public import proofs.«01_k».proof.Proof.Gen.DownLossRefIdeal.Read

@[expose] public section

set_option maxRecDepth 100000

noncomputable section

namespace DownLoss

open Cert.DownLossIdeal Cert.DownLossIdeal.Gen Products Rms Cert.DownLossRefIdeal.Read
open Idealize.ShloMosaic hiding ix2 ix3 ix4 eq_ix2 eq_ix3 eq_ix4
open Idealize.ShloMosaic.TcCoe Idealize.ShloMosaic.ValueIdx Idealize.SL.Sem

/-- The MLP's activation. -/
def act (a : EReal) : EReal := max a (Ideal.ofBits .f32 0x00000000#32) * max a (Ideal.ofBits .f32 0x00000000#32)

section Step

variable (c : Dev nD) (i : grid0.Coords) (a1 : Memref sig .tc .vmem S512x4096 .bf16) (h1 : a1.IsWhole)
  (a2 : Memref sig .tc .vmem S4096x1024 .bf16) (h2 : a2.IsWhole) (a3 : Memref sig .tc .vmem S512x1024 .f32) (h3 : a3.IsWhole)
  (a4 : Memref sig .tc .vmem S512x1024 .f32) (h4 : a4.IsWhole) (a5 : Memref sig .tc .vmem S1x1024 .f32) (h5 : a5.IsWhole)
  (a6 : Memref sig .tc .vmem S512x1024 .f32) (h6 : a6.IsWhole) (a7 : Memref sig .tc .vmem S1x128 .f32) (h7 : a7.IsWhole)
  (a8 : Memref sig .tc .vmem S1x1024 .f32) (h8 : a8.IsWhole)
  (x0 : Vec Ideal S512x4096 .bf16) (x1 : Vec Ideal S4096x1024 .bf16) (x2 x3 : Vec Ideal S512x1024 .f32) (x4 : Vec Ideal S1x1024 .f32)
  (xl : Vec Ideal S1x128 .f32) (xw : Vec Ideal S1x1024 .f32)

/-- The block's rows. -/
abbrev sums : S512x1024.Idx → EReal := k0_pay6 (F := Ideal) x0 x2 x1

theorem sums_apply (y : S512x1024.Idx) : sums x0 x1 x2 y
    = x2 y + ∑ k : Fin 4096, act (x0 (ix2 (y 0) k)) * (x1 (ix2 k (y 1)) : EReal) := by
  unfold sums k0_pay6
  rw [shapeCast_self, shapeCast_self]
  exact congrArg (fun a : EReal => x2 y + a) (matmul_nn (M := 512) (K := 4096) (N := 1024) (φ₁ := .bf16) (φ₂ := .bf16) _ x1 y)

theorem scales (y : S512x1.Idx) : (k0_pay7 x0 x2 x1 : S512x1.Idx → EReal) y = scale fun k => sums x0 x1 x2 (ix2 (y 0) k) :=
  scale_block (R := 512) (k0_pay6 x0 x2 x1) y

theorem normal (y : S512x1024.Idx) : (k0_pay8 x0 x2 x1 : S512x1024.Idx → EReal) y
    = sums x0 x1 x2 y * scale fun k => sums x0 x1 x2 (ix2 (y 0) k) :=
  congrArg (fun a : EReal => sums x0 x1 x2 y * a) ((spread (R := 512) (C := 1024) (k0_pay7 x0 x2 x1) y).trans (scales x0 x1 x2 _))

/-- Its distance from the target. -/
theorem error (y : S512x1024.Idx) : (k0_pay9 x0 x2 x1 x4 x3 : S512x1024.Idx → EReal) y
    = sums x0 x1 x2 y * scale (fun k => sums x0 x1 x2 (ix2 (y 0) k)) * x4 (ix2 0 (y 1)) - x3 y :=
  congrArg₂ (fun a b : EReal => a * b - x3 y) (normal x0 x1 x2 y) (down (R := 512) (C := 1024) x4 y)

/-- The rows' cotangents. -/
theorem rows (y : S512x1024.Idx) :
    (k0_pay1 (k0_pay7 x0 x2 x1) (k0_pay8 x0 x2 x1) (k0_pay11 x0 x2 x1 x4 x3) (k0_pay12 x4) : S512x1024.Idx → EReal) y
      = back (fun k => sums x0 x1 x2 (ix2 (y 0) k))
        (fun k => (k0_pay11 x0 x2 x1 x4 x3 : S512x1024.Idx → EReal) (ix2 (y 0) k) * x4 (ix2 0 k)) (y 1) := by
  refine (back_block (R := 512) (mulf (k0_pay11 x0 x2 x1 x4 x3) (k0_pay12 x4)) (k0_pay6 x0 x2 x1) (k0_pay7 x0 x2 x1)
    (scales x0 x1 x2) y).trans ?_
  refine congrArg (fun g => back _ g _) (funext fun k => ?_)
  have hd : (k0_pay12 (F := Ideal) x4 : S512x1024.Idx → EReal) (ix2 (y 0) k) = x4 (ix2 0 k) := by
    unfold k0_pay12
    exact down (R := 512) (C := 1024) x4 (ix2 (y 0) k)
  exact congrArg (fun a : EReal => (k0_pay11 x0 x2 x1 x4 x3 : S512x1024.Idx → EReal) (ix2 (y 0) k) * a) hd

/-- What a block adds to the loss, and to the row of the norm's weights. -/
theorem loss (y : S1x128.Idx) : (k0_pay4 (k0_pay10 x0 x2 x1 x4 x3) xl : S1x128.Idx → EReal) y
    = xl y + Ideal.ofBits .f32 0x3F000000#32 * ∑ r : Fin 512, Ideal.div (∑ k : Fin 1024,
        (k0_pay9 x0 x2 x1 x4 x3 : S512x1024.Idx → EReal) (ix2 r k) * (k0_pay9 x0 x2 x1 x4 x3 : S512x1024.Idx → EReal) (ix2 r k))
        (Ideal.ofBits .f32 0x44800000#32) := by
  unfold k0_pay4
  rw [shapeCast_self, shapeCast_self]
  refine congrArg (fun a : EReal => xl y + a) ((spread (R := 1) (C := 128) (k0_pay10 x0 x2 x1 x4 x3) y).trans ?_)
  refine congrArg (fun a : EReal => Ideal.ofBits .f32 0x3F000000#32 * a) ((col_sum (R := 512) (C := 1) _ _).trans
    (Finset.sum_congr rfl fun r _ => ?_))
  exact congrArg (fun a : EReal => Ideal.div a (Ideal.ofBits .f32 0x44800000#32)) (row_sum (R := 512) (C := 1024) _ _)

theorem gain (y : S1x1024.Idx) : (k0_pay5 (k0_pay8 x0 x2 x1) (k0_pay11 x0 x2 x1 x4 x3) xw : S1x1024.Idx → EReal) y
    = xw y + ∑ r : Fin 512, (k0_pay11 x0 x2 x1 x4 x3 : S512x1024.Idx → EReal) (ix2 r (y 1))
        * (k0_pay8 x0 x2 x1 : S512x1024.Idx → EReal) (ix2 r (y 1)) := by
  unfold k0_pay5
  rw [shapeCast_self]
  exact congrArg (fun a : EReal => xw y + a) (col_sum (R := 512) (C := 1024) _ y)

/-- What the body leaves in its three blocks. -/
theorem rows_A (h0) : out0_A_5 c i a1 h1 a2 h2 a3 h3 a4 h4 a5 h5 a6 h6 a7 h7 a8 h8 h0 x0 x1 x2 x3 x4
    = k0_pay1 (k0_pay7 x0 x2 x1) (k0_pay8 x0 x2 x1) (k0_pay11 x0 x2 x1 x4 x3) (k0_pay12 x4) := by
  unfold out0_A_5
  rw [View.read_writes_junk_eq_canon]
  unfold kernelRun0_A
  dsimp only
  sl_unfold_words
  rw [View.canon_unit_zero origin]
  simp only [View.readAt_eq_ld, h1.read_unread, h2.read_unread, h3.read_unread, h4.read_unread, h5.read_unread, ld_whole]

theorem rows_B (h0) : out0_B_5 c i a1 h1 a2 h2 a3 h3 a4 h4 a5 h5 a6 h6 a7 h7 a8 h8 h0 x0 x1 x2 x3 x4 xl xw
    = k0_pay1 (k0_pay7 x0 x2 x1) (k0_pay8 x0 x2 x1) (k0_pay11 x0 x2 x1 x4 x3) (k0_pay12 x4) := by
  unfold out0_B_5
  rw [View.read_writes_junk_eq_canon]
  unfold kernelRun0_B
  dsimp only
  sl_unfold_words
  rw [View.canon_unit_zero origin]
  simp only [View.readAt_eq_ld, h1.read_unread, h2.read_unread, h3.read_unread, h4.read_unread, h5.read_unread, ld_whole]

theorem loss_A (h0) : out0_A_6 c i a1 h1 a2 h2 a3 h3 a4 h4 a5 h5 a6 h6 a7 h7 a8 h8 h0 x0 x1 x2 x3 x4
    = k0_pay4 (k0_pay10 x0 x2 x1 x4 x3) (k0_pay2 (F := Ideal)) := by
  unfold out0_A_6
  rw [View.read_writes_junk_eq_canon]
  unfold kernelRun0_A
  dsimp only
  sl_unfold_words
  rw [View.canon_cons_unit_zero origin, View.readCov_unit_zero _ origin]
  simp only [View.readAt_eq_ld, h1.read_unread, h2.read_unread, h3.read_unread, h4.read_unread, h5.read_unread, ld_whole]

theorem loss_B (h0) : out0_B_6 c i a1 h1 a2 h2 a3 h3 a4 h4 a5 h5 a6 h6 a7 h7 a8 h8 h0 x0 x1 x2 x3 x4 xl xw
    = k0_pay4 (k0_pay10 x0 x2 x1 x4 x3) xl := by
  unfold out0_B_6
  rw [View.read_writes_junk_eq_canon]
  unfold kernelRun0_B
  dsimp only
  sl_unfold_words
  rw [View.canon_unit_zero origin]
  simp only [View.readAt_eq_ld, h1.read_unread, h2.read_unread, h3.read_unread, h4.read_unread, h5.read_unread, h7.read_unread, ld_whole]

theorem gain_A (h0) : out0_A_7 c i a1 h1 a2 h2 a3 h3 a4 h4 a5 h5 a6 h6 a7 h7 a8 h8 h0 x0 x1 x2 x3 x4
    = k0_pay5 (k0_pay8 x0 x2 x1) (k0_pay11 x0 x2 x1 x4 x3) (k0_pay3 (F := Ideal)) := by
  unfold out0_A_7
  rw [View.read_writes_junk_eq_canon]
  unfold kernelRun0_A
  dsimp only
  sl_unfold_words
  rw [View.canon_cons_unit_zero origin, View.readCov_unit_zero _ origin]
  simp only [View.readAt_eq_ld, h1.read_unread, h2.read_unread, h3.read_unread, h4.read_unread, h5.read_unread, ld_whole]

theorem gain_B (h0) : out0_B_7 c i a1 h1 a2 h2 a3 h3 a4 h4 a5 h5 a6 h6 a7 h7 a8 h8 h0 x0 x1 x2 x3 x4 xl xw
    = k0_pay5 (k0_pay8 x0 x2 x1) (k0_pay11 x0 x2 x1 x4 x3) xw := by
  unfold out0_B_7
  rw [View.read_writes_junk_eq_canon]
  unfold kernelRun0_B
  dsimp only
  sl_unfold_words
  rw [View.canon_unit_zero origin]
  simp only [View.readAt_eq_ld, h1.read_unread, h2.read_unread, h3.read_unread, h4.read_unread, h5.read_unread, h8.read_unread, ld_whole]

end Step

variable (m : (ℓ : Loc nD τ sig) → Buf (Elt Ideal) ℓ) (d : Dev nD) (t : Fin cfg0.N)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel
theorem idx_3 : ∀ t : Fin cfg0.N, win0_3.index t = ![t.val, 0] := by decide +kernel
theorem idx_4 : ∀ t : Fin cfg0.N, win0_4.index t = ![0, 0] := by decide +kernel
theorem idx_5 : ∀ t : Fin cfg0.N, win0_5.index t = ![t.val, 0] := by decide +kernel
theorem idx_7 : ∀ t : Fin cfg0.N, win0_7.index t = ![0, 0] := by decide +kernel

/-- The arguments: the pre-activation, the second layer's weights, the residual, the target, and the norm's weights. -/
abbrev pre : S8192x4096.Idx → EReal := m ((d : Thread nD τ).loc main_arg0)
abbrev weights : S4096x1024.Idx → EReal := m ((d : Thread nD τ).loc main_arg1)
abbrev past : S8192x1024.Idx → EReal := m ((d : Thread nD τ).loc main_arg2)
abbrev target : S8192x1024.Idx → EReal := m ((d : Thread nD τ).loc main_arg3)
abbrev norm : S1x1024.Idx → EReal := m ((d : Thread nD τ).loc main_arg4)

theorem entry_0 : (V m d main_v0 : S8192x4096.Idx → EReal) = pre m d := by
  simp [V, hostOps0]
  after_results_simp; rfl

theorem entry_1 : (V m d main_v1 : S4096x1024.Idx → EReal) = weights m d := by
  simp [V, hostOps0]
  after_results_simp; rfl

/-- What a grid point reads of them. -/
abbrev block_0 : S512x4096.Idx → EReal := iblk m d 0 t
abbrev block_1 : S4096x1024.Idx → EReal := iblk m d 1 t
abbrev block_2 : S512x1024.Idx → EReal := iblk m d 2 t
abbrev block_3 : S512x1024.Idx → EReal := iblk m d 3 t
abbrev block_4 : S1x1024.Idx → EReal := iblk m d 4 t

theorem read_0 (i : Fin 512) (k : Fin 4096) : block_0 m d t (ix2 i k) = at2 (pre m d) (t.val * 512 + i.val) k.val := by
  refine Eq.trans ?_ (at2_eq (entry_0 m d))
  refine at2_of (V m d main_v0) _ ?_ ?_
  · exact (emb win0_0 t (ix2 i k) 0).trans (by rw [idx_0]; rfl)
  · exact emb_zero win0_0 t 1 (by rw [idx_0]; rfl) (ix2 i k)

theorem read_1 (k : Fin 4096) (j : Fin 1024) : block_1 m d t (ix2 k j) = at2 (weights m d) k.val j.val := by
  refine Eq.trans ?_ (at2_eq (entry_1 m d))
  refine at2_of (V m d main_v1) _ ?_ ?_
  · exact emb_zero win0_1 t 0 (by rw [idx_1]; rfl) (ix2 k j)
  · exact emb_zero win0_1 t 1 (by rw [idx_1]; rfl) (ix2 k j)

theorem read_2 (i : Fin 512) (k : Fin 1024) : block_2 m d t (ix2 i k) = at2 (past m d) (t.val * 512 + i.val) k.val := by
  refine Eq.trans ?_ (at2_eq (V_main_arg2 m d))
  refine at2_of (V m d main_arg2) _ ?_ ?_
  · exact (emb win0_2 t (ix2 i k) 0).trans (by rw [idx_2]; rfl)
  · exact emb_zero win0_2 t 1 (by rw [idx_2]; rfl) (ix2 i k)

theorem read_3 (i : Fin 512) (k : Fin 1024) : block_3 m d t (ix2 i k) = at2 (target m d) (t.val * 512 + i.val) k.val := by
  refine Eq.trans ?_ (at2_eq (V_main_arg3 m d))
  refine at2_of (V m d main_arg3) _ ?_ ?_
  · exact (emb win0_3 t (ix2 i k) 0).trans (by rw [idx_3]; rfl)
  · exact emb_zero win0_3 t 1 (by rw [idx_3]; rfl) (ix2 i k)

theorem read_4 (k : Fin 1024) : block_4 m d t (ix2 0 k) = at2 (norm m d) 0 k.val := by
  refine Eq.trans ?_ (at2_eq (V_main_arg4 m d))
  refine at2_of (V m d main_arg4) _ ?_ ?_
  · exact emb_zero win0_4 t 0 (by rw [idx_4]; rfl) (ix2 0 k)
  · exact emb_zero win0_4 t 1 (by rw [idx_4]; rfl) (ix2 0 k)

section Math

variable (x0 : S8192x4096.Idx → EReal) (x1 : S4096x1024.Idx → EReal) (x2 x3 : S8192x1024.Idx → EReal) (x4 : S1x1024.Idx → EReal)

/-- A row of the result, its distance from the target, and the slope of the loss there. -/
def row_of (r : ℕ) (c : Fin 1024) : EReal := at2 x2 r c.val + ∑ k : Fin 4096, act (at2 x0 r k.val) * at2 x1 k.val c.val
def error_of (r : ℕ) (c : Fin 1024) : EReal :=
  row_of x0 x1 x2 r c * scale (row_of x0 x1 x2 r) * at2 x4 0 c.val - at2 x3 r c.val
def slope_of (r : ℕ) (c : Fin 1024) : EReal := error_of x0 x1 x2 x3 x4 r c * Ideal.ofBits .f32 0x3A800000#32

/-- A row's cotangent, its share of the loss, and its share of the cotangent of the norm's weights. -/
def rows_of (r : ℕ) (c : Fin 1024) : EReal :=
  back (row_of x0 x1 x2 r) (fun k => slope_of x0 x1 x2 x3 x4 r k * at2 x4 0 k.val) c
def loss_of (r : ℕ) : EReal := Ideal.ofBits .f32 0x3F000000#32
  * Ideal.div (∑ k : Fin 1024, error_of x0 x1 x2 x3 x4 r k * error_of x0 x1 x2 x3 x4 r k) (Ideal.ofBits .f32 0x44800000#32)
def gain_of (c : Fin 1024) (r : ℕ) : EReal :=
  slope_of x0 x1 x2 x3 x4 r c * (row_of x0 x1 x2 r c * scale (row_of x0 x1 x2 r))

end Math

theorem half_sum {n : ℕ} (f : Fin n → EReal) :
    Ideal.ofBits .f32 0x3F000000#32 * ∑ k, f k = ∑ k, Ideal.ofBits .f32 0x3F000000#32 * f k := by
  rw [half]
  exact mul_sum_of_pos (by norm_num) _ _

/-- The slope of half the mean square, as the reference forms it. -/
theorem mean_slope (e : EReal) : Ideal.div (Ideal.ofBits .f32 0x3F000000#32 * Ideal.ofBits .f32 0x3F800000#32)
    (Ideal.ofBits .f32 0x44800000#32) * (Ideal.ofBits .f32 0x40000000#32 * e) = e * Ideal.ofBits .f32 0x3A800000#32 := by
  have one : Ideal.ofBits .f32 0x3F800000#32 = ((1 : ℝ) : EReal) := by
    simp [Ideal.ofBits, Ideal.ieee, -EReal.coe_mul]; norm_num
  have two : Ideal.ofBits .f32 0x40000000#32 = ((2 : ℝ) : EReal) := by simp [Ideal.ofBits, Ideal.ieee, -EReal.coe_mul]; norm_num
  have inv : Ideal.ofBits .f32 0x3A800000#32 = ((1 / 1024 : ℝ) : EReal) := by
    simp [Ideal.ofBits, Ideal.ieee, -EReal.coe_mul]; norm_num
  rw [half, one, two, inv, width, ← EReal.coe_mul, AttBwd.div_coe_coe (by norm_num), ← mul_assoc, ← EReal.coe_mul, mul_comm e]
  norm_num

/-- What a point's blocks give. -/
abbrev block_sums : S512x1024.Idx → EReal := sums (block_0 m d t) (block_1 m d t) (block_2 m d t)

theorem sums_read (y : S512x1024.Idx) : block_sums m d t y = row_of (pre m d) (weights m d) (past m d) (t.val * 512 + (y 0).val) (y 1) :=
  (sums_apply (block_0 m d t) (block_1 m d t) (block_2 m d t) y).trans (ha
    ((congrArg (block_2 m d t) (eq_ix2 y)).trans (read_2 m d t (y 0) (y 1)))
    (Finset.sum_congr rfl fun k _ => congrArg₂ (fun a b : EReal => act a * b) (read_0 m d t (y 0) k) (read_1 m d t k (y 1))))

theorem row_read (i : Fin 512) : (fun k : Fin 1024 => block_sums m d t (ix2 i k))
    = row_of (pre m d) (weights m d) (past m d) (t.val * 512 + i.val) := funext fun k => sums_read m d t (ix2 i k)

theorem error_read (i : Fin 512) (k : Fin 1024) :
    (k0_pay9 (F := Ideal) (block_0 m d t) (block_2 m d t) (block_1 m d t) (block_4 m d t) (block_3 m d t) : S512x1024.Idx → EReal) (ix2 i k)
      = error_of (pre m d) (weights m d) (past m d) (target m d) (norm m d) (t.val * 512 + i.val) k :=
  (error (block_0 m d t) (block_1 m d t) (block_2 m d t) (block_3 m d t) (block_4 m d t) (ix2 i k)).trans
    (congrArg₂ (fun a b : EReal => a - b) (hm (hm
      (sums_read m d t (ix2 i k)) (congrArg scale (row_read m d t i))) (read_4 m d t k)) (read_3 m d t i k))

theorem slope_read (i : Fin 512) (k : Fin 1024) :
    (k0_pay11 (F := Ideal) (block_0 m d t) (block_2 m d t) (block_1 m d t) (block_4 m d t) (block_3 m d t) : S512x1024.Idx → EReal) (ix2 i k)
      = slope_of (pre m d) (weights m d) (past m d) (target m d) (norm m d) (t.val * 512 + i.val) k :=
  congrArg (fun a : EReal => a * Ideal.ofBits .f32 0x3A800000#32) (error_read m d t i k)

/-- What a point writes of the rows. -/
theorem point_5 (y : S512x1024.Idx) : ((outsAt0 m d t.val t.isLt).1 : S512x1024.Idx → EReal) y
    = rows_of (pre m d) (weights m d) (past m d) (target m d) (norm m d) (t.val * 512 + (y 0).val) (y 1) := by
  refine Eq.trans ?_ ((rows (block_0 m d t) (block_1 m d t) (block_2 m d t) (block_3 m d t) (block_4 m d t) y).trans
    (congrArg₂ (fun x g => back x g (y 1)) (row_read m d t (y 0)) (funext fun k =>
      hm (slope_read m d t (y 0) k) (read_4 m d t k))))
  by_cases h : t.val % 16 = 0
  · rw [outsAt0_A m d t h]
    dsimp only
    rw [rows_A]
  · rw [outsAt0_B m d t h]
    dsimp only
    rw [rows_B]

/-- What the loss and the row of the norm's weights hold after a point. -/
def held_loss (n : ℕ) (h : n < cfg0.N) : S1x128.Idx → EReal := (outsAt0 m d n h).2.1
def held_gain (n : ℕ) (h : n < cfg0.N) : S1x1024.Idx → EReal := (outsAt0 m d n h).2.2

theorem loss_read (xl : S1x128.Idx → EReal) (y : S1x128.Idx) :
    (k0_pay4 (F := Ideal) (k0_pay10 (F := Ideal) (block_0 m d t) (block_2 m d t) (block_1 m d t) (block_4 m d t) (block_3 m d t)) xl
      : S1x128.Idx → EReal) y
      = xl y + ∑ k : Fin 512, loss_of (pre m d) (weights m d) (past m d) (target m d) (norm m d) (t.val * 512 + k.val) := by
  refine (loss (block_0 m d t) (block_1 m d t) (block_2 m d t) (block_3 m d t) (block_4 m d t) xl y).trans
    (congrArg (fun a : EReal => xl y + a) ((half_sum _).trans (Finset.sum_congr rfl fun r _ => ?_)))
  refine congrArg (fun a : EReal => Ideal.ofBits .f32 0x3F000000#32 * Ideal.div a (Ideal.ofBits .f32 0x44800000#32))
    (Finset.sum_congr rfl fun k _ => ?_)
  exact hm (error_read m d t r k) (error_read m d t r k)

theorem gain_read (xw : S1x1024.Idx → EReal) (y : S1x1024.Idx) :
    (k0_pay5 (F := Ideal) (k0_pay8 (F := Ideal) (block_0 m d t) (block_2 m d t) (block_1 m d t))
      (k0_pay11 (F := Ideal) (block_0 m d t) (block_2 m d t) (block_1 m d t) (block_4 m d t) (block_3 m d t)) xw : S1x1024.Idx → EReal) y
      = xw y + ∑ k : Fin 512, gain_of (pre m d) (weights m d) (past m d) (target m d) (norm m d) (y 1) (t.val * 512 + k.val) := by
  refine (gain (block_0 m d t) (block_1 m d t) (block_2 m d t) (block_3 m d t) (block_4 m d t) xw y).trans
    (congrArg (fun a : EReal => xw y + a) (Finset.sum_congr rfl fun r _ => ?_))
  exact hm (slope_read m d t r (y 1))
    ((normal (block_0 m d t) (block_1 m d t) (block_2 m d t) (ix2 r (y 1))).trans
      (hm (sums_read m d t (ix2 r (y 1))) (congrArg scale (row_read m d t r))))

theorem held_first (h : t.val % 16 = 0) : (∀ y, held_loss m d t.val t.isLt y
      = ∑ k : Fin 512, loss_of (pre m d) (weights m d) (past m d) (target m d) (norm m d) (t.val * 512 + k.val))
    ∧ ∀ y, held_gain m d t.val t.isLt y
      = ∑ k : Fin 512, gain_of (pre m d) (weights m d) (past m d) (target m d) (norm m d) (y 1) (t.val * 512 + k.val) := by
  unfold held_loss held_gain
  rw [outsAt0_A m d t h]
  dsimp only
  rw [loss_A, gain_A]
  exact ⟨fun y => (loss_read m d t _ y).trans (from_zero _), fun y => (gain_read m d t _ y).trans (from_zero _)⟩

theorem held_next (h : ¬t.val % 16 = 0) (h' : t.val - 1 < cfg0.N) : (∀ y, held_loss m d t.val t.isLt y = held_loss m d (t.val - 1) h' y
      + ∑ k : Fin 512, loss_of (pre m d) (weights m d) (past m d) (target m d) (norm m d) (t.val * 512 + k.val))
    ∧ ∀ y, held_gain m d t.val t.isLt y = held_gain m d (t.val - 1) h' y
      + ∑ k : Fin 512, gain_of (pre m d) (weights m d) (past m d) (target m d) (norm m d) (y 1) (t.val * 512 + k.val) := by
  unfold held_loss held_gain
  rw [outsAt0_B m d t h]
  dsimp only
  rw [loss_B, gain_B]
  exact ⟨loss_read m d t _, gain_read m d t _⟩

/-- What the last point writes: the sums over all rows. -/
theorem point_6 (h : t.val % 16 = 15) (y : S1x128.Idx) : ((outsAt0 m d t.val t.isLt).2.1 : S1x128.Idx → EReal) y
    = ∑ r : Fin 8192, loss_of (pre m d) (weights m d) (past m d) (target m d) (norm m d) r.val := by
  have ht : t.val = 15 := by have := t.isLt.trans_eq N_0; omega
  have hs := sum_of_points (N := cfg0.N) (b := 512) (fun n hn => held_loss m d n hn y)
    (loss_of (pre m d) (weights m d) (past m d) (target m d) (norm m d)) (fun h => (held_first m d ⟨0, h⟩ rfl).1 y)
    (fun n hn hn' => (held_next m d ⟨n + 1, hn⟩ (by have := hn.trans_eq N_0; show ¬(n + 1) % 16 = 0; omega) hn').1 y) t.val t.isLt
  refine hs.trans ?_
  rw [ht]

theorem point_7 (h : t.val % 16 = 15) (y : S1x1024.Idx) : ((outsAt0 m d t.val t.isLt).2.2 : S1x1024.Idx → EReal) y
    = ∑ r : Fin 8192, gain_of (pre m d) (weights m d) (past m d) (target m d) (norm m d) (y 1) r.val := by
  have ht : t.val = 15 := by have := t.isLt.trans_eq N_0; omega
  have hs := sum_of_points (N := cfg0.N) (b := 512) (fun n hn => held_gain m d n hn y)
    (gain_of (pre m d) (weights m d) (past m d) (target m d) (norm m d) (y 1)) (fun h => (held_first m d ⟨0, h⟩ rfl).2 y)
    (fun n hn hn' => (held_next m d ⟨n + 1, hn⟩ (by have := hn.trans_eq N_0; show ¬(n + 1) % 16 = 0; omega) hn').2 y) t.val t.isLt
  refine hs.trans ?_
  rw [ht]

section Reference

variable (x0 : S8192x4096.Idx → EReal) (x1 : S4096x1024.Idx → EReal) (x2 x3 : S8192x1024.Idx → EReal) (x4 : S1x1024.Idx → EReal)

/-- The reference: the rows, the mean of a row's squares, the scale, and the slope of the scale. -/
theorem ref_row (i : S8192x1024.Idx) : (val_main_v3 (F := Ideal) x0 x1 x2 i : EReal) = row_of x0 x1 x2 (i 0).val (i 1) :=
  ha (at2_of x2 i rfl rfl) ((val_main_v2_apply x0 x1 i).trans (Finset.sum_congr rfl fun k _ =>
    hm (congrArg act (at2_of x0 _ rfl rfl)) (at2_of x1 _ rfl rfl)))

theorem ref_square (i : Cert.DownLossRefIdeal.S8192x1.Idx) : (val_main_v11 (F := Ideal) x0 x1 x2 i : EReal)
    = square (row_of x0 x1 x2 (i 0).val) := by
  refine congrArg (fun a : EReal => Ideal.div a (Ideal.ofBits .f32 0x44800000#32) + Ideal.ofBits .f32 0x3727C5AC#32)
    ((val_main_v7_apply (F := Ideal) x0 x1 x2 i).trans ((val_main_v6_apply x0 x1 x2 _).trans ((from_zero _).trans
      (Finset.sum_congr rfl fun k _ => ?_))))
  exact hm (ref_row x0 x1 x2 _) (ref_row x0 x1 x2 _)

theorem ref_scale (i : Cert.DownLossRefIdeal.S8192x1.Idx) : (val_main_v12 (F := Ideal) x0 x1 x2 i : EReal)
    = scale (row_of x0 x1 x2 (i 0).val) := congrArg Ideal.rsqrt (ref_square x0 x1 x2 i)

theorem ref_turn (i : Cert.DownLossRefIdeal.S8192x1.Idx) : (val_main_v15 (F := Ideal) x0 x1 x2 i : EReal)
    = Ideal.ofBits .f32 0xBF000000#32 * Ideal.div (scale (row_of x0 x1 x2 (i 0).val)) (square (row_of x0 x1 x2 (i 0).val)) :=
  congrArg (fun a : EReal => Ideal.ofBits .f32 0xBF000000#32 * a) (congrArg₂ Ideal.div (ref_scale x0 x1 x2 i) (ref_square x0 x1 x2 i))

theorem ref_normal (i : S8192x1024.Idx) : (val_main_v17 (F := Ideal) x0 x1 x2 i : EReal)
    = row_of x0 x1 x2 (i 0).val (i 1) * scale (row_of x0 x1 x2 (i 0).val) :=
  hm (ref_row x0 x1 x2 i)
    ((val_main_v16_apply (F := Ideal) x0 x1 x2 i).trans (ref_scale x0 x1 x2 _))

theorem ref_norm (i : S1x1024.Idx) : (val_main_v18 (F := Ideal) x4 i : EReal) = at2 x4 0 (i 1).val :=
  (val_main_v18_apply (F := Ideal) x4 i).trans ((val_main_v4_apply (F := Ideal) x4 _).trans
    (at2_of x4 _ rfl (Nat.mod_eq_of_lt (i 1).isLt)))

/-- Its distance from the target, and the slope of the loss. -/
theorem ref_error (i : S8192x1024.Idx) : (val_main_v21 (F := Ideal) x0 x1 x2 x3 x4 i : EReal)
    = error_of x0 x1 x2 x3 x4 (i 0).val (i 1) :=
  congrArg₂ (fun a b : EReal => a - b) (hm (ref_normal x0 x1 x2 i)
    ((val_main_v19_apply (F := Ideal) x4 i).trans (ref_norm x4 _))) (at2_of x3 i rfl rfl)

theorem ref_slope (i : S8192x1024.Idx) : (val_main_v35 (F := Ideal) x0 x1 x2 x3 x4 i : EReal)
    = slope_of x0 x1 x2 x3 x4 (i 0).val (i 1) := by
  refine (congrArg₂ (fun a b : EReal => a * (Ideal.ofBits .f32 0x40000000#32 * b)) ?_ (ref_error x0 x1 x2 x3 x4 i)).trans (mean_slope _)
  exact (val_main_v34_apply (F := Ideal) i).trans rfl

theorem ref_weighted (i : S8192x1024.Idx) : (val_main_v40 (F := Ideal) x0 x1 x2 x3 x4 i : EReal)
    = slope_of x0 x1 x2 x3 x4 (i 0).val (i 1) * at2 x4 0 (i 1).val :=
  hm (ref_slope x0 x1 x2 x3 x4 i) ((val_main_v39_apply (F := Ideal) x4 i).trans (ref_norm x4 _))

/-- The part of a row's cotangent that comes through its scale. -/
theorem ref_through (i : S8192x1024.Idx) : (val_main_v51 (F := Ideal) x0 x1 x2 x3 x4 i : EReal)
    = Ideal.div ((∑ k : Fin 1024, row_of x0 x1 x2 (i 0).val k * (slope_of x0 x1 x2 x3 x4 (i 0).val k * at2 x4 0 k.val))
        * (Ideal.ofBits .f32 0xBF000000#32 * Ideal.div (scale (row_of x0 x1 x2 (i 0).val)) (square (row_of x0 x1 x2 (i 0).val))))
        (Ideal.ofBits .f32 0x44800000#32) := by
  refine (val_main_v51_apply (F := Ideal) x0 x1 x2 x3 x4 i).trans ((val_main_v50_apply x0 x1 x2 x3 x4 _).trans ((from_zero _).trans
    ((Fin.sum_univ_one _).trans ?_)))
  refine congrArg (fun a : EReal => Ideal.div a (Ideal.ofBits .f32 0x44800000#32))
    (hm ((val_main_v44_apply (F := Ideal) x0 x1 x2 x3 x4 _).trans
      ((val_main_v43_apply x0 x1 x2 x3 x4 _).trans ((from_zero _).trans (Finset.sum_congr rfl fun k _ => ?_)))) (ref_turn x0 x1 x2 _))
  exact hm ((ref_row x0 x1 x2 _).trans (congrArg (fun r : ℕ => row_of x0 x1 x2 r k) (Nat.mul_one _)))
    ((ref_weighted x0 x1 x2 x3 x4 _).trans
      (congrArg (fun r : ℕ => slope_of x0 x1 x2 x3 x4 r k * at2 x4 0 k.val) (Nat.mul_one _)))

theorem ref_rows (i : S8192x1024.Idx) : (val_main_v55 (F := Ideal) x0 x1 x2 x3 x4 i : EReal)
    = rows_of x0 x1 x2 x3 x4 (i 0).val (i 1) := by
  refine Eq.trans ?_ ((grad_of (by norm_num) _ width (row_of x0 x1 x2 (i 0).val) (fun k => slope_of x0 x1 x2 x3 x4 (i 0).val k * at2 x4 0 k.val) (i 1)
    0).symm.trans (zero_add _))
  refine ha (ha ((hm
    (ref_weighted x0 x1 x2 x3 x4 i) ((val_main_v45_apply (F := Ideal) x0 x1 x2 i).trans (ref_scale x0 x1 x2 _))).trans (zero_add _).symm)
    (hm (ref_row x0 x1 x2 i) (ref_through x0 x1 x2 x3 x4 i)))
    (hm (ref_through x0 x1 x2 x3 x4 i) (ref_row x0 x1 x2 i))

theorem ref_loss (i : S1x128.Idx) : (val_main_v57 (F := Ideal) x0 x1 x2 x3 x4 i : EReal)
    = ∑ r : Fin 8192, loss_of x0 x1 x2 x3 x4 r.val := by
  refine (val_main_v57_apply (F := Ideal) x0 x1 x2 x3 x4 i).trans ((congrArg (fun a : EReal => Ideal.ofBits .f32 0x3F000000#32 * a)
    ((val_main_v28_apply x0 x1 x2 x3 x4 _).trans ((from_zero _).trans
      (Equiv.sum_comp (idxEquiv1 (n := 8192)).symm _).symm))).trans ((half_sum _).trans (Finset.sum_congr rfl fun r _ => ?_)))
  refine congrArg (fun a : EReal => Ideal.ofBits .f32 0x3F000000#32 * Ideal.div a (Ideal.ofBits .f32 0x44800000#32))
    ((val_main_v25_apply x0 x1 x2 x3 x4 _).trans ((from_zero _).trans (Finset.sum_congr rfl fun k _ => ?_)))
  exact hm (ref_error x0 x1 x2 x3 x4 _) (ref_error x0 x1 x2 x3 x4 _)

theorem ref_gain (i : S1x1024.Idx) : (val_main_v56 (F := Ideal) x0 x1 x2 x3 x4 i : EReal)
    = ∑ r : Fin 8192, gain_of x0 x1 x2 x3 x4 (i 1) r.val := by
  refine (val_main_v56_apply (F := Ideal) x0 x1 x2 x3 x4 i).trans ((val_main_v41_apply x0 x1 x2 x3 x4 _).trans ((from_zero _).trans
    ((Fin.sum_univ_one _).trans ((val_main_v38_apply (F := Ideal) x0 x1 x2 x3 x4 _).trans ((val_main_v37_apply x0 x1 x2 x3 x4 _).trans
      ((from_zero _).trans (Finset.sum_congr rfl fun k _ => ?_)))))))
  have hc : ∀ (a : Fin 1024) (h : 0 * 1024 + a.val < 1024), (⟨0 * 1024 + a.val, h⟩ : Fin 1024) = a := fun a _ => Fin.ext (by simp)
  exact (mul_comm (_ : EReal) _).trans ((hm (ref_slope x0 x1 x2 x3 x4 _)
    (ref_normal x0 x1 x2 _)).trans (congrArg (fun c => gain_of x0 x1 x2 x3 x4 c k.val) (hc (i 1) _)))

end Reference

/-- The three arrays. -/
theorem result_5 : (dats m 0 d).arrAt 5 cfg0.N = val_main_v55 (F := Ideal) (pre m d) (weights m d) (past m d)
    (target m d) (norm m d) := by
  refine (dats m 0 d).arrAt_eq_of_covers 5 _ (by decide +kernel) fun t hf y => ?_
  blk_simp
  rw [after0_5]
  refine (point_5 m d t y).trans (Eq.symm ((ref_rows _ _ _ _ _ _).trans ?_))
  refine congrArg₂ (rows_of _ _ _ _ _) ?_ (Fin.ext ?_)
  · exact (emb win0_5 t y 0).trans (by rw [idx_5]; rfl)
  · exact emb_zero win0_5 t 1 (by rw [idx_5]; rfl) y

theorem result_6 : (dats m 0 d).arrAt 6 cfg0.N = val_main_v57 (F := Ideal) (pre m d) (weights m d) (past m d)
    (target m d) (norm m d) := by
  refine (dats m 0 d).arrAt_eq_of_covers 6 _ (by decide +kernel) fun t hf y => ?_
  blk_simp
  rw [after0_6]
  exact (point_6 m d t ((flush0_6 t).mp hf) y).trans (ref_loss _ _ _ _ _ _).symm

theorem result_7 : (dats m 0 d).arrAt 7 cfg0.N = val_main_v56 (F := Ideal) (pre m d) (weights m d) (past m d)
    (target m d) (norm m d) := by
  refine (dats m 0 d).arrAt_eq_of_covers 7 _ (by decide +kernel) fun t hf y => ?_
  blk_simp
  rw [after0_7]
  refine (point_7 m d t ((flush0_7 t).mp hf) y).trans (Eq.symm ((ref_gain _ _ _ _ _ _).trans ?_))
  refine Finset.sum_congr rfl fun r _ => congrArg (fun c => gain_of _ _ _ _ _ c r.val) (Fin.ext ?_)
  exact emb_zero win0_7 t 1 (by rw [idx_7]; rfl) y

theorem algebraic : Cert.algebraic_DownLossIdeal_DownLossRefIdeal (hDownLossIdeal := Cert.DownLossIdeal.Gen.facts)
    (hDownLossRefIdeal := Cert.DownLossRefIdeal.Gen.facts) := by
  intro m g m' g' _ hargs
  refine ⟨fun d => (Gen.dats m 0 d).arrAt 5 cfg0.N, fun d => (Gen.dats m 0 d).arrAt 6 cfg0.N, fun d => (Gen.dats m 0 d).arrAt 7 cfg0.N,
    Value.run_blocks m g, ?_⟩
  refine (θ_run (Cert.DownLossRefIdeal.defs (F := Ideal)) _ _).mono (fun r h d => ?_) (Cert.DownLossRefIdeal.Value.run (F := Ideal) m' g')
  obtain ⟨e0, e1, e2, e3, e4⟩ := hargs d
  refine ⟨(h d).1.trans ?_, (h d).2.1.trans ?_, (h d).2.2.1.trans ?_, (h d).2.2.2⟩
  · rw [val_main_v55_eq, e0, e1, e2, e3, e4]
    exact (result_5 m d).symm
  · rw [val_main_v57_eq, e0, e1, e2, e3, e4]
    exact (result_6 m d).symm
  · rw [val_main_v56_eq, e0, e1, e2, e3, e4]
    exact (result_7 m d).symm

/-- Every execution of the reference ends, its arguments unchanged. -/
theorem ref_frame : Cert.quiescent_DownLossRefIdeal (hDownLossRefIdeal := Cert.DownLossRefIdeal.Gen.facts) := fun m g _ =>
  (θ_run (Cert.DownLossRefIdeal.defs (F := Ideal)) _ _).mono (fun r h => ⟨fun d => (h d).2.2.2, sem_eq_zero_of_no_sems (by decide) r.2⟩)
    (Cert.DownLossRefIdeal.Value.run (F := Ideal) m g)

end DownLoss

end
-- ==== Proof.Pieces.lean ====
/- Arrays put together from pieces, or cut out of one: their entries, and the sums over their columns. -/
module

public import proofs.«01_k».proof.Proof.DownLoss

@[expose] public section

noncomputable section

namespace Products

open Idealize.ShloMosaic hiding ix2 ix3 ix4 eq_ix2 eq_ix3 eq_ix4
open Idealize.ShloMosaic.ValueIdx

variable {M K N R C : ℕ}

/-- A sum in two runs. -/
theorem split (f : ℕ → EReal) (a b : ℕ) {n : ℕ} (h : a + b = n) :
    ∑ x : Fin n, f x.val = (∑ x : Fin a, f x.val) + ∑ x : Fin b, f (a + x.val) := by
  subst h
  exact Fin.sum_univ_add fun x : Fin (a + b) => f x.val

/-- A turned array at a row and a column. -/
theorem turned_at (v : (⟨2, ![K, N]⟩ : Shape).Idx → EReal) (h : (⟨2, ![K, N]⟩ : Shape).Transposes [1, 0] ⟨2, ![N, K]⟩) (r c : ℕ) :
    at2 (transpose ⟨2, ![N, K]⟩ [1, 0] v h) r c = at2 v c r := by
  by_cases hrc : r < N ∧ c < K
  · exact (at2_of _ (ix2 ⟨r, hrc.1⟩ ⟨c, hrc.2⟩) rfl rfl).symm.trans (turned v h _ rfl rfl)
  · unfold at2
    rw [dif_neg hrc, dif_neg fun h => hrc ⟨h.2, h.1⟩]

/-- Rows `o, …` of an array. -/
theorem rows_at (v : (⟨2, ![K, N]⟩ : Shape).Idx → EReal) (o : ℕ) (h : (⟨2, ![K, N]⟩ : Shape).Slices ![o, 0] ⟨2, ![M, N]⟩)
    (r : Fin M) (c : Fin N) : at2 (extractStridedSlice ⟨2, ![M, N]⟩ ![o, 0] v h) r.val c.val = at2 v (o + r.val) c.val := by
  have hr : o + r.val < K := lt_of_lt_of_le (Nat.add_lt_add_left r.isLt o) (h.2 0)
  refine (at2_of _ (ix2 r c) rfl rfl).symm.trans ((extractStridedSlice_apply ![o, 0] v h (ix2 r c) (ix2 ⟨o + r.val, hr⟩ c)
    fun a => ?_).trans (at2_of v _ rfl rfl))
  match a with
  | ⟨0, _⟩ => rfl
  | ⟨1, _⟩ => exact (Nat.zero_add _).symm

/-- A piece of an array joined along its columns, and along its rows. -/
theorem joined_cols (xs : List ((s : Shape) × (s.Idx → EReal))) (h : Shape.Concatenates (xs.map (·.1)) ⟨2, ![R, C]⟩ 1)
    (k : ℕ) (hk : k < xs.length) (x : (⟨2, ![R, N]⟩ : Shape).Idx → EReal) (hx : xs[k] = ⟨⟨2, ![R, N]⟩, x⟩) (o : ℕ)
    (ho : (((xs.take k).map (·.1)).map fun s => if h : s.rank = 2 then s.size (Fin.cast h.symm 1) else 0).sum = o)
    (r : Fin R) (c : Fin N) (hc : o + c.val < C) : at2 (concatenate ⟨2, ![R, C]⟩ 1 xs h) r.val (o + c.val) = at2 x r.val c.val := by
  refine (at2_of _ (ix2 r ⟨o + c.val, hc⟩) rfl rfl).symm.trans ((concatenate_apply_piece (t := ⟨2, ![R, C]⟩) 1 xs h _ k hk _ x hx rfl o ho
    (ix2 r c) (fun b hb => ?_) rfl).trans (at2_of x _ rfl rfl))
  match b with
  | ⟨0, _⟩ => rfl
  | ⟨1, _⟩ => exact absurd rfl hb

theorem joined_rows (xs : List ((s : Shape) × (s.Idx → EReal))) (h : Shape.Concatenates (xs.map (·.1)) ⟨2, ![R, C]⟩ 0)
    (k : ℕ) (hk : k < xs.length) (x : (⟨2, ![N, C]⟩ : Shape).Idx → EReal) (hx : xs[k] = ⟨⟨2, ![N, C]⟩, x⟩) (o : ℕ)
    (ho : (((xs.take k).map (·.1)).map fun s => if h : s.rank = 2 then s.size (Fin.cast h.symm 0) else 0).sum = o)
    (r : Fin N) (c : Fin C) (hr : o + r.val < R) : at2 (concatenate ⟨2, ![R, C]⟩ 0 xs h) (o + r.val) c.val = at2 x r.val c.val := by
  refine (at2_of _ (ix2 ⟨o + r.val, hr⟩ c) rfl rfl).symm.trans ((concatenate_apply_piece (t := ⟨2, ![R, C]⟩) 0 xs h _ k hk _ x hx rfl o ho
    (ix2 r c) (fun b hb => ?_) rfl).trans (at2_of x _ rfl rfl))
  match b with
  | ⟨0, _⟩ => exact absurd rfl hb
  | ⟨1, _⟩ => rfl

/-- A row's `n` columns from `s` against a weight row's `n` columns from `o`. -/
def part (A : (⟨2, ![M, K]⟩ : Shape).Idx → EReal) (W : (⟨2, ![R, C]⟩ : Shape).Idx → EReal) (n s o r c : ℕ) : EReal :=
  ∑ k : Fin n, at2 A r (s + k.val) * at2 W c (o + k.val)

theorem part_of (A : (⟨2, ![M, K]⟩ : Shape).Idx → EReal) (W : (⟨2, ![R, C]⟩ : Shape).Idx → EReal) {n o r c : ℕ} (a b : Fin n → EReal)
    (ha : ∀ k, a k = at2 A r k.val) (hb : ∀ k, b k = at2 W c (o + k.val)) : ∑ k, a k * b k = part A W n 0 o r c :=
  Finset.sum_congr rfl fun k _ => congrArg₂ (fun a b : EReal => a * b) ((ha k).trans (congrArg (at2 A r) (Nat.zero_add _).symm)) (hb k)

/-- A sum over the input projection's columns: those of z, x with B and C, dt, q, k, v, and the forget gate. -/
theorem sum_of_seven (f : ℕ → EReal) : ∑ x : Fin 5664, f x.val
    = (∑ x : Fin 1024, f x.val) + (∑ x : Fin 1536, f (1024 + x.val)) + (∑ x : Fin 16, f (2560 + x.val)) + (∑ x : Fin 1024, f (2576 + x.val))
      + (∑ x : Fin 1024, f (3600 + x.val)) + (∑ x : Fin 1024, f (4624 + x.val)) + ∑ x : Fin 16, f (5648 + x.val) := by
  rw [split f 5648 16 rfl, split f 4624 1024 rfl, split f 3600 1024 rfl, split f 2576 1024 rfl, split f 2560 16 rfl,
    split f 1024 1536 rfl]

/-- A sum over 128 columns of which the last 96 hold zeros. -/
theorem sum_of_padded (f : ℕ → EReal) (h : ∀ k : Fin 96, f (32 + k.val) = 0) :
    ∑ x : Fin 128, f x.val = (∑ x : Fin 16, f x.val) + ∑ x : Fin 16, f (16 + x.val) := by
  rw [split f 32 96 rfl, Finset.sum_eq_zero fun k _ => h k, add_zero, split f 16 16 rfl]

end Products

end
-- ==== Proof.InBwd.lean ====
/- The input projection's backward pass: six cotangents against their rows of the turned weights, then back through the
   norm before it, and the cotangent of the norm's weights. -/
module

public import proofs.«01_k».proof.Proof.Pieces
public import proofs.«01_k».proof.Proof.Gen.InBwdIdeal.Value
public import proofs.«01_k».proof.Proof.Gen.InBwdRefIdeal.Read

@[expose] public section

set_option maxRecDepth 100000

noncomputable section

namespace InBwd

open Cert.InBwdIdeal Cert.InBwdIdeal.Gen Products Rms Cert.InBwdRefIdeal.Read
open Idealize.ShloMosaic hiding ix2 ix3 ix4 eq_ix2 eq_ix3 eq_ix4
open Idealize.ShloMosaic.TcCoe Idealize.ShloMosaic.ValueIdx Idealize.SL.Sem

section Step

variable (c : Dev nD) (i : grid0.Coords) (a2 : Memref sig .tc .vmem S256x1024 .bf16) (h2 : a2.IsWhole)
  (a3 : Memref sig .tc .vmem S1024x1024 .bf16) (h3 : a3.IsWhole) (a4 : Memref sig .tc .vmem S256x1536 .bf16) (h4 : a4.IsWhole)
  (a5 : Memref sig .tc .vmem S1536x1024 .bf16) (h5 : a5.IsWhole) (a6 : Memref sig .tc .vmem S256x1024 .bf16) (h6 : a6.IsWhole)
  (a7 : Memref sig .tc .vmem S1024x1024 .bf16) (h7 : a7.IsWhole) (a8 : Memref sig .tc .vmem S256x1024 .bf16) (h8 : a8.IsWhole)
  (a9 : Memref sig .tc .vmem S1024x1024 .bf16) (h9 : a9.IsWhole) (a10 : Memref sig .tc .vmem S256x1024 .bf16) (h10 : a10.IsWhole)
  (a11 : Memref sig .tc .vmem S1024x1024 .bf16) (h11 : a11.IsWhole) (a12 : Memref sig .tc .vmem S256x128 .bf16) (h12 : a12.IsWhole)
  (a13 : Memref sig .tc .vmem S128x1024 .bf16) (h13 : a13.IsWhole) (a14 : Memref sig .tc .vmem S256x1024 .f32) (h14 : a14.IsWhole)
  (a15 : Memref sig .tc .vmem S256x1024 .f32) (h15 : a15.IsWhole) (a16 : Memref sig .tc .vmem S1x1024 .f32) (h16 : a16.IsWhole)
  (a17 : Memref sig .tc .vmem S256x1024 .f32) (h17 : a17.IsWhole) (a18 : Memref sig .tc .vmem S1x1024 .f32) (h18 : a18.IsWhole)
  (x0 : Vec Ideal S256x1024 .bf16) (x1 : Vec Ideal S1024x1024 .bf16) (x2 : Vec Ideal S256x1536 .bf16) (x3 : Vec Ideal S1536x1024 .bf16)
  (x4 : Vec Ideal S256x1024 .bf16) (x5 : Vec Ideal S1024x1024 .bf16) (x6 : Vec Ideal S256x1024 .bf16) (x7 : Vec Ideal S1024x1024 .bf16)
  (x8 : Vec Ideal S256x1024 .bf16) (x9 : Vec Ideal S1024x1024 .bf16) (x10 : Vec Ideal S256x128 .bf16) (x11 : Vec Ideal S128x1024 .bf16)
  (x12 x13 : Vec Ideal S256x1024 .f32) (x14 xo : Vec Ideal S1x1024 .f32)

/-- The block's products with the weights. -/
abbrev product : S256x1024.Idx → EReal :=
  k0_pay4 (F := Ideal) (k0_pay2 (F := Ideal) x0 x1 x2 x3 x4 x5 x6 x7 x8 x9) (k0_pay3 (F := Ideal) x10) x11

theorem product_apply (y : S256x1024.Idx) : product x0 x1 x2 x3 x4 x5 x6 x7 x8 x9 x10 x11 y
    = (∑ k : Fin 1024, (x0 (ix2 (y 0) k) : EReal) * (x1 (ix2 k (y 1)) : EReal))
      + (∑ k : Fin 1536, (x2 (ix2 (y 0) k) : EReal) * (x3 (ix2 k (y 1)) : EReal))
      + (∑ k : Fin 1024, (x4 (ix2 (y 0) k) : EReal) * (x5 (ix2 k (y 1)) : EReal))
      + (∑ k : Fin 1024, (x6 (ix2 (y 0) k) : EReal) * (x7 (ix2 k (y 1)) : EReal))
      + (∑ k : Fin 1024, (x8 (ix2 (y 0) k) : EReal) * (x9 (ix2 k (y 1)) : EReal))
      + ∑ k : Fin 128, (x10 (ix2 (y 0) k) : EReal) * (x11 (ix2 k (y 1)) : EReal) := by
  unfold product k0_pay4 k0_pay2 k0_pay3
  simp only [shapeCast_self]
  refine ha (ha (ha
    (ha (ha ?_ ?_) ?_) ?_) ?_) ?_
  · exact matmul_nn (M := 256) (K := 1024) (N := 1024) (φ₁ := .bf16) (φ₂ := .bf16) x0 x1 y
  · exact matmul_nn (M := 256) (K := 1536) (N := 1024) (φ₁ := .bf16) (φ₂ := .bf16) x2 x3 y
  · exact matmul_nn (M := 256) (K := 1024) (N := 1024) (φ₁ := .bf16) (φ₂ := .bf16) x4 x5 y
  · exact matmul_nn (M := 256) (K := 1024) (N := 1024) (φ₁ := .bf16) (φ₂ := .bf16) x6 x7 y
  · exact matmul_nn (M := 256) (K := 1024) (N := 1024) (φ₁ := .bf16) (φ₂ := .bf16) x8 x9 y
  · exact matmul_nn (M := 256) (K := 128) (N := 1024) (φ₁ := .bf16) (φ₂ := .bf16) x10 x11 y

theorem scales (y : S256x1.Idx) : (k0_pay5 x13 : S256x1.Idx → EReal) y = scale fun k => x13 (ix2 (y 0) k) :=
  scale_block (R := 256) x13 y

theorem normal (y : S256x1024.Idx) : (k0_pay6 x13 : S256x1024.Idx → EReal) y = x13 y * scale fun k => x13 (ix2 (y 0) k) :=
  congrArg (fun a : EReal => x13 y * a) ((spread (R := 256) (C := 1024) (k0_pay5 x13) y).trans (scales x13 _))

/-- The rows' cotangents. -/
theorem rows (y : S256x1024.Idx) :
    (k0_pay7 (k0_pay2 x0 x1 x2 x3 x4 x5 x6 x7 x8 x9) (k0_pay3 x10) x11 x13 x14 x12 : S256x1024.Idx → EReal) y
    = x12 y + back (fun k => x13 (ix2 (y 0) k))
        (fun k => product x0 x1 x2 x3 x4 x5 x6 x7 x8 x9 x10 x11 (ix2 (y 0) k) * x14 (ix2 0 k)) (y 1) := by
  refine congrArg (fun a : EReal => x12 y + a) ((back_block (R := 256) (mulf (product x0 x1 x2 x3 x4 x5 x6 x7 x8 x9 x10 x11)
    (broadcastTo S256x1024 x14 broadcasts_S1x1024_S256x1024)) x13 (k0_pay5 x13) (scales x13) y).trans ?_)
  refine congrArg (fun g => back _ g _) (funext fun k => ?_)
  exact congrArg (fun a : EReal => product x0 x1 x2 x3 x4 x5 x6 x7 x8 x9 x10 x11 (ix2 (y 0) k) * a) (down (R := 256) (C := 1024) x14 _)

/-- What a block adds to the row of the norm's weights. -/
theorem row (y : S1x1024.Idx) :
    (k0_pay1 (k0_pay9 xo) (k0_pay10 (k0_pay2 x0 x1 x2 x3 x4 x5 x6 x7 x8 x9) (k0_pay3 x10) x11 x13) : S1x1024.Idx → EReal) y
    = xo y + ∑ r : Fin 256, product x0 x1 x2 x3 x4 x5 x6 x7 x8 x9 x10 x11 (ix2 r (y 1))
        * (x13 (ix2 r (y 1)) * scale fun k => x13 (ix2 r k)) := by
  unfold k0_pay1 k0_pay9
  rw [shapeCast_self]
  refine congrArg (fun a : EReal => xo y + a) ((col_sum (R := 256) (C := 1024) _ y).trans (Finset.sum_congr rfl fun r _ => ?_))
  exact congrArg (fun a : EReal => product x0 x1 x2 x3 x4 x5 x6 x7 x8 x9 x10 x11 (ix2 r (y 1)) * a) (normal x13 _)

/-- What the body leaves in its two blocks. -/
theorem rows_A (h0) : out0_A_15 c i a2 h2 a3 h3 a4 h4 a5 h5 a6 h6 a7 h7 a8 h8 a9 h9 a10 h10 a11 h11 a12 h12 a13 h13 a14 h14 a15 h15 a16 h16 a17 h17 a18 h18 h0
    x0 x1 x2 x3 x4 x5 x6 x7 x8 x9 x10 x11 x12 x13 x14
    = k0_pay7 (k0_pay2 x0 x1 x2 x3 x4 x5 x6 x7 x8 x9) (k0_pay3 x10) x11 x13 x14 x12 := by
  unfold out0_A_15
  rw [View.read_writes_junk_eq_canon]
  unfold kernelRun0_A
  dsimp only
  sl_unfold_words
  rw [View.canon_unit_zero origin]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, ld_whole]

theorem rows_B (h0) : out0_B_15 c i a2 h2 a3 h3 a4 h4 a5 h5 a6 h6 a7 h7 a8 h8 a9 h9 a10 h10 a11 h11 a12 h12 a13 h13 a14 h14 a15 h15 a16 h16 a17 h17 a18 h18 h0
    x0 x1 x2 x3 x4 x5 x6 x7 x8 x9 x10 x11 x12 x13 x14 xo
    = k0_pay7 (k0_pay2 x0 x1 x2 x3 x4 x5 x6 x7 x8 x9) (k0_pay3 x10) x11 x13 x14 x12 := by
  unfold out0_B_15
  rw [View.read_writes_junk_eq_canon]
  unfold kernelRun0_B
  dsimp only
  sl_unfold_words
  rw [View.canon_unit_zero origin]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h16.read_unread, ld_whole]

theorem row_A (h0) : out0_A_16 c i a2 h2 a3 h3 a4 h4 a5 h5 a6 h6 a7 h7 a8 h8 a9 h9 a10 h10 a11 h11 a12 h12 a13 h13 a14 h14 a15 h15 a16 h16 a17 h17 a18 h18 h0
    x0 x1 x2 x3 x4 x5 x6 x7 x8 x9 x10 x11 x12 x13 x14
    = k0_pay1 (k0_pay9 (k0_pay8 (F := Ideal))) (k0_pay10 (k0_pay2 x0 x1 x2 x3 x4 x5 x6 x7 x8 x9) (k0_pay3 x10) x11 x13) := by
  unfold out0_A_16
  rw [View.read_writes_junk_eq_canon]
  unfold kernelRun0_A
  dsimp only
  sl_unfold_words
  rw [View.canon_cons_unit_zero origin, View.readCov_unit_zero _ origin]
  simp only [View.readAt_eq_ld, h2.read_unread, h3.read_unread, h4.read_unread, h5.read_unread, h6.read_unread, h7.read_unread, h8.read_unread, h9.read_unread, h10.read_unread, h11.read_unread, h12.read_unread, h13.read_unread, h15.read_unread, ld_whole]

theorem row_B (h0) : out0_B_16 c i a2 h2 a3 h3 a4 h4 a5 h5 a6 h6 a7 h7 a8 h8 a9 h9 a10 h10 a11 h11 a12 h12 a13 h13 a14 h14 a15 h15 a16 h16 a17 h17 a18 h18 h0
    x0 x1 x2 x3 x4 x5 x6 x7 x8 x9 x10 x11 x12 x13 x14 xo
    = k0_pay1 (k0_pay9 xo) (k0_pay10 (k0_pay2 x0 x1 x2 x3 x4 x5 x6 x7 x8 x9) (k0_pay3 x10) x11 x13) := by
  unfold out0_B_16
  rw [View.read_writes_junk_eq_canon]
  unfold kernelRun0_B
  dsimp only
  sl_unfold_words
  rw [View.canon_unit_zero origin]
  simp only [View.readAt_eq_ld, h2.read_unread, h3.read_unread, h4.read_unread, h5.read_unread, h6.read_unread, h7.read_unread, h8.read_unread, h9.read_unread, h10.read_unread, h11.read_unread, h12.read_unread, h13.read_unread, h15.read_unread, h18.read_unread, ld_whole]

end Step

variable (m : (ℓ : Loc nD τ sig) → Buf (Elt Ideal) ℓ) (d : Dev nD) (t : Fin cfg0.N)

theorem idx_0 : ∀ t : Fin cfg0.N, win0_0.index t = ![t.val, 0] := by decide +kernel
theorem idx_2 : ∀ t : Fin cfg0.N, win0_2.index t = ![t.val, 0] := by decide +kernel
theorem idx_4 : ∀ t : Fin cfg0.N, win0_4.index t = ![t.val, 0] := by decide +kernel
theorem idx_6 : ∀ t : Fin cfg0.N, win0_6.index t = ![t.val, 0] := by decide +kernel
theorem idx_8 : ∀ t : Fin cfg0.N, win0_8.index t = ![t.val, 0] := by decide +kernel
theorem idx_10 : ∀ t : Fin cfg0.N, win0_10.index t = ![t.val, 0] := by decide +kernel
theorem idx_12 : ∀ t : Fin cfg0.N, win0_12.index t = ![t.val, 0] := by decide +kernel
theorem idx_13 : ∀ t : Fin cfg0.N, win0_13.index t = ![t.val, 0] := by decide +kernel
theorem idx_15 : ∀ t : Fin cfg0.N, win0_15.index t = ![t.val, 0] := by decide +kernel
theorem idx_1 : ∀ t : Fin cfg0.N, win0_1.index t = ![0, 0] := by decide +kernel
theorem idx_3 : ∀ t : Fin cfg0.N, win0_3.index t = ![0, 0] := by decide +kernel
theorem idx_5 : ∀ t : Fin cfg0.N, win0_5.index t = ![0, 0] := by decide +kernel
theorem idx_7 : ∀ t : Fin cfg0.N, win0_7.index t = ![0, 0] := by decide +kernel
theorem idx_9 : ∀ t : Fin cfg0.N, win0_9.index t = ![0, 0] := by decide +kernel
theorem idx_11 : ∀ t : Fin cfg0.N, win0_11.index t = ![0, 0] := by decide +kernel
theorem idx_14 : ∀ t : Fin cfg0.N, win0_14.index t = ![0, 0] := by decide +kernel
theorem idx_16 : ∀ t : Fin cfg0.N, win0_16.index t = ![0, 0] := by decide +kernel

/-- The arguments: the six cotangents, the weights, what came by the residual, the rows, and the norm's weights. -/
abbrev ct_z : S8192x1024.Idx → EReal := m ((d : Thread nD τ).loc main_arg0)
abbrev ct_x : S8192x1536.Idx → EReal := m ((d : Thread nD τ).loc main_arg1)
abbrev ct_q : S8192x1024.Idx → EReal := m ((d : Thread nD τ).loc main_arg2)
abbrev ct_k : S8192x1024.Idx → EReal := m ((d : Thread nD τ).loc main_arg3)
abbrev ct_v : S8192x1024.Idx → EReal := m ((d : Thread nD τ).loc main_arg4)
abbrev ct_f : S8192x128.Idx → EReal := m ((d : Thread nD τ).loc main_arg5)
abbrev weights : S1024x5664.Idx → EReal := m ((d : Thread nD τ).loc main_arg6)
abbrev past : S8192x1024.Idx → EReal := m ((d : Thread nD τ).loc main_arg7)
abbrev hidden : S8192x1024.Idx → EReal := m ((d : Thread nD τ).loc main_arg8)
abbrev norm : S1x1024.Idx → EReal := m ((d : Thread nD τ).loc main_arg9)

/-- The weights turned, and the pieces of them that the kernel reads. -/
abbrev columns : S5664x1024.Idx → EReal := transpose S5664x1024 [1, 0] (weights m d) transposes_S1024x5664_S5664x1024_1_0
abbrev attention : S3072x1024.Idx → EReal := extractStridedSlice S3072x1024 ![2576, 0] (columns m d) slices_S5664x1024_S3072x1024_2576_0
abbrev gates : List ((s : Shape) × (s.Idx → EReal)) :=
  [⟨S16x1024, extractStridedSlice S16x1024 ![2560, 0] (columns m d) slices_S5664x1024_S16x1024_2560_0⟩,
    ⟨S16x1024, extractStridedSlice S16x1024 ![5648, 0] (columns m d) slices_S5664x1024_S16x1024_5648_0⟩,
    ⟨S96x1024, broadcastInDim S96x1024 ![] bcast_S_S96x1024 (constant (F := Ideal) S_ .bf16 0x0000#16)⟩]

/-- What the kernel's operands hold. -/
theorem entries :
    (V m d main_v12 : S8192x1024.Idx → EReal) = ct_z m d
    ∧ (V m d main_v13 : S8192x1536.Idx → EReal) = ct_x m d
    ∧ (V m d main_v14 : S8192x1024.Idx → EReal) = ct_q m d
    ∧ (V m d main_v15 : S8192x1024.Idx → EReal) = ct_k m d
    ∧ (V m d main_v16 : S8192x1024.Idx → EReal) = ct_v m d
    ∧ (V m d main_v17 : S8192x128.Idx → EReal) = ct_f m d
    ∧ (V m d main_v2 : S1024x1024.Idx → EReal)
      = extractStridedSlice S1024x1024 ![0, 0] (columns m d) slices_S5664x1024_S1024x1024_0_0
    ∧ (V m d main_v3 : S1536x1024.Idx → EReal)
      = extractStridedSlice S1536x1024 ![1024, 0] (columns m d) slices_S5664x1024_S1536x1024_1024_0
    ∧ (V m d main_v9 : S1024x1024.Idx → EReal)
      = extractStridedSlice S1024x1024 ![0, 0] (attention m d) slices_S3072x1024_S1024x1024_0_0
    ∧ (V m d main_v10 : S1024x1024.Idx → EReal)
      = extractStridedSlice S1024x1024 ![1024, 0] (attention m d) slices_S3072x1024_S1024x1024_1024_0
    ∧ (V m d main_v11 : S1024x1024.Idx → EReal)
      = extractStridedSlice S1024x1024 ![2048, 0] (attention m d) slices_S3072x1024_S1024x1024_2048_0
    ∧ (V m d main_v8 : S128x1024.Idx → EReal)
      = concatenate S128x1024 0 (gates m d) concatenates_S16x1024_S16x1024_S96x1024_S128x1024_d0 := by
  refine ⟨?_, ?_, ?_, ?_, ?_, ?_, ?_, ?_, ?_, ?_, ?_, ?_⟩ <;>
  · simp [V, hostOps0]
    after_results_simp; rfl

theorem columns_at (r c : ℕ) : at2 (columns m d) r c = at2 (weights m d) c r := turned_at (weights m d) _ r c

theorem attention_at (o : ℕ) (h) (r c : Fin 1024) :
    at2 (extractStridedSlice S1024x1024 ![o, 0] (attention m d) h) r.val c.val = at2 (weights m d) c.val (2576 + o + r.val) := by
  have ho : o + r.val < 3072 := lt_of_lt_of_le (Nat.add_lt_add_left r.isLt o) (h.2 0)
  refine (rows_at (attention m d) o h r c).trans ((rows_at (columns m d) 2576 slices_S5664x1024_S3072x1024_2576_0 ⟨o + r.val, ho⟩ c).trans
    ((columns_at m d _ _).trans (congrArg (at2 (weights m d) c.val) (Nat.add_assoc 2576 o r.val).symm)))

/-- What a grid point reads of them. -/
abbrev block_0 : S256x1024.Idx → EReal := iblk m d 0 t
abbrev block_1 : S1024x1024.Idx → EReal := iblk m d 1 t
abbrev block_2 : S256x1536.Idx → EReal := iblk m d 2 t
abbrev block_3 : S1536x1024.Idx → EReal := iblk m d 3 t
abbrev block_4 : S256x1024.Idx → EReal := iblk m d 4 t
abbrev block_5 : S1024x1024.Idx → EReal := iblk m d 5 t
abbrev block_6 : S256x1024.Idx → EReal := iblk m d 6 t
abbrev block_7 : S1024x1024.Idx → EReal := iblk m d 7 t
abbrev block_8 : S256x1024.Idx → EReal := iblk m d 8 t
abbrev block_9 : S1024x1024.Idx → EReal := iblk m d 9 t
abbrev block_10 : S256x128.Idx → EReal := iblk m d 10 t
abbrev block_11 : S128x1024.Idx → EReal := iblk m d 11 t
abbrev block_12 : S256x1024.Idx → EReal := iblk m d 12 t
abbrev block_13 : S256x1024.Idx → EReal := iblk m d 13 t
abbrev block_14 : S1x1024.Idx → EReal := iblk m d 14 t

theorem read_0 (i : Fin 256) (k : Fin 1024) : block_0 m d t (ix2 i k) = at2 (ct_z m d) (t.val * 256 + i.val) k.val := by
  refine (at2_of (V m d main_v12) _ ?_ ?_).trans (at2_eq (entries m d).1)
  · exact (emb win0_0 t (ix2 i k) 0).trans (by rw [idx_0]; rfl)
  · exact emb_zero win0_0 t 1 (by rw [idx_0]; rfl) (ix2 i k)

theorem read_2 (i : Fin 256) (k : Fin 1536) : block_2 m d t (ix2 i k) = at2 (ct_x m d) (t.val * 256 + i.val) k.val := by
  refine (at2_of (V m d main_v13) _ ?_ ?_).trans (at2_eq (entries m d).2.1)
  · exact (emb win0_2 t (ix2 i k) 0).trans (by rw [idx_2]; rfl)
  · exact emb_zero win0_2 t 1 (by rw [idx_2]; rfl) (ix2 i k)

theorem read_4 (i : Fin 256) (k : Fin 1024) : block_4 m d t (ix2 i k) = at2 (ct_q m d) (t.val * 256 + i.val) k.val := by
  refine (at2_of (V m d main_v14) _ ?_ ?_).trans (at2_eq (entries m d).2.2.1)
  · exact (emb win0_4 t (ix2 i k) 0).trans (by rw [idx_4]; rfl)
  · exact emb_zero win0_4 t 1 (by rw [idx_4]; rfl) (ix2 i k)

theorem read_6 (i : Fin 256) (k : Fin 1024) : block_6 m d t (ix2 i k) = at2 (ct_k m d) (t.val * 256 + i.val) k.val := by
  refine (at2_of (V m d main_v15) _ ?_ ?_).trans (at2_eq (entries m d).2.2.2.1)
  · exact (emb win0_6 t (ix2 i k) 0).trans (by rw [idx_6]; rfl)
  · exact emb_zero win0_6 t 1 (by rw [idx_6]; rfl) (ix2 i k)

theorem read_8 (i : Fin 256) (k : Fin 1024) : block_8 m d t (ix2 i k) = at2 (ct_v m d) (t.val * 256 + i.val) k.val := by
  refine (at2_of (V m d main_v16) _ ?_ ?_).trans (at2_eq (entries m d).2.2.2.2.1)
  · exact (emb win0_8 t (ix2 i k) 0).trans (by rw [idx_8]; rfl)
  · exact emb_zero win0_8 t 1 (by rw [idx_8]; rfl) (ix2 i k)

theorem read_10 (i : Fin 256) (k : Fin 128) : block_10 m d t (ix2 i k) = at2 (ct_f m d) (t.val * 256 + i.val) k.val := by
  refine (at2_of (V m d main_v17) _ ?_ ?_).trans (at2_eq (entries m d).2.2.2.2.2.1)
  · exact (emb win0_10 t (ix2 i k) 0).trans (by rw [idx_10]; rfl)
  · exact emb_zero win0_10 t 1 (by rw [idx_10]; rfl) (ix2 i k)

theorem read_1 (k : Fin 1024) (j : Fin 1024) : block_1 m d t (ix2 k j) = at2 (weights m d) j.val (0 + k.val) := by
  refine (at2_of (V m d main_v2) _ ?_ ?_).trans ((congrArg (fun v : S1024x1024.Idx → EReal => at2 v k.val j.val) (entries m d).2.2.2.2.2.2.1).trans
    ((rows_at (columns m d) 0 _ k j).trans (columns_at m d _ _)))
  · exact emb_zero win0_1 t 0 (by rw [idx_1]; rfl) (ix2 k j)
  · exact emb_zero win0_1 t 1 (by rw [idx_1]; rfl) (ix2 k j)

theorem read_3 (k : Fin 1536) (j : Fin 1024) : block_3 m d t (ix2 k j) = at2 (weights m d) j.val (1024 + k.val) := by
  refine (at2_of (V m d main_v3) _ ?_ ?_).trans ((congrArg (fun v : S1536x1024.Idx → EReal => at2 v k.val j.val) (entries m d).2.2.2.2.2.2.2.1).trans
    ((rows_at (columns m d) 1024 _ k j).trans (columns_at m d _ _)))
  · exact emb_zero win0_3 t 0 (by rw [idx_3]; rfl) (ix2 k j)
  · exact emb_zero win0_3 t 1 (by rw [idx_3]; rfl) (ix2 k j)

theorem read_5 (k : Fin 1024) (j : Fin 1024) : block_5 m d t (ix2 k j) = at2 (weights m d) j.val (2576 + k.val) := by
  refine (at2_of (V m d main_v9) _ ?_ ?_).trans ((congrArg (fun v : S1024x1024.Idx → EReal => at2 v k.val j.val) (entries m d).2.2.2.2.2.2.2.2.1).trans
    (attention_at m d 0 _ k j))
  · exact emb_zero win0_5 t 0 (by rw [idx_5]; rfl) (ix2 k j)
  · exact emb_zero win0_5 t 1 (by rw [idx_5]; rfl) (ix2 k j)

theorem read_7 (k : Fin 1024) (j : Fin 1024) : block_7 m d t (ix2 k j) = at2 (weights m d) j.val (3600 + k.val) := by
  refine (at2_of (V m d main_v10) _ ?_ ?_).trans ((congrArg (fun v : S1024x1024.Idx → EReal => at2 v k.val j.val) (entries m d).2.2.2.2.2.2.2.2.2.1).trans
    (attention_at m d 1024 _ k j))
  · exact emb_zero win0_7 t 0 (by rw [idx_7]; rfl) (ix2 k j)
  · exact emb_zero win0_7 t 1 (by rw [idx_7]; rfl) (ix2 k j)

theorem read_9 (k : Fin 1024) (j : Fin 1024) : block_9 m d t (ix2 k j) = at2 (weights m d) j.val (4624 + k.val) := by
  refine (at2_of (V m d main_v11) _ ?_ ?_).trans ((congrArg (fun v : S1024x1024.Idx → EReal => at2 v k.val j.val) (entries m d).2.2.2.2.2.2.2.2.2.2.1).trans
    (attention_at m d 2048 _ k j))
  · exact emb_zero win0_9 t 0 (by rw [idx_9]; rfl) (ix2 k j)
  · exact emb_zero win0_9 t 1 (by rw [idx_9]; rfl) (ix2 k j)

theorem read_11 (k : Fin 128) (j : Fin 1024) : block_11 m d t (ix2 k j)
    = at2 (concatenate S128x1024 0 (gates m d) concatenates_S16x1024_S16x1024_S96x1024_S128x1024_d0) k.val j.val := by
  refine (at2_of (V m d main_v8) _ ?_ ?_).trans (congrArg (fun v : S128x1024.Idx → EReal => at2 v k.val j.val) (entries m d).2.2.2.2.2.2.2.2.2.2.2)
  · exact emb_zero win0_11 t 0 (by rw [idx_11]; rfl) (ix2 k j)
  · exact emb_zero win0_11 t 1 (by rw [idx_11]; rfl) (ix2 k j)

theorem read_12 (i : Fin 256) (k : Fin 1024) : block_12 m d t (ix2 i k) = at2 (past m d) (t.val * 256 + i.val) k.val := by
  refine (at2_of (V m d main_arg7) _ ?_ ?_).trans (at2_eq (V_main_arg7 m d))
  · exact (emb win0_12 t (ix2 i k) 0).trans (by rw [idx_12]; rfl)
  · exact emb_zero win0_12 t 1 (by rw [idx_12]; rfl) (ix2 i k)

theorem read_13 (i : Fin 256) (k : Fin 1024) : block_13 m d t (ix2 i k) = at2 (hidden m d) (t.val * 256 + i.val) k.val := by
  refine (at2_of (V m d main_arg8) _ ?_ ?_).trans (at2_eq (V_main_arg8 m d))
  · exact (emb win0_13 t (ix2 i k) 0).trans (by rw [idx_13]; rfl)
  · exact emb_zero win0_13 t 1 (by rw [idx_13]; rfl) (ix2 i k)

theorem read_14 (k : Fin 1024) : block_14 m d t (ix2 0 k) = at2 (norm m d) 0 k.val := by
  refine (at2_of (V m d main_arg9) _ ?_ ?_).trans (at2_eq (V_main_arg9 m d))
  · exact emb_zero win0_14 t 0 (by rw [idx_14]; rfl) (ix2 0 k)
  · exact emb_zero win0_14 t 1 (by rw [idx_14]; rfl) (ix2 0 k)

section Math

variable (x0 : S8192x1024.Idx → EReal) (x1 : S8192x1536.Idx → EReal) (x2 x3 x4 : S8192x1024.Idx → EReal) (x5 : S8192x128.Idx → EReal)
  (x6 : S1024x5664.Idx → EReal) (x7 x8 : S8192x1024.Idx → EReal) (x9 : S1x1024.Idx → EReal)

/-- The cotangent of the normalized rows, a row of the rows themselves, and the two results. -/
def back_of (r c : ℕ) : EReal := part x0 x6 1024 0 0 r c + part x1 x6 1536 0 1024 r c + part x5 x6 16 0 2560 r c + part x2 x6 1024 0 2576 r c
  + part x3 x6 1024 0 3600 r c + part x4 x6 1024 0 4624 r c + part x5 x6 16 16 5648 r c
def row_of (r : ℕ) (k : Fin 1024) : EReal := at2 x8 r k.val
def rows_of (r : ℕ) (c : Fin 1024) : EReal :=
  at2 x7 r c.val + back (row_of x8 r) (fun k => back_of x0 x1 x2 x3 x4 x5 x6 r k.val * at2 x9 0 k.val) c
def term_of (c r : ℕ) : EReal := back_of x0 x1 x2 x3 x4 x5 x6 r c * (at2 x8 r c * scale (row_of x8 r))

end Math

/-- The narrow weights are padded with zeros: only the two runs of sixteen columns count. -/
theorem narrow (r : ℕ) (c : Fin 1024) : (∑ k : Fin 128, at2 (ct_f m d) r k.val
      * at2 (concatenate S128x1024 0 (gates m d) concatenates_S16x1024_S16x1024_S96x1024_S128x1024_d0) k.val c.val)
    = part (ct_f m d) (weights m d) 16 0 2560 r c.val + part (ct_f m d) (weights m d) 16 16 5648 r c.val := by
  have joined := fun k hk n (x : (⟨2, ![n, 1024]⟩ : Shape).Idx → EReal) hx o ho => joined_rows (R := 128) (C := 1024) (N := n) (gates m d)
    concatenates_S16x1024_S16x1024_S96x1024_S128x1024_d0 k hk x hx o ho
  refine (sum_of_padded (fun n : ℕ => at2 (ct_f m d) r n
    * at2 (concatenate S128x1024 0 (gates m d) concatenates_S16x1024_S16x1024_S96x1024_S128x1024_d0) n c.val) fun k => ?_).trans
    (ha ?_ ?_)
  · show at2 (ct_f m d) r (32 + k.val) * _ = 0
    refine (congrArg (fun b : EReal => at2 (ct_f m d) r (32 + k.val) * b) ((joined 2 (show 2 < 3 by decide) 96 _ rfl 32 rfl k c
      (by have := k.isLt; omega)).trans ?_)).trans (mul_zero _)
    exact (at2_of _ (ix2 k c) rfl rfl).symm.trans ((broadcastInDim_apply _ _ _ _ (fun a => a.elim0) (fun a => a.elim0)).trans
      (AttBwd.zero_bf16.trans EReal.coe_zero))
  · exact part_of (ct_f m d) (weights m d) _ _ (fun k => rfl) fun k => (congrArg (fun n : ℕ => at2 _ n c.val) (Nat.zero_add k.val)).symm.trans
      ((joined 0 (show 0 < 3 by decide) 16 _ rfl 0 rfl k c (by have := k.isLt; omega)).trans
        ((rows_at (columns m d) 2560 _ k c).trans (columns_at m d _ _)))
  · exact Finset.sum_congr rfl fun k _ => congrArg (fun b : EReal => at2 (ct_f m d) r (16 + k.val) * b)
      ((joined 1 (show 1 < 3 by decide) 16 _ rfl 16 rfl k c (by have := k.isLt; omega)).trans
        ((rows_at (columns m d) 5648 _ k c).trans (columns_at m d _ _)))

/-- What a point's blocks give. -/
abbrev block_product : S256x1024.Idx → EReal := product (block_0 m d t) (block_1 m d t) (block_2 m d t) (block_3 m d t) (block_4 m d t)
  (block_5 m d t) (block_6 m d t) (block_7 m d t) (block_8 m d t) (block_9 m d t) (block_10 m d t) (block_11 m d t)

/-- The cotangents of the normalized rows, from the arguments of the program. -/
abbrev back_from (r c : ℕ) : EReal :=
  back_of (ct_z m d) (ct_x m d) (ct_q m d) (ct_k m d) (ct_v m d) (ct_f m d) (weights m d) r c

theorem product_read (i : Fin 256) (c : Fin 1024) : block_product m d t (ix2 i c) = back_from m d (t.val * 256 + i.val) c.val := by
  refine (product_apply _ _ _ _ _ _ _ _ _ _ _ _ (ix2 i c)).trans ((ha
    (ha (ha (ha
    (ha
      (part_of (ct_z m d) (weights m d) _ _ (fun k => read_0 m d t i k) fun k => read_1 m d t k c)
      (part_of (ct_x m d) (weights m d) _ _ (fun k => read_2 m d t i k) fun k => read_3 m d t k c))
      (part_of (ct_q m d) (weights m d) _ _ (fun k => read_4 m d t i k) fun k => read_5 m d t k c))
      (part_of (ct_k m d) (weights m d) _ _ (fun k => read_6 m d t i k) fun k => read_7 m d t k c))
      (part_of (ct_v m d) (weights m d) _ _ (fun k => read_8 m d t i k) fun k => read_9 m d t k c))
    ((Finset.sum_congr rfl fun k _ => hm (read_10 m d t i k) (read_11 m d t k c)).trans
      (narrow m d _ c))).trans ?_)
  unfold back_from back_of
  ac_rfl

theorem hidden_read (i : Fin 256) : (fun k : Fin 1024 => block_13 m d t (ix2 i k)) = row_of (hidden m d) (t.val * 256 + i.val) :=
  funext fun k => read_13 m d t i k

/-- The two results, from the arguments of the program. -/
abbrev rows_from (r : ℕ) (c : Fin 1024) : EReal :=
  rows_of (ct_z m d) (ct_x m d) (ct_q m d) (ct_k m d) (ct_v m d) (ct_f m d) (weights m d) (past m d) (hidden m d) (norm m d) r c
abbrev term_from (c r : ℕ) : EReal := term_of (ct_z m d) (ct_x m d) (ct_q m d) (ct_k m d) (ct_v m d) (ct_f m d) (weights m d) (hidden m d) c r

theorem rows_read (y : S256x1024.Idx) :
    (k0_pay7 (F := Ideal) (k0_pay2 (F := Ideal) (block_0 m d t) (block_1 m d t) (block_2 m d t) (block_3 m d t) (block_4 m d t)
      (block_5 m d t) (block_6 m d t) (block_7 m d t) (block_8 m d t) (block_9 m d t)) (k0_pay3 (F := Ideal) (block_10 m d t))
      (block_11 m d t) (block_13 m d t) (block_14 m d t) (block_12 m d t) : S256x1024.Idx → EReal) y
      = rows_from m d (t.val * 256 + (y 0).val) (y 1) := by
  refine (rows (block_0 m d t) (block_1 m d t) (block_2 m d t) (block_3 m d t) (block_4 m d t) (block_5 m d t) (block_6 m d t)
    (block_7 m d t) (block_8 m d t) (block_9 m d t) (block_10 m d t) (block_11 m d t) (block_12 m d t) (block_13 m d t)
    (block_14 m d t) y).trans ?_
  refine ha ((congrArg (block_12 m d t) (eq_ix2 y)).trans (read_12 m d t (y 0) (y 1))) ?_
  refine congrArg₂ (fun x g => back x g (y 1)) (hidden_read m d t (y 0)) (funext fun k => ?_)
  exact hm (product_read m d t (y 0) k) (read_14 m d t k)

/-- What a point writes of the rows. -/
theorem point_15 (y : S256x1024.Idx) : ((outsAt0 m d t.val t.isLt).1 : S256x1024.Idx → EReal) y
    = rows_from m d (t.val * 256 + (y 0).val) (y 1) := by
  refine Eq.trans ?_ (rows_read m d t y)
  by_cases h : t.val % 32 = 0
  · rw [outsAt0_A m d t h]
    dsimp only
    rw [rows_A]
  · rw [outsAt0_B m d t h]
    dsimp only
    rw [rows_B]

/-- What the row of the norm's weights holds after a point. -/
def held (n : ℕ) (h : n < cfg0.N) : S1x1024.Idx → EReal := (outsAt0 m d n h).2

theorem row_read (xo : S1x1024.Idx → EReal) (y : S1x1024.Idx) :
    (k0_pay1 (F := Ideal) (k0_pay9 (F := Ideal) xo) (k0_pay10 (F := Ideal) (k0_pay2 (F := Ideal) (block_0 m d t) (block_1 m d t)
      (block_2 m d t) (block_3 m d t) (block_4 m d t) (block_5 m d t) (block_6 m d t) (block_7 m d t) (block_8 m d t) (block_9 m d t))
      (k0_pay3 (F := Ideal) (block_10 m d t)) (block_11 m d t) (block_13 m d t)) : S1x1024.Idx → EReal) y
      = xo y + ∑ k : Fin 256, term_from m d (y 1).val (t.val * 256 + k.val) := by
  refine (row (block_0 m d t) (block_1 m d t) (block_2 m d t) (block_3 m d t) (block_4 m d t) (block_5 m d t) (block_6 m d t)
    (block_7 m d t) (block_8 m d t) (block_9 m d t) (block_10 m d t) (block_11 m d t) (block_13 m d t) xo y).trans
    (congrArg (fun a : EReal => xo y + a) (Finset.sum_congr rfl fun k _ => ?_))
  exact hm (product_read m d t k (y 1))
    (hm (read_13 m d t k (y 1)) (congrArg scale (hidden_read m d t k)))

theorem held_first (h : t.val % 32 = 0) (y : S1x1024.Idx) : held m d t.val t.isLt y
    = ∑ k : Fin 256, term_from m d (y 1).val (t.val * 256 + k.val) := by
  unfold held
  rw [outsAt0_A m d t h]
  dsimp only
  rw [row_A]
  exact (row_read m d t _ y).trans (from_zero _)

theorem held_next (h : ¬t.val % 32 = 0) (h' : t.val - 1 < cfg0.N) (y : S1x1024.Idx) : held m d t.val t.isLt y
    = held m d (t.val - 1) h' y + ∑ k : Fin 256, term_from m d (y 1).val (t.val * 256 + k.val) := by
  unfold held
  rw [outsAt0_B m d t h]
  dsimp only
  rw [row_B]
  exact row_read m d t _ y

/-- What the last point writes: the sum over all rows. -/
theorem point_16 (h : t.val % 32 = 31) (y : S1x1024.Idx) : ((outsAt0 m d t.val t.isLt).2 : S1x1024.Idx → EReal) y
    = ∑ r : Fin 8192, term_from m d (y 1).val r.val := by
  have ht : t.val = 31 := by have := t.isLt.trans_eq N_0; omega
  have hs := sum_of_points (N := cfg0.N) (b := 256) (fun n hn => held m d n hn y)
    (term_from m d (y 1).val) (fun h => held_first m d ⟨0, h⟩ rfl y)
    (fun n hn hn' => held_next m d ⟨n + 1, hn⟩ (by have := hn.trans_eq N_0; show ¬(n + 1) % 32 = 0; omega) hn' y) t.val t.isLt
  refine hs.trans ?_
  rw [ht]

section Reference

variable (x0 : S8192x1024.Idx → EReal) (x1 : S8192x1536.Idx → EReal) (x2 x3 x4 : S8192x1024.Idx → EReal) (x5 : S8192x128.Idx → EReal)
  (x6 : S1024x5664.Idx → EReal) (x7 x8 : S8192x1024.Idx → EReal) (x9 : S1x1024.Idx → EReal)

/-- The reference: the mean of a row's squares, the scale, and the slope of the scale. -/
theorem ref_square (i : Cert.InBwdRefIdeal.S8192x1.Idx) : (val_main_v10 (F := Ideal) x8 i : EReal) = square (row_of x8 (i 0).val) := by
  refine congrArg (fun a : EReal => Ideal.div a (Ideal.ofBits .f32 0x44800000#32) + Ideal.ofBits .f32 0x3727C5AC#32)
    ((val_main_v6_apply (F := Ideal) x8 i).trans ((val_main_v5_apply x8 _).trans ((from_zero _).trans (Finset.sum_congr rfl fun k _ => ?_))))
  exact hm (at2_of x8 _ rfl rfl) (at2_of x8 _ rfl rfl)

theorem ref_scale (i : Cert.InBwdRefIdeal.S8192x1.Idx) : (val_main_v11 (F := Ideal) x8 i : EReal) = scale (row_of x8 (i 0).val) :=
  congrArg Ideal.rsqrt (ref_square x8 i)

theorem ref_slope (i : Cert.InBwdRefIdeal.S8192x1.Idx) : (val_main_v14 (F := Ideal) x8 i : EReal)
    = Ideal.ofBits .f32 0xBF000000#32 * Ideal.div (scale (row_of x8 (i 0).val)) (square (row_of x8 (i 0).val)) :=
  congrArg (fun a : EReal => Ideal.ofBits .f32 0xBF000000#32 * a) (congrArg₂ Ideal.div (ref_scale x8 i) (ref_square x8 i))

/-- The joined cotangents against the weights: each piece against its columns. -/
theorem ref_product (i : S8192x1024.Idx) : (val_main_v21 (F := Ideal) x0 x1 x2 x3 x4 x5 x6 i : EReal)
    = back_of x0 x1 x2 x3 x4 x5 x6 (i 0).val (i 1).val := by
  have joined := fun k hk n (x : (⟨2, ![8192, n]⟩ : Shape).Idx → EReal) hx o ho => joined_cols (R := 8192) (C := 5664) (N := n)
    [⟨S8192x1024, x0⟩, ⟨S8192x1536, x1⟩, ⟨Cert.InBwdRefIdeal.S8192x16, val_main_v0 (F := Ideal) x5⟩, ⟨S8192x1024, x2⟩, ⟨S8192x1024, x3⟩,
      ⟨S8192x1024, x4⟩, ⟨Cert.InBwdRefIdeal.S8192x16, val_main_v1 (F := Ideal) x5⟩]
    Cert.InBwdRefIdeal.Facts₀.concatenates_S8192x1024_S8192x1536_S8192x16_S8192x1024_S8192x1024_S8192x1024_S8192x16_S8192x5664_d1
    k hk x hx o ho
  refine (val_main_v21_apply x0 x1 x2 x3 x4 x5 x6 i).trans ((Finset.sum_congr rfl fun k _ => hm
    (at2_of (val_main_v2 (F := Ideal) x0 x1 x2 x3 x4 x5) _ rfl rfl) (at2_of x6 _ rfl rfl)).trans ((sum_of_seven fun x : ℕ =>
      at2 (val_main_v2 (F := Ideal) x0 x1 x2 x3 x4 x5) (i 0).val x * at2 x6 (i 1).val x).trans ?_))
  refine ha (ha (ha
    (ha (ha (ha ?_ ?_) ?_) ?_) ?_) ?_) ?_
  · exact part_of x0 x6 _ _ (fun k => (congrArg (at2 _ (i 0).val) (Nat.zero_add k.val)).symm.trans
      (joined 0 (show 0 < 7 by decide) 1024 x0 rfl 0 rfl (i 0) k (by have := k.isLt; omega)))
      fun k => congrArg (at2 x6 (i 1).val) (Nat.zero_add k.val).symm
  · exact part_of x1 x6 _ _ (fun k => joined 1 (show 1 < 7 by decide) 1536 x1 rfl 1024 rfl (i 0) k (by have := k.isLt; omega)) fun _ => rfl
  · exact Finset.sum_congr rfl fun k _ => congrArg (fun a : EReal => a * at2 x6 (i 1).val (2560 + k.val))
      ((joined 2 (show 2 < 7 by decide) 16 _ rfl 2560 rfl (i 0) k (by have := k.isLt; omega)).trans
        ((at2_of _ (ix2 (i 0) k) rfl rfl).symm.trans ((val_main_v0_apply (F := Ideal) x5 _).trans
          (at2_of x5 _ rfl (Nat.zero_add k.val).symm))))
  · exact part_of x2 x6 _ _ (fun k => joined 3 (show 3 < 7 by decide) 1024 x2 rfl 2576 rfl (i 0) k (by have := k.isLt; omega)) fun _ => rfl
  · exact part_of x3 x6 _ _ (fun k => joined 4 (show 4 < 7 by decide) 1024 x3 rfl 3600 rfl (i 0) k (by have := k.isLt; omega)) fun _ => rfl
  · exact part_of x4 x6 _ _ (fun k => joined 5 (show 5 < 7 by decide) 1024 x4 rfl 4624 rfl (i 0) k (by have := k.isLt; omega)) fun _ => rfl
  · exact Finset.sum_congr rfl fun k _ => congrArg (fun a : EReal => a * at2 x6 (i 1).val (5648 + k.val))
      ((joined 6 (show 6 < 7 by decide) 16 _ rfl 5648 rfl (i 0) k (by have := k.isLt; omega)).trans
        ((at2_of _ (ix2 (i 0) k) rfl rfl).symm.trans ((val_main_v1_apply (F := Ideal) x5 _).trans (at2_of x5 _ rfl rfl))))

theorem ref_weighted (i : S8192x1024.Idx) : (val_main_v26 (F := Ideal) x0 x1 x2 x3 x4 x5 x6 x9 i : EReal)
    = back_of x0 x1 x2 x3 x4 x5 x6 (i 0).val (i 1).val * at2 x9 0 (i 1).val :=
  hm (ref_product x0 x1 x2 x3 x4 x5 x6 i) ((val_main_v25_apply (F := Ideal) x9 i).trans
    ((val_main_v17_apply (F := Ideal) x9 _).trans ((val_main_v3_apply (F := Ideal) x9 _).trans
      (at2_of x9 _ rfl (Nat.mod_eq_of_lt (i 1).isLt)))))

/-- The part of a row's cotangent that comes through its scale. -/
theorem ref_through (i : S8192x1024.Idx) : (val_main_v38 (F := Ideal) x0 x1 x2 x3 x4 x5 x6 x8 x9 i : EReal)
    = Ideal.div ((∑ k : Fin 1024, row_of x8 (i 0).val k * (back_of x0 x1 x2 x3 x4 x5 x6 (i 0).val k.val * at2 x9 0 k.val))
        * (Ideal.ofBits .f32 0xBF000000#32 * Ideal.div (scale (row_of x8 (i 0).val)) (square (row_of x8 (i 0).val))))
        (Ideal.ofBits .f32 0x44800000#32) := by
  refine (val_main_v38_apply (F := Ideal) x0 x1 x2 x3 x4 x5 x6 x8 x9 i).trans ((val_main_v37_apply x0 x1 x2 x3 x4 x5 x6 x8 x9 _).trans ((from_zero _).trans
    ((Fin.sum_univ_one _).trans ?_)))
  refine congrArg (fun a : EReal => Ideal.div a (Ideal.ofBits .f32 0x44800000#32))
    (hm ((val_main_v30_apply (F := Ideal) x0 x1 x2 x3 x4 x5 x6 x8 x9 _).trans
      ((val_main_v29_apply x0 x1 x2 x3 x4 x5 x6 x8 x9 _).trans ((from_zero _).trans (Finset.sum_congr rfl fun k _ => ?_)))) (ref_slope x8 _))
  exact hm (at2_of x8 _ (Nat.mul_one _) rfl)
    ((ref_weighted x0 x1 x2 x3 x4 x5 x6 x9 _).trans (congrArg (fun r : ℕ => back_of x0 x1 x2 x3 x4 x5 x6 r k.val * at2 x9 0 k.val) (Nat.mul_one _)))

theorem ref_rows (i : S8192x1024.Idx) : (val_main_v42 (F := Ideal) x0 x1 x2 x3 x4 x5 x6 x7 x8 x9 i : EReal)
    = rows_of x0 x1 x2 x3 x4 x5 x6 x7 x8 x9 (i 0).val (i 1) := by
  refine Eq.trans ?_ (grad_of (by norm_num) _ width (row_of x8 (i 0).val) (fun k => back_of x0 x1 x2 x3 x4 x5 x6 (i 0).val k.val * at2 x9 0 k.val) (i 1)
    (at2 x7 (i 0).val (i 1).val)).symm
  have hx : x8 i = row_of x8 (i 0).val (i 1) := at2_of x8 i rfl rfl
  refine ha (ha (ha
    (at2_of x7 i rfl rfl) (hm (ref_weighted x0 x1 x2 x3 x4 x5 x6 x9 i)
      ((val_main_v31_apply (F := Ideal) x8 i).trans (ref_scale x8 _))))
    (hm hx (ref_through x0 x1 x2 x3 x4 x5 x6 x8 x9 i)))
    (hm (ref_through x0 x1 x2 x3 x4 x5 x6 x8 x9 i) hx)

theorem ref_row (i : S1x1024.Idx) : (val_main_v43 (F := Ideal) x0 x1 x2 x3 x4 x5 x6 x8 i : EReal)
    = ∑ r : Fin 8192, term_of x0 x1 x2 x3 x4 x5 x6 x8 (i 1).val r.val := by
  refine (val_main_v43_apply (F := Ideal) x0 x1 x2 x3 x4 x5 x6 x8 i).trans ((val_main_v27_apply x0 x1 x2 x3 x4 x5 x6 x8 _).trans ((from_zero _).trans
    ((Fin.sum_univ_one _).trans ((val_main_v24_apply (F := Ideal) x0 x1 x2 x3 x4 x5 x6 x8 _).trans ((val_main_v23_apply x0 x1 x2 x3 x4 x5 x6 x8 _).trans
      ((from_zero _).trans (Finset.sum_congr rfl fun k _ => ?_)))))))
  have hc : 0 * 1024 + (i 1).val = (i 1).val := by omega
  refine Eq.trans (mul_comm (_ : EReal) _) (hm ((ref_product x0 x1 x2 x3 x4 x5 x6 _).trans
    (congrArg (back_of x0 x1 x2 x3 x4 x5 x6 k.val) hc)) (hm (at2_of x8 _ rfl hc)
      ((val_main_v15_apply (F := Ideal) x8 _).trans (ref_scale x8 _))))

end Reference

/-- The two arrays. -/
theorem result_15 : (dats m 0 d).arrAt 15 cfg0.N = val_main_v42 (F := Ideal) (ct_z m d) (ct_x m d) (ct_q m d) (ct_k m d) (ct_v m d) (ct_f m d)
    (weights m d) (past m d) (hidden m d) (norm m d) := by
  refine (dats m 0 d).arrAt_eq_of_covers 15 _ (by decide +kernel) fun t hf y => ?_
  blk_simp
  rw [after0_15]
  refine (point_15 m d t y).trans (Eq.symm ((ref_rows _ _ _ _ _ _ _ _ _ _ _).trans ?_))
  refine congrArg₂ (rows_from m d) ?_ (Fin.ext ?_)
  · exact (emb win0_15 t y 0).trans (by rw [idx_15]; rfl)
  · exact emb_zero win0_15 t 1 (by rw [idx_15]; rfl) y

theorem result_16 : (dats m 0 d).arrAt 16 cfg0.N = val_main_v43 (F := Ideal) (ct_z m d) (ct_x m d) (ct_q m d) (ct_k m d) (ct_v m d) (ct_f m d)
    (weights m d) (hidden m d) := by
  refine (dats m 0 d).arrAt_eq_of_covers 16 _ (by decide +kernel) fun t hf y => ?_
  blk_simp
  rw [after0_16]
  refine (point_16 m d t ((flush0_16 t).mp hf) y).trans (Eq.symm ((ref_row _ _ _ _ _ _ _ _ _).trans ?_))
  refine Finset.sum_congr rfl fun r _ => congrArg (fun c : ℕ => term_from m d c r.val) ?_
  exact emb_zero win0_16 t 1 (by rw [idx_16]; rfl) y

theorem algebraic : Cert.algebraic_InBwdIdeal_InBwdRefIdeal (hInBwdIdeal := Cert.InBwdIdeal.Gen.facts)
    (hInBwdRefIdeal := Cert.InBwdRefIdeal.Gen.facts) := by
  intro m g m' g' _ hargs
  refine ⟨fun d => (Gen.dats m 0 d).arrAt 15 cfg0.N, fun d => (Gen.dats m 0 d).arrAt 16 cfg0.N, Value.run_blocks m g, ?_⟩
  refine (θ_run (Cert.InBwdRefIdeal.defs (F := Ideal)) _ _).mono (fun r h d => ?_) (Cert.InBwdRefIdeal.Value.run (F := Ideal) m' g')
  obtain ⟨e0, e1, e2, e3, e4, e5, e6, e7, e8, e9⟩ := hargs d
  refine ⟨(h d).1.trans ?_, (h d).2.1.trans ?_, (h d).2.2⟩
  · rw [val_main_v42_eq, e0, e1, e2, e3, e4, e5, e6, e7, e8, e9]
    exact (result_15 m d).symm
  · rw [val_main_v43_eq, e0, e1, e2, e3, e4, e5, e6, e8]
    exact (result_16 m d).symm

/-- Every execution of the reference ends, its arguments unchanged. -/
theorem ref_frame : Cert.quiescent_InBwdRefIdeal (hInBwdRefIdeal := Cert.InBwdRefIdeal.Gen.facts) := fun m g _ =>
  (θ_run (Cert.InBwdRefIdeal.defs (F := Ideal)) _ _).mono (fun r h => ⟨fun d => (h d).2.2, sem_eq_zero_of_no_sems (by decide) r.2⟩)
    (Cert.InBwdRefIdeal.Value.run (F := Ideal) m g)

end InBwd

end
-- ==== Proof.Online.lean ====
/- The softmax taken block by block. The attention's forward pass goes through the keys in blocks of 256 and carries for
   every query a number `m`, the sum `l` of the weights `exp (score - m)` of the keys seen so far, and the sums of the
   values under those weights. A new block raises `m` to the largest score seen and rescales the sums. The statements
   here keep `m` as some real and never say which: the quotient of the sums and `m + log l` do not depend on it. -/
module

public import proofs.«01_k».proof.Proof.InBwd

@[expose] public section

set_option maxRecDepth 16384

noncomputable section

namespace AttFwd

open AttBwd
open Idealize.ShloMosaic hiding ix1 ix2 ix3 ix4 eq_ix2 eq_ix3 eq_ix4
open Idealize.ShloMosaic.ValueIdx

section Layout
variable {m n N : ℕ}

/-- Columns from `o` on. -/
theorem _root_.AttBwd.At2.cols {a : (⟨2, ![m, N]⟩ : Shape).Idx → EReal} {f : ℕ → ℕ → ℝ} (ha : At2 a f) (o : ℕ)
    (h : (⟨2, ![m, N]⟩ : Shape).Slices ![0, o] ⟨2, ![m, n]⟩) :
    At2 (extractStridedSlice ⟨2, ![m, n]⟩ ![0, o] a h) fun r c => f r (o + c) := fun x => by
  have hb : o + (x 1).val < N := lt_of_lt_of_le (Nat.add_lt_add_left (x 1).isLt o) (h.2 1)
  rw [extractStridedSlice_apply ![0, o] a h x (ix2 (x 0) ⟨o + (x 1).val, hb⟩) (fun b => match b with
    | ⟨0, _⟩ => (Nat.zero_add _).symm
    | ⟨1, _⟩ => rfl), ha]
  rfl

/-- The first columns of a block of words. -/
theorem _root_.AttBwd.Int2.cols {a : IVec ⟨2, ![m, N]⟩ 32} {f : ℕ → ℕ → ℤ} (ha : Int2 a f)
    (h : (⟨2, ![m, N]⟩ : Shape).Slices ![0, 0] ⟨2, ![m, n]⟩) :
    Int2 (extractStridedSlice ⟨2, ![m, n]⟩ ![0, 0] a h) f := fun x => by
  have hb : (x 1).val < N := lt_of_lt_of_le (lt_of_lt_of_eq (x 1).isLt (Nat.zero_add n).symm) (h.2 1)
  rw [extractStridedSlice_apply ![0, 0] a h x (ix2 (x 0) ⟨(x 1).val, hb⟩) (fun b => match b with
    | ⟨0, _⟩ => (Nat.zero_add _).symm
    | ⟨1, _⟩ => (Nat.zero_add _).symm), ha]
  rfl

/-- Two blocks of columns, one beside the other. -/
theorem _root_.AttBwd.At2.beside {n₁ n₂ : ℕ} {a : (⟨2, ![m, n₁]⟩ : Shape).Idx → EReal} {b : (⟨2, ![m, n₂]⟩ : Shape).Idx → EReal}
    {f g : ℕ → ℕ → ℝ} (ha : At2 a f) (hb : At2 b g) (hn : n = n₁ + n₂)
    (h : Shape.Concatenates [(⟨2, ![m, n₁]⟩ : Shape), ⟨2, ![m, n₂]⟩] ⟨2, ![m, n]⟩ 1) :
    At2 (concatenate (⟨2, ![m, n]⟩ : Shape) 1 [⟨⟨2, ![m, n₁]⟩, a⟩, ⟨⟨2, ![m, n₂]⟩, b⟩] h)
      fun r c => if c < n₁ then f r c else g r (c - n₁) := fun x => by
  have hx : (x 1).val < n := (x 1).isLt
  by_cases hr : (x 1).val < n₁
  · rw [concatenate_pair_apply_left 1 a b h x rfl (ix2 (x 0) ⟨(x 1).val, hr⟩) (fun b => match b with
      | ⟨0, _⟩ => rfl
      | ⟨1, _⟩ => rfl), ha]
    exact congrArg _ (if_pos hr).symm
  · rw [concatenate_pair_apply_right 1 a b h x rfl rfl (ix2 (x 0) ⟨(x 1).val - n₁, by omega⟩) (fun b => match b with
      | ⟨0, _⟩ => fun _ => rfl
      | ⟨1, _⟩ => fun hne => absurd rfl hne) (by show (x 1).val - n₁ + n₁ = (x 1).val; omega), hb]
    exact congrArg _ (if_neg hr).symm

theorem _root_.AttBwd.At2.max {a b : FVec Ideal ⟨2, ![m, n]⟩ .f32} {f g : ℕ → ℕ → ℝ} (ha : At2 a f) (hb : At2 b g) :
    At2 (maximumf a b) fun r c => Max.max (f r c) (g r c) := fun x => by
  show Max.max (a x) (b x) = _
  rw [ha x, hb x]
  exact (EReal.coe_strictMono.monotone.map_max (a := f (x 0).val (x 1).val) (b := g (x 0).val (x 1).val)).symm

/-- The column less the row, the other way round. -/
theorem int2_anti (hm : m ≤ 2 ^ 30) (hn : n ≤ 2 ^ 30) (h0 : (⟨2, ![m, n]⟩ : Shape).Iotas Kind.tc 32 [0])
    (h1 : (⟨2, ![m, n]⟩ : Shape).Iotas Kind.tc 32 [1]) :
    Int2 (subi (iota Kind.tc (⟨2, ![m, n]⟩ : Shape) 32 [0] h0) (iota Kind.tc (⟨2, ![m, n]⟩ : Shape) 32 [1] h1))
      fun r c => (r : ℤ) - (c : ℤ) := fun x => by
  show ((iota Kind.tc (⟨2, ![m, n]⟩ : Shape) 32 [0] h0 x) - (iota Kind.tc (⟨2, ![m, n]⟩ : Shape) 32 [1] h1 x)).toInt = _
  rw [BitVec.toInt_sub, int2_iota0 (by omega) h0 x, int2_iota1 (by omega) h1 x]
  have hr : (x 0).val < 2 ^ 30 := lt_of_lt_of_le (x 0).isLt hm
  have hc : (x 1).val < 2 ^ 30 := lt_of_lt_of_le (x 1).isLt hn
  show Int.bmod (((x 0).val : ℤ) - ((x 1).val : ℤ)) (2 ^ 32) = ((x 0).val : ℤ) - ((x 1).val : ℤ)
  exact Int.bmod_eq_of_le (by omega) (by omega)

/-- The largest number of each column of a block that the mask leaves alone in its first row: a real. -/
theorem _root_.AttBwd.At2.colMax {c : IVec ⟨2, ![m, n]⟩ 1} {p : ℕ → ℕ → Bool} {k : EReal} {a : FVec Ideal ⟨2, ![m, n]⟩ .f32} {f : ℕ → ℕ → ℝ}
    (hc : Mask c p) (hk : k = ⊥) (ha : At2 a f) (hm : 0 < m) (hp : ∀ t, p 0 t = true)
    (h : (⟨2, ![m, n]⟩ : Shape).Reduces [0] ⟨1, ![n]⟩) (hφ : FKind.Formats .f32)
    (hacc : (0xFF800000#32 : BitVec 32) = FKind.maximumf.neutral .f32 hφ) (h' : (⟨1, ![n]⟩ : Shape).ShapeCasts ⟨2, ![1, n]⟩) :
    ∃ B : ℕ → ℝ, At2 (shapeCast ⟨2, ![1, n]⟩ (multiReduction .maximumf [0] ⟨1, ![n]⟩
      (select c a (broadcast (⟨2, ![m, n]⟩ : Shape) k)) 0xFF800000#32 h hφ hacc) h') fun _ t => B t := by
  have key : ∀ j : Fin n, ∃ r : ℝ, multiReduction .maximumf [0] ⟨1, ![n]⟩
      (select c a (broadcast (⟨2, ![m, n]⟩ : Shape) k)) 0xFF800000#32 h hφ hacc (ix1 j) = (r : EReal) := by
    intro j
    have hv : ∀ i : Fin m, select c a (broadcast (⟨2, ![m, n]⟩ : Shape) k) (h.lift (ix1 j) i)
        = if p i.val j.val then ((f i.val j.val : ℝ) : EReal) else ⊥ := fun i => by
      show Scalar.select (c _) (a _) k = _
      rw [hc, ha, hk]
      show Scalar.select (BitVec.ofBool (p i.val j.val)) ((f i.val j.val : ℝ) : EReal) ⊥ = _
      cases p i.val j.val <;> rfl
    refine ⟨_, (coe_toReal_of ?_ ?_).symm⟩
    · rw [Ideal.multiReduction_maximumf_single, Finset.fold_max_lt]
      refine ⟨?_, fun s _ => ?_⟩
      · rw [show (FloatOps.ofBits (F := Ideal) .f32 0xFF800000#32 : EReal) = ⊥ from neg_inf_f32]; exact bot_lt_top
      · refine lt_of_eq_of_lt (hv s) ?_
        split
        · exact EReal.coe_lt_top _
        · exact bot_lt_top
    · rw [Ideal.multiReduction_maximumf_single, Finset.lt_fold_max]
      refine Or.inr ⟨⟨0, hm⟩, Finset.mem_univ _, ?_⟩
      refine lt_of_lt_of_eq ?_ (hv ⟨0, hm⟩).symm
      rw [if_pos (hp _)]; exact EReal.bot_lt_coe _
  choose B hB using key
  refine ⟨fun t => if ht : t < n then B ⟨t, ht⟩ else 0, ?_⟩
  refine At1.row (fun x => ?_) h'
  obtain ⟨j, rfl⟩ : ∃ j : Fin n, x = ix1 j := ⟨x 0, funext fun b => match b with | ⟨0, _⟩ => rfl⟩
  refine (hB j).trans ?_
  show _ = (((if ht : j.val < n then B ⟨j.val, ht⟩ else 0 : ℝ)) : EReal)
  rw [dif_pos j.isLt]

end Layout

/-! ### The carried sums -/

/-- The weight of key `s` for query `t`, causal. -/
def wt (S : ℕ → ℕ → ℝ) (M : ℕ → ℝ) (s t : ℕ) : ℝ := if s ≤ t then Real.exp (S s t - M t) else 0

/-- The three carried blocks after the first `K` keys, for the `n` queries from `o` on. -/
def Soft (S V : ℕ → ℕ → ℝ) (n o K : ℕ) (m l : FVec Ideal ⟨2, ![1, n]⟩ .f32) (acc : FVec Ideal ⟨2, ![64, n]⟩ .f32) : Prop :=
  ∃ M : ℕ → ℝ, At2 m (fun _ t => M (o + t)) ∧ At2 l (fun _ t => ∑ s ∈ Finset.range K, wt S M s (o + t))
    ∧ At2 acc fun d t => ∑ s ∈ Finset.range K, V s d * wt S M s (o + t)

section Words
variable {n : ℕ}

/-- The scores of a block of keys with the keys after the query masked. -/
def masked (dq : IVec ⟨2, ![256, n]⟩ 32) (st : FVec Ideal ⟨2, ![256, n]⟩ .f32) (k : EReal) : FVec Ideal ⟨2, ![256, n]⟩ .f32 :=
  select (cmpi .sle dq (broadcast (⟨2, ![256, n]⟩ : Shape) 0#32)) st (broadcast (⟨2, ![256, n]⟩ : Shape) k)

/-- The number carried after a block of scores. -/
def newTop (m : FVec Ideal ⟨2, ![1, n]⟩ .f32) (x : FVec Ideal ⟨2, ![256, n]⟩ .f32)
    (h : (⟨2, ![256, n]⟩ : Shape).Reduces [0] ⟨1, ![n]⟩) (hφ : FKind.Formats .f32)
    (hacc : (0xFF800000#32 : BitVec 32) = FKind.maximumf.neutral .f32 hφ) (h' : (⟨1, ![n]⟩ : Shape).ShapeCasts ⟨2, ![1, n]⟩) :
    FVec Ideal ⟨2, ![1, n]⟩ .f32 :=
  maximumf m (shapeCast ⟨2, ![1, n]⟩ (multiReduction .maximumf [0] ⟨1, ![n]⟩ x 0xFF800000#32 h hφ hacc) h')

/-- The weights of a block of scores. -/
def weights (x : FVec Ideal ⟨2, ![256, n]⟩ .f32) (m' : FVec Ideal ⟨2, ![1, n]⟩ .f32)
    (h : (⟨2, ![1, n]⟩ : Shape).Broadcasts ⟨2, ![256, n]⟩) : FVec Ideal ⟨2, ![256, n]⟩ .f32 :=
  exp (subf x (broadcastTo ⟨2, ![256, n]⟩ m' h))

/-- The sum of the weights after a block. -/
def newSum (m m' l : FVec Ideal ⟨2, ![1, n]⟩ .f32) (w : FVec Ideal ⟨2, ![256, n]⟩ .f32)
    (h : (⟨2, ![256, n]⟩ : Shape).Reduces [0] ⟨1, ![n]⟩) (hφ : FKind.Formats .f32)
    (hacc : (0#32 : BitVec 32) = FKind.add.neutral .f32 hφ) (h' : (⟨1, ![n]⟩ : Shape).ShapeCasts ⟨2, ![1, n]⟩) :
    FVec Ideal ⟨2, ![1, n]⟩ .f32 :=
  addf (mulf (exp (subf m m')) l) (shapeCast ⟨2, ![1, n]⟩ (multiReduction .add [0] ⟨1, ![n]⟩ w 0#32 h hφ hacc) h')

/-- The weighted sums of the values after a block. -/
def newAcc (m m' : FVec Ideal ⟨2, ![1, n]⟩ .f32) (a : FVec Ideal ⟨2, ![64, n]⟩ .f32) (v : FVec Ideal ⟨2, ![64, 256]⟩ .bf16)
    (w : FVec Ideal ⟨2, ![256, n]⟩ .f32) (h : (⟨2, ![1, n]⟩ : Shape).Broadcasts ⟨2, ![64, n]⟩) (ht : FTy.bf16.bits < FTy.f32.bits) :
    FVec Ideal ⟨2, ![64, n]⟩ .f32 :=
  addf (mulf (broadcastTo ⟨2, ![64, n]⟩ (exp (subf m m')) h) a)
    (FloatOps.matmul (F := Ideal) (φ₁ := .bf16) (φ₂ := .bf16) (DotDims.plain 64 256 n) none v (truncf (F := Ideal) .bf16 w ht)
      (constant ⟨2, ![64, n]⟩ .f32 0#32))

/-- Three blocks carried from three others by one block of keys. -/
def Next (dq : IVec ⟨2, ![256, n]⟩ 32) (st : FVec Ideal ⟨2, ![256, n]⟩ .f32) (k : EReal) (v : FVec Ideal ⟨2, ![64, 256]⟩ .bf16)
    (m l : FVec Ideal ⟨2, ![1, n]⟩ .f32) (a : FVec Ideal ⟨2, ![64, n]⟩ .f32)
    (m' l' : FVec Ideal ⟨2, ![1, n]⟩ .f32) (a' : FVec Ideal ⟨2, ![64, n]⟩ .f32) : Prop :=
  ∃ h hφ hacc h' hb hφ' hacc' hb' ht, m' = newTop m (masked dq st k) h hφ hacc h'
    ∧ l' = newSum m m' l (weights (masked dq st k) m' hb) h hφ' hacc' h'
    ∧ a' = newAcc m m' a v (weights (masked dq st k) m' hb) hb' ht

end Words

section Steps
variable {n o : ℕ} {S V : ℕ → ℕ → ℝ} {k : EReal} {dq : IVec ⟨2, ![256, n]⟩ 32} {st : FVec Ideal ⟨2, ![256, n]⟩ .f32}
  {v : FVec Ideal ⟨2, ![64, 256]⟩ .bf16} {m l m' l' : FVec Ideal ⟨2, ![1, n]⟩ .f32} {a a' : FVec Ideal ⟨2, ![64, n]⟩ .f32}

/-- One more block of keys: the old sum rescaled, and the new block's. -/
theorem sum_after {F G : ℕ → ℝ} {H : Fin 256 → ℝ} {lo : ℕ} {e : ℝ} (hF : ∀ s, s < lo → e * G s = F s) (hH : ∀ s : Fin 256, H s = F (lo + s.val)) :
    e * ∑ s ∈ Finset.range lo, G s + ∑ s : Fin 256, H s = ∑ s ∈ Finset.range (lo + 256), F s := by
  rw [Finset.sum_range_add, Finset.mul_sum, Finset.sum_congr rfl fun s hs => hF s (Finset.mem_range.mp hs),
    ← Fin.sum_univ_eq_sum_range (fun s => F (lo + s)) 256, Finset.sum_congr rfl fun s _ => hH s]

/-- One block of keys, from carried blocks whose scale is known. -/
theorem Next.soft (hN : Next dq st k v m l a m' l' a') (hn : n ≠ 1) (hk : k = ⊥) (hd : Int2 dq fun r c => (r : ℤ) - (c : ℤ))
    (hs : At2 st fun s t => S (o + s) (o + t)) (hv : At2 v fun d s => V (o + s) d) {E : (ℕ → ℝ) → ℕ → ℝ} {L : ℕ → ℕ → ℝ}
    (hm : ∀ B : FVec Ideal ⟨2, ![1, n]⟩ .f32, ∀ b : ℕ → ℝ, At2 B (fun _ t => b t) → ∃ M : ℕ → ℝ, At2 (maximumf m B) (fun _ t => M (o + t)) ∧
      At2 (exp (subf m (maximumf m B))) (fun _ t => E M t) ∧ ∀ s t, s < o → (E M t * L s t = wt S M s (o + t)))
    (hl : At2 l fun _ t => ∑ s ∈ Finset.range o, L s t) (ha : At2 a fun d t => ∑ s ∈ Finset.range o, V s d * L s t) :
    Soft S V n o (o + 256) m' l' a' := by
  obtain ⟨h, hφ, hacc, h', hb, hφ', hacc', hb', ht, rfl, rfl, rfl⟩ := hN
  have hc := Mask.sle hd (int2_splat (k := 0#32) (z := 0) rfl)
  obtain ⟨B, hB⟩ := At2.colMax hc hk hs (by norm_num) (fun t => by simp) h hφ hacc h'
  obtain ⟨M, hM, hE, hL⟩ := hm _ B hB
  have hw : At2 (weights (masked dq st k) (newTop m (masked dq st k) h hφ hacc h') hb) fun s t => wt S M (o + s) (o + t) :=
    (At2.masked_exp hc hk hs (hM.rows hn hb)).congr fun s t _ _ => by
      unfold wt
      simp only [decide_eq_true_eq]
      exact if_congr (by omega) rfl rfl
  refine ⟨M, hM, ((hE.mul hl).add ((hw.sumRows h hφ' hacc').row h')).congr fun _ t _ _ => ?_,
    (((hE.rows hn hb').mul ha).add (hv.nn (hw.trunc ht))).congr fun d t _ _ => ?_⟩
  · exact sum_after (fun s hs => hL s t hs) fun _ => rfl
  · exact sum_after (fun s hs => by rw [← hL s t hs]; ring) fun _ => rfl

/-- The first block of keys, where nothing is carried yet. -/
theorem Soft.first (hN : Next dq st k v m l a m' l' a') (hn : n ≠ 1) (hk : k = ⊥) (hd : Int2 dq fun r c => (r : ℤ) - (c : ℤ))
    (hs : At2 st S) (hv : At2 v fun d s => V s d) (hm : ∀ x, m x = (⊥ : EReal)) (hl : At2 l fun _ _ => 0) (ha : At2 a fun _ _ => 0) :
    Soft S V n 0 256 m' l' a' :=
  hN.soft (o := 0) (E := fun _ _ => 0) (L := fun _ _ => 0) hn hk hd (by simpa only [Nat.zero_add] using hs) (by simpa only [Nat.zero_add] using hv)
    (fun B b hb => ⟨b, fun x => by
      show Max.max (m x) (B x) = _
      rw [hm x, hb x]; exact (max_eq_right bot_le).trans (by simp only [Nat.zero_add]), fun x => by
      show Ideal.exp (m x - _) = ((0 : ℝ) : EReal)
      rw [hm x, EReal.bot_sub, Ideal.exp_bot]; rfl, fun s _ hs => absurd hs (Nat.not_lt_zero s)⟩)
    (by simpa using hl) (by simpa using ha)

/-- A later block of keys. -/
theorem Soft.next (hS : Soft S V n o o m l a) (hN : Next dq st k v m l a m' l' a') (hn : n ≠ 1) (hk : k = ⊥)
    (hd : Int2 dq fun r c => (r : ℤ) - (c : ℤ)) (hs : At2 st fun s t => S (o + s) (o + t)) (hv : At2 v fun d s => V (o + s) d) :
    Soft S V n o (o + 256) m' l' a' := by
  obtain ⟨M, hM, hl, ha⟩ := hS
  refine hN.soft (E := fun M' t => Real.exp (M (o + t) - M' (o + t))) (L := fun s t => wt S M s (o + t)) hn hk hd hs hv (fun B b hb => ?_) hl ha
  have hx := hM.max hb
  have e : ∀ t, Max.max (M (o + t)) (b t) = (fun t => Max.max (M t) (b (t - o))) (o + t) := fun t => by
    show _ = Max.max (M (o + t)) (b (o + t - o))
    rw [Nat.add_sub_cancel_left]
  refine ⟨fun t => Max.max (M t) (b (t - o)), hx.congr fun _ t _ _ => e t, ((hM.sub hx).exp).congr fun _ t _ _ => by rw [e t], fun s t _ => ?_⟩
  unfold wt
  split_ifs
  · rw [← Real.exp_add]; congr 1; ring
  · exact mul_zero _

end Steps

section Cuts
variable {o n : ℕ} {S V : ℕ → ℕ → ℝ} {m l : FVec Ideal ⟨2, ![1, 2048]⟩ .f32} {a : FVec Ideal ⟨2, ![64, 2048]⟩ .f32}

/-- The queries from `o` on. -/
theorem Soft.cut {K : ℕ} (hS : Soft S V 2048 0 K m l a) (o : ℕ) {h : (⟨2, ![1, 2048]⟩ : Shape).Slices ![0, o] ⟨2, ![1, n]⟩}
    {h' : (⟨2, ![64, 2048]⟩ : Shape).Slices ![0, o] ⟨2, ![64, n]⟩} :
    Soft S V n o K (extractStridedSlice ⟨2, ![1, n]⟩ ![0, o] m h) (extractStridedSlice ⟨2, ![1, n]⟩ ![0, o] l h)
      (extractStridedSlice ⟨2, ![64, n]⟩ ![0, o] a h') := by
  obtain ⟨M, hm, hl, ha⟩ := hS
  exact ⟨M, (hm.cols o h).congr fun _ t _ _ => by rw [Nat.zero_add], (hl.cols o h).congr fun _ t _ _ => by rw [Nat.zero_add],
    (ha.cols o h').congr fun _ t _ _ => by rw [Nat.zero_add]⟩

/-- Keys after the query weigh nothing, so the queries before the block keep what they carried. -/
theorem Soft.join (hS : Soft S V 2048 0 o m l a) {m' l' : FVec Ideal ⟨2, ![1, n]⟩ .f32} {a' : FVec Ideal ⟨2, ![64, n]⟩ .f32}
    (hS' : Soft S V n o (o + 256) m' l' a') (hn : 2048 = o + n) {h : (⟨2, ![1, 2048]⟩ : Shape).Slices ![0, 0] ⟨2, ![1, o]⟩}
    {h' : (⟨2, ![64, 2048]⟩ : Shape).Slices ![0, 0] ⟨2, ![64, o]⟩}
    {hc : Shape.Concatenates [(⟨2, ![1, o]⟩ : Shape), ⟨2, ![1, n]⟩] ⟨2, ![1, 2048]⟩ 1}
    {hc' : Shape.Concatenates [(⟨2, ![64, o]⟩ : Shape), ⟨2, ![64, n]⟩] ⟨2, ![64, 2048]⟩ 1} :
    Soft S V 2048 0 (o + 256)
      (concatenate (⟨2, ![1, 2048]⟩ : Shape) 1 [⟨⟨2, ![1, o]⟩, extractStridedSlice ⟨2, ![1, o]⟩ ![0, 0] m h⟩, ⟨⟨2, ![1, n]⟩, m'⟩] hc)
      (concatenate (⟨2, ![1, 2048]⟩ : Shape) 1 [⟨⟨2, ![1, o]⟩, extractStridedSlice ⟨2, ![1, o]⟩ ![0, 0] l h⟩, ⟨⟨2, ![1, n]⟩, l'⟩] hc)
      (concatenate (⟨2, ![64, 2048]⟩ : Shape) 1 [⟨⟨2, ![64, o]⟩, extractStridedSlice ⟨2, ![64, o]⟩ ![0, 0] a h'⟩, ⟨⟨2, ![64, n]⟩, a'⟩] hc') := by
  obtain ⟨M, hm, hl, ha⟩ := hS
  obtain ⟨M', hm', hl', ha'⟩ := hS'
  have hw : ∀ s t, t < o → wt S (fun t => if t < o then M t else M' t) s t = wt S M s t := fun s t ht => by
    simp only [wt, if_pos ht]
  have hw' : ∀ s t, ¬ t < o → wt S (fun t => if t < o then M t else M' t) s t = wt S M' s t := fun s t ht => by
    simp only [wt, if_neg ht]
  have hz : ∀ s t, t < o → wt S M (o + s) t = 0 := fun s t ht => if_neg (by omega)
  refine ⟨fun t => if t < o then M t else M' t, ((hm.cols 0 h).beside hm' hn hc).congr fun _ t _ _ => ?_,
    ((hl.cols 0 h).beside hl' hn hc).congr fun _ t _ _ => ?_, ((ha.cols 0 h').beside ha' hn hc').congr fun d t _ _ => ?_⟩ <;>
  simp only [Nat.zero_add] <;> split_ifs with ht
  · rfl
  · rw [show o + (t - o) = t by omega]
  · rw [Finset.sum_range_add]
    simp only [hw _ t ht, hz _ t ht, Finset.sum_const_zero, add_zero]
  · simp only [hw' _ t ht, show o + (t - o) = t by omega]
  · rw [Finset.sum_range_add]
    simp only [hw _ t ht, hz _ t ht, mul_zero, Finset.sum_const_zero, add_zero]
  · simp only [hw' _ t ht, show o + (t - o) = t by omega]

end Cuts

end AttFwd
-- ==== Proof.FwdLanes.lean ====
/- The attention's forward pass: the buffers its body fills at one grid point. They are laid out as the backward pass's:
   the keys' and the queries' lanes of each head of the pair, with the decay in the other head's lanes, and the values turned. -/
module

public import proofs.«01_k».proof.Proof.Online
public import proofs.«01_k».proof.Proof.Gen.AttFwdIdeal.Value
public import proofs.«01_k».proof.Proof.Gen.AttFwdRefIdeal.Read

@[expose] public section

set_option maxRecDepth 16384

noncomputable section

namespace AttFwd

open AttBwd Cert.AttFwdIdeal Cert.AttFwdIdeal.Gen
open Idealize.ShloMosaic hiding ix1 ix2 ix3 ix4 eq_ix2 eq_ix3 eq_ix4
open Idealize.ShloMosaic.ValueIdx

variable {q k v ax : ℕ → ℕ → ℝ}

section
variable (c : Dev nD)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .bf16) (harg5 : arg5.IsWhole)
  (arg8 : Memref sig .tc .vmem S2x2048x128 .bf16)
  (arg9 : Memref sig .tc .vmem S2x2048x128 .bf16)
  (arg10 : Memref sig .tc .vmem S128x2048 .bf16)
  (x0 : Vec Ideal S2048x128 .bf16)
  (x1 : Vec Ideal S2048x128 .bf16)
  (x2 : Vec Ideal S2048x128 .bf16)
  (x3 : Vec Ideal S2048x128 .bf16)

/-- The keys' lanes of head 0. -/
theorem ka_0 (hk : At2 (m := 2048) (n := 128) x1 k) (hx : At2 (m := 2048) (n := 128) x3 ax) :
    At2 (m := 2048) (n := 128) (kernelRun0_A.sl.r c arg3 harg3 arg5 harg5 x1 x3) (KA k ax 0) :=
  (At2.select (φ := .bf16) ((Mask.cast (Mask.slt (int2_iota1 (by norm_num) _) (int2_splat (k := 64#32) (z := 64) rfl)) _).rows (by norm_num) _) ((At2.inputb hk 0 0 2048 128 _).zeroShift.cast _) (At2.select (φ := .bf16) ((Mask.cast ((Mask.sge (int2_iota1 (by norm_num) _) (int2_splat (k := 64#32) (z := 64) rfl)).and (Mask.sle (int2_iota1 (by norm_num) _) (int2_splat (k := 67#32) (z := 67) rfl))) _).rows (by norm_num) _) ((At2.inputb hx 0 0 2048 128 _).zeroShift.cast _)
    (((at2_splat zero_bf16).cast _).rows (by norm_num) _))).congr fun r l hr hl => by
    simp only [Bool.and_eq_true, decide_eq_true_eq]
    unfold KA
    split_ifs <;> first | rfl | omega

/-- The keys' lanes of head 1. -/
theorem ka_1 (hk : At2 (m := 2048) (n := 128) x1 k) (hx : At2 (m := 2048) (n := 128) x3 ax) :
    At2 (m := 2048) (n := 128) (kernelRun0_A.sl.r_2 c arg3 harg3 arg5 harg5 x1 x3) (KA k ax 1) :=
  (At2.select (φ := .bf16) ((Mask.cast (Mask.sge (int2_iota1 (by norm_num) _) (int2_splat (k := 64#32) (z := 64) rfl)) _).rows (by norm_num) _) ((At2.inputb hk 0 0 2048 128 _).zeroShift.cast _) (At2.select (φ := .bf16) ((Mask.cast ((Mask.sge (int2_iota1 (by norm_num) _) (int2_splat (k := 0#32) (z := 0) rfl)).and (Mask.sle (int2_iota1 (by norm_num) _) (int2_splat (k := 3#32) (z := 3) rfl))) _).rows (by norm_num) _) ((At2.inputb hx 0 0 2048 128 _).zeroShift.cast _)
    (((at2_splat zero_bf16).cast _).rows (by norm_num) _))).congr fun r l hr hl => by
    simp only [Bool.and_eq_true, decide_eq_true_eq]
    unfold KA
    split_ifs <;> first | rfl | omega

/-- The queries' lanes of head 0. -/
theorem qa_0 (hq : At2 (m := 2048) (n := 128) x0 q) :
    At2 (m := 2048) (n := 128) (select (k0_pay38) (kernelRun0_A.sl.r_1 c arg2 harg2 x0) (k0_pay39 (F := Ideal))) (QA q 0) :=
  (At2.select (φ := .bf16) ((Mask.cast (Mask.slt (int2_iota1 (by norm_num) _) (int2_splat (k := 64#32) (z := 64) rfl)) _).rows (by norm_num) broadcasts_S1x128_S2048x128) (((At2.inputb hq 0 0 2048 128 _).zeroShift.cast _).mul (at2_splat eighth_bf16))
    (((At2.select (φ := .bf16) ((Mask.sge (int2_iota1 (by norm_num) _) (int2_splat (k := 64#32) (z := 64) rfl)).and (Mask.slt (int2_iota1 (by norm_num) _) (int2_splat (k := 67#32) (z := 67) rfl))) (at2_splat one_bf16) (at2_splat zero_bf16)).cast _).rows (by norm_num) broadcasts_S1x128_S2048x128)).congr fun r l hr hl => by
    simp only [Bool.and_eq_true, decide_eq_true_eq]
    unfold QA
    split_ifs <;> first | rfl | omega

/-- The queries' lanes of head 1. -/
theorem qa_1 (hq : At2 (m := 2048) (n := 128) x0 q) :
    At2 (m := 2048) (n := 128) (select (broadcastTo S2048x128 (shapeCast S1x128 k0_pay42 shapeCasts_S1x128_S1x128) broadcasts_S1x128_S2048x128)
      (kernelRun0_A.sl.r_3 c arg2 harg2 x0)
      (broadcastTo S2048x128 (shapeCast S1x128 (select k0_pay46 (k0_pay47 (F := Ideal)) (k0_pay43 (F := Ideal))) shapeCasts_S1x128_S1x128) broadcasts_S1x128_S2048x128)) (QA q 1) :=
  (At2.select (φ := .bf16) ((Mask.cast (Mask.sge (int2_iota1 (by norm_num) _) (int2_splat (k := 64#32) (z := 64) rfl)) _).rows (by norm_num) broadcasts_S1x128_S2048x128) (((At2.inputb hq 0 0 2048 128 _).zeroShift.cast _).mul (at2_splat eighth_bf16))
    (((At2.select (φ := .bf16) ((Mask.sge (int2_iota1 (by norm_num) _) (int2_splat (k := 0#32) (z := 0) rfl)).and (Mask.slt (int2_iota1 (by norm_num) _) (int2_splat (k := 3#32) (z := 3) rfl))) (at2_splat one_bf16) (at2_splat zero_bf16)).cast _).rows (by norm_num) broadcasts_S1x128_S2048x128)).congr fun r l hr hl => by
    simp only [Bool.and_eq_true, decide_eq_true_eq]
    unfold QA
    split_ifs <;> first | rfl | omega

/-- The keys' buffer. -/
theorem ka_buf (hk : At2 (m := 2048) (n := 128) x1 k) (hx : At2 (m := 2048) (n := 128) x3 ax) :
    At3 (l := 2) (m := 2048) (n := 128) (View.canon (kernelRun0_A.sl.HS1_2 c arg3 harg3 arg5 harg5 x1 x3)) (KA k ax) :=
  On3.full (On3.slabb (ka_1 c arg3 harg3 arg5 harg5 x1 x3 hk hx)
    (fun r l _ _ => by simp only [Nat.zero_add]) (On3.slabb (ka_0 c arg3 harg3 arg5 harg5 x1 x3 hk hx)
    (fun r l _ _ => by simp only [Nat.zero_add]) (On3.nil fun h r l _ _ _ => by omega)))

/-- The queries' buffer. -/
theorem qa_buf (hq : At2 (m := 2048) (n := 128) x0 q) :
    At3 (l := 2) (m := 2048) (n := 128) (View.canon (kernelRun0_A.sl.HS0_2 c arg2 harg2 x0)) (QA q) :=
  On3.full (On3.slabb (qa_1 c arg2 harg2 x0 hq)
    (fun r l _ _ => by simp only [Nat.zero_add]) (On3.slabb (qa_0 c arg2 harg2 x0 hq)
    (fun r l _ _ => by simp only [Nat.zero_add]) (On3.nil fun h r l _ _ _ => by omega)))

/-- The values' buffer, turned. -/
theorem vt_buf (hv : At2 (m := 2048) (n := 128) x2 v) :
    At2 (m := 128) (n := 2048) (View.canon (kernelRun0_A.sl.HS2_1 c arg4 harg4 x2)) fun l s => v s l :=
  On2.full (On2.cons (((At2.transpose ((At2.inputb hv 0 0 2048 128 _).zeroShift.cast _) _)).cast _)
    (fun r l _ _ => by simp only [Nat.zero_add]) (On2.nil fun r l _ _ _ => by omega))

end

end AttFwd
-- ==== Proof.FwdBody.lean ====
/- The attention's forward pass at one grid point: the eight blocks of keys of each of the pair's two heads, one after
   another, and the two blocks written. -/
module

public import proofs.«01_k».proof.Proof.FwdLanes

@[expose] public section

set_option maxRecDepth 16384

noncomputable section

namespace AttFwd

open AttBwd Cert.AttFwdIdeal Cert.AttFwdIdeal.Gen
open Idealize.ShloMosaic hiding ix1 ix2 ix3 ix4 eq_ix2 eq_ix3 eq_ix4
open Idealize.ShloMosaic.ValueIdx

variable {q k v ax : ℕ → ℕ → ℝ}

/-- A score over all the lanes of a head: key `s`, query `t`. -/
def sc (k ax q : ℕ → ℕ → ℝ) (h s t : ℕ) : ℝ := ∑ l : Fin 128, KA k ax h s l.val * QA q h t l.val

section
variable {sig : RefSig} {κ κ' : Kind} {sp sp' : Space}

/-- The scores of the keys of a block and the queries from there on. -/
theorem score_block {w : View sig κ sp (⟨3, ![2, 2048, 128]⟩ : Shape) .bf16} {w' : View sig κ' sp' (⟨3, ![2, 2048, 128]⟩ : Shape) .bf16}
    {L L' : List (View.Piece (Elt Ideal) (⟨3, ![2, 2048, 128]⟩ : Shape) .bf16)}
    (hf : At3 (l := 2) (m := 2048) (n := 128) (View.canon L) (KA k ax)) (hg : At3 (l := 2) (m := 2048) (n := 128) (View.canon L') (QA q))
    (h o n : ℕ) {off : Fin 3 → ℕ} (e : off = ![h, o, 0]) {inb inb' hc hc'} :
    At2 (m := 256) (n := n) (FloatOps.matmul (F := Ideal) (φ₁ := .bf16) (φ₂ := .bf16) (DotDims.transposedRhs 256 128 n) none
      (shapeCast ⟨2, ![256, 128]⟩ (w.readCov L (Rect.unit (s := ⟨3, ![2, 2048, 128]⟩) ![h, o, 0] ![1, 256, 128] inb).toLoadRect) hc)
      (shapeCast ⟨2, ![n, 128]⟩ (w'.readCov L' (Rect.unit (s := ⟨3, ![2, 2048, 128]⟩) off ![1, n, 128] inb').toLoadRect) hc')
      (constant ⟨2, ![256, n]⟩ .f32 0#32))
      fun s t => sc k ax q h (o + s) (o + t) := by
  subst e
  exact (At2.nt ((hf.backb h o 0 1 256 128 inb).drop hc) ((hg.backb h o 0 1 n 128 inb').drop hc')).congr
    fun r c _ _ => by simp only [Nat.add_zero, Nat.zero_add]; rfl

end

/-- The number the comments on the masked scores call the mask is −∞. -/
theorem mask_bot : (Named.named κ "mask" 0xF149F2CA#32 : Ideal .f32) = (⊥ : EReal) :=
  IdealRules.named_const.ideal_named_scalar _ _ _ _ rfl

/-- Key less query. -/
theorem words : Int2 (m := 256) (n := 2048) k0_pay51 fun r c => (r : ℤ) - (c : ℤ) := int2_anti (by norm_num) (by norm_num) _ _

section
variable (c : Dev nD) (i : grid0.Coords)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .bf16) (harg5 : arg5.IsWhole)
  (arg6 : Memref sig .tc .vmem S2048x128 .f32) (harg6 : arg6.IsWhole)
  (arg7 : Memref sig .tc .vmem S1x1x8x2048 .f32) (harg7 : arg7.IsWhole)
  (arg8 : Memref sig .tc .vmem S2x2048x128 .bf16) (harg8 : arg8.IsWhole)
  (arg9 : Memref sig .tc .vmem S2x2048x128 .bf16) (harg9 : arg9.IsWhole)
  (arg10 : Memref sig .tc .vmem S128x2048 .bf16) (harg10 : arg10.IsWhole)
  (x0 : Vec Ideal S2048x128 .bf16)
  (x1 : Vec Ideal S2048x128 .bf16)
  (x2 : Vec Ideal S2048x128 .bf16)
  (x3 : Vec Ideal S2048x128 .bf16)
  (hq : At2 (m := 2048) (n := 128) x0 q) (hk : At2 (m := 2048) (n := 128) x1 k)
  (hv : At2 (m := 2048) (n := 128) x2 v) (hx : At2 (m := 2048) (n := 128) x3 ax)

include hq hk hv hx in
/-- Head 0, the keys up to 256. -/
theorem soft_0_0 : Soft (sc k ax q 0) v 2048 0 256 (kernelRun0_A.sl.r_14 c i arg2 harg2 arg3 harg3 arg4 harg4 arg5 harg5 arg6 harg6 arg7 harg7 arg8 harg8 arg9 harg9 arg10 harg10 x0 x1 x2 x3)
    (kernelRun0_A.sl.r_15 c i arg2 harg2 arg3 harg3 arg4 harg4 arg5 harg5 arg6 harg6 arg7 harg7 arg8 harg8 arg9 harg9 arg10 harg10 x0 x1 x2 x3)
    (kernelRun0_A.sl.r_16 c i arg2 harg2 arg3 harg3 arg4 harg4 arg5 harg5 arg6 harg6 arg7 harg7 arg8 harg8 arg9 harg9 arg10 harg10 x0 x1 x2 x3) := by
  have hs : At2 (m := 256) (n := 2048) (k0_pay55 (kernelRun0_A.sl.v122 c arg3 harg3 arg5 harg5 arg9 x1 x3) (kernelRun0_A.sl.v125 c arg2 harg2 arg8 x0)) fun s t => sc k ax q 0 s t :=
    (score_block (ka_buf c arg3 harg3 arg5 harg5 x1 x3 hk hx) (qa_buf c arg2 harg2 x0 hq) 0 0 2048 (by decide)).congr fun s t _ _ => by simp only [Nat.zero_add]
  have hN := Soft.first (S := (sc k ax q 0)) (V := v) (m := k0_pay52) (l := k0_pay53) (a := k0_pay54) (m' := (kernelRun0_A.sl.r_14 c i arg2 harg2 arg3 harg3 arg4 harg4 arg5 harg5 arg6 harg6 arg7 harg7 arg8 harg8 arg9 harg9 arg10 harg10 x0 x1 x2 x3)) (l' := (kernelRun0_A.sl.r_15 c i arg2 harg2 arg3 harg3 arg4 harg4 arg5 harg5 arg6 harg6 arg7 harg7 arg8 harg8 arg9 harg9 arg10 harg10 x0 x1 x2 x3)) (a' := (kernelRun0_A.sl.r_16 c i arg2 harg2 arg3 harg3 arg4 harg4 arg5 harg5 arg6 harg6 arg7 harg7 arg8 harg8 arg9 harg9 arg10 harg10 x0 x1 x2 x3)) ⟨_, _, _, _, _, _, _, _, _, rfl, rfl, rfl⟩ (by norm_num) mask_bot words hs (((vt_buf c arg4 harg4 x2 hv).back 0 0 64 256 _).congr fun d s _ _ => by simp only [Nat.zero_add])
    (fun x => mask_bot) (at2_splat zero_f32) (at2_splat zero_f32)
  exact hN

include hq hk hv hx in
/-- Head 0, the keys up to 512. -/
theorem soft_0_1 : Soft (sc k ax q 0) v 2048 0 (256 + 256) (kernelRun0_A.sl.r_24 c i arg2 harg2 arg3 harg3 arg4 harg4 arg5 harg5 arg6 harg6 arg7 harg7 arg8 harg8 arg9 harg9 arg10 harg10 x0 x1 x2 x3)
    (kernelRun0_A.sl.r_25 c i arg2 harg2 arg3 harg3 arg4 harg4 arg5 harg5 arg6 harg6 arg7 harg7 arg8 harg8 arg9 harg9 arg10 harg10 x0 x1 x2 x3)
    (kernelRun0_A.sl.r_26 c i arg2 harg2 arg3 harg3 arg4 harg4 arg5 harg5 arg6 harg6 arg7 harg7 arg8 harg8 arg9 harg9 arg10 harg10 x0 x1 x2 x3) := by
  have hS := soft_0_0 c i arg2 harg2 arg3 harg3 arg4 harg4 arg5 harg5 arg6 harg6 arg7 harg7 arg8 harg8 arg9 harg9 arg10 harg10 x0 x1 x2 x3 hq hk hv hx
  have hs : At2 (m := 256) (n := 1792) (kernelRun0_A.sl.r_12 c arg2 harg2 arg3 harg3 arg5 harg5 arg8 arg9 x0 x1 x3) fun s t => sc k ax q 0 (256 + s) (256 + t) := score_block (ka_buf c arg3 harg3 arg5 harg5 x1 x3 hk hx) (qa_buf c arg2 harg2 x0 hq) 0 256 1792 (by decide)
  exact hS.join (o := 256) (hc := concatenates_S1x256_S1x1792_S1x2048_d1) (hc' := concatenates_S64x256_S64x1792_S64x2048_d1) (h := slices_S1x2048_o0_0_S1x256) (h' := slices_S64x2048_o0_0_S64x256) ((hS.cut 256 (h := slices_S1x2048_o0_256_S1x1792) (h' := slices_S64x2048_o0_256_S64x1792)).next (n := 1792) ⟨_, _, _, _, broadcasts_S1x1792_S256x1792, _, _, broadcasts_S1x1792_S64x1792, _, rfl, rfl, rfl⟩ (by norm_num) mask_bot (words.cols slices_S256x2048_o0_0_S256x1792) hs
    (((vt_buf c arg4 harg4 x2 hv).back 0 256 64 256 _).congr fun d s _ _ => by simp only [Nat.zero_add])) (by norm_num)

include hq hk hv hx in
/-- Head 0, the keys up to 768. -/
theorem soft_0_2 : Soft (sc k ax q 0) v 2048 0 (512 + 256) (kernelRun0_A.sl.r_39 c i arg2 harg2 arg3 harg3 arg4 harg4 arg5 harg5 arg6 harg6 arg7 harg7 arg8 harg8 arg9 harg9 arg10 harg10 x0 x1 x2 x3)
    (kernelRun0_A.sl.r_40 c i arg2 harg2 arg3 harg3 arg4 harg4 arg5 harg5 arg6 harg6 arg7 harg7 arg8 harg8 arg9 harg9 arg10 harg10 x0 x1 x2 x3)
    (kernelRun0_A.sl.r_41 c i arg2 harg2 arg3 harg3 arg4 harg4 arg5 harg5 arg6 harg6 arg7 harg7 arg8 harg8 arg9 harg9 arg10 harg10 x0 x1 x2 x3) := by
  have hS := soft_0_1 c i arg2 harg2 arg3 harg3 arg4 harg4 arg5 harg5 arg6 harg6 arg7 harg7 arg8 harg8 arg9 harg9 arg10 harg10 x0 x1 x2 x3 hq hk hv hx
  have hs : At2 (m := 256) (n := 1536) (kernelRun0_A.sl.r_20 c arg2 harg2 arg3 harg3 arg5 harg5 arg8 arg9 x0 x1 x3) fun s t => sc k ax q 0 (512 + s) (512 + t) := score_block (ka_buf c arg3 harg3 arg5 harg5 x1 x3 hk hx) (qa_buf c arg2 harg2 x0 hq) 0 512 1536 (by decide)
  exact hS.join (o := 512) (hc := concatenates_S1x512_S1x1536_S1x2048_d1) (hc' := concatenates_S64x512_S64x1536_S64x2048_d1) (h := slices_S1x2048_o0_0_S1x512) (h' := slices_S64x2048_o0_0_S64x512) ((hS.cut 512 (h := slices_S1x2048_o0_512_S1x1536) (h' := slices_S64x2048_o0_512_S64x1536)).next (n := 1536) ⟨_, _, _, _, broadcasts_S1x1536_S256x1536, _, _, broadcasts_S1x1536_S64x1536, _, rfl, rfl, rfl⟩ (by norm_num) mask_bot (words.cols slices_S256x2048_o0_0_S256x1536) hs
    (((vt_buf c arg4 harg4 x2 hv).back 0 512 64 256 _).congr fun d s _ _ => by simp only [Nat.zero_add])) (by norm_num)

include hq hk hv hx in
/-- Head 0, the keys up to 1024. -/
theorem soft_0_3 : Soft (sc k ax q 0) v 2048 0 (768 + 256) (kernelRun0_A.sl.r_52 c i arg2 harg2 arg3 harg3 arg4 harg4 arg5 harg5 arg6 harg6 arg7 harg7 arg8 harg8 arg9 harg9 arg10 harg10 x0 x1 x2 x3)
    (kernelRun0_A.sl.r_53 c i arg2 harg2 arg3 harg3 arg4 harg4 arg5 harg5 arg6 harg6 arg7 harg7 arg8 harg8 arg9 harg9 arg10 harg10 x0 x1 x2 x3)
    (kernelRun0_A.sl.r_54 c i arg2 harg2 arg3 harg3 arg4 harg4 arg5 harg5 arg6 harg6 arg7 harg7 arg8 harg8 arg9 harg9 arg10 harg10 x0 x1 x2 x3) := by
  have hS := soft_0_2 c i arg2 harg2 arg3 harg3 arg4 harg4 arg5 harg5 arg6 harg6 arg7 harg7 arg8 harg8 arg9 harg9 arg10 harg10 x0 x1 x2 x3 hq hk hv hx
  have hs : At2 (m := 256) (n := 1280) (kernelRun0_A.sl.r_35 c arg2 harg2 arg3 harg3 arg5 harg5 arg8 arg9 x0 x1 x3) fun s t => sc k ax q 0 (768 + s) (768 + t) := score_block (ka_buf c arg3 harg3 arg5 harg5 x1 x3 hk hx) (qa_buf c arg2 harg2 x0 hq) 0 768 1280 (by decide)
  exact hS.join (o := 768) (hc := concatenates_S1x768_S1x1280_S1x2048_d1) (hc' := concatenates_S64x768_S64x1280_S64x2048_d1) (h := slices_S1x2048_o0_0_S1x768) (h' := slices_S64x2048_o0_0_S64x768) ((hS.cut 768 (h := slices_S1x2048_o0_768_S1x1280) (h' := slices_S64x2048_o0_768_S64x1280)).next (n := 1280) ⟨_, _, _, _, broadcasts_S1x1280_S256x1280, _, _, broadcasts_S1x1280_S64x1280, _, rfl, rfl, rfl⟩ (by norm_num) mask_bot (words.cols slices_S256x2048_o0_0_S256x1280) hs
    (((vt_buf c arg4 harg4 x2 hv).back 0 768 64 256 _).congr fun d s _ _ => by simp only [Nat.zero_add])) (by norm_num)

include hq hk hv hx in
/-- Head 0, the keys up to 1280. -/
theorem soft_0_4 : Soft (sc k ax q 0) v 2048 0 (1024 + 256) (kernelRun0_A.sl.r_65 c i arg2 harg2 arg3 harg3 arg4 harg4 arg5 harg5 arg6 harg6 arg7 harg7 arg8 harg8 arg9 harg9 arg10 harg10 x0 x1 x2 x3)
    (kernelRun0_A.sl.r_66 c i arg2 harg2 arg3 harg3 arg4 harg4 arg5 harg5 arg6 harg6 arg7 harg7 arg8 harg8 arg9 harg9 arg10 harg10 x0 x1 x2 x3)
    (kernelRun0_A.sl.r_67 c i arg2 harg2 arg3 harg3 arg4 harg4 arg5 harg5 arg6 harg6 arg7 harg7 arg8 harg8 arg9 harg9 arg10 harg10 x0 x1 x2 x3) := by
  have hS := soft_0_3 c i arg2 harg2 arg3 harg3 arg4 harg4 arg5 harg5 arg6 harg6 arg7 harg7 arg8 harg8 arg9 harg9 arg10 harg10 x0 x1 x2 x3 hq hk hv hx
  have hs : At2 (m := 256) (n := 1024) (kernelRun0_A.sl.r_50 c arg2 harg2 arg3 harg3 arg5 harg5 arg8 arg9 x0 x1 x3) fun s t => sc k ax q 0 (1024 + s) (1024 + t) := score_block (ka_buf c arg3 harg3 arg5 harg5 x1 x3 hk hx) (qa_buf c arg2 harg2 x0 hq) 0 1024 1024 (by decide)
  exact hS.join (o := 1024) (hc := concatenates_S1x1024_S1x1024_S1x2048_d1) (hc' := concatenates_S64x1024_S64x1024_S64x2048_d1) (h := slices_S1x2048_o0_0_S1x1024) (h' := slices_S64x2048_o0_0_S64x1024) ((hS.cut 1024 (h := slices_S1x2048_o0_1024_S1x1024) (h' := slices_S64x2048_o0_1024_S64x1024)).next (n := 1024) ⟨_, _, _, _, broadcasts_S1x1024_S256x1024, _, _, broadcasts_S1x1024_S64x1024, _, rfl, rfl, rfl⟩ (by norm_num) mask_bot (words.cols slices_S256x2048_o0_0_S256x1024) hs
    (((vt_buf c arg4 harg4 x2 hv).back 0 1024 64 256 _).congr fun d s _ _ => by simp only [Nat.zero_add])) (by norm_num)

include hq hk hv hx in
/-- Head 0, the keys up to 1536. -/
theorem soft_0_5 : Soft (sc k ax q 0) v 2048 0 (1280 + 256) (kernelRun0_A.sl.r_79 c i arg2 harg2 arg3 harg3 arg4 harg4 arg5 harg5 arg6 harg6 arg7 harg7 arg8 harg8 arg9 harg9 arg10 harg10 x0 x1 x2 x3)
    (kernelRun0_A.sl.r_80 c i arg2 harg2 arg3 harg3 arg4 harg4 arg5 harg5 arg6 harg6 arg7 harg7 arg8 harg8 arg9 harg9 arg10 harg10 x0 x1 x2 x3)
    (kernelRun0_A.sl.r_81 c i arg2 harg2 arg3 harg3 arg4 harg4 arg5 harg5 arg6 harg6 arg7 harg7 arg8 harg8 arg9 harg9 arg10 harg10 x0 x1 x2 x3) := by
  have hS := soft_0_4 c i arg2 harg2 arg3 harg3 arg4 harg4 arg5 harg5 arg6 harg6 arg7 harg7 arg8 harg8 arg9 harg9 arg10 harg10 x0 x1 x2 x3 hq hk hv hx
  have hs : At2 (m := 256) (n := 768) (kernelRun0_A.sl.r_63 c arg2 harg2 arg3 harg3 arg5 harg5 arg8 arg9 x0 x1 x3) fun s t => sc k ax q 0 (1280 + s) (1280 + t) := score_block (ka_buf c arg3 harg3 arg5 harg5 x1 x3 hk hx) (qa_buf c arg2 harg2 x0 hq) 0 1280 768 (by decide)
  exact hS.join (o := 1280) (hc := concatenates_S1x1280_S1x768_S1x2048_d1) (hc' := concatenates_S64x1280_S64x768_S64x2048_d1) (h := slices_S1x2048_o0_0_S1x1280) (h' := slices_S64x2048_o0_0_S64x1280) ((hS.cut 1280 (h := slices_S1x2048_o0_1280_S1x768) (h' := slices_S64x2048_o0_1280_S64x768)).next (n := 768) ⟨_, _, _, _, broadcasts_S1x768_S256x768, _, _, broadcasts_S1x768_S64x768, _, rfl, rfl, rfl⟩ (by norm_num) mask_bot (words.cols slices_S256x2048_o0_0_S256x768) hs
    (((vt_buf c arg4 harg4 x2 hv).back 0 1280 64 256 _).congr fun d s _ _ => by simp only [Nat.zero_add])) (by norm_num)

include hq hk hv hx in
/-- Head 0, the keys up to 1792. -/
theorem soft_0_6 : Soft (sc k ax q 0) v 2048 0 (1536 + 256) (kernelRun0_A.sl.r_92 c i arg2 harg2 arg3 harg3 arg4 harg4 arg5 harg5 arg6 harg6 arg7 harg7 arg8 harg8 arg9 harg9 arg10 harg10 x0 x1 x2 x3)
    (kernelRun0_A.sl.r_93 c i arg2 harg2 arg3 harg3 arg4 harg4 arg5 harg5 arg6 harg6 arg7 harg7 arg8 harg8 arg9 harg9 arg10 harg10 x0 x1 x2 x3)
    (kernelRun0_A.sl.r_94 c i arg2 harg2 arg3 harg3 arg4 harg4 arg5 harg5 arg6 harg6 arg7 harg7 arg8 harg8 arg9 harg9 arg10 harg10 x0 x1 x2 x3) := by
  have hS := soft_0_5 c i arg2 harg2 arg3 harg3 arg4 harg4 arg5 harg5 arg6 harg6 arg7 harg7 arg8 harg8 arg9 harg9 arg10 harg10 x0 x1 x2 x3 hq hk hv hx
  have hs : At2 (m := 256) (n := 512) (kernelRun0_A.sl.r_77 c arg2 harg2 arg3 harg3 arg5 harg5 arg8 arg9 x0 x1 x3) fun s t => sc k ax q 0 (1536 + s) (1536 + t) := score_block (ka_buf c arg3 harg3 arg5 harg5 x1 x3 hk hx) (qa_buf c arg2 harg2 x0 hq) 0 1536 512 (by decide)
  exact hS.join (o := 1536) (hc := concatenates_S1x1536_S1x512_S1x2048_d1) (hc' := concatenates_S64x1536_S64x512_S64x2048_d1) (h := slices_S1x2048_o0_0_S1x1536) (h' := slices_S64x2048_o0_0_S64x1536) ((hS.cut 1536 (h := slices_S1x2048_o0_1536_S1x512) (h' := slices_S64x2048_o0_1536_S64x512)).next (n := 512) ⟨_, _, _, _, broadcasts_S1x512_S256x512, _, _, broadcasts_S1x512_S64x512, _, rfl, rfl, rfl⟩ (by norm_num) mask_bot (words.cols slices_S256x2048_o0_0_S256x512) hs
    (((vt_buf c arg4 harg4 x2 hv).back 0 1536 64 256 _).congr fun d s _ _ => by simp only [Nat.zero_add])) (by norm_num)

include hq hk hv hx in
/-- Head 0, the keys up to 2048. -/
theorem soft_0_7 : Soft (sc k ax q 0) v 2048 0 (1792 + 256) (kernelRun0_A.sl.r_105 c i arg2 harg2 arg3 harg3 arg4 harg4 arg5 harg5 arg6 harg6 arg7 harg7 arg8 harg8 arg9 harg9 arg10 harg10 x0 x1 x2 x3)
    (k0_pay227 (kernelRun0_A.sl.r_93 c i arg2 harg2 arg3 harg3 arg4 harg4 arg5 harg5 arg6 harg6 arg7 harg7 arg8 harg8 arg9 harg9 arg10 harg10 x0 x1 x2 x3) (kernelRun0_A.sl.r_103 c i arg2 harg2 arg3 harg3 arg4 harg4 arg5 harg5 arg6 harg6 arg7 harg7 arg8 harg8 arg9 harg9 arg10 harg10 x0 x1 x2 x3))
    (concatenate S64x2048 1 [⟨S64x1792, extractStridedSlice S64x1792 ![0, 0] (kernelRun0_A.sl.r_94 c i arg2 harg2 arg3 harg3 arg4 harg4 arg5 harg5 arg6 harg6 arg7 harg7 arg8 harg8 arg9 harg9 arg10 harg10 x0 x1 x2 x3) slices_S64x2048_o0_0_S64x1792⟩, ⟨S64x256, (kernelRun0_A.sl.r_104 c i arg2 harg2 arg3 harg3 arg4 harg4 arg5 harg5 arg6 harg6 arg7 harg7 arg8 harg8 arg9 harg9 arg10 harg10 x0 x1 x2 x3)⟩] concatenates_S64x1792_S64x256_S64x2048_d1) := by
  have hS := soft_0_6 c i arg2 harg2 arg3 harg3 arg4 harg4 arg5 harg5 arg6 harg6 arg7 harg7 arg8 harg8 arg9 harg9 arg10 harg10 x0 x1 x2 x3 hq hk hv hx
  have hs : At2 (m := 256) (n := 256) (kernelRun0_A.sl.r_90 c arg2 harg2 arg3 harg3 arg5 harg5 arg8 arg9 x0 x1 x3) fun s t => sc k ax q 0 (1792 + s) (1792 + t) := score_block (ka_buf c arg3 harg3 arg5 harg5 x1 x3 hk hx) (qa_buf c arg2 harg2 x0 hq) 0 1792 256 (by decide)
  exact hS.join (o := 1792) (hc := concatenates_S1x1792_S1x256_S1x2048_d1) (hc' := concatenates_S64x1792_S64x256_S64x2048_d1) (h := slices_S1x2048_o0_0_S1x1792) (h' := slices_S64x2048_o0_0_S64x1792) ((hS.cut 1792 (h := slices_S1x2048_o0_1792_S1x256) (h' := slices_S64x2048_o0_1792_S64x256)).next (n := 256) ⟨_, _, _, _, broadcasts_S1x256_S256x256, _, _, broadcasts_S1x256_S64x256, _, rfl, rfl, rfl⟩ (by norm_num) mask_bot (words.cols slices_S256x2048_o0_0_S256x256) hs
    (((vt_buf c arg4 harg4 x2 hv).back 0 1792 64 256 _).congr fun d s _ _ => by simp only [Nat.zero_add])) (by norm_num)

include hq hk hv hx in
/-- Head 1, the keys up to 256. -/
theorem soft_1_0 : Soft (sc k ax q 1) (fun s d => v s (64 + d)) 2048 0 256 (kernelRun0_A.sl.r_17 c i arg2 harg2 arg3 harg3 arg4 harg4 arg5 harg5 arg6 harg6 arg7 harg7 arg8 harg8 arg9 harg9 arg10 harg10 x0 x1 x2 x3)
    (kernelRun0_A.sl.r_18 c i arg2 harg2 arg3 harg3 arg4 harg4 arg5 harg5 arg6 harg6 arg7 harg7 arg8 harg8 arg9 harg9 arg10 harg10 x0 x1 x2 x3)
    (kernelRun0_A.sl.r_19 c i arg2 harg2 arg3 harg3 arg4 harg4 arg5 harg5 arg6 harg6 arg7 harg7 arg8 harg8 arg9 harg9 arg10 harg10 x0 x1 x2 x3) := by
  have hs : At2 (m := 256) (n := 2048) (k0_pay56 (kernelRun0_A.sl.v129 c arg3 harg3 arg5 harg5 arg9 x1 x3) (kernelRun0_A.sl.v132 c arg2 harg2 arg8 x0)) fun s t => sc k ax q 1 s t :=
    (score_block (ka_buf c arg3 harg3 arg5 harg5 x1 x3 hk hx) (qa_buf c arg2 harg2 x0 hq) 1 0 2048 (by decide)).congr fun s t _ _ => by simp only [Nat.zero_add]
  have hN := Soft.first (S := (sc k ax q 1)) (V := (fun s d => v s (64 + d))) (m := k0_pay52) (l := k0_pay53) (a := k0_pay54) (m' := (kernelRun0_A.sl.r_17 c i arg2 harg2 arg3 harg3 arg4 harg4 arg5 harg5 arg6 harg6 arg7 harg7 arg8 harg8 arg9 harg9 arg10 harg10 x0 x1 x2 x3)) (l' := (kernelRun0_A.sl.r_18 c i arg2 harg2 arg3 harg3 arg4 harg4 arg5 harg5 arg6 harg6 arg7 harg7 arg8 harg8 arg9 harg9 arg10 harg10 x0 x1 x2 x3)) (a' := (kernelRun0_A.sl.r_19 c i arg2 harg2 arg3 harg3 arg4 harg4 arg5 harg5 arg6 harg6 arg7 harg7 arg8 harg8 arg9 harg9 arg10 harg10 x0 x1 x2 x3)) ⟨_, _, _, _, _, _, _, _, _, rfl, rfl, rfl⟩ (by norm_num) mask_bot words hs (((vt_buf c arg4 harg4 x2 hv).back 64 0 64 256 _).congr fun d s _ _ => by simp only [Nat.zero_add])
    (fun x => mask_bot) (at2_splat zero_f32) (at2_splat zero_f32)
  exact hN

include hq hk hv hx in
/-- Head 1, the keys up to 512. -/
theorem soft_1_1 : Soft (sc k ax q 1) (fun s d => v s (64 + d)) 2048 0 (256 + 256) (kernelRun0_A.sl.r_32 c i arg2 harg2 arg3 harg3 arg4 harg4 arg5 harg5 arg6 harg6 arg7 harg7 arg8 harg8 arg9 harg9 arg10 harg10 x0 x1 x2 x3)
    (kernelRun0_A.sl.r_33 c i arg2 harg2 arg3 harg3 arg4 harg4 arg5 harg5 arg6 harg6 arg7 harg7 arg8 harg8 arg9 harg9 arg10 harg10 x0 x1 x2 x3)
    (kernelRun0_A.sl.r_34 c i arg2 harg2 arg3 harg3 arg4 harg4 arg5 harg5 arg6 harg6 arg7 harg7 arg8 harg8 arg9 harg9 arg10 harg10 x0 x1 x2 x3) := by
  have hS := soft_1_0 c i arg2 harg2 arg3 harg3 arg4 harg4 arg5 harg5 arg6 harg6 arg7 harg7 arg8 harg8 arg9 harg9 arg10 harg10 x0 x1 x2 x3 hq hk hv hx
  have hs : At2 (m := 256) (n := 1792) (kernelRun0_A.sl.r_13 c arg2 harg2 arg3 harg3 arg5 harg5 arg8 arg9 x0 x1 x3) fun s t => sc k ax q 1 (256 + s) (256 + t) := score_block (ka_buf c arg3 harg3 arg5 harg5 x1 x3 hk hx) (qa_buf c arg2 harg2 x0 hq) 1 256 1792 (by decide)
  exact hS.join (o := 256) (hc := concatenates_S1x256_S1x1792_S1x2048_d1) (hc' := concatenates_S64x256_S64x1792_S64x2048_d1) (h := slices_S1x2048_o0_0_S1x256) (h' := slices_S64x2048_o0_0_S64x256) ((hS.cut 256 (h := slices_S1x2048_o0_256_S1x1792) (h' := slices_S64x2048_o0_256_S64x1792)).next (n := 1792) ⟨_, _, _, _, broadcasts_S1x1792_S256x1792, _, _, broadcasts_S1x1792_S64x1792, _, rfl, rfl, rfl⟩ (by norm_num) mask_bot (words.cols slices_S256x2048_o0_0_S256x1792) hs
    (((vt_buf c arg4 harg4 x2 hv).back 64 256 64 256 _).congr fun d s _ _ => by simp only [Nat.zero_add])) (by norm_num)

include hq hk hv hx in
/-- Head 1, the keys up to 768. -/
theorem soft_1_2 : Soft (sc k ax q 1) (fun s d => v s (64 + d)) 2048 0 (512 + 256) (kernelRun0_A.sl.r_47 c i arg2 harg2 arg3 harg3 arg4 harg4 arg5 harg5 arg6 harg6 arg7 harg7 arg8 harg8 arg9 harg9 arg10 harg10 x0 x1 x2 x3)
    (kernelRun0_A.sl.r_48 c i arg2 harg2 arg3 harg3 arg4 harg4 arg5 harg5 arg6 harg6 arg7 harg7 arg8 harg8 arg9 harg9 arg10 harg10 x0 x1 x2 x3)
    (kernelRun0_A.sl.r_49 c i arg2 harg2 arg3 harg3 arg4 harg4 arg5 harg5 arg6 harg6 arg7 harg7 arg8 harg8 arg9 harg9 arg10 harg10 x0 x1 x2 x3) := by
  have hS := soft_1_1 c i arg2 harg2 arg3 harg3 arg4 harg4 arg5 harg5 arg6 harg6 arg7 harg7 arg8 harg8 arg9 harg9 arg10 harg10 x0 x1 x2 x3 hq hk hv hx
  have hs : At2 (m := 256) (n := 1536) (kernelRun0_A.sl.r_23 c arg2 harg2 arg3 harg3 arg5 harg5 arg8 arg9 x0 x1 x3) fun s t => sc k ax q 1 (512 + s) (512 + t) := score_block (ka_buf c arg3 harg3 arg5 harg5 x1 x3 hk hx) (qa_buf c arg2 harg2 x0 hq) 1 512 1536 (by decide)
  exact hS.join (o := 512) (hc := concatenates_S1x512_S1x1536_S1x2048_d1) (hc' := concatenates_S64x512_S64x1536_S64x2048_d1) (h := slices_S1x2048_o0_0_S1x512) (h' := slices_S64x2048_o0_0_S64x512) ((hS.cut 512 (h := slices_S1x2048_o0_512_S1x1536) (h' := slices_S64x2048_o0_512_S64x1536)).next (n := 1536) ⟨_, _, _, _, broadcasts_S1x1536_S256x1536, _, _, broadcasts_S1x1536_S64x1536, _, rfl, rfl, rfl⟩ (by norm_num) mask_bot (words.cols slices_S256x2048_o0_0_S256x1536) hs
    (((vt_buf c arg4 harg4 x2 hv).back 64 512 64 256 _).congr fun d s _ _ => by simp only [Nat.zero_add])) (by norm_num)

include hq hk hv hx in
/-- Head 1, the keys up to 1024. -/
theorem soft_1_3 : Soft (sc k ax q 1) (fun s d => v s (64 + d)) 2048 0 (768 + 256) (kernelRun0_A.sl.r_60 c i arg2 harg2 arg3 harg3 arg4 harg4 arg5 harg5 arg6 harg6 arg7 harg7 arg8 harg8 arg9 harg9 arg10 harg10 x0 x1 x2 x3)
    (kernelRun0_A.sl.r_61 c i arg2 harg2 arg3 harg3 arg4 harg4 arg5 harg5 arg6 harg6 arg7 harg7 arg8 harg8 arg9 harg9 arg10 harg10 x0 x1 x2 x3)
    (kernelRun0_A.sl.r_62 c i arg2 harg2 arg3 harg3 arg4 harg4 arg5 harg5 arg6 harg6 arg7 harg7 arg8 harg8 arg9 harg9 arg10 harg10 x0 x1 x2 x3) := by
  have hS := soft_1_2 c i arg2 harg2 arg3 harg3 arg4 harg4 arg5 harg5 arg6 harg6 arg7 harg7 arg8 harg8 arg9 harg9 arg10 harg10 x0 x1 x2 x3 hq hk hv hx
  have hs : At2 (m := 256) (n := 1280) (kernelRun0_A.sl.r_38 c arg2 harg2 arg3 harg3 arg5 harg5 arg8 arg9 x0 x1 x3) fun s t => sc k ax q 1 (768 + s) (768 + t) := score_block (ka_buf c arg3 harg3 arg5 harg5 x1 x3 hk hx) (qa_buf c arg2 harg2 x0 hq) 1 768 1280 (by decide)
  exact hS.join (o := 768) (hc := concatenates_S1x768_S1x1280_S1x2048_d1) (hc' := concatenates_S64x768_S64x1280_S64x2048_d1) (h := slices_S1x2048_o0_0_S1x768) (h' := slices_S64x2048_o0_0_S64x768) ((hS.cut 768 (h := slices_S1x2048_o0_768_S1x1280) (h' := slices_S64x2048_o0_768_S64x1280)).next (n := 1280) ⟨_, _, _, _, broadcasts_S1x1280_S256x1280, _, _, broadcasts_S1x1280_S64x1280, _, rfl, rfl, rfl⟩ (by norm_num) mask_bot (words.cols slices_S256x2048_o0_0_S256x1280) hs
    (((vt_buf c arg4 harg4 x2 hv).back 64 768 64 256 _).congr fun d s _ _ => by simp only [Nat.zero_add])) (by norm_num)

include hq hk hv hx in
/-- Head 1, the keys up to 1280. -/
theorem soft_1_4 : Soft (sc k ax q 1) (fun s d => v s (64 + d)) 2048 0 (1024 + 256) (kernelRun0_A.sl.r_74 c i arg2 harg2 arg3 harg3 arg4 harg4 arg5 harg5 arg6 harg6 arg7 harg7 arg8 harg8 arg9 harg9 arg10 harg10 x0 x1 x2 x3)
    (kernelRun0_A.sl.r_75 c i arg2 harg2 arg3 harg3 arg4 harg4 arg5 harg5 arg6 harg6 arg7 harg7 arg8 harg8 arg9 harg9 arg10 harg10 x0 x1 x2 x3)
    (kernelRun0_A.sl.r_76 c i arg2 harg2 arg3 harg3 arg4 harg4 arg5 harg5 arg6 harg6 arg7 harg7 arg8 harg8 arg9 harg9 arg10 harg10 x0 x1 x2 x3) := by
  have hS := soft_1_3 c i arg2 harg2 arg3 harg3 arg4 harg4 arg5 harg5 arg6 harg6 arg7 harg7 arg8 harg8 arg9 harg9 arg10 harg10 x0 x1 x2 x3 hq hk hv hx
  have hs : At2 (m := 256) (n := 1024) (kernelRun0_A.sl.r_51 c arg2 harg2 arg3 harg3 arg5 harg5 arg8 arg9 x0 x1 x3) fun s t => sc k ax q 1 (1024 + s) (1024 + t) := score_block (ka_buf c arg3 harg3 arg5 harg5 x1 x3 hk hx) (qa_buf c arg2 harg2 x0 hq) 1 1024 1024 (by decide)
  exact hS.join (o := 1024) (hc := concatenates_S1x1024_S1x1024_S1x2048_d1) (hc' := concatenates_S64x1024_S64x1024_S64x2048_d1) (h := slices_S1x2048_o0_0_S1x1024) (h' := slices_S64x2048_o0_0_S64x1024) ((hS.cut 1024 (h := slices_S1x2048_o0_1024_S1x1024) (h' := slices_S64x2048_o0_1024_S64x1024)).next (n := 1024) ⟨_, _, _, _, broadcasts_S1x1024_S256x1024, _, _, broadcasts_S1x1024_S64x1024, _, rfl, rfl, rfl⟩ (by norm_num) mask_bot (words.cols slices_S256x2048_o0_0_S256x1024) hs
    (((vt_buf c arg4 harg4 x2 hv).back 64 1024 64 256 _).congr fun d s _ _ => by simp only [Nat.zero_add])) (by norm_num)

include hq hk hv hx in
/-- Head 1, the keys up to 1536. -/
theorem soft_1_5 : Soft (sc k ax q 1) (fun s d => v s (64 + d)) 2048 0 (1280 + 256) (kernelRun0_A.sl.r_87 c i arg2 harg2 arg3 harg3 arg4 harg4 arg5 harg5 arg6 harg6 arg7 harg7 arg8 harg8 arg9 harg9 arg10 harg10 x0 x1 x2 x3)
    (kernelRun0_A.sl.r_88 c i arg2 harg2 arg3 harg3 arg4 harg4 arg5 harg5 arg6 harg6 arg7 harg7 arg8 harg8 arg9 harg9 arg10 harg10 x0 x1 x2 x3)
    (kernelRun0_A.sl.r_89 c i arg2 harg2 arg3 harg3 arg4 harg4 arg5 harg5 arg6 harg6 arg7 harg7 arg8 harg8 arg9 harg9 arg10 harg10 x0 x1 x2 x3) := by
  have hS := soft_1_4 c i arg2 harg2 arg3 harg3 arg4 harg4 arg5 harg5 arg6 harg6 arg7 harg7 arg8 harg8 arg9 harg9 arg10 harg10 x0 x1 x2 x3 hq hk hv hx
  have hs : At2 (m := 256) (n := 768) (kernelRun0_A.sl.r_64 c arg2 harg2 arg3 harg3 arg5 harg5 arg8 arg9 x0 x1 x3) fun s t => sc k ax q 1 (1280 + s) (1280 + t) := score_block (ka_buf c arg3 harg3 arg5 harg5 x1 x3 hk hx) (qa_buf c arg2 harg2 x0 hq) 1 1280 768 (by decide)
  exact hS.join (o := 1280) (hc := concatenates_S1x1280_S1x768_S1x2048_d1) (hc' := concatenates_S64x1280_S64x768_S64x2048_d1) (h := slices_S1x2048_o0_0_S1x1280) (h' := slices_S64x2048_o0_0_S64x1280) ((hS.cut 1280 (h := slices_S1x2048_o0_1280_S1x768) (h' := slices_S64x2048_o0_1280_S64x768)).next (n := 768) ⟨_, _, _, _, broadcasts_S1x768_S256x768, _, _, broadcasts_S1x768_S64x768, _, rfl, rfl, rfl⟩ (by norm_num) mask_bot (words.cols slices_S256x2048_o0_0_S256x768) hs
    (((vt_buf c arg4 harg4 x2 hv).back 64 1280 64 256 _).congr fun d s _ _ => by simp only [Nat.zero_add])) (by norm_num)

include hq hk hv hx in
/-- Head 1, the keys up to 1792. -/
theorem soft_1_6 : Soft (sc k ax q 1) (fun s d => v s (64 + d)) 2048 0 (1536 + 256) (kernelRun0_A.sl.r_100 c i arg2 harg2 arg3 harg3 arg4 harg4 arg5 harg5 arg6 harg6 arg7 harg7 arg8 harg8 arg9 harg9 arg10 harg10 x0 x1 x2 x3)
    (kernelRun0_A.sl.r_101 c i arg2 harg2 arg3 harg3 arg4 harg4 arg5 harg5 arg6 harg6 arg7 harg7 arg8 harg8 arg9 harg9 arg10 harg10 x0 x1 x2 x3)
    (kernelRun0_A.sl.r_102 c i arg2 harg2 arg3 harg3 arg4 harg4 arg5 harg5 arg6 harg6 arg7 harg7 arg8 harg8 arg9 harg9 arg10 harg10 x0 x1 x2 x3) := by
  have hS := soft_1_5 c i arg2 harg2 arg3 harg3 arg4 harg4 arg5 harg5 arg6 harg6 arg7 harg7 arg8 harg8 arg9 harg9 arg10 harg10 x0 x1 x2 x3 hq hk hv hx
  have hs : At2 (m := 256) (n := 512) (kernelRun0_A.sl.r_78 c arg2 harg2 arg3 harg3 arg5 harg5 arg8 arg9 x0 x1 x3) fun s t => sc k ax q 1 (1536 + s) (1536 + t) := score_block (ka_buf c arg3 harg3 arg5 harg5 x1 x3 hk hx) (qa_buf c arg2 harg2 x0 hq) 1 1536 512 (by decide)
  exact hS.join (o := 1536) (hc := concatenates_S1x1536_S1x512_S1x2048_d1) (hc' := concatenates_S64x1536_S64x512_S64x2048_d1) (h := slices_S1x2048_o0_0_S1x1536) (h' := slices_S64x2048_o0_0_S64x1536) ((hS.cut 1536 (h := slices_S1x2048_o0_1536_S1x512) (h' := slices_S64x2048_o0_1536_S64x512)).next (n := 512) ⟨_, _, _, _, broadcasts_S1x512_S256x512, _, _, broadcasts_S1x512_S64x512, _, rfl, rfl, rfl⟩ (by norm_num) mask_bot (words.cols slices_S256x2048_o0_0_S256x512) hs
    (((vt_buf c arg4 harg4 x2 hv).back 64 1536 64 256 _).congr fun d s _ _ => by simp only [Nat.zero_add])) (by norm_num)

include hq hk hv hx in
/-- Head 1, the keys up to 2048. -/
theorem soft_1_7 : Soft (sc k ax q 1) (fun s d => v s (64 + d)) 2048 0 (1792 + 256) (kernelRun0_A.sl.r_106 c i arg2 harg2 arg3 harg3 arg4 harg4 arg5 harg5 arg6 harg6 arg7 harg7 arg8 harg8 arg9 harg9 arg10 harg10 x0 x1 x2 x3)
    (kernelRun0_A.sl.r_107 c i arg2 harg2 arg3 harg3 arg4 harg4 arg5 harg5 arg6 harg6 arg7 harg7 arg8 harg8 arg9 harg9 arg10 harg10 x0 x1 x2 x3)
    (concatenate S64x2048 1 [⟨S64x1792, extractStridedSlice S64x1792 ![0, 0] (kernelRun0_A.sl.r_102 c i arg2 harg2 arg3 harg3 arg4 harg4 arg5 harg5 arg6 harg6 arg7 harg7 arg8 harg8 arg9 harg9 arg10 harg10 x0 x1 x2 x3) slices_S64x2048_o0_0_S64x1792⟩, ⟨S64x256,
      addf (mulf (broadcastTo S64x256 (k0_pay231 k0_pay51 (kernelRun0_A.sl.r_91 c arg2 harg2 arg3 harg3 arg5 harg5 arg8 arg9 x0 x1 x3) (kernelRun0_A.sl.r_100 c i arg2 harg2 arg3 harg3 arg4 harg4 arg5 harg5 arg6 harg6 arg7 harg7 arg8 harg8 arg9 harg9 arg10 harg10 x0 x1 x2 x3)) broadcasts_S1x256_S64x256) (extractStridedSlice S64x256 ![0, 1792] (kernelRun0_A.sl.r_102 c i arg2 harg2 arg3 harg3 arg4 harg4 arg5 harg5 arg6 harg6 arg7 harg7 arg8 harg8 arg9 harg9 arg10 harg10 x0 x1 x2 x3) slices_S64x2048_o0_1792_S64x256))
        (FloatOps.matmul (F := Ideal) (φ₁ := .bf16) (φ₂ := .bf16) (DotDims.plain 64 256 256) none (kernelRun0_A.sl.v809 c arg4 harg4 arg10 x2) (truncf (F := Ideal) .bf16 (k0_pay232 k0_pay51 (kernelRun0_A.sl.r_91 c arg2 harg2 arg3 harg3 arg5 harg5 arg8 arg9 x0 x1 x3) (kernelRun0_A.sl.r_100 c i arg2 harg2 arg3 harg3 arg4 harg4 arg5 harg5 arg6 harg6 arg7 harg7 arg8 harg8 arg9 harg9 arg10 harg10 x0 x1 x2 x3)) bitsLt_bf16_f32) (constant S64x256 .f32 0x00000000#32))⟩]
      concatenates_S64x1792_S64x256_S64x2048_d1) := by
  have hS := soft_1_6 c i arg2 harg2 arg3 harg3 arg4 harg4 arg5 harg5 arg6 harg6 arg7 harg7 arg8 harg8 arg9 harg9 arg10 harg10 x0 x1 x2 x3 hq hk hv hx
  have hs : At2 (m := 256) (n := 256) (kernelRun0_A.sl.r_91 c arg2 harg2 arg3 harg3 arg5 harg5 arg8 arg9 x0 x1 x3) fun s t => sc k ax q 1 (1792 + s) (1792 + t) := score_block (ka_buf c arg3 harg3 arg5 harg5 x1 x3 hk hx) (qa_buf c arg2 harg2 x0 hq) 1 1792 256 (by decide)
  exact hS.join (o := 1792) (hc := concatenates_S1x1792_S1x256_S1x2048_d1) (hc' := concatenates_S64x1792_S64x256_S64x2048_d1) (h := slices_S1x2048_o0_0_S1x1792) (h' := slices_S64x2048_o0_0_S64x1792) ((hS.cut 1792 (h := slices_S1x2048_o0_1792_S1x256) (h' := slices_S64x2048_o0_1792_S64x256)).next (n := 256) ⟨_, _, _, _, broadcasts_S1x256_S256x256, _, _, broadcasts_S1x256_S64x256, _, rfl, rfl, rfl⟩ (by norm_num) mask_bot (words.cols slices_S256x2048_o0_0_S256x256) hs
    (((vt_buf c arg4 harg4 x2 hv).back 64 1792 64 256 _).congr fun d s _ _ => by simp only [Nat.zero_add])) (by norm_num)

end

end AttFwd

end
-- ==== Proof.FwdOut.lean ====
/- The two blocks the attention's forward pass writes at one grid point: the quotients of the carried sums, turned, and
   the rows of log-sum-exp. -/
module

public import proofs.«01_k».proof.Proof.FwdBody

@[expose] public section

set_option maxRecDepth 16384

noncomputable section

namespace AttFwd

open AttBwd Cert.AttFwdIdeal Cert.AttFwdIdeal.Gen
open Idealize.ShloMosaic hiding ix1 ix2 ix3 ix4 eq_ix2 eq_ix3 eq_ix4
open Idealize.ShloMosaic.ValueIdx

variable {q k v ax : ℕ → ℕ → ℝ}

section Quotient
variable {S V : ℕ → ℕ → ℝ} {m l : FVec Ideal ⟨2, ![1, 2048]⟩ .f32} {a : FVec Ideal ⟨2, ![64, 2048]⟩ .f32}

/-- A row's sum of weights. -/
def total (S : ℕ → ℕ → ℝ) (M : ℕ → ℝ) (t : ℕ) : ℝ := ∑ s ∈ Finset.range 2048, wt S M s t

/-- Another number subtracted from a row's scores scales its weights. -/
theorem wt_shift (M : ℕ → ℝ) (s t : ℕ) : wt S M s t = Real.exp (-M t) * wt S (fun _ => 0) s t := by
  unfold wt
  split_ifs
  · rw [← Real.exp_add]; congr 1; ring
  · exact (mul_zero _).symm

theorem total_shift (M : ℕ → ℝ) (t : ℕ) : total S M t = Real.exp (-M t) * total S (fun _ => 0) t := by
  unfold total
  rw [Finset.mul_sum]; exact Finset.sum_congr rfl fun s _ => wt_shift M s t

theorem total_pos (M : ℕ → ℝ) {t : ℕ} (ht : t < 2048) : 0 < total S M t := by
  refine Finset.sum_pos' (fun s _ => ?_) ⟨t, Finset.mem_range.mpr ht, ?_⟩
  · unfold wt; split_ifs
    · exact (Real.exp_pos _).le
    · exact le_rfl
  · unfold wt; rw [if_pos le_rfl]; exact Real.exp_pos _

/-- The average of the values under a row's weights. -/
def avg (S V : ℕ → ℕ → ℝ) (d t : ℕ) : ℝ := (∑ s ∈ Finset.range 2048, V s d * wt S (fun _ => 0) s t) / total S (fun _ => 0) t

/-- The carried sums' quotient is the average, whatever number was carried. -/
theorem Soft.quot (hS : Soft S V 2048 0 2048 m l a) (h : (⟨2, ![1, 2048]⟩ : Shape).Broadcasts ⟨2, ![64, 2048]⟩) :
    At2 (mulf a (broadcastTo ⟨2, ![64, 2048]⟩ (divf (broadcast (⟨2, ![1, 2048]⟩ : Shape) (Scalar.ofBits (F := Ideal) .f32 0x3F800000#32)) l) h)) (avg S V) := by
  obtain ⟨M, -, hl, ha⟩ := hS
  have hr : At2 (divf (broadcast (⟨2, ![1, 2048]⟩ : Shape) (Scalar.ofBits (F := Ideal) .f32 0x3F800000#32)) l) fun _ t => 1 / total S M t := fun x => by
    show Ideal.div (Ideal.ofBits .f32 0x3F800000#32) (l x) = _
    rw [one_f32, hl x]
    simp only [Nat.zero_add]
    exact div_coe_coe (total_pos M (x 1).isLt).ne' 1
  refine (ha.mul (hr.rows (by norm_num) h)).congr fun d t _ ht => ?_
  have hT := (total_pos (S := S) (fun _ => 0) ht).ne'
  have e : ∑ s ∈ Finset.range 2048, V s d * wt S M s t = Real.exp (-M t) * ∑ s ∈ Finset.range 2048, V s d * wt S (fun _ => 0) s t := by
    rw [Finset.mul_sum]; exact Finset.sum_congr rfl fun s _ => by rw [wt_shift M]; ring
  simp only [Nat.zero_add]
  rw [e, total_shift M, avg]
  field_simp

/-- The carried number plus the logarithm of the carried sum is the logarithm of the plain sum. -/
theorem Soft.log (hS : Soft S V 2048 0 2048 m l a) : At2 (addf m (Idealize.ShloMosaic.log l)) fun _ t => Real.log (total S (fun _ => 0) t) := by
  obtain ⟨M, hm, hl, -⟩ := hS
  have hr : At2 (Idealize.ShloMosaic.log l) fun _ t => Real.log (total S M t) := fun x => by
    show Ideal.log (l x) = _
    rw [hl x]
    simp only [Nat.zero_add]
    exact log_pos (total_pos M (x 1).isLt)
  refine (hm.add hr).congr fun _ t _ ht => ?_
  rw [total_shift M, Real.log_mul (Real.exp_pos _).ne' (total_pos _ ht).ne', Real.log_exp, Nat.zero_add]
  ring

end Quotient

section Written

theorem whole2 {m n : ℕ} {off : Fin 2 → ℕ} (e : off = ![0, 0]) {inb} {F : ℕ → ℕ → ℝ}
    {w : (Rect.unit (s := ⟨2, ![m, n]⟩) off ![m, n] inb).shape.Idx → Elt Ideal .f32} (hw : At2 (m := m) (n := n) w F) :
    At2 (m := m) (n := n) (View.canon [(⟨Rect.unit (s := ⟨2, ![m, n]⟩) off ![m, n] inb, w⟩ : View.Piece (Elt Ideal) (⟨2, ![m, n]⟩ : Shape) .f32)]) F := by
  subst e
  exact canon2 (R := fun a b (y : Elt Ideal .f32) => (y : EReal) = ((F a b : ℝ) : EReal))
    (fun y => (hw y).trans (by simp only [Nat.zero_add]))
    (fun x hx => absurd ⟨Nat.zero_le _, (x 0).isLt.trans_eq (Nat.zero_add m).symm, Nat.zero_le _, (x 1).isLt.trans_eq (Nat.zero_add n).symm⟩ hx)

theorem On4.row {r : ℕ} {D : ℕ → ℕ → ℕ → ℕ → Prop} {F : ℕ → ℕ → ℕ → ℕ → ℝ} {g : ℕ → ℝ} {off : Fin 4 → ℕ} (e : off = ![0, 0, r, 0]) {inb}
    {w : (Rect.unit (s := ⟨4, ![1, 1, 8, 2048]⟩) off ![1, 1, 1, 2048] inb).shape.Idx → Elt Ideal .f32}
    {L : List (View.Piece (Elt Ideal) (⟨4, ![1, 1, 8, 2048]⟩ : Shape) .f32)} (hw : At4 (k := 1) (l := 1) (m := 1) (n := 2048) w fun _ _ _ t => g t)
    (hg : ∀ t, t < 2048 → g t = F 0 0 r t)
    (hL : On4 (fun a b c d => ¬ (0 ≤ a ∧ a < 0 + 1 ∧ 0 ≤ b ∧ b < 0 + 1 ∧ r ≤ c ∧ c < r + 1 ∧ 0 ≤ d ∧ d < 0 + 2048) ∧ D a b c d) (View.canon L) F) :
    On4 D (View.canon ((⟨Rect.unit (s := ⟨4, ![1, 1, 8, 2048]⟩) off ![1, 1, 1, 2048] inb, w⟩ : View.Piece (Elt Ideal) (⟨4, ![1, 1, 8, 2048]⟩ : Shape) .f32) :: L)) F := by
  subst e
  refine On4.cons hw (fun a b c d ha hb hc hd => ?_) hL
  obtain rfl : a = 0 := by omega
  obtain rfl : b = 0 := by omega
  obtain rfl : c = 0 := by omega
  simpa only [Nat.zero_add, Nat.add_zero] using hg d hd

end Written

/-- The block of outputs: lane `j` belongs to head `j / 64` of the pair. -/
def outF (k ax q v : ℕ → ℕ → ℝ) (t j : ℕ) : ℝ := avg (sc k ax q (j / 64)) v j t

/-- The block of log-sum-exp: two rows are written, the others stay zero. -/
def lseF (k ax q : ℕ → ℕ → ℝ) (h t : ℕ) : ℝ := if h < 2 then Real.log (total (sc k ax q h) (fun _ => 0) t) else 0

section
variable (c : Dev nD) (i : grid0.Coords)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .bf16) (harg5 : arg5.IsWhole)
  (arg6 : Memref sig .tc .vmem S2048x128 .f32) (harg6 : arg6.IsWhole)
  (arg7 : Memref sig .tc .vmem S1x1x8x2048 .f32) (harg7 : arg7.IsWhole)
  (arg8 : Memref sig .tc .vmem S2x2048x128 .bf16) (harg8 : arg8.IsWhole)
  (arg9 : Memref sig .tc .vmem S2x2048x128 .bf16) (harg9 : arg9.IsWhole)
  (arg10 : Memref sig .tc .vmem S128x2048 .bf16) (harg10 : arg10.IsWhole)
  (x0 : Vec Ideal S2048x128 .bf16)
  (x1 : Vec Ideal S2048x128 .bf16)
  (x2 : Vec Ideal S2048x128 .bf16)
  (x3 : Vec Ideal S2048x128 .bf16)
  (hq : At2 (m := 2048) (n := 128) x0 q) (hk : At2 (m := 2048) (n := 128) x1 k)
  (hv : At2 (m := 2048) (n := 128) x2 v) (hx : At2 (m := 2048) (n := 128) x3 ax)

include hq hk hv hx in
/-- The outputs. -/
theorem out_4 : At2 (m := 2048) (n := 128) (out0_A_4 c i arg2 harg2 arg3 harg3 arg4 harg4 arg5 harg5 arg6 harg6 arg7 harg7 arg8 harg8 arg9 harg9 arg10 harg10 x0 x1 x2 x3) (outF k ax q v) := by
  unfold out0_A_4
  rw [View.read_writes_eq_canon _ _ _ (cover0_A_4 c i arg2 harg2 arg3 harg3 arg4 harg4 arg5 harg5 arg6 harg6 arg7 harg7 arg8 harg8 arg9 harg9 arg10 harg10 x0 x1 x2 x3)]
  unfold kernelRun0_A
  dsimp only
  refine whole2 (by decide) ((((soft_0_7 c i arg2 harg2 arg3 harg3 arg4 harg4 arg5 harg5 arg6 harg6 arg7 harg7 arg8 harg8 arg9 harg9 arg10 harg10 x0 x1 x2 x3 hq hk hv hx).quot broadcasts_S1x2048_S64x2048).concat ((soft_1_7 c i arg2 harg2 arg3 harg3 arg4 harg4 arg5 harg5 arg6 harg6 arg7 harg7 arg8 harg8 arg9 harg9 arg10 harg10 x0 x1 x2 x3 hq hk hv hx).quot broadcasts_S1x2048_S64x2048) (by norm_num)
    concatenates_S64x2048_S64x2048_S128x2048_d0).transpose transposes_S128x2048_p1_0_S2048x128 |>.congr fun t j _ hj => ?_)
  unfold outF
  split_ifs with h
  · rw [Nat.div_eq_of_lt h]
  · rw [show j / 64 = 1 by omega]
    unfold avg
    beta_reduce
    rw [show 64 + (j - 64) = j by omega]

include hq hk hv hx in
/-- The log-sum-exp. -/
theorem out_5 : At4 (k := 1) (l := 1) (m := 8) (n := 2048) (out0_A_5 c i arg2 harg2 arg3 harg3 arg4 harg4 arg5 harg5 arg6 harg6 arg7 harg7 arg8 harg8 arg9 harg9 arg10 harg10 x0 x1 x2 x3) fun _ _ h t => lseF k ax q h t := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3)]
  unfold kernelRun0_A
  dsimp only
  refine On4.full (On4.row (r := 1) (g := fun t => Real.log (total (sc k ax q 1) (fun _ => 0) t)) (by decide) ((soft_1_7 c i arg2 harg2 arg3 harg3 arg4 harg4 arg5 harg5 arg6 harg6 arg7 harg7 arg8 harg8 arg9 harg9 arg10 harg10 x0 x1 x2 x3 hq hk hv hx).log.unit4 shapeCasts_S1x2048_S1x1x1x2048) (fun t _ => by simp [lseF])
    (On4.row (r := 0) (g := fun t => Real.log (total (sc k ax q 0) (fun _ => 0) t)) (by decide) ((soft_0_7 c i arg2 harg2 arg3 harg3 arg4 harg4 arg5 harg5 arg6 harg6 arg7 harg7 arg8 harg8 arg9 harg9 arg10 harg10 x0 x1 x2 x3 hq hk hv hx).log.unit4 shapeCasts_S1x2048_S1x1x1x2048) (fun t _ => by simp [lseF])
    (On4.cleared (fun _ => zero_f32) ?_)))
  intro r s hr hs hD
  exact if_neg fun h => by
    have h1 := hD.1
    have h2 := hD.2.1
    omega

end

end AttFwd

end
-- ==== Proof.FwdResult.lean ====
/- The arrays the attention's forward pass writes, at real arguments: each block a grid point writes is the head outputs
   or the log-sum-exp of one pair of heads of one sequence. -/
module

public import proofs.«01_k».proof.Proof.FwdOut
public import proofs.«01_k».proof.Proof.Claim
public import proofs.«01_k».proof.Proof.Gen.AttFwdIdeal.Value
public import proofs.«01_k».proof.Proof.Gen.AttFwdRefIdeal.Read

@[expose] public section

set_option maxRecDepth 100000

noncomputable section

namespace AttFwd

open AttBwd Cert.AttFwdIdeal Cert.AttFwdIdeal.Gen
open Idealize.ShloMosaic hiding ix1 ix2 ix3 ix4 eq_ix2 eq_ix3 eq_ix4
open Idealize.ShloMosaic.TcCoe Idealize.ShloMosaic.ValueIdx Idealize.SL.Sem

/-! ### The softmax does not depend on the number subtracted from a row's scores -/

section Shift
variable {n w : ℕ} (Q K V : Fin n → Fin w → ℝ) (C M : Fin n → ℝ)

theorem ex_shift (t s : Fin n) : ex Q K C M t s = Real.exp (C t - M t) * ex Q K C C t s := by
  unfold ex
  split_ifs
  · rw [← Real.exp_add]; congr 1; ring
  · exact (mul_zero _).symm

theorem den_shift (t : Fin n) : den Q K C M t = Real.exp (C t - M t) * den Q K C C t := by
  unfold den
  rw [Finset.mul_sum]; exact Finset.sum_congr rfl fun s _ => ex_shift Q K C M t s

theorem out_shift (t : Fin n) (d : Fin w) : out Q K V C M t d = out Q K V C C t d := by
  unfold out
  refine Finset.sum_congr rfl fun s _ => ?_
  rw [ex_shift Q K C M, den_shift Q K C M, mul_div_mul_left _ _ (Real.exp_pos _).ne']

theorem lse_shift (t : Fin n) : lse Q K C M t = Real.log (den Q K C C t) := by
  unfold lse
  rw [den_shift Q K C M, Real.log_mul (Real.exp_pos _).ne' (den_ne _ _ _ _ _), Real.log_exp]
  ring

end Shift

/-! ### What the lanes of one head sum to -/

section Lanes
variable {q k v ax : ℕ → ℕ → ℝ} {h : ℕ} {C : Fin 2048 → ℝ}

theorem wt_ex (hh : h < 2) (H : Aux ax h C) (s t : Fin 2048) :
    wt (sc k ax q h) (fun _ => 0) s.val t.val = ex (own q h) (own k h) C C t s := by
  unfold wt ex
  refine ite_congr rfl (fun _ => congrArg _ ?_) fun _ => rfl
  unfold sc score
  rw [lanes_score hh H, Finset.sum_mul, Finset.sum_congr rfl fun d _ =>
    (by ring : own k h s d * (own q h t d * (1 / 8)) = own q h t d * own k h s d * (1 / 8))]
  ring

theorem total_den (hh : h < 2) (H : Aux ax h C) (t : Fin 2048) :
    total (sc k ax q h) (fun _ => 0) t.val = den (own q h) (own k h) C C t := by
  unfold total den
  rw [Finset.sum_range]; exact Finset.sum_congr rfl fun s _ => wt_ex hh H s t

theorem avg_out (hh : h < 2) (H : Aux ax h C) (t : Fin 2048) (d : Fin 64) :
    avg (sc k ax q h) v (64 * h + d.val) t.val = out (own q h) (own k h) (own v h) C C t d := by
  unfold avg out
  rw [total_den hh H, Finset.sum_range, Finset.sum_div]
  refine Finset.sum_congr rfl fun s _ => ?_
  rw [wt_ex hh H]
  unfold own
  ring

end Lanes

/-! ### One pair of heads of one sequence -/

section Block
variable (q k v : S8192x1024.Idx → ℝ) (c : S4x16x2048.Idx → ℝ) (b : Fin 4) (p : Fin 8)

theorem pair_out (t : Fin 2048) (l : Fin 128) : outF (colB b p k) (auxB c b p) (colB b p q) (colB b p v) t.val l.val
    = outR q k v c b (headOf p (half l)) t (lane l) := by
  have e := avg_out (q := colB b p q) (k := colB b p k) (v := colB b p v) (half l).isLt (auxB_aux c b p (half l)) t (lane l)
  rw [own_colB, own_colB, own_colB, lane_val] at e
  exact e.trans (out_shift _ _ _ _ _ _ _).symm

theorem pair_lse (r : Fin 8) (t : Fin 2048) : lseF (colB b p k) (auxB c b p) (colB b p q) r.val t.val
    = if h : r.val < 2 then lse (hd q b (headOf p ⟨r.val, h⟩)) (hd k b (headOf p ⟨r.val, h⟩)) (hdC c b (headOf p ⟨r.val, h⟩))
        (top q k c b (headOf p ⟨r.val, h⟩)) t else 0 := by
  unfold lseF
  split_ifs with h
  · have e := total_den (q := colB b p q) (k := colB b p k) h (auxB_aux c b p ⟨r.val, h⟩) t
    have eq := own_colB b p q ⟨r.val, h⟩
    have ek := own_colB b p k ⟨r.val, h⟩
    rw [lse_shift, e]
    exact congrArg Real.log (congrArg₂ (fun x y => den x y _ _ t) eq ek)
  · rfl

end Block

/-! ### The arrays the kernel is handed -/

section Entry
variable (m : (ℓ : Loc nD τ sig) → Buf (Elt Ideal) ℓ) (c : Dev nD)

theorem entry_v2 : V m c main_v2 = qkvArr (m ((c : Thread nD τ).loc main_arg0)) (m ((c : Thread nD τ).loc main_arg1)) (m ((c : Thread nD τ).loc main_arg2)) := by
  simp only [V, hostOps0, hostOps0_1, hostOps0_2, hostOps0_3, hostOps0_4, hostOps0_5, hostOps0_6, hostOps0_7, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

theorem entry_v35 : V m c main_v35 = auxArr (m ((c : Thread nD τ).loc main_arg3)) := by
  simp only [V, hostOps0, hostOps0_1, hostOps0_2, hostOps0_3, hostOps0_4, hostOps0_5, hostOps0_6, hostOps0_7, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

end Entry

/-! ### The blocks a grid point reads -/

/-- The sequence of a grid point, and its pair. -/
def seqOf (t : Fin cfg0.N) : Fin 4 := ⟨t.val / 8, by have : t.val < 32 := t.isLt; omega⟩
def pairOf (t : Fin cfg0.N) : Fin 8 := ⟨t.val % 8, by omega⟩

section Reads
variable (m : (ℓ : Loc nD τ sig) → Buf (Elt Ideal) ℓ) (d : Dev nD) (t : Fin cfg0.N)

theorem idx_0 : ∀ t : Fin cfg0.N, win0_0.index t = ![t.val / 8, t.val % 8] := by decide +kernel

theorem read_0 (i : Fin 2048) (j : Fin 128) : (iblk m d 0 t : S2048x128.Idx → EReal) (ix2 i j)
    = (V m d main_v2 : S8192x3072.Idx → EReal) (ix2 (rowOf (seqOf t) i) (⟨(pcol (pairOf t) j).val, by omega⟩ : Fin 3072)) := by
  refine congrArg (V m d main_v2) (ix2_of ?_ ?_)
  · exact (Pipeline.Window.rect_emb_val win0_0 t (ix2 i j) 0).trans (by rw [idx_0]; rfl)
  · refine (Pipeline.Window.rect_emb_val win0_0 t (ix2 i j) 1).trans ?_
    rw [idx_0]; show (t.val % 8) * 128 + j.val = t.val % 8 * 128 + j.val; omega

theorem idx_1 : ∀ t : Fin cfg0.N, win0_1.index t = ![t.val / 8, 8 + t.val % 8] := by decide +kernel

theorem read_1 (i : Fin 2048) (j : Fin 128) : (iblk m d 1 t : S2048x128.Idx → EReal) (ix2 i j)
    = (V m d main_v2 : S8192x3072.Idx → EReal) (ix2 (rowOf (seqOf t) i) (⟨1024 + (pcol (pairOf t) j).val, by omega⟩ : Fin 3072)) := by
  refine congrArg (V m d main_v2) (ix2_of ?_ ?_)
  · exact (Pipeline.Window.rect_emb_val win0_1 t (ix2 i j) 0).trans (by rw [idx_1]; rfl)
  · refine (Pipeline.Window.rect_emb_val win0_1 t (ix2 i j) 1).trans ?_
    rw [idx_1]; show ((8 + t.val % 8)) * 128 + j.val = 1024 + (t.val % 8 * 128 + j.val); omega

theorem idx_2 : ∀ t : Fin cfg0.N, win0_2.index t = ![t.val / 8, 16 + t.val % 8] := by decide +kernel

theorem read_2 (i : Fin 2048) (j : Fin 128) : (iblk m d 2 t : S2048x128.Idx → EReal) (ix2 i j)
    = (V m d main_v2 : S8192x3072.Idx → EReal) (ix2 (rowOf (seqOf t) i) (⟨2048 + (pcol (pairOf t) j).val, by omega⟩ : Fin 3072)) := by
  refine congrArg (V m d main_v2) (ix2_of ?_ ?_)
  · exact (Pipeline.Window.rect_emb_val win0_2 t (ix2 i j) 0).trans (by rw [idx_2]; rfl)
  · refine (Pipeline.Window.rect_emb_val win0_2 t (ix2 i j) 1).trans ?_
    rw [idx_2]; show ((16 + t.val % 8)) * 128 + j.val = 2048 + (t.val % 8 * 128 + j.val); omega

theorem idx_3 : ∀ t : Fin cfg0.N, win0_3.index t = ![t.val / 8, t.val % 8] := by decide +kernel

theorem read_3 (i : Fin 2048) (j : Fin 128) : (iblk m d 3 t : S2048x128.Idx → EReal) (ix2 i j)
    = (V m d main_v35 : S8192x1024.Idx → EReal) (ix2 (rowOf (seqOf t) i) (pcol (pairOf t) j)) := by
  refine congrArg (V m d main_v35) (ix2_of ?_ ?_)
  · exact (Pipeline.Window.rect_emb_val win0_3 t (ix2 i j) 0).trans (by rw [idx_3]; rfl)
  · refine (Pipeline.Window.rect_emb_val win0_3 t (ix2 i j) 1).trans ?_
    rw [idx_3]; show (t.val % 8) * 128 + j.val = t.val % 8 * 128 + j.val; omega

end Reads

variable {q k v : S8192x1024.Idx → ℝ} {c : S4x16x2048.Idx → ℝ} {m : (ℓ : Loc nD τ sig) → Buf (Elt Ideal) ℓ} {d : Dev nD}

/-- The arguments on a device are these reals. -/
structure Args (m : (ℓ : Loc nD τ sig) → Buf (Elt Ideal) ℓ) (d : Dev nD) (q k v : S8192x1024.Idx → ℝ)
    (c : S4x16x2048.Idx → ℝ) : Prop where
  q : m ((d : Thread nD τ).loc main_arg0) = up q
  k : m ((d : Thread nD τ).loc main_arg1) = up k
  v : m ((d : Thread nD τ).loc main_arg2) = up v
  c : m ((d : Thread nD τ).loc main_arg3) = up c

section In
variable (H : Args m d q k v c) (t : Fin cfg0.N)
include H

theorem in_0 : At2 (m := 2048) (n := 128) (iblk m d 0 t) (colB (seqOf t) (pairOf t) q) := at2_of _ fun i j => by
  rw [read_0, entry_v2, H.q, H.k, H.v, qkv_q, pcol_eq]; rfl

theorem in_1 : At2 (m := 2048) (n := 128) (iblk m d 1 t) (colB (seqOf t) (pairOf t) k) := at2_of _ fun i j => by
  rw [read_1, entry_v2, H.q, H.k, H.v, qkv_k, pcol_eq]; rfl

theorem in_2 : At2 (m := 2048) (n := 128) (iblk m d 2 t) (colB (seqOf t) (pairOf t) v) := at2_of _ fun i j => by
  rw [read_2, entry_v2, H.q, H.k, H.v, qkv_v, pcol_eq]; rfl

theorem in_3 : At2 (m := 2048) (n := 128) (iblk m d 3 t) (auxB c (seqOf t) (pairOf t)) := at2_of _ fun i j => by
  rw [read_3, entry_v35, H.c]
  exact aux_at c _ _ _ _

end In

/-! ### The blocks it writes, and the arrays -/

theorem widx_4 : ∀ t : Fin cfg0.N, win0_4.index t = ![t.val / 8, t.val % 8] := by decide +kernel
theorem widx_5 : ∀ t : Fin cfg0.N, win0_5.index t = ![t.val / 8, t.val % 8, 0, 0] := by decide +kernel

theorem place_4 (t : Fin cfg0.N) (y : S2048x128.Idx) : (((cfg0.win 4).blk t).view.emb y : S8192x1024.Idx)
    = ix2 (rowOf (seqOf t) (y 0)) (colOf (headOf (pairOf t) (half (y 1))) (lane (y 1))) := by
  refine (ix2_of (r := rowOf (seqOf t) (y 0)) (c := pcol (pairOf t) (y 1)) ?_ ?_).trans (congrArg _ (pcol_eq _ _))
  · exact (Pipeline.Window.rect_emb_val win0_4 t y 0).trans (by rw [widx_4]; rfl)
  · exact (Pipeline.Window.rect_emb_val win0_4 t y 1).trans (by rw [widx_4]; rfl)

theorem emb_5_0 (t : Fin cfg0.N) (y : S1x1x8x2048.Idx) : ((((cfg0.win 5).blk t).view.emb y) 0).val = t.val / 8 := by
  refine (Pipeline.Window.rect_emb_val win0_5 t y 0).trans ?_
  have : (y 0).val < 1 := (y 0).isLt
  rw [widx_5]; show t.val / 8 * 1 + (y 0).val = t.val / 8; omega

theorem emb_5_1 (t : Fin cfg0.N) (y : S1x1x8x2048.Idx) : ((((cfg0.win 5).blk t).view.emb y) 1).val = t.val % 8 := by
  refine (Pipeline.Window.rect_emb_val win0_5 t y 1).trans ?_
  have : (y 1).val < 1 := (y 1).isLt
  rw [widx_5]; show t.val % 8 * 1 + (y 1).val = t.val % 8; omega

theorem place_5 (t : Fin cfg0.N) (y : S1x1x8x2048.Idx) : (((cfg0.win 5).blk t).view.emb y : S4x8x8x2048.Idx)
    = ix4 (seqOf t) (pairOf t) (y 2) (y 3) :=
  ix4_of (emb_5_0 t y) (emb_5_1 t y) (Pipeline.Window.rect_emb_val_of_index_zero win0_5 t 2 (by rw [widx_5]; rfl) y)
    (Pipeline.Window.rect_emb_val_of_index_zero win0_5 t 3 (by rw [widx_5]; rfl) y)

theorem comp_4 (t : Fin cfg0.N) : (outsAt0 m d t).1 = out0_A_4 d (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m d 0 t) (iblk m d 1 t) (iblk m d 2 t) (iblk m d 3 t) := by
  simp only [outsAt0]

theorem comp_5 (t : Fin cfg0.N) : (outsAt0 m d t).2 = out0_A_5 d (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m d 0 t) (iblk m d 1 t) (iblk m d 2 t) (iblk m d 3 t) := by
  simp only [outsAt0]

variable (H : Args m d q k v c)
include H

/-- The head outputs: what a grid point writes, and the whole array. -/
theorem out_at_4 (t : Fin cfg0.N) (i : Fin 2048) (j : Fin 128) : out0_A_4 d (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m d 0 t) (iblk m d 1 t) (iblk m d 2 t) (iblk m d 3 t) (ix2 i j)
    = ((outF (colB (seqOf t) (pairOf t) k) (auxB c (seqOf t) (pairOf t)) (colB (seqOf t) (pairOf t) q) (colB (seqOf t) (pairOf t) v) i.val j.val : ℝ) : EReal) :=
  at2_at (out_4 d (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m d 0 t) (iblk m d 1 t) (iblk m d 2 t) (iblk m d 3 t) (in_0 H t) (in_1 H t) (in_2 H t) (in_3 H t)) i j

theorem point_4 (t : Fin cfg0.N) (i : Fin 2048) (j : Fin 128) : (outsAt0 m d t).1 (ix2 i j)
    = Cert.ReferenceIdeal.Read.val_main_v53 (F := Ideal) (up q) (up k) (up v) (up c) (ix2 (rowOf (seqOf t) i) (colOf (headOf (pairOf t) (half j)) (lane j))) := by
  rw [comp_4, out_at_4 H t, pair_out]
  exact (out_v53 q k v c _ _ _ _).symm

theorem res_4 : (dats m 0 d).arrAt 4 cfg0.N = Cert.ReferenceIdeal.Read.val_main_v53 (F := Ideal) (up q) (up k) (up v) (up c) := by
  refine (dats m 0 d).arrAt_eq_of_covers 4 _ (by decide +kernel) fun t hf y => ?_
  blk_simp
  rw [after0_4]
  exact (congrArg _ (eq_ix2 y)).trans ((point_4 H t (y 0) (y 1)).trans (congrArg _ (place_4 t y).symm))

/-- The log-sum-exp: what a grid point writes, and the whole array. -/
theorem out_at_5 (t : Fin cfg0.N) (i j : Fin 1) (r : Fin 8) (s : Fin 2048) : out0_A_5 d (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m d 0 t) (iblk m d 1 t) (iblk m d 2 t) (iblk m d 3 t) (ix4 i j r s)
    = ((lseF (colB (seqOf t) (pairOf t) k) (auxB c (seqOf t) (pairOf t)) (colB (seqOf t) (pairOf t) q) r.val s.val : ℝ) : EReal) :=
  at4_at (out_5 d (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m d 0 t) (iblk m d 1 t) (iblk m d 2 t) (iblk m d 3 t) (in_0 H t) (in_1 H t) (in_2 H t) (in_3 H t)) i j r s

theorem point_5 (t : Fin cfg0.N) (i j : Fin 1) (r : Fin 8) (s : Fin 2048) : (outsAt0 m d t).2 (ix4 i j r s)
    = lseArr (up q) (up k) (up c) (ix4 (seqOf t) (pairOf t) r s) := by
  rw [comp_5, out_at_5 H t, pair_lse]
  exact (lse_at q k c _ _ _ _).symm

theorem res_5 : (dats m 0 d).arrAt 5 cfg0.N = lseArr (up q) (up k) (up c) := by
  refine (dats m 0 d).arrAt_eq_of_covers 5 _ (by decide +kernel) fun t hf y => ?_
  blk_simp
  rw [after0_5]
  exact (congrArg _ (eq_ix4 y)).trans ((point_5 H t (y 0) (y 1) (y 2) (y 3)).trans (congrArg _ (place_5 t y).symm))

end AttFwd

end
-- ==== Proof.FwdClaim.lean ====
/- The value claim of the attention's forward pass: from finite arguments, the kernel's head outputs and log-sum-exp are
   the reference's. -/
module

public import proofs.«01_k».proof.Defs
public import proofs.«01_k».proof.Proof.Gen.Pre_finite_fwd
public import proofs.«01_k».proof.Proof.FwdResult

@[expose] public section

set_option maxRecDepth 100000

noncomputable section

namespace AttFwd

open AttBwd
open Idealize.ShloMosaic Idealize.ShloMosaic.TcCoe Idealize.SL.Sem

/-- The precondition on the kernel's arguments: on each device they are reals. -/
theorem args_of {m : (ℓ : Loc Cert.AttFwdIdeal.nD Cert.AttFwdIdeal.τ Cert.AttFwdIdeal.sig) → Buf (Elt Ideal) ℓ}
    (h : Cert.Pre_AttFwdIdeal_finite_fwd m) (d : Dev Cert.AttFwdIdeal.nD) :
    Args m d (fun i => (m ((d.tc : Thread Cert.AttFwdIdeal.nD Cert.AttFwdIdeal.τ).loc Cert.AttFwdIdeal.main_arg0) i).toReal) (fun i => (m ((d.tc : Thread Cert.AttFwdIdeal.nD Cert.AttFwdIdeal.τ).loc Cert.AttFwdIdeal.main_arg1) i).toReal)
      (fun i => (m ((d.tc : Thread Cert.AttFwdIdeal.nD Cert.AttFwdIdeal.τ).loc Cert.AttFwdIdeal.main_arg2) i).toReal) (fun i => (m ((d.tc : Thread Cert.AttFwdIdeal.nD Cert.AttFwdIdeal.τ).loc Cert.AttFwdIdeal.main_arg3) i).toReal) :=
  ⟨real_of (h d).1, real_of (h d).2.1, real_of (h d).2.2.1, real_of (h d).2.2.2⟩

section Reference
variable (x0 x1 x2 : FVec Ideal Cert.AttFwdRefIdeal.S8192x1024 .f32) (x3 : FVec Ideal Cert.AttFwdRefIdeal.S4x16x2048 .f32)

/-- The head outputs are the expression the backward pass differentiates. -/
theorem ref_out : Cert.AttFwdRefIdeal.Read.val_main_v45 (F := Ideal) x0 x1 x2 x3 = Cert.ReferenceIdeal.Read.val_main_v53 (F := Ideal) x0 x1 x2 x3 := rfl

/-- The log-sum-exp rows are those the backward pass is handed. -/
theorem ref_lse : Cert.AttFwdRefIdeal.Read.val_main_v47 (F := Ideal) x0 x1 x3 = lseArr x0 x1 x3 := rfl

end Reference

section Same
variable {m' : (ℓ : Loc Cert.AttFwdRefIdeal.nD Cert.AttFwdRefIdeal.τ Cert.AttFwdRefIdeal.sig) → Buf (Elt Ideal) ℓ} {d : Dev Cert.AttFwdRefIdeal.nD}
  {m : (ℓ : Loc Cert.AttFwdIdeal.nD Cert.AttFwdIdeal.τ Cert.AttFwdIdeal.sig) → Buf (Elt Ideal) ℓ}
  {q k v : Cert.AttFwdRefIdeal.S8192x1024.Idx → ℝ} {c : Cert.AttFwdRefIdeal.S4x16x2048.Idx → ℝ} (H : Args m d q k v c)
  (h0 : m' ((d.tc : Thread Cert.AttFwdRefIdeal.nD Cert.AttFwdRefIdeal.τ).loc Cert.AttFwdRefIdeal.main_arg0) = up q) (h1 : m' ((d.tc : Thread Cert.AttFwdRefIdeal.nD Cert.AttFwdRefIdeal.τ).loc Cert.AttFwdRefIdeal.main_arg1) = up k)
  (h2 : m' ((d.tc : Thread Cert.AttFwdRefIdeal.nD Cert.AttFwdRefIdeal.τ).loc Cert.AttFwdRefIdeal.main_arg2) = up v) (h3 : m' ((d.tc : Thread Cert.AttFwdRefIdeal.nD Cert.AttFwdRefIdeal.τ).loc Cert.AttFwdRefIdeal.main_arg3) = up c)
include H h0 h1 h3

include h2 in
theorem same_4 : Cert.AttFwdRefIdeal.Value.res_main_v45 (F := Ideal) m' d = (Cert.AttFwdIdeal.Gen.dats m 0 d).arrAt 4 Cert.AttFwdIdeal.cfg0.N :=
  ((Cert.AttFwdRefIdeal.Read.val_main_v45_eq m' d).trans ((congr4 _ h0 h1 h2 h3).trans (ref_out _ _ _ _))).trans (res_4 H).symm

theorem same_5 : Cert.AttFwdRefIdeal.Value.res_main_v47 (F := Ideal) m' d = (Cert.AttFwdIdeal.Gen.dats m 0 d).arrAt 5 Cert.AttFwdIdeal.cfg0.N := by
  refine ((Cert.AttFwdRefIdeal.Read.val_main_v47_eq m' d).trans (?_ : _ = lseArr (up q) (up k) (up c))).trans (res_5 H).symm
  rw [h0, h1, h3]; exact ref_lse _ _ _

end Same

/-- Both programs run, and from equal finite arguments the head outputs and the log-sum-exp are equal. -/
theorem algebraic : Cert.algebraic_AttFwdIdeal_AttFwdRefIdeal_pre_finite_fwd (hAttFwdIdeal := Cert.AttFwdIdeal.Gen.facts)
    (hAttFwdRefIdeal := Cert.AttFwdRefIdeal.Gen.facts) (hPre_finite_fwd := Cert.Pre_finite_fwd.Gen.facts) := by
  intro m g m' g' hpre hargs
  refine ⟨fun c => (Cert.AttFwdIdeal.Gen.dats m 0 c).arrAt 4 Cert.AttFwdIdeal.cfg0.N, fun c => (Cert.AttFwdIdeal.Gen.dats m 0 c).arrAt 5 Cert.AttFwdIdeal.cfg0.N,
    Cert.AttFwdIdeal.Value.run_blocks m g, ?_⟩
  refine (θ_run (Cert.AttFwdRefIdeal.defs (F := Ideal)) _ _).mono (fun r h c => ?_) (Cert.AttFwdRefIdeal.Value.run (F := Ideal) m' g')
  obtain ⟨r0, r1, kept⟩ := h c
  have H := args_of hpre c
  have e0 := (hargs c).1.trans H.q
  have e1 := (hargs c).2.1.trans H.k
  have e2 := (hargs c).2.2.1.trans H.v
  have e3 := (hargs c).2.2.2.trans H.c
  exact ⟨r0.trans (same_4 H e0 e1 e2 e3), r1.trans (same_5 H e0 e1 e3), kept⟩

/-- The reference leaves its arguments as they were; it declares no semaphore. -/
theorem ref_frame : Cert.quiescent_AttFwdRefIdeal (hAttFwdRefIdeal := Cert.AttFwdRefIdeal.Gen.facts) := fun m g _ =>
  (θ_run (Cert.AttFwdRefIdeal.defs (F := Ideal)) _ _).mono (fun r h => ⟨fun c => (h c).2.2, sem_eq_zero_of_no_sems (by decide) r.2⟩)
    (Cert.AttFwdRefIdeal.Value.run (F := Ideal) m g)

end AttFwd

end
-- ==== Proof.InDtf.lean ====
/- The forward product with the gates' columns of the input projection: dt, the forget gates, and columns of padding. -/
module

public import proofs.«01_k».proof.Proof.FwdClaim
public import proofs.«01_k».proof.Proof.Gen.InDtfIdeal.Value
public import proofs.«01_k».proof.Proof.Gen.InDtfRefIdeal.Read

@[expose] public section

set_option maxRecDepth 100000

noncomputable section

namespace InDtf

open Cert.InDtfIdeal Cert.InDtfIdeal.Gen Products
open Idealize.ShloMosaic hiding ix2 ix3 ix4 eq_ix2 eq_ix3 eq_ix4
open Idealize.ShloMosaic.TcCoe Idealize.ShloMosaic.ValueIdx Idealize.SL.Sem

variable (m : (ℓ : Loc nD τ sig) → Buf (Elt Ideal) ℓ) (d : Dev nD) (t : Fin cfg0.N)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

abbrev rows : S8192x1024.Idx → EReal := m ((d : Thread nD τ).loc main_arg0)
abbrev weights : S1024x128.Idx → EReal := m ((d : Thread nD τ).loc main_arg1)

/-- The rows and the turned weights as the region finds them. -/
theorem entry_0 : (V m d main_v0 : S8192x1024.Idx → EReal) = rows m d := by
  simp [V, hostOps0]
  after_results_simp; rfl

theorem entry_1 : (V m d main_v2 : S128x1024.Idx → EReal)
    = transpose S128x1024 [1, 0] (weights m d) transposes_S1024x128_S128x1024_1_0 := by
  simp [V, hostOps0]
  after_results_simp; rfl

/-- What a grid point reads of them. -/
theorem read_0 (i : Fin 2048) (k : Fin 1024) : (iblk m d 0 t : S2048x1024.Idx → EReal) (ix2 i k)
    = at2 (rows m d) (t.val * 2048 + i.val) k.val := by
  refine Eq.trans ?_ (at2_eq (entry_0 m d))
  refine at2_of (V m d main_v0) _ ?_ ?_
  · exact (emb win0_0 t (ix2 i k) 0).trans (by rw [idx_0]; rfl)
  · exact emb_zero win0_0 t 1 (by rw [idx_0]; rfl) (ix2 i k)

theorem read_1 (j : Fin 128) (k : Fin 1024) : (iblk m d 1 t : S128x1024.Idx → EReal) (ix2 j k)
    = at2 (weights m d) k.val j.val := by
  refine Eq.trans (congrFun (entry_1 m d) _) (turned (weights m d) transposes_S1024x128_S128x1024_1_0 _ ?_ ?_)
  · exact emb_zero win0_1 t 0 (by rw [idx_1]; rfl) (ix2 j k)
  · exact emb_zero win0_1 t 1 (by rw [idx_1]; rfl) (ix2 j k)

/-- What a grid point writes. -/
theorem point (y : S2048x128.Idx) : (out0_2 (iblk m d 0 t) (iblk m d 1 t) : S2048x128.Idx → EReal) y
    = ∑ k : Fin 1024, at2 (rows m d) (t.val * 2048 + (y 0).val) k.val * at2 (weights m d) k.val (y 1).val := by
  unfold out0_2
  rw [View.canon_unit_zero origin, ld_whole, ld_whole]
  unfold k0_pay1
  dsimp only
  rw [shapeCast_self, shapeCast_self]
  exact matmul_turned (R := 8192) (M := 2048) (K := 1024) (N := 128) (φ₁ := .bf16) (φ₂ := .bf16) (iblk m d 0 t) (iblk m d 1 t) (rows m d)
    (weights m d) (t.val * 2048) (read_0 m d t) (read_1 m d t) y

/-- The whole array. -/
theorem result : (dats m 0 d).arrAt 2 cfg0.N = Cert.InDtfRefIdeal.Read.val_main_v0 (F := Ideal) (rows m d) (weights m d) := by
  refine (dats m 0 d).arrAt_eq_of_covers 2 _ (by decide +kernel) fun t hf y => ?_
  blk_simp
  rw [after0_2]
  refine (point m d t y).trans (Eq.symm ((Cert.InDtfRefIdeal.Read.val_main_v0_apply _ _ _).trans ?_))
  refine Finset.sum_congr rfl fun k _ => hm (at2_of _ _ ?_ rfl) (at2_of _ _ rfl ?_)
  · exact (emb win0_2 t y 0).trans (by rw [idx_2]; rfl)
  · exact emb_zero win0_2 t 1 (by rw [idx_2]; rfl) y

theorem algebraic : Cert.algebraic_InDtfIdeal_InDtfRefIdeal (hInDtfIdeal := Cert.InDtfIdeal.Gen.facts)
    (hInDtfRefIdeal := Cert.InDtfRefIdeal.Gen.facts) := by
  intro m g m' g' _ hargs
  refine ⟨fun d => (Gen.dats m 0 d).arrAt 2 cfg0.N, Value.run_blocks m g, ?_⟩
  refine (θ_run (Cert.InDtfRefIdeal.defs (F := Ideal)) _ _).mono (fun r h d => ?_) (Cert.InDtfRefIdeal.Value.run (F := Ideal) m' g')
  refine ⟨(h d).1.trans ?_, (h d).2⟩
  rw [(hargs d).1, (hargs d).2]
  exact (result m d).symm

/-- Every execution of the reference ends, its arguments unchanged. -/
theorem ref_frame : Cert.quiescent_InDtfRefIdeal (hInDtfRefIdeal := Cert.InDtfRefIdeal.Gen.facts) := fun m g _ =>
  (θ_run (Cert.InDtfRefIdeal.defs (F := Ideal)) _ _).mono (fun r h => ⟨fun d => (h d).2, sem_eq_zero_of_no_sems (by decide) r.2⟩)
    (Cert.InDtfRefIdeal.Value.run (F := Ideal) m g)

end InDtf

end
-- ==== Proof.GradDtf.lean ====
/- The gradient of the gates' columns of the input projection's weights, in one block of 128 columns. -/
module

public import proofs.«01_k».proof.Proof.InDtf
public import proofs.«01_k».proof.Proof.Gen.GradDtfIdeal.Value
public import proofs.«01_k».proof.Proof.Gen.GradDtfRefIdeal.Read

@[expose] public section

set_option maxRecDepth 100000

noncomputable section

namespace GradDtf

open Cert.GradDtfIdeal Cert.GradDtfIdeal.Gen Products Cert.GradDtfRefIdeal.Read
open Idealize.ShloMosaic hiding ix2 ix3 ix4 eq_ix2 eq_ix3 eq_ix4
open Idealize.ShloMosaic.TcCoe Idealize.ShloMosaic.ValueIdx Idealize.SL.Sem

section Step

variable (c : Dev nD) (i : grid0.Coords) (a3 : Memref sig .tc .vmem S2048x128 .bf16) (h3 : a3.IsWhole)
  (a4 : Memref sig .tc .vmem S2048x1024 .bf16) (h4 : a4.IsWhole) (a5 : Memref sig .tc .vmem S128x1024 .bf16) (h5 : a5.IsWhole)
  (a6 : Memref sig .tc .vmem S128x1024 .f32) (h6 : a6.IsWhole) (x0 : Vec Ideal S2048x128 .bf16)
  (x1 : Vec Ideal S2048x1024 .bf16) (acc : Vec Ideal S128x1024 .f32)

/-- One run's products added to what the scratch holds. -/
theorem step (y : S128x1024.Idx) : (k0_pay2 acc x0 x1 : S128x1024.Idx → EReal) y
    = (acc y : EReal) + ∑ k : Fin 2048, (x0 (ix2 k (y 0)) : EReal) * (x1 (ix2 k (y 1)) : EReal) := by
  unfold k0_pay2
  simp only [shapeCast_self]
  exact congrArg (fun a : EReal => (acc y : EReal) + a) (matmul_tn (M := 128) (K := 2048) (N := 1024) (φ₁ := .bf16) (φ₂ := .bf16) x0 x1 y)

/-- What the scratch holds after a run: the first starts from zero, … -/
theorem scratch_A (h0 h1) (y : S128x1024.Idx) : (sout0_A_0 c i a3 h3 a4 h4 a5 h5 a6 h6 h0 h1 x0 x1 : S128x1024.Idx → EReal) y
    = ∑ k : Fin 2048, (x0 (ix2 k (y 0)) : EReal) * (x1 (ix2 k (y 1)) : EReal) := by
  unfold sout0_A_0
  rw [View.read_writes_junk_eq_canon]
  unfold kernelRun0_A
  dsimp only
  sl_unfold_words
  rw [View.canon_cons_unit_zero origin, View.readCov_unit_zero _ origin]
  simp only [View.readAt_eq_ld, h3.read_unread, h4.read_unread, ld_whole]
  rw [step]
  exact (congrArg (fun a : EReal => a + _) AttBwd.zero_f32).trans (zero_add _)

/-- … the others from what the one before left, … -/
theorem scratch_B (h0 h1) : sout0_B_0 c i a3 h3 a4 h4 a5 h5 a6 h6 h0 h1 x0 x1 acc = k0_pay2 acc x0 x1 := by
  unfold sout0_B_0
  rw [View.read_writes_junk_eq_canon]
  unfold kernelRun0_B
  dsimp only
  rw [View.canon_unit_zero origin]
  simp only [View.readAt_eq_ld, h3.read_unread, h4.read_unread, h6.read_unread, ld_whole]

theorem scratch_C (h0 h1) : sout0_C_0 c i a3 h3 a4 h4 a5 h5 a6 h6 h0 h1 x0 x1 acc = k0_pay2 acc x0 x1 := by
  unfold sout0_C_0
  rw [View.read_writes_junk_eq_canon]
  unfold kernelRun0_C
  dsimp only
  sl_unfold_words
  rw [View.canon_unit_zero origin]
  simp only [View.readAt_eq_ld, h3.read_unread, h4.read_unread, h6.read_unread, ld_whole]

/-- … and the last writes it out. -/
theorem out_C (h0 h1) : (out0_C_2 c i a3 h3 a4 h4 a5 h5 a6 h6 h0 h1 x0 x1 acc : S128x1024.Idx → EReal)
    = sout0_C_0 c i a3 h3 a4 h4 a5 h5 a6 h6 h0 h1 x0 x1 acc := by
  rw [scratch_C]
  unfold out0_C_2
  rw [View.read_writes_junk_eq_canon]
  unfold kernelRun0_C
  dsimp only
  sl_unfold_words
  rw [View.canon_unit_zero origin, View.readCov_unit_zero _ origin]
  simp only [View.readAt_eq_ld, h3.read_unread, h4.read_unread, h6.read_unread, ld_whole]
  rfl

end Step

variable (m : (ℓ : Loc nD τ sig) → Buf (Elt Ideal) ℓ) (d : Dev nD) (t : Fin cfg0.N)

theorem idx_0 : ∀ t : Fin cfg0.N, win0_0.index t = ![t.val % 4, t.val / 4] := by decide +kernel
theorem idx_1 : ∀ t : Fin cfg0.N, win0_1.index t = ![t.val % 4, 0] := by decide +kernel
theorem idx_2 : ∀ t : Fin cfg0.N, win0_2.index t = ![t.val / 4, 0] := by decide +kernel

/-- The arguments as the region finds them. -/
theorem entry_ct : (V m d main_v0 : S8192x128.Idx → EReal) = m ((d : Thread nD τ).loc main_arg0) := by
  simp [V, hostOps0]
  after_results_simp; rfl

theorem entry_h : (V m d main_v1 : S8192x1024.Idx → EReal) = m ((d : Thread nD τ).loc main_arg1) := by
  simp [V, hostOps0]
  after_results_simp; rfl

/-- The two arguments, and a term of the product of their columns. -/
abbrev ct : S8192x128.Idx → EReal := m ((d : Thread nD τ).loc main_arg0)
abbrev h1 : S8192x1024.Idx → EReal := m ((d : Thread nD τ).loc main_arg1)
abbrev term (y : S128x1024.Idx) (j x : ℕ) : EReal := at2 (ct m d) x (j * 128 + (y 0).val) * at2 (h1 m d) x (y 1).val

/-- What a grid point reads of them. -/
abbrev block_0 : S2048x128.Idx → EReal := iblk m d 0 t
abbrev block_1 : S2048x1024.Idx → EReal := iblk m d 1 t

theorem read_0 (k : Fin 2048) (j : Fin 128) : block_0 m d t (ix2 k j)
    = at2 (ct m d) (t.val % 4 * 2048 + k.val) (t.val / 4 * 128 + j.val) := by
  refine Eq.trans ?_ (at2_eq (entry_ct m d))
  refine at2_of (V m d main_v0) _ ?_ ?_
  · exact (emb win0_0 t (ix2 k j) 0).trans (by rw [idx_0]; rfl)
  · exact (emb win0_0 t (ix2 k j) 1).trans (by rw [idx_0]; rfl)

theorem read_1 (k : Fin 2048) (j : Fin 1024) : block_1 m d t (ix2 k j)
    = at2 (h1 m d) (t.val % 4 * 2048 + k.val) j.val := by
  refine Eq.trans ?_ (at2_eq (entry_h m d))
  refine at2_of (V m d main_v1) _ ?_ ?_
  · exact (emb win0_1 t (ix2 k j) 0).trans (by rw [idx_1]; rfl)
  · exact emb_zero win0_1 t 1 (by rw [idx_1]; rfl) (ix2 k j)

/-- The products a grid point forms. -/
theorem run_sum (y : S128x1024.Idx) :
    ∑ k : Fin 2048, block_0 m d t (ix2 k (y 0)) * block_1 m d t (ix2 k (y 1))
      = ∑ k : Fin 2048, term m d y (t.val / 4) (t.val % 4 * 2048 + k.val) :=
  Finset.sum_congr rfl fun k _ => hm (read_0 m d t k (y 0)) (read_1 m d t k (y 1))

/-- What the scratch holds after a point. -/
def held (n : ℕ) (h : n < cfg0.N) : S128x1024.Idx → EReal := (outsAt0 m d n h).2

theorem held_first (h : t.val % 4 = 0) (y : S128x1024.Idx) :
    held m d t.val t.isLt y = ∑ k : Fin 2048, term m d y (t.val / 4) (t.val % 4 * 2048 + k.val) := by
  unfold held
  rw [outsAt0_A m d t h (by omega)]
  dsimp only
  exact (scratch_A ..).trans (run_sum m d t y)

theorem held_next (h : t.val % 4 ≠ 0) (h' : t.val - 1 < cfg0.N) (y : S128x1024.Idx) :
    held m d t.val t.isLt y
      = held m d (t.val - 1) h' y + ∑ k : Fin 2048, term m d y (t.val / 4) (t.val % 4 * 2048 + k.val) := by
  rw [← run_sum m d t y]
  unfold held
  by_cases h1 : t.val % 4 = 3
  · rw [outsAt0_C m d t h h1]
    dsimp only
    rw [scratch_C]
    exact step ..
  · rw [outsAt0_B m d t h h1]
    dsimp only
    rw [scratch_B]
    exact step ..

/-- What a writing point writes: the sum over all rows. -/
theorem point (h : t.val % 4 = 3) (y : S128x1024.Idx) : ((outsAt0 m d t.val t.isLt).1 : S128x1024.Idx → EReal) y
    = ∑ x : Fin 8192, term m d y (t.val / 4) x.val := by
  refine Eq.trans ?_ (sum_of_four (fun n hn => held m d n hn y) (term m d y) (fun n hn e => held_first m d ⟨n, hn⟩ e y)
    (fun n hn hn' e => held_next m d ⟨n, hn⟩ e hn' y) t.val t.isLt h)
  unfold held
  rw [outsAt0_C m d t (by omega) h]
  dsimp only
  rw [out_C]

/-- The whole array. -/
theorem result : (dats m 0 d).arrAt 2 cfg0.N
    = val_main_v5 (F := Ideal) (m ((d : Thread nD τ).loc main_arg0)) (m ((d : Thread nD τ).loc main_arg1)) := by
  refine (dats m 0 d).arrAt_eq_of_covers 2 _ (by decide +kernel) fun t hf y => ?_
  blk_simp
  rw [after0_2]
  refine (point m d t ((flush0_2 t).mp hf) y).trans (Eq.symm ?_)
  refine (val_main_v5_apply _ _ _).trans ((val_main_v4_apply _ _ _).trans ((val_main_v3_apply _ _ _).trans
    ((val_main_v2_apply _ _ _).trans (Finset.sum_congr rfl fun k _ => ?_))))
  refine hm (at2_of _ _ rfl ?_) (at2_of _ _ rfl ?_)
  · exact (emb win0_2 t y 0).trans (by rw [idx_2]; rfl)
  · exact emb_zero win0_2 t 1 (by rw [idx_2]; rfl) y

theorem algebraic : Cert.algebraic_GradDtfIdeal_GradDtfRefIdeal (hGradDtfIdeal := Cert.GradDtfIdeal.Gen.facts)
    (hGradDtfRefIdeal := Cert.GradDtfRefIdeal.Gen.facts) := by
  intro m g m' g' _ hargs
  refine ⟨fun d => (Gen.dats m 0 d).arrAt 2 cfg0.N, Value.run_blocks m g, ?_⟩
  refine (θ_run (Cert.GradDtfRefIdeal.defs (F := Ideal)) _ _).mono (fun r h d => ?_) (Cert.GradDtfRefIdeal.Value.run (F := Ideal) m' g')
  refine ⟨(h d).1.trans ?_, (h d).2⟩
  rw [(hargs d).1, (hargs d).2]
  exact (result m d).symm

/-- Every execution of the reference ends, its arguments unchanged. -/
theorem ref_frame : Cert.quiescent_GradDtfRefIdeal (hGradDtfRefIdeal := Cert.GradDtfRefIdeal.Gen.facts) := fun m g _ =>
  (θ_run (Cert.GradDtfRefIdeal.defs (F := Ideal)) _ _).mono (fun r h => ⟨fun d => (h d).2, sem_eq_zero_of_no_sems (by decide) r.2⟩)
    (Cert.GradDtfRefIdeal.Value.run (F := Ideal) m g)

end GradDtf

end
-- ==== Proof.RmsFwd.lean ====
/- The rows that the input projection takes: x normalized by its root mean square. -/
module

public import proofs.«01_k».proof.Proof.GradDtf
public import proofs.«01_k».proof.Proof.Gen.RmsFwdIdeal.Value
public import proofs.«01_k».proof.Proof.Gen.RmsFwdRefIdeal.Read

@[expose] public section

set_option maxRecDepth 100000

noncomputable section

namespace RmsFwd

open Cert.RmsFwdIdeal Cert.RmsFwdIdeal.Gen Products Rms
open Idealize.ShloMosaic hiding ix1 ix2 ix3 ix4 eq_ix2 eq_ix3 eq_ix4
open Idealize.ShloMosaic.TcCoe Idealize.ShloMosaic.ValueIdx Idealize.SL.Sem

/-- A block's rows normalized. -/
theorem normal (x0 : Vec Ideal S1024x1024 .f32) (x1 : Vec Ideal S1x1024 .f32) (y : S1024x1024.Idx) :
    (k0_pay1 x0 x1 : S1024x1024.Idx → EReal) y = x0 y * scale (fun k => x0 (ix2 (y 0) k)) * x1 (ix2 0 (y 1)) :=
  congrArg₂ (fun a b : EReal => x0 y * a * b)
    ((spread (R := 1024) (C := 1024) _ y).trans (scale_block (R := 1024) x0 _)) (down (R := 1024) (C := 1024) x1 y)

variable (m : (ℓ : Loc nD τ sig) → Buf (Elt Ideal) ℓ) (d : Dev nD) (t : Fin cfg0.N)

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

/-- The arguments, and what a grid point reads of them. -/
abbrev rows : S8192x1024.Idx → EReal := m ((d : Thread nD τ).loc main_arg0)
abbrev norm : S1x1024.Idx → EReal := m ((d : Thread nD τ).loc main_arg1)
abbrev block_0 : S1024x1024.Idx → EReal := iblk m d 0 t
abbrev block_1 : S1x1024.Idx → EReal := iblk m d 1 t

theorem read_0 (i : Fin 1024) (k : Fin 1024) : block_0 m d t (ix2 i k) = at2 (rows m d) (t.val * 1024 + i.val) k.val := by
  refine Eq.trans ?_ (at2_eq (V_main_arg0 m d))
  refine at2_of (V m d main_arg0) _ ?_ ?_
  · exact (emb win0_0 t (ix2 i k) 0).trans (by rw [idx_0]; rfl)
  · exact emb_zero win0_0 t 1 (by rw [idx_0]; rfl) (ix2 i k)

theorem read_1 (k : Fin 1024) : block_1 m d t (ix2 0 k) = at2 (norm m d) 0 k.val := by
  refine Eq.trans ?_ (at2_eq (V_main_arg1 m d))
  refine at2_of (V m d main_arg1) _ ?_ ?_
  · exact emb_zero win0_1 t 0 (by rw [idx_1]; rfl) (ix2 0 k)
  · exact emb_zero win0_1 t 1 (by rw [idx_1]; rfl) (ix2 0 k)

section Reference

variable (x0 : S8192x1024.Idx → EReal) (x1 : S1x1024.Idx → EReal)

/-- A row normalized, and that the reference computes it. -/
def normal_of (r : ℕ) (c : Fin 1024) : EReal := at2 x0 r c.val * scale (fun k => at2 x0 r k.val) * at2 x1 0 c.val

open Cert.RmsFwdRefIdeal.Read

theorem ref_scale (i : Cert.RmsFwdRefIdeal.S8192x1.Idx) : (val_main_v8 (F := Ideal) x0 i : EReal)
    = scale (fun k => at2 x0 (i 0).val k.val) := by
  refine congrArg (fun a : EReal => Ideal.rsqrt (Ideal.div a (Ideal.ofBits .f32 0x44800000#32) + Ideal.ofBits .f32 0x3727C5AC#32))
    ((val_main_v3_apply (F := Ideal) x0 i).trans ((val_main_v2_apply x0 _).trans ((from_zero _).trans
      (Finset.sum_congr rfl fun k _ => ?_))))
  exact hm (at2_of x0 _ rfl rfl) (at2_of x0 _ rfl rfl)

theorem ref_normal (i : S8192x1024.Idx) : (val_main_v14 (F := Ideal) x0 x1 i : EReal) = normal_of x0 x1 (i 0).val (i 1) := by
  refine hm (hm (at2_of x0 i rfl rfl)
    ((val_main_v9_apply (F := Ideal) x0 i).trans (ref_scale x0 _))) ?_
  exact (val_main_v12_apply (F := Ideal) x1 i).trans ((val_main_v11_apply (F := Ideal) x1 _).trans
    ((val_main_v0_apply (F := Ideal) x1 _).trans (at2_of x1 _ rfl (Nat.mod_eq_of_lt (i 1).isLt))))

end Reference

/-- What a grid point writes. -/
theorem point (y : S1024x1024.Idx) : (out0_2 (F := Ideal) (block_0 m d t) (block_1 m d t) : S1024x1024.Idx → EReal) y
    = normal_of (rows m d) (norm m d) (t.val * 1024 + (y 0).val) (y 1) := by
  unfold out0_2
  rw [View.canon_unit_zero origin, ld_whole, ld_whole]
  refine (normal (block_0 m d t) (block_1 m d t) y).trans ?_
  exact hm (hm
    ((congrArg (block_0 m d t) (eq_ix2 y)).trans (read_0 m d t (y 0) (y 1)))
    (congrArg scale (funext fun k => read_0 m d t (y 0) k))) (read_1 m d t (y 1))

/-- The whole array. -/
theorem result : (dats m 0 d).arrAt 2 cfg0.N = Cert.RmsFwdRefIdeal.Read.val_main_v14 (F := Ideal) (rows m d) (norm m d) := by
  refine (dats m 0 d).arrAt_eq_of_covers 2 _ (by decide +kernel) fun t hf y => ?_
  blk_simp
  rw [after0_2]
  refine (point m d t y).trans (Eq.symm ((ref_normal _ _ _).trans ?_))
  refine congrArg₂ (normal_of _ _) ?_ (Fin.ext ?_)
  · exact (emb win0_2 t y 0).trans (by rw [idx_2]; rfl)
  · exact emb_zero win0_2 t 1 (by rw [idx_2]; rfl) y

theorem algebraic : Cert.algebraic_RmsFwdIdeal_RmsFwdRefIdeal (hRmsFwdIdeal := Cert.RmsFwdIdeal.Gen.facts)
    (hRmsFwdRefIdeal := Cert.RmsFwdRefIdeal.Gen.facts) := by
  intro m g m' g' _ hargs
  refine ⟨fun d => (Gen.dats m 0 d).arrAt 2 cfg0.N, Value.run_blocks m g, ?_⟩
  refine (θ_run (Cert.RmsFwdRefIdeal.defs (F := Ideal)) _ _).mono (fun r h d => ?_) (Cert.RmsFwdRefIdeal.Value.run (F := Ideal) m' g')
  refine ⟨(h d).1.trans ?_, (h d).2⟩
  rw [(hargs d).1, (hargs d).2]
  exact (result m d).symm

/-- Every execution of the reference ends, its arguments unchanged. -/
theorem ref_frame : Cert.quiescent_RmsFwdRefIdeal (hRmsFwdRefIdeal := Cert.RmsFwdRefIdeal.Gen.facts) := fun m g _ =>
  (θ_run (Cert.RmsFwdRefIdeal.defs (F := Ideal)) _ _).mono (fun r h => ⟨fun d => (h d).2, sem_eq_zero_of_no_sems (by decide) r.2⟩)
    (Cert.RmsFwdRefIdeal.Value.run (F := Ideal) m g)

end RmsFwd

end
-- ==== Proof.GateFwd.lean ====
/- The rows that the output projection takes: the state space's output gated and normalized by groups of 512 columns,
   beside the attention's output. -/
module

public import proofs.«01_k».proof.Proof.RmsFwd
public import proofs.«01_k».proof.Proof.Gen.GateFwdIdeal.Value
public import proofs.«01_k».proof.Proof.Gen.GateFwdRefIdeal.Read

@[expose] public section

set_option maxRecDepth 100000

noncomputable section

namespace GateFwd

open Cert.GateFwdIdeal Cert.GateFwdIdeal.Gen Products Rms
open Idealize.ShloMosaic hiding ix1 ix2 ix3 ix4 eq_ix2 eq_ix3 eq_ix4
open Idealize.ShloMosaic.TcCoe Idealize.ShloMosaic.ValueIdx Idealize.SL.Sem

/-- `a` gated by `b`. -/
def gated (a b : EReal) : EReal :=
  a * (b * Ideal.div (Ideal.ofBits .f32 0x3F800000#32) (Ideal.ofBits .f32 0x3F800000#32 + Ideal.exp (-b)))

/-- The scale of a group of columns. -/
def group_scale (f : Fin 512 → EReal) : EReal :=
  Ideal.rsqrt (Ideal.div (∑ k, f k * f k) (Ideal.ofBits .f32 0x44000000#32) + Ideal.ofBits .f32 0x3727C5AC#32)

section Rows

variable {R : ℕ} (A B C : (⟨2, ![R, 1024]⟩ : Shape).Idx → EReal) (W : S1x1024.Idx → EReal)

def gate (r c : ℕ) : EReal := gated (at2 A r c) (at2 B r c)

/-- A gated number normalized by its group and weighted. -/
def grouped (r c : ℕ) : EReal := gate A B r c * group_scale (fun k => gate A B r (c / 512 * 512 + k.val)) * at2 W 0 c

/-- A row: the gated part, and beside it the row of `C`. -/
def joined (r c : ℕ) : EReal := if c < 1024 then grouped A B W r c else at2 C r (c - 1024)

/-- Equal arguments' rows are equal. -/
theorem joined_congr {R' : ℕ} {A' B' C' : (⟨2, ![R', 1024]⟩ : Shape).Idx → EReal} {W' : S1x1024.Idx → EReal} {r r' c : ℕ}
    (ha : ∀ k < 1024, at2 A r k = at2 A' r' k) (hb : ∀ k < 1024, at2 B r k = at2 B' r' k)
    (hc : ∀ k < 1024, at2 C r k = at2 C' r' k) (hw : ∀ k < 1024, at2 W 0 k = at2 W' 0 k) (h : c < 2048) :
    joined A B C W r c = joined A' B' C' W' r' c := by
  unfold joined
  split_ifs with hlt
  · have hg : ∀ k < 1024, gate A B r k = gate A' B' r' k := fun k hk => congrArg₂ gated (ha k hk) (hb k hk)
    exact hm (hm (hg c hlt)
      (congrArg group_scale (funext fun k => hg _ (by have := k.isLt; omega)))) (hw c hlt)
  · exact hc _ (by omega)

end Rows

section Step

variable (x0 x1 x2 : Vec Ideal S1024x1024 .f32) (x3 : Vec Ideal S1x1024 .f32)

theorem gate_block (y : S1024x1024.Idx) : (k0_pay3 x1 x0 : S1024x1024.Idx → EReal) y = gate x0 x1 (y 0).val (y 1).val :=
  (congrArg (fun a : EReal => x0 y * (x1 y * Ideal.div (Ideal.ofBits .f32 0x3F800000#32)
    (Ideal.ofBits .f32 0x3F800000#32 + Ideal.exp a))) ((congrArg (fun a : EReal => a - x1 y) AttBwd.zero_f32).trans
      (zero_sub (x1 y : EReal)))).trans (congrArg₂ gated (at2_of x0 y rfl rfl) (at2_of x1 y rfl rfl))

theorem slice_at {o : ℕ} (ho : o + 512 ≤ 1024) (h : Shape.Slices S1024x1024 ![0, o] S1024x512) (y : S1024x512.Idx) :
    (extractStridedSlice S1024x512 ![0, o] (k0_pay3 x1 x0) h : S1024x512.Idx → EReal) y = gate x0 x1 (y 0).val (o + (y 1).val) := by
  have hy : (y 1).val < 512 := (y 1).isLt
  refine (extractStridedSlice_apply ![0, o] _ h y (ix2 (y 0) ⟨o + (y 1).val, by omega⟩) fun b => ?_).trans (gate_block x0 x1 _)
  match b with
  | ⟨0, _⟩ => exact (Nat.zero_add _).symm
  | ⟨1, _⟩ => rfl

/-- The groups' pieces are their columns of the row. -/
theorem piece {o : ℕ} (ho : o + 512 ≤ 1024) (hd : o / 512 * 512 = o) (g : S1024x512.Idx → EReal)
    (hg : ∀ y, g y = gate x0 x1 (y 0).val (o + (y 1).val)) (w : S1x512.Idx → EReal) (hw : ∀ k, w (ix2 0 k) = at2 x3 0 (o + k.val))
    (y : S1024x512.Idx) : g y * group_scale (fun k => g (ix2 (y 0) k)) * w (ix2 0 (y 1))
      = joined x0 x1 x2 x3 (0 + (y 0).val) (o + (y 1).val) := by
  have hy : (y 1).val < 512 := (y 1).isLt
  rw [Nat.zero_add]
  unfold joined
  rw [if_pos (show o + (y 1).val < 1024 by omega)]
  refine hm (hm (hg y)
    (congrArg group_scale (funext fun k => (hg _).trans ?_))) (hw _)
  refine congrArg (gate x0 x1 (y 0).val) (congrArg (fun a : ℕ => a + k.val) ?_)
  omega

theorem piece_0 (w : Vec Ideal S1x512 .f32) (hw : ∀ k, (w (ix2 0 k) : EReal) = at2 x3 0 (0 + k.val)) (y : S1024x512.Idx) :
    (k0_pay4 x1 x0 w : S1024x512.Idx → EReal) y = joined x0 x1 x2 x3 (0 + (y 0).val) (0 + (y 1).val) :=
  (hm (hm rfl ((spread (R := 1024) (C := 512) _ y).trans (scale_block_of _ _))) (down (R := 1024) (C := 512) w y)).trans
    (piece x0 x1 x2 x3 (o := 0) (by decide) rfl _ (slice_at x0 x1 (by decide) _) w hw y)

theorem piece_1 (w : Vec Ideal S1x512 .f32) (hw : ∀ k, (w (ix2 0 k) : EReal) = at2 x3 0 (512 + k.val)) (y : S1024x512.Idx) :
    (k0_pay1 (k0_pay5 x1 x0) w : S1024x512.Idx → EReal) y = joined x0 x1 x2 x3 (0 + (y 0).val) (512 + (y 1).val) :=
  (hm (hm rfl ((spread (R := 1024) (C := 512) _ y).trans (scale_block_of _ _))) (down (R := 1024) (C := 512) w y)).trans
    (piece x0 x1 x2 x3 (o := 512) (by decide) rfl _ (slice_at x0 x1 (by decide) _) w hw y)

theorem piece_2 (y : S1024x1024.Idx) : (k0_pay2 x2 : S1024x1024.Idx → EReal) y
    = joined x0 x1 x2 x3 (0 + (y 0).val) (1024 + (y 1).val) := by
  unfold joined
  rw [if_neg (by omega)]
  exact at2_of x2 y (Nat.zero_add _).symm (Nat.add_sub_cancel_left _ _).symm

variable (c : Dev nD) (i : grid0.Coords) (a1 : Memref sig .tc .vmem S1024x1024 .f32) (h1 : a1.IsWhole)
  (a2 : Memref sig .tc .vmem S1024x1024 .f32) (h2 : a2.IsWhole) (a3 : Memref sig .tc .vmem S1024x1024 .f32) (h3 : a3.IsWhole)
  (a4 : Memref sig .tc .vmem S1x1024 .f32) (h4 : a4.IsWhole) (a5 : Memref sig .tc .vmem S1024x2048 .bf16) (h5 : a5.IsWhole)

theorem weights_at {o : ℕ} {inb} (k : Fin 512) :
    (View.ld (S := S1x1024) x3 (Rect.unit (s := S1x1024) ![0, o] S1x512.size inb) (ix2 (n0 := 1) (n1 := 512) 0 k) : EReal) = at2 x3 0 (o + k.val) :=
  at2_of x3 _ (Rect.idx_unit_val _ _ _ _ 0) (Rect.idx_unit_val _ _ _ _ 1)

/-- What the body leaves in its block. -/
theorem block (y : S1024x2048.Idx) : (out0_A_4 c i a1 h1 a2 h2 a3 h3 a4 h4 a5 h5 x0 x1 x2 x3 : S1024x2048.Idx → EReal) y
    = joined x0 x1 x2 x3 (y 0).val (y 1).val := by
  unfold out0_A_4
  rw [View.read_writes_junk_eq_canon]
  unfold kernelRun0_A
  dsimp only
  sl_unfold_words
  simp only [View.readAt_eq_ld, h1.read_unread, h2.read_unread, h3.read_unread, h4.read_unread, ld_whole]
  refine AttBwd.canon2 (R := fun r c (v : Elt Ideal .bf16) => (v : EReal) = joined x0 x1 x2 x3 r c)
    (piece_2 x0 x1 x2 x3) (fun x hx => ?_) y
  have hr : (x 0).val < 1024 := (x 0).isLt
  have hc : (x 1).val < 2048 := (x 1).isLt
  refine AttBwd.canon2 (R := fun r c (v : Elt Ideal .bf16) => r < 1024 → c < 1024 → (v : EReal) = joined x0 x1 x2 x3 r c)
    (fun y _ _ => piece_1 x0 x1 x2 x3 _ (weights_at x3) y) (fun x hx hr hc => ?_) x hr (by omega)
  refine AttBwd.canon2 (R := fun r c (v : Elt Ideal .bf16) => r < 1024 → c < 512 → (v : EReal) = joined x0 x1 x2 x3 r c)
    (fun y _ _ => piece_0 x0 x1 x2 x3 _ (weights_at x3) y) (fun x hx hr hc => ?_) x hr (by omega)
  exact absurd ⟨Nat.zero_le _, hr.trans_eq (Nat.zero_add _).symm, Nat.zero_le _, hc.trans_eq (Nat.zero_add _).symm⟩ hx

end Step

variable (m : (ℓ : Loc nD τ sig) → Buf (Elt Ideal) ℓ) (d : Dev nD) (t : Fin cfg0.N)

theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![t.val, 0] := by decide +kernel
theorem idx_3 : ∀ t : Fin cfg0.N, win0_3.index t = ![0, 0] := by decide +kernel
theorem idx_4 : ∀ t : Fin cfg0.N, win0_4.index t = ![t.val, 0] := by decide +kernel

/-- The arguments, and what a grid point reads of them. -/
abbrev state : S8192x1024.Idx → EReal := m ((d : Thread nD τ).loc main_arg0)
abbrev gates : S8192x1024.Idx → EReal := m ((d : Thread nD τ).loc main_arg1)
abbrev heads : S8192x1024.Idx → EReal := m ((d : Thread nD τ).loc main_arg2)
abbrev norm : S1x1024.Idx → EReal := m ((d : Thread nD τ).loc main_arg3)
abbrev block_0 : S1024x1024.Idx → EReal := iblk m d 0 t
abbrev block_1 : S1024x1024.Idx → EReal := iblk m d 1 t
abbrev block_2 : S1024x1024.Idx → EReal := iblk m d 2 t
abbrev block_3 : S1x1024.Idx → EReal := iblk m d 3 t

theorem read_0 (i : Fin 1024) (k : Fin 1024) : block_0 m d t (ix2 i k) = at2 (state m d) (t.val * 1024 + i.val) k.val := by
  refine Eq.trans ?_ (at2_eq (V_main_arg0 m d))
  refine at2_of (V m d main_arg0) _ ?_ ?_
  · exact (emb win0_0 t (ix2 i k) 0).trans (by rw [idx_0]; rfl)
  · exact emb_zero win0_0 t 1 (by rw [idx_0]; rfl) (ix2 i k)

theorem read_1 (i : Fin 1024) (k : Fin 1024) : block_1 m d t (ix2 i k) = at2 (gates m d) (t.val * 1024 + i.val) k.val := by
  refine Eq.trans ?_ (at2_eq (V_main_arg1 m d))
  refine at2_of (V m d main_arg1) _ ?_ ?_
  · exact (emb win0_1 t (ix2 i k) 0).trans (by rw [idx_1]; rfl)
  · exact emb_zero win0_1 t 1 (by rw [idx_1]; rfl) (ix2 i k)

theorem read_2 (i : Fin 1024) (k : Fin 1024) : block_2 m d t (ix2 i k) = at2 (heads m d) (t.val * 1024 + i.val) k.val := by
  refine Eq.trans ?_ (at2_eq (V_main_arg2 m d))
  refine at2_of (V m d main_arg2) _ ?_ ?_
  · exact (emb win0_2 t (ix2 i k) 0).trans (by rw [idx_2]; rfl)
  · exact emb_zero win0_2 t 1 (by rw [idx_2]; rfl) (ix2 i k)

theorem read_3 (k : Fin 1024) : block_3 m d t (ix2 0 k) = at2 (norm m d) 0 k.val := by
  refine Eq.trans ?_ (at2_eq (V_main_arg3 m d))
  refine at2_of (V m d main_arg3) _ ?_ ?_
  · exact emb_zero win0_3 t 0 (by rw [idx_3]; rfl) (ix2 0 k)
  · exact emb_zero win0_3 t 1 (by rw [idx_3]; rfl) (ix2 0 k)

section Reference

variable (x0 x1 x2 : S8192x1024.Idx → EReal) (x3 : S1x1024.Idx → EReal)

open Cert.GateFwdRefIdeal.Read

theorem ref_gate (i : S8192x1024.Idx) : (val_main_v1 (F := Ideal) x0 x1 i : EReal) = gate x0 x1 (i 0).val (i 1).val :=
  congrArg₂ gated (at2_of x0 i rfl rfl) (at2_of x1 i rfl rfl)

/-- The same, with the columns split into groups. -/
theorem ref_group (i : Cert.GateFwdRefIdeal.S8192x2x512.Idx) : (val_main_v2 (F := Ideal) x0 x1 i : EReal)
    = gate x0 x1 (i 0).val ((i 1).val * 512 + (i 2).val) := by
  have h1 : (i 1).val < 2 := (i 1).isLt
  have h2 : (i 2).val < 512 := (i 2).isLt
  refine (val_main_v2_apply (F := Ideal) x0 x1 i).trans ((ref_gate x0 x1 _).trans (congrArg₂ (gate x0 x1) ?_ ?_))
  · show (((i 0).val * 2 + (i 1).val) * 512 + (i 2).val) / 1024 = (i 0).val
    omega
  · show (((i 0).val * 2 + (i 1).val) * 512 + (i 2).val) % 1024 = (i 1).val * 512 + (i 2).val
    omega

theorem ref_scale (i : Cert.GateFwdRefIdeal.S8192x2x1.Idx) : (val_main_v10 (F := Ideal) x0 x1 i : EReal)
    = group_scale fun k => gate x0 x1 (i 0).val ((i 1).val * 512 + k.val) := by
  refine congrArg (fun a : EReal => Ideal.rsqrt (Ideal.div a (Ideal.ofBits .f32 0x44000000#32) + Ideal.ofBits .f32 0x3727C5AC#32))
    ((val_main_v5_apply (F := Ideal) x0 x1 i).trans ((val_main_v4_apply x0 x1 _).trans ((from_zero _).trans
      (Finset.sum_congr rfl fun k _ => ?_))))
  exact hm (ref_group x0 x1 _) (ref_group x0 x1 _)

theorem ref_grouped (i : S8192x1024.Idx) : (val_main_v17 (F := Ideal) x0 x1 x3 i : EReal) = grouped x0 x1 x3 (i 0).val (i 1).val := by
  have h1 : (i 1).val < 1024 := (i 1).isLt
  have hr : ((i 0).val * 1024 + (i 1).val) / 1024 = (i 0).val := by omega
  have hg : ((i 0).val * 1024 + (i 1).val) / 512 % 2 = (i 1).val / 512 := by omega
  have hk : ((i 0).val * 1024 + (i 1).val) % 512 = (i 1).val % 512 := by omega
  refine hm ((val_main_v13_apply (F := Ideal) x0 x1 i).trans (hm
    ((ref_group x0 x1 _).trans (congrArg₂ (gate x0 x1) hr ?_))
    ((val_main_v11_apply (F := Ideal) x0 x1 _).trans ((ref_scale x0 x1 _).trans
      (congrArg₂ (fun r g => group_scale fun k => gate x0 x1 r (g * 512 + k.val)) hr hg)))))
    ((val_main_v16_apply (F := Ideal) x3 i).trans ((val_main_v15_apply (F := Ideal) x3 _).trans
      ((val_main_v14_apply (F := Ideal) x3 _).trans (at2_of x3 _ rfl (Nat.mod_eq_of_lt (i 1).isLt)))))
  show ((i 0).val * 1024 + (i 1).val) / 512 % 2 * 512 + ((i 0).val * 1024 + (i 1).val) % 512 = (i 1).val
  omega

theorem ref_joined (i : S8192x2048.Idx) : (val_main_v19 (F := Ideal) x0 x1 x2 x3 i : EReal)
    = joined x0 x1 x2 x3 (i 0).val (i 1).val := by
  have h1 : (i 1).val < 2048 := (i 1).isLt
  show (val_main_v18 (F := Ideal) x0 x1 x2 x3 i : EReal) = _
  unfold val_main_v18 joined
  split_ifs with h
  · exact (concatenate_pair_apply_left (s₁ := S8192x1024) (s₂ := S8192x1024) 1 _ x2 _ i rfl (ix2 (n0 := 8192) (n1 := 1024) (i 0) ⟨(i 1).val, h⟩) (fun b => match b with
      | ⟨0, _⟩ => rfl
      | ⟨1, _⟩ => rfl)).trans (ref_grouped x0 x1 x3 _)
  · exact (concatenate_pair_apply_right (s₁ := S8192x1024) (s₂ := S8192x1024) 1 _ x2 _ i rfl rfl (ix2 (n0 := 8192) (n1 := 1024) (i 0) ⟨(i 1).val - 1024, by omega⟩) (fun b => match b with
      | ⟨0, _⟩ => fun _ => rfl
      | ⟨1, _⟩ => fun hne => absurd rfl hne) (by show (i 1).val - 1024 + 1024 = (i 1).val; omega)).trans (at2_of x2 _ rfl rfl)

end Reference

/-- What a grid point writes. -/
theorem point (y : S1024x2048.Idx) : (outsAt0 m d t : S1024x2048.Idx → EReal) y
    = joined (state m d) (gates m d) (heads m d) (norm m d) (t.val * 1024 + (y 0).val) (y 1).val := by
  unfold outsAt0
  refine (block (block_0 m d t) (block_1 m d t) (block_2 m d t) (block_3 m d t) d _ _ _ _ _ _ _ _ _ _ _ y).trans ?_
  exact joined_congr _ _ _ _ (fun k hk => (at2_of (block_0 m d t) (ix2 (y 0) ⟨k, hk⟩) rfl rfl).symm.trans (read_0 m d t (y 0) ⟨k, hk⟩))
    (fun k hk => (at2_of (block_1 m d t) (ix2 (y 0) ⟨k, hk⟩) rfl rfl).symm.trans (read_1 m d t (y 0) ⟨k, hk⟩))
    (fun k hk => (at2_of (block_2 m d t) (ix2 (y 0) ⟨k, hk⟩) rfl rfl).symm.trans (read_2 m d t (y 0) ⟨k, hk⟩))
    (fun k hk => (at2_of (block_3 m d t) (ix2 0 ⟨k, hk⟩) rfl rfl).symm.trans (read_3 m d t ⟨k, hk⟩)) (y 1).isLt

/-- The whole array. -/
theorem result : (dats m 0 d).arrAt 4 cfg0.N
    = Cert.GateFwdRefIdeal.Read.val_main_v19 (F := Ideal) (state m d) (gates m d) (heads m d) (norm m d) := by
  refine (dats m 0 d).arrAt_eq_of_covers 4 _ (by decide +kernel) fun t hf y => ?_
  blk_simp
  rw [after0_4]
  refine (point m d t y).trans (Eq.symm ((ref_joined _ _ _ _ _).trans ?_))
  refine congrArg₂ (joined _ _ _ _) ?_ ?_
  · exact (emb win0_4 t y 0).trans (by rw [idx_4]; rfl)
  · exact emb_zero win0_4 t 1 (by rw [idx_4]; rfl) y

theorem algebraic : Cert.algebraic_GateFwdIdeal_GateFwdRefIdeal (hGateFwdIdeal := Cert.GateFwdIdeal.Gen.facts)
    (hGateFwdRefIdeal := Cert.GateFwdRefIdeal.Gen.facts) := by
  intro m g m' g' _ hargs
  refine ⟨fun d => (Gen.dats m 0 d).arrAt 4 cfg0.N, Value.run_blocks m g, ?_⟩
  refine (θ_run (Cert.GateFwdRefIdeal.defs (F := Ideal)) _ _).mono (fun r h d => ?_) (Cert.GateFwdRefIdeal.Value.run (F := Ideal) m' g')
  obtain ⟨e0, e1, e2, e3⟩ := hargs d
  refine ⟨(h d).1.trans ?_, (h d).2⟩
  rw [e0, e1, e2, e3]
  exact (result m d).symm

/-- Every execution of the reference ends, its arguments unchanged. -/
theorem ref_frame : Cert.quiescent_GateFwdRefIdeal (hGateFwdRefIdeal := Cert.GateFwdRefIdeal.Gen.facts) := fun m g _ =>
  (θ_run (Cert.GateFwdRefIdeal.defs (F := Ideal)) _ _).mono (fun r h => ⟨fun d => (h d).2, sem_eq_zero_of_no_sems (by decide) r.2⟩)
    (Cert.GateFwdRefIdeal.Value.run (F := Ideal) m g)

end GateFwd

end
-- ==== Proof.ConvFwd.lean ====
/- The causal convolution of the state space's inputs, four taps a channel, and its gate. -/
module

public import proofs.«01_k».proof.Proof.GateFwd
public import proofs.«01_k».proof.Proof.Gen.ConvFwdIdeal.Value
public import proofs.«01_k».proof.Proof.Gen.ConvFwdRefIdeal.Read

@[expose] public section

set_option maxRecDepth 100000

noncomputable section

namespace ConvFwd

open Cert.ConvFwdIdeal Cert.ConvFwdIdeal.Gen Products Rms Cert.ConvFwdRefIdeal.Read
open Idealize.ShloMosaic hiding ix1 ix2 ix3 ix4 eq_ix2 eq_ix3 eq_ix4
open Idealize.ShloMosaic.TcCoe Idealize.ShloMosaic.ValueIdx Idealize.SL.Sem

/-- A number times its logistic. -/
def silu (a : EReal) : EReal :=
  a * Ideal.div (Ideal.ofBits .f32 0x3F800000#32) (Ideal.ofBits .f32 0x3F800000#32 + Ideal.exp (-a))

section Taps

variable (x : S8192x1536.Idx → EReal) (w : S4x1536.Idx → EReal) (b : S1x1536.Idx → EReal)

/-- Sequence `s` with three zeros before its first position, at `p` and channel `c`. -/
def padded (s p c : ℕ) : EReal := if p < 3 then 0 else at2 x (s * 2048 + (p - 3)) c

/-- The convolution at a position: the last three inputs and its own. -/
def conv (s p c : ℕ) : EReal := padded x s p c * at2 w 0 c + padded x s (p + 1) c * at2 w 1 c
  + padded x s (p + 2) c * at2 w 2 c + padded x s (p + 3) c * at2 w 3 c + at2 b 0 c

end Taps

section Step

variable (i : grid0.Coords) (x0 : Vec Ideal S1x512x512 .f32) (x1 : Vec Ideal S1x8x512 .f32) (x2 : Vec Ideal S4x512 .f32)
  (x3 : Vec Ideal S1x512 .f32)

/-- The eight rows before the block, zeros before the first one, and the block. -/
abbrev strip : FVec Ideal S520x512 .f32 := concatenate S520x512 0 [⟨S8x512, Scalar.select (Scalar.cmpi .sgt (BitVec.ofNat 32 (i 2).val) 0#32)
  (shapeCast S8x512 x1 shapeCasts_S1x8x512_S8x512 : FVec Ideal S8x512 .f32) (broadcast S8x512 (Scalar.ofBits (F := Ideal) .f32 0x00000000#32))⟩,
  ⟨S512x512, shapeCast S512x512 x0 shapeCasts_S1x512x512_S512x512⟩] concatenates_S8x512_S512x512_S520x512_d0

theorem shifted (n : BitVec 32) {k : ℕ} (hn : n.toNat + k = 3) (v : FVec Ideal S520x512 .f32) {h hs} (y : S512x512.Idx) :
    (extractStridedSlice S512x512 ![8, 0] (dynamicRotate 0 n none v h) hs : S512x512.Idx → EReal) y
      = v (ix2 (n0 := 520) (n1 := 512) ⟨(y 0).val + k + 5, by have : (y 0).val < 512 := (y 0).isLt; omega⟩ (y 1)) := by
  have hy : (y 0).val < 512 := (y 0).isLt
  refine (extractStridedSlice_apply ![8, 0] _ hs y (ix2 (n0 := 520) (n1 := 512) ⟨8 + (y 0).val, by omega⟩ (y 1)) fun b => ?_).trans
    (dynamicRotate_apply 0 n v h _ _ fun b => ?_)
  · match b with
    | ⟨0, _⟩ => rfl
    | ⟨1, _⟩ => exact (Nat.zero_add _).symm
  · match b with
    | ⟨0, _⟩ =>
      refine Eq.trans ?_ (if_pos rfl).symm
      show (y 0).val + k + 5 = (8 + (y 0).val + 520 - n.toNat % 520) % 520
      omega
    | ⟨1, _⟩ => exact (if_neg fun h => Nat.one_ne_zero (congrArg Fin.val h)).symm

theorem sum_block (w3 b w2 w1 w0 : Vec Ideal S1x512 .f32) (y : S512x512.Idx) : (k0_pay2 i x0 x1 w3 b w2 w1 w0 : S512x512.Idx → EReal) y
    = x0 (ix3 0 (y 0) (y 1)) * w3 (ix2 0 (y 1)) + b (ix2 0 (y 1))
      + strip i x0 x1 (ix2 (n0 := 520) (n1 := 512) ⟨(y 0).val + 2 + 5, by have : (y 0).val < 512 := (y 0).isLt; omega⟩ (y 1)) * w2 (ix2 0 (y 1))
      + strip i x0 x1 (ix2 (n0 := 520) (n1 := 512) ⟨(y 0).val + 1 + 5, by have : (y 0).val < 512 := (y 0).isLt; omega⟩ (y 1)) * w1 (ix2 0 (y 1))
      + strip i x0 x1 (ix2 (n0 := 520) (n1 := 512) ⟨(y 0).val + 0 + 5, by have : (y 0).val < 512 := (y 0).isLt; omega⟩ (y 1)) * w0 (ix2 0 (y 1)) := by
  have hd := fun v h => down (R := 512) (C := 512) v (h := h) y
  exact ha (ha (ha (ha (hm (shapeCast_apply x0 _ y (ix3 0 (y 0) (y 1)) (by
    rw [Shape.rowMajor_val_two, Shape.rowMajor_val_three]
    show (0 * 512 + (y 0).val) * 512 + (y 1).val = (y 0).val * 512 + (y 1).val
    omega)) (hd _ _)) (hd _ _))
    (hm (shifted 1#32 (k := 2) rfl (strip i x0 x1) y) (hd _ _))) (hm (shifted 2#32 (k := 1) rfl (strip i x0 x1) y) (hd _ _))) (hm (shifted 3#32 (k := 0) rfl (strip i x0 x1) y) (hd _ _))

theorem strip_low {j : ℕ} (hj : j < 8) (k : Fin 512) {v : EReal} (hv : Scalar.select (Scalar.cmpi .sgt (BitVec.ofNat 32 (i 2).val) 0#32)
    (x1 (ix3 0 ⟨j, hj⟩ k) : EReal) 0 = v) : (strip i x0 x1 (ix2 (n0 := 520) (n1 := 512) ⟨j, by omega⟩ k) : EReal) = v := by
  refine (concatenate_pair_apply_left (s₁ := S8x512) (s₂ := S512x512) (t := S520x512) 0 _ _ _ _ rfl (ix2 (n0 := 8) (n1 := 512) ⟨j, hj⟩ k)
    (fun b => match b with
      | ⟨0, _⟩ => rfl
      | ⟨1, _⟩ => rfl)).trans (Eq.trans ?_ hv)
  unfold Scalar.select
  split_ifs
  · refine shapeCast_apply x1 shapeCasts_S1x8x512_S8x512 _ (ix3 0 ⟨j, hj⟩ k) ?_
    rw [Shape.rowMajor_val_two, Shape.rowMajor_val_three]
    show (0 * 8 + j) * 512 + k.val = j * 512 + k.val
    omega
  · exact AttBwd.zero_f32

theorem strip_high {j : ℕ} (hj : j < 512) (k : Fin 512) :
    (strip i x0 x1 (ix2 (n0 := 520) (n1 := 512) ⟨8 + j, by omega⟩ k) : EReal) = x0 (ix3 0 ⟨j, hj⟩ k) := by
  refine (concatenate_pair_apply_right (s₁ := S8x512) (s₂ := S512x512) (t := S520x512) 0 _ _ _ (ix2 (n0 := 520) (n1 := 512) ⟨8 + j, by omega⟩ k) rfl rfl (ix2 (n0 := 512) (n1 := 512) ⟨j, hj⟩ k)
    (fun b => match b with
      | ⟨0, _⟩ => fun hne => absurd rfl hne
      | ⟨1, _⟩ => fun _ => rfl) (Nat.add_comm j 8)).trans (shapeCast_apply x0 shapeCasts_S1x512x512_S512x512 _ (ix3 0 ⟨j, hj⟩ k) ?_)
  rw [Shape.rowMajor_val_two, Shape.rowMajor_val_three]
  show (0 * 512 + j) * 512 + k.val = j * 512 + k.val
  omega

/-- The tap of row `r`. -/
theorem tap_row {r : ℕ} (hr : r < 4) {inb} (k : Fin 512) :
    (View.ld (S := S4x512) x2 (Rect.unit (s := S4x512) ![r, 0] S1x512.size inb) (ix2 (n0 := 1) (n1 := 512) 0 k) : EReal) = x2 (ix2 ⟨r, hr⟩ k) :=
  congrArg x2 (AttBwd.ix2_of (Rect.idx_unit_val _ _ _ _ 0) ((Rect.idx_unit_val _ _ _ _ 1).trans (Nat.zero_add _)))

/-- What the body leaves in its block. -/
theorem block (y : S1x512x512.Idx) : (out0_4 i x0 x1 x2 x3 : S1x512x512.Idx → EReal) y
    = silu (k0_pay2 i x0 x1 (View.ld x2 r0_2) x3 (View.ld x2 r0_4) (View.ld x2 r0_5) (View.ld x2 r0_6) (ix2 (y 1) (y 2))) := by
  have hy : (y 0).val < 1 := (y 0).isLt
  have h3 : (![0, 0, 0] : Fin 3 → ℕ) = fun _ => 0 := by funext a; fin_cases a <;> rfl
  unfold out0_4 k0_pay1 k0_pay3
  dsimp only
  rw [View.canon_cons_unit_zero h3, View.ld_unit_zero h3, View.ld_unit_zero h3, ld_whole]
  refine (shapeCast_apply (s := S512x512) (α := Ideal .f32) _ shapeCasts_S512x512_S1x512x512 y (ix2 (y 1) (y 2)) ?_).trans ?_
  · rw [Shape.rowMajor_val_two, Shape.rowMajor_val_three]
    show (y 1).val * 512 + (y 2).val = ((y 0).val * 512 + (y 1).val) * 512 + (y 2).val
    omega
  · generalize k0_pay2 i x0 x1 _ x3 _ _ _ = v
    exact congrArg (fun a : EReal => v (ix2 (y 1) (y 2)) * Ideal.div (Ideal.ofBits .f32 0x3F800000#32)
      (Ideal.ofBits .f32 0x3F800000#32 + Ideal.exp a)) ((congrArg (fun a : EReal => a - v (ix2 (y 1) (y 2))) AttBwd.zero_f32).trans
        (zero_sub (v (ix2 (y 1) (y 2)) : EReal)))

end Step

variable (m : (ℓ : Loc nD τ sig) → Buf (Elt Ideal) ℓ) (d : Dev nD) (t : Fin cfg0.N)

theorem idx_0 : ∀ t : Fin cfg0.N, win0_0.index t = ![t.val % 16 / 4, t.val % 4, t.val / 16] := by decide +kernel
theorem idx_1 : ∀ t : Fin cfg0.N, win0_1.index t = ![t.val % 16 / 4, t.val % 4 * 64 - 1, t.val / 16] := by decide +kernel
theorem idx_2 : ∀ t : Fin cfg0.N, win0_2.index t = ![0, t.val / 16] := by decide +kernel
theorem idx_3 : ∀ t : Fin cfg0.N, win0_3.index t = ![0, t.val / 16] := by decide +kernel
theorem idx_4 : ∀ t : Fin cfg0.N, win0_4.index t = ![t.val % 16 / 4, t.val % 4, t.val / 16] := by decide +kernel
theorem first : ∀ t : Fin cfg0.N, Scalar.cmpi .sgt (BitVec.ofNat 32 ((grid0.coords t) 2).val) 0#32
    = if t.val % 4 = 0 then 0#1 else 1#1 := by decide +kernel

/-- The arguments, and what a grid point reads of them. -/
abbrev input : S8192x1536.Idx → EReal := m ((d : Thread nD τ).loc main_arg0)
abbrev taps : S4x1536.Idx → EReal := m ((d : Thread nD τ).loc main_arg1)
abbrev bias : S1x1536.Idx → EReal := m ((d : Thread nD τ).loc main_arg2)
abbrev block_0 : S1x512x512.Idx → EReal := iblk m d 0 t
abbrev block_1 : S1x8x512.Idx → EReal := iblk m d 1 t
abbrev block_2 : S4x512.Idx → EReal := iblk m d 2 t
abbrev block_3 : S1x512.Idx → EReal := iblk m d 3 t

/-- The rows of all sequences as sequences. -/
theorem sequences (x : S8192x1536.Idx → EReal) (i : S4x2048x1536.Idx) {s p c : ℕ} (hs : (i 0).val = s) (hp : (i 1).val = p)
    (hc : (i 2).val = c) : (val_main_v0 (F := Ideal) x i : EReal) = at2 x (s * 2048 + p) c := by
  have hi : (i 2).val < 1536 := (i 2).isLt
  refine (val_main_v0_apply (F := Ideal) x i).trans (at2_of x _ ?_ ?_)
  · show (((i 0).val * 2048 + (i 1).val) * 1536 + (i 2).val) / 1536 = _
    omega
  · show (((i 0).val * 2048 + (i 1).val) * 1536 + (i 2).val) % 1536 = _
    omega

theorem entry : (V m d main_v0 : S4x2048x1536.Idx → EReal) = val_main_v0 (F := Ideal) (input m d) := by
  simp only [V, hostOps0]
  after_results_simp; rfl

theorem read_0 (y : S1x512x512.Idx) : block_0 m d t y
    = at2 (input m d) (t.val % 16 / 4 * 2048 + (t.val % 4 * 512 + (y 1).val)) (t.val / 16 * 512 + (y 2).val) := by
  have hy : (y 0).val < 1 := (y 0).isLt
  refine Eq.trans (congrArg (fun v : S4x2048x1536.Idx → EReal => v _) (entry m d)) (sequences _ _ ?_ ?_ ?_)
  · exact (emb win0_0 t y 0).trans (by rw [idx_0]; show t.val % 16 / 4 * 1 + (y 0).val = _; omega)
  · exact (emb win0_0 t y 1).trans (by rw [idx_0]; rfl)
  · exact (emb win0_0 t y 2).trans (by rw [idx_0]; rfl)

theorem read_1 (y : S1x8x512.Idx) : block_1 m d t y
    = at2 (input m d) (t.val % 16 / 4 * 2048 + ((t.val % 4 * 64 - 1) * 8 + (y 1).val)) (t.val / 16 * 512 + (y 2).val) := by
  have hy : (y 0).val < 1 := (y 0).isLt
  refine Eq.trans (congrArg (fun v : S4x2048x1536.Idx → EReal => v _) (entry m d)) (sequences _ _ ?_ ?_ ?_)
  · exact (emb win0_1 t y 0).trans (by rw [idx_1]; show t.val % 16 / 4 * 1 + (y 0).val = _; omega)
  · exact (emb win0_1 t y 1).trans (by rw [idx_1]; rfl)
  · exact (emb win0_1 t y 2).trans (by rw [idx_1]; rfl)

theorem read_2 (i : Fin 4) (k : Fin 512) : block_2 m d t (ix2 i k) = at2 (taps m d) i.val (t.val / 16 * 512 + k.val) := by
  refine Eq.trans ?_ (at2_eq (V_main_arg1 m d))
  refine at2_of (V m d main_arg1) _ ?_ ?_
  · exact emb_zero win0_2 t 0 (by rw [idx_2]; rfl) (ix2 i k)
  · exact (emb win0_2 t (ix2 i k) 1).trans (by rw [idx_2]; rfl)

theorem read_3 (k : Fin 512) : block_3 m d t (ix2 0 k) = at2 (bias m d) 0 (t.val / 16 * 512 + k.val) := by
  refine Eq.trans ?_ (at2_eq (V_main_arg2 m d))
  refine at2_of (V m d main_arg2) _ ?_ ?_
  · exact emb_zero win0_3 t 0 (by rw [idx_3]; rfl) (ix2 0 k)
  · exact (emb win0_3 t (ix2 0 k) 1).trans (by rw [idx_3]; rfl)

/-- The rows that a grid point reads, from the sequence's padded positions. -/
theorem strip_at {j p : ℕ} (hj : j < 520) (hp : p + 5 = j) (k : Fin 512) : (strip (grid0.coords t) (block_0 m d t) (block_1 m d t)
    (ix2 (n0 := 520) (n1 := 512) ⟨j, hj⟩ k) : EReal) = padded (input m d) (t.val % 16 / 4) (t.val % 4 * 512 + p) (t.val / 16 * 512 + k.val) := by
  unfold padded
  by_cases h : j < 8
  · refine strip_low _ _ _ h k ?_
    rw [first]
    by_cases h0 : t.val % 4 = 0
    · rw [if_pos h0, if_pos (by omega)]
      rfl
    · rw [if_neg h0, if_neg (by omega)]
      refine (read_1 m d t _).trans (congrArg (fun p => at2 (input m d) (t.val % 16 / 4 * 2048 + p) _) ?_)
      show (t.val % 4 * 64 - 1) * 8 + j = t.val % 4 * 512 + p - 3
      omega
  · obtain ⟨q, rfl⟩ : ∃ q, j = 8 + q := ⟨j - 8, by omega⟩
    rw [if_neg (by omega)]
    refine (strip_high _ _ _ (by omega) k).trans ((read_0 m d t _).trans (congrArg (fun p => at2 (input m d) (t.val % 16 / 4 * 2048 + p) _) ?_))
    show t.val % 4 * 512 + q = t.val % 4 * 512 + p - 3
    omega

/-- What a grid point writes. -/
theorem point (y : S1x512x512.Idx) : (out0_4 (grid0.coords t) (iblk m d 0 t) (iblk m d 1 t) (iblk m d 2 t) (iblk m d 3 t) : S1x512x512.Idx → EReal) y
    = silu (conv (input m d) (taps m d) (bias m d) (t.val % 16 / 4) (t.val % 4 * 512 + (y 1).val) (t.val / 16 * 512 + (y 2).val)) := by
  refine (block (grid0.coords t) (block_0 m d t) (block_1 m d t) (block_2 m d t) (block_3 m d t) y).trans (congrArg silu ?_)
  have hy : (y 1).val < 512 := (y 1).isLt
  have ht := fun (r : ℕ) (hr : r < 4) inb => (tap_row (block_2 m d t) hr (inb := inb) (y 2)).trans (read_2 m d t ⟨r, hr⟩ (y 2))
  have h0 : block_0 m d t (ix3 0 (y 1) (y 2)) = padded (input m d) (t.val % 16 / 4) (t.val % 4 * 512 + (y 1).val + 3) (t.val / 16 * 512 + (y 2).val) :=
    (read_0 m d t _).trans (if_neg (by omega)).symm
  refine (sum_block _ _ _ _ _ _ _ _ _).trans ((ha (ha (ha (ha (hm h0 (ht 3 (by decide) _))
    (read_3 m d t (y 2))) (hm (strip_at m d t _ rfl (y 2)) (ht 2 (by decide) _)))
    (hm (strip_at m d t _ rfl (y 2)) (ht 1 (by decide) _))) (hm (strip_at m d t _ rfl (y 2)) (ht 0 (by decide) _))).trans ?_)
  unfold conv
  show _ + _ + _ + _ + padded (input m d) (t.val % 16 / 4) (t.val % 4 * 512 + (y 1).val) _ * _ = _
  simp only [Nat.add_assoc]
  abel

section Reference

variable (x0 : S8192x1536.Idx → EReal) (x1 : S4x1536.Idx → EReal) (x2 : S1x1536.Idx → EReal)

theorem ref_padded (i : Cert.ConvFwdRefIdeal.S4x2051x1536.Idx) {s p c : ℕ} (hs : (i 0).val = s) (hp : (i 1).val = p) (hc : (i 2).val = c) :
    (val_main_v2 (F := Ideal) x0 i : EReal) = padded x0 s p c := by
  have h1 : (i 1).val < 2051 := (i 1).isLt
  unfold padded val_main_v2
  split_ifs with h
  · exact (pad_apply_of_not_inside _ _ _ _ _ _ _ i 1 fun hin => absurd (show 3 ≤ (i 1).val from hin.1) (by omega)).trans (by
      show ((((0#32 : BitVec 32).toInt : ℝ)) : EReal) = 0
      simp)
  · refine (pad_apply_of_inside _ _ _ _ _ _ _ i (ix3 (n0 := 4) (n1 := 2048) (n2 := 1536) (i 0) ⟨(i 1).val - 3, by omega⟩ (i 2)) fun a => ?_).trans
      (sequences x0 _ hs (by show (i 1).val - 3 = _; omega) hc)
    match a with
    | ⟨0, _⟩ => show (i 0).val = 0 + (i 0).val * 1; omega
    | ⟨1, _⟩ => show (i 1).val = 3 + ((i 1).val - 3) * 1; omega
    | ⟨2, _⟩ => show (i 2).val = 0 + (i 2).val * 1; omega

theorem ref_conv (i : S4x2048x1536.Idx) : (val_main_v33 (F := Ideal) x0 x1 x2 i : EReal)
    = silu (conv x0 x1 x2 (i 0).val (i 1).val (i 2).val) := by
  have hc : (i 2).val % 1536 = (i 2).val := Nat.mod_eq_of_lt (i 2).isLt
  refine congrArg silu (ha (ha (ha (ha
    (hm ((val_main_v3_apply (F := Ideal) x0 i).trans (ref_padded x0 _ rfl rfl rfl)) ?_)
    (hm ((val_main_v9_apply (F := Ideal) x0 i).trans (ref_padded x0 _ rfl (Nat.add_comm _ _) rfl)) ?_))
    (hm ((val_main_v16_apply (F := Ideal) x0 i).trans (ref_padded x0 _ rfl (Nat.add_comm _ _) rfl)) ?_))
    (hm ((val_main_v23_apply (F := Ideal) x0 i).trans (ref_padded x0 _ rfl (Nat.add_comm _ _) rfl)) ?_)) ?_)
  · rw [val_main_v7_apply, val_main_v6_apply, val_main_v5_apply, val_main_v4_apply]; exact at2_of x1 _ rfl hc
  · rw [val_main_v13_apply, val_main_v12_apply, val_main_v11_apply, val_main_v10_apply]; exact at2_of x1 _ rfl hc
  · rw [val_main_v20_apply, val_main_v19_apply, val_main_v18_apply, val_main_v17_apply]; exact at2_of x1 _ rfl hc
  · rw [val_main_v27_apply, val_main_v26_apply, val_main_v25_apply, val_main_v24_apply]; exact at2_of x1 _ rfl hc
  · rw [val_main_v31_apply, val_main_v30_apply, val_main_v1_apply]; exact at2_of x2 _ rfl hc

end Reference

/-- The whole array. -/
theorem result : (dats m 0 d).arrAt 4 cfg0.N = val_main_v33 (F := Ideal) (input m d) (taps m d) (bias m d) := by
  refine (dats m 0 d).arrAt_eq_of_covers 4 _ (by decide +kernel) fun t hf y => ?_
  have hy : (y 0).val < 1 := (y 0).isLt
  blk_simp
  rw [after0_4]
  have hc : ∀ {s s' p p' c c' : ℕ}, s = s' → p = p' → c = c' → conv (input m d) (taps m d) (bias m d) s p c
    = conv (input m d) (taps m d) (bias m d) s' p' c' := fun h h' h'' => h ▸ h' ▸ h'' ▸ rfl
  refine (point m d t y).trans (Eq.symm ((ref_conv _ _ _ _).trans (congrArg silu (hc ?_ ?_ ?_))))
  · exact (emb win0_4 t y 0).trans (by rw [idx_4]; show t.val % 16 / 4 * 1 + (y 0).val = _; omega)
  · exact (emb win0_4 t y 1).trans (by rw [idx_4]; rfl)
  · exact (emb win0_4 t y 2).trans (by rw [idx_4]; rfl)

theorem algebraic : Cert.algebraic_ConvFwdIdeal_ConvFwdRefIdeal (hConvFwdIdeal := Cert.ConvFwdIdeal.Gen.facts)
    (hConvFwdRefIdeal := Cert.ConvFwdRefIdeal.Gen.facts) := by
  intro m g m' g' _ hargs
  refine ⟨fun d => (Gen.dats m 0 d).arrAt 4 cfg0.N, Value.run_blocks m g, ?_⟩
  refine (θ_run (Cert.ConvFwdRefIdeal.defs (F := Ideal)) _ _).mono (fun r h d => ?_) (Cert.ConvFwdRefIdeal.Value.run (F := Ideal) m' g')
  obtain ⟨e0, e1, e2⟩ := hargs d
  refine ⟨(h d).1.trans ((val_main_v33_eq (F := Ideal) m' d).trans ?_), (h d).2⟩
  rw [e0, e1, e2]
  exact (result m d).symm

/-- Every execution of the reference ends, its arguments unchanged. -/
theorem ref_frame : Cert.quiescent_ConvFwdRefIdeal (hConvFwdRefIdeal := Cert.ConvFwdRefIdeal.Gen.facts) := fun m g _ =>
  (θ_run (Cert.ConvFwdRefIdeal.defs (F := Ideal)) _ _).mono (fun r h => ⟨fun d => (h d).2, sem_eq_zero_of_no_sems (by decide) r.2⟩)
    (Cert.ConvFwdRefIdeal.Value.run (F := Ideal) m g)

end ConvFwd

end
-- ==== Proof.GateBwd.lean ====
/- The cotangents of the gated rows, of their gate and of their norm's weights: the cotangent of the rows normalized by
   groups of 512 columns taken back through the normalization and then through the gate. -/
module

public import proofs.«01_k».proof.Proof.ConvFwd
public import proofs.«01_k».proof.Proof.Claim
public import proofs.«01_k».proof.Proof.Gen.Pre_finite_gate
public import proofs.«01_k».proof.Proof.Gen.GateBwdIdeal.Value
public import proofs.«01_k».proof.Proof.Gen.GateBwdRefIdeal.Read

@[expose] public section

set_option maxRecDepth 100000

noncomputable section

namespace GateBwd

open Cert.GateBwdIdeal Cert.GateBwdIdeal.Gen Products Rms Cert.GateBwdRefIdeal.Read
open Idealize.ShloMosaic hiding ix1 ix2 ix3 ix4 eq_ix2 eq_ix3 eq_ix4
open Idealize.ShloMosaic.TcCoe Idealize.ShloMosaic.ValueIdx Idealize.SL.Sem

abbrev one : EReal := Ideal.ofBits .f32 0x3F800000#32
abbrev W : EReal := Ideal.ofBits .f32 0x44000000#32

def sigmoid (b : EReal) : EReal := Ideal.div one (one + Ideal.exp (-b))

/-- The columns of a group: that of column `c`, and that beginning at `o`. -/
def col (c : Fin 1024) (k : Fin 512) : Fin 1024 := ⟨c.val / 512 * 512 + k.val, by have := c.isLt; have := k.isLt; omega⟩
def place (c : Fin 1024) : Fin 512 := ⟨c.val % 512, Nat.mod_lt _ (by decide)⟩
def off {o : ℕ} (ho : o + 512 ≤ 1024) (k : Fin 512) : Fin 1024 := ⟨o + k.val, by have := k.isLt; omega⟩

theorem col_off {o : ℕ} (ho : o + 512 ≤ 1024) (hd : o / 512 * 512 = o) (q k : Fin 512) : col (off ho q) k = off ho k :=
  Fin.ext (by have := q.isLt; show (o + q.val) / 512 * 512 + k.val = o + k.val; omega)

theorem place_off {o : ℕ} (ho : o + 512 ≤ 1024) (hd : o / 512 * 512 = o) (q : Fin 512) : place (off ho q) = q :=
  Fin.ext (by have := q.isLt; show (o + q.val) % 512 = q.val; omega)

section Rows

/- A row of the cotangent, of the rows and of their gate, the weights, and a column. -/
variable (D A B V : Fin 1024 → EReal) (c : Fin 1024)

def gate : EReal := GateFwd.gated (A c) (B c)
def normal : EReal := gate A B c * scale_of W fun k => gate A B (col c k)
def through : EReal := back_of W (fun k => gate A B (col c k)) (fun k => D (col c k) * V (col c k)) (place c)
def row_y : EReal := through D A B V c * (B c * sigmoid (B c))
def row_z : EReal := through D A B V c * A c * (sigmoid (B c) * (one + B c * (one - sigmoid (B c))))

end Rows

section Finite

def Finite (a : EReal) : Prop := ∃ q : ℝ, a = (q : EReal)

theorem sigmoid_finite (b : ℝ) : Finite (sigmoid b) := by
  refine ⟨1 / (1 + Real.exp (-b)), ?_⟩
  unfold sigmoid
  rw [← EReal.coe_neg, Ideal.exp_coe, show one = ((1 : ℝ) : EReal) from AttBwd.one_f32, ← EReal.coe_add]
  exact AttBwd.div_coe_coe (by positivity) 1

theorem back_finite (x g : Fin 512 → ℝ) (i : Fin 512) : Finite (back_of W (fun k => ((x k : ℝ) : EReal)) (fun k => ((g k : ℝ) : EReal)) i) := by
  obtain ⟨s, hs⟩ : Finite (scale_of W fun k => ((x k : ℝ) : EReal)) := by
    rw [show W = ((512 : ℝ) : EReal) from width_512]
    rcases Rms.cases (by norm_num : (0 : ℝ) < 512) (fun k => ((x k : ℝ) : EReal)) with ⟨_, h⟩ | ⟨r, _, h, _⟩
    · exact ⟨0, h⟩
    · exact ⟨r, h⟩
  refine ⟨s * (g i - x i * s * ((∑ k, g k * (x k * s)) / 512)), ?_⟩
  unfold back_of
  dsimp only
  rw [hs, show W = ((512 : ℝ) : EReal) from width_512]
  simp only [← EReal.coe_mul]
  rw [AttBwd.sum_coe, AttBwd.div_coe_coe (by norm_num), ← EReal.coe_mul, ← EReal.coe_sub, ← EReal.coe_mul]

theorem through_finite {D A B V : Fin 1024 → EReal} (hD : ∀ k, Finite (D k)) (hA : ∀ k, Finite (A k)) (hB : ∀ k, Finite (B k))
    (hV : ∀ k, Finite (V k)) (c : Fin 1024) : Finite (through D A B V c) := by
  choose D' hD using hD
  choose A' hA using hA
  choose B' hB using hB
  choose V' hV using hV
  choose S hS using sigmoid_finite
  have hg : ∀ k, gate A B k = ((A' k * (B' k * S (B' k)) : ℝ) : EReal) := fun k => by
    show A k * (B k * sigmoid (B k)) = _
    rw [hA, hB, hS, EReal.coe_mul, EReal.coe_mul]
  unfold through
  simp only [hg, hD, hV, ← EReal.coe_mul]
  exact back_finite _ _ _

/-- The gate's slope, as one factor and by the product rule. -/
theorem slope {a y b : EReal} (ha : Finite a) (hy : Finite y) (hb : Finite b) :
    a * y * (sigmoid b * (one + b * (one - sigmoid b))) = y * a * sigmoid b + b * (y * a) * (sigmoid b * (one - sigmoid b)) := by
  obtain ⟨a, rfl⟩ := ha
  obtain ⟨y, rfl⟩ := hy
  obtain ⟨b, rfl⟩ := hb
  obtain ⟨s, hs⟩ := sigmoid_finite b
  rw [hs, show one = ((1 : ℝ) : EReal) from AttBwd.one_f32]
  norm_cast
  ring_nf

end Finite

/-- What two pieces leave, one for each group's columns. -/
theorem halves {n : ℕ} {e : EltTy} {P : Fin n → Fin 1024 → Elt Ideal e → Prop} {i1 i0} {L}
    {w1 : (Rect.unit (s := ⟨2, ![n, 1024]⟩) ![0, 512] ![n, 512] i1).shape.Idx → Elt Ideal e}
    {w0 : (Rect.unit (s := ⟨2, ![n, 1024]⟩) ![0, 0] ![n, 512] i0).shape.Idx → Elt Ideal e}
    (p0 : ∀ y, P (y 0) (off (o := 0) (by decide) (y 1)) (w0 y)) (p1 : ∀ y, P (y 0) (off (o := 512) (by decide) (y 1)) (w1 y))
    (y : (⟨2, ![n, 1024]⟩ : Shape).Idx) : P (y 0) (y 1) (View.canon
      ((⟨Rect.unit ![0, 512] ![n, 512] i1, w1⟩ : View.Piece (Elt Ideal) _ e) :: ⟨Rect.unit ![0, 0] ![n, 512] i0, w0⟩ :: L) y) := by
  refine AttBwd.canon2 (R := fun r c v => ∀ (hr : r < n) (hc : c < 1024), P ⟨r, hr⟩ ⟨c, hc⟩ v) (fun y hr hc => ?_) (fun x hx hr hc => ?_)
    y (y 0).isLt (y 1).isLt
  · rw [show (⟨0 + (y 0).val, hr⟩ : Fin n) = y 0 from Fin.ext (Nat.zero_add _)]
    exact p1 y
  · refine AttBwd.canon2 (R := fun r c v => ∀ (hr : r < n) (hc : c < 1024), c < 512 → P ⟨r, hr⟩ ⟨c, hc⟩ v) (fun y hr hc _ => ?_)
      (fun x hx hr hc h => ?_) x hr hc (by omega)
    · rw [show (⟨0 + (y 0).val, hr⟩ : Fin n) = y 0 from Fin.ext (Nat.zero_add _)]
      exact p0 y
    · omega

section Step

variable (x0 x1 x2 : Vec Ideal S512x1024 .f32) (x3 xo : Vec Ideal S1x1024 .f32) {o : ℕ} (ho : o + 512 ≤ 1024) (hd : o / 512 * 512 = o)

abbrev row (x : S512x1024.Idx → EReal) (r : Fin 512) : Fin 1024 → EReal := fun k => x (ix2 r k)
abbrev flat (x : S1x1024.Idx → EReal) : Fin 1024 → EReal := fun k => x (ix2 0 k)

theorem sigmoid_block (y : S512x1024.Idx) : (k0_pay5 x2 : S512x1024.Idx → EReal) y = sigmoid (x2 y) :=
  congrArg (fun a : EReal => Ideal.div one (one + Ideal.exp a)) ((congrArg (fun a : EReal => a - x2 y) AttBwd.zero_f32).trans
    (zero_sub (x2 y : EReal)))

theorem gate_block (y : S512x1024.Idx) : (k0_pay7 x2 x1 : S512x1024.Idx → EReal) y = gate (row x1 (y 0)) (row x2 (y 0)) (y 1) :=
  hm (congrArg x1 (eq_ix2 y)) (hm (congrArg x2 (eq_ix2 y)) ((sigmoid_block x2 y).trans (congrArg (fun i => sigmoid (x2 i)) (eq_ix2 y))))

/-- A group's columns of a block, sliced from it or loaded. -/
theorem cut (v : FVec Ideal S512x1024 .f32) (h : Shape.Slices S512x1024 ![0, o] S512x512) (y : S512x512.Idx) :
    (extractStridedSlice S512x512 ![0, o] v h : S512x512.Idx → EReal) y = v (ix2 (y 0) (off ho (y 1))) :=
  extractStridedSlice_apply ![0, o] v h y (ix2 (y 0) (off ho (y 1))) fun b => match b with
    | ⟨0, _⟩ => (Nat.zero_add _).symm
    | ⟨1, _⟩ => rfl

theorem loaded {n : ℕ} (x : Vec Ideal ⟨2, ![n, 1024]⟩ .f32) {inb} (y : (⟨2, ![n, 512]⟩ : Shape).Idx) :
    (View.ld (S := ⟨2, ![n, 1024]⟩) x (Rect.unit (s := ⟨2, ![n, 1024]⟩) ![0, o] ![n, 512] inb) y : EReal) = x (ix2 (y 0) (off ho (y 1))) :=
  (at2_of x _ ((Rect.idx_unit_val _ _ _ _ 0).trans (Nat.zero_add _)) (Rect.idx_unit_val _ _ _ _ 1)).trans
    (at2_of x (ix2 (y 0) (off ho (y 1))) rfl rfl).symm

section Group

variable {g T : FVec Ideal S512x512 .f32} (hg : ∀ y, (g y : EReal) = gate (row x1 (y 0)) (row x2 (y 0)) (off ho (y 1)))
  (v : FVec Ideal S512x512 .f32) (hv : ∀ y, (v y : EReal) = row x0 (y 0) (off ho (y 1)))
  (w : FVec Ideal S1x512 .f32) (hw : ∀ y, (w y : EReal) = x3 (ix2 (y 0) (off ho (y 1))))

include hd hg

theorem normal_of (y : S512x512.Idx) : (g y : EReal) * scale_of W (fun k => g (ix2 (y 0) k))
    = normal (row x1 (y 0)) (row x2 (y 0)) (off ho (y 1)) :=
  hm (hg y) (congrArg (scale_of W) (funext fun k => (hg _).trans (congrArg (gate _ _) (col_off ho hd (y 1) k).symm)))

include hv hw

theorem through_of {hb} (hT : ∀ y, (T y : EReal) = back_of W (fun k => g (ix2 (y 0) k))
    (fun k => (mulf v (broadcastTo S512x512 w hb) : S512x512.Idx → EReal) (ix2 (y 0) k)) (y 1)) (y : S512x512.Idx) :
    (T y : EReal) = through (row x0 (y 0)) (row x1 (y 0)) (row x2 (y 0)) (flat x3) (off ho (y 1)) :=
  (hT y).trans ((congrArg₂ (fun x g => back_of W x g (y 1))
    (funext fun k => (hg _).trans (congrArg (gate _ _) (col_off ho hd (y 1) k).symm)) (funext fun k =>
      hm ((hv _).trans (congrArg (row x0 _) (col_off ho hd (y 1) k).symm))
        (((down (R := 512) (C := 512) w _).trans (hw _)).trans (congrArg (flat x3) (col_off ho hd (y 1) k).symm)))).trans
    (congrArg (back_of W _ _) (place_off ho hd (y 1)).symm))

end Group

section Results

variable {T : FVec Ideal S512x512 .f32}
  (hT : ∀ y, (T y : EReal) = through (row x0 (y 0)) (row x1 (y 0)) (row x2 (y 0)) (flat x3) (off ho (y 1)))
include hT

theorem y_of {h} (y : S512x512.Idx) : (mulf T (extractStridedSlice S512x512 ![0, o] (k0_pay6 x2) h) : S512x512.Idx → EReal) y
    = row_y (row x0 (y 0)) (row x1 (y 0)) (row x2 (y 0)) (flat x3) (off ho (y 1)) :=
  hm (hT y) ((cut ho _ _ y).trans (congrArg (fun a : EReal => x2 _ * a) (sigmoid_block x2 _)))

theorem z_of {h} (y : S512x512.Idx) : (T y : EReal) * (extractStridedSlice S512x512 ![0, o] x1 h : S512x512.Idx → EReal) y
    * ((extractStridedSlice S512x512 ![0, o] (k0_pay5 x2) h : S512x512.Idx → EReal) y
      * (one + (extractStridedSlice S512x512 ![0, o] x2 h : S512x512.Idx → EReal) y
        * (one - (extractStridedSlice S512x512 ![0, o] (k0_pay5 x2) h : S512x512.Idx → EReal) y)))
    = row_z (row x0 (y 0)) (row x1 (y 0)) (row x2 (y 0)) (flat x3) (off ho (y 1)) := by
  rw [cut ho, cut ho, cut ho, sigmoid_block, hT]
  rfl

end Results

/-- What a group adds to the row of the norm's weights. -/
theorem add_of {N v : FVec Ideal S512x512 .f32} {w : FVec Ideal S1x512 .f32} {f : Fin 1024 → EReal}
    (hN : ∀ y, (N y : EReal) = normal (row x1 (y 0)) (row x2 (y 0)) (off ho (y 1)))
    (hv : ∀ y, (v y : EReal) = row x0 (y 0) (off ho (y 1))) (hw : ∀ y, (w y : EReal) = f (off ho (y 1))) (y : S1x512.Idx) :
    (addf (shapeCast S1x512 w shapeCasts_S1x512_S1x512) (shapeCast S1x512 (multiReduction .add [0] S512 (mulf v N) 0x00000000#32
      reduces_S512x512_S512_2 (.inl rfl) rfl) shapeCasts_S512_S1x512) : S1x512.Idx → EReal) y
      = f (off ho (y 1)) + ∑ r : Fin 512, row x0 r (off ho (y 1)) * normal (row x1 r) (row x2 r) (off ho (y 1)) := by
  rw [shapeCast_self]
  exact ha (hw y) ((col_sum (R := 512) (C := 512) _ y).trans (Finset.sum_congr rfl fun r _ => hm (hv _) (hN _)))

abbrev ho_0 : 0 + 512 ≤ 1024 := by decide
abbrev ho_1 : 512 + 512 ≤ 1024 := by decide

theorem gate_0 (y : S512x512.Idx) : (k0_pay9 x2 x1 y : EReal) = gate (row x1 (y 0)) (row x2 (y 0)) (off ho_0 (y 1)) :=
  (cut ho_0 _ slices_S512x1024_o0_0_S512x512 y).trans (gate_block x1 x2 _)

theorem gate_1 (y : S512x512.Idx) : (k0_pay17 (k0_pay7 x2 x1) y : EReal) = gate (row x1 (y 0)) (row x2 (y 0)) (off ho_1 (y 1)) :=
  (cut ho_1 _ slices_S512x1024_o0_512_S512x512 y).trans (gate_block x1 x2 _)

theorem normal_0 (y : S512x512.Idx) : (k0_pay11 x2 x1 y : EReal) = normal (row x1 (y 0)) (row x2 (y 0)) (off ho_0 (y 1)) :=
  (congrArg (fun a : EReal => k0_pay9 x2 x1 y * a) ((spread (R := 512) (C := 512) _ y).trans (scale_block_of _ _))).trans
    (normal_of x1 x2 ho_0 rfl (gate_0 x1 x2) y)

theorem normal_1 (y : S512x512.Idx) : (k0_pay19 (k0_pay7 x2 x1) y : EReal) = normal (row x1 (y 0)) (row x2 (y 0)) (off ho_1 (y 1)) :=
  (congrArg (fun a : EReal => k0_pay17 (k0_pay7 x2 x1) y * a) ((spread (R := 512) (C := 512) _ y).trans (scale_block_of _ _))).trans
    (normal_of x1 x2 ho_1 rfl (gate_1 x1 x2) y)

theorem through_0 {i i'} (y : S512x512.Idx) : (k0_pay12 x2 x1 (View.ld x0 (Rect.unit (s := S512x1024) ![0, 0] ![512, 512] i))
    (View.ld x3 (Rect.unit (s := S1x1024) ![0, 0] ![1, 512] i')) y : EReal)
      = through (row x0 (y 0)) (row x1 (y 0)) (row x2 (y 0)) (flat x3) (off ho_0 (y 1)) :=
  through_of x0 x1 x2 x3 ho_0 rfl (gate_0 x1 x2) _ (loaded ho_0 x0) _ (loaded ho_0 x3)
    (back_block_of (R := 512) (C := 512) (W := 0x44000000#32) _ (k0_pay9 x2 x1) (k0_pay10 x2 x1) fun y => scale_block_of _ y) y

theorem through_1 {i i'} (y : S512x512.Idx) : (k0_pay1 (k0_pay18 (k0_pay7 x2 x1)) (k0_pay19 (k0_pay7 x2 x1))
    (k0_pay20 (View.ld x0 (Rect.unit (s := S512x1024) ![0, 512] ![512, 512] i)) (View.ld x3 (Rect.unit (s := S1x1024) ![0, 512] ![1, 512] i')))
    (k0_pay21 (k0_pay7 x2 x1) (View.ld x0 (Rect.unit (s := S512x1024) ![0, 512] ![512, 512] i))
      (View.ld x3 (Rect.unit (s := S1x1024) ![0, 512] ![1, 512] i'))) y : EReal)
      = through (row x0 (y 0)) (row x1 (y 0)) (row x2 (y 0)) (flat x3) (off ho_1 (y 1)) :=
  through_of x0 x1 x2 x3 ho_1 rfl (gate_1 x1 x2) _ (loaded ho_1 x0) _ (loaded ho_1 x3)
    (back_block_of (R := 512) (C := 512) (W := 0x44000000#32) _ (k0_pay17 (k0_pay7 x2 x1)) (k0_pay18 (k0_pay7 x2 x1)) fun y => scale_block_of _ y) y

variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .bf16) (h6 : a6.IsWhole) (a7 : Memref sig .tc .vmem S1x1024 .f32) (h7 : a7.IsWhole)

/-- What the body leaves in its three blocks: the first two at every point, the row at the first and at a later one. -/
theorem block_y (y : S512x1024.Idx) :
    (∀ h0, (out0_A_4 c i a1 h1 a2 h2 a3 h3 a4 h4 a5 h5 a6 h6 a7 h7 h0 x0 x1 x2 x3 y : EReal) = row_y (row x0 (y 0)) (row x1 (y 0)) (row x2 (y 0)) (flat x3) (y 1))
    ∧ ∀ h0, (out0_B_4 c i a1 h1 a2 h2 a3 h3 a4 h4 a5 h5 a6 h6 a7 h7 h0 x0 x1 x2 x3 xo y : EReal) = row_y (row x0 (y 0)) (row x1 (y 0)) (row x2 (y 0)) (flat x3) (y 1) := by
  constructor <;> intro h0
  all_goals
    first | unfold out0_A_4 | unfold out0_B_4
    rw [View.read_writes_junk_eq_canon]
    first | unfold kernelRun0_A | unfold kernelRun0_B
    dsimp only
    sl_unfold_words
    simp only [View.readAt_eq_ld, h1.read_unread, h2.read_unread, h3.read_unread, h4.read_unread, ld_whole]
    exact halves (n := 512) (e := .f32) (P := fun r c v => (v : EReal) = row_y (row x0 r) (row x1 r) (row x2 r) (flat x3) c)
      (fun y => y_of x0 x1 x2 x3 ho_0 (through_0 x0 x1 x2 x3) (h := slices_S512x1024_o0_0_S512x512) y)
      (fun y => y_of x0 x1 x2 x3 ho_1 (through_1 x0 x1 x2 x3) (h := slices_S512x1024_o0_512_S512x512) y) y

theorem block_z (y : S512x1024.Idx) :
    (∀ h0, (out0_A_5 c i a1 h1 a2 h2 a3 h3 a4 h4 a5 h5 a6 h6 a7 h7 h0 x0 x1 x2 x3 y : EReal) = row_z (row x0 (y 0)) (row x1 (y 0)) (row x2 (y 0)) (flat x3) (y 1))
    ∧ ∀ h0, (out0_B_5 c i a1 h1 a2 h2 a3 h3 a4 h4 a5 h5 a6 h6 a7 h7 h0 x0 x1 x2 x3 xo y : EReal) = row_z (row x0 (y 0)) (row x1 (y 0)) (row x2 (y 0)) (flat x3) (y 1) := by
  constructor <;> intro h0
  all_goals
    first | unfold out0_A_5 | unfold out0_B_5
    rw [View.read_writes_junk_eq_canon]
    first | unfold kernelRun0_A | unfold kernelRun0_B
    dsimp only
    sl_unfold_words
    simp only [View.readAt_eq_ld, h1.read_unread, h2.read_unread, h3.read_unread, h4.read_unread, ld_whole]
    exact halves (n := 512) (e := .bf16) (P := fun r c v => (v : EReal) = row_z (row x0 r) (row x1 r) (row x2 r) (flat x3) c)
      (fun y => z_of x0 x1 x2 x3 ho_0 (through_0 x0 x1 x2 x3) (h := slices_S512x1024_o0_0_S512x512) y)
      (fun y => z_of x0 x1 x2 x3 ho_1 (through_1 x0 x1 x2 x3) (h := slices_S512x1024_o0_512_S512x512) y) y

theorem row_A (h0) (y : S1x1024.Idx) : (out0_A_6 c i a1 h1 a2 h2 a3 h3 a4 h4 a5 h5 a6 h6 a7 h7 h0 x0 x1 x2 x3 y : EReal)
    = 0 + ∑ r : Fin 512, row x0 r (y 1) * normal (row x1 r) (row x2 r) (y 1) := by
  unfold out0_A_6
  rw [View.read_writes_junk_eq_canon]
  unfold kernelRun0_A
  dsimp only
  sl_unfold_words
  simp only [View.readAt_eq_ld, h1.read_unread, h2.read_unread, h3.read_unread, h4.read_unread, ld_whole]
  refine halves (n := 1) (e := .f32) (P := fun _ c v => (v : EReal) = 0 + ∑ r : Fin 512, row x0 r c * normal (row x1 r) (row x2 r) c)
    (fun y => add_of x0 x1 x2 ho_0 (f := fun _ => 0) (normal_0 x1 x2) (loaded ho_0 x0) (fun y => ?_) y)
    (fun y => add_of x0 x1 x2 ho_1 (f := fun _ => 0) (normal_1 x1 x2) (loaded ho_1 x0) (fun y => ?_) y) y
  · rw [View.readCov_eq_canon', View.canon_unit_zero origin]
    exact AttBwd.zero_f32
  · rw [View.readCov_eq_canon']
    refine (AttBwd.canon_unit_of_not _ _ _ _ fun h => ?_).trans ?_
    · have h := (h 1).2
      have e := Rect.idx_unit_val (s := S1x1024) ![0, 512] ![1, 512] inb_S1x1024_S1x512_0_512 y 1
      exact absurd (e.symm.trans_lt h) (by show ¬ 512 + (y 1).val < 0 + 512; omega)
    · rw [View.canon_unit_zero origin]
      exact AttBwd.zero_f32

theorem row_B (h0) (y : S1x1024.Idx) : (out0_B_6 c i a1 h1 a2 h2 a3 h3 a4 h4 a5 h5 a6 h6 a7 h7 h0 x0 x1 x2 x3 xo y : EReal)
    = flat xo (y 1) + ∑ r : Fin 512, row x0 r (y 1) * normal (row x1 r) (row x2 r) (y 1) := by
  unfold out0_B_6
  rw [View.read_writes_junk_eq_canon]
  unfold kernelRun0_B
  dsimp only
  sl_unfold_words
  simp only [View.readAt_eq_ld, h1.read_unread, h2.read_unread, h3.read_unread, h4.read_unread, h7.read_unread, ld_whole]
  have hx : ∀ {o : ℕ} (ho : o + 512 ≤ 1024) {inb} (y : S1x512.Idx), (View.ld (S := S1x1024) xo (Rect.unit (s := S1x1024) ![0, o] ![1, 512] inb) y : EReal)
      = flat xo (off ho (y 1)) := fun ho _ y => (loaded ho xo y).trans (congrArg (fun r => xo (ix2 r _)) (Subsingleton.elim _ _))
  exact halves (n := 1) (e := .f32) (P := fun _ c v => (v : EReal) = flat xo c + ∑ r : Fin 512, row x0 r c * normal (row x1 r) (row x2 r) c)
    (fun y => add_of x0 x1 x2 ho_0 (normal_0 x1 x2) (loaded ho_0 x0) (hx ho_0) y)
    (fun y => add_of x0 x1 x2 ho_1 (normal_1 x1 x2) (loaded ho_1 x0) (hx ho_1) y) y

end Step

variable (m : (ℓ : Loc nD τ sig) → Buf (Elt Ideal) ℓ) (d : Dev nD) (t : Fin cfg0.N)

theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![t.val, 0] := by decide +kernel
theorem idx_3 : ∀ t : Fin cfg0.N, win0_3.index t = ![0, 0] := by decide +kernel
theorem idx_4 : ∀ t : Fin cfg0.N, win0_4.index t = ![t.val, 0] := by decide +kernel
theorem idx_5 : ∀ t : Fin cfg0.N, win0_5.index t = ![t.val, 0] := by decide +kernel
theorem idx_6 : ∀ t : Fin cfg0.N, win0_6.index t = ![0, 0] := by decide +kernel

/-- The arguments, and what a grid point reads of them. -/
abbrev ct : S8192x2048.Idx → EReal := m ((d : Thread nD τ).loc main_arg0)
abbrev state : S8192x1024.Idx → EReal := m ((d : Thread nD τ).loc main_arg1)
abbrev gates : S8192x1024.Idx → EReal := m ((d : Thread nD τ).loc main_arg2)
abbrev norm : S1x1024.Idx → EReal := m ((d : Thread nD τ).loc main_arg3)
abbrev block_0 : S512x1024.Idx → EReal := iblk m d 0 t
abbrev block_1 : S512x1024.Idx → EReal := iblk m d 1 t
abbrev block_2 : S512x1024.Idx → EReal := iblk m d 2 t
abbrev block_3 : S1x1024.Idx → EReal := iblk m d 3 t

/-- The first 1024 columns of a row of an array. -/
abbrev line {a b : ℕ} (x : (⟨2, ![a, b]⟩ : Shape).Idx → EReal) (r : ℕ) : Fin 1024 → EReal := fun k => at2 x r k.val

theorem read_0 (i : Fin 512) : row (block_0 m d t) i = line (ct m d) (t.val * 512 + i.val) := funext fun k => by
  refine Eq.trans ?_ (at2_eq (V_main_arg0 m d))
  refine at2_of (V m d main_arg0) _ ?_ ?_
  · exact (emb win0_0 t (ix2 i k) 0).trans (by rw [idx_0]; rfl)
  · exact emb_zero win0_0 t 1 (by rw [idx_0]; rfl) (ix2 i k)

theorem read_1 (i : Fin 512) : row (block_1 m d t) i = line (state m d) (t.val * 512 + i.val) := funext fun k => by
  refine Eq.trans ?_ (at2_eq (V_main_arg1 m d))
  refine at2_of (V m d main_arg1) _ ?_ ?_
  · exact (emb win0_1 t (ix2 i k) 0).trans (by rw [idx_1]; rfl)
  · exact emb_zero win0_1 t 1 (by rw [idx_1]; rfl) (ix2 i k)

theorem read_2 (i : Fin 512) : row (block_2 m d t) i = line (gates m d) (t.val * 512 + i.val) := funext fun k => by
  refine Eq.trans ?_ (at2_eq (V_main_arg2 m d))
  refine at2_of (V m d main_arg2) _ ?_ ?_
  · exact (emb win0_2 t (ix2 i k) 0).trans (by rw [idx_2]; rfl)
  · exact emb_zero win0_2 t 1 (by rw [idx_2]; rfl) (ix2 i k)

theorem read_3 : flat (block_3 m d t) = line (norm m d) 0 := funext fun k => by
  refine Eq.trans ?_ (at2_eq (V_main_arg3 m d))
  refine at2_of (V m d main_arg3) _ ?_ ?_
  · exact emb_zero win0_3 t 0 (by rw [idx_3]; rfl) (ix2 0 k)
  · exact emb_zero win0_3 t 1 (by rw [idx_3]; rfl) (ix2 0 k)

section Math

variable (x0 : S8192x2048.Idx → EReal) (x1 x2 : S8192x1024.Idx → EReal) (x3 : S1x1024.Idx → EReal)

/-- The three results; of the last, what a row adds. -/
def y_at (r : ℕ) (c : Fin 1024) : EReal := row_y (line x0 r) (line x1 r) (line x2 r) (line x3 0) c
def z_at (r : ℕ) (c : Fin 1024) : EReal := row_z (line x0 r) (line x1 r) (line x2 r) (line x3 0) c
def term_at (c : Fin 1024) (r : ℕ) : EReal := line x0 r c * normal (line x1 r) (line x2 r) c

end Math

theorem y_read (i : Fin 512) (c : Fin 1024) : row_y (row (block_0 m d t) i) (row (block_1 m d t) i) (row (block_2 m d t) i) (flat (block_3 m d t)) c
    = y_at (ct m d) (state m d) (gates m d) (norm m d) (t.val * 512 + i.val) c := by
  rw [read_0, read_1, read_2, read_3]; rfl

theorem z_read (i : Fin 512) (c : Fin 1024) : row_z (row (block_0 m d t) i) (row (block_1 m d t) i) (row (block_2 m d t) i) (flat (block_3 m d t)) c
    = z_at (ct m d) (state m d) (gates m d) (norm m d) (t.val * 512 + i.val) c := by
  rw [read_0, read_1, read_2, read_3]; rfl

/-- What a point writes of the first two. -/
theorem point_y (y : S512x1024.Idx) : ((outsAt0 m d t.val t.isLt).1 : S512x1024.Idx → EReal) y
    = y_at (ct m d) (state m d) (gates m d) (norm m d) (t.val * 512 + (y 0).val) (y 1) := by
  refine Eq.trans ?_ (y_read m d t (y 0) (y 1))
  by_cases h : t.val % 16 = 0
  · rw [outsAt0_A m d t h]
    dsimp only
    exact (block_y (block_0 m d t) (block_1 m d t) (block_2 m d t) (block_3 m d t) (norm m d) _ _ _ _ _ _ _ _ _ _ _ _ _ _ _ _ y).1 _
  · rw [outsAt0_B m d t h]
    dsimp only
    exact (block_y (block_0 m d t) (block_1 m d t) (block_2 m d t) (block_3 m d t) _ _ _ _ _ _ _ _ _ _ _ _ _ _ _ _ _ y).2 _

theorem point_z (y : S512x1024.Idx) : ((outsAt0 m d t.val t.isLt).2.1 : S512x1024.Idx → EReal) y
    = z_at (ct m d) (state m d) (gates m d) (norm m d) (t.val * 512 + (y 0).val) (y 1) := by
  refine Eq.trans ?_ (z_read m d t (y 0) (y 1))
  by_cases h : t.val % 16 = 0
  · rw [outsAt0_A m d t h]
    dsimp only
    exact (block_z (block_0 m d t) (block_1 m d t) (block_2 m d t) (block_3 m d t) (norm m d) _ _ _ _ _ _ _ _ _ _ _ _ _ _ _ _ y).1 _
  · rw [outsAt0_B m d t h]
    dsimp only
    exact (block_z (block_0 m d t) (block_1 m d t) (block_2 m d t) (block_3 m d t) _ _ _ _ _ _ _ _ _ _ _ _ _ _ _ _ _ y).2 _

/-- What the row of the norm's weights holds after a point. -/
def held (n : ℕ) (h : n < cfg0.N) : S1x1024.Idx → EReal := (outsAt0 m d n h).2.2

theorem term_read (y : S1x1024.Idx) : (∑ r : Fin 512, row (block_0 m d t) r (y 1) * normal (row (block_1 m d t) r) (row (block_2 m d t) r) (y 1))
    = ∑ k : Fin 512, term_at (ct m d) (state m d) (gates m d) (y 1) (t.val * 512 + k.val) :=
  Finset.sum_congr rfl fun r _ => by rw [read_0, read_1, read_2]; rfl

theorem held_first (h : t.val % 16 = 0) (y : S1x1024.Idx) : held m d t.val t.isLt y
    = ∑ k : Fin 512, term_at (ct m d) (state m d) (gates m d) (y 1) (t.val * 512 + k.val) := by
  unfold held
  rw [outsAt0_A m d t h, ← term_read]
  dsimp only
  exact (row_A (block_0 m d t) (block_1 m d t) (block_2 m d t) (block_3 m d t) _ _ _ _ _ _ _ _ _ _ _ _ _ _ _ _ _ y).trans (zero_add _)

theorem held_next (h : ¬t.val % 16 = 0) (h' : t.val - 1 < cfg0.N) (y : S1x1024.Idx) : held m d t.val t.isLt y
    = held m d (t.val - 1) h' y + ∑ k : Fin 512, term_at (ct m d) (state m d) (gates m d) (y 1) (t.val * 512 + k.val) := by
  unfold held
  rw [outsAt0_B m d t h, ← term_read]
  dsimp only
  exact (row_B (block_0 m d t) (block_1 m d t) (block_2 m d t) (block_3 m d t) _ _ _ _ _ _ _ _ _ _ _ _ _ _ _ _ _ _ y).trans (congrArg (fun a : EReal => a + _)
    (congrArg (outsAt0 m d (t.val - 1) h').2.2 ((congrArg (fun r => ix2 r (y 1)) (Subsingleton.elim _ _)).trans (eq_ix2 y).symm)))

/-- What the last point writes: the sum over all rows. -/
theorem point_row (h : t.val % 16 = 15) (y : S1x1024.Idx) : ((outsAt0 m d t.val t.isLt).2.2 : S1x1024.Idx → EReal) y
    = ∑ r : Fin 8192, term_at (ct m d) (state m d) (gates m d) (y 1) r.val := by
  have ht : t.val = 15 := by have := t.isLt.trans_eq N_0; omega
  have hs := sum_of_points (N := cfg0.N) (b := 512) (fun n hn => held m d n hn y)
    (term_at (ct m d) (state m d) (gates m d) (y 1)) (fun h => held_first m d ⟨0, h⟩ rfl y)
    (fun n hn hn' => held_next m d ⟨n + 1, hn⟩ (by have := hn.trans_eq N_0; show ¬(n + 1) % 16 = 0; omega) hn' y) t.val t.isLt
  refine hs.trans ?_
  rw [ht]

section Reference

open Cert.GateBwdRefIdeal (S8192x2x512 S8192x2x1)

variable (x0 : S8192x2048.Idx → EReal) (x1 x2 : S8192x1024.Idx → EReal) (x3 : S1x1024.Idx → EReal)

def spot (a : Fin 2) (k : Fin 512) : Fin 1024 := ⟨a.val * 512 + k.val, by have := a.isLt; have := k.isLt; omega⟩
def groups (r : ℕ) (a : Fin 2) (k : Fin 512) : EReal := gate (line x1 r) (line x2 r) (spot a k)
def weighted (r : ℕ) (a : Fin 2) (k : Fin 512) : EReal := line x0 r (spot a k) * line x3 0 (spot a k)

theorem ref_gate (i : S8192x1024.Idx) : (val_main_v1 (F := Ideal) x1 x2 i : EReal) = gate (line x1 (i 0).val) (line x2 (i 0).val) (i 1) :=
  congrArg₂ GateFwd.gated (at2_of x1 i rfl rfl) (at2_of x2 i rfl rfl)

theorem ref_group (i : S8192x2x512.Idx) : (val_main_v2 (F := Ideal) x1 x2 i : EReal) = groups x1 x2 (i 0).val (i 1) (i 2) := by
  have h1 : (i 1).val < 2 := (i 1).isLt
  have h2 : (i 2).val < 512 := (i 2).isLt
  refine (val_main_v2_apply (F := Ideal) x1 x2 i).trans ((ref_gate x1 x2 _).trans
    (congrArg₂ (fun r c => gate (line x1 r) (line x2 r) c) ?_ (Fin.ext ?_)))
  · show (((i 0).val * 2 + (i 1).val) * 512 + (i 2).val) / 1024 = (i 0).val
    omega
  · show (((i 0).val * 2 + (i 1).val) * 512 + (i 2).val) % 1024 = (i 1).val * 512 + (i 2).val
    omega

theorem ref_square (i : S8192x2x1.Idx) : (val_main_v9 (F := Ideal) x1 x2 i : EReal) = square_of W (groups x1 x2 (i 0).val (i 1)) :=
  congrArg (fun a : EReal => Ideal.div a W + Ideal.ofBits .f32 0x3727C5AC#32)
    ((val_main_v5_apply (F := Ideal) x1 x2 i).trans ((val_main_v4_apply x1 x2 _).trans ((from_zero _).trans
      (Finset.sum_congr rfl fun k _ => hm (ref_group x1 x2 _) (ref_group x1 x2 _)))))

theorem ref_scale (i : S8192x2x1.Idx) : (val_main_v10 (F := Ideal) x1 x2 i : EReal) = scale_of W (groups x1 x2 (i 0).val (i 1)) :=
  congrArg Ideal.rsqrt (ref_square x1 x2 i)

theorem ref_slope (i : S8192x2x1.Idx) : (val_main_v13 (F := Ideal) x1 x2 i : EReal) = Ideal.ofBits .f32 0xBF000000#32
    * Ideal.div (scale_of W (groups x1 x2 (i 0).val (i 1))) (square_of W (groups x1 x2 (i 0).val (i 1))) :=
  congrArg (fun a : EReal => Ideal.ofBits .f32 0xBF000000#32 * a) (congrArg₂ Ideal.div (ref_scale x1 x2 i) (ref_square x1 x2 i))

theorem ref_ct (i : S8192x1024.Idx) : (val_main_v21 (F := Ideal) x0 i : EReal) = line x0 (i 0).val (i 1) :=
  (val_main_v21_apply (F := Ideal) x0 i).trans (at2_of x0 _ (by first | rfl | exact Nat.zero_add _) (by first | rfl | exact Nat.zero_add _))

theorem ref_weighted (i : S8192x2x512.Idx) : (val_main_v29 (F := Ideal) x0 x3 i : EReal) = weighted x0 x3 (i 0).val (i 1) (i 2) := by
  have h1 : (i 1).val < 2 := (i 1).isLt
  have h2 : (i 2).val < 512 := (i 2).isLt
  have hr : (((i 0).val * 2 + (i 1).val) * 512 + (i 2).val) / 1024 = (i 0).val := by omega
  have hc : (((i 0).val * 2 + (i 1).val) * 512 + (i 2).val) % 1024 = (i 1).val * 512 + (i 2).val := by omega
  refine (val_main_v29_apply (F := Ideal) x0 x3 i).trans (hm ((ref_ct x0 _).trans (congrArg₂ (at2 x0) hr hc))
    ((val_main_v25_apply (F := Ideal) x3 _).trans ((val_main_v18_apply (F := Ideal) x3 _).trans ((val_main_v17_apply (F := Ideal) x3 _).trans
      (at2_of x3 _ rfl ?_)))))
  exact (Nat.mod_mod _ _).trans hc

/-- The part of a group's cotangent that comes through its scale. -/
theorem ref_through (i : S8192x2x512.Idx) : (val_main_v39 (F := Ideal) x0 x1 x2 x3 i : EReal)
    = Ideal.div ((∑ k : Fin 512, groups x1 x2 (i 0).val (i 1) k * weighted x0 x3 (i 0).val (i 1) k)
        * (Ideal.ofBits .f32 0xBF000000#32 * Ideal.div (scale_of W (groups x1 x2 (i 0).val (i 1))) (square_of W (groups x1 x2 (i 0).val (i 1))))) W := by
  have h1 : (i 1).val < 2 := (i 1).isLt
  have hr : (((i 0).val * 2 + (i 1).val) * 1 + 0) / 2 = (i 0).val := by omega
  have hg : (((i 0).val * 2 + (i 1).val) * 1 + 0) % 2 = (i 1).val := by omega
  refine (val_main_v39_apply (F := Ideal) x0 x1 x2 x3 i).trans ((val_main_v38_apply x0 x1 x2 x3 _).trans ((from_zero _).trans
    ((Fin.sum_univ_one _).trans ?_)))
  refine congrArg (fun a : EReal => Ideal.div a W) (hm ((val_main_v32_apply (F := Ideal) x0 x1 x2 x3 _).trans
    ((val_main_v31_apply x0 x1 x2 x3 _).trans ((from_zero _).trans (Finset.sum_congr rfl fun k _ => ?_)))) (ref_slope x1 x2 _))
  exact hm ((ref_group x1 x2 _).trans (congrArg₂ (fun r a => groups x1 x2 r a k) hr (Fin.ext hg)))
    ((ref_weighted x0 x3 _).trans (congrArg₂ (fun r a => weighted x0 x3 r a k) hr (Fin.ext hg)))

theorem ref_grouped (i : S8192x2x512.Idx) : (val_main_v43 (F := Ideal) x0 x1 x2 x3 i : EReal)
    = back_of W (groups x1 x2 (i 0).val (i 1)) (weighted x0 x3 (i 0).val (i 1)) (i 2) := by
  have h := grad_of (by norm_num : (0 : ℝ) < 512) W width_512 (groups x1 x2 (i 0).val (i 1)) (weighted x0 x3 (i 0).val (i 1)) (i 2) 0
  simp only [zero_add] at h
  refine Eq.trans ?_ h.symm
  exact ha (ha (hm (ref_weighted x0 x3 i) ((val_main_v33_apply (F := Ideal) x1 x2 i).trans (ref_scale x1 x2 _)))
    (hm (ref_group x1 x2 i) (ref_through x0 x1 x2 x3 i))) (hm (ref_through x0 x1 x2 x3 i) (ref_group x1 x2 i))

/-- The columns of a row, found again in its groups. -/
theorem spot_of {i : ℕ} (c : Fin 1024) (k : Fin 512) (h : (i * 1024 + c.val) / 512 % 2 < 2) : spot ⟨(i * 1024 + c.val) / 512 % 2, h⟩ k = col c k :=
  Fin.ext (by have := c.isLt; show (i * 1024 + c.val) / 512 % 2 * 512 + k.val = c.val / 512 * 512 + k.val; omega)

theorem row_of (i : ℕ) (c : Fin 1024) : (i * 1024 + c.val) / 1024 = i := by have := c.isLt; omega

theorem ref_back (i : S8192x1024.Idx) : (val_main_v44 (F := Ideal) x0 x1 x2 x3 i : EReal)
    = through (line x0 (i 0).val) (line x1 (i 0).val) (line x2 (i 0).val) (line x3 0) (i 1) := by
  have h1 : (i 1).val < 1024 := (i 1).isLt
  have hr := row_of (i 0).val (i 1)
  have hk : ((i 0).val * 1024 + (i 1).val) % 512 = (i 1).val % 512 := by omega
  refine (val_main_v44_apply (F := Ideal) x0 x1 x2 x3 i).trans ((ref_grouped x0 x1 x2 x3 _).trans ?_)
  show back_of W (groups x1 x2 (((i 0).val * 1024 + (i 1).val) / 1024) _) (weighted x0 x3 (((i 0).val * 1024 + (i 1).val) / 1024) _) _ = _
  rw [hr]
  exact (congrArg₂ (fun x g => back_of W x g _) (funext fun k => congrArg (gate _ _) (spot_of (i 1) k _))
    (funext fun k => congrArg (fun c => line x0 (i 0).val c * line x3 0 c) (spot_of (i 1) k _))).trans (congrArg (back_of W _ _) (Fin.ext hk))

theorem ref_y (i : S8192x1024.Idx) : (val_main_v46 (F := Ideal) x0 x1 x2 x3 i : EReal) = y_at x0 x1 x2 x3 (i 0).val (i 1) :=
  hm (ref_back x0 x1 x2 x3 i) (congrArg (fun b : EReal => b * sigmoid b) (at2_of x2 i rfl rfl))

theorem at2_finite {a b : ℕ} {x : (⟨2, ![a, b]⟩ : Shape).Idx → EReal} (h : ∀ i, Finite (x i)) (r c : ℕ) : Finite (at2 x r c) := by
  unfold at2
  split
  · exact h _
  · exact ⟨0, rfl⟩

theorem ref_z (f0 : ∀ i, Finite (x0 i)) (f1 : ∀ i, Finite (x1 i)) (f2 : ∀ i, Finite (x2 i)) (f3 : ∀ i, Finite (x3 i)) (i : S8192x1024.Idx) :
    (val_main_v48 (F := Ideal) x0 x1 x2 x3 i : EReal) = z_at x0 x1 x2 x3 (i 0).val (i 1) := by
  refine Eq.trans ?_ (slope (through_finite (fun _ => at2_finite f0 _ _) (fun _ => at2_finite f1 _ _) (fun _ => at2_finite f2 _ _)
    (fun _ => at2_finite f3 _ _) (i 1)) (at2_finite f1 _ _) (at2_finite f2 _ _)).symm
  have hy : (val_main_v45 (F := Ideal) x0 x1 x2 x3 i : EReal) = _ := hm (at2_of x1 i rfl rfl) (ref_back x0 x1 x2 x3 i)
  have hz : x2 i = line x2 (i 0).val (i 1) := at2_of x2 i rfl rfl
  exact ha (hm hy (congrArg sigmoid hz)) (hm (hm hz hy) (congrArg (fun b : EReal => sigmoid b * (one - sigmoid b)) hz))

theorem ref_normal (i : S8192x1024.Idx) : (val_main_v16 (F := Ideal) x1 x2 i : EReal) = normal (line x1 (i 0).val) (line x2 (i 0).val) (i 1) := by
  have h1 : (i 1).val < 1024 := (i 1).isLt
  have hr := row_of (i 0).val (i 1)
  refine (val_main_v16_apply (F := Ideal) x1 x2 i).trans (hm ((ref_group x1 x2 _).trans ?_)
    ((val_main_v14_apply (F := Ideal) x1 x2 _).trans ((ref_scale x1 x2 _).trans ?_)))
  · refine congrArg₂ (fun r c => gate (line x1 r) (line x2 r) c) hr (Fin.ext ?_)
    show ((i 0).val * 1024 + (i 1).val) / 512 % 2 * 512 + ((i 0).val * 1024 + (i 1).val) % 512 = (i 1).val
    omega
  · exact congrArg (scale_of W) (funext fun k => congrArg₂ (fun r c => gate (line x1 r) (line x2 r) c) hr (spot_of (i 1) k _))

theorem ref_row (i : S1x1024.Idx) : (val_main_v28 (F := Ideal) x0 x1 x2 i : EReal) = ∑ r : Fin 8192, term_at x0 x1 x2 (i 1) r.val := by
  refine (val_main_v28_apply (F := Ideal) x0 x1 x2 i).trans ((val_main_v27_apply x0 x1 x2 _).trans ((from_zero _).trans
    ((Fin.sum_univ_one _).trans ((val_main_v24_apply (F := Ideal) x0 x1 x2 _).trans ((val_main_v23_apply x0 x1 x2 _).trans ((from_zero _).trans
      (Finset.sum_congr rfl fun k _ => ?_)))))))
  have hc : 0 * 1024 + (i 1).val = (i 1).val := by omega
  exact Eq.trans (mul_comm (_ : EReal) _) (hm ((ref_ct x0 _).trans (congrArg (at2 x0 k.val) hc))
    ((ref_normal x1 x2 _).trans (congrArg (normal _ _) (Fin.ext hc))))

end Reference

/-- The three arrays. -/
theorem result_y : (dats m 0 d).arrAt 4 cfg0.N = val_main_v46 (F := Ideal) (ct m d) (state m d) (gates m d) (norm m d) := by
  refine (dats m 0 d).arrAt_eq_of_covers 4 _ (by decide +kernel) fun t hf y => ?_
  blk_simp
  rw [after0_4]
  refine (point_y m d t y).trans (Eq.symm ((ref_y _ _ _ _ _).trans (congrArg₂ (y_at _ _ _ _) ?_ (Fin.ext ?_))))
  · exact (emb win0_4 t y 0).trans (by rw [idx_4]; rfl)
  · exact emb_zero win0_4 t 1 (by rw [idx_4]; rfl) y

theorem result_z (f0 : ∀ i, Finite (ct m d i)) (f1 : ∀ i, Finite (state m d i)) (f2 : ∀ i, Finite (gates m d i)) (f3 : ∀ i, Finite (norm m d i)) :
    (dats m 0 d).arrAt 5 cfg0.N = val_main_v48 (F := Ideal) (ct m d) (state m d) (gates m d) (norm m d) := by
  refine (dats m 0 d).arrAt_eq_of_covers 5 _ (by decide +kernel) fun t hf y => ?_
  blk_simp
  rw [after0_5]
  refine (point_z m d t y).trans (Eq.symm ((ref_z _ _ _ _ f0 f1 f2 f3 _).trans (congrArg₂ (z_at _ _ _ _) ?_ (Fin.ext ?_))))
  · exact (emb win0_5 t y 0).trans (by rw [idx_5]; rfl)
  · exact emb_zero win0_5 t 1 (by rw [idx_5]; rfl) y

theorem result_row : (dats m 0 d).arrAt 6 cfg0.N = val_main_v28 (F := Ideal) (ct m d) (state m d) (gates m d) := by
  refine (dats m 0 d).arrAt_eq_of_covers 6 _ (by decide +kernel) fun t hf y => ?_
  blk_simp
  rw [after0_6]
  refine (point_row m d t ((flush0_6 t).mp hf) y).trans (Eq.symm ((ref_row _ _ _ _).trans ?_))
  exact Finset.sum_congr rfl fun r _ => congrArg (fun c => term_at _ _ _ c r.val)
    (Fin.ext (emb_zero win0_6 t 1 (by rw [idx_6]; rfl) y))

theorem algebraic : Cert.algebraic_GateBwdIdeal_GateBwdRefIdeal_pre_finite_gate (hGateBwdIdeal := Cert.GateBwdIdeal.Gen.facts)
    (hGateBwdRefIdeal := Cert.GateBwdRefIdeal.Gen.facts) (hPre_finite_gate := Cert.Pre_finite_gate.Gen.facts) := by
  intro m g m' g' hpre hargs
  refine ⟨fun d => (Gen.dats m 0 d).arrAt 4 cfg0.N, fun d => (Gen.dats m 0 d).arrAt 5 cfg0.N, fun d => (Gen.dats m 0 d).arrAt 6 cfg0.N,
    Value.run_blocks m g, ?_⟩
  refine (θ_run (Cert.GateBwdRefIdeal.defs (F := Ideal)) _ _).mono (fun r h d => ?_) (Cert.GateBwdRefIdeal.Value.run (F := Ideal) m' g')
  obtain ⟨e0, e1, e2, e3⟩ := hargs d
  refine ⟨(h d).1.trans ?_, (h d).2.1.trans ?_, (h d).2.2.1.trans ?_, (h d).2.2.2⟩
  · rw [val_main_v46_eq, e0, e1, e2, e3]
    exact (result_y m d).symm
  · rw [val_main_v48_eq, e0, e1, e2, e3]
    exact (result_z m d (fun i => ⟨_, congrFun (AttBwd.real_of (hpre d).1) i⟩) (fun i => ⟨_, congrFun (AttBwd.real_of (hpre d).2.1) i⟩)
      (fun i => ⟨_, congrFun (AttBwd.real_of (hpre d).2.2.1) i⟩) (fun i => ⟨_, congrFun (AttBwd.real_of (hpre d).2.2.2) i⟩)).symm
  · rw [e0, e1, e2]
    exact (result_row m d).symm

/-- Every execution of the reference ends, its arguments unchanged. -/
theorem ref_frame : Cert.quiescent_GateBwdRefIdeal (hGateBwdRefIdeal := Cert.GateBwdRefIdeal.Gen.facts) := fun m g _ =>
  (θ_run (Cert.GateBwdRefIdeal.defs (F := Ideal)) _ _).mono (fun r h => ⟨fun d => (h d).2.2.2, sem_eq_zero_of_no_sems (by decide) r.2⟩)
    (Cert.GateBwdRefIdeal.Value.run (F := Ideal) m g)

end GateBwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Read
public import proofs.«01_k».proof.Proof.Claim
public import proofs.«01_k».proof.Proof.Gen.OutBwd.Frame
public import proofs.«01_k».proof.Proof.Gen.MlpDown.Frame
public import proofs.«01_k».proof.Proof.Gen.GradDown.Frame
public import proofs.«01_k».proof.Proof.Gen.GradUp.Frame
public import proofs.«01_k».proof.Proof.Gen.GradOut.Frame
public import proofs.«01_k».proof.Proof.Gen.UpBwd.Frame
public import proofs.«01_k».proof.Proof.Gen.InBwd.Frame
public import proofs.«01_k».proof.Proof.Gen.GradIn.Frame
public import proofs.«01_k».proof.Proof.Gen.GradXbc.Frame
public import proofs.«01_k».proof.Proof.Gen.InZ.Frame
public import proofs.«01_k».proof.Proof.Gen.InXbc.Frame
public import proofs.«01_k».proof.Proof.Gen.InQkv.Frame
public import proofs.«01_k».proof.Proof.Gen.UpFwd.Frame
public import proofs.«01_k».proof.Proof.Gen.OutFwd.Frame
public import proofs.«01_k».proof.Proof.Gen.DownLoss.Frame
public import proofs.«01_k».proof.Proof.Gen.AttFwd.Frame
public import proofs.«01_k».proof.Proof.Gen.InDtf.Frame
public import proofs.«01_k».proof.Proof.Gen.GradDtf.Frame
public import proofs.«01_k».proof.Proof.Gen.RmsFwd.Frame
public import proofs.«01_k».proof.Proof.Gen.GateFwd.Frame
public import proofs.«01_k».proof.Proof.Gen.ConvFwd.Frame
public import proofs.«01_k».proof.Proof.Gen.GateBwd.Frame
public import proofs.«01_k».proof.Proof.GateBwd
public import Idealize.ShloMosaic.Adequacy
public import Idealize.ShloMosaic.Init

@[expose] public section

noncomputable section

namespace Cert.Proof

open Idealize.ShloMosaic Idealize.SL.Sem Cert.Kernel

/-- The attention's backward pass: the generated frames of the two kernels, the reference's frame, the named mask and the
    value claim (Proof/Claim.lean). The attention's forward pass the same (Proof/FwdClaim.lean). Every further call: the two
    generated frames and the reference's, and its value claim. -/
theorem claim : Cert.Claim :=
  ⟨Cert.Kernel.Gen.facts, Cert.KernelIdeal.Gen.facts, Cert.ReferenceIdeal.Gen.facts,
    Cert.MlpDown.Gen.facts, Cert.MlpDownIdeal.Gen.facts, Cert.MlpDownRefIdeal.Gen.facts,
    Cert.GradDown.Gen.facts, Cert.GradDownIdeal.Gen.facts, Cert.GradDownRefIdeal.Gen.facts,
    Cert.GradUp.Gen.facts, Cert.GradUpIdeal.Gen.facts, Cert.GradUpRefIdeal.Gen.facts,
    Cert.OutBwd.Gen.facts, Cert.OutBwdIdeal.Gen.facts, Cert.OutBwdRefIdeal.Gen.facts,
    Cert.GradOut.Gen.facts, Cert.GradOutIdeal.Gen.facts, Cert.GradOutRefIdeal.Gen.facts,
    Cert.UpBwd.Gen.facts, Cert.UpBwdIdeal.Gen.facts, Cert.UpBwdRefIdeal.Gen.facts,
    Cert.InBwd.Gen.facts, Cert.InBwdIdeal.Gen.facts, Cert.InBwdRefIdeal.Gen.facts,
    Cert.GradIn.Gen.facts, Cert.GradInIdeal.Gen.facts, Cert.GradInRefIdeal.Gen.facts,
    Cert.GradXbc.Gen.facts, Cert.GradXbcIdeal.Gen.facts, Cert.GradXbcRefIdeal.Gen.facts,
    Cert.InZ.Gen.facts, Cert.InZIdeal.Gen.facts, Cert.InZRefIdeal.Gen.facts,
    Cert.InXbc.Gen.facts, Cert.InXbcIdeal.Gen.facts, Cert.InXbcRefIdeal.Gen.facts,
    Cert.InQkv.Gen.facts, Cert.InQkvIdeal.Gen.facts, Cert.InQkvRefIdeal.Gen.facts,
    Cert.UpFwd.Gen.facts, Cert.UpFwdIdeal.Gen.facts, Cert.UpFwdRefIdeal.Gen.facts,
    Cert.OutFwd.Gen.facts, Cert.OutFwdIdeal.Gen.facts, Cert.OutFwdRefIdeal.Gen.facts,
    Cert.DownLoss.Gen.facts, Cert.DownLossIdeal.Gen.facts, Cert.DownLossRefIdeal.Gen.facts,
    Cert.InDtf.Gen.facts, Cert.InDtfIdeal.Gen.facts, Cert.InDtfRefIdeal.Gen.facts,
    Cert.GradDtf.Gen.facts, Cert.GradDtfIdeal.Gen.facts, Cert.GradDtfRefIdeal.Gen.facts,
    Cert.RmsFwd.Gen.facts, Cert.RmsFwdIdeal.Gen.facts, Cert.RmsFwdRefIdeal.Gen.facts,
    Cert.GateFwd.Gen.facts, Cert.GateFwdIdeal.Gen.facts, Cert.GateFwdRefIdeal.Gen.facts,
    Cert.ConvFwd.Gen.facts, Cert.ConvFwdIdeal.Gen.facts, Cert.ConvFwdRefIdeal.Gen.facts,
    Cert.GateBwd.Gen.facts, Cert.GateBwdIdeal.Gen.facts, Cert.GateBwdRefIdeal.Gen.facts,
    Cert.AttFwd.Gen.facts, Cert.AttFwdIdeal.Gen.facts, Cert.AttFwdRefIdeal.Gen.facts,
    Cert.Pre_finite.Gen.facts, Cert.Pre_finite_gate.Gen.facts, Cert.Pre_finite_fwd.Gen.facts,
    fun m ρ _ => Cert.Kernel.Gen.frame m ρ,
    fun m ρ _ => Cert.KernelIdeal.Gen.frame m ρ,
    fun m ρ _ => Cert.KernelIdeal.Gen.frame m ρ,
    AttBwd.ref_frame,
    fun m ρ _ => AttBwd.ref_frame m ρ trivial,
    fun m ρ _ => Cert.MlpDown.Gen.frame m ρ, fun m ρ _ => Cert.MlpDownIdeal.Gen.frame m ρ, MlpDown.ref_frame,
    fun m ρ _ => Cert.GradDown.Gen.frame m ρ, fun m ρ _ => Cert.GradDownIdeal.Gen.frame m ρ, GradDown.ref_frame,
    fun m ρ _ => Cert.GradUp.Gen.frame m ρ, fun m ρ _ => Cert.GradUpIdeal.Gen.frame m ρ, GradUp.ref_frame,
    fun m ρ _ => Cert.OutBwd.Gen.frame m ρ, fun m ρ _ => Cert.OutBwdIdeal.Gen.frame m ρ, OutBwd.ref_frame,
    fun m ρ _ => Cert.GradOut.Gen.frame m ρ, fun m ρ _ => Cert.GradOutIdeal.Gen.frame m ρ, GradOut.ref_frame,
    fun m ρ _ => Cert.UpBwd.Gen.frame m ρ, fun m ρ _ => Cert.UpBwdIdeal.Gen.frame m ρ, UpBwd.ref_frame,
    fun m ρ _ => Cert.InBwd.Gen.frame m ρ, fun m ρ _ => Cert.InBwdIdeal.Gen.frame m ρ, InBwd.ref_frame,
    fun m ρ _ => Cert.GradIn.Gen.frame m ρ, fun m ρ _ => Cert.GradInIdeal.Gen.frame m ρ, GradIn.ref_frame,
    fun m ρ _ => Cert.GradXbc.Gen.frame m ρ, fun m ρ _ => Cert.GradXbcIdeal.Gen.frame m ρ, GradXbc.ref_frame,
    fun m ρ _ => Cert.InZ.Gen.frame m ρ, fun m ρ _ => Cert.InZIdeal.Gen.frame m ρ, InZ.ref_frame,
    fun m ρ _ => Cert.InXbc.Gen.frame m ρ, fun m ρ _ => Cert.InXbcIdeal.Gen.frame m ρ, InXbc.ref_frame,
    fun m ρ _ => Cert.InQkv.Gen.frame m ρ, fun m ρ _ => Cert.InQkvIdeal.Gen.frame m ρ, InQkv.ref_frame,
    fun m ρ _ => Cert.UpFwd.Gen.frame m ρ, fun m ρ _ => Cert.UpFwdIdeal.Gen.frame m ρ, UpFwd.ref_frame,
    fun m ρ _ => Cert.OutFwd.Gen.frame m ρ, fun m ρ _ => Cert.OutFwdIdeal.Gen.frame m ρ, OutFwd.ref_frame,
    fun m ρ _ => Cert.DownLoss.Gen.frame m ρ, fun m ρ _ => Cert.DownLossIdeal.Gen.frame m ρ, DownLoss.ref_frame,
    fun m ρ _ => Cert.InDtf.Gen.frame m ρ, fun m ρ _ => Cert.InDtfIdeal.Gen.frame m ρ, InDtf.ref_frame,
    fun m ρ _ => Cert.GradDtf.Gen.frame m ρ, fun m ρ _ => Cert.GradDtfIdeal.Gen.frame m ρ, GradDtf.ref_frame,
    fun m ρ _ => Cert.RmsFwd.Gen.frame m ρ, fun m ρ _ => Cert.RmsFwdIdeal.Gen.frame m ρ, RmsFwd.ref_frame,
    fun m ρ _ => Cert.GateFwd.Gen.frame m ρ, fun m ρ _ => Cert.GateFwdIdeal.Gen.frame m ρ, GateFwd.ref_frame,
    fun m ρ _ => Cert.ConvFwd.Gen.frame m ρ, fun m ρ _ => Cert.ConvFwdIdeal.Gen.frame m ρ, ConvFwd.ref_frame,
    fun m ρ _ => Cert.GateBwd.Gen.frame m ρ, fun m ρ _ => Cert.GateBwdIdeal.Gen.frame m ρ, fun m ρ _ => Cert.GateBwdIdeal.Gen.frame m ρ,
    GateBwd.ref_frame, fun m ρ _ => GateBwd.ref_frame m ρ trivial,
    fun m ρ _ => Cert.AttFwd.Gen.frame m ρ,
    fun m ρ _ => Cert.AttFwdIdeal.Gen.frame m ρ,
    fun m ρ _ => Cert.AttFwdIdeal.Gen.frame m ρ,
    AttFwd.ref_frame,
    fun m ρ _ => AttFwd.ref_frame m ρ trivial,
    IdealRules.named_const.statement Cert.KernelIdeal.κ "mask" .f32 0xF149F2CA#32 ⊥ rfl,
    AttBwd.algebraic,
    trivial, MlpDown.algebraic,
    trivial, GradDown.algebraic,
    trivial, GradUp.algebraic,
    trivial, OutBwd.algebraic,
    trivial, GradOut.algebraic,
    trivial, UpBwd.algebraic,
    trivial, InBwd.algebraic,
    trivial, GradIn.algebraic,
    trivial, GradXbc.algebraic,
    trivial, InZ.algebraic,
    trivial, InXbc.algebraic,
    trivial, InQkv.algebraic,
    trivial, UpFwd.algebraic,
    trivial, OutFwd.algebraic,
    trivial, DownLoss.algebraic,
    trivial, InDtf.algebraic,
    trivial, GradDtf.algebraic,
    trivial, RmsFwd.algebraic,
    trivial, GateFwd.algebraic,
    trivial, ConvFwd.algebraic,
    trivial, GateBwd.algebraic,
    IdealRules.named_const.statement Cert.AttFwdIdeal.κ "mask" .f32 0xF149F2CA#32 ⊥ rfl,
    AttFwd.algebraic⟩

end Cert.Proof

end
